-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_gates_bounded [hPre_gates_bounded : Cert.Pre_gates_bounded.Facts] (m : (ℓ : Loc Cert.PromptIdeal.nD Cert.PromptIdeal.τ Cert.PromptIdeal.sig) → Buf (Elt Ideal) ℓ) : Prop :=
  ∀ c : Dev Cert.PromptIdeal.nD,
    (Cert.Pre_gates_bounded.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7))) = (fun _ => 1#1)

def Pre_PromptReferenceIdeal (m : (ℓ : Loc Cert.PromptReferenceIdeal.nD Cert.PromptReferenceIdeal.τ Cert.PromptReferenceIdeal.sig) → Buf (Elt Ideal) ℓ) : Prop :=
  True

def Pre_PromptReferenceIdeal_gates_bounded [hPre_gates_bounded : Cert.Pre_gates_bounded.Facts] (m : (ℓ : Loc Cert.PromptReferenceIdeal.nD Cert.PromptReferenceIdeal.τ Cert.PromptReferenceIdeal.sig) → Buf (Elt Ideal) ℓ) : Prop :=
  ∀ c : Dev Cert.PromptReferenceIdeal.nD,
    (Cert.Pre_gates_bounded.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_gates_bounded [hPre_gates_bounded : Cert.Pre_gates_bounded.Facts] (m : (ℓ : Loc Cert.SampleIdeal.nD Cert.SampleIdeal.τ Cert.SampleIdeal.sig) → Buf (Elt Ideal) ℓ) : Prop :=
  ∀ c : Dev Cert.SampleIdeal.nD,
    (Cert.Pre_gates_bounded.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_gates_bounded [hPre_gates_bounded : Cert.Pre_gates_bounded.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_gates_bounded.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7))) = (fun _ => 1#1)

def Pre_Experts [hPre_tiles_in_range : Cert.Pre_tiles_in_range.Facts] (m : (ℓ : Loc Cert.Experts.nD Cert.Experts.τ Cert.Experts.sig) → Buf (Elt Bits) ℓ) : Prop :=
  ∀ c : Dev Cert.Experts.nD,
    (Cert.Pre_tiles_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tiles_in_range : Cert.Pre_tiles_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_in_range [hPre_tiles_in_range : Cert.Pre_tiles_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_FirstExperts [hPre_tiles_in_range : Cert.Pre_tiles_in_range.Facts] (m : (ℓ : Loc Cert.FirstExperts.nD Cert.FirstExperts.τ Cert.FirstExperts.sig) → Buf (Elt Bits) ℓ) : Prop :=
  ∀ c : Dev Cert.FirstExperts.nD,
    (Cert.Pre_tiles_in_range.fn (F := Bits) (m ((c.tc : Thread Cert.FirstExperts.nD Cert.FirstExperts.τ).loc Cert.FirstExperts.main_arg0)) (m ((c.tc : Thread Cert.FirstExperts.nD Cert.FirstExperts.τ).loc Cert.FirstExperts.main_arg1)) (m ((c.tc : Thread Cert.FirstExperts.nD Cert.FirstExperts.τ).loc Cert.FirstExperts.main_arg2)) (m ((c.tc : Thread Cert.FirstExperts.nD Cert.FirstExperts.τ).loc Cert.FirstExperts.main_arg3)) (m ((c.tc : Thread Cert.FirstExperts.nD Cert.FirstExperts.τ).loc Cert.FirstExperts.main_arg4)) (m ((c.tc : Thread Cert.FirstExperts.nD Cert.FirstExperts.τ).loc Cert.FirstExperts.main_arg5))) = (fun _ => 1#1)

def Pre_FirstExpertsIdeal [hPre_tiles_in_range : Cert.Pre_tiles_in_range.Facts] (m : (ℓ : Loc Cert.FirstExpertsIdeal.nD Cert.FirstExpertsIdeal.τ Cert.FirstExpertsIdeal.sig) → Buf (Elt Ideal) ℓ) : Prop :=
  ∀ c : Dev Cert.FirstExpertsIdeal.nD,
    (Cert.Pre_tiles_in_range.fn (F := Ideal) (m ((c.tc : Thread Cert.FirstExpertsIdeal.nD Cert.FirstExpertsIdeal.τ).loc Cert.FirstExpertsIdeal.main_arg0)) (m ((c.tc : Thread Cert.FirstExpertsIdeal.nD Cert.FirstExpertsIdeal.τ).loc Cert.FirstExpertsIdeal.main_arg1)) (m ((c.tc : Thread Cert.FirstExpertsIdeal.nD Cert.FirstExpertsIdeal.τ).loc Cert.FirstExpertsIdeal.main_arg2)) (m ((c.tc : Thread Cert.FirstExpertsIdeal.nD Cert.FirstExpertsIdeal.τ).loc Cert.FirstExpertsIdeal.main_arg3)) (m ((c.tc : Thread Cert.FirstExpertsIdeal.nD Cert.FirstExpertsIdeal.τ).loc Cert.FirstExpertsIdeal.main_arg4)) (m ((c.tc : Thread Cert.FirstExpertsIdeal.nD Cert.FirstExpertsIdeal.τ).loc Cert.FirstExpertsIdeal.main_arg5))) = (fun _ => 1#1)

def Pre_FirstExpertsReferenceIdeal (m : (ℓ : Loc Cert.FirstExpertsReferenceIdeal.nD Cert.FirstExpertsReferenceIdeal.τ Cert.FirstExpertsReferenceIdeal.sig) → Buf (Elt Ideal) ℓ) : Prop :=
  True

def Pre_FirstExpertsReferenceIdeal_tiles_in_range [hPre_tiles_in_range : Cert.Pre_tiles_in_range.Facts] (m : (ℓ : Loc Cert.FirstExpertsReferenceIdeal.nD Cert.FirstExpertsReferenceIdeal.τ Cert.FirstExpertsReferenceIdeal.sig) → Buf (Elt Ideal) ℓ) : Prop :=
  ∀ c : Dev Cert.FirstExpertsReferenceIdeal.nD,
    (Cert.Pre_tiles_in_range.fn (F := Ideal) (m ((c.tc : Thread Cert.FirstExpertsReferenceIdeal.nD Cert.FirstExpertsReferenceIdeal.τ).loc Cert.FirstExpertsReferenceIdeal.main_arg0)) (m ((c.tc : Thread Cert.FirstExpertsReferenceIdeal.nD Cert.FirstExpertsReferenceIdeal.τ).loc Cert.FirstExpertsReferenceIdeal.main_arg1)) (m ((c.tc : Thread Cert.FirstExpertsReferenceIdeal.nD Cert.FirstExpertsReferenceIdeal.τ).loc Cert.FirstExpertsReferenceIdeal.main_arg2)) (m ((c.tc : Thread Cert.FirstExpertsReferenceIdeal.nD Cert.FirstExpertsReferenceIdeal.τ).loc Cert.FirstExpertsReferenceIdeal.main_arg3)) (m ((c.tc : Thread Cert.FirstExpertsReferenceIdeal.nD Cert.FirstExpertsReferenceIdeal.τ).loc Cert.FirstExpertsReferenceIdeal.main_arg4)) (m ((c.tc : Thread Cert.FirstExpertsReferenceIdeal.nD Cert.FirstExpertsReferenceIdeal.τ).loc Cert.FirstExpertsReferenceIdeal.main_arg5))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_keys_finite [hPre_keys_finite : Cert.Pre_keys_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_keys_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_keys_finite [hPre_keys_finite : Cert.Pre_keys_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_keys_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))) = (fun _ => 1#1)

def Pre_FirstCombine (m : (ℓ : Loc Cert.FirstCombine.nD Cert.FirstCombine.τ Cert.FirstCombine.sig) → Buf (Elt Bits) ℓ) : Prop :=
  True

def Pre_FirstCombineIdeal (m : (ℓ : Loc Cert.FirstCombineIdeal.nD Cert.FirstCombineIdeal.τ Cert.FirstCombineIdeal.sig) → Buf (Elt Ideal) ℓ) : Prop :=
  True

def Pre_FirstCombineIdeal_gates_bounded [hPre_gates_bounded : Cert.Pre_gates_bounded.Facts] (m : (ℓ : Loc Cert.FirstCombineIdeal.nD Cert.FirstCombineIdeal.τ Cert.FirstCombineIdeal.sig) → Buf (Elt Ideal) ℓ) : Prop :=
  ∀ c : Dev Cert.FirstCombineIdeal.nD,
    (Cert.Pre_gates_bounded.fn (F := Ideal) (m ((c.tc : Thread Cert.FirstCombineIdeal.nD Cert.FirstCombineIdeal.τ).loc Cert.FirstCombineIdeal.main_arg0)) (m ((c.tc : Thread Cert.FirstCombineIdeal.nD Cert.FirstCombineIdeal.τ).loc Cert.FirstCombineIdeal.main_arg1)) (m ((c.tc : Thread Cert.FirstCombineIdeal.nD Cert.FirstCombineIdeal.τ).loc Cert.FirstCombineIdeal.main_arg2)) (m ((c.tc : Thread Cert.FirstCombineIdeal.nD Cert.FirstCombineIdeal.τ).loc Cert.FirstCombineIdeal.main_arg3)) (m ((c.tc : Thread Cert.FirstCombineIdeal.nD Cert.FirstCombineIdeal.τ).loc Cert.FirstCombineIdeal.main_arg4)) (m ((c.tc : Thread Cert.FirstCombineIdeal.nD Cert.FirstCombineIdeal.τ).loc Cert.FirstCombineIdeal.main_arg5)) (m ((c.tc : Thread Cert.FirstCombineIdeal.nD Cert.FirstCombineIdeal.τ).loc Cert.FirstCombineIdeal.main_arg6)) (m ((c.tc : Thread Cert.FirstCombineIdeal.nD Cert.FirstCombineIdeal.τ).loc Cert.FirstCombineIdeal.main_arg7))) = (fun _ => 1#1)

def Pre_FirstCombineReferenceIdeal (m : (ℓ : Loc Cert.FirstCombineReferenceIdeal.nD Cert.FirstCombineReferenceIdeal.τ Cert.FirstCombineReferenceIdeal.sig) → Buf (Elt Ideal) ℓ) : Prop :=
  True

def Pre_FirstCombineReferenceIdeal_gates_bounded [hPre_gates_bounded : Cert.Pre_gates_bounded.Facts] (m : (ℓ : Loc Cert.FirstCombineReferenceIdeal.nD Cert.FirstCombineReferenceIdeal.τ Cert.FirstCombineReferenceIdeal.sig) → Buf (Elt Ideal) ℓ) : Prop :=
  ∀ c : Dev Cert.FirstCombineReferenceIdeal.nD,
    (Cert.Pre_gates_bounded.fn (F := Ideal) (m ((c.tc : Thread Cert.FirstCombineReferenceIdeal.nD Cert.FirstCombineReferenceIdeal.τ).loc Cert.FirstCombineReferenceIdeal.main_arg0)) (m ((c.tc : Thread Cert.FirstCombineReferenceIdeal.nD Cert.FirstCombineReferenceIdeal.τ).loc Cert.FirstCombineReferenceIdeal.main_arg1)) (m ((c.tc : Thread Cert.FirstCombineReferenceIdeal.nD Cert.FirstCombineReferenceIdeal.τ).loc Cert.FirstCombineReferenceIdeal.main_arg2)) (m ((c.tc : Thread Cert.FirstCombineReferenceIdeal.nD Cert.FirstCombineReferenceIdeal.τ).loc Cert.FirstCombineReferenceIdeal.main_arg3)) (m ((c.tc : Thread Cert.FirstCombineReferenceIdeal.nD Cert.FirstCombineReferenceIdeal.τ).loc Cert.FirstCombineReferenceIdeal.main_arg4)) (m ((c.tc : Thread Cert.FirstCombineReferenceIdeal.nD Cert.FirstCombineReferenceIdeal.τ).loc Cert.FirstCombineReferenceIdeal.main_arg5)) (m ((c.tc : Thread Cert.FirstCombineReferenceIdeal.nD Cert.FirstCombineReferenceIdeal.τ).loc Cert.FirstCombineReferenceIdeal.main_arg6)) (m ((c.tc : Thread Cert.FirstCombineReferenceIdeal.nD Cert.FirstCombineReferenceIdeal.τ).loc Cert.FirstCombineReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7))
      ∧ r.2.sem = fun _ => 0)

def quiescent_PromptIdeal_pre_gates_bounded [hPromptIdeal : Cert.PromptIdeal.Facts] [hPre_gates_bounded : Cert.Pre_gates_bounded.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_gates_bounded m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7))
      ∧ r.2.sem = fun _ => 0)

def quiescent_PromptReferenceIdeal_pre_gates_bounded [hPromptReferenceIdeal : Cert.PromptReferenceIdeal.Facts] [hPre_gates_bounded : Cert.Pre_gates_bounded.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal_gates_bounded m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleIdeal_pre_gates_bounded [hSampleIdeal : Cert.SampleIdeal.Facts] [hPre_gates_bounded : Cert.Pre_gates_bounded.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_gates_bounded m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def quiescent_SampleReferenceIdeal_pre_gates_bounded [hSampleReferenceIdeal : Cert.SampleReferenceIdeal.Facts] [hPre_gates_bounded : Cert.Pre_gates_bounded.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_gates_bounded m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def quiescent_Experts [hExperts : Cert.Experts.Facts] [hPre_tiles_in_range : Cert.Pre_tiles_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tiles_in_range [hExpertsReferenceIdeal : Cert.ExpertsReferenceIdeal.Facts] [hPre_tiles_in_range : Cert.Pre_tiles_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_FirstExperts [hFirstExperts : Cert.FirstExperts.Facts] [hPre_tiles_in_range : Cert.Pre_tiles_in_range.Facts] : Prop :=
  ∀ (m : (ℓ : Loc Cert.FirstExperts.nD Cert.FirstExperts.τ Cert.FirstExperts.sig) → Buf (Elt Bits) ℓ) (g : Dev Cert.FirstExperts.nD → PrngReg), Pre_FirstExperts m →
    θ_run (Cert.FirstExperts.defs (F := Bits)) (onTc (τ := Cert.FirstExperts.τ) (Cert.FirstExperts.main (F := Bits))) ⟨m, fun _ => 0, g⟩ (fun r => (∀ c : Dev Cert.FirstExperts.nD,
      r.2.mem ((c.tc : Thread Cert.FirstExperts.nD Cert.FirstExperts.τ).loc Cert.FirstExperts.main_arg0) = m ((c.tc : Thread Cert.FirstExperts.nD Cert.FirstExperts.τ).loc Cert.FirstExperts.main_arg0)
      ∧ r.2.mem ((c.tc : Thread Cert.FirstExperts.nD Cert.FirstExperts.τ).loc Cert.FirstExperts.main_arg1) = m ((c.tc : Thread Cert.FirstExperts.nD Cert.FirstExperts.τ).loc Cert.FirstExperts.main_arg1)
      ∧ r.2.mem ((c.tc : Thread Cert.FirstExperts.nD Cert.FirstExperts.τ).loc Cert.FirstExperts.main_arg2) = m ((c.tc : Thread Cert.FirstExperts.nD Cert.FirstExperts.τ).loc Cert.FirstExperts.main_arg2)
      ∧ r.2.mem ((c.tc : Thread Cert.FirstExperts.nD Cert.FirstExperts.τ).loc Cert.FirstExperts.main_arg3) = m ((c.tc : Thread Cert.FirstExperts.nD Cert.FirstExperts.τ).loc Cert.FirstExperts.main_arg3)
      ∧ r.2.mem ((c.tc : Thread Cert.FirstExperts.nD Cert.FirstExperts.τ).loc Cert.FirstExperts.main_arg4) = m ((c.tc : Thread Cert.FirstExperts.nD Cert.FirstExperts.τ).loc Cert.FirstExperts.main_arg4)
      ∧ r.2.mem ((c.tc : Thread Cert.FirstExperts.nD Cert.FirstExperts.τ).loc Cert.FirstExperts.main_arg5) = m ((c.tc : Thread Cert.FirstExperts.nD Cert.FirstExperts.τ).loc Cert.FirstExperts.main_arg5))
      ∧ r.2.sem = fun _ => 0)

def quiescent_FirstExpertsIdeal [hFirstExpertsIdeal : Cert.FirstExpertsIdeal.Facts] [hPre_tiles_in_range : Cert.Pre_tiles_in_range.Facts] : Prop :=
  ∀ (m : (ℓ : Loc Cert.FirstExpertsIdeal.nD Cert.FirstExpertsIdeal.τ Cert.FirstExpertsIdeal.sig) → Buf (Elt Ideal) ℓ) (g : Dev Cert.FirstExpertsIdeal.nD → PrngReg), Pre_FirstExpertsIdeal m →
    θ_run (Cert.FirstExpertsIdeal.defs (F := Ideal)) (onTc (τ := Cert.FirstExpertsIdeal.τ) (Cert.FirstExpertsIdeal.main (F := Ideal))) ⟨m, fun _ => 0, g⟩ (fun r => (∀ c : Dev Cert.FirstExpertsIdeal.nD,
      r.2.mem ((c.tc : Thread Cert.FirstExpertsIdeal.nD Cert.FirstExpertsIdeal.τ).loc Cert.FirstExpertsIdeal.main_arg0) = m ((c.tc : Thread Cert.FirstExpertsIdeal.nD Cert.FirstExpertsIdeal.τ).loc Cert.FirstExpertsIdeal.main_arg0)
      ∧ r.2.mem ((c.tc : Thread Cert.FirstExpertsIdeal.nD Cert.FirstExpertsIdeal.τ).loc Cert.FirstExpertsIdeal.main_arg1) = m ((c.tc : Thread Cert.FirstExpertsIdeal.nD Cert.FirstExpertsIdeal.τ).loc Cert.FirstExpertsIdeal.main_arg1)
      ∧ r.2.mem ((c.tc : Thread Cert.FirstExpertsIdeal.nD Cert.FirstExpertsIdeal.τ).loc Cert.FirstExpertsIdeal.main_arg2) = m ((c.tc : Thread Cert.FirstExpertsIdeal.nD Cert.FirstExpertsIdeal.τ).loc Cert.FirstExpertsIdeal.main_arg2)
      ∧ r.2.mem ((c.tc : Thread Cert.FirstExpertsIdeal.nD Cert.FirstExpertsIdeal.τ).loc Cert.FirstExpertsIdeal.main_arg3) = m ((c.tc : Thread Cert.FirstExpertsIdeal.nD Cert.FirstExpertsIdeal.τ).loc Cert.FirstExpertsIdeal.main_arg3)
      ∧ r.2.mem ((c.tc : Thread Cert.FirstExpertsIdeal.nD Cert.FirstExpertsIdeal.τ).loc Cert.FirstExpertsIdeal.main_arg4) = m ((c.tc : Thread Cert.FirstExpertsIdeal.nD Cert.FirstExpertsIdeal.τ).loc Cert.FirstExpertsIdeal.main_arg4)
      ∧ r.2.mem ((c.tc : Thread Cert.FirstExpertsIdeal.nD Cert.FirstExpertsIdeal.τ).loc Cert.FirstExpertsIdeal.main_arg5) = m ((c.tc : Thread Cert.FirstExpertsIdeal.nD Cert.FirstExpertsIdeal.τ).loc Cert.FirstExpertsIdeal.main_arg5))
      ∧ r.2.sem = fun _ => 0)

def quiescent_FirstExpertsReferenceIdeal [hFirstExpertsReferenceIdeal : Cert.FirstExpertsReferenceIdeal.Facts] : Prop :=
  ∀ (m : (ℓ : Loc Cert.FirstExpertsReferenceIdeal.nD Cert.FirstExpertsReferenceIdeal.τ Cert.FirstExpertsReferenceIdeal.sig) → Buf (Elt Ideal) ℓ) (g : Dev Cert.FirstExpertsReferenceIdeal.nD → PrngReg), Pre_FirstExpertsReferenceIdeal m →
    θ_run (Cert.FirstExpertsReferenceIdeal.defs (F := Ideal)) (onTc (τ := Cert.FirstExpertsReferenceIdeal.τ) (Cert.FirstExpertsReferenceIdeal.main (F := Ideal))) ⟨m, fun _ => 0, g⟩ (fun r => (∀ c : Dev Cert.FirstExpertsReferenceIdeal.nD,
      r.2.mem ((c.tc : Thread Cert.FirstExpertsReferenceIdeal.nD Cert.FirstExpertsReferenceIdeal.τ).loc Cert.FirstExpertsReferenceIdeal.main_arg0) = m ((c.tc : Thread Cert.FirstExpertsReferenceIdeal.nD Cert.FirstExpertsReferenceIdeal.τ).loc Cert.FirstExpertsReferenceIdeal.main_arg0)
      ∧ r.2.mem ((c.tc : Thread Cert.FirstExpertsReferenceIdeal.nD Cert.FirstExpertsReferenceIdeal.τ).loc Cert.FirstExpertsReferenceIdeal.main_arg1) = m ((c.tc : Thread Cert.FirstExpertsReferenceIdeal.nD Cert.FirstExpertsReferenceIdeal.τ).loc Cert.FirstExpertsReferenceIdeal.main_arg1)
      ∧ r.2.mem ((c.tc : Thread Cert.FirstExpertsReferenceIdeal.nD Cert.FirstExpertsReferenceIdeal.τ).loc Cert.FirstExpertsReferenceIdeal.main_arg2) = m ((c.tc : Thread Cert.FirstExpertsReferenceIdeal.nD Cert.FirstExpertsReferenceIdeal.τ).loc Cert.FirstExpertsReferenceIdeal.main_arg2)
      ∧ r.2.mem ((c.tc : Thread Cert.FirstExpertsReferenceIdeal.nD Cert.FirstExpertsReferenceIdeal.τ).loc Cert.FirstExpertsReferenceIdeal.main_arg3) = m ((c.tc : Thread Cert.FirstExpertsReferenceIdeal.nD Cert.FirstExpertsReferenceIdeal.τ).loc Cert.FirstExpertsReferenceIdeal.main_arg3)
      ∧ r.2.mem ((c.tc : Thread Cert.FirstExpertsReferenceIdeal.nD Cert.FirstExpertsReferenceIdeal.τ).loc Cert.FirstExpertsReferenceIdeal.main_arg4) = m ((c.tc : Thread Cert.FirstExpertsReferenceIdeal.nD Cert.FirstExpertsReferenceIdeal.τ).loc Cert.FirstExpertsReferenceIdeal.main_arg4)
      ∧ r.2.mem ((c.tc : Thread Cert.FirstExpertsReferenceIdeal.nD Cert.FirstExpertsReferenceIdeal.τ).loc Cert.FirstExpertsReferenceIdeal.main_arg5) = m ((c.tc : Thread Cert.FirstExpertsReferenceIdeal.nD Cert.FirstExpertsReferenceIdeal.τ).loc Cert.FirstExpertsReferenceIdeal.main_arg5))
      ∧ r.2.sem = fun _ => 0)

def quiescent_FirstExpertsReferenceIdeal_pre_tiles_in_range [hFirstExpertsReferenceIdeal : Cert.FirstExpertsReferenceIdeal.Facts] [hPre_tiles_in_range : Cert.Pre_tiles_in_range.Facts] : Prop :=
  ∀ (m : (ℓ : Loc Cert.FirstExpertsReferenceIdeal.nD Cert.FirstExpertsReferenceIdeal.τ Cert.FirstExpertsReferenceIdeal.sig) → Buf (Elt Ideal) ℓ) (g : Dev Cert.FirstExpertsReferenceIdeal.nD → PrngReg), Pre_FirstExpertsReferenceIdeal_tiles_in_range m →
    θ_run (Cert.FirstExpertsReferenceIdeal.defs (F := Ideal)) (onTc (τ := Cert.FirstExpertsReferenceIdeal.τ) (Cert.FirstExpertsReferenceIdeal.main (F := Ideal))) ⟨m, fun _ => 0, g⟩ (fun r => (∀ c : Dev Cert.FirstExpertsReferenceIdeal.nD,
      r.2.mem ((c.tc : Thread Cert.FirstExpertsReferenceIdeal.nD Cert.FirstExpertsReferenceIdeal.τ).loc Cert.FirstExpertsReferenceIdeal.main_arg0) = m ((c.tc : Thread Cert.FirstExpertsReferenceIdeal.nD Cert.FirstExpertsReferenceIdeal.τ).loc Cert.FirstExpertsReferenceIdeal.main_arg0)
      ∧ r.2.mem ((c.tc : Thread Cert.FirstExpertsReferenceIdeal.nD Cert.FirstExpertsReferenceIdeal.τ).loc Cert.FirstExpertsReferenceIdeal.main_arg1) = m ((c.tc : Thread Cert.FirstExpertsReferenceIdeal.nD Cert.FirstExpertsReferenceIdeal.τ).loc Cert.FirstExpertsReferenceIdeal.main_arg1)
      ∧ r.2.mem ((c.tc : Thread Cert.FirstExpertsReferenceIdeal.nD Cert.FirstExpertsReferenceIdeal.τ).loc Cert.FirstExpertsReferenceIdeal.main_arg2) = m ((c.tc : Thread Cert.FirstExpertsReferenceIdeal.nD Cert.FirstExpertsReferenceIdeal.τ).loc Cert.FirstExpertsReferenceIdeal.main_arg2)
      ∧ r.2.mem ((c.tc : Thread Cert.FirstExpertsReferenceIdeal.nD Cert.FirstExpertsReferenceIdeal.τ).loc Cert.FirstExpertsReferenceIdeal.main_arg3) = m ((c.tc : Thread Cert.FirstExpertsReferenceIdeal.nD Cert.FirstExpertsReferenceIdeal.τ).loc Cert.FirstExpertsReferenceIdeal.main_arg3)
      ∧ r.2.mem ((c.tc : Thread Cert.FirstExpertsReferenceIdeal.nD Cert.FirstExpertsReferenceIdeal.τ).loc Cert.FirstExpertsReferenceIdeal.main_arg4) = m ((c.tc : Thread Cert.FirstExpertsReferenceIdeal.nD Cert.FirstExpertsReferenceIdeal.τ).loc Cert.FirstExpertsReferenceIdeal.main_arg4)
      ∧ r.2.mem ((c.tc : Thread Cert.FirstExpertsReferenceIdeal.nD Cert.FirstExpertsReferenceIdeal.τ).loc Cert.FirstExpertsReferenceIdeal.main_arg5) = m ((c.tc : Thread Cert.FirstExpertsReferenceIdeal.nD Cert.FirstExpertsReferenceIdeal.τ).loc Cert.FirstExpertsReferenceIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_keys_finite [hAttentionIdeal : Cert.AttentionIdeal.Facts] [hPre_keys_finite : Cert.Pre_keys_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_keys_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttentionReferenceIdeal_pre_keys_finite [hAttentionReferenceIdeal : Cert.AttentionReferenceIdeal.Facts] [hPre_keys_finite : Cert.Pre_keys_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_keys_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_FirstCombine [hFirstCombine : Cert.FirstCombine.Facts] : Prop :=
  ∀ (m : (ℓ : Loc Cert.FirstCombine.nD Cert.FirstCombine.τ Cert.FirstCombine.sig) → Buf (Elt Bits) ℓ) (g : Dev Cert.FirstCombine.nD → PrngReg), Pre_FirstCombine m →
    θ_run (Cert.FirstCombine.defs (F := Bits)) (onTc (τ := Cert.FirstCombine.τ) (Cert.FirstCombine.main (F := Bits))) ⟨m, fun _ => 0, g⟩ (fun r => (∀ c : Dev Cert.FirstCombine.nD,
      r.2.mem ((c.tc : Thread Cert.FirstCombine.nD Cert.FirstCombine.τ).loc Cert.FirstCombine.main_arg0) = m ((c.tc : Thread Cert.FirstCombine.nD Cert.FirstCombine.τ).loc Cert.FirstCombine.main_arg0)
      ∧ r.2.mem ((c.tc : Thread Cert.FirstCombine.nD Cert.FirstCombine.τ).loc Cert.FirstCombine.main_arg1) = m ((c.tc : Thread Cert.FirstCombine.nD Cert.FirstCombine.τ).loc Cert.FirstCombine.main_arg1)
      ∧ r.2.mem ((c.tc : Thread Cert.FirstCombine.nD Cert.FirstCombine.τ).loc Cert.FirstCombine.main_arg2) = m ((c.tc : Thread Cert.FirstCombine.nD Cert.FirstCombine.τ).loc Cert.FirstCombine.main_arg2)
      ∧ r.2.mem ((c.tc : Thread Cert.FirstCombine.nD Cert.FirstCombine.τ).loc Cert.FirstCombine.main_arg3) = m ((c.tc : Thread Cert.FirstCombine.nD Cert.FirstCombine.τ).loc Cert.FirstCombine.main_arg3)
      ∧ r.2.mem ((c.tc : Thread Cert.FirstCombine.nD Cert.FirstCombine.τ).loc Cert.FirstCombine.main_arg4) = m ((c.tc : Thread Cert.FirstCombine.nD Cert.FirstCombine.τ).loc Cert.FirstCombine.main_arg4)
      ∧ r.2.mem ((c.tc : Thread Cert.FirstCombine.nD Cert.FirstCombine.τ).loc Cert.FirstCombine.main_arg5) = m ((c.tc : Thread Cert.FirstCombine.nD Cert.FirstCombine.τ).loc Cert.FirstCombine.main_arg5)
      ∧ r.2.mem ((c.tc : Thread Cert.FirstCombine.nD Cert.FirstCombine.τ).loc Cert.FirstCombine.main_arg6) = m ((c.tc : Thread Cert.FirstCombine.nD Cert.FirstCombine.τ).loc Cert.FirstCombine.main_arg6)
      ∧ r.2.mem ((c.tc : Thread Cert.FirstCombine.nD Cert.FirstCombine.τ).loc Cert.FirstCombine.main_arg7) = m ((c.tc : Thread Cert.FirstCombine.nD Cert.FirstCombine.τ).loc Cert.FirstCombine.main_arg7))
      ∧ r.2.sem = fun _ => 0)

def quiescent_FirstCombineIdeal [hFirstCombineIdeal : Cert.FirstCombineIdeal.Facts] : Prop :=
  ∀ (m : (ℓ : Loc Cert.FirstCombineIdeal.nD Cert.FirstCombineIdeal.τ Cert.FirstCombineIdeal.sig) → Buf (Elt Ideal) ℓ) (g : Dev Cert.FirstCombineIdeal.nD → PrngReg), Pre_FirstCombineIdeal m →
    θ_run (Cert.FirstCombineIdeal.defs (F := Ideal)) (onTc (τ := Cert.FirstCombineIdeal.τ) (Cert.FirstCombineIdeal.main (F := Ideal))) ⟨m, fun _ => 0, g⟩ (fun r => (∀ c : Dev Cert.FirstCombineIdeal.nD,
      r.2.mem ((c.tc : Thread Cert.FirstCombineIdeal.nD Cert.FirstCombineIdeal.τ).loc Cert.FirstCombineIdeal.main_arg0) = m ((c.tc : Thread Cert.FirstCombineIdeal.nD Cert.FirstCombineIdeal.τ).loc Cert.FirstCombineIdeal.main_arg0)
      ∧ r.2.mem ((c.tc : Thread Cert.FirstCombineIdeal.nD Cert.FirstCombineIdeal.τ).loc Cert.FirstCombineIdeal.main_arg1) = m ((c.tc : Thread Cert.FirstCombineIdeal.nD Cert.FirstCombineIdeal.τ).loc Cert.FirstCombineIdeal.main_arg1)
      ∧ r.2.mem ((c.tc : Thread Cert.FirstCombineIdeal.nD Cert.FirstCombineIdeal.τ).loc Cert.FirstCombineIdeal.main_arg2) = m ((c.tc : Thread Cert.FirstCombineIdeal.nD Cert.FirstCombineIdeal.τ).loc Cert.FirstCombineIdeal.main_arg2)
      ∧ r.2.mem ((c.tc : Thread Cert.FirstCombineIdeal.nD Cert.FirstCombineIdeal.τ).loc Cert.FirstCombineIdeal.main_arg3) = m ((c.tc : Thread Cert.FirstCombineIdeal.nD Cert.FirstCombineIdeal.τ).loc Cert.FirstCombineIdeal.main_arg3)
      ∧ r.2.mem ((c.tc : Thread Cert.FirstCombineIdeal.nD Cert.FirstCombineIdeal.τ).loc Cert.FirstCombineIdeal.main_arg4) = m ((c.tc : Thread Cert.FirstCombineIdeal.nD Cert.FirstCombineIdeal.τ).loc Cert.FirstCombineIdeal.main_arg4)
      ∧ r.2.mem ((c.tc : Thread Cert.FirstCombineIdeal.nD Cert.FirstCombineIdeal.τ).loc Cert.FirstCombineIdeal.main_arg5) = m ((c.tc : Thread Cert.FirstCombineIdeal.nD Cert.FirstCombineIdeal.τ).loc Cert.FirstCombineIdeal.main_arg5)
      ∧ r.2.mem ((c.tc : Thread Cert.FirstCombineIdeal.nD Cert.FirstCombineIdeal.τ).loc Cert.FirstCombineIdeal.main_arg6) = m ((c.tc : Thread Cert.FirstCombineIdeal.nD Cert.FirstCombineIdeal.τ).loc Cert.FirstCombineIdeal.main_arg6)
      ∧ r.2.mem ((c.tc : Thread Cert.FirstCombineIdeal.nD Cert.FirstCombineIdeal.τ).loc Cert.FirstCombineIdeal.main_arg7) = m ((c.tc : Thread Cert.FirstCombineIdeal.nD Cert.FirstCombineIdeal.τ).loc Cert.FirstCombineIdeal.main_arg7))
      ∧ r.2.sem = fun _ => 0)

def quiescent_FirstCombineIdeal_pre_gates_bounded [hFirstCombineIdeal : Cert.FirstCombineIdeal.Facts] [hPre_gates_bounded : Cert.Pre_gates_bounded.Facts] : Prop :=
  ∀ (m : (ℓ : Loc Cert.FirstCombineIdeal.nD Cert.FirstCombineIdeal.τ Cert.FirstCombineIdeal.sig) → Buf (Elt Ideal) ℓ) (g : Dev Cert.FirstCombineIdeal.nD → PrngReg), Pre_FirstCombineIdeal_gates_bounded m →
    θ_run (Cert.FirstCombineIdeal.defs (F := Ideal)) (onTc (τ := Cert.FirstCombineIdeal.τ) (Cert.FirstCombineIdeal.main (F := Ideal))) ⟨m, fun _ => 0, g⟩ (fun r => (∀ c : Dev Cert.FirstCombineIdeal.nD,
      r.2.mem ((c.tc : Thread Cert.FirstCombineIdeal.nD Cert.FirstCombineIdeal.τ).loc Cert.FirstCombineIdeal.main_arg0) = m ((c.tc : Thread Cert.FirstCombineIdeal.nD Cert.FirstCombineIdeal.τ).loc Cert.FirstCombineIdeal.main_arg0)
      ∧ r.2.mem ((c.tc : Thread Cert.FirstCombineIdeal.nD Cert.FirstCombineIdeal.τ).loc Cert.FirstCombineIdeal.main_arg1) = m ((c.tc : Thread Cert.FirstCombineIdeal.nD Cert.FirstCombineIdeal.τ).loc Cert.FirstCombineIdeal.main_arg1)
      ∧ r.2.mem ((c.tc : Thread Cert.FirstCombineIdeal.nD Cert.FirstCombineIdeal.τ).loc Cert.FirstCombineIdeal.main_arg2) = m ((c.tc : Thread Cert.FirstCombineIdeal.nD Cert.FirstCombineIdeal.τ).loc Cert.FirstCombineIdeal.main_arg2)
      ∧ r.2.mem ((c.tc : Thread Cert.FirstCombineIdeal.nD Cert.FirstCombineIdeal.τ).loc Cert.FirstCombineIdeal.main_arg3) = m ((c.tc : Thread Cert.FirstCombineIdeal.nD Cert.FirstCombineIdeal.τ).loc Cert.FirstCombineIdeal.main_arg3)
      ∧ r.2.mem ((c.tc : Thread Cert.FirstCombineIdeal.nD Cert.FirstCombineIdeal.τ).loc Cert.FirstCombineIdeal.main_arg4) = m ((c.tc : Thread Cert.FirstCombineIdeal.nD Cert.FirstCombineIdeal.τ).loc Cert.FirstCombineIdeal.main_arg4)
      ∧ r.2.mem ((c.tc : Thread Cert.FirstCombineIdeal.nD Cert.FirstCombineIdeal.τ).loc Cert.FirstCombineIdeal.main_arg5) = m ((c.tc : Thread Cert.FirstCombineIdeal.nD Cert.FirstCombineIdeal.τ).loc Cert.FirstCombineIdeal.main_arg5)
      ∧ r.2.mem ((c.tc : Thread Cert.FirstCombineIdeal.nD Cert.FirstCombineIdeal.τ).loc Cert.FirstCombineIdeal.main_arg6) = m ((c.tc : Thread Cert.FirstCombineIdeal.nD Cert.FirstCombineIdeal.τ).loc Cert.FirstCombineIdeal.main_arg6)
      ∧ r.2.mem ((c.tc : Thread Cert.FirstCombineIdeal.nD Cert.FirstCombineIdeal.τ).loc Cert.FirstCombineIdeal.main_arg7) = m ((c.tc : Thread Cert.FirstCombineIdeal.nD Cert.FirstCombineIdeal.τ).loc Cert.FirstCombineIdeal.main_arg7))
      ∧ r.2.sem = fun _ => 0)

def quiescent_FirstCombineReferenceIdeal [hFirstCombineReferenceIdeal : Cert.FirstCombineReferenceIdeal.Facts] : Prop :=
  ∀ (m : (ℓ : Loc Cert.FirstCombineReferenceIdeal.nD Cert.FirstCombineReferenceIdeal.τ Cert.FirstCombineReferenceIdeal.sig) → Buf (Elt Ideal) ℓ) (g : Dev Cert.FirstCombineReferenceIdeal.nD → PrngReg), Pre_FirstCombineReferenceIdeal m →
    θ_run (Cert.FirstCombineReferenceIdeal.defs (F := Ideal)) (onTc (τ := Cert.FirstCombineReferenceIdeal.τ) (Cert.FirstCombineReferenceIdeal.main (F := Ideal))) ⟨m, fun _ => 0, g⟩ (fun r => (∀ c : Dev Cert.FirstCombineReferenceIdeal.nD,
      r.2.mem ((c.tc : Thread Cert.FirstCombineReferenceIdeal.nD Cert.FirstCombineReferenceIdeal.τ).loc Cert.FirstCombineReferenceIdeal.main_arg0) = m ((c.tc : Thread Cert.FirstCombineReferenceIdeal.nD Cert.FirstCombineReferenceIdeal.τ).loc Cert.FirstCombineReferenceIdeal.main_arg0)
      ∧ r.2.mem ((c.tc : Thread Cert.FirstCombineReferenceIdeal.nD Cert.FirstCombineReferenceIdeal.τ).loc Cert.FirstCombineReferenceIdeal.main_arg1) = m ((c.tc : Thread Cert.FirstCombineReferenceIdeal.nD Cert.FirstCombineReferenceIdeal.τ).loc Cert.FirstCombineReferenceIdeal.main_arg1)
      ∧ r.2.mem ((c.tc : Thread Cert.FirstCombineReferenceIdeal.nD Cert.FirstCombineReferenceIdeal.τ).loc Cert.FirstCombineReferenceIdeal.main_arg2) = m ((c.tc : Thread Cert.FirstCombineReferenceIdeal.nD Cert.FirstCombineReferenceIdeal.τ).loc Cert.FirstCombineReferenceIdeal.main_arg2)
      ∧ r.2.mem ((c.tc : Thread Cert.FirstCombineReferenceIdeal.nD Cert.FirstCombineReferenceIdeal.τ).loc Cert.FirstCombineReferenceIdeal.main_arg3) = m ((c.tc : Thread Cert.FirstCombineReferenceIdeal.nD Cert.FirstCombineReferenceIdeal.τ).loc Cert.FirstCombineReferenceIdeal.main_arg3)
      ∧ r.2.mem ((c.tc : Thread Cert.FirstCombineReferenceIdeal.nD Cert.FirstCombineReferenceIdeal.τ).loc Cert.FirstCombineReferenceIdeal.main_arg4) = m ((c.tc : Thread Cert.FirstCombineReferenceIdeal.nD Cert.FirstCombineReferenceIdeal.τ).loc Cert.FirstCombineReferenceIdeal.main_arg4)
      ∧ r.2.mem ((c.tc : Thread Cert.FirstCombineReferenceIdeal.nD Cert.FirstCombineReferenceIdeal.τ).loc Cert.FirstCombineReferenceIdeal.main_arg5) = m ((c.tc : Thread Cert.FirstCombineReferenceIdeal.nD Cert.FirstCombineReferenceIdeal.τ).loc Cert.FirstCombineReferenceIdeal.main_arg5)
      ∧ r.2.mem ((c.tc : Thread Cert.FirstCombineReferenceIdeal.nD Cert.FirstCombineReferenceIdeal.τ).loc Cert.FirstCombineReferenceIdeal.main_arg6) = m ((c.tc : Thread Cert.FirstCombineReferenceIdeal.nD Cert.FirstCombineReferenceIdeal.τ).loc Cert.FirstCombineReferenceIdeal.main_arg6)
      ∧ r.2.mem ((c.tc : Thread Cert.FirstCombineReferenceIdeal.nD Cert.FirstCombineReferenceIdeal.τ).loc Cert.FirstCombineReferenceIdeal.main_arg7) = m ((c.tc : Thread Cert.FirstCombineReferenceIdeal.nD Cert.FirstCombineReferenceIdeal.τ).loc Cert.FirstCombineReferenceIdeal.main_arg7))
      ∧ r.2.sem = fun _ => 0)

def quiescent_FirstCombineReferenceIdeal_pre_gates_bounded [hFirstCombineReferenceIdeal : Cert.FirstCombineReferenceIdeal.Facts] [hPre_gates_bounded : Cert.Pre_gates_bounded.Facts] : Prop :=
  ∀ (m : (ℓ : Loc Cert.FirstCombineReferenceIdeal.nD Cert.FirstCombineReferenceIdeal.τ Cert.FirstCombineReferenceIdeal.sig) → Buf (Elt Ideal) ℓ) (g : Dev Cert.FirstCombineReferenceIdeal.nD → PrngReg), Pre_FirstCombineReferenceIdeal_gates_bounded m →
    θ_run (Cert.FirstCombineReferenceIdeal.defs (F := Ideal)) (onTc (τ := Cert.FirstCombineReferenceIdeal.τ) (Cert.FirstCombineReferenceIdeal.main (F := Ideal))) ⟨m, fun _ => 0, g⟩ (fun r => (∀ c : Dev Cert.FirstCombineReferenceIdeal.nD,
      r.2.mem ((c.tc : Thread Cert.FirstCombineReferenceIdeal.nD Cert.FirstCombineReferenceIdeal.τ).loc Cert.FirstCombineReferenceIdeal.main_arg0) = m ((c.tc : Thread Cert.FirstCombineReferenceIdeal.nD Cert.FirstCombineReferenceIdeal.τ).loc Cert.FirstCombineReferenceIdeal.main_arg0)
      ∧ r.2.mem ((c.tc : Thread Cert.FirstCombineReferenceIdeal.nD Cert.FirstCombineReferenceIdeal.τ).loc Cert.FirstCombineReferenceIdeal.main_arg1) = m ((c.tc : Thread Cert.FirstCombineReferenceIdeal.nD Cert.FirstCombineReferenceIdeal.τ).loc Cert.FirstCombineReferenceIdeal.main_arg1)
      ∧ r.2.mem ((c.tc : Thread Cert.FirstCombineReferenceIdeal.nD Cert.FirstCombineReferenceIdeal.τ).loc Cert.FirstCombineReferenceIdeal.main_arg2) = m ((c.tc : Thread Cert.FirstCombineReferenceIdeal.nD Cert.FirstCombineReferenceIdeal.τ).loc Cert.FirstCombineReferenceIdeal.main_arg2)
      ∧ r.2.mem ((c.tc : Thread Cert.FirstCombineReferenceIdeal.nD Cert.FirstCombineReferenceIdeal.τ).loc Cert.FirstCombineReferenceIdeal.main_arg3) = m ((c.tc : Thread Cert.FirstCombineReferenceIdeal.nD Cert.FirstCombineReferenceIdeal.τ).loc Cert.FirstCombineReferenceIdeal.main_arg3)
      ∧ r.2.mem ((c.tc : Thread Cert.FirstCombineReferenceIdeal.nD Cert.FirstCombineReferenceIdeal.τ).loc Cert.FirstCombineReferenceIdeal.main_arg4) = m ((c.tc : Thread Cert.FirstCombineReferenceIdeal.nD Cert.FirstCombineReferenceIdeal.τ).loc Cert.FirstCombineReferenceIdeal.main_arg4)
      ∧ r.2.mem ((c.tc : Thread Cert.FirstCombineReferenceIdeal.nD Cert.FirstCombineReferenceIdeal.τ).loc Cert.FirstCombineReferenceIdeal.main_arg5) = m ((c.tc : Thread Cert.FirstCombineReferenceIdeal.nD Cert.FirstCombineReferenceIdeal.τ).loc Cert.FirstCombineReferenceIdeal.main_arg5)
      ∧ r.2.mem ((c.tc : Thread Cert.FirstCombineReferenceIdeal.nD Cert.FirstCombineReferenceIdeal.τ).loc Cert.FirstCombineReferenceIdeal.main_arg6) = m ((c.tc : Thread Cert.FirstCombineReferenceIdeal.nD Cert.FirstCombineReferenceIdeal.τ).loc Cert.FirstCombineReferenceIdeal.main_arg6)
      ∧ r.2.mem ((c.tc : Thread Cert.FirstCombineReferenceIdeal.nD Cert.FirstCombineReferenceIdeal.τ).loc Cert.FirstCombineReferenceIdeal.main_arg7) = m ((c.tc : Thread Cert.FirstCombineReferenceIdeal.nD Cert.FirstCombineReferenceIdeal.τ).loc Cert.FirstCombineReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Prompt_PromptIdeal : Prop :=
  True

def algebraic_PromptIdeal_PromptReferenceIdeal_pre_gates_bounded [hPromptIdeal : Cert.PromptIdeal.Facts] [hPromptReferenceIdeal : Cert.PromptReferenceIdeal.Facts] [hPre_gates_bounded : Cert.Pre_gates_bounded.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal_gates_bounded m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)) →
    ∃ (v0 : (c : Dev Cert.PromptIdeal.nD) → Buf (Elt Ideal) ((c.tc : Thread Cert.PromptIdeal.nD Cert.PromptIdeal.τ).loc Cert.PromptIdeal.main_v15)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v15) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v33) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7))

def preserves_Sample_SampleIdeal : Prop :=
  True

def algebraic_SampleIdeal_SampleReferenceIdeal_pre_gates_bounded [hSampleIdeal : Cert.SampleIdeal.Facts] [hSampleReferenceIdeal : Cert.SampleReferenceIdeal.Facts] [hPre_gates_bounded : Cert.Pre_gates_bounded.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_gates_bounded m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)) →
    ∃ (v0 : (c : Dev Cert.SampleIdeal.nD) → Buf (Elt Ideal) ((c.tc : Thread Cert.SampleIdeal.nD Cert.SampleIdeal.τ).loc Cert.SampleIdeal.main_v15)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v15) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v36) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7))

def preserves_Experts_ExpertsIdeal : Prop :=
  True

def algebraic_ExpertsIdeal_ExpertsReferenceIdeal_on_tiles_used [hExpertsIdeal : Cert.ExpertsIdeal.Facts] [hExpertsReferenceIdeal : Cert.ExpertsReferenceIdeal.Facts] [hPre_tiles_in_range : Cert.Pre_tiles_in_range.Facts] [hOn_tiles_used : Cert.On_tiles_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![196608, 1024]⟩ : Shape).Idx, (Cert.On_tiles_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![196608, 1024]⟩ : Shape).Idx, (Cert.On_tiles_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v23) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_FirstExperts_FirstExpertsIdeal : Prop :=
  True

def algebraic_FirstExpertsIdeal_FirstExpertsReferenceIdeal_on_tiles_used [hFirstExpertsIdeal : Cert.FirstExpertsIdeal.Facts] [hFirstExpertsReferenceIdeal : Cert.FirstExpertsReferenceIdeal.Facts] [hPre_tiles_in_range : Cert.Pre_tiles_in_range.Facts] [hOn_tiles_used : Cert.On_tiles_used.Facts] : Prop :=
  ∀ (m : (ℓ : Loc Cert.FirstExpertsIdeal.nD Cert.FirstExpertsIdeal.τ Cert.FirstExpertsIdeal.sig) → Buf (Elt Ideal) ℓ) (g : Dev Cert.FirstExpertsIdeal.nD → PrngReg)
    (m' : (ℓ : Loc Cert.FirstExpertsReferenceIdeal.nD Cert.FirstExpertsReferenceIdeal.τ Cert.FirstExpertsReferenceIdeal.sig) → Buf (Elt Ideal) ℓ) (g' : Dev Cert.FirstExpertsReferenceIdeal.nD → PrngReg), Pre_FirstExpertsIdeal m →
    (∀ c : Dev Cert.FirstExpertsIdeal.nD,
      m' ((c.tc : Thread Cert.FirstExpertsReferenceIdeal.nD Cert.FirstExpertsReferenceIdeal.τ).loc Cert.FirstExpertsReferenceIdeal.main_arg0) = m ((c.tc : Thread Cert.FirstExpertsIdeal.nD Cert.FirstExpertsIdeal.τ).loc Cert.FirstExpertsIdeal.main_arg0)
      ∧ m' ((c.tc : Thread Cert.FirstExpertsReferenceIdeal.nD Cert.FirstExpertsReferenceIdeal.τ).loc Cert.FirstExpertsReferenceIdeal.main_arg1) = m ((c.tc : Thread Cert.FirstExpertsIdeal.nD Cert.FirstExpertsIdeal.τ).loc Cert.FirstExpertsIdeal.main_arg1)
      ∧ m' ((c.tc : Thread Cert.FirstExpertsReferenceIdeal.nD Cert.FirstExpertsReferenceIdeal.τ).loc Cert.FirstExpertsReferenceIdeal.main_arg2) = m ((c.tc : Thread Cert.FirstExpertsIdeal.nD Cert.FirstExpertsIdeal.τ).loc Cert.FirstExpertsIdeal.main_arg2)
      ∧ m' ((c.tc : Thread Cert.FirstExpertsReferenceIdeal.nD Cert.FirstExpertsReferenceIdeal.τ).loc Cert.FirstExpertsReferenceIdeal.main_arg3) = m ((c.tc : Thread Cert.FirstExpertsIdeal.nD Cert.FirstExpertsIdeal.τ).loc Cert.FirstExpertsIdeal.main_arg3)
      ∧ m' ((c.tc : Thread Cert.FirstExpertsReferenceIdeal.nD Cert.FirstExpertsReferenceIdeal.τ).loc Cert.FirstExpertsReferenceIdeal.main_arg4) = m ((c.tc : Thread Cert.FirstExpertsIdeal.nD Cert.FirstExpertsIdeal.τ).loc Cert.FirstExpertsIdeal.main_arg4)
      ∧ m' ((c.tc : Thread Cert.FirstExpertsReferenceIdeal.nD Cert.FirstExpertsReferenceIdeal.τ).loc Cert.FirstExpertsReferenceIdeal.main_arg5) = m ((c.tc : Thread Cert.FirstExpertsIdeal.nD Cert.FirstExpertsIdeal.τ).loc Cert.FirstExpertsIdeal.main_arg5)) →
    ∃ (v0 : (c : Dev Cert.FirstExpertsIdeal.nD) → Buf (Elt Ideal) ((c.tc : Thread Cert.FirstExpertsIdeal.nD Cert.FirstExpertsIdeal.τ).loc Cert.FirstExpertsIdeal.main_v0)),
      θ_run (Cert.FirstExpertsIdeal.defs (F := Ideal)) (onTc (τ := Cert.FirstExpertsIdeal.τ) (Cert.FirstExpertsIdeal.main (F := Ideal))) ⟨m, fun _ => 0, g⟩ (fun r => ∀ c : Dev Cert.FirstExpertsIdeal.nD,
          (∀ i : (⟨2, ![196608, 1024]⟩ : Shape).Idx, (Cert.On_tiles_used.fn (F := Ideal) (m ((c.tc : Thread Cert.FirstExpertsIdeal.nD Cert.FirstExpertsIdeal.τ).loc Cert.FirstExpertsIdeal.main_arg0)) (m ((c.tc : Thread Cert.FirstExpertsIdeal.nD Cert.FirstExpertsIdeal.τ).loc Cert.FirstExpertsIdeal.main_arg1)) (m ((c.tc : Thread Cert.FirstExpertsIdeal.nD Cert.FirstExpertsIdeal.τ).loc Cert.FirstExpertsIdeal.main_arg2)) (m ((c.tc : Thread Cert.FirstExpertsIdeal.nD Cert.FirstExpertsIdeal.τ).loc Cert.FirstExpertsIdeal.main_arg3)) (m ((c.tc : Thread Cert.FirstExpertsIdeal.nD Cert.FirstExpertsIdeal.τ).loc Cert.FirstExpertsIdeal.main_arg4)) (m ((c.tc : Thread Cert.FirstExpertsIdeal.nD Cert.FirstExpertsIdeal.τ).loc Cert.FirstExpertsIdeal.main_arg5))) i = 1#1 → r.2.mem ((c.tc : Thread Cert.FirstExpertsIdeal.nD Cert.FirstExpertsIdeal.τ).loc Cert.FirstExpertsIdeal.main_v0) i = v0 c i)
          ∧ r.2.mem ((c.tc : Thread Cert.FirstExpertsIdeal.nD Cert.FirstExpertsIdeal.τ).loc Cert.FirstExpertsIdeal.main_arg0) = m ((c.tc : Thread Cert.FirstExpertsIdeal.nD Cert.FirstExpertsIdeal.τ).loc Cert.FirstExpertsIdeal.main_arg0)
          ∧ r.2.mem ((c.tc : Thread Cert.FirstExpertsIdeal.nD Cert.FirstExpertsIdeal.τ).loc Cert.FirstExpertsIdeal.main_arg1) = m ((c.tc : Thread Cert.FirstExpertsIdeal.nD Cert.FirstExpertsIdeal.τ).loc Cert.FirstExpertsIdeal.main_arg1)
          ∧ r.2.mem ((c.tc : Thread Cert.FirstExpertsIdeal.nD Cert.FirstExpertsIdeal.τ).loc Cert.FirstExpertsIdeal.main_arg2) = m ((c.tc : Thread Cert.FirstExpertsIdeal.nD Cert.FirstExpertsIdeal.τ).loc Cert.FirstExpertsIdeal.main_arg2)
          ∧ r.2.mem ((c.tc : Thread Cert.FirstExpertsIdeal.nD Cert.FirstExpertsIdeal.τ).loc Cert.FirstExpertsIdeal.main_arg3) = m ((c.tc : Thread Cert.FirstExpertsIdeal.nD Cert.FirstExpertsIdeal.τ).loc Cert.FirstExpertsIdeal.main_arg3)
          ∧ r.2.mem ((c.tc : Thread Cert.FirstExpertsIdeal.nD Cert.FirstExpertsIdeal.τ).loc Cert.FirstExpertsIdeal.main_arg4) = m ((c.tc : Thread Cert.FirstExpertsIdeal.nD Cert.FirstExpertsIdeal.τ).loc Cert.FirstExpertsIdeal.main_arg4)
          ∧ r.2.mem ((c.tc : Thread Cert.FirstExpertsIdeal.nD Cert.FirstExpertsIdeal.τ).loc Cert.FirstExpertsIdeal.main_arg5) = m ((c.tc : Thread Cert.FirstExpertsIdeal.nD Cert.FirstExpertsIdeal.τ).loc Cert.FirstExpertsIdeal.main_arg5))
      ∧ θ_run (Cert.FirstExpertsReferenceIdeal.defs (F := Ideal)) (onTc (τ := Cert.FirstExpertsReferenceIdeal.τ) (Cert.FirstExpertsReferenceIdeal.main (F := Ideal))) ⟨m', fun _ => 0, g'⟩ (fun r => ∀ c : Dev Cert.FirstExpertsReferenceIdeal.nD,
          (∀ i : (⟨2, ![196608, 1024]⟩ : Shape).Idx, (Cert.On_tiles_used.fn (F := Ideal) (m ((c.tc : Thread Cert.FirstExpertsIdeal.nD Cert.FirstExpertsIdeal.τ).loc Cert.FirstExpertsIdeal.main_arg0)) (m ((c.tc : Thread Cert.FirstExpertsIdeal.nD Cert.FirstExpertsIdeal.τ).loc Cert.FirstExpertsIdeal.main_arg1)) (m ((c.tc : Thread Cert.FirstExpertsIdeal.nD Cert.FirstExpertsIdeal.τ).loc Cert.FirstExpertsIdeal.main_arg2)) (m ((c.tc : Thread Cert.FirstExpertsIdeal.nD Cert.FirstExpertsIdeal.τ).loc Cert.FirstExpertsIdeal.main_arg3)) (m ((c.tc : Thread Cert.FirstExpertsIdeal.nD Cert.FirstExpertsIdeal.τ).loc Cert.FirstExpertsIdeal.main_arg4)) (m ((c.tc : Thread Cert.FirstExpertsIdeal.nD Cert.FirstExpertsIdeal.τ).loc Cert.FirstExpertsIdeal.main_arg5))) i = 1#1 → r.2.mem ((c.tc : Thread Cert.FirstExpertsReferenceIdeal.nD Cert.FirstExpertsReferenceIdeal.τ).loc Cert.FirstExpertsReferenceIdeal.main_v23) i = v0 c i)
          ∧ r.2.mem ((c.tc : Thread Cert.FirstExpertsReferenceIdeal.nD Cert.FirstExpertsReferenceIdeal.τ).loc Cert.FirstExpertsReferenceIdeal.main_arg0) = m' ((c.tc : Thread Cert.FirstExpertsReferenceIdeal.nD Cert.FirstExpertsReferenceIdeal.τ).loc Cert.FirstExpertsReferenceIdeal.main_arg0)
          ∧ r.2.mem ((c.tc : Thread Cert.FirstExpertsReferenceIdeal.nD Cert.FirstExpertsReferenceIdeal.τ).loc Cert.FirstExpertsReferenceIdeal.main_arg1) = m' ((c.tc : Thread Cert.FirstExpertsReferenceIdeal.nD Cert.FirstExpertsReferenceIdeal.τ).loc Cert.FirstExpertsReferenceIdeal.main_arg1)
          ∧ r.2.mem ((c.tc : Thread Cert.FirstExpertsReferenceIdeal.nD Cert.FirstExpertsReferenceIdeal.τ).loc Cert.FirstExpertsReferenceIdeal.main_arg2) = m' ((c.tc : Thread Cert.FirstExpertsReferenceIdeal.nD Cert.FirstExpertsReferenceIdeal.τ).loc Cert.FirstExpertsReferenceIdeal.main_arg2)
          ∧ r.2.mem ((c.tc : Thread Cert.FirstExpertsReferenceIdeal.nD Cert.FirstExpertsReferenceIdeal.τ).loc Cert.FirstExpertsReferenceIdeal.main_arg3) = m' ((c.tc : Thread Cert.FirstExpertsReferenceIdeal.nD Cert.FirstExpertsReferenceIdeal.τ).loc Cert.FirstExpertsReferenceIdeal.main_arg3)
          ∧ r.2.mem ((c.tc : Thread Cert.FirstExpertsReferenceIdeal.nD Cert.FirstExpertsReferenceIdeal.τ).loc Cert.FirstExpertsReferenceIdeal.main_arg4) = m' ((c.tc : Thread Cert.FirstExpertsReferenceIdeal.nD Cert.FirstExpertsReferenceIdeal.τ).loc Cert.FirstExpertsReferenceIdeal.main_arg4)
          ∧ r.2.mem ((c.tc : Thread Cert.FirstExpertsReferenceIdeal.nD Cert.FirstExpertsReferenceIdeal.τ).loc Cert.FirstExpertsReferenceIdeal.main_arg5) = m' ((c.tc : Thread Cert.FirstExpertsReferenceIdeal.nD Cert.FirstExpertsReferenceIdeal.τ).loc Cert.FirstExpertsReferenceIdeal.main_arg5))

def preserves_Attention_AttentionIdeal : Prop :=
  IdealRules.bf16_pack.Statement Cert.AttentionIdeal.S256x512
  ∧ IdealRules.bf16_pack.Statement Cert.AttentionIdeal.S256x128

def algebraic_AttentionIdeal_AttentionReferenceIdeal_on_keys_values_pre_keys_finite [hAttentionIdeal : Cert.AttentionIdeal.Facts] [hAttentionReferenceIdeal : Cert.AttentionReferenceIdeal.Facts] [hPre_keys_finite : Cert.Pre_keys_finite.Facts] [hOn_keys_values : Cert.On_keys_values.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_keys_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v28_0)) (v1 : (c : Dev Cert.AttentionIdeal.nD) → Buf (Elt Ideal) ((c.tc : Thread Cert.AttentionIdeal.nD Cert.AttentionIdeal.τ).loc Cert.AttentionIdeal.main_v28_1)) (v2 : (c : Dev Cert.AttentionIdeal.nD) → Buf (Elt Ideal) ((c.tc : Thread Cert.AttentionIdeal.nD Cert.AttentionIdeal.τ).loc Cert.AttentionIdeal.main_v28_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          (∀ i : (⟨2, ![16384, 512]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 i = 1#1 → r.2.mem ((c.tc : Thread Cert.AttentionIdeal.nD Cert.AttentionIdeal.τ).loc Cert.AttentionIdeal.main_v28_0) i = v0 c i)
          ∧ (∀ i : (⟨3, ![32, 256, 128]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 i = 1#1 → r.2.mem ((c.tc : Thread Cert.AttentionIdeal.nD Cert.AttentionIdeal.τ).loc Cert.AttentionIdeal.main_v28_1) i = v1 c i)
          ∧ (∀ i : (⟨3, ![32, 256, 128]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2 i = 1#1 → r.2.mem ((c.tc : Thread Cert.AttentionIdeal.nD Cert.AttentionIdeal.τ).loc Cert.AttentionIdeal.main_v28_2) i = v2 c i)
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          (∀ i : (⟨2, ![16384, 512]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 i = 1#1 → r.2.mem ((c.tc : Thread Cert.AttentionReferenceIdeal.nD Cert.AttentionReferenceIdeal.τ).loc Cert.AttentionReferenceIdeal.main_v58) i = v0 c i)
          ∧ (∀ i : (⟨3, ![32, 256, 128]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 i = 1#1 → r.2.mem ((c.tc : Thread Cert.AttentionReferenceIdeal.nD Cert.AttentionReferenceIdeal.τ).loc Cert.AttentionReferenceIdeal.main_v59) i = v1 c i)
          ∧ (∀ i : (⟨3, ![32, 256, 128]⟩ : Shape).Idx, (Cert.On_keys_values.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2 i = 1#1 → r.2.mem ((c.tc : Thread Cert.AttentionReferenceIdeal.nD Cert.AttentionReferenceIdeal.τ).loc Cert.AttentionReferenceIdeal.main_v60) i = v2 c i)
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4))

def preserves_FirstCombine_FirstCombineIdeal : Prop :=
  True

def algebraic_FirstCombineIdeal_FirstCombineReferenceIdeal_pre_gates_bounded [hFirstCombineIdeal : Cert.FirstCombineIdeal.Facts] [hFirstCombineReferenceIdeal : Cert.FirstCombineReferenceIdeal.Facts] [hPre_gates_bounded : Cert.Pre_gates_bounded.Facts] : Prop :=
  ∀ (m : (ℓ : Loc Cert.FirstCombineIdeal.nD Cert.FirstCombineIdeal.τ Cert.FirstCombineIdeal.sig) → Buf (Elt Ideal) ℓ) (g : Dev Cert.FirstCombineIdeal.nD → PrngReg)
    (m' : (ℓ : Loc Cert.FirstCombineReferenceIdeal.nD Cert.FirstCombineReferenceIdeal.τ Cert.FirstCombineReferenceIdeal.sig) → Buf (Elt Ideal) ℓ) (g' : Dev Cert.FirstCombineReferenceIdeal.nD → PrngReg), Pre_FirstCombineIdeal_gates_bounded m →
    (∀ c : Dev Cert.FirstCombineIdeal.nD,
      m' ((c.tc : Thread Cert.FirstCombineReferenceIdeal.nD Cert.FirstCombineReferenceIdeal.τ).loc Cert.FirstCombineReferenceIdeal.main_arg0) = m ((c.tc : Thread Cert.FirstCombineIdeal.nD Cert.FirstCombineIdeal.τ).loc Cert.FirstCombineIdeal.main_arg0)
      ∧ m' ((c.tc : Thread Cert.FirstCombineReferenceIdeal.nD Cert.FirstCombineReferenceIdeal.τ).loc Cert.FirstCombineReferenceIdeal.main_arg1) = m ((c.tc : Thread Cert.FirstCombineIdeal.nD Cert.FirstCombineIdeal.τ).loc Cert.FirstCombineIdeal.main_arg1)
      ∧ m' ((c.tc : Thread Cert.FirstCombineReferenceIdeal.nD Cert.FirstCombineReferenceIdeal.τ).loc Cert.FirstCombineReferenceIdeal.main_arg2) = m ((c.tc : Thread Cert.FirstCombineIdeal.nD Cert.FirstCombineIdeal.τ).loc Cert.FirstCombineIdeal.main_arg2)
      ∧ m' ((c.tc : Thread Cert.FirstCombineReferenceIdeal.nD Cert.FirstCombineReferenceIdeal.τ).loc Cert.FirstCombineReferenceIdeal.main_arg3) = m ((c.tc : Thread Cert.FirstCombineIdeal.nD Cert.FirstCombineIdeal.τ).loc Cert.FirstCombineIdeal.main_arg3)
      ∧ m' ((c.tc : Thread Cert.FirstCombineReferenceIdeal.nD Cert.FirstCombineReferenceIdeal.τ).loc Cert.FirstCombineReferenceIdeal.main_arg4) = m ((c.tc : Thread Cert.FirstCombineIdeal.nD Cert.FirstCombineIdeal.τ).loc Cert.FirstCombineIdeal.main_arg4)
      ∧ m' ((c.tc : Thread Cert.FirstCombineReferenceIdeal.nD Cert.FirstCombineReferenceIdeal.τ).loc Cert.FirstCombineReferenceIdeal.main_arg5) = m ((c.tc : Thread Cert.FirstCombineIdeal.nD Cert.FirstCombineIdeal.τ).loc Cert.FirstCombineIdeal.main_arg5)
      ∧ m' ((c.tc : Thread Cert.FirstCombineReferenceIdeal.nD Cert.FirstCombineReferenceIdeal.τ).loc Cert.FirstCombineReferenceIdeal.main_arg6) = m ((c.tc : Thread Cert.FirstCombineIdeal.nD Cert.FirstCombineIdeal.τ).loc Cert.FirstCombineIdeal.main_arg6)
      ∧ m' ((c.tc : Thread Cert.FirstCombineReferenceIdeal.nD Cert.FirstCombineReferenceIdeal.τ).loc Cert.FirstCombineReferenceIdeal.main_arg7) = m ((c.tc : Thread Cert.FirstCombineIdeal.nD Cert.FirstCombineIdeal.τ).loc Cert.FirstCombineIdeal.main_arg7)) →
    ∃ (v0 : (c : Dev Cert.FirstCombineIdeal.nD) → Buf (Elt Ideal) ((c.tc : Thread Cert.FirstCombineIdeal.nD Cert.FirstCombineIdeal.τ).loc Cert.FirstCombineIdeal.main_v15)),
      θ_run (Cert.FirstCombineIdeal.defs (F := Ideal)) (onTc (τ := Cert.FirstCombineIdeal.τ) (Cert.FirstCombineIdeal.main (F := Ideal))) ⟨m, fun _ => 0, g⟩ (fun r => ∀ c : Dev Cert.FirstCombineIdeal.nD,
          r.2.mem ((c.tc : Thread Cert.FirstCombineIdeal.nD Cert.FirstCombineIdeal.τ).loc Cert.FirstCombineIdeal.main_v15) = v0 c
          ∧ r.2.mem ((c.tc : Thread Cert.FirstCombineIdeal.nD Cert.FirstCombineIdeal.τ).loc Cert.FirstCombineIdeal.main_arg0) = m ((c.tc : Thread Cert.FirstCombineIdeal.nD Cert.FirstCombineIdeal.τ).loc Cert.FirstCombineIdeal.main_arg0)
          ∧ r.2.mem ((c.tc : Thread Cert.FirstCombineIdeal.nD Cert.FirstCombineIdeal.τ).loc Cert.FirstCombineIdeal.main_arg1) = m ((c.tc : Thread Cert.FirstCombineIdeal.nD Cert.FirstCombineIdeal.τ).loc Cert.FirstCombineIdeal.main_arg1)
          ∧ r.2.mem ((c.tc : Thread Cert.FirstCombineIdeal.nD Cert.FirstCombineIdeal.τ).loc Cert.FirstCombineIdeal.main_arg2) = m ((c.tc : Thread Cert.FirstCombineIdeal.nD Cert.FirstCombineIdeal.τ).loc Cert.FirstCombineIdeal.main_arg2)
          ∧ r.2.mem ((c.tc : Thread Cert.FirstCombineIdeal.nD Cert.FirstCombineIdeal.τ).loc Cert.FirstCombineIdeal.main_arg3) = m ((c.tc : Thread Cert.FirstCombineIdeal.nD Cert.FirstCombineIdeal.τ).loc Cert.FirstCombineIdeal.main_arg3)
          ∧ r.2.mem ((c.tc : Thread Cert.FirstCombineIdeal.nD Cert.FirstCombineIdeal.τ).loc Cert.FirstCombineIdeal.main_arg4) = m ((c.tc : Thread Cert.FirstCombineIdeal.nD Cert.FirstCombineIdeal.τ).loc Cert.FirstCombineIdeal.main_arg4)
          ∧ r.2.mem ((c.tc : Thread Cert.FirstCombineIdeal.nD Cert.FirstCombineIdeal.τ).loc Cert.FirstCombineIdeal.main_arg5) = m ((c.tc : Thread Cert.FirstCombineIdeal.nD Cert.FirstCombineIdeal.τ).loc Cert.FirstCombineIdeal.main_arg5)
          ∧ r.2.mem ((c.tc : Thread Cert.FirstCombineIdeal.nD Cert.FirstCombineIdeal.τ).loc Cert.FirstCombineIdeal.main_arg6) = m ((c.tc : Thread Cert.FirstCombineIdeal.nD Cert.FirstCombineIdeal.τ).loc Cert.FirstCombineIdeal.main_arg6)
          ∧ r.2.mem ((c.tc : Thread Cert.FirstCombineIdeal.nD Cert.FirstCombineIdeal.τ).loc Cert.FirstCombineIdeal.main_arg7) = m ((c.tc : Thread Cert.FirstCombineIdeal.nD Cert.FirstCombineIdeal.τ).loc Cert.FirstCombineIdeal.main_arg7))
      ∧ θ_run (Cert.FirstCombineReferenceIdeal.defs (F := Ideal)) (onTc (τ := Cert.FirstCombineReferenceIdeal.τ) (Cert.FirstCombineReferenceIdeal.main (F := Ideal))) ⟨m', fun _ => 0, g'⟩ (fun r => ∀ c : Dev Cert.FirstCombineReferenceIdeal.nD,
          r.2.mem ((c.tc : Thread Cert.FirstCombineReferenceIdeal.nD Cert.FirstCombineReferenceIdeal.τ).loc Cert.FirstCombineReferenceIdeal.main_v42) = v0 c
          ∧ r.2.mem ((c.tc : Thread Cert.FirstCombineReferenceIdeal.nD Cert.FirstCombineReferenceIdeal.τ).loc Cert.FirstCombineReferenceIdeal.main_arg0) = m' ((c.tc : Thread Cert.FirstCombineReferenceIdeal.nD Cert.FirstCombineReferenceIdeal.τ).loc Cert.FirstCombineReferenceIdeal.main_arg0)
          ∧ r.2.mem ((c.tc : Thread Cert.FirstCombineReferenceIdeal.nD Cert.FirstCombineReferenceIdeal.τ).loc Cert.FirstCombineReferenceIdeal.main_arg1) = m' ((c.tc : Thread Cert.FirstCombineReferenceIdeal.nD Cert.FirstCombineReferenceIdeal.τ).loc Cert.FirstCombineReferenceIdeal.main_arg1)
          ∧ r.2.mem ((c.tc : Thread Cert.FirstCombineReferenceIdeal.nD Cert.FirstCombineReferenceIdeal.τ).loc Cert.FirstCombineReferenceIdeal.main_arg2) = m' ((c.tc : Thread Cert.FirstCombineReferenceIdeal.nD Cert.FirstCombineReferenceIdeal.τ).loc Cert.FirstCombineReferenceIdeal.main_arg2)
          ∧ r.2.mem ((c.tc : Thread Cert.FirstCombineReferenceIdeal.nD Cert.FirstCombineReferenceIdeal.τ).loc Cert.FirstCombineReferenceIdeal.main_arg3) = m' ((c.tc : Thread Cert.FirstCombineReferenceIdeal.nD Cert.FirstCombineReferenceIdeal.τ).loc Cert.FirstCombineReferenceIdeal.main_arg3)
          ∧ r.2.mem ((c.tc : Thread Cert.FirstCombineReferenceIdeal.nD Cert.FirstCombineReferenceIdeal.τ).loc Cert.FirstCombineReferenceIdeal.main_arg4) = m' ((c.tc : Thread Cert.FirstCombineReferenceIdeal.nD Cert.FirstCombineReferenceIdeal.τ).loc Cert.FirstCombineReferenceIdeal.main_arg4)
          ∧ r.2.mem ((c.tc : Thread Cert.FirstCombineReferenceIdeal.nD Cert.FirstCombineReferenceIdeal.τ).loc Cert.FirstCombineReferenceIdeal.main_arg5) = m' ((c.tc : Thread Cert.FirstCombineReferenceIdeal.nD Cert.FirstCombineReferenceIdeal.τ).loc Cert.FirstCombineReferenceIdeal.main_arg5)
          ∧ r.2.mem ((c.tc : Thread Cert.FirstCombineReferenceIdeal.nD Cert.FirstCombineReferenceIdeal.τ).loc Cert.FirstCombineReferenceIdeal.main_arg6) = m' ((c.tc : Thread Cert.FirstCombineReferenceIdeal.nD Cert.FirstCombineReferenceIdeal.τ).loc Cert.FirstCombineReferenceIdeal.main_arg6)
          ∧ r.2.mem ((c.tc : Thread Cert.FirstCombineReferenceIdeal.nD Cert.FirstCombineReferenceIdeal.τ).loc Cert.FirstCombineReferenceIdeal.main_arg7) = m' ((c.tc : Thread Cert.FirstCombineReferenceIdeal.nD Cert.FirstCombineReferenceIdeal.τ).loc Cert.FirstCombineReferenceIdeal.main_arg7))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hExperts : Cert.Experts.Facts) (hExpertsIdeal : Cert.ExpertsIdeal.Facts) (hExpertsReferenceIdeal : Cert.ExpertsReferenceIdeal.Facts) (hFirstExperts : Cert.FirstExperts.Facts) (hFirstExpertsIdeal : Cert.FirstExpertsIdeal.Facts) (hFirstExpertsReferenceIdeal : Cert.FirstExpertsReferenceIdeal.Facts) (hAttention : Cert.Attention.Facts) (hAttentionIdeal : Cert.AttentionIdeal.Facts) (hAttentionReferenceIdeal : Cert.AttentionReferenceIdeal.Facts) (hFirstCombine : Cert.FirstCombine.Facts) (hFirstCombineIdeal : Cert.FirstCombineIdeal.Facts) (hFirstCombineReferenceIdeal : Cert.FirstCombineReferenceIdeal.Facts) (hPre_gates_bounded : Cert.Pre_gates_bounded.Facts) (hPre_tiles_in_range : Cert.Pre_tiles_in_range.Facts) (hPre_keys_finite : Cert.Pre_keys_finite.Facts) (hOn_tiles_used : Cert.On_tiles_used.Facts) (hOn_keys_values : Cert.On_keys_values.Facts),
    quiescent_Kernel (hKernel := hKernel)
    ∧ quiescent_KernelIdeal (hKernelIdeal := hKernelIdeal)
    ∧ quiescent_ReferenceIdeal (hReferenceIdeal := hReferenceIdeal)
    ∧ quiescent_Prompt (hPrompt := hPrompt)
    ∧ quiescent_PromptIdeal (hPromptIdeal := hPromptIdeal)
    ∧ quiescent_PromptIdeal_pre_gates_bounded (hPromptIdeal := hPromptIdeal) (hPre_gates_bounded := hPre_gates_bounded)
    ∧ quiescent_PromptReferenceIdeal (hPromptReferenceIdeal := hPromptReferenceIdeal)
    ∧ quiescent_PromptReferenceIdeal_pre_gates_bounded (hPromptReferenceIdeal := hPromptReferenceIdeal) (hPre_gates_bounded := hPre_gates_bounded)
    ∧ quiescent_Sample (hSample := hSample)
    ∧ quiescent_SampleIdeal (hSampleIdeal := hSampleIdeal)
    ∧ quiescent_SampleIdeal_pre_gates_bounded (hSampleIdeal := hSampleIdeal) (hPre_gates_bounded := hPre_gates_bounded)
    ∧ quiescent_SampleReferenceIdeal (hSampleReferenceIdeal := hSampleReferenceIdeal)
    ∧ quiescent_SampleReferenceIdeal_pre_gates_bounded (hSampleReferenceIdeal := hSampleReferenceIdeal) (hPre_gates_bounded := hPre_gates_bounded)
    ∧ quiescent_Experts (hExperts := hExperts) (hPre_tiles_in_range := hPre_tiles_in_range)
    ∧ quiescent_ExpertsIdeal (hExpertsIdeal := hExpertsIdeal) (hPre_tiles_in_range := hPre_tiles_in_range)
    ∧ quiescent_ExpertsReferenceIdeal (hExpertsReferenceIdeal := hExpertsReferenceIdeal)
    ∧ quiescent_ExpertsReferenceIdeal_pre_tiles_in_range (hExpertsReferenceIdeal := hExpertsReferenceIdeal) (hPre_tiles_in_range := hPre_tiles_in_range)
    ∧ quiescent_FirstExperts (hFirstExperts := hFirstExperts) (hPre_tiles_in_range := hPre_tiles_in_range)
    ∧ quiescent_FirstExpertsIdeal (hFirstExpertsIdeal := hFirstExpertsIdeal) (hPre_tiles_in_range := hPre_tiles_in_range)
    ∧ quiescent_FirstExpertsReferenceIdeal (hFirstExpertsReferenceIdeal := hFirstExpertsReferenceIdeal)
    ∧ quiescent_FirstExpertsReferenceIdeal_pre_tiles_in_range (hFirstExpertsReferenceIdeal := hFirstExpertsReferenceIdeal) (hPre_tiles_in_range := hPre_tiles_in_range)
    ∧ quiescent_Attention (hAttention := hAttention)
    ∧ quiescent_AttentionIdeal (hAttentionIdeal := hAttentionIdeal)
    ∧ quiescent_AttentionIdeal_pre_keys_finite (hAttentionIdeal := hAttentionIdeal) (hPre_keys_finite := hPre_keys_finite)
    ∧ quiescent_AttentionReferenceIdeal (hAttentionReferenceIdeal := hAttentionReferenceIdeal)
    ∧ quiescent_AttentionReferenceIdeal_pre_keys_finite (hAttentionReferenceIdeal := hAttentionReferenceIdeal) (hPre_keys_finite := hPre_keys_finite)
    ∧ quiescent_FirstCombine (hFirstCombine := hFirstCombine)
    ∧ quiescent_FirstCombineIdeal (hFirstCombineIdeal := hFirstCombineIdeal)
    ∧ quiescent_FirstCombineIdeal_pre_gates_bounded (hFirstCombineIdeal := hFirstCombineIdeal) (hPre_gates_bounded := hPre_gates_bounded)
    ∧ quiescent_FirstCombineReferenceIdeal (hFirstCombineReferenceIdeal := hFirstCombineReferenceIdeal)
    ∧ quiescent_FirstCombineReferenceIdeal_pre_gates_bounded (hFirstCombineReferenceIdeal := hFirstCombineReferenceIdeal) (hPre_gates_bounded := hPre_gates_bounded)
    ∧ preserves_Kernel_KernelIdeal
    ∧ algebraic_KernelIdeal_ReferenceIdeal (hKernelIdeal := hKernelIdeal) (hReferenceIdeal := hReferenceIdeal)
    ∧ preserves_Prompt_PromptIdeal
    ∧ algebraic_PromptIdeal_PromptReferenceIdeal_pre_gates_bounded (hPromptIdeal := hPromptIdeal) (hPromptReferenceIdeal := hPromptReferenceIdeal) (hPre_gates_bounded := hPre_gates_bounded)
    ∧ preserves_Sample_SampleIdeal
    ∧ algebraic_SampleIdeal_SampleReferenceIdeal_pre_gates_bounded (hSampleIdeal := hSampleIdeal) (hSampleReferenceIdeal := hSampleReferenceIdeal) (hPre_gates_bounded := hPre_gates_bounded)
    ∧ preserves_Experts_ExpertsIdeal
    ∧ algebraic_ExpertsIdeal_ExpertsReferenceIdeal_on_tiles_used (hExpertsIdeal := hExpertsIdeal) (hExpertsReferenceIdeal := hExpertsReferenceIdeal) (hPre_tiles_in_range := hPre_tiles_in_range) (hOn_tiles_used := hOn_tiles_used)
    ∧ preserves_FirstExperts_FirstExpertsIdeal
    ∧ algebraic_FirstExpertsIdeal_FirstExpertsReferenceIdeal_on_tiles_used (hFirstExpertsIdeal := hFirstExpertsIdeal) (hFirstExpertsReferenceIdeal := hFirstExpertsReferenceIdeal) (hPre_tiles_in_range := hPre_tiles_in_range) (hOn_tiles_used := hOn_tiles_used)
    ∧ preserves_Attention_AttentionIdeal
    ∧ algebraic_AttentionIdeal_AttentionReferenceIdeal_on_keys_values_pre_keys_finite (hAttentionIdeal := hAttentionIdeal) (hAttentionReferenceIdeal := hAttentionReferenceIdeal) (hPre_keys_finite := hPre_keys_finite) (hOn_keys_values := hOn_keys_values)
    ∧ preserves_FirstCombine_FirstCombineIdeal
    ∧ algebraic_FirstCombineIdeal_FirstCombineReferenceIdeal_pre_gates_bounded (hFirstCombineIdeal := hFirstCombineIdeal) (hFirstCombineReferenceIdeal := hFirstCombineReferenceIdeal) (hPre_gates_bounded := hPre_gates_bounded)
-- ==== On_keys_values.lean ====
abbrev S16384x768 : Shape := ⟨2, ![16384, 768]⟩
abbrev S64 : Shape := ⟨1, ![64]⟩
abbrev S8 : Shape := ⟨1, ![8]⟩
abbrev S16384x512 : Shape := ⟨2, ![16384, 512]⟩
abbrev S_ : Shape := ⟨0, ![]⟩
abbrev S32x256x128 : Shape := ⟨3, ![32, 256, 128]⟩

class Facts : Prop where
  bcast_S_S16384x512 : S_.BroadcastsInDim S16384x512 (![] : Fin 0 → Fin S16384x512.rank)
  bcast_S_S32x256x128 : S_.BroadcastsInDim S32x256x128 (![] : Fin 0 → Fin S32x256x128.rank)

variable [Facts]

def fn {F : FTy → Type} [FloatOps F] (main_arg0 : FVec F S16384x768 .f32) (main_arg1 : FVec F S64 .f32) (main_arg2 : FVec F S64 .f32) (main_arg3 : FVec F S8 .f32) (main_arg4 : FVec F S16384x512 .f32) : IVec S16384x512 1 × IVec S32x256x128 1 × IVec S32x256x128 1 :=
  let main_c : IVec S_ 1 := constantI S_ 1 0#1
  let main_v0 : IVec S16384x512 1 := broadcastInDim S16384x512 ![] bcast_S_S16384x512 main_c
  let main_c_0 : IVec S_ 1 := constantI S_ 1 1#1
  let main_v1 : IVec S32x256x128 1 := broadcastInDim S32x256x128 ![] bcast_S_S32x256x128 main_c_0
  let main_c_1 : IVec S_ 1 := constantI S_ 1 1#1
  let main_v2 : IVec S32x256x128 1 := broadcastInDim S32x256x128 ![] bcast_S_S32x256x128 main_c_1
  (main_v0, main_v1, main_v2)
-- ==== On_tiles_used.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S196608x1024 : Shape := ⟨2, ![196608, 1024]⟩
abbrev S_ : Shape := ⟨0, ![]⟩

class Facts : Prop where
  shapeCasts_S1_S_ : S1.ShapeCasts S_
  bcast_S_S196608x1024 : S_.BroadcastsInDim S196608x1024 (![] : Fin 0 → Fin S196608x1024.rank)

variable [Facts]

def fn {F : FTy → Type} [FloatOps F] (main_arg0 : IVec S196608x512 32) (main_arg1 : IVec S192 32) (main_arg2 : IVec S1 32) (main_arg3 : FVec F S2x64x1024x256 .f32) (main_arg4 : FVec F S2x64x1024x256 .f32) (main_arg5 : FVec F S2x64x256x1024 .f32) : IVec S196608x1024 1 :=
  let main_v0 : IVec S196608x1024 32 := iotaInDim S196608x1024 32 0
  let main_v1 : IVec S_ 32 := shapeCast S_ main_arg2 shapeCasts_S1_S_
  let main_c : IVec S_ 32 := constantI S_ 32 1024#32
  let main_v2 : IVec S_ 32 := muli main_v1 main_c
  let main_v3 : IVec S196608x1024 32 := broadcastInDim S196608x1024 ![] bcast_S_S196608x1024 main_v2
  let main_v4 : IVec S196608x1024 1 := cmpi .slt main_v0 main_v3
  main_v4
-- ==== Pre_gates_bounded.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S_ : Shape := ⟨0, ![]⟩

class Facts : Prop where
  bcast_S_S8x16384 : S_.BroadcastsInDim S8x16384 (![] : Fin 0 → Fin S8x16384.rank)

variable [Facts]

def fn {F : FTy → Type} [FloatOps F] (main_arg0 : FVec F S16384x1024 .bf16) (main_arg1 : IVec S131072x512 32) (main_arg2 : FVec F S8x16384 .f32) (main_arg3 : FVec F S2x1024x256 .f32) (main_arg4 : FVec F S2x1024x256 .f32) (main_arg5 : FVec F S2x256x1024 .f32) (main_arg6 : FVec F S16384x1024 .f32) (main_arg7 : FVec F S2x8x1x6144 .f32) : IVec S8x16384 1 :=
  let main_cst : FVec F S_ .f32 := constant S_ .f32 0x7F800000#32
  let main_v0 : FVec F S8x16384 .f32 := broadcastInDim S8x16384 ![] bcast_S_S8x16384 main_cst
  let main_v1 : IVec S8x16384 1 := cmpf .olt main_arg2 main_v0
  main_v1
-- ==== Pre_keys_finite.lean ====
abbrev S16384x768 : Shape := ⟨2, ![16384, 768]⟩
abbrev S64 : Shape := ⟨1, ![64]⟩
abbrev S8 : Shape := ⟨1, ![8]⟩
abbrev S16384x512 : Shape := ⟨2, ![16384, 512]⟩
abbrev S8192x128 : Shape := ⟨2, ![8192, 128]⟩
abbrev S_ : Shape := ⟨0, ![]⟩

class Facts : Prop where
  slices_S16384x768_S8192x128_0_512 : S16384x768.Slices ![0, 512] S8192x128
  bcast_S_S8192x128 : S_.BroadcastsInDim S8192x128 (![] : Fin 0 → Fin S8192x128.rank)

variable [Facts]

def fn {F : FTy → Type} [FloatOps F] (main_arg0 : FVec F S16384x768 .f32) (main_arg1 : FVec F S64 .f32) (main_arg2 : FVec F S64 .f32) (main_arg3 : FVec F S8 .f32) (main_arg4 : FVec F S16384x512 .f32) : IVec S8192x128 1 :=
  let main_v0 : FVec F S8192x128 .f32 := (extractStridedSlice S8192x128 ![0, 512] · slices_S16384x768_S8192x128_0_512) main_arg0
  let main_v1 : FVec F S8192x128 .f32 := Host.absf main_v0
  let main_cst : FVec F S_ .f32 := constant S_ .f32 0x7F800000#32
  let main_v2 : FVec F S8192x128 .f32 := broadcastInDim S8192x128 ![] bcast_S_S8192x128 main_cst
  let main_v3 : IVec S8192x128 1 := cmpf .olt main_v1 main_v2
  main_v3
-- ==== Pre_tiles_in_range.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S192 : S_.BroadcastsInDim S192 (![] : Fin 0 → Fin S192.rank)
  bcast_S_S1 : S_.BroadcastsInDim S1 (![] : Fin 0 → Fin S1.rank)
  bcast_S1_S192_0 : S1.BroadcastsInDim S192 (![0] : Fin 1 → Fin S192.rank)

variable [Facts]

def fn {F : FTy → Type} [FloatOps F] (main_arg0 : IVec S196608x512 32) (main_arg1 : IVec S192 32) (main_arg2 : IVec S1 32) (main_arg3 : FVec F S2x64x1024x256 .f32) (main_arg4 : FVec F S2x64x1024x256 .f32) (main_arg5 : FVec F S2x64x256x1024 .f32) : IVec S192 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 64#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S192 1 := broadcastInDim S192 ![0] bcast_S1_S192_0 main_v6
  let main_v8 : IVec S192 1 := andi main_v4 main_v7
  let main_c_2 : IVec S_ 32 := constantI S_ 32 192#32
  let main_v9 : IVec S1 32 := broadcastInDim S1 ![] bcast_S_S1 main_c_2
  let main_v10 : IVec S1 1 := cmpi .sle main_arg2 main_v9
  let main_v11 : IVec S192 1 := broadcastInDim S192 ![0] bcast_S1_S192_0 main_v10
  let main_v12 : IVec S192 1 := andi main_v8 main_v11
  main_v12
-- ==== Kernel.lean ====
abbrev S16384x5120 : Shape := ⟨2, ![16384, 5120]⟩
abbrev S2x1024 : Shape := ⟨2, ![2, 1024]⟩
abbrev S16384x1024 : Shape := ⟨2, ![16384, 1024]⟩
abbrev S64x128 : Shape := ⟨2, ![64, 128]⟩
abbrev S_ : Shape := ⟨0, ![]⟩
abbrev S32x8x128x128 : Shape := ⟨4, ![32, 8, 128, 128]⟩
abbrev S256x1024 : Shape := ⟨2, ![256, 1024]⟩
abbrev S1x8x128x128 : Shape := ⟨4, ![1, 8, 128, 128]⟩
abbrev S2x8x128x128 : Shape := ⟨4, ![2, 8, 128, 128]⟩
abbrev S1x1x128x128 : Shape := ⟨4, ![1, 1, 128, 128]⟩
abbrev S128x128 : Shape := ⟨2, ![128, 128]⟩
abbrev S1024 : Shape := ⟨1, ![1024]⟩
abbrev S1x1024 : Shape := ⟨2, ![1, 1024]⟩
abbrev S256x256 : Shape := ⟨2, ![256, 256]⟩
abbrev S64x1024 : Shape := ⟨2, ![64, 1024]⟩
abbrev S128x1024 : Shape := ⟨2, ![128, 1024]⟩
abbrev S256x128 : Shape := ⟨2, ![256, 128]⟩
abbrev S1x128 : Shape := ⟨2, ![1, 128]⟩

abbrev nBuf : Space → Nat
  | .hbm => 12
  | .vmem => 28
  | .smem => 0
  | _ => 0

abbrev bufTy : (tb : Table) → Fin (tcTables nBuf tb) → BufTy
  | .hbm, ⟨0, _⟩ => ⟨S16384x5120, .f32⟩
  | .hbm, ⟨1, _⟩ => ⟨S2x1024, .f32⟩
  | .hbm, ⟨2, _⟩ => ⟨S16384x1024, .f32⟩
  | .hbm, ⟨3, _⟩ => ⟨S16384x1024, .f32⟩
  | .hbm, ⟨4, _⟩ => ⟨S64x128, .bf16⟩
  | .hbm, ⟨5, _⟩ => ⟨S64x128, .bf16⟩
  | .hbm, ⟨6, _⟩ => ⟨S_, .f32⟩
  | .hbm, ⟨7, _⟩ => ⟨S32x8x128x128, .f32⟩
  | .hbm, ⟨8, _⟩ => ⟨S16384x1024, .f32⟩
  | .hbm, ⟨9, _⟩ => ⟨S16384x1024, .f32⟩
  | .hbm, ⟨10, _⟩ => ⟨S32x8x128x128, .f32⟩
  | .hbm, ⟨11, _⟩ => ⟨S32x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S2x1024, .f32⟩
  | .local _ .vmem, ⟨13, _⟩ => ⟨S1x8x128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S1x8x128x128, .f32⟩
  | .local _ .vmem, ⟨17, _⟩ => ⟨S64x128, .bf16⟩
  | .local _ .vmem, ⟨18, _⟩ => ⟨S64x128, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x8x128x128, .f32⟩
  | .local _ .vmem, ⟨24, _⟩ => ⟨S1x8x128x128, .f32⟩
  | .local _ .vmem, ⟨25, _⟩ => ⟨S1x8x128x128, .f32⟩
  | .local _ .vmem, ⟨26, _⟩ => ⟨S1x8x128x128, .f32⟩
  | .local _ .vmem, ⟨27, _⟩ => ⟨S2x8x128x128, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_473 : BitVec 32 := 0#32
  let v1271 : BitVec 1 := Scalar.cmpi .eq arg1 c0_i32_473
  let v1272 : BitVec 32 := Scalar.extui v1271
  let c0_i32_474 : BitVec 32 := 0#32
  let v1273 : BitVec 1 := Scalar.cmpi .ne v1272 c0_i32_474
  v1273

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.addi v1 c1_i32_0
  let c1_i32_1 : BitVec 32 := 1#32
  let v3 : BitVec 32 := Scalar.subi v2 c1_i32_1
  let v4 : BitVec 32 := Scalar.subi v3 arg1
  let c0_i32_2 : BitVec 32 := 0#32
  let c0_i32_3 : BitVec 32 := 0#32
  ![v4.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.addi v1 c1_i32_0
  let c1_i32_1 : BitVec 32 := 1#32
  let v3 : BitVec 32 := Scalar.subi v2 c1_i32_1
  let v4 : BitVec 32 := Scalar.subi v3 arg1
  let c2_i32 : BitVec 32 := 2#32
  let c0_i32_2 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.addi v1 c1_i32_0
  let c1_i32_1 : BitVec 32 := 1#32
  let v3 : BitVec 32 := Scalar.subi v2 c1_i32_1
  let v4 : BitVec 32 := Scalar.subi v3 arg1
  let c3_i32 : BitVec 32 := 3#32
  let c0_i32_2 : BitVec 32 := 0#32
  ![v4.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.addi v1 c1_i32_0
  let c1_i32_1 : BitVec 32 := 1#32
  let v3 : BitVec 32 := Scalar.subi v2 c1_i32_1
  let v4 : BitVec 32 := Scalar.subi v3 arg1
  let c0_i32_2 : BitVec 32 := 0#32
  let c0_i32_3 : BitVec 32 := 0#32
  ![v4.toNat, c0_i32_2.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S16384x5120 : Shape := ⟨2, ![16384, 5120]⟩
abbrev S2x1024 : Shape := ⟨2, ![2, 1024]⟩
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S8192x5120 : Shape := ⟨2, ![8192, 5120]⟩
abbrev S32x256x5120 : Shape := ⟨3, ![32, 256, 5120]⟩
abbrev S32x256x1024 : Shape := ⟨3, ![32, 256, 1024]⟩
abbrev S32x256x8x128 : Shape := ⟨4, ![32, 256, 8, 128]⟩
abbrev S32x8x128x128 : Shape := ⟨4, ![32, 8, 128, 128]⟩
abbrev S1x1x1024 : Shape := ⟨3, ![1, 1, 1024]⟩
abbrev S32x4x64x8x128 : Shape := ⟨5, ![32, 4, 64, 8, 128]⟩
abbrev S32x4x1x8x128 : Shape := ⟨5, ![32, 4, 1, 8, 128]⟩
abbrev S64x64 : Shape := ⟨2, ![64, 64]⟩
abbrev S32x4x8x64x64 : Shape := ⟨5, ![32, 4, 8, 64, 64]⟩
abbrev S32x4x8x128x64 : Shape := ⟨5, ![32, 4, 8, 128, 64]⟩
abbrev S32x4x8x128x128 : Shape := ⟨5, ![32, 4, 8, 128, 128]⟩
abbrev S32x4x8x128 : Shape := ⟨4, ![32, 4, 8, 128]⟩
abbrev S32x1x8x128 : Shape := ⟨4, ![32, 1, 8, 128]⟩
abbrev S32x8x128 : Shape := ⟨3, ![32, 8, 128]⟩
abbrev S32x8x128x1 : Shape := ⟨4, ![32, 8, 128, 1]⟩
abbrev S32x1x8x128x128 : Shape := ⟨5, ![32, 1, 8, 128, 128]⟩
abbrev S8192x1024 : Shape := ⟨2, ![8192, 1024]⟩

abbrev nBuf : Space → Nat
  | .hbm => 265
  | .vmem => 0
  | .smem => 0
  | _ => 0

abbrev hbmTy0_0 (i : Nat) : BufTy := match i % 128 with
  | 0 => ⟨S16384x5120, .f32⟩
  | 1 => ⟨S2x1024, .f32⟩
  | 2 => ⟨S16384x1024, .f32⟩
  | 3 => ⟨S16384x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S1x1024, .f32⟩
  | 24 => ⟨S2x1024, .f32⟩
  | 25 => ⟨S2x1024, .f32⟩
  | 26 => ⟨S1x1024, .f32⟩
  | 27 => ⟨S1024, .f32⟩
  | 28 => ⟨S8192x5120, .f32⟩
  | 29 => ⟨S32x256x5120, .f32⟩
  | 30 => ⟨S32x256x1024, .f32⟩
  | 31 => ⟨S32x256x1024, .f32⟩
  | 32 => ⟨S32x256x1024, .f32⟩
  | 33 => ⟨S32x256x1024, .f32⟩
  | 34 => ⟨S32x256x1024, .f32⟩
  | 35 => ⟨S32x256x1024, .f32⟩
  | 36 => ⟨S32x256x1024, .f32⟩
  | 37 => ⟨S_, .f32⟩
  | 38 => ⟨S32x256x1024, .f32⟩
  | 39 => ⟨S32x256x1024, .f32⟩
  | 40 => ⟨S_, .f32⟩
  | 41 => ⟨S32x256x1024, .f32⟩
  | 42 => ⟨S32x256x1024, .f32⟩
  | 43 => ⟨S32x256x1024, .f32⟩
  | 44 => ⟨S32x256x8x128, .f32⟩
  | 45 => ⟨S32x256x8x128, .f32⟩
  | 46 => ⟨S_, .f32⟩
  | 47 => ⟨S32x8x128x128, .f32⟩
  | 48 => ⟨S_, .f32⟩
  | 49 => ⟨S1024, .f32⟩
  | 50 => ⟨S1024, .f32⟩
  | 51 => ⟨S32x256x1024, .f32⟩
  | 52 => ⟨S32x256x1024, .f32⟩
  | 53 => ⟨S_, .f32⟩
  | 54 => ⟨S32x256x1024, .f32⟩
  | 55 => ⟨S32x256x1024, .f32⟩
  | 56 => ⟨S_, .f32⟩
  | 57 => ⟨S32x256x1024, .f32⟩
  | 58 => ⟨S32x256x1024, .f32⟩
  | 59 => ⟨S1x1x1024, .f32⟩
  | 60 => ⟨S32x256x1024, .f32⟩
  | 61 => ⟨S32x256x1024, .f32⟩
  | 62 => ⟨S1x1x1024, .f32⟩
  | 63 => ⟨S32x256x1024, .f32⟩
  | 64 => ⟨S32x256x1024, .f32⟩
  | 65 => ⟨S_, .f32⟩
  | 66 => ⟨S32x256x1024, .f32⟩
  | 67 => ⟨S32x256x1024, .f32⟩
  | 68 => ⟨S32x256x8x128, .f32⟩
  | 69 => ⟨S32x256x1024, .f32⟩
  | 70 => ⟨S32x256x8x128, .f32⟩
  | 71 => ⟨S32x4x64x8x128, .f32⟩
  | 72 => ⟨S32x4x64x8x128, .f32⟩
  | 73 => ⟨S32x4x64x8x128, .f32⟩
  | 74 => ⟨S32x4x64x8x128, .f32⟩
  | 75 => ⟨S_, .f32⟩
  | 76 => ⟨S_, .f32⟩
  | 77 => ⟨S32x4x64x8x128, .f32⟩
  | 78 => ⟨S32x4x1x8x128, .f32⟩
  | 79 => ⟨S32x4x64x8x128, .f32⟩
  | 80 => ⟨S32x4x64x8x128, .f32⟩
  | 81 => ⟨S32x4x64x8x128, .f32⟩
  | 82 => ⟨S32x4x64x8x128, .f32⟩
  | 83 => ⟨S32x4x64x8x128, .f32⟩
  | 84 => ⟨S32x4x64x8x128, .f32⟩
  | 85 => ⟨S32x4x64x8x128, .f32⟩
  | 86 => ⟨S32x4x64x8x128, .f32⟩
  | 87 => ⟨S32x4x64x8x128, .f32⟩
  | 88 => ⟨S_, .i1⟩
  | 89 => ⟨S64x64, .i1⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .i1⟩
  | 97 => ⟨S64x64, .i1⟩
  | 98 => ⟨S64x64, .i1⟩
  | 99 => ⟨S32x4x8x64x64, .f32⟩
  | 100 => ⟨S_, .f32⟩
  | 101 => ⟨S_, .f32⟩
  | 102 => ⟨S32x4x8x64x64, .i1⟩
  | 103 => ⟨S32x4x8x64x64, .f32⟩
  | 104 => ⟨S32x4x8x64x64, .f32⟩
  | 105 => ⟨S32x4x8x128x64, .f32⟩
  | 106 => ⟨S32x4x64x8x128, .f32⟩
  | 107 => ⟨S32x4x8x128x128, .f32⟩
  | 108 => ⟨S32x4x8x128, .f32⟩
  | 109 => ⟨S32x4x8x128, .f32⟩
  | 110 => ⟨S32x1x8x128, .f32⟩
  | 111 => ⟨S32x8x128, .f32⟩
  | 112 => ⟨S32x8x128x1, .f32⟩
  | 113 => ⟨S32x8x128x128, .f32⟩
  | 114 => ⟨S32x8x128x128, .f32⟩
  | 115 => ⟨S32x1x8x128x128, .f32⟩
  | 116 => ⟨S32x8x128x128, .f32⟩
  | 117 => ⟨S32x8x128x128, .f32⟩
  | 118 => ⟨S32x1x8x128, .f32⟩
  | 119 => ⟨S32x8x128, .f32⟩
  | 120 => ⟨S32x8x128x1, .f32⟩
  | 121 => ⟨S32x8x128x128, .f32⟩
  | 122 => ⟨S32x8x128x128, .f32⟩
  | 123 => ⟨S32x1x8x128x128, .f32⟩
  | 124 => ⟨S32x8x128x128, .f32⟩
  | 125 => ⟨S32x8x128x128, .f32⟩
  | 126 => ⟨S32x1x8x128, .f32⟩
  | 127 => ⟨S32x8x128, .f32⟩
  | _ => ⟨S16384x5120, .f32⟩

abbrev hbmTy0_1 (i : Nat) : BufTy := match i % 128 with
  | 0 => ⟨S32x8x128x1, .f32⟩
  | 1 => ⟨S32x8x128x128, .f32⟩
  | 2 => ⟨S32x8x128x128, .f32⟩
  | 3 => ⟨S32x1x8x128x128, .f32⟩
  | 4 => ⟨S32x8x128x128, .f32⟩
  | 5 => ⟨S32x8x128x128, .f32⟩
  | 6 => ⟨S32x1x8x128, .f32⟩
  | 7 => ⟨S32x8x128, .f32⟩
  | 8 => ⟨S32x8x128x1, .f32⟩
  | 9 => ⟨S32x8x128x128, .f32⟩
  | 10 => ⟨S32x8x128x128, .f32⟩
  | 11 => ⟨S32x1x8x128x128, .f32⟩
  | 12 => ⟨S32x8x128x128, .f32⟩
  | 13 => ⟨S32x8x128x128, .f32⟩
  | 14 => ⟨S32x1x8x128x128, .f32⟩
  | 15 => ⟨S32x1x8x128x128, .f32⟩
  | 16 => ⟨S32x1x8x128x128, .f32⟩
  | 17 => ⟨S32x1x8x128x128, .f32⟩
  | 18 => ⟨S32x4x8x128x128, .f32⟩
  | 19 => ⟨S32x4x8x128x64, .f32⟩
  | 20 => ⟨S32x4x64x8x128, .f32⟩
  | 21 => ⟨S32x4x64x8x128, .f32⟩
  | 22 => ⟨S32x256x8x128, .f32⟩
  | 23 => ⟨S8192x1024, .f32⟩
  | 24 => ⟨S8192x1024, .f32⟩
  | 25 => ⟨S16384x1024, .f32⟩
  | 26 => ⟨S_, .f32⟩
  | 27 => ⟨S1024, .f32⟩
  | 28 => ⟨S1024, .f32⟩
  | 29 => ⟨S32x256x1024, .f32⟩
  | 30 => ⟨S32x256x1024, .f32⟩
  | 31 => ⟨S_, .f32⟩
  | 32 => ⟨S32x256x1024, .f32⟩
  | 33 => ⟨S32x256x1024, .f32⟩
  | 34 => ⟨S_, .f32⟩
  | 35 => ⟨S32x256x1024, .f32⟩
  | 36 => ⟨S32x256x1024, .f32⟩
  | 37 => ⟨S1x1x1024, .f32⟩
  | 38 => ⟨S32x256x1024, .f32⟩
  | 39 => ⟨S32x256x1024, .f32⟩
  | 40 => ⟨S1x1x1024, .f32⟩
  | 41 => ⟨S32x256x1024, .f32⟩
  | 42 => ⟨S32x256x1024, .f32⟩
  | 43 => ⟨S_, .f32⟩
  | 44 => ⟨S32x256x1024, .f32⟩
  | 45 => ⟨S32x256x1024, .f32⟩
  | 46 => ⟨S32x256x8x128, .f32⟩
  | 47 => ⟨S32x256x1024, .f32⟩
  | 48 => ⟨S32x256x8x128, .f32⟩
  | 49 => ⟨S32x256x8x128, .f32⟩
  | 50 => ⟨S32x256x8x128, .f32⟩
  | 51 => ⟨S32x256x8x128, .f32⟩
  | 52 => ⟨S32x256x8x128, .f32⟩
  | 53 => ⟨S32x4x64x8x128, .f32⟩
  | 54 => ⟨S32x4x64x8x128, .f32⟩
  | 55 => ⟨S32x4x64x8x128, .f32⟩
  | 56 => ⟨S32x4x64x8x128, .f32⟩
  | 57 => ⟨S_, .f32⟩
  | 58 => ⟨S_, .f32⟩
  | 59 => ⟨S32x4x64x8x128, .f32⟩
  | 60 => ⟨S32x4x1x8x128, .f32⟩
  | 61 => ⟨S32x4x64x8x128, .f32⟩
  | 62 => ⟨S32x4x64x8x128, .f32⟩
  | 63 => ⟨S32x4x64x8x128, .f32⟩
  | 64 => ⟨S32x4x64x8x128, .f32⟩
  | 65 => ⟨S32x4x64x8x128, .f32⟩
  | 66 => ⟨S32x4x64x8x128, .f32⟩
  | 67 => ⟨S32x4x64x8x128, .f32⟩
  | 68 => ⟨S32x4x64x8x128, .f32⟩
  | 69 => ⟨S32x4x64x8x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S32x4x8x64x64, .f32⟩
  | 82 => ⟨S_, .f32⟩
  | 83 => ⟨S_, .f32⟩
  | 84 => ⟨S32x4x8x64x64, .i1⟩
  | 85 => ⟨S32x4x8x64x64, .f32⟩
  | 86 => ⟨S32x4x8x64x64, .f32⟩
  | 87 => ⟨S32x4x8x128x64, .f32⟩
  | 88 => ⟨S32x4x64x8x128, .f32⟩
  | 89 => ⟨S32x4x8x128x128, .f32⟩
  | 90 => ⟨S32x4x8x128, .f32⟩
  | 91 => ⟨S32x4x8x128, .f32⟩
  | 92 => ⟨S32x1x8x128, .f32⟩
  | 93 => ⟨S32x8x128, .f32⟩
  | 94 => ⟨S32x8x128x1, .f32⟩
  | 95 => ⟨S32x8x128x128, .f32⟩
  | 96 => ⟨S32x8x128x128, .f32⟩
  | 97 => ⟨S32x1x8x128x128, .f32⟩
  | 98 => ⟨S32x8x128x128, .f32⟩
  | 99 => ⟨S32x8x128x128, .f32⟩
  | 100 => ⟨S32x1x8x128, .f32⟩
  | 101 => ⟨S32x8x128, .f32⟩
  | 102 => ⟨S32x8x128x1, .f32⟩
  | 103 => ⟨S32x8x128x128, .f32⟩
  | 104 => ⟨S32x8x128x128, .f32⟩
  | 105 => ⟨S32x1x8x128x128, .f32⟩
  | 106 => ⟨S32x8x128x128, .f32⟩
  | 107 => ⟨S32x8x128x128, .f32⟩
  | 108 => ⟨S32x1x8x128, .f32⟩
  | 109 => ⟨S32x8x128, .f32⟩
  | 110 => ⟨S32x8x128x1, .f32⟩
  | 111 => ⟨S32x8x128x128, .f32⟩
  | 112 => ⟨S32x8x128x128, .f32⟩
  | 113 => ⟨S32x1x8x128x128, .f32⟩
  | 114 => ⟨S32x8x128x128, .f32⟩
  | 115 => ⟨S32x8x128x128, .f32⟩
  | 116 => ⟨S32x1x8x128, .f32⟩
  | 117 => ⟨S32x8x128, .f32⟩
  | 118 => ⟨S32x8x128x1, .f32⟩
  | 119 => ⟨S32x8x128x128, .f32⟩
  | 120 => ⟨S32x8x128x128, .f32⟩
  | 121 => ⟨S32x1x8x128x128, .f32⟩
  | 122 => ⟨S32x8x128x128, .f32⟩
  | 123 => ⟨S32x8x128x128, .f32⟩
  | 124 => ⟨S32x1x8x128x128, .f32⟩
  | 125 => ⟨S32x1x8x128x128, .f32⟩
  | 126 => ⟨S32x1x8x128x128, .f32⟩
  | 127 => ⟨S32x1x8x128x128, .f32⟩
  | _ => ⟨S16384x5120, .f32⟩

abbrev hbmTy0_2 (i : Nat) : BufTy := match i % 128 with
  | 0 => ⟨S32x4x8x128x128, .f32⟩
  | 1 => ⟨S32x4x8x128x64, .f32⟩
  | 2 => ⟨S32x4x64x8x128, .f32⟩
  | 3 => ⟨S32x4x64x8x128, .f32⟩
  | 4 => ⟨S32x256x8x128, .f32⟩
  | 5 => ⟨S32x256x8x128, .f32⟩
  | 6 => ⟨S8192x1024, .f32⟩
  | 7 => ⟨S8192x1024, .f32⟩
  | 8 => ⟨S16384x1024, .f32⟩
  | _ => ⟨S16384x5120, .f32⟩

abbrev hbmTy (i : Nat) : BufTy := match i / 128 with
  | 0 => hbmTy0_0 i
  | 1 => hbmTy0_1 i
  | 2 => hbmTy0_2 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_call0_cst : Ref sig .tc := ⟨.hbm, 75, rfl⟩
abbrev main_call2_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_0 : Ref sig .tc := ⟨.hbm, 96, rfl⟩
abbrev main_call3_v5 : Ref sig .tc := ⟨.hbm, 97, rfl⟩
abbrev main_v65 : Ref sig .tc := ⟨.hbm, 98, rfl⟩
abbrev main_v66 : Ref sig .tc := ⟨.hbm, 99, rfl⟩
abbrev main_cst_7 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_8 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_9 : Ref sig .tc := ⟨.hbm, 159, rfl⟩
abbrev main_v121 : Ref sig .tc := ⟨.hbm, 160, rfl⟩
abbrev main_v122 : Ref sig .tc := ⟨.hbm, 161, rfl⟩
abbrev main_cst_10 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_11 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_call5_call0_cst : Ref sig .tc := ⟨.hbm, 185, rfl⟩
abbrev main_call5_call0_v0 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_c_12 : Ref sig .tc := ⟨.hbm, 198, rfl⟩
abbrev main_v155 : Ref sig .tc := ⟨.hbm, 199, rfl⟩
abbrev main_call6_v0 : Ref sig .tc := ⟨.hbm, 200, rfl⟩
abbrev main_call6_c : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_c_0 : Ref sig .tc := ⟨.hbm, 206, rfl⟩
abbrev main_call6_v5 : Ref sig .tc := ⟨.hbm, 207, rfl⟩
abbrev main_v156 : Ref sig .tc := ⟨.hbm, 208, rfl⟩
abbrev main_v157 : Ref sig .tc := ⟨.hbm, 209, rfl⟩
abbrev main_cst_13 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩

abbrev nD : Nat := 1
abbrev τ : Topo := Topo.v7x

variable {F : FTy → Type} [FloatOps F]
-- ==== Prompt.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x8 : Shape := ⟨2, ![8, 8]⟩
abbrev S_ : Shape := ⟨0, ![]⟩
abbrev S8192x1024 : Shape := ⟨2, ![8192, 1024]⟩
abbrev S512x1024 : Shape := ⟨2, ![512, 1024]⟩
abbrev S512x512 : Shape := ⟨2, ![512, 512]⟩
abbrev S8x512 : Shape := ⟨2, ![8, 512]⟩
abbrev S1x1x1x1024 : Shape := ⟨4, ![1, 1, 1, 1024]⟩
abbrev S512x256 : Shape := ⟨2, ![512, 256]⟩
abbrev S512x8 : Shape := ⟨2, ![512, 8]⟩
abbrev S512x1 : Shape := ⟨2, ![512, 1]⟩
abbrev S1x1024 : Shape := ⟨2, ![1, 1024]⟩

abbrev nBuf : Space → Nat
  | .hbm => 25
  | .vmem => 30
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S1x1024x256, .f32⟩
  | .hbm, ⟨9, _⟩ => ⟨S1024x256, .f32⟩
  | .hbm, ⟨10, _⟩ => ⟨S1024x256, .bf16⟩
  | .hbm, ⟨11, _⟩ => ⟨S1x1024x256, .f32⟩
  | .hbm, ⟨12, _⟩ => ⟨S1024x256, .f32⟩
  | .hbm, ⟨13, _⟩ => ⟨S1024x256, .bf16⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .bf16⟩
  | .hbm, ⟨24, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x512, .i32⟩
  | .local _ .vmem, ⟨9, _⟩ => ⟨S512x512, .i32⟩
  | .local _ .vmem, ⟨10, _⟩ => ⟨S512x512, .i32⟩
  | .local _ .vmem, ⟨11, _⟩ => ⟨S512x512, .i32⟩
  | .local _ .vmem, ⟨12, _⟩ => ⟨S512x512, .i32⟩
  | .local _ .vmem, ⟨13, _⟩ => ⟨S512x512, .i32⟩
  | .local _ .vmem, ⟨14, _⟩ => ⟨S512x512, .i32⟩
  | .local _ .vmem, ⟨15, _⟩ => ⟨S512x512, .i32⟩
  | .local _ .vmem, ⟨16, _⟩ => ⟨S512x512, .i32⟩
  | .local _ .vmem, ⟨17, _⟩ => ⟨S512x512, .i32⟩
  | .local _ .vmem, ⟨18, _⟩ => ⟨S8x512, .f32⟩
  | .local _ .vmem, ⟨19, _⟩ => ⟨S8x512, .f32⟩
  | .local _ .vmem, ⟨20, _⟩ => ⟨S8x8, .bf16⟩
  | .local _ .vmem, ⟨21, _⟩ => ⟨S1024x256, .bf16⟩
  | .local _ .vmem, ⟨22, _⟩ => ⟨S1024x256, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | .local _ .vmem, ⟨26, _⟩ => ⟨S1x1x1x1024, .f32⟩
  | .local _ .vmem, ⟨27, _⟩ => ⟨S1x1x1x1024, .f32⟩
  | .local _ .vmem, ⟨28, _⟩ => ⟨S512x1024, .f32⟩
  | .local _ .vmem, ⟨29, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_15 (i : grid0.Coords) : Fin 4 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c1_i32_8 : BitVec 32 := 1#32
  let c0_i32_9 : BitVec 32 := 0#32
  let c5_i32 : BitVec 32 := 5#32
  let c0_i32_10 : BitVec 32 := 0#32
  ![c1_i32_8.toNat, v21.toNat, c0_i32_9.toNat, c5_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PromptReferenceIdeal.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S8192x1024 : Shape := ⟨2, ![8192, 1024]⟩
abbrev S_ : Shape := ⟨0, ![]⟩
abbrev S131072x1024 : Shape := ⟨2, ![131072, 1024]⟩
abbrev S8x16384x1024 : Shape := ⟨3, ![8, 16384, 1024]⟩
abbrev S8x8192x1024 : Shape := ⟨3, ![8, 8192, 1024]⟩
abbrev S8x8192 : Shape := ⟨2, ![8, 8192]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x8192x1 : Shape := ⟨3, ![8, 8192, 1]⟩
abbrev S8192x256 : Shape := ⟨2, ![8192, 256]⟩
abbrev S1x1x1x1024 : Shape := ⟨4, ![1, 1, 1, 1024]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S8192x1024, .bf16⟩
  | .hbm, ⟨9, _⟩ => ⟨S8192x1024, .f32⟩
  | .hbm, ⟨10, _⟩ => ⟨S_, .i32⟩
  | .hbm, ⟨11, _⟩ => ⟨S131072x512, .i32⟩
  | .hbm, ⟨12, _⟩ => ⟨S131072x512, .i32⟩
  | .hbm, ⟨13, _⟩ => ⟨S131072x512, .f32⟩
  | .hbm, ⟨14, _⟩ => ⟨S_, .i32⟩
  | .hbm, ⟨15, _⟩ => ⟨S131072x512, .i32⟩
  | .hbm, ⟨16, _⟩ => ⟨S131072x512, .i32⟩
  | .hbm, ⟨17, _⟩ => ⟨S131072x512, .f32⟩
  | .hbm, ⟨18, _⟩ => ⟨S131072x1024, .f32⟩
  | .hbm, ⟨19, _⟩ => ⟨S8x16384x1024, .f32⟩
  | .hbm, ⟨20, _⟩ => ⟨S8x8192x1024, .f32⟩
  | .hbm, ⟨21, _⟩ => ⟨S8x8192, .f32⟩
  | .hbm, ⟨22, _⟩ => ⟨S1x1024x256, .f32⟩
  | .hbm, ⟨23, _⟩ => ⟨S1024x256, .f32⟩
  | .hbm, ⟨24, _⟩ => ⟨S1x1024x256, .f32⟩
  | .hbm, ⟨25, _⟩ => ⟨S1024x256, .f32⟩
  | .hbm, ⟨26, _⟩ => ⟨S1x256x1024, .f32⟩
  | .hbm, ⟨27, _⟩ => ⟨S256x1024, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8192x1024, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x1024, .f32⟩
  | .hbm, ⟨46, _⟩ => ⟨S8192x1024, .f32⟩
  | .hbm, ⟨47, _⟩ => ⟨S1x1x1x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Sample.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x8 : Shape := ⟨2, ![8, 8]⟩
abbrev S_ : Shape := ⟨0, ![]⟩
abbrev S8192x1024 : Shape := ⟨2, ![8192, 1024]⟩
abbrev S512x1024 : Shape := ⟨2, ![512, 1024]⟩
abbrev S512x512 : Shape := ⟨2, ![512, 512]⟩
abbrev S8x512 : Shape := ⟨2, ![8, 512]⟩
abbrev S1x1x1x1024 : Shape := ⟨4, ![1, 1, 1, 1024]⟩
abbrev S512x256 : Shape := ⟨2, ![512, 256]⟩
abbrev S512x8 : Shape := ⟨2, ![512, 8]⟩
abbrev S512x1 : Shape := ⟨2, ![512, 1]⟩
abbrev S1x1024 : Shape := ⟨2, ![1, 1024]⟩

abbrev nBuf : Space → Nat
  | .hbm => 25
  | .vmem => 30
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S1x1024x256, .f32⟩
  | .hbm, ⟨9, _⟩ => ⟨S1024x256, .f32⟩
  | .hbm, ⟨10, _⟩ => ⟨S1024x256, .bf16⟩
  | .hbm, ⟨11, _⟩ => ⟨S1x1024x256, .f32⟩
  | .hbm, ⟨12, _⟩ => ⟨S1024x256, .f32⟩
  | .hbm, ⟨13, _⟩ => ⟨S1024x256, .bf16⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .bf16⟩
  | .hbm, ⟨24, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x512, .i32⟩
  | .local _ .vmem, ⟨9, _⟩ => ⟨S512x512, .i32⟩
  | .local _ .vmem, ⟨10, _⟩ => ⟨S512x512, .i32⟩
  | .local _ .vmem, ⟨11, _⟩ => ⟨S512x512, .i32⟩
  | .local _ .vmem, ⟨12, _⟩ => ⟨S512x512, .i32⟩
  | .local _ .vmem, ⟨13, _⟩ => ⟨S512x512, .i32⟩
  | .local _ .vmem, ⟨14, _⟩ => ⟨S512x512, .i32⟩
  | .local _ .vmem, ⟨15, _⟩ => ⟨S512x512, .i32⟩
  | .local _ .vmem, ⟨16, _⟩ => ⟨S512x512, .i32⟩
  | .local _ .vmem, ⟨17, _⟩ => ⟨S512x512, .i32⟩
  | .local _ .vmem, ⟨18, _⟩ => ⟨S8x512, .f32⟩
  | .local _ .vmem, ⟨19, _⟩ => ⟨S8x512, .f32⟩
  | .local _ .vmem, ⟨20, _⟩ => ⟨S8x8, .bf16⟩
  | .local _ .vmem, ⟨21, _⟩ => ⟨S1024x256, .bf16⟩
  | .local _ .vmem, ⟨22, _⟩ => ⟨S1024x256, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | .local _ .vmem, ⟨26, _⟩ => ⟨S1x1x1x1024, .f32⟩
  | .local _ .vmem, ⟨27, _⟩ => ⟨S1x1x1x1024, .f32⟩
  | .local _ .vmem, ⟨28, _⟩ => ⟨S512x1024, .f32⟩
  | .local _ .vmem, ⟨29, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c144_i32 : BitVec 32 := 144#32
  let v0 : BitVec 32 := Scalar.addi c144_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c176_i32 : BitVec 32 := 176#32
  let v0 : BitVec 32 := Scalar.addi c176_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c208_i32 : BitVec 32 := 208#32
  let v0 : BitVec 32 := Scalar.addi c208_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c240_i32 : BitVec 32 := 240#32
  let v0 : BitVec 32 := Scalar.addi c240_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_15 (i : grid0.Coords) : Fin 4 → Nat :=
  let arg0 : BitVec 32 := BitVec.ofNat 32 (i 0).val
  let c16_i32 : BitVec 32 := 16#32
  let v0 : BitVec 32 := Scalar.addi arg0 c16_i32
  let c16_i32_0 : BitVec 32 := 16#32
  let v1 : BitVec 1 := Scalar.cmpi .slt v0 c16_i32_0
  let c16_i32_1 : BitVec 32 := 16#32
  let v2 : BitVec 32 := Scalar.subi v0 c16_i32_1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c1_i32_8 : BitVec 32 := 1#32
  let c0_i32_9 : BitVec 32 := 0#32
  let c5_i32 : BitVec 32 := 5#32
  let c0_i32_10 : BitVec 32 := 0#32
  ![c1_i32_8.toNat, v21.toNat, c0_i32_9.toNat, c5_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SampleReferenceIdeal.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S8192x1024 : Shape := ⟨2, ![8192, 1024]⟩
abbrev S_ : Shape := ⟨0, ![]⟩
abbrev S131072x1024 : Shape := ⟨2, ![131072, 1024]⟩
abbrev S8x16384x1024 : Shape := ⟨3, ![8, 16384, 1024]⟩
abbrev S8x8192x1024 : Shape := ⟨3, ![8, 8192, 1024]⟩
abbrev S8x8192 : Shape := ⟨2, ![8, 8192]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x8192x1 : Shape := ⟨3, ![8, 8192, 1]⟩
abbrev S8192x256 : Shape := ⟨2, ![8192, 256]⟩
abbrev S4x2048x1024 : Shape := ⟨3, ![4, 2048, 1024]⟩
abbrev S1x4x1x1024 : Shape := ⟨4, ![1, 4, 1, 1024]⟩
abbrev S4x1x1024 : Shape := ⟨3, ![4, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S8192x1024, .bf16⟩
  | .hbm, ⟨9, _⟩ => ⟨S8192x1024, .f32⟩
  | .hbm, ⟨10, _⟩ => ⟨S_, .i32⟩
  | .hbm, ⟨11, _⟩ => ⟨S131072x512, .i32⟩
  | .hbm, ⟨12, _⟩ => ⟨S131072x512, .i32⟩
  | .hbm, ⟨13, _⟩ => ⟨S131072x512, .f32⟩
  | .hbm, ⟨14, _⟩ => ⟨S_, .i32⟩
  | .hbm, ⟨15, _⟩ => ⟨S131072x512, .i32⟩
  | .hbm, ⟨16, _⟩ => ⟨S131072x512, .i32⟩
  | .hbm, ⟨17, _⟩ => ⟨S131072x512, .f32⟩
  | .hbm, ⟨18, _⟩ => ⟨S131072x1024, .f32⟩
  | .hbm, ⟨19, _⟩ => ⟨S8x16384x1024, .f32⟩
  | .hbm, ⟨20, _⟩ => ⟨S8x8192x1024, .f32⟩
  | .hbm, ⟨21, _⟩ => ⟨S8x8192, .f32⟩
  | .hbm, ⟨22, _⟩ => ⟨S1x1024x256, .f32⟩
  | .hbm, ⟨23, _⟩ => ⟨S1024x256, .f32⟩
  | .hbm, ⟨24, _⟩ => ⟨S1x1024x256, .f32⟩
  | .hbm, ⟨25, _⟩ => ⟨S1024x256, .f32⟩
  | .hbm, ⟨26, _⟩ => ⟨S1x256x1024, .f32⟩
  | .hbm, ⟨27, _⟩ => ⟨S256x1024, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8192x1024, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S4x2048x1024, .f32⟩
  | .hbm, ⟨49, _⟩ => ⟨S1x4x1x1024, .f32⟩
  | .hbm, ⟨50, _⟩ => ⟨S4x1x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S8192x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Experts.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S196608x1024 : Shape := ⟨2, ![196608, 1024]⟩
abbrev S1024x512 : Shape := ⟨2, ![1024, 512]⟩
abbrev S1x1x1024x256 : Shape := ⟨4, ![1, 1, 1024, 256]⟩
abbrev S1x1x256x1024 : Shape := ⟨4, ![1, 1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 13
  | .smem => 2
  | _ => 0

abbrev bufTy : (tb : Table) → Fin (tcTables nBuf tb) → BufTy
  | .hbm, ⟨0, _⟩ => ⟨S196608x512, .i32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S196608x1024, .bf16⟩
  | .local _ .vmem, ⟨0, _⟩ => ⟨S1024x512, .i32⟩
  | .local _ .vmem, ⟨1, _⟩ => ⟨S1024x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S192, .i32⟩
  | .local _ .smem, ⟨1, _⟩ => ⟨S1, .i32⟩
  | _, _ => ⟨S196608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S1x64x1024x256 : Shape := ⟨4, ![1, 64, 1024, 256]⟩
abbrev S64x1024x256 : Shape := ⟨3, ![64, 1024, 256]⟩
abbrev S1x64x256x1024 : Shape := ⟨4, ![1, 64, 256, 1024]⟩
abbrev S64x256x1024 : Shape := ⟨3, ![64, 256, 1024]⟩
abbrev S_ : Shape := ⟨0, ![]⟩
abbrev S196608x1024 : Shape := ⟨2, ![196608, 1024]⟩
abbrev S192x1024x1024 : Shape := ⟨3, ![192, 1024, 1024]⟩
abbrev S192x1 : Shape := ⟨2, ![192, 1]⟩
abbrev S192x1024x256 : Shape := ⟨3, ![192, 1024, 256]⟩
abbrev S192x256x1024 : Shape := ⟨3, ![192, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S196608x512, .i32⟩
  | .hbm, ⟨1, _⟩ => ⟨S192, .i32⟩
  | .hbm, ⟨2, _⟩ => ⟨S1, .i32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S1x64x1024x256, .f32⟩
  | .hbm, ⟨7, _⟩ => ⟨S64x1024x256, .f32⟩
  | .hbm, ⟨8, _⟩ => ⟨S1x64x1024x256, .f32⟩
  | .hbm, ⟨9, _⟩ => ⟨S64x1024x256, .f32⟩
  | .hbm, ⟨10, _⟩ => ⟨S1x64x256x1024, .f32⟩
  | .hbm, ⟨11, _⟩ => ⟨S64x256x1024, .f32⟩
  | .hbm, ⟨12, _⟩ => ⟨S_, .i32⟩
  | .hbm, ⟨13, _⟩ => ⟨S196608x512, .i32⟩
  | .hbm, ⟨14, _⟩ => ⟨S196608x512, .i32⟩
  | .hbm, ⟨15, _⟩ => ⟨S196608x512, .f32⟩
  | .hbm, ⟨16, _⟩ => ⟨S_, .i32⟩
  | .hbm, ⟨17, _⟩ => ⟨S196608x512, .i32⟩
  | .hbm, ⟨18, _⟩ => ⟨S196608x512, .i32⟩
  | .hbm, ⟨19, _⟩ => ⟨S196608x512, .f32⟩
  | .hbm, ⟨20, _⟩ => ⟨S196608x1024, .f32⟩
  | .hbm, ⟨21, _⟩ => ⟨S192x1024x1024, .f32⟩
  | .hbm, ⟨22, _⟩ => ⟨S192x1, .i32⟩
  | .hbm, ⟨23, _⟩ => ⟨S192x1024x256, .f32⟩
  | .hbm, ⟨24, _⟩ => ⟨S192x1024x256, .f32⟩
  | .hbm, ⟨25, _⟩ => ⟨S192x1, .i32⟩
  | .hbm, ⟨26, _⟩ => ⟨S192x1024x256, .f32⟩
  | .hbm, ⟨27, _⟩ => ⟨S192x1024x256, .f32⟩
  | .hbm, ⟨28, _⟩ => ⟨S192x1024x256, .f32⟩
  | .hbm, ⟨29, _⟩ => ⟨S192x1024x256, .f32⟩
  | .hbm, ⟨30, _⟩ => ⟨S_, .f32⟩
  | .hbm, ⟨31, _⟩ => ⟨S192x1024x256, .f32⟩
  | .hbm, ⟨32, _⟩ => ⟨S192x1024x256, .f32⟩
  | .hbm, ⟨33, _⟩ => ⟨S_, .f32⟩
  | .hbm, ⟨34, _⟩ => ⟨S192x1024x256, .f32⟩
  | .hbm, ⟨35, _⟩ => ⟨S192x1024x256, .f32⟩
  | .hbm, ⟨36, _⟩ => ⟨S192x1024x256, .f32⟩
  | .hbm, ⟨37, _⟩ => ⟨S192x1024x256, .f32⟩
  | .hbm, ⟨38, _⟩ => ⟨S192x1, .i32⟩
  | .hbm, ⟨39, _⟩ => ⟨S192x256x1024, .f32⟩
  | .hbm, ⟨40, _⟩ => ⟨S192x1024x1024, .f32⟩
  | .hbm, ⟨41, _⟩ => ⟨S196608x1024, .f32⟩
  | .hbm, ⟨42, _⟩ => ⟨S196608x1024, .bf16⟩
  | _, _ => ⟨S196608x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v18 : Ref sig .tc := ⟨.hbm, 36, rfl⟩
abbrev main_v19 : Ref sig .tc := ⟨.hbm, 37, rfl⟩
abbrev main_call3_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== FirstExperts.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S196608x1024 : Shape := ⟨2, ![196608, 1024]⟩
abbrev S1024x512 : Shape := ⟨2, ![1024, 512]⟩
abbrev S1x1x1024x256 : Shape := ⟨4, ![1, 1, 1024, 256]⟩
abbrev S1x1x256x1024 : Shape := ⟨4, ![1, 1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 13
  | .smem => 2
  | _ => 0

abbrev bufTy : (tb : Table) → Fin (tcTables nBuf tb) → BufTy
  | .hbm, ⟨0, _⟩ => ⟨S196608x512, .i32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S196608x1024, .bf16⟩
  | .local _ .vmem, ⟨0, _⟩ => ⟨S1024x512, .i32⟩
  | .local _ .vmem, ⟨1, _⟩ => ⟨S1024x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S192, .i32⟩
  | .local _ .smem, ⟨1, _⟩ => ⟨S1, .i32⟩
  | _, _ => ⟨S196608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstExpertsReferenceIdeal.lean ====
abbrev S196608x512 : Shape := ⟨2, ![196608, 512]⟩
abbrev S192 : Shape := ⟨1, ![192]⟩
abbrev S1 : Shape := ⟨1, ![1]⟩
abbrev S2x64x1024x256 : Shape := ⟨4, ![2, 64, 1024, 256]⟩
abbrev S2x64x256x1024 : Shape := ⟨4, ![2, 64, 256, 1024]⟩
abbrev S1x64x1024x256 : Shape := ⟨4, ![1, 64, 1024, 256]⟩
abbrev S64x1024x256 : Shape := ⟨3, ![64, 1024, 256]⟩
abbrev S1x64x256x1024 : Shape := ⟨4, ![1, 64, 256, 1024]⟩
abbrev S64x256x1024 : Shape := ⟨3, ![64, 256, 1024]⟩
abbrev S_ : Shape := ⟨0, ![]⟩
abbrev S196608x1024 : Shape := ⟨2, ![196608, 1024]⟩
abbrev S192x1024x1024 : Shape := ⟨3, ![192, 1024, 1024]⟩
abbrev S192x1 : Shape := ⟨2, ![192, 1]⟩
abbrev S192x1024x256 : Shape := ⟨3, ![192, 1024, 256]⟩
abbrev S192x256x1024 : Shape := ⟨3, ![192, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S196608x512, .i32⟩
  | .hbm, ⟨1, _⟩ => ⟨S192, .i32⟩
  | .hbm, ⟨2, _⟩ => ⟨S1, .i32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S1x64x1024x256, .f32⟩
  | .hbm, ⟨7, _⟩ => ⟨S64x1024x256, .f32⟩
  | .hbm, ⟨8, _⟩ => ⟨S1x64x1024x256, .f32⟩
  | .hbm, ⟨9, _⟩ => ⟨S64x1024x256, .f32⟩
  | .hbm, ⟨10, _⟩ => ⟨S1x64x256x1024, .f32⟩
  | .hbm, ⟨11, _⟩ => ⟨S64x256x1024, .f32⟩
  | .hbm, ⟨12, _⟩ => ⟨S_, .i32⟩
  | .hbm, ⟨13, _⟩ => ⟨S196608x512, .i32⟩
  | .hbm, ⟨14, _⟩ => ⟨S196608x512, .i32⟩
  | .hbm, ⟨15, _⟩ => ⟨S196608x512, .f32⟩
  | .hbm, ⟨16, _⟩ => ⟨S_, .i32⟩
  | .hbm, ⟨17, _⟩ => ⟨S196608x512, .i32⟩
  | .hbm, ⟨18, _⟩ => ⟨S196608x512, .i32⟩
  | .hbm, ⟨19, _⟩ => ⟨S196608x512, .f32⟩
  | .hbm, ⟨20, _⟩ => ⟨S196608x1024, .f32⟩
  | .hbm, ⟨21, _⟩ => ⟨S192x1024x1024, .f32⟩
  | .hbm, ⟨22, _⟩ => ⟨S192x1, .i32⟩
  | .hbm, ⟨23, _⟩ => ⟨S192x1024x256, .f32⟩
  | .hbm, ⟨24, _⟩ => ⟨S192x1024x256, .f32⟩
  | .hbm, ⟨25, _⟩ => ⟨S192x1, .i32⟩
  | .hbm, ⟨26, _⟩ => ⟨S192x1024x256, .f32⟩
  | .hbm, ⟨27, _⟩ => ⟨S192x1024x256, .f32⟩
  | .hbm, ⟨28, _⟩ => ⟨S192x1024x256, .f32⟩
  | .hbm, ⟨29, _⟩ => ⟨S192x1024x256, .f32⟩
  | .hbm, ⟨30, _⟩ => ⟨S_, .f32⟩
  | .hbm, ⟨31, _⟩ => ⟨S192x1024x256, .f32⟩
  | .hbm, ⟨32, _⟩ => ⟨S192x1024x256, .f32⟩
  | .hbm, ⟨33, _⟩ => ⟨S_, .f32⟩
  | .hbm, ⟨34, _⟩ => ⟨S192x1024x256, .f32⟩
  | .hbm, ⟨35, _⟩ => ⟨S192x1024x256, .f32⟩
  | .hbm, ⟨36, _⟩ => ⟨S192x1024x256, .f32⟩
  | .hbm, ⟨37, _⟩ => ⟨S192x1024x256, .f32⟩
  | .hbm, ⟨38, _⟩ => ⟨S192x1, .i32⟩
  | .hbm, ⟨39, _⟩ => ⟨S192x256x1024, .f32⟩
  | .hbm, ⟨40, _⟩ => ⟨S192x1024x1024, .f32⟩
  | .hbm, ⟨41, _⟩ => ⟨S196608x1024, .f32⟩
  | .hbm, ⟨42, _⟩ => ⟨S196608x1024, .bf16⟩
  | _, _ => ⟨S196608x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v18 : Ref sig .tc := ⟨.hbm, 36, rfl⟩
abbrev main_v19 : Ref sig .tc := ⟨.hbm, 37, rfl⟩
abbrev main_call3_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Attention.lean ====
abbrev S16384x768 : Shape := ⟨2, ![16384, 768]⟩
abbrev S64 : Shape := ⟨1, ![64]⟩
abbrev S8 : Shape := ⟨1, ![8]⟩
abbrev S16384x512 : Shape := ⟨2, ![16384, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1024x512 : Shape := ⟨2, ![1024, 512]⟩
abbrev S_ : Shape := ⟨0, ![]⟩
abbrev S256x128 : Shape := ⟨2, ![256, 128]⟩
abbrev S32x256x128 : Shape := ⟨3, ![32, 256, 128]⟩
abbrev S256x768 : Shape := ⟨2, ![256, 768]⟩
abbrev S256x512 : Shape := ⟨2, ![256, 512]⟩
abbrev S1x256x128 : Shape := ⟨3, ![1, 256, 128]⟩
abbrev S256x1024 : Shape := ⟨2, ![256, 1024]⟩
abbrev S256x256 : Shape := ⟨2, ![256, 256]⟩
abbrev S256x64 : Shape := ⟨2, ![256, 64]⟩
abbrev S1 : Shape := ⟨1, ![1]⟩
abbrev S256 : Shape := ⟨1, ![256]⟩
abbrev S256x1 : Shape := ⟨2, ![256, 1]⟩

abbrev nBuf : Space → Nat
  | .hbm => 42
  | .vmem => 12
  | .smem => 1
  | _ => 0

abbrev bufTy : (tb : Table) → Fin (tcTables nBuf tb) → BufTy
  | .hbm, ⟨0, _⟩ => ⟨S16384x768, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S16384x512, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1024x512, .i32⟩
  | .hbm, ⟨14, _⟩ => ⟨S1024x512, .i32⟩
  | .hbm, ⟨15, _⟩ => ⟨S_, .i32⟩
  | .hbm, ⟨16, _⟩ => ⟨S1024x512, .i32⟩
  | .hbm, ⟨17, _⟩ => ⟨S1024x512, .i32⟩
  | .hbm, ⟨18, _⟩ => ⟨S_, .i32⟩
  | .hbm, ⟨19, _⟩ => ⟨S1024x512, .i32⟩
  | .hbm, ⟨20, _⟩ => ⟨S1024x512, .i32⟩
  | .hbm, ⟨21, _⟩ => ⟨S_, .i32⟩
  | .hbm, ⟨22, _⟩ => ⟨S1024x512, .i32⟩
  | .hbm, ⟨23, _⟩ => ⟨S1024x512, .i32⟩
  | .hbm, ⟨24, _⟩ => ⟨S1024x512, .i1⟩
  | .hbm, ⟨25, _⟩ => ⟨S1024x512, .bf16⟩
  | .hbm, ⟨26, _⟩ => ⟨S256x128, .i32⟩
  | .hbm, ⟨27, _⟩ => ⟨S256x128, .i32⟩
  | .hbm, ⟨28, _⟩ => ⟨S_, .i32⟩
  | .hbm, ⟨29, _⟩ => ⟨S256x128, .i32⟩
  | .hbm, ⟨30, _⟩ => ⟨S256x128, .i32⟩
  | .hbm, ⟨31, _⟩ => ⟨S_, .i32⟩
  | .hbm, ⟨32, _⟩ => ⟨S256x128, .i32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i32⟩
  | .hbm, ⟨37, _⟩ => ⟨S256x128, .i1⟩
  | .hbm, ⟨38, _⟩ => ⟨S256x128, .bf16⟩
  | .hbm, ⟨39, _⟩ => ⟨S16384x512, .f32⟩
  | .hbm, ⟨40, _⟩ => ⟨S32x256x128, .f32⟩
  | .hbm, ⟨41, _⟩ => ⟨S32x256x128, .f32⟩
  | .local _ .vmem, ⟨0, _⟩ => ⟨S256x768, .f32⟩
  | .local _ .vmem, ⟨1, _⟩ => ⟨S256x768, .f32⟩
  | .local _ .vmem, ⟨2, _⟩ => ⟨S1x512, .f32⟩
  | .local _ .vmem, ⟨3, _⟩ => ⟨S1x128, .f32⟩
  | .local _ .vmem, ⟨4, _⟩ => ⟨S1024x512, .bf16⟩
  | .local _ .vmem, ⟨5, _⟩ => ⟨S256x128, .bf16⟩
  | .local _ .vmem, ⟨6, _⟩ => ⟨S256x512, .f32⟩
  | .local _ .vmem, ⟨7, _⟩ => ⟨S256x512, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .smem, ⟨0, _⟩ => ⟨S8, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttentionIdeal.lean ====
variable {F : FTy → Type} [FloatOps F]
-- ==== AttentionReferenceIdeal.lean ====
abbrev S16384x768 : Shape := ⟨2, ![16384, 768]⟩
abbrev S64 : Shape := ⟨1, ![64]⟩
abbrev S8 : Shape := ⟨1, ![8]⟩
abbrev S16384x512 : Shape := ⟨2, ![16384, 512]⟩
abbrev S8192x768 : Shape := ⟨2, ![8192, 768]⟩
abbrev S32x256x768 : Shape := ⟨3, ![32, 256, 768]⟩
abbrev S32x256x512 : Shape := ⟨3, ![32, 256, 512]⟩
abbrev S32x256x8x64 : Shape := ⟨4, ![32, 256, 8, 64]⟩
abbrev S_ : Shape := ⟨0, ![]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x128 : Shape := ⟨3, ![32, 256, 128]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S1x2x4x1x1 : Shape := ⟨5, ![1, 2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x64x4x256 : Shape := ⟨5, ![32, 2, 64, 4, 256]⟩
abbrev S8192x512 : Shape := ⟨2, ![8192, 512]⟩

abbrev nBuf : Space → Nat
  | .hbm => 76
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S16384x512, .f32⟩
  | .hbm, ⟨5, _⟩ => ⟨S8192x768, .f32⟩
  | .hbm, ⟨6, _⟩ => ⟨S32x256x768, .f32⟩
  | .hbm, ⟨7, _⟩ => ⟨S32x256x512, .f32⟩
  | .hbm, ⟨8, _⟩ => ⟨S32x256x8x64, .f32⟩
  | .hbm, ⟨9, _⟩ => ⟨S32x256x8x64, .f32⟩
  | .hbm, ⟨10, _⟩ => ⟨S_, .f32⟩
  | .hbm, ⟨11, _⟩ => ⟨S32x256x8, .f32⟩
  | .hbm, ⟨12, _⟩ => ⟨S32x256x8x1, .f32⟩
  | .hbm, ⟨13, _⟩ => ⟨S_, .f32⟩
  | .hbm, ⟨14, _⟩ => ⟨S32x256x8x1, .f32⟩
  | .hbm, ⟨15, _⟩ => ⟨S32x256x8x1, .f32⟩
  | .hbm, ⟨16, _⟩ => ⟨S_, .f32⟩
  | .hbm, ⟨17, _⟩ => ⟨S32x256x8x1, .f32⟩
  | .hbm, ⟨18, _⟩ => ⟨S32x256x8x1, .f32⟩
  | .hbm, ⟨19, _⟩ => ⟨S32x256x8x1, .f32⟩
  | .hbm, ⟨20, _⟩ => ⟨S32x256x8x64, .f32⟩
  | .hbm, ⟨21, _⟩ => ⟨S32x256x8x64, .f32⟩
  | .hbm, ⟨22, _⟩ => ⟨S1x1x1x64, .f32⟩
  | .hbm, ⟨23, _⟩ => ⟨S32x256x8x64, .f32⟩
  | .hbm, ⟨24, _⟩ => ⟨S32x256x8x64, .f32⟩
  | .hbm, ⟨25, _⟩ => ⟨S32x256x128, .f32⟩
  | .hbm, ⟨26, _⟩ => ⟨S32x256x2x64, .f32⟩
  | .hbm, ⟨27, _⟩ => ⟨S32x256x2x64, .f32⟩
  | .hbm, ⟨28, _⟩ => ⟨S_, .f32⟩
  | .hbm, ⟨29, _⟩ => ⟨S32x256x2, .f32⟩
  | .hbm, ⟨30, _⟩ => ⟨S32x256x2x1, .f32⟩
  | .hbm, ⟨31, _⟩ => ⟨S_, .f32⟩
  | .hbm, ⟨32, _⟩ => ⟨S32x256x2x1, .f32⟩
  | .hbm, ⟨33, _⟩ => ⟨S32x256x2x1, .f32⟩
  | .hbm, ⟨34, _⟩ => ⟨S_, .f32⟩
  | .hbm, ⟨35, _⟩ => ⟨S32x256x2x1, .f32⟩
  | .hbm, ⟨36, _⟩ => ⟨S32x256x2x1, .f32⟩
  | .hbm, ⟨37, _⟩ => ⟨S32x256x2x1, .f32⟩
  | .hbm, ⟨38, _⟩ => ⟨S32x256x2x64, .f32⟩
  | .hbm, ⟨39, _⟩ => ⟨S32x256x2x64, .f32⟩
  | .hbm, ⟨40, _⟩ => ⟨S1x1x1x64, .f32⟩
  | .hbm, ⟨41, _⟩ => ⟨S32x256x2x64, .f32⟩
  | .hbm, ⟨42, _⟩ => ⟨S32x256x2x64, .f32⟩
  | .hbm, ⟨43, _⟩ => ⟨S32x256x128, .f32⟩
  | .hbm, ⟨44, _⟩ => ⟨S32x256x2x64, .f32⟩
  | .hbm, ⟨45, _⟩ => ⟨S32x256x2x4x64, .f32⟩
  | .hbm, ⟨46, _⟩ => ⟨S32x2x256x256x4, .f32⟩
  | .hbm, ⟨47, _⟩ => ⟨S32x2x4x256x256, .f32⟩
  | .hbm, ⟨48, _⟩ => ⟨S_, .f32⟩
  | .hbm, ⟨49, _⟩ => ⟨S32x2x4x256x256, .f32⟩
  | .hbm, ⟨50, _⟩ => ⟨S32x2x4x256x256, .f32⟩
  | .hbm, ⟨51, _⟩ => ⟨S1x2x4x1x1, .f32⟩
  | .hbm, ⟨52, _⟩ => ⟨S32x2x4x256x1, .f32⟩
  | .hbm, ⟨53, _⟩ => ⟨S32x2x4x256x257, .f32⟩
  | .hbm, ⟨54, _⟩ => ⟨S_, .f32⟩
  | .hbm, ⟨55, _⟩ => ⟨S32x2x4x256, .f32⟩
  | .hbm, ⟨56, _⟩ => ⟨S_, .f32⟩
  | .hbm, ⟨57, _⟩ => ⟨S32x2x4x256, .f32⟩
  | .hbm, ⟨58, _⟩ => ⟨S32x2x4x256, .f32⟩
  | .hbm, ⟨59, _⟩ => ⟨S32x2x4x256x1, .f32⟩
  | .hbm, ⟨60, _⟩ => ⟨S32x2x4x256x257, .f32⟩
  | .hbm, ⟨61, _⟩ => ⟨S32x2x4x256x257, .f32⟩
  | .hbm, ⟨62, _⟩ => ⟨S32x2x4x256x257, .f32⟩
  | .hbm, ⟨63, _⟩ => ⟨S_, .f32⟩
  | .hbm, ⟨64, _⟩ => ⟨S32x2x4x256, .f32⟩
  | .hbm, ⟨65, _⟩ => ⟨S32x2x4x256x1, .f32⟩
  | .hbm, ⟨66, _⟩ => ⟨S32x2x4x256x257, .f32⟩
  | .hbm, ⟨67, _⟩ => ⟨S32x2x4x256x257, .f32⟩
  | .hbm, ⟨68, _⟩ => ⟨S32x2x4x256x256, .f32⟩
  | .hbm, ⟨69, _⟩ => ⟨S32x2x64x4x256, .f32⟩
  | .hbm, ⟨70, _⟩ => ⟨S32x256x2x4x64, .f32⟩
  | .hbm, ⟨71, _⟩ => ⟨S8192x512, .f32⟩
  | .hbm, ⟨72, _⟩ => ⟨S8192x512, .f32⟩
  | .hbm, ⟨73, _⟩ => ⟨S16384x512, .f32⟩
  | .hbm, ⟨74, _⟩ => ⟨S32x256x128, .f32⟩
  | .hbm, ⟨75, _⟩ => ⟨S32x256x128, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== FirstCombine.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x8 : Shape := ⟨2, ![8, 8]⟩
abbrev S_ : Shape := ⟨0, ![]⟩
abbrev S512x1024 : Shape := ⟨2, ![512, 1024]⟩
abbrev S512x512 : Shape := ⟨2, ![512, 512]⟩
abbrev S8x512 : Shape := ⟨2, ![8, 512]⟩
abbrev S1x1x1x1024 : Shape := ⟨4, ![1, 1, 1, 1024]⟩
abbrev S512x256 : Shape := ⟨2, ![512, 256]⟩
abbrev S512x8 : Shape := ⟨2, ![512, 8]⟩
abbrev S512x1 : Shape := ⟨2, ![512, 1]⟩
abbrev S1x1024 : Shape := ⟨2, ![1, 1024]⟩

abbrev nBuf : Space → Nat
  | .hbm => 25
  | .vmem => 30
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S1x1024x256, .f32⟩
  | .hbm, ⟨9, _⟩ => ⟨S1024x256, .f32⟩
  | .hbm, ⟨10, _⟩ => ⟨S1024x256, .bf16⟩
  | .hbm, ⟨11, _⟩ => ⟨S1x1024x256, .f32⟩
  | .hbm, ⟨12, _⟩ => ⟨S1024x256, .f32⟩
  | .hbm, ⟨13, _⟩ => ⟨S1024x256, .bf16⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .bf16⟩
  | .hbm, ⟨24, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x512, .i32⟩
  | .local _ .vmem, ⟨9, _⟩ => ⟨S512x512, .i32⟩
  | .local _ .vmem, ⟨10, _⟩ => ⟨S512x512, .i32⟩
  | .local _ .vmem, ⟨11, _⟩ => ⟨S512x512, .i32⟩
  | .local _ .vmem, ⟨12, _⟩ => ⟨S512x512, .i32⟩
  | .local _ .vmem, ⟨13, _⟩ => ⟨S512x512, .i32⟩
  | .local _ .vmem, ⟨14, _⟩ => ⟨S512x512, .i32⟩
  | .local _ .vmem, ⟨15, _⟩ => ⟨S512x512, .i32⟩
  | .local _ .vmem, ⟨16, _⟩ => ⟨S512x512, .i32⟩
  | .local _ .vmem, ⟨17, _⟩ => ⟨S512x512, .i32⟩
  | .local _ .vmem, ⟨18, _⟩ => ⟨S8x512, .f32⟩
  | .local _ .vmem, ⟨19, _⟩ => ⟨S8x512, .f32⟩
  | .local _ .vmem, ⟨20, _⟩ => ⟨S8x8, .bf16⟩
  | .local _ .vmem, ⟨21, _⟩ => ⟨S1024x256, .bf16⟩
  | .local _ .vmem, ⟨22, _⟩ => ⟨S1024x256, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | .local _ .vmem, ⟨26, _⟩ => ⟨S1x1x1x1024, .f32⟩
  | .local _ .vmem, ⟨27, _⟩ => ⟨S1x1x1x1024, .f32⟩
  | .local _ .vmem, ⟨28, _⟩ => ⟨S512x1024, .f32⟩
  | .local _ .vmem, ⟨29, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_15 (i : grid0.Coords) : Fin 4 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  let c5_i32 : BitVec 32 := 5#32
  let c0_i32_10 : BitVec 32 := 0#32
  ![c0_i32_8.toNat, v21.toNat, c0_i32_9.toNat, c5_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FirstCombineReferenceIdeal.lean ====
abbrev S16384x1024 : Shape := ⟨2, ![16384, 1024]⟩
abbrev S131072x512 : Shape := ⟨2, ![131072, 512]⟩
abbrev S8x16384 : Shape := ⟨2, ![8, 16384]⟩
abbrev S2x1024x256 : Shape := ⟨3, ![2, 1024, 256]⟩
abbrev S2x256x1024 : Shape := ⟨3, ![2, 256, 1024]⟩
abbrev S2x8x1x6144 : Shape := ⟨4, ![2, 8, 1, 6144]⟩
abbrev S_ : Shape := ⟨0, ![]⟩
abbrev S131072x1024 : Shape := ⟨2, ![131072, 1024]⟩
abbrev S8x16384x1024 : Shape := ⟨3, ![8, 16384, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x16384x1 : Shape := ⟨3, ![8, 16384, 1]⟩
abbrev S16384x256 : Shape := ⟨2, ![16384, 256]⟩
abbrev S8192x1024 : Shape := ⟨2, ![8192, 1024]⟩
abbrev S1x1x1x1024 : Shape := ⟨4, ![1, 1, 1, 1024]⟩
abbrev S1x1024 : Shape := ⟨2, ![1, 1024]⟩
abbrev S4x2048x1024 : Shape := ⟨3, ![4, 2048, 1024]⟩
abbrev S1x4x1x1024 : Shape := ⟨4, ![1, 4, 1, 1024]⟩
abbrev S4x1x1024 : Shape := ⟨3, ![4, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S131072x512, .i32⟩
  | .hbm, ⟨2, _⟩ => ⟨S8x16384, .f32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S16384x1024, .f32⟩
  | .hbm, ⟨7, _⟩ => ⟨S2x8x1x6144, .f32⟩
  | .hbm, ⟨8, _⟩ => ⟨S16384x1024, .f32⟩
  | .hbm, ⟨9, _⟩ => ⟨S_, .i32⟩
  | .hbm, ⟨10, _⟩ => ⟨S131072x512, .i32⟩
  | .hbm, ⟨11, _⟩ => ⟨S131072x512, .i32⟩
  | .hbm, ⟨12, _⟩ => ⟨S131072x512, .f32⟩
  | .hbm, ⟨13, _⟩ => ⟨S_, .i32⟩
  | .hbm, ⟨14, _⟩ => ⟨S131072x512, .i32⟩
  | .hbm, ⟨15, _⟩ => ⟨S131072x512, .i32⟩
  | .hbm, ⟨16, _⟩ => ⟨S131072x512, .f32⟩
  | .hbm, ⟨17, _⟩ => ⟨S131072x1024, .f32⟩
  | .hbm, ⟨18, _⟩ => ⟨S8x16384x1024, .f32⟩
  | .hbm, ⟨19, _⟩ => ⟨S1x1024x256, .f32⟩
  | .hbm, ⟨20, _⟩ => ⟨S1024x256, .f32⟩
  | .hbm, ⟨21, _⟩ => ⟨S1x1024x256, .f32⟩
  | .hbm, ⟨22, _⟩ => ⟨S1024x256, .f32⟩
  | .hbm, ⟨23, _⟩ => ⟨S1x256x1024, .f32⟩
  | .hbm, ⟨24, _⟩ => ⟨S256x1024, .f32⟩
  | .hbm, ⟨25, _⟩ => ⟨S8x16384x1, .f32⟩
  | .hbm, ⟨26, _⟩ => ⟨S8x16384x1024, .f32⟩
  | .hbm, ⟨27, _⟩ => ⟨S8x16384x1024, .f32⟩
  | .hbm, ⟨28, _⟩ => ⟨S_, .f32⟩
  | .hbm, ⟨29, _⟩ => ⟨S16384x1024, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x1024, .f32⟩
  | .hbm, ⟨43, _⟩ => ⟨S16384x1024, .f32⟩
  | .hbm, ⟨44, _⟩ => ⟨S8192x1024, .f32⟩
  | .hbm, ⟨45, _⟩ => ⟨S1x1x1x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S4x2048x1024, .f32⟩
  | .hbm, ⟨53, _⟩ => ⟨S1x4x1x1024, .f32⟩
  | .hbm, ⟨54, _⟩ => ⟨S4x1x1024, .f32⟩
  | .hbm, ⟨55, _⟩ => ⟨S8192x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S8192x1024, .f32⟩
  | .hbm, ⟨61, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.HgrnStage.lean ====
module

public import proofs.«01_k».proof.Proof.Gen.KernelIdeal.Value
public import Idealize.ShloMosaic.Lib.Pointwise

/-! The gated scan's body written once for a direction and a head: the arrays it computes for a block of 256
    rows, the chunk steps of one head, and the state between them. -/

@[expose] public section

set_option maxRecDepth 16384

noncomputable section

namespace Cert.KernelIdeal.Hgrn

open Cert.KernelIdeal Cert.KernelIdeal.Gen Idealize.ShloMosaic Idealize.ShloMosaic.TcCoe Idealize.SL.Sem

variable {F : FTy → Type} [FloatOps F]

theorem colOk (h : Fin 8) : S256x1024.Slices ![0, 128 * h.val] S256x128 := by revert h; decide
theorem decOk (h : Fin 8) : S1x1024.Slices ![0, 128 * h.val] S1x128 := by revert h; decide
theorem rowOk (c : Fin 4) : S256x128.Slices ![64 * c.val, 0] S64x128 := by revert c; decide
theorem rowWideOk (c : Fin 4) : S256x1024.Slices ![64 * c.val, 0] S64x1024 := by revert c; decide
theorem cellOk (c : Fin 4) (h : Fin 8) : S256x1024.Slices ![64 * c.val, 128 * h.val] S64x128 := by revert c h; decide
theorem lastOk (r : Fin 64) : S64x1024.Slices ![r.val, 0] S1x1024 := by revert r; decide

/-- `1 / (1 + e^(-x))`. -/
def sigV (x : FVec F S256x1024 .f32) : FVec F S256x1024 .f32 :=
  divf (broadcast S256x1024 (FloatOps.ofBits FTy.f32 1065353216#32))
    (addf (broadcast S256x1024 (FloatOps.ofBits FTy.f32 1065353216#32))
      (exp (subf (broadcast S256x1024 (FloatOps.ofBits FTy.f32 0#32)) x)))

/-- The query: `x · sigmoid x`. -/
def siluV (x : FVec F S256x1024 .f32) : FVec F S256x1024 .f32 := mulf x (sigV x)

/-- The forget gate, from the lower bound's row `lb`. -/
def gateV (lb : FVec F S1x1024 .f32) (x : FVec F S256x1024 .f32) : FVec F S256x1024 .f32 :=
  addf (broadcastTo S256x1024 lb broadcasts_S1x1024_S256x1024)
    (mulf (broadcastTo S256x1024 (subf (broadcast S1x1024 (FloatOps.ofBits FTy.f32 1065353216#32)) lb) broadcasts_S1x1024_S256x1024)
      (sigV x))

/-- The key: one less the gate. -/
def keyV (f : FVec F S256x1024 .f32) : FVec F S256x1024 .f32 :=
  subf (broadcast S256x1024 (FloatOps.ofBits FTy.f32 1065353216#32)) f

def hiV (f : FVec F S256x1024 .f32) : FVec F S256x1024 .bf16 := truncf FTy.bf16 (Idealize.ShloMosaic.log f) bitsLt_bf16_f32

def loV (f : FVec F S256x1024 .f32) : FVec F S256x1024 .bf16 :=
  truncf FTy.bf16 (subf (Idealize.ShloMosaic.log f) (extf FTy.f32 (hiV f) bitsLt_bf16_f32)) bitsLt_bf16_f32

/-- The running sums of the gate's logarithm in chunk `c`. -/
def cumV (tri : FVec F S64x128 .bf16) (f : FVec F S256x1024 .f32) (c : Fin 4) : FVec F S64x1024 .f32 :=
  matmul dot_S64x128_S128x1024_S64x1024_1_0_0_1_n_n none tri
    (concatenate S128x1024 0
      [⟨S64x1024, extractStridedSlice S64x1024 ![64 * c.val, 0] (hiV f) (rowWideOk c)⟩,
       ⟨S64x1024, extractStridedSlice S64x1024 ![64 * c.val, 0] (loV f) (rowWideOk c)⟩]
      concatenates_S64x1024_S64x1024_S128x1024_d0)
    (constant S64x1024 FTy.f32 0#32)

def lastV (tri : FVec F S64x128 .bf16) (f : FVec F S256x1024 .f32) (r : Fin 64) (c : Fin 4) : FVec F S1x1024 .f32 :=
  extractStridedSlice S1x1024 ![r.val, 0] (cumV tri f c) (lastOk r)

/-- The chunk's whole decay. -/
def decV (tri : FVec F S64x128 .bf16) (f : FVec F S256x1024 .f32) (r : Fin 64) (c : Fin 4) : FVec F S1x1024 .f32 :=
  exp (lastV tri f r c)

def cumAllV (tri : FVec F S64x128 .bf16) (f : FVec F S256x1024 .f32) : FVec F S256x1024 .f32 :=
  concatenate S256x1024 0 [⟨S64x1024, cumV tri f 0⟩, ⟨S64x1024, cumV tri f 1⟩, ⟨S64x1024, cumV tri f 2⟩, ⟨S64x1024, cumV tri f 3⟩]
    concatenates_S64x1024_S64x1024_S64x1024_S64x1024_S256x1024_d0

def lastWideV (tri : FVec F S64x128 .bf16) (f : FVec F S256x1024 .f32) (r : Fin 64) (c : Fin 4) : FVec F S64x1024 .f32 :=
  broadcastTo S64x1024 (shapeCast S1x1024 (lastV tri f r c) shapeCasts_S1x1024_S1x1024) broadcasts_S1x1024_S64x1024

def lastAllV (tri : FVec F S64x128 .bf16) (f : FVec F S256x1024 .f32) (r : Fin 64) : FVec F S256x1024 .f32 :=
  concatenate S256x1024 0 [⟨S64x1024, lastWideV tri f r 0⟩, ⟨S64x1024, lastWideV tri f r 1⟩,
      ⟨S64x1024, lastWideV tri f r 2⟩, ⟨S64x1024, lastWideV tri f r 3⟩]
    concatenates_S64x1024_S64x1024_S64x1024_S64x1024_S256x1024_d0

def qinV (tri : FVec F S64x128 .bf16) (f q : FVec F S256x1024 .f32) : FVec F S256x1024 .bf16 :=
  truncf FTy.bf16 (mulf q (exp (cumAllV tri f))) bitsLt_bf16_f32

def kinV (tri : FVec F S64x128 .bf16) (f : FVec F S256x1024 .f32) : FVec F S256x1024 .bf16 :=
  truncf FTy.bf16 (mulf (keyV f) (exp (subf (broadcast S256x1024 (FloatOps.ofBits FTy.f32 0#32)) (cumAllV tri f)))) bitsLt_bf16_f32

def koutV (tri : FVec F S64x128 .bf16) (f : FVec F S256x1024 .f32) (r : Fin 64) : FVec F S256x1024 .bf16 :=
  truncf FTy.bf16 (mulf (keyV f) (exp (subf (lastAllV tri f r) (cumAllV tri f)))) bitsLt_bf16_f32

def valV (x : FVec F S256x1024 .f32) : FVec F S256x1024 .bf16 := truncf FTy.bf16 x bitsLt_bf16_f32

def headV (h : Fin 8) (x : FVec F S256x1024 .bf16) : FVec F S256x128 .bf16 :=
  extractStridedSlice S256x128 ![0, 128 * h.val] x (colOk h)

/-- The product inside the chunks: masked scores times values, all four chunks at once. -/
def intraV (mask : IVec S256x256 1) (q k v : FVec F S256x128 .bf16) : FVec F S256x128 .f32 :=
  matmul dot_S256x256_S256x128_S256x128_1_0_0_1_n_n none
    (truncf FTy.bf16
      (select mask (matmul dot_S256x128_S256x128_S256x256_1_1_0_0_n_n none q k (constant S256x256 FTy.f32 0#32))
        (broadcast S256x256 (FloatOps.ofBits FTy.f32 0#32))) bitsLt_bf16_f32)
    v (constant S256x128 FTy.f32 0#32)

/-- A head's state after one more chunk. -/
def stepV (dec : FVec F S1x1024 .f32) (v : FVec F S256x128 .bf16) (ko : FVec F S256x1024 .bf16) (c : Fin 4) (h : Fin 8)
    (s : FVec F S128x128 .f32) : FVec F S128x128 .f32 :=
  addf (mulf (broadcastTo S128x128 (extractStridedSlice S1x128 ![0, 128 * h.val] dec (decOk h)) broadcasts_S1x128_S128x128) s)
    (matmul dot_S64x128_S64x128_S128x128_0_0_1_1_n_n none
      (extractStridedSlice S64x128 ![64 * c.val, 0] v (rowOk c))
      (extractStridedSlice S64x128 ![64 * c.val, 128 * h.val] ko (cellOk c h)) (constant S128x128 FTy.f32 0#32))

/-- A chunk's rows of the output. -/
def outV (o : FVec F S256x128 .f32) (q : FVec F S256x128 .bf16) (c : Fin 4) (s : FVec F S128x128 .f32) : FVec F S64x128 .f32 :=
  addf (extractStridedSlice S64x128 ![64 * c.val, 0] o (rowOk c))
    (matmul dot_S64x128_S128x128_S64x128_1_1_0_0_n_n none
      (extractStridedSlice S64x128 ![64 * c.val, 0] q (rowOk c)) (truncf FTy.bf16 s bitsLt_bf16_f32) (constant S64x128 FTy.f32 0#32))

/-- What one direction computes for a block of rows before the heads are taken one by one. -/
structure Staged (F : FTy → Type) where
  q : FVec F S256x1024 .bf16
  k : FVec F S256x1024 .bf16
  ko : FVec F S256x1024 .bf16
  v : FVec F S256x1024 .bf16
  d0 : FVec F S1x1024 .f32
  d1 : FVec F S1x1024 .f32
  d2 : FVec F S1x1024 .f32
  d3 : FVec F S1x1024 .f32

namespace Staged

variable (I : Staged F)

def intra (mask : IVec S256x256 1) (h : Fin 8) : FVec F S256x128 .f32 :=
  intraV mask (headV h I.q) (headV h I.k) (headV h I.v)

def step0 (h : Fin 8) (s : FVec F S128x128 .f32) : FVec F S128x128 .f32 := stepV I.d0 (headV h I.v) I.ko 0 h s
def step1 (h : Fin 8) (s : FVec F S128x128 .f32) : FVec F S128x128 .f32 := stepV I.d1 (headV h I.v) I.ko 1 h s
def step2 (h : Fin 8) (s : FVec F S128x128 .f32) : FVec F S128x128 .f32 := stepV I.d2 (headV h I.v) I.ko 2 h s
def step3 (h : Fin 8) (s : FVec F S128x128 .f32) : FVec F S128x128 .f32 := stepV I.d3 (headV h I.v) I.ko 3 h s

/-- The state before the `n`-th chunk read from the start, and after the last. -/
def fwd (h : Fin 8) (s : FVec F S128x128 .f32) : Fin 5 → FVec F S128x128 .f32
  | 0 => s
  | 1 => I.step0 h s
  | 2 => I.step1 h (I.step0 h s)
  | 3 => I.step2 h (I.step1 h (I.step0 h s))
  | 4 => I.step3 h (I.step2 h (I.step1 h (I.step0 h s)))

/-- The state before the `n`-th chunk read from the end, and after the last. -/
def bwd (h : Fin 8) (s : FVec F S128x128 .f32) : Fin 5 → FVec F S128x128 .f32
  | 0 => s
  | 1 => I.step3 h s
  | 2 => I.step2 h (I.step3 h s)
  | 3 => I.step1 h (I.step2 h (I.step3 h s))
  | 4 => I.step0 h (I.step1 h (I.step2 h (I.step3 h s)))

def out (mask : IVec S256x256 1) (h : Fin 8) (c : Fin 4) (s : FVec F S128x128 .f32) : FVec F S64x128 .f32 :=
  outV (I.intra mask h) (headV h I.q) c s

end Staged

/-- The staged arrays of one direction from its inputs; `r` is the row of a chunk that is last in the direction. -/
def staged (lb : FVec F S1x1024 .f32) (tri : FVec F S64x128 .bf16) (r : Fin 64) (q f i : FVec F S256x1024 .f32) : Staged F :=
  ⟨qinV tri (gateV lb f) (siluV q), kinV tri (gateV lb f), koutV tri (gateV lb f) r, valV i,
   decV tri (gateV lb f) r 0, decV tri (gateV lb f) r 1, decV tri (gateV lb f) r 2, decV tri (gateV lb f) r 3⟩

abbrev maskF : IVec S256x256 1 :=
  k0_pay37 (iota Kind.tc S256x256 32 [0] iota_S256x256_d0_w32) (iota Kind.tc S256x256 32 [1] iota_S256x256_d1_w32) k0_pay35
abbrev maskB : IVec S256x256 1 :=
  k0_pay38 (iota Kind.tc S256x256 32 [0] iota_S256x256_d0_w32) (iota Kind.tc S256x256 32 [1] iota_S256x256_d1_w32) k0_pay35

def unbox (s : Vec F S1x1x128x128 .f32) : FVec F S128x128 .f32 := shapeCast S128x128 s shapeCasts_S1x1x128x128_S128x128
def box (s : FVec F S128x128 .f32) : Vec F S1x1x128x128 .f32 := shapeCast S1x1x128x128 s shapeCasts_S128x128_S1x1x128x128
/-- A head's state turned: rows and columns swapped. -/
def turn (s : Vec F S1x1x128x128 .f32) : Vec F S1x1x128x128 .f32 :=
  box (transpose S128x128 [1, 0] (unbox s) transposes_S128x128_p1_0_S128x128)

end Cert.KernelIdeal.Hgrn

end
-- ==== Proof.HgrnHeads.lean ====
module

public import proofs.«01_k».proof.Proof.HgrnStage

/-! Every stored value of the body, head by head, in the words of `HgrnStage`. -/

@[expose] public section

set_option maxRecDepth 16384

noncomputable section

namespace Cert.KernelIdeal.Hgrn

open Cert.KernelIdeal Cert.KernelIdeal.Gen Idealize.ShloMosaic Idealize.ShloMosaic.TcCoe Idealize.SL.Sem

variable {F : FTy → Type} [FloatOps F]
variable (I : Staged F) (s : Vec F S1x1x128x128 .f32)

theorem stateF0 : k0_pay105 I.d3 I.ko (k0_pay93 I.v) (k0_pay100 I.d0 I.d1 I.ko (k0_pay93 I.v) s) (k0_pay102 I.d2) =
    box (I.fwd 0 (unbox s) 4) := rfl

theorem stateB0 : k0_pay120 (k0_pay117 I.d0 I.d1 I.d2 I.d3 I.ko (k0_pay107 I.v) (k0_pay109 s)) (k0_pay118 (k0_pay107 I.v)) (k0_pay119 I.ko) (constant S128x128 FTy.f32 0#32) =
    box (I.bwd 0 (unbox s) 4) := rfl

theorem stateF1 : k0_pay135 I.d2 I.d3 I.ko (k0_pay122 I.v) (k0_pay128 I.v I.d0 I.d1 I.ko s) (k0_pay129 I.v) (k0_pay130 I.ko) =
    box (I.fwd 1 (unbox s) 4) := rfl

theorem stateB1 : k0_pay149 I.d0 I.ko (k0_pay137 I.v) (k0_pay145 I.d1 I.d2 I.d3 I.ko (k0_pay137 I.v) s) =
    box (I.bwd 1 (unbox s) 4) := rfl

theorem stateF2 : (k0_pay162 I.d1 I.d2 I.d3 I.ko (k0_pay151 I.v) (k0_pay155 I.v I.d0 I.ko s)) =
    box (I.fwd 2 (unbox s) 4) := rfl

theorem stateB2 : k0_pay174 I.d0 I.d1 I.ko (k0_pay164 I.v) (k0_pay170 I.v I.d2 I.d3 I.ko s) =
    box (I.bwd 2 (unbox s) 4) := rfl

theorem stateF3 : k0_pay189 I.ko (k0_pay176 I.v) (k0_pay186 I.d0 I.d1 I.d2 I.ko (k0_pay176 I.v) (k0_pay178 s)) (k0_pay188 I.d3) =
    box (I.fwd 3 (unbox s) 4) := rfl

theorem stateB3 : k0_pay201 I.d0 I.d1 I.d2 I.ko (k0_pay191 I.v) (k0_pay195 I.v I.d3 I.ko s) =
    box (I.bwd 3 (unbox s) 4) := rfl

theorem stateF4 : k0_pay217 I.d3 I.ko (k0_pay203 I.v) (k0_pay212 I.d0 I.d1 I.d2 I.ko (k0_pay203 I.v) s) (k0_pay213 (k0_pay203 I.v)) (k0_pay214 I.ko) =
    box (I.fwd 4 (unbox s) 4) := rfl

theorem stateB4 : k0_pay232 (k0_pay231 I.d0 I.d1 I.d2 I.ko (k0_pay219 I.v) (k0_pay223 I.d3 s) (k0_pay224 I.v)) =
    box (I.bwd 4 (unbox s) 4) := rfl

theorem stateF5 : k0_pay245 I.d2 I.d3 I.ko (k0_pay234 I.v) (k0_pay240 I.v I.d0 I.d1 I.ko s) =
    box (I.fwd 5 (unbox s) 4) := rfl

theorem stateB5 : k0_pay257 I.d0 I.ko (k0_pay247 I.v) (k0_pay255 I.d1 I.d2 I.d3 I.ko (k0_pay247 I.v) (k0_pay249 s)) =
    box (I.bwd 5 (unbox s) 4) := rfl

theorem stateF6 : k0_pay271 I.d1 I.d2 I.d3 I.ko (k0_pay259 I.v) (k0_pay263 I.v I.d0 I.ko s) =
    box (I.fwd 6 (unbox s) 4) := rfl

theorem stateB6 : k0_pay284 I.d0 I.d1 I.ko (k0_pay273 I.v) (k0_pay280 I.d2 I.d3 I.ko (k0_pay273 I.v) s) =
    box (I.bwd 6 (unbox s) 4) := rfl

theorem stateF7 : k0_pay299 (k0_pay296 I.d0 I.d1 I.d2 I.d3 I.ko (k0_pay286 I.v) (k0_pay288 s)) (k0_pay297 (k0_pay286 I.v)) (k0_pay298 I.ko) =
    box (I.fwd 7 (unbox s) 4) := rfl

theorem stateB7 : k0_pay1 I.d0 I.ko (k0_pay301 I.v) (k0_pay311 I.d1 I.ko (k0_pay301 I.v) (k0_pay307 I.v I.d2 I.d3 I.ko s) (k0_pay308 I.v)) =
    box (I.bwd 7 (unbox s) 4) := rfl

theorem outF7_3 : k0_pay295 I.d0 I.d1 I.d2 I.ko (k0_pay285 I.q) (k0_pay286 I.v) (k0_pay287 (k0_pay37 (iota Kind.tc S256x256 32 [0] iota_S256x256_d0_w32) (iota Kind.tc S256x256 32 [1] iota_S256x256_d1_w32) k0_pay35) I.v I.q I.k) (k0_pay288 s) =
    I.out maskF 7 3 (I.fwd 7 (unbox s) 3) := rfl

theorem outF7_2 : k0_pay293 I.d0 I.d1 I.ko (k0_pay285 I.q) (k0_pay286 I.v) (k0_pay287 (k0_pay37 (iota Kind.tc S256x256 32 [0] iota_S256x256_d0_w32) (iota Kind.tc S256x256 32 [1] iota_S256x256_d1_w32) k0_pay35) I.v I.q I.k) (k0_pay288 s) =
    I.out maskF 7 2 (I.fwd 7 (unbox s) 2) := rfl

theorem outF7_1 : k0_pay291 I.d0 I.ko (k0_pay285 I.q) (k0_pay286 I.v) (k0_pay287 (k0_pay37 (iota Kind.tc S256x256 32 [0] iota_S256x256_d0_w32) (iota Kind.tc S256x256 32 [1] iota_S256x256_d1_w32) k0_pay35) I.v I.q I.k) (k0_pay288 s) =
    I.out maskF 7 1 (I.fwd 7 (unbox s) 1) := rfl

theorem outF7_0 : (k0_pay289 (k0_pay37 (iota Kind.tc S256x256 32 [0] iota_S256x256_d0_w32) (iota Kind.tc S256x256 32 [1] iota_S256x256_d1_w32) k0_pay35) I.v I.q I.k s) =
    I.out maskF 7 0 (I.fwd 7 (unbox s) 0) := rfl

theorem outF6_3 : k0_pay270 I.d1 I.d2 I.ko (k0_pay258 I.q) (k0_pay259 I.v) (k0_pay260 (k0_pay37 (iota Kind.tc S256x256 32 [0] iota_S256x256_d0_w32) (iota Kind.tc S256x256 32 [1] iota_S256x256_d1_w32) k0_pay35) I.v I.q I.k) (k0_pay263 I.v I.d0 I.ko s) =
    I.out maskF 6 3 (I.fwd 6 (unbox s) 3) := rfl

theorem outF6_2 : k0_pay268 I.d1 I.ko (k0_pay258 I.q) (k0_pay259 I.v) (k0_pay260 (k0_pay37 (iota Kind.tc S256x256 32 [0] iota_S256x256_d0_w32) (iota Kind.tc S256x256 32 [1] iota_S256x256_d1_w32) k0_pay35) I.v I.q I.k) (k0_pay263 I.v I.d0 I.ko s) =
    I.out maskF 6 2 (I.fwd 6 (unbox s) 2) := rfl

theorem outF6_1 : k0_pay266 (k0_pay264 (k0_pay37 (iota Kind.tc S256x256 32 [0] iota_S256x256_d0_w32) (iota Kind.tc S256x256 32 [1] iota_S256x256_d1_w32) k0_pay35) I.v I.q I.k) (k0_pay265 I.v I.d0 I.q I.ko s) =
    I.out maskF 6 1 (I.fwd 6 (unbox s) 1) := rfl

theorem outF6_0 : k0_pay262 (k0_pay37 (iota Kind.tc S256x256 32 [0] iota_S256x256_d0_w32) (iota Kind.tc S256x256 32 [1] iota_S256x256_d1_w32) k0_pay35) I.v I.q I.k s =
    I.out maskF 6 0 (I.fwd 6 (unbox s) 0) := rfl

theorem outF5_3 : k0_pay244 I.d2 I.ko (k0_pay233 I.q) (k0_pay234 I.v) (k0_pay235 (k0_pay37 (iota Kind.tc S256x256 32 [0] iota_S256x256_d0_w32) (iota Kind.tc S256x256 32 [1] iota_S256x256_d1_w32) k0_pay35) I.v I.q I.k) (k0_pay240 I.v I.d0 I.d1 I.ko s) =
    I.out maskF 5 3 (I.fwd 5 (unbox s) 3) := rfl

theorem outF5_2 : k0_pay242 (k0_pay233 I.q) (k0_pay240 I.v I.d0 I.d1 I.ko s) (k0_pay241 (k0_pay37 (iota Kind.tc S256x256 32 [0] iota_S256x256_d0_w32) (iota Kind.tc S256x256 32 [1] iota_S256x256_d1_w32) k0_pay35) I.v I.q I.k) =
    I.out maskF 5 2 (I.fwd 5 (unbox s) 2) := rfl

theorem outF5_1 : k0_pay239 (k0_pay37 (iota Kind.tc S256x256 32 [0] iota_S256x256_d0_w32) (iota Kind.tc S256x256 32 [1] iota_S256x256_d1_w32) k0_pay35) I.v I.d0 I.q I.k I.ko s =
    I.out maskF 5 1 (I.fwd 5 (unbox s) 1) := rfl

theorem outF5_0 : k0_pay237 (k0_pay37 (iota Kind.tc S256x256 32 [0] iota_S256x256_d0_w32) (iota Kind.tc S256x256 32 [1] iota_S256x256_d1_w32) k0_pay35) I.v I.q I.k s =
    I.out maskF 5 0 (I.fwd 5 (unbox s) 0) := rfl

theorem outF4_3 : k0_pay216 (k0_pay202 I.q) (k0_pay205 (k0_pay203 I.v) (k0_pay204 (k0_pay37 (iota Kind.tc S256x256 32 [0] iota_S256x256_d0_w32) (iota Kind.tc S256x256 32 [1] iota_S256x256_d1_w32) k0_pay35) I.q I.k)) (k0_pay212 I.d0 I.d1 I.d2 I.ko (k0_pay203 I.v) s) (k0_pay213 (k0_pay203 I.v)) (k0_pay214 I.ko) =
    I.out maskF 4 3 (I.fwd 4 (unbox s) 3) := rfl

theorem outF4_2 : k0_pay211 I.d0 I.d1 I.ko (k0_pay202 I.q) (k0_pay203 I.v) (k0_pay204 (k0_pay37 (iota Kind.tc S256x256 32 [0] iota_S256x256_d0_w32) (iota Kind.tc S256x256 32 [1] iota_S256x256_d1_w32) k0_pay35) I.q I.k) s =
    I.out maskF 4 2 (I.fwd 4 (unbox s) 2) := rfl

theorem outF4_1 : k0_pay209 I.d0 I.ko (k0_pay202 I.q) (k0_pay203 I.v) (k0_pay204 (k0_pay37 (iota Kind.tc S256x256 32 [0] iota_S256x256_d0_w32) (iota Kind.tc S256x256 32 [1] iota_S256x256_d1_w32) k0_pay35) I.q I.k) s =
    I.out maskF 4 1 (I.fwd 4 (unbox s) 1) := rfl

theorem outF4_0 : k0_pay207 (k0_pay202 I.q) (k0_pay203 I.v) (k0_pay204 (k0_pay37 (iota Kind.tc S256x256 32 [0] iota_S256x256_d0_w32) (iota Kind.tc S256x256 32 [1] iota_S256x256_d1_w32) k0_pay35) I.q I.k) s =
    I.out maskF 4 0 (I.fwd 4 (unbox s) 0) := rfl

theorem outF3_3 : k0_pay187 I.d0 I.d1 I.d2 I.ko (k0_pay175 I.q) (k0_pay176 I.v) (k0_pay177 (k0_pay37 (iota Kind.tc S256x256 32 [0] iota_S256x256_d0_w32) (iota Kind.tc S256x256 32 [1] iota_S256x256_d1_w32) k0_pay35) I.v I.q I.k) (k0_pay178 s) =
    I.out maskF 3 3 (I.fwd 3 (unbox s) 3) := rfl

theorem outF3_2 : k0_pay185 I.d0 I.d1 I.ko (k0_pay175 I.q) (k0_pay176 I.v) (k0_pay177 (k0_pay37 (iota Kind.tc S256x256 32 [0] iota_S256x256_d0_w32) (iota Kind.tc S256x256 32 [1] iota_S256x256_d1_w32) k0_pay35) I.v I.q I.k) (k0_pay178 s) =
    I.out maskF 3 2 (I.fwd 3 (unbox s) 2) := rfl

theorem outF3_1 : k0_pay183 I.d0 I.ko (k0_pay175 I.q) (k0_pay176 I.v) (k0_pay177 (k0_pay37 (iota Kind.tc S256x256 32 [0] iota_S256x256_d0_w32) (iota Kind.tc S256x256 32 [1] iota_S256x256_d1_w32) k0_pay35) I.v I.q I.k) (k0_pay178 s) =
    I.out maskF 3 1 (I.fwd 3 (unbox s) 1) := rfl

theorem outF3_0 : k0_pay181 (k0_pay179 (k0_pay37 (iota Kind.tc S256x256 32 [0] iota_S256x256_d0_w32) (iota Kind.tc S256x256 32 [1] iota_S256x256_d1_w32) k0_pay35) I.v I.q I.k) (k0_pay180 I.q s) =
    I.out maskF 3 0 (I.fwd 3 (unbox s) 0) := rfl

theorem outF2_3 : k0_pay161 I.d1 I.d2 I.ko (k0_pay150 I.q) (k0_pay151 I.v) (k0_pay152 (k0_pay37 (iota Kind.tc S256x256 32 [0] iota_S256x256_d0_w32) (iota Kind.tc S256x256 32 [1] iota_S256x256_d1_w32) k0_pay35) I.v I.q I.k) (k0_pay155 I.v I.d0 I.ko s) =
    I.out maskF 2 3 (I.fwd 2 (unbox s) 3) := rfl

theorem outF2_2 : k0_pay159 I.d1 I.ko (k0_pay150 I.q) (k0_pay151 I.v) (k0_pay152 (k0_pay37 (iota Kind.tc S256x256 32 [0] iota_S256x256_d0_w32) (iota Kind.tc S256x256 32 [1] iota_S256x256_d1_w32) k0_pay35) I.v I.q I.k) (k0_pay155 I.v I.d0 I.ko s) =
    I.out maskF 2 2 (I.fwd 2 (unbox s) 2) := rfl

theorem outF2_1 : k0_pay157 (k0_pay150 I.q) (k0_pay155 I.v I.d0 I.ko s) (k0_pay156 (k0_pay37 (iota Kind.tc S256x256 32 [0] iota_S256x256_d0_w32) (iota Kind.tc S256x256 32 [1] iota_S256x256_d1_w32) k0_pay35) I.v I.q I.k) =
    I.out maskF 2 1 (I.fwd 2 (unbox s) 1) := rfl

theorem outF2_0 : k0_pay154 (k0_pay37 (iota Kind.tc S256x256 32 [0] iota_S256x256_d0_w32) (iota Kind.tc S256x256 32 [1] iota_S256x256_d1_w32) k0_pay35) I.v I.q I.k s =
    I.out maskF 2 0 (I.fwd 2 (unbox s) 0) := rfl

theorem outF1_3 : k0_pay134 I.d2 I.ko (k0_pay121 I.q) (k0_pay122 I.v) (k0_pay123 (k0_pay37 (iota Kind.tc S256x256 32 [0] iota_S256x256_d0_w32) (iota Kind.tc S256x256 32 [1] iota_S256x256_d1_w32) k0_pay35) I.v I.q I.k) (k0_pay128 I.v I.d0 I.d1 I.ko s) (k0_pay129 I.v) (k0_pay130 I.ko) =
    I.out maskF 1 3 (I.fwd 1 (unbox s) 3) := rfl

theorem outF1_2 : k0_pay132 (k0_pay121 I.q) (k0_pay123 (k0_pay37 (iota Kind.tc S256x256 32 [0] iota_S256x256_d0_w32) (iota Kind.tc S256x256 32 [1] iota_S256x256_d1_w32) k0_pay35) I.v I.q I.k) (k0_pay128 I.v I.d0 I.d1 I.ko s) (k0_pay129 I.v) (k0_pay130 I.ko) =
    I.out maskF 1 2 (I.fwd 1 (unbox s) 2) := rfl

theorem outF1_1 : k0_pay127 (k0_pay37 (iota Kind.tc S256x256 32 [0] iota_S256x256_d0_w32) (iota Kind.tc S256x256 32 [1] iota_S256x256_d1_w32) k0_pay35) I.v I.d0 I.q I.k I.ko s =
    I.out maskF 1 1 (I.fwd 1 (unbox s) 1) := rfl

theorem outF1_0 : k0_pay125 (k0_pay37 (iota Kind.tc S256x256 32 [0] iota_S256x256_d0_w32) (iota Kind.tc S256x256 32 [1] iota_S256x256_d1_w32) k0_pay35) I.v I.q I.k s =
    I.out maskF 1 0 (I.fwd 1 (unbox s) 0) := rfl

theorem outF0_3 : k0_pay104 I.ko (k0_pay92 I.q) (k0_pay93 I.v) (k0_pay95 (k0_pay37 (iota Kind.tc S256x256 32 [0] iota_S256x256_d0_w32) (iota Kind.tc S256x256 32 [1] iota_S256x256_d1_w32) k0_pay35) (k0_pay92 I.q) (k0_pay93 I.v) (k0_pay94 I.k) (constant S256x256 FTy.f32 0#32)) (k0_pay100 I.d0 I.d1 I.ko (k0_pay93 I.v) s) (k0_pay102 I.d2) =
    I.out maskF 0 3 (I.fwd 0 (unbox s) 3) := rfl

theorem outF0_2 : k0_pay101 (k0_pay37 (iota Kind.tc S256x256 32 [0] iota_S256x256_d0_w32) (iota Kind.tc S256x256 32 [1] iota_S256x256_d1_w32) k0_pay35) I.d0 I.d1 I.ko (k0_pay92 I.q) (k0_pay93 I.v) (k0_pay94 I.k) (constant S256x256 FTy.f32 0#32) s =
    I.out maskF 0 2 (I.fwd 0 (unbox s) 2) := rfl

theorem outF0_1 : k0_pay99 (k0_pay37 (iota Kind.tc S256x256 32 [0] iota_S256x256_d0_w32) (iota Kind.tc S256x256 32 [1] iota_S256x256_d1_w32) k0_pay35) I.d0 I.ko (k0_pay92 I.q) (k0_pay93 I.v) (k0_pay94 I.k) (constant S256x256 FTy.f32 0#32) s =
    I.out maskF 0 1 (I.fwd 0 (unbox s) 1) := rfl

theorem outF0_0 : k0_pay97 (k0_pay37 (iota Kind.tc S256x256 32 [0] iota_S256x256_d0_w32) (iota Kind.tc S256x256 32 [1] iota_S256x256_d1_w32) k0_pay35) (k0_pay92 I.q) (k0_pay93 I.v) (k0_pay94 I.k) (constant S256x256 FTy.f32 0#32) s =
    I.out maskF 0 0 (I.fwd 0 (unbox s) 0) := rfl

theorem outB7_0 : (k0_pay312 I.d1 I.ko (k0_pay300 I.q) (k0_pay301 I.v) (k0_pay302 (k0_pay38 (iota Kind.tc S256x256 32 [0] iota_S256x256_d0_w32) (iota Kind.tc S256x256 32 [1] iota_S256x256_d1_w32) k0_pay35) I.v I.q I.k) (k0_pay307 I.v I.d2 I.d3 I.ko s) (k0_pay308 I.v)) =
    I.out maskB 7 0 (I.bwd 7 (unbox s) 3) := rfl

theorem outB7_1 : k0_pay310 I.ko (k0_pay300 I.q) (k0_pay302 (k0_pay38 (iota Kind.tc S256x256 32 [0] iota_S256x256_d0_w32) (iota Kind.tc S256x256 32 [1] iota_S256x256_d1_w32) k0_pay35) I.v I.q I.k) (k0_pay307 I.v I.d2 I.d3 I.ko s) (k0_pay308 I.v) =
    I.out maskB 7 1 (I.bwd 7 (unbox s) 2) := rfl

theorem outB7_2 : k0_pay306 (k0_pay38 (iota Kind.tc S256x256 32 [0] iota_S256x256_d0_w32) (iota Kind.tc S256x256 32 [1] iota_S256x256_d1_w32) k0_pay35) I.v I.d3 I.q I.k I.ko s =
    I.out maskB 7 2 (I.bwd 7 (unbox s) 1) := rfl

theorem outB7_3 : k0_pay304 (k0_pay38 (iota Kind.tc S256x256 32 [0] iota_S256x256_d0_w32) (iota Kind.tc S256x256 32 [1] iota_S256x256_d1_w32) k0_pay35) I.v I.q I.k s =
    I.out maskB 7 3 (I.bwd 7 (unbox s) 0) := rfl

theorem outB6_0 : k0_pay283 I.d1 I.ko (k0_pay272 I.q) (k0_pay273 I.v) (k0_pay275 (k0_pay38 (iota Kind.tc S256x256 32 [0] iota_S256x256_d0_w32) (iota Kind.tc S256x256 32 [1] iota_S256x256_d1_w32) k0_pay35) (k0_pay272 I.q) (k0_pay273 I.v) (k0_pay274 I.k)) (k0_pay280 I.d2 I.d3 I.ko (k0_pay273 I.v) s) =
    I.out maskB 6 0 (I.bwd 6 (unbox s) 3) := rfl

theorem outB6_1 : k0_pay281 (k0_pay38 (iota Kind.tc S256x256 32 [0] iota_S256x256_d0_w32) (iota Kind.tc S256x256 32 [1] iota_S256x256_d1_w32) k0_pay35) I.d2 I.d3 I.ko (k0_pay272 I.q) (k0_pay273 I.v) (k0_pay274 I.k) s =
    I.out maskB 6 1 (I.bwd 6 (unbox s) 2) := rfl

theorem outB6_2 : k0_pay279 (k0_pay38 (iota Kind.tc S256x256 32 [0] iota_S256x256_d0_w32) (iota Kind.tc S256x256 32 [1] iota_S256x256_d1_w32) k0_pay35) I.d3 I.ko (k0_pay272 I.q) (k0_pay273 I.v) (k0_pay274 I.k) s =
    I.out maskB 6 2 (I.bwd 6 (unbox s) 1) := rfl

theorem outB6_3 : k0_pay277 (k0_pay38 (iota Kind.tc S256x256 32 [0] iota_S256x256_d0_w32) (iota Kind.tc S256x256 32 [1] iota_S256x256_d1_w32) k0_pay35) (k0_pay272 I.q) (k0_pay273 I.v) (k0_pay274 I.k) s =
    I.out maskB 6 3 (I.bwd 6 (unbox s) 0) := rfl

theorem outB5_0 : (k0_pay256 I.d1 I.d2 I.d3 I.ko (k0_pay246 I.q) (k0_pay247 I.v) (k0_pay248 (k0_pay38 (iota Kind.tc S256x256 32 [0] iota_S256x256_d0_w32) (iota Kind.tc S256x256 32 [1] iota_S256x256_d1_w32) k0_pay35) I.v I.q I.k) (k0_pay249 s)) =
    I.out maskB 5 0 (I.bwd 5 (unbox s) 3) := rfl

theorem outB5_1 : k0_pay254 I.d2 I.d3 I.ko (k0_pay246 I.q) (k0_pay247 I.v) (k0_pay248 (k0_pay38 (iota Kind.tc S256x256 32 [0] iota_S256x256_d0_w32) (iota Kind.tc S256x256 32 [1] iota_S256x256_d1_w32) k0_pay35) I.v I.q I.k) (k0_pay249 s) =
    I.out maskB 5 1 (I.bwd 5 (unbox s) 2) := rfl

theorem outB5_2 : k0_pay252 I.d3 I.ko (k0_pay246 I.q) (k0_pay247 I.v) (k0_pay248 (k0_pay38 (iota Kind.tc S256x256 32 [0] iota_S256x256_d0_w32) (iota Kind.tc S256x256 32 [1] iota_S256x256_d1_w32) k0_pay35) I.v I.q I.k) (k0_pay249 s) =
    I.out maskB 5 2 (I.bwd 5 (unbox s) 1) := rfl

theorem outB5_3 : k0_pay250 (k0_pay246 I.q) (k0_pay248 (k0_pay38 (iota Kind.tc S256x256 32 [0] iota_S256x256_d0_w32) (iota Kind.tc S256x256 32 [1] iota_S256x256_d1_w32) k0_pay35) I.v I.q I.k) (k0_pay249 s) =
    I.out maskB 5 3 (I.bwd 5 (unbox s) 0) := rfl

theorem outB4_0 : k0_pay230 I.d1 I.d2 I.ko (k0_pay218 I.q) (k0_pay219 I.v) (k0_pay220 (k0_pay38 (iota Kind.tc S256x256 32 [0] iota_S256x256_d0_w32) (iota Kind.tc S256x256 32 [1] iota_S256x256_d1_w32) k0_pay35) I.v I.q I.k) (k0_pay223 I.d3 s) (k0_pay224 I.v) =
    I.out maskB 4 0 (I.bwd 4 (unbox s) 3) := rfl

theorem outB4_1 : k0_pay228 I.d2 I.ko (k0_pay218 I.q) (k0_pay219 I.v) (k0_pay220 (k0_pay38 (iota Kind.tc S256x256 32 [0] iota_S256x256_d0_w32) (iota Kind.tc S256x256 32 [1] iota_S256x256_d1_w32) k0_pay35) I.v I.q I.k) (k0_pay223 I.d3 s) (k0_pay224 I.v) =
    I.out maskB 4 1 (I.bwd 4 (unbox s) 2) := rfl

theorem outB4_2 : k0_pay226 I.ko (k0_pay218 I.q) (k0_pay220 (k0_pay38 (iota Kind.tc S256x256 32 [0] iota_S256x256_d0_w32) (iota Kind.tc S256x256 32 [1] iota_S256x256_d1_w32) k0_pay35) I.v I.q I.k) (k0_pay223 I.d3 s) (k0_pay224 I.v) =
    I.out maskB 4 2 (I.bwd 4 (unbox s) 1) := rfl

theorem outB4_3 : k0_pay222 (k0_pay38 (iota Kind.tc S256x256 32 [0] iota_S256x256_d0_w32) (iota Kind.tc S256x256 32 [1] iota_S256x256_d1_w32) k0_pay35) I.v I.q I.k s =
    I.out maskB 4 3 (I.bwd 4 (unbox s) 0) := rfl

theorem outB3_0 : k0_pay200 I.d1 I.d2 I.ko (k0_pay190 I.q) (k0_pay191 I.v) (k0_pay192 (k0_pay38 (iota Kind.tc S256x256 32 [0] iota_S256x256_d0_w32) (iota Kind.tc S256x256 32 [1] iota_S256x256_d1_w32) k0_pay35) I.v I.q I.k) (k0_pay195 I.v I.d3 I.ko s) =
    I.out maskB 3 0 (I.bwd 3 (unbox s) 3) := rfl

theorem outB3_1 : k0_pay198 I.d2 I.ko (k0_pay190 I.q) (k0_pay191 I.v) (k0_pay192 (k0_pay38 (iota Kind.tc S256x256 32 [0] iota_S256x256_d0_w32) (iota Kind.tc S256x256 32 [1] iota_S256x256_d1_w32) k0_pay35) I.v I.q I.k) (k0_pay195 I.v I.d3 I.ko s) =
    I.out maskB 3 1 (I.bwd 3 (unbox s) 2) := rfl

theorem outB3_2 : k0_pay196 (k0_pay38 (iota Kind.tc S256x256 32 [0] iota_S256x256_d0_w32) (iota Kind.tc S256x256 32 [1] iota_S256x256_d1_w32) k0_pay35) I.v I.d3 I.q I.k I.ko s =
    I.out maskB 3 2 (I.bwd 3 (unbox s) 1) := rfl

theorem outB3_3 : k0_pay194 (k0_pay38 (iota Kind.tc S256x256 32 [0] iota_S256x256_d0_w32) (iota Kind.tc S256x256 32 [1] iota_S256x256_d1_w32) k0_pay35) I.v I.q I.k s =
    I.out maskB 3 3 (I.bwd 3 (unbox s) 0) := rfl

theorem outB2_0 : k0_pay173 I.d1 I.ko (k0_pay163 I.q) (k0_pay164 I.v) (k0_pay165 (k0_pay38 (iota Kind.tc S256x256 32 [0] iota_S256x256_d0_w32) (iota Kind.tc S256x256 32 [1] iota_S256x256_d1_w32) k0_pay35) I.v I.q I.k) (k0_pay170 I.v I.d2 I.d3 I.ko s) =
    I.out maskB 2 0 (I.bwd 2 (unbox s) 3) := rfl

theorem outB2_1 : (k0_pay171 (k0_pay38 (iota Kind.tc S256x256 32 [0] iota_S256x256_d0_w32) (iota Kind.tc S256x256 32 [1] iota_S256x256_d1_w32) k0_pay35) I.v I.d2 I.d3 I.q I.k I.ko s) =
    I.out maskB 2 1 (I.bwd 2 (unbox s) 2) := rfl

theorem outB2_2 : k0_pay169 (k0_pay38 (iota Kind.tc S256x256 32 [0] iota_S256x256_d0_w32) (iota Kind.tc S256x256 32 [1] iota_S256x256_d1_w32) k0_pay35) I.v I.d3 I.q I.k I.ko s =
    I.out maskB 2 2 (I.bwd 2 (unbox s) 1) := rfl

theorem outB2_3 : k0_pay167 (k0_pay38 (iota Kind.tc S256x256 32 [0] iota_S256x256_d0_w32) (iota Kind.tc S256x256 32 [1] iota_S256x256_d1_w32) k0_pay35) I.v I.q I.k s =
    I.out maskB 2 3 (I.bwd 2 (unbox s) 0) := rfl

theorem outB1_0 : k0_pay148 (k0_pay145 I.d1 I.d2 I.d3 I.ko (k0_pay137 I.v) s) (k0_pay146 (k0_pay138 (k0_pay38 (iota Kind.tc S256x256 32 [0] iota_S256x256_d0_w32) (iota Kind.tc S256x256 32 [1] iota_S256x256_d1_w32) k0_pay35) I.v I.q I.k)) (k0_pay147 (k0_pay136 I.q)) =
    I.out maskB 1 0 (I.bwd 1 (unbox s) 3) := rfl

theorem outB1_1 : k0_pay144 I.d2 I.d3 I.ko (k0_pay136 I.q) (k0_pay137 I.v) (k0_pay138 (k0_pay38 (iota Kind.tc S256x256 32 [0] iota_S256x256_d0_w32) (iota Kind.tc S256x256 32 [1] iota_S256x256_d1_w32) k0_pay35) I.v I.q I.k) s =
    I.out maskB 1 1 (I.bwd 1 (unbox s) 2) := rfl

theorem outB1_2 : k0_pay142 I.d3 I.ko (k0_pay136 I.q) (k0_pay137 I.v) (k0_pay138 (k0_pay38 (iota Kind.tc S256x256 32 [0] iota_S256x256_d0_w32) (iota Kind.tc S256x256 32 [1] iota_S256x256_d1_w32) k0_pay35) I.v I.q I.k) s =
    I.out maskB 1 2 (I.bwd 1 (unbox s) 1) := rfl

theorem outB1_3 : k0_pay140 (k0_pay136 I.q) (k0_pay138 (k0_pay38 (iota Kind.tc S256x256 32 [0] iota_S256x256_d0_w32) (iota Kind.tc S256x256 32 [1] iota_S256x256_d1_w32) k0_pay35) I.v I.q I.k) s =
    I.out maskB 1 3 (I.bwd 1 (unbox s) 0) := rfl

theorem outB0_0 : k0_pay116 I.d1 I.d2 I.d3 I.ko (k0_pay106 I.q) (k0_pay107 I.v) (k0_pay108 (k0_pay38 (iota Kind.tc S256x256 32 [0] iota_S256x256_d0_w32) (iota Kind.tc S256x256 32 [1] iota_S256x256_d1_w32) k0_pay35) I.v I.q I.k) (k0_pay109 s) =
    I.out maskB 0 0 (I.bwd 0 (unbox s) 3) := rfl

theorem outB0_1 : k0_pay114 I.d2 I.d3 I.ko (k0_pay106 I.q) (k0_pay107 I.v) (k0_pay108 (k0_pay38 (iota Kind.tc S256x256 32 [0] iota_S256x256_d0_w32) (iota Kind.tc S256x256 32 [1] iota_S256x256_d1_w32) k0_pay35) I.v I.q I.k) (k0_pay109 s) =
    I.out maskB 0 1 (I.bwd 0 (unbox s) 2) := rfl

theorem outB0_2 : k0_pay112 I.d3 I.ko (k0_pay106 I.q) (k0_pay107 I.v) (k0_pay108 (k0_pay38 (iota Kind.tc S256x256 32 [0] iota_S256x256_d0_w32) (iota Kind.tc S256x256 32 [1] iota_S256x256_d1_w32) k0_pay35) I.v I.q I.k) (k0_pay109 s) =
    I.out maskB 0 2 (I.bwd 0 (unbox s) 1) := rfl

theorem outB0_3 : k0_pay110 (k0_pay38 (iota Kind.tc S256x256 32 [0] iota_S256x256_d0_w32) (iota Kind.tc S256x256 32 [1] iota_S256x256_d1_w32) k0_pay35) I.v I.q I.k s =
    I.out maskB 0 3 (I.bwd 0 (unbox s) 0) := rfl

end Cert.KernelIdeal.Hgrn

end
-- ==== Proof.HgrnRun.lean ====
module

public import proofs.«01_k».proof.Proof.HgrnHeads

/-! What one run of the body leaves in its four output blocks. -/

@[expose] public section

set_option maxRecDepth 16384

noncomputable section

namespace Cert.KernelIdeal.Hgrn

open Cert.KernelIdeal Cert.KernelIdeal.Gen Idealize.ShloMosaic Idealize.ShloMosaic.TcCoe Idealize.SL.Sem

variable {F : FTy → Type} [FloatOps F]

section Base

variable (lb : FVec F S1x1024 .f32) (tri : FVec F S64x128 .bf16) (q f i : FVec F S256x1024 .f32)

theorem baseF_q : k0_pay65 (k0_pay39 q) (k0_pay48 lb (k0_pay40 lb) (k0_pay41 f) tri) (k0_pay52 lb (k0_pay40 lb) (k0_pay41 f) tri) (k0_pay56 lb (k0_pay40 lb) (k0_pay41 f) tri) (k0_pay60 lb (k0_pay40 lb) (k0_pay41 f) tri) =
    qinV tri (gateV lb f) (siluV q) := rfl

theorem baseF_k : k0_pay66 (k0_pay43 lb (k0_pay40 lb) (k0_pay41 f)) (k0_pay48 lb (k0_pay40 lb) (k0_pay41 f) tri) (k0_pay52 lb (k0_pay40 lb) (k0_pay41 f) tri) (k0_pay56 lb (k0_pay40 lb) (k0_pay41 f) tri) (k0_pay60 lb (k0_pay40 lb) (k0_pay41 f) tri) =
    kinV tri (gateV lb f) := rfl

theorem baseF_ko : k0_pay67 (k0_pay43 lb (k0_pay40 lb) (k0_pay41 f)) (k0_pay48 lb (k0_pay40 lb) (k0_pay41 f) tri) (k0_pay50 lb (k0_pay40 lb) (k0_pay41 f) tri) (k0_pay52 lb (k0_pay40 lb) (k0_pay41 f) tri) (k0_pay54 lb (k0_pay40 lb) (k0_pay41 f) tri) (k0_pay56 lb (k0_pay40 lb) (k0_pay41 f) tri) (k0_pay58 lb (k0_pay40 lb) (k0_pay41 f) tri) (k0_pay60 lb (k0_pay40 lb) (k0_pay41 f) tri) (k0_pay62 lb (k0_pay40 lb) (k0_pay41 f) tri) =
    koutV tri (gateV lb f) 63 := rfl

theorem baseF_v : k0_pay44 i =
    valV i := rfl

theorem baseF_d0 : k0_pay51 lb (k0_pay40 lb) (k0_pay41 f) tri =
    decV tri (gateV lb f) 63 0 := rfl

theorem baseF_d1 : k0_pay55 lb (k0_pay40 lb) (k0_pay41 f) tri =
    decV tri (gateV lb f) 63 1 := rfl

theorem baseF_d2 : k0_pay59 lb (k0_pay40 lb) (k0_pay41 f) tri =
    decV tri (gateV lb f) 63 2 := rfl

theorem baseF_d3 : k0_pay63 (k0_pay61 lb (k0_pay40 lb) (k0_pay41 f) tri) =
    decV tri (gateV lb f) 63 3 := rfl

theorem baseB_q : k0_pay89 (k0_pay68 q) (k0_pay72 lb f) (k0_pay73 lb f) (k0_pay74 lb f) tri =
    qinV tri (gateV lb f) (siluV q) := rfl

theorem baseB_k : k0_pay90 (k0_pay70 lb f) (k0_pay72 lb f) (k0_pay73 lb f) (k0_pay74 lb f) tri =
    kinV tri (gateV lb f) := rfl

theorem baseB_ko : k0_pay91 (k0_pay70 lb f) (k0_pay72 lb f) (k0_pay73 lb f) (k0_pay74 lb f) tri =
    koutV tri (gateV lb f) 0 := rfl

theorem baseB_v : k0_pay71 i =
    valV i := rfl

theorem baseB_d3 : k0_pay87 (k0_pay72 lb f) (k0_pay73 lb f) (k0_pay74 lb f) tri =
    decV tri (gateV lb f) 0 3 := rfl

theorem baseB_d2 : k0_pay84 (k0_pay72 lb f) (k0_pay73 lb f) (k0_pay74 lb f) tri =
    decV tri (gateV lb f) 0 2 := rfl

theorem baseB_d1 : k0_pay81 (k0_pay72 lb f) (k0_pay73 lb f) (k0_pay74 lb f) tri =
    decV tri (gateV lb f) 0 1 := rfl

theorem baseB_d0 : k0_pay78 (k0_pay72 lb f) (k0_pay73 lb f) (k0_pay74 lb f) tri =
    decV tri (gateV lb f) 0 0 := rfl

end Base

section Reads

variable {sig : RefSig} {κ : Kind} {sp : Space} {S : Shape} {e : EltTy} {Val : EltTy → Type} [∀ e, Nonempty (Val e)]

/-- A load of the box the last store filled reads that store. -/
theorem readCov_hit (v : View sig κ sp S e) {off size : Fin S.rank → Nat} (inb inb' : ∀ a, off a + size a ≤ S.size a)
    (w : (⟨S.rank, size⟩ : Shape).Idx → Val e) (L : List (View.Piece Val S e)) :
    v.readCov (⟨Rect.unit off size inb, w⟩ :: L) (Rect.unit off size inb').toLoadRect = w := by
  rw [View.readCov_eq_canon']
  funext j
  exact View.canon_cons_emb (Rect.unit off size inb) w L j

/-- A load of a box apart from the last store's reads the earlier stores. -/
theorem readCov_miss (v : View sig κ sp S e) {off off' size size' : Fin S.rank → Nat}
    (inb : ∀ a, off a + size a ≤ S.size a) (inb' : ∀ a, off' a + size' a ≤ S.size a)
    (w : (⟨S.rank, size⟩ : Shape).Idx → Val e) (L : List (View.Piece Val S e)) (a : Fin S.rank)
    (h : off a + size a ≤ off' a ∨ off' a + size' a ≤ off a) :
    v.readCov (⟨Rect.unit off size inb, w⟩ :: L) (Rect.unit off' size' inb').toLoadRect
      = v.readCov L (Rect.unit off' size' inb').toLoadRect := by
  rw [View.readCov_eq_canon', View.readCov_eq_canon']
  funext j
  refine View.canon_cons_of_not_mem _ _ ?_
  intro hm
  have h1 := (Rect.mem_set_unit (inb := inb).mp hm) a
  have h2 := Rect.mem_set_unit (inb := inb').mp ((Rect.unit off' size' inb').idx_mem j) a
  have h3 : (Rect.unit off' size' inb').idx j = (Rect.unit off' size' inb').toLoadRect.idx j := rfl
  rw [h3] at h2
  omega

end Reads

variable (c : Dev nD)
variable (arg2 : Memref sig .tc .vmem S256x1024 .f32) (harg2 : arg2.IsWhole)
variable (arg3 : Memref sig .tc .vmem S256x1024 .f32) (harg3 : arg3.IsWhole)
variable (arg4 : Memref sig .tc .vmem S256x1024 .f32) (harg4 : arg4.IsWhole)
variable (arg5 : Memref sig .tc .vmem S256x1024 .f32) (harg5 : arg5.IsWhole)
variable (arg6 : Memref sig .tc .vmem S256x1024 .f32) (harg6 : arg6.IsWhole)
variable (arg7 : Memref sig .tc .vmem S256x1024 .f32) (harg7 : arg7.IsWhole)
variable (arg8 : Memref sig .tc .vmem S2x1024 .f32) (harg8 : arg8.IsWhole)
variable (arg9 : Memref sig .tc .vmem S1x8x128x128 .f32) (harg9 : arg9.IsWhole)
variable (arg10 : Memref sig .tc .vmem S1x8x128x128 .f32) (harg10 : arg10.IsWhole)
variable (arg11 : Memref sig .tc .vmem S64x128 .bf16) (harg11 : arg11.IsWhole)
variable (arg12 : Memref sig .tc .vmem S64x128 .bf16) (harg12 : arg12.IsWhole)
variable (arg19 : Memref sig .tc .vmem S2x8x128x128 .f32)
variable (x0 : Vec F S256x1024 .f32)
variable (x1 : Vec F S256x1024 .f32)
variable (x2 : Vec F S256x1024 .f32)
variable (x3 : Vec F S256x1024 .f32)
variable (x4 : Vec F S256x1024 .f32)
variable (x5 : Vec F S256x1024 .f32)
variable (x6 : Vec F S2x1024 .f32)
variable (x7 : Vec F S1x8x128x128 .f32)
variable (x8 : Vec F S1x8x128x128 .f32)
variable (x9 : Vec F S64x128 .bf16)
variable (x10 : Vec F S64x128 .bf16)

/-- The direction's staged arrays, as the run names them. -/
abbrev rawF : Staged F :=
  ⟨kernelRun0_A.sl.r_19 c arg2 harg2 arg3 harg3 arg8 harg8 arg11 harg11 x0 x1 x6 x9,
   kernelRun0_A.sl.r_20 c arg3 harg3 arg8 harg8 arg11 harg11 x1 x6 x9,
   kernelRun0_A.sl.r_21 c arg3 harg3 arg8 harg8 arg11 harg11 x1 x6 x9,
   kernelRun0_A.sl.r_5 c arg4 harg4 x2,
   kernelRun0_A.sl.r_8 c arg3 harg3 arg8 harg8 arg11 harg11 x1 x6 x9,
   kernelRun0_A.sl.r_11 c arg3 harg3 arg8 harg8 arg11 harg11 x1 x6 x9,
   kernelRun0_A.sl.r_14 c arg3 harg3 arg8 harg8 arg11 harg11 x1 x6 x9,
   kernelRun0_A.sl.r_18 c arg3 harg3 arg8 harg8 arg11 harg11 x1 x6 x9⟩

abbrev rawB : Staged F :=
  ⟨kernelRun0_A.sl.r_32 c arg5 harg5 arg6 harg6 arg8 harg8 arg12 harg12 x3 x4 x6 x10,
   kernelRun0_A.sl.r_33 c arg6 harg6 arg8 harg8 arg12 harg12 x4 x6 x10,
   kernelRun0_A.sl.r_34 c arg6 harg6 arg8 harg8 arg12 harg12 x4 x6 x10,
   kernelRun0_A.sl.r_24 c arg7 harg7 x5,
   kernelRun0_A.sl.r_28 c arg6 harg6 arg8 harg8 arg12 harg12 x4 x6 x10,
   kernelRun0_A.sl.r_29 c arg6 harg6 arg8 harg8 arg12 harg12 x4 x6 x10,
   kernelRun0_A.sl.r_30 c arg6 harg6 arg8 harg8 arg12 harg12 x4 x6 x10,
   kernelRun0_A.sl.r_31 c arg6 harg6 arg8 harg8 arg12 harg12 x4 x6 x10⟩

theorem initF0 : kernelRun0_A.sl.v239 c arg9 harg9 arg10 harg10 arg19 x7 x8 = kernelRun0_A.sl.v1279 c arg9 harg9 x7 := by
  unfold kernelRun0_A.sl.v239
  unfold kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB0 : kernelRun0_A.sl.v304 c arg3 harg3 arg4 harg4 arg8 harg8 arg9 harg9 arg10 harg10 arg11 harg11 arg19 x1 x2 x6 x7 x8 x9 = kernelRun0_A.sl.v1285 c arg10 harg10 x8 := by
  unfold kernelRun0_A.sl.v304
  unfold kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF1 : kernelRun0_A.sl.v369 c arg3 harg3 arg4 harg4 arg6 harg6 arg7 harg7 arg8 harg8 arg9 harg9 arg10 harg10 arg11 harg11 arg12 harg12 arg19 x1 x2 x4 x5 x6 x7 x8 x9 x10 = kernelRun0_A.sl.v1291 c arg9 harg9 x7 := by
  unfold kernelRun0_A.sl.v369
  unfold kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB1 : kernelRun0_A.sl.v434 c arg3 harg3 arg4 harg4 arg6 harg6 arg7 harg7 arg8 harg8 arg9 harg9 arg10 harg10 arg11 harg11 arg12 harg12 arg19 x1 x2 x4 x5 x6 x7 x8 x9 x10 = kernelRun0_A.sl.v1297 c arg10 harg10 x8 := by
  unfold kernelRun0_A.sl.v434
  unfold kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF2 : kernelRun0_A.sl.v499 c arg3 harg3 arg4 harg4 arg6 harg6 arg7 harg7 arg8 harg8 arg9 harg9 arg10 harg10 arg11 harg11 arg12 harg12 arg19 x1 x2 x4 x5 x6 x7 x8 x9 x10 = kernelRun0_A.sl.v1303 c arg9 harg9 x7 := by
  unfold kernelRun0_A.sl.v499
  unfold kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB2 : kernelRun0_A.sl.v564 c arg3 harg3 arg4 harg4 arg6 harg6 arg7 harg7 arg8 harg8 arg9 harg9 arg10 harg10 arg11 harg11 arg12 harg12 arg19 x1 x2 x4 x5 x6 x7 x8 x9 x10 = kernelRun0_A.sl.v1309 c arg10 harg10 x8 := by
  unfold kernelRun0_A.sl.v564
  unfold kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF3 : kernelRun0_A.sl.v629 c arg3 harg3 arg4 harg4 arg6 harg6 arg7 harg7 arg8 harg8 arg9 harg9 arg10 harg10 arg11 harg11 arg12 harg12 arg19 x1 x2 x4 x5 x6 x7 x8 x9 x10 = kernelRun0_A.sl.v1315 c arg9 harg9 x7 := by
  unfold kernelRun0_A.sl.v629
  unfold kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB3 : kernelRun0_A.sl.v694 c arg3 harg3 arg4 harg4 arg6 harg6 arg7 harg7 arg8 harg8 arg9 harg9 arg10 harg10 arg11 harg11 arg12 harg12 arg19 x1 x2 x4 x5 x6 x7 x8 x9 x10 = kernelRun0_A.sl.v1321 c arg10 harg10 x8 := by
  unfold kernelRun0_A.sl.v694
  unfold kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF4 : kernelRun0_A.sl.v759 c arg3 harg3 arg4 harg4 arg6 harg6 arg7 harg7 arg8 harg8 arg9 harg9 arg10 harg10 arg11 harg11 arg12 harg12 arg19 x1 x2 x4 x5 x6 x7 x8 x9 x10 = kernelRun0_A.sl.v1327 c arg9 harg9 x7 := by
  unfold kernelRun0_A.sl.v759
  unfold kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB4 : kernelRun0_A.sl.v824 c arg3 harg3 arg4 harg4 arg6 harg6 arg7 harg7 arg8 harg8 arg9 harg9 arg10 harg10 arg11 harg11 arg12 harg12 arg19 x1 x2 x4 x5 x6 x7 x8 x9 x10 = kernelRun0_A.sl.v1333 c arg10 harg10 x8 := by
  unfold kernelRun0_A.sl.v824
  unfold kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF5 : kernelRun0_A.sl.v889 c arg3 harg3 arg4 harg4 arg6 harg6 arg7 harg7 arg8 harg8 arg9 harg9 arg10 harg10 arg11 harg11 arg12 harg12 arg19 x1 x2 x4 x5 x6 x7 x8 x9 x10 = kernelRun0_A.sl.v1339 c arg9 harg9 x7 := by
  unfold kernelRun0_A.sl.v889
  unfold kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB5 : kernelRun0_A.sl.v954 c arg3 harg3 arg4 harg4 arg6 harg6 arg7 harg7 arg8 harg8 arg9 harg9 arg10 harg10 arg11 harg11 arg12 harg12 arg19 x1 x2 x4 x5 x6 x7 x8 x9 x10 = kernelRun0_A.sl.v1345 c arg10 harg10 x8 := by
  unfold kernelRun0_A.sl.v954
  unfold kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF6 : kernelRun0_A.sl.v1019 c arg3 harg3 arg4 harg4 arg6 harg6 arg7 harg7 arg8 harg8 arg9 harg9 arg10 harg10 arg11 harg11 arg12 harg12 arg19 x1 x2 x4 x5 x6 x7 x8 x9 x10 = kernelRun0_A.sl.v1351 c arg9 harg9 x7 := by
  unfold kernelRun0_A.sl.v1019
  unfold kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB6 : kernelRun0_A.sl.v1084 c arg3 harg3 arg4 harg4 arg6 harg6 arg7 harg7 arg8 harg8 arg9 harg9 arg10 harg10 arg11 harg11 arg12 harg12 arg19 x1 x2 x4 x5 x6 x7 x8 x9 x10 = kernelRun0_A.sl.v1357 c arg10 harg10 x8 := by
  unfold kernelRun0_A.sl.v1084
  unfold kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initF7 : kernelRun0_A.sl.v1149 c arg3 harg3 arg4 harg4 arg6 harg6 arg7 harg7 arg8 harg8 arg9 harg9 arg10 harg10 arg11 harg11 arg12 harg12 arg19 x1 x2 x4 x5 x6 x7 x8 x9 x10 = kernelRun0_A.sl.v1363 c arg9 harg9 x7 := by
  unfold kernelRun0_A.sl.v1149
  unfold kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem initB7 : kernelRun0_A.sl.v1214 c arg3 harg3 arg4 harg4 arg6 harg6 arg7 harg7 arg8 harg8 arg9 harg9 arg10 harg10 arg11 harg11 arg12 harg12 arg19 x1 x2 x4 x5 x6 x7 x8 x9 x10 = kernelRun0_A.sl.v1369 c arg10 harg10 x8 := by
  unfold kernelRun0_A.sl.v1214
  unfold kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17 kernelRun0_A.sl.HS0_16
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans (readCov_hit _ _ _ _ _)))))))))))))))

theorem finalF0 : k0_pay105 (kernelRun0_A.sl.r_18 c arg3 harg3 arg8 harg8 arg11 harg11 x1 x6 x9) (kernelRun0_A.sl.r_21 c arg3 harg3 arg8 harg8 arg11 harg11 x1 x6 x9) (kernelRun0_A.sl.r_36 c arg4 harg4 x2) (kernelRun0_A.sl.r_39 c arg3 harg3 arg4 harg4 arg8 harg8 arg9 harg9 arg10 harg10 arg11 harg11 arg19 x1 x2 x6 x7 x8 x9) (kernelRun0_A.sl.r_40 c arg3 harg3 arg8 harg8 arg11 harg11 x1 x6 x9) =
    box ((rawF c arg2 harg2 arg3 harg3 arg4 harg4 arg8 harg8 arg11 harg11 x0 x1 x2 x6 x9).fwd 0 (unbox (kernelRun0_A.sl.v1279 c arg9 harg9 x7)) 4) :=
  (stateF0 (rawF c arg2 harg2 arg3 harg3 arg4 harg4 arg8 harg8 arg11 harg11 x0 x1 x2 x6 x9) (kernelRun0_A.sl.v239 c arg9 harg9 arg10 harg10 arg19 x7 x8)).trans
    (congrArg (fun s => box ((rawF c arg2 harg2 arg3 harg3 arg4 harg4 arg8 harg8 arg11 harg11 x0 x1 x2 x6 x9).fwd 0 (unbox s) 4)) (initF0 c arg9 harg9 arg10 harg10 arg19 x7 x8))

theorem finalB0 : k0_pay120 (kernelRun0_A.sl.r_45 c arg3 harg3 arg4 harg4 arg6 harg6 arg7 harg7 arg8 harg8 arg9 harg9 arg10 harg10 arg11 harg11 arg12 harg12 arg19 x1 x2 x4 x5 x6 x7 x8 x9 x10) (kernelRun0_A.sl.r_46 c arg7 harg7 x5) (kernelRun0_A.sl.r_47 c arg6 harg6 arg8 harg8 arg12 harg12 x4 x6 x10) kernelRun0_A.sl.cst_102 =
    box ((rawB c arg5 harg5 arg6 harg6 arg7 harg7 arg8 harg8 arg12 harg12 x3 x4 x5 x6 x10).bwd 0 (unbox (kernelRun0_A.sl.v1285 c arg10 harg10 x8)) 4) :=
  (stateB0 (rawB c arg5 harg5 arg6 harg6 arg7 harg7 arg8 harg8 arg12 harg12 x3 x4 x5 x6 x10) (kernelRun0_A.sl.v304 c arg3 harg3 arg4 harg4 arg8 harg8 arg9 harg9 arg10 harg10 arg11 harg11 arg19 x1 x2 x6 x7 x8 x9)).trans
    (congrArg (fun s => box ((rawB c arg5 harg5 arg6 harg6 arg7 harg7 arg8 harg8 arg12 harg12 x3 x4 x5 x6 x10).bwd 0 (unbox s) 4)) (initB0 c arg3 harg3 arg4 harg4 arg8 harg8 arg9 harg9 arg10 harg10 arg11 harg11 arg19 x1 x2 x6 x7 x8 x9))

theorem finalF1 : k0_pay135 (kernelRun0_A.sl.r_14 c arg3 harg3 arg8 harg8 arg11 harg11 x1 x6 x9) (kernelRun0_A.sl.r_18 c arg3 harg3 arg8 harg8 arg11 harg11 x1 x6 x9) (kernelRun0_A.sl.r_21 c arg3 harg3 arg8 harg8 arg11 harg11 x1 x6 x9) (kernelRun0_A.sl.r_49 c arg4 harg4 x2) (kernelRun0_A.sl.r_51 c arg3 harg3 arg4 harg4 arg6 harg6 arg7 harg7 arg8 harg8 arg9 harg9 arg10 harg10 arg11 harg11 arg12 harg12 arg19 x1 x2 x4 x5 x6 x7 x8 x9 x10) (kernelRun0_A.sl.r_52 c arg4 harg4 x2) (kernelRun0_A.sl.r_53 c arg3 harg3 arg8 harg8 arg11 harg11 x1 x6 x9) =
    box ((rawF c arg2 harg2 arg3 harg3 arg4 harg4 arg8 harg8 arg11 harg11 x0 x1 x2 x6 x9).fwd 1 (unbox (kernelRun0_A.sl.v1291 c arg9 harg9 x7)) 4) :=
  (stateF1 (rawF c arg2 harg2 arg3 harg3 arg4 harg4 arg8 harg8 arg11 harg11 x0 x1 x2 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 1 (unbox s) 4)) (initF1 c arg3 harg3 arg4 harg4 arg6 harg6 arg7 harg7 arg8 harg8 arg9 harg9 arg10 harg10 arg11 harg11 arg12 harg12 arg19 x1 x2 x4 x5 x6 x7 x8 x9 x10))

theorem finalB1 : k0_pay149 (kernelRun0_A.sl.r_28 c arg6 harg6 arg8 harg8 arg12 harg12 x4 x6 x10) (kernelRun0_A.sl.r_34 c arg6 harg6 arg8 harg8 arg12 harg12 x4 x6 x10) (kernelRun0_A.sl.r_55 c arg7 harg7 x5) (kernelRun0_A.sl.r_57 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 1 (unbox (kernelRun0_A.sl.v1297 c arg10 harg10 x8)) 4) :=
  (stateB1 (rawB c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 1 (unbox s) 4)) (initB1 c arg3 harg3 arg4 harg4 arg6 harg6 arg7 harg7 arg8 harg8 arg9 harg9 arg10 harg10 arg11 harg11 arg12 harg12 arg19 x1 x2 x4 x5 x6 x7 x8 x9 x10))

theorem finalF2 : kernelRun0_A.sl.r_65 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 2 (unbox (kernelRun0_A.sl.v1303 c arg9 harg9 x7)) 4) :=
  (stateF2 (rawF c arg2 harg2 arg3 harg3 arg4 harg4 arg8 harg8 arg11 harg11 x0 x1 x2 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 2 (unbox s) 4)) (initF2 c arg3 harg3 arg4 harg4 arg6 harg6 arg7 harg7 arg8 harg8 arg9 harg9 arg10 harg10 arg11 harg11 arg12 harg12 arg19 x1 x2 x4 x5 x6 x7 x8 x9 x10))

theorem finalB2 : k0_pay174 (kernelRun0_A.sl.r_28 c arg6 harg6 arg8 harg8 arg12 harg12 x4 x6 x10) (kernelRun0_A.sl.r_29 c arg6 harg6 arg8 harg8 arg12 harg12 x4 x6 x10) (kernelRun0_A.sl.r_34 c arg6 harg6 arg8 harg8 arg12 harg12 x4 x6 x10) (kernelRun0_A.sl.r_67 c arg7 harg7 x5) (kernelRun0_A.sl.r_69 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 2 (unbox (kernelRun0_A.sl.v1309 c arg10 harg10 x8)) 4) :=
  (stateB2 (rawB c arg5 harg5 arg6 harg6 arg7 harg7 arg8 harg8 arg12 harg12 x3 x4 x5 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 2 (unbox s) 4)) (initB2 c arg3 harg3 arg4 harg4 arg6 harg6 arg7 harg7 arg8 harg8 arg9 harg9 arg10 harg10 arg11 harg11 arg12 harg12 arg19 x1 x2 x4 x5 x6 x7 x8 x9 x10))

theorem finalF3 : k0_pay189 (kernelRun0_A.sl.r_21 c arg3 harg3 arg8 harg8 arg11 harg11 x1 x6 x9) (kernelRun0_A.sl.r_72 c arg4 harg4 x2) (kernelRun0_A.sl.r_77 c arg3 harg3 arg4 harg4 arg6 harg6 arg7 harg7 arg8 harg8 arg9 harg9 arg10 harg10 arg11 harg11 arg12 harg12 arg19 x1 x2 x4 x5 x6 x7 x8 x9 x10) (kernelRun0_A.sl.r_78 c arg3 harg3 arg8 harg8 arg11 harg11 x1 x6 x9) =
    box ((rawF c arg2 harg2 arg3 harg3 arg4 harg4 arg8 harg8 arg11 harg11 x0 x1 x2 x6 x9).fwd 3 (unbox (kernelRun0_A.sl.v1315 c arg9 harg9 x7)) 4) :=
  (stateF3 (rawF c arg2 harg2 arg3 harg3 arg4 harg4 arg8 harg8 arg11 harg11 x0 x1 x2 x6 x9) (kernelRun0_A.sl.v629 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 3 (unbox s) 4)) (initF3 c arg3 harg3 arg4 harg4 arg6 harg6 arg7 harg7 arg8 harg8 arg9 harg9 arg10 harg10 arg11 harg11 arg12 harg12 arg19 x1 x2 x4 x5 x6 x7 x8 x9 x10))

theorem finalB3 : k0_pay201 (kernelRun0_A.sl.r_28 c arg6 harg6 arg8 harg8 arg12 harg12 x4 x6 x10) (kernelRun0_A.sl.r_29 c arg6 harg6 arg8 harg8 arg12 harg12 x4 x6 x10) (kernelRun0_A.sl.r_30 c arg6 harg6 arg8 harg8 arg12 harg12 x4 x6 x10) (kernelRun0_A.sl.r_34 c arg6 harg6 arg8 harg8 arg12 harg12 x4 x6 x10) (kernelRun0_A.sl.r_80 c arg7 harg7 x5) (kernelRun0_A.sl.r_82 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 3 (unbox (kernelRun0_A.sl.v1321 c arg10 harg10 x8)) 4) :=
  (stateB3 (rawB c arg5 harg5 arg6 harg6 arg7 harg7 arg8 harg8 arg12 harg12 x3 x4 x5 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 3 (unbox s) 4)) (initB3 c arg3 harg3 arg4 harg4 arg6 harg6 arg7 harg7 arg8 harg8 arg9 harg9 arg10 harg10 arg11 harg11 arg12 harg12 arg19 x1 x2 x4 x5 x6 x7 x8 x9 x10))

theorem finalF4 : k0_pay217 (kernelRun0_A.sl.r_18 c arg3 harg3 arg8 harg8 arg11 harg11 x1 x6 x9) (kernelRun0_A.sl.r_21 c arg3 harg3 arg8 harg8 arg11 harg11 x1 x6 x9) (kernelRun0_A.sl.r_84 c arg4 harg4 x2) (kernelRun0_A.sl.r_87 c arg3 harg3 arg4 harg4 arg6 harg6 arg7 harg7 arg8 harg8 arg9 harg9 arg10 harg10 arg11 harg11 arg12 harg12 arg19 x1 x2 x4 x5 x6 x7 x8 x9 x10) (kernelRun0_A.sl.r_88 c arg4 harg4 x2) (kernelRun0_A.sl.r_89 c arg3 harg3 arg8 harg8 arg11 harg11 x1 x6 x9) =
    box ((rawF c arg2 harg2 arg3 harg3 arg4 harg4 arg8 harg8 arg11 harg11 x0 x1 x2 x6 x9).fwd 4 (unbox (kernelRun0_A.sl.v1327 c arg9 harg9 x7)) 4) :=
  (stateF4 (rawF c arg2 harg2 arg3 harg3 arg4 harg4 arg8 harg8 arg11 harg11 x0 x1 x2 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 4 (unbox s) 4)) (initF4 c arg3 harg3 arg4 harg4 arg6 harg6 arg7 harg7 arg8 harg8 arg9 harg9 arg10 harg10 arg11 harg11 arg12 harg12 arg19 x1 x2 x4 x5 x6 x7 x8 x9 x10))

theorem finalB4 : k0_pay232 (kernelRun0_A.sl.r_95 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 4 (unbox (kernelRun0_A.sl.v1333 c arg10 harg10 x8)) 4) :=
  (stateB4 (rawB c arg5 harg5 arg6 harg6 arg7 harg7 arg8 harg8 arg12 harg12 x3 x4 x5 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 4 (unbox s) 4)) (initB4 c arg3 harg3 arg4 harg4 arg6 harg6 arg7 harg7 arg8 harg8 arg9 harg9 arg10 harg10 arg11 harg11 arg12 harg12 arg19 x1 x2 x4 x5 x6 x7 x8 x9 x10))

theorem finalF5 : k0_pay245 (kernelRun0_A.sl.r_14 c arg3 harg3 arg8 harg8 arg11 harg11 x1 x6 x9) (kernelRun0_A.sl.r_18 c arg3 harg3 arg8 harg8 arg11 harg11 x1 x6 x9) (kernelRun0_A.sl.r_21 c arg3 harg3 arg8 harg8 arg11 harg11 x1 x6 x9) (kernelRun0_A.sl.r_97 c arg4 harg4 x2) (kernelRun0_A.sl.r_99 c arg3 harg3 arg4 harg4 arg6 harg6 arg7 harg7 arg8 harg8 arg9 harg9 arg10 harg10 arg11 harg11 arg12 harg12 arg19 x1 x2 x4 x5 x6 x7 x8 x9 x10) =
    box ((rawF c arg2 harg2 arg3 harg3 arg4 harg4 arg8 harg8 arg11 harg11 x0 x1 x2 x6 x9).fwd 5 (unbox (kernelRun0_A.sl.v1339 c arg9 harg9 x7)) 4) :=
  (stateF5 (rawF c arg2 harg2 arg3 harg3 arg4 harg4 arg8 harg8 arg11 harg11 x0 x1 x2 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 5 (unbox s) 4)) (initF5 c arg3 harg3 arg4 harg4 arg6 harg6 arg7 harg7 arg8 harg8 arg9 harg9 arg10 harg10 arg11 harg11 arg12 harg12 arg19 x1 x2 x4 x5 x6 x7 x8 x9 x10))

theorem finalB5 : k0_pay257 (kernelRun0_A.sl.r_28 c arg6 harg6 arg8 harg8 arg12 harg12 x4 x6 x10) (kernelRun0_A.sl.r_34 c arg6 harg6 arg8 harg8 arg12 harg12 x4 x6 x10) (kernelRun0_A.sl.r_102 c arg7 harg7 x5) (kernelRun0_A.sl.r_105 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 5 (unbox (kernelRun0_A.sl.v1345 c arg10 harg10 x8)) 4) :=
  (stateB5 (rawB c arg5 harg5 arg6 harg6 arg7 harg7 arg8 harg8 arg12 harg12 x3 x4 x5 x6 x10) (kernelRun0_A.sl.v954 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 5 (unbox s) 4)) (initB5 c arg3 harg3 arg4 harg4 arg6 harg6 arg7 harg7 arg8 harg8 arg9 harg9 arg10 harg10 arg11 harg11 arg12 harg12 arg19 x1 x2 x4 x5 x6 x7 x8 x9 x10))

theorem finalF6 : k0_pay271 (kernelRun0_A.sl.r_11 c arg3 harg3 arg8 harg8 arg11 harg11 x1 x6 x9) (kernelRun0_A.sl.r_14 c arg3 harg3 arg8 harg8 arg11 harg11 x1 x6 x9) (kernelRun0_A.sl.r_18 c arg3 harg3 arg8 harg8 arg11 harg11 x1 x6 x9) (kernelRun0_A.sl.r_21 c arg3 harg3 arg8 harg8 arg11 harg11 x1 x6 x9) (kernelRun0_A.sl.r_108 c arg4 harg4 x2) (kernelRun0_A.sl.r_110 c arg3 harg3 arg4 harg4 arg6 harg6 arg7 harg7 arg8 harg8 arg9 harg9 arg10 harg10 arg11 harg11 arg12 harg12 arg19 x1 x2 x4 x5 x6 x7 x8 x9 x10) =
    box ((rawF c arg2 harg2 arg3 harg3 arg4 harg4 arg8 harg8 arg11 harg11 x0 x1 x2 x6 x9).fwd 6 (unbox (kernelRun0_A.sl.v1351 c arg9 harg9 x7)) 4) :=
  (stateF6 (rawF c arg2 harg2 arg3 harg3 arg4 harg4 arg8 harg8 arg11 harg11 x0 x1 x2 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 6 (unbox s) 4)) (initF6 c arg3 harg3 arg4 harg4 arg6 harg6 arg7 harg7 arg8 harg8 arg9 harg9 arg10 harg10 arg11 harg11 arg12 harg12 arg19 x1 x2 x4 x5 x6 x7 x8 x9 x10))

theorem finalB6 : k0_pay284 (kernelRun0_A.sl.r_28 c arg6 harg6 arg8 harg8 arg12 harg12 x4 x6 x10) (kernelRun0_A.sl.r_29 c arg6 harg6 arg8 harg8 arg12 harg12 x4 x6 x10) (kernelRun0_A.sl.r_34 c arg6 harg6 arg8 harg8 arg12 harg12 x4 x6 x10) (kernelRun0_A.sl.r_114 c arg7 harg7 x5) (kernelRun0_A.sl.r_117 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 6 (unbox (kernelRun0_A.sl.v1357 c arg10 harg10 x8)) 4) :=
  (stateB6 (rawB c arg5 harg5 arg6 harg6 arg7 harg7 arg8 harg8 arg12 harg12 x3 x4 x5 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 6 (unbox s) 4)) (initB6 c arg3 harg3 arg4 harg4 arg6 harg6 arg7 harg7 arg8 harg8 arg9 harg9 arg10 harg10 arg11 harg11 arg12 harg12 arg19 x1 x2 x4 x5 x6 x7 x8 x9 x10))

theorem finalF7 : k0_pay299 (kernelRun0_A.sl.r_123 c arg3 harg3 arg4 harg4 arg6 harg6 arg7 harg7 arg8 harg8 arg9 harg9 arg10 harg10 arg11 harg11 arg12 harg12 arg19 x1 x2 x4 x5 x6 x7 x8 x9 x10) (kernelRun0_A.sl.r_124 c arg4 harg4 x2) (kernelRun0_A.sl.r_125 c arg3 harg3 arg8 harg8 arg11 harg11 x1 x6 x9) =
    box ((rawF c arg2 harg2 arg3 harg3 arg4 harg4 arg8 harg8 arg11 harg11 x0 x1 x2 x6 x9).fwd 7 (unbox (kernelRun0_A.sl.v1363 c arg9 harg9 x7)) 4) :=
  (stateF7 (rawF c arg2 harg2 arg3 harg3 arg4 harg4 arg8 harg8 arg11 harg11 x0 x1 x2 x6 x9) (kernelRun0_A.sl.v1149 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawF c arg2 harg2 arg3 harg3 arg4 harg4 arg8 harg8 arg11 harg11 x0 x1 x2 x6 x9).fwd 7 (unbox s) 4)) (initF7 c arg3 harg3 arg4 harg4 arg6 harg6 arg7 harg7 arg8 harg8 arg9 harg9 arg10 harg10 arg11 harg11 arg12 harg12 arg19 x1 x2 x4 x5 x6 x7 x8 x9 x10))

theorem finalB7 : k0_pay1 (kernelRun0_A.sl.r_28 c arg6 harg6 arg8 harg8 arg12 harg12 x4 x6 x10) (kernelRun0_A.sl.r_34 c arg6 harg6 arg8 harg8 arg12 harg12 x4 x6 x10) (kernelRun0_A.sl.r_127 c arg7 harg7 x5) (kernelRun0_A.sl.r_131 c arg3 harg3 arg4 harg4 arg6 harg6 arg7 harg7 arg8 harg8 arg9 harg9 arg10 harg10 arg11 harg11 arg12 harg12 arg19 x1 x2 x4 x5 x6 x7 x8 x9 x10) =
    box ((rawB c arg5 harg5 arg6 harg6 arg7 harg7 arg8 harg8 arg12 harg12 x3 x4 x5 x6 x10).bwd 7 (unbox (kernelRun0_A.sl.v1369 c arg10 harg10 x8)) 4) :=
  (stateB7 (rawB c arg5 harg5 arg6 harg6 arg7 harg7 arg8 harg8 arg12 harg12 x3 x4 x5 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10)).trans
    (congrArg (fun s => box ((rawB c arg5 harg5 arg6 harg6 arg7 harg7 arg8 harg8 arg12 harg12 x3 x4 x5 x6 x10).bwd 7 (unbox s) 4)) (initB7 c arg3 harg3 arg4 harg4 arg6 harg6 arg7 harg7 arg8 harg8 arg9 harg9 arg10 harg10 arg11 harg11 arg12 harg12 arg19 x1 x2 x4 x5 x6 x7 x8 x9 x10))

theorem rowF7_3 : k0_pay295 (kernelRun0_A.sl.r_8 c arg3 harg3 arg8 harg8 arg11 harg11 x1 x6 x9) (kernelRun0_A.sl.r_11 c arg3 harg3 arg8 harg8 arg11 harg11 x1 x6 x9) (kernelRun0_A.sl.r_14 c arg3 harg3 arg8 harg8 arg11 harg11 x1 x6 x9) (kernelRun0_A.sl.r_21 c arg3 harg3 arg8 harg8 arg11 harg11 x1 x6 x9) (kernelRun0_A.sl.r_118 c arg2 harg2 arg3 harg3 arg8 harg8 arg11 harg11 x0 x1 x6 x9) (kernelRun0_A.sl.r_119 c arg4 harg4 x2) (kernelRun0_A.sl.r_120 c arg2 harg2 arg3 harg3 arg4 harg4 arg8 harg8 arg11 harg11 x0 x1 x2 x6 x9) (kernelRun0_A.sl.r_121 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 7 3 ((rawF c arg2 harg2 arg3 harg3 arg4 harg4 arg8 harg8 arg11 harg11 x0 x1 x2 x6 x9).fwd 7 (unbox (kernelRun0_A.sl.v1363 c arg9 harg9 x7)) 3) :=
  (outF7_3 (rawF c arg2 harg2 arg3 harg3 arg4 harg4 arg8 harg8 arg11 harg11 x0 x1 x2 x6 x9) (kernelRun0_A.sl.v1149 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 7 3 ((rawF c arg2 harg2 arg3 harg3 arg4 harg4 arg8 harg8 arg11 harg11 x0 x1 x2 x6 x9).fwd 7 (unbox s) 3)) (initF7 c arg3 harg3 arg4 harg4 arg6 harg6 arg7 harg7 arg8 harg8 arg9 harg9 arg10 harg10 arg11 harg11 arg12 harg12 arg19 x1 x2 x4 x5 x6 x7 x8 x9 x10))

theorem rowF7_2 : k0_pay293 (kernelRun0_A.sl.r_8 c arg3 harg3 arg8 harg8 arg11 harg11 x1 x6 x9) (kernelRun0_A.sl.r_11 c arg3 harg3 arg8 harg8 arg11 harg11 x1 x6 x9) (kernelRun0_A.sl.r_21 c arg3 harg3 arg8 harg8 arg11 harg11 x1 x6 x9) (kernelRun0_A.sl.r_118 c arg2 harg2 arg3 harg3 arg8 harg8 arg11 harg11 x0 x1 x6 x9) (kernelRun0_A.sl.r_119 c arg4 harg4 x2) (kernelRun0_A.sl.r_120 c arg2 harg2 arg3 harg3 arg4 harg4 arg8 harg8 arg11 harg11 x0 x1 x2 x6 x9) (kernelRun0_A.sl.r_121 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 7 2 ((rawF c arg2 harg2 arg3 harg3 arg4 harg4 arg8 harg8 arg11 harg11 x0 x1 x2 x6 x9).fwd 7 (unbox (kernelRun0_A.sl.v1363 c arg9 harg9 x7)) 2) :=
  (outF7_2 (rawF c arg2 harg2 arg3 harg3 arg4 harg4 arg8 harg8 arg11 harg11 x0 x1 x2 x6 x9) (kernelRun0_A.sl.v1149 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 7 2 ((rawF c arg2 harg2 arg3 harg3 arg4 harg4 arg8 harg8 arg11 harg11 x0 x1 x2 x6 x9).fwd 7 (unbox s) 2)) (initF7 c arg3 harg3 arg4 harg4 arg6 harg6 arg7 harg7 arg8 harg8 arg9 harg9 arg10 harg10 arg11 harg11 arg12 harg12 arg19 x1 x2 x4 x5 x6 x7 x8 x9 x10))

theorem rowF7_1 : k0_pay291 (kernelRun0_A.sl.r_8 c arg3 harg3 arg8 harg8 arg11 harg11 x1 x6 x9) (kernelRun0_A.sl.r_21 c arg3 harg3 arg8 harg8 arg11 harg11 x1 x6 x9) (kernelRun0_A.sl.r_118 c arg2 harg2 arg3 harg3 arg8 harg8 arg11 harg11 x0 x1 x6 x9) (kernelRun0_A.sl.r_119 c arg4 harg4 x2) (kernelRun0_A.sl.r_120 c arg2 harg2 arg3 harg3 arg4 harg4 arg8 harg8 arg11 harg11 x0 x1 x2 x6 x9) (kernelRun0_A.sl.r_121 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 7 1 ((rawF c arg2 harg2 arg3 harg3 arg4 harg4 arg8 harg8 arg11 harg11 x0 x1 x2 x6 x9).fwd 7 (unbox (kernelRun0_A.sl.v1363 c arg9 harg9 x7)) 1) :=
  (outF7_1 (rawF c arg2 harg2 arg3 harg3 arg4 harg4 arg8 harg8 arg11 harg11 x0 x1 x2 x6 x9) (kernelRun0_A.sl.v1149 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 7 1 ((rawF c arg2 harg2 arg3 harg3 arg4 harg4 arg8 harg8 arg11 harg11 x0 x1 x2 x6 x9).fwd 7 (unbox s) 1)) (initF7 c arg3 harg3 arg4 harg4 arg6 harg6 arg7 harg7 arg8 harg8 arg9 harg9 arg10 harg10 arg11 harg11 arg12 harg12 arg19 x1 x2 x4 x5 x6 x7 x8 x9 x10))

theorem rowF7_0 : kernelRun0_A.sl.r_122 c arg2 harg2 arg3 harg3 arg4 harg4 arg6 harg6 arg7 harg7 arg8 harg8 arg9 harg9 arg10 harg10 arg11 harg11 arg12 harg12 arg19 x0 x1 x2 x4 x5 x6 x7 x8 x9 x10 =
    (rawF c arg2 harg2 arg3 harg3 arg4 harg4 arg8 harg8 arg11 harg11 x0 x1 x2 x6 x9).out maskF 7 0 ((rawF c arg2 harg2 arg3 harg3 arg4 harg4 arg8 harg8 arg11 harg11 x0 x1 x2 x6 x9).fwd 7 (unbox (kernelRun0_A.sl.v1363 c arg9 harg9 x7)) 0) :=
  (outF7_0 (rawF c arg2 harg2 arg3 harg3 arg4 harg4 arg8 harg8 arg11 harg11 x0 x1 x2 x6 x9) (kernelRun0_A.sl.v1149 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 7 0 ((rawF c arg2 harg2 arg3 harg3 arg4 harg4 arg8 harg8 arg11 harg11 x0 x1 x2 x6 x9).fwd 7 (unbox s) 0)) (initF7 c arg3 harg3 arg4 harg4 arg6 harg6 arg7 harg7 arg8 harg8 arg9 harg9 arg10 harg10 arg11 harg11 arg12 harg12 arg19 x1 x2 x4 x5 x6 x7 x8 x9 x10))

theorem rowF6_3 : k0_pay270 (kernelRun0_A.sl.r_11 c arg3 harg3 arg8 harg8 arg11 harg11 x1 x6 x9) (kernelRun0_A.sl.r_14 c arg3 harg3 arg8 harg8 arg11 harg11 x1 x6 x9) (kernelRun0_A.sl.r_21 c arg3 harg3 arg8 harg8 arg11 harg11 x1 x6 x9) (kernelRun0_A.sl.r_107 c arg2 harg2 arg3 harg3 arg8 harg8 arg11 harg11 x0 x1 x6 x9) (kernelRun0_A.sl.r_108 c arg4 harg4 x2) (kernelRun0_A.sl.r_109 c arg2 harg2 arg3 harg3 arg4 harg4 arg8 harg8 arg11 harg11 x0 x1 x2 x6 x9) (kernelRun0_A.sl.r_110 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 6 3 ((rawF c arg2 harg2 arg3 harg3 arg4 harg4 arg8 harg8 arg11 harg11 x0 x1 x2 x6 x9).fwd 6 (unbox (kernelRun0_A.sl.v1351 c arg9 harg9 x7)) 3) :=
  (outF6_3 (rawF c arg2 harg2 arg3 harg3 arg4 harg4 arg8 harg8 arg11 harg11 x0 x1 x2 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 6 3 ((rawF c arg2 harg2 arg3 harg3 arg4 harg4 arg8 harg8 arg11 harg11 x0 x1 x2 x6 x9).fwd 6 (unbox s) 3)) (initF6 c arg3 harg3 arg4 harg4 arg6 harg6 arg7 harg7 arg8 harg8 arg9 harg9 arg10 harg10 arg11 harg11 arg12 harg12 arg19 x1 x2 x4 x5 x6 x7 x8 x9 x10))

theorem rowF6_2 : k0_pay268 (kernelRun0_A.sl.r_11 c arg3 harg3 arg8 harg8 arg11 harg11 x1 x6 x9) (kernelRun0_A.sl.r_21 c arg3 harg3 arg8 harg8 arg11 harg11 x1 x6 x9) (kernelRun0_A.sl.r_107 c arg2 harg2 arg3 harg3 arg8 harg8 arg11 harg11 x0 x1 x6 x9) (kernelRun0_A.sl.r_108 c arg4 harg4 x2) (kernelRun0_A.sl.r_109 c arg2 harg2 arg3 harg3 arg4 harg4 arg8 harg8 arg11 harg11 x0 x1 x2 x6 x9) (kernelRun0_A.sl.r_110 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 6 2 ((rawF c arg2 harg2 arg3 harg3 arg4 harg4 arg8 harg8 arg11 harg11 x0 x1 x2 x6 x9).fwd 6 (unbox (kernelRun0_A.sl.v1351 c arg9 harg9 x7)) 2) :=
  (outF6_2 (rawF c arg2 harg2 arg3 harg3 arg4 harg4 arg8 harg8 arg11 harg11 x0 x1 x2 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 6 2 ((rawF c arg2 harg2 arg3 harg3 arg4 harg4 arg8 harg8 arg11 harg11 x0 x1 x2 x6 x9).fwd 6 (unbox s) 2)) (initF6 c arg3 harg3 arg4 harg4 arg6 harg6 arg7 harg7 arg8 harg8 arg9 harg9 arg10 harg10 arg11 harg11 arg12 harg12 arg19 x1 x2 x4 x5 x6 x7 x8 x9 x10))

theorem rowF6_1 : k0_pay266 (kernelRun0_A.sl.r_111 c arg2 harg2 arg3 harg3 arg4 harg4 arg8 harg8 arg11 harg11 x0 x1 x2 x6 x9) (kernelRun0_A.sl.r_112 c arg2 harg2 arg3 harg3 arg4 harg4 arg6 harg6 arg7 harg7 arg8 harg8 arg9 harg9 arg10 harg10 arg11 harg11 arg12 harg12 arg19 x0 x1 x2 x4 x5 x6 x7 x8 x9 x10) =
    (rawF c arg2 harg2 arg3 harg3 arg4 harg4 arg8 harg8 arg11 harg11 x0 x1 x2 x6 x9).out maskF 6 1 ((rawF c arg2 harg2 arg3 harg3 arg4 harg4 arg8 harg8 arg11 harg11 x0 x1 x2 x6 x9).fwd 6 (unbox (kernelRun0_A.sl.v1351 c arg9 harg9 x7)) 1) :=
  (outF6_1 (rawF c arg2 harg2 arg3 harg3 arg4 harg4 arg8 harg8 arg11 harg11 x0 x1 x2 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 6 1 ((rawF c arg2 harg2 arg3 harg3 arg4 harg4 arg8 harg8 arg11 harg11 x0 x1 x2 x6 x9).fwd 6 (unbox s) 1)) (initF6 c arg3 harg3 arg4 harg4 arg6 harg6 arg7 harg7 arg8 harg8 arg9 harg9 arg10 harg10 arg11 harg11 arg12 harg12 arg19 x1 x2 x4 x5 x6 x7 x8 x9 x10))

theorem rowF6_0 : k0_pay262 (k0_pay37 kernelRun0_A.sl.v18 kernelRun0_A.sl.v19 k0_pay35) (kernelRun0_A.sl.r_5 c arg4 harg4 x2) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 6 0 ((rawF c arg2 harg2 arg3 harg3 arg4 harg4 arg8 harg8 arg11 harg11 x0 x1 x2 x6 x9).fwd 6 (unbox (kernelRun0_A.sl.v1351 c arg9 harg9 x7)) 0) :=
  (outF6_0 (rawF c arg2 harg2 arg3 harg3 arg4 harg4 arg8 harg8 arg11 harg11 x0 x1 x2 x6 x9) (kernelRun0_A.sl.v1019 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 6 0 ((rawF c arg2 harg2 arg3 harg3 arg4 harg4 arg8 harg8 arg11 harg11 x0 x1 x2 x6 x9).fwd 6 (unbox s) 0)) (initF6 c arg3 harg3 arg4 harg4 arg6 harg6 arg7 harg7 arg8 harg8 arg9 harg9 arg10 harg10 arg11 harg11 arg12 harg12 arg19 x1 x2 x4 x5 x6 x7 x8 x9 x10))

theorem rowF5_3 : k0_pay244 (kernelRun0_A.sl.r_14 c arg3 harg3 arg8 harg8 arg11 harg11 x1 x6 x9) (kernelRun0_A.sl.r_21 c arg3 harg3 arg8 harg8 arg11 harg11 x1 x6 x9) (kernelRun0_A.sl.r_96 c arg2 harg2 arg3 harg3 arg8 harg8 arg11 harg11 x0 x1 x6 x9) (kernelRun0_A.sl.r_97 c arg4 harg4 x2) (kernelRun0_A.sl.r_98 c arg2 harg2 arg3 harg3 arg4 harg4 arg8 harg8 arg11 harg11 x0 x1 x2 x6 x9) (kernelRun0_A.sl.r_99 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 5 3 ((rawF c arg2 harg2 arg3 harg3 arg4 harg4 arg8 harg8 arg11 harg11 x0 x1 x2 x6 x9).fwd 5 (unbox (kernelRun0_A.sl.v1339 c arg9 harg9 x7)) 3) :=
  (outF5_3 (rawF c arg2 harg2 arg3 harg3 arg4 harg4 arg8 harg8 arg11 harg11 x0 x1 x2 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 5 3 ((rawF c arg2 harg2 arg3 harg3 arg4 harg4 arg8 harg8 arg11 harg11 x0 x1 x2 x6 x9).fwd 5 (unbox s) 3)) (initF5 c arg3 harg3 arg4 harg4 arg6 harg6 arg7 harg7 arg8 harg8 arg9 harg9 arg10 harg10 arg11 harg11 arg12 harg12 arg19 x1 x2 x4 x5 x6 x7 x8 x9 x10))

theorem rowF5_2 : k0_pay242 (kernelRun0_A.sl.r_96 c arg2 harg2 arg3 harg3 arg8 harg8 arg11 harg11 x0 x1 x6 x9) (kernelRun0_A.sl.r_99 c arg3 harg3 arg4 harg4 arg6 harg6 arg7 harg7 arg8 harg8 arg9 harg9 arg10 harg10 arg11 harg11 arg12 harg12 arg19 x1 x2 x4 x5 x6 x7 x8 x9 x10) (kernelRun0_A.sl.r_100 c arg2 harg2 arg3 harg3 arg4 harg4 arg8 harg8 arg11 harg11 x0 x1 x2 x6 x9) =
    (rawF c arg2 harg2 arg3 harg3 arg4 harg4 arg8 harg8 arg11 harg11 x0 x1 x2 x6 x9).out maskF 5 2 ((rawF c arg2 harg2 arg3 harg3 arg4 harg4 arg8 harg8 arg11 harg11 x0 x1 x2 x6 x9).fwd 5 (unbox (kernelRun0_A.sl.v1339 c arg9 harg9 x7)) 2) :=
  (outF5_2 (rawF c arg2 harg2 arg3 harg3 arg4 harg4 arg8 harg8 arg11 harg11 x0 x1 x2 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 5 2 ((rawF c arg2 harg2 arg3 harg3 arg4 harg4 arg8 harg8 arg11 harg11 x0 x1 x2 x6 x9).fwd 5 (unbox s) 2)) (initF5 c arg3 harg3 arg4 harg4 arg6 harg6 arg7 harg7 arg8 harg8 arg9 harg9 arg10 harg10 arg11 harg11 arg12 harg12 arg19 x1 x2 x4 x5 x6 x7 x8 x9 x10))

theorem rowF5_1 : k0_pay239 (k0_pay37 kernelRun0_A.sl.v18 kernelRun0_A.sl.v19 k0_pay35) (kernelRun0_A.sl.r_5 c arg4 harg4 x2) (kernelRun0_A.sl.r_8 c arg3 harg3 arg8 harg8 arg11 harg11 x1 x6 x9) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.r_21 c arg3 harg3 arg8 harg8 arg11 harg11 x1 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 5 1 ((rawF c arg2 harg2 arg3 harg3 arg4 harg4 arg8 harg8 arg11 harg11 x0 x1 x2 x6 x9).fwd 5 (unbox (kernelRun0_A.sl.v1339 c arg9 harg9 x7)) 1) :=
  (outF5_1 (rawF c arg2 harg2 arg3 harg3 arg4 harg4 arg8 harg8 arg11 harg11 x0 x1 x2 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 5 1 ((rawF c arg2 harg2 arg3 harg3 arg4 harg4 arg8 harg8 arg11 harg11 x0 x1 x2 x6 x9).fwd 5 (unbox s) 1)) (initF5 c arg3 harg3 arg4 harg4 arg6 harg6 arg7 harg7 arg8 harg8 arg9 harg9 arg10 harg10 arg11 harg11 arg12 harg12 arg19 x1 x2 x4 x5 x6 x7 x8 x9 x10))

theorem rowF5_0 : k0_pay237 (k0_pay37 kernelRun0_A.sl.v18 kernelRun0_A.sl.v19 k0_pay35) (kernelRun0_A.sl.r_5 c arg4 harg4 x2) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 5 0 ((rawF c arg2 harg2 arg3 harg3 arg4 harg4 arg8 harg8 arg11 harg11 x0 x1 x2 x6 x9).fwd 5 (unbox (kernelRun0_A.sl.v1339 c arg9 harg9 x7)) 0) :=
  (outF5_0 (rawF c arg2 harg2 arg3 harg3 arg4 harg4 arg8 harg8 arg11 harg11 x0 x1 x2 x6 x9) (kernelRun0_A.sl.v889 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 5 0 ((rawF c arg2 harg2 arg3 harg3 arg4 harg4 arg8 harg8 arg11 harg11 x0 x1 x2 x6 x9).fwd 5 (unbox s) 0)) (initF5 c arg3 harg3 arg4 harg4 arg6 harg6 arg7 harg7 arg8 harg8 arg9 harg9 arg10 harg10 arg11 harg11 arg12 harg12 arg19 x1 x2 x4 x5 x6 x7 x8 x9 x10))

theorem rowF4_3 : k0_pay216 (kernelRun0_A.sl.r_83 c arg2 harg2 arg3 harg3 arg8 harg8 arg11 harg11 x0 x1 x6 x9) (kernelRun0_A.sl.r_86 c arg2 harg2 arg3 harg3 arg4 harg4 arg8 harg8 arg11 harg11 x0 x1 x2 x6 x9) (kernelRun0_A.sl.r_87 c arg3 harg3 arg4 harg4 arg6 harg6 arg7 harg7 arg8 harg8 arg9 harg9 arg10 harg10 arg11 harg11 arg12 harg12 arg19 x1 x2 x4 x5 x6 x7 x8 x9 x10) (kernelRun0_A.sl.r_88 c arg4 harg4 x2) (kernelRun0_A.sl.r_89 c arg3 harg3 arg8 harg8 arg11 harg11 x1 x6 x9) =
    (rawF c arg2 harg2 arg3 harg3 arg4 harg4 arg8 harg8 arg11 harg11 x0 x1 x2 x6 x9).out maskF 4 3 ((rawF c arg2 harg2 arg3 harg3 arg4 harg4 arg8 harg8 arg11 harg11 x0 x1 x2 x6 x9).fwd 4 (unbox (kernelRun0_A.sl.v1327 c arg9 harg9 x7)) 3) :=
  (outF4_3 (rawF c arg2 harg2 arg3 harg3 arg4 harg4 arg8 harg8 arg11 harg11 x0 x1 x2 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 4 3 ((rawF c arg2 harg2 arg3 harg3 arg4 harg4 arg8 harg8 arg11 harg11 x0 x1 x2 x6 x9).fwd 4 (unbox s) 3)) (initF4 c arg3 harg3 arg4 harg4 arg6 harg6 arg7 harg7 arg8 harg8 arg9 harg9 arg10 harg10 arg11 harg11 arg12 harg12 arg19 x1 x2 x4 x5 x6 x7 x8 x9 x10))

theorem rowF4_2 : k0_pay211 (kernelRun0_A.sl.r_8 c arg3 harg3 arg8 harg8 arg11 harg11 x1 x6 x9) (kernelRun0_A.sl.r_11 c arg3 harg3 arg8 harg8 arg11 harg11 x1 x6 x9) (kernelRun0_A.sl.r_21 c arg3 harg3 arg8 harg8 arg11 harg11 x1 x6 x9) (kernelRun0_A.sl.r_83 c arg2 harg2 arg3 harg3 arg8 harg8 arg11 harg11 x0 x1 x6 x9) (kernelRun0_A.sl.r_84 c arg4 harg4 x2) (kernelRun0_A.sl.r_85 c arg2 harg2 arg3 harg3 arg8 harg8 arg11 harg11 x0 x1 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 4 2 ((rawF c arg2 harg2 arg3 harg3 arg4 harg4 arg8 harg8 arg11 harg11 x0 x1 x2 x6 x9).fwd 4 (unbox (kernelRun0_A.sl.v1327 c arg9 harg9 x7)) 2) :=
  (outF4_2 (rawF c arg2 harg2 arg3 harg3 arg4 harg4 arg8 harg8 arg11 harg11 x0 x1 x2 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 4 2 ((rawF c arg2 harg2 arg3 harg3 arg4 harg4 arg8 harg8 arg11 harg11 x0 x1 x2 x6 x9).fwd 4 (unbox s) 2)) (initF4 c arg3 harg3 arg4 harg4 arg6 harg6 arg7 harg7 arg8 harg8 arg9 harg9 arg10 harg10 arg11 harg11 arg12 harg12 arg19 x1 x2 x4 x5 x6 x7 x8 x9 x10))

theorem rowF4_1 : k0_pay209 (kernelRun0_A.sl.r_8 c arg3 harg3 arg8 harg8 arg11 harg11 x1 x6 x9) (kernelRun0_A.sl.r_21 c arg3 harg3 arg8 harg8 arg11 harg11 x1 x6 x9) (kernelRun0_A.sl.r_83 c arg2 harg2 arg3 harg3 arg8 harg8 arg11 harg11 x0 x1 x6 x9) (kernelRun0_A.sl.r_84 c arg4 harg4 x2) (kernelRun0_A.sl.r_85 c arg2 harg2 arg3 harg3 arg8 harg8 arg11 harg11 x0 x1 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 4 1 ((rawF c arg2 harg2 arg3 harg3 arg4 harg4 arg8 harg8 arg11 harg11 x0 x1 x2 x6 x9).fwd 4 (unbox (kernelRun0_A.sl.v1327 c arg9 harg9 x7)) 1) :=
  (outF4_1 (rawF c arg2 harg2 arg3 harg3 arg4 harg4 arg8 harg8 arg11 harg11 x0 x1 x2 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 4 1 ((rawF c arg2 harg2 arg3 harg3 arg4 harg4 arg8 harg8 arg11 harg11 x0 x1 x2 x6 x9).fwd 4 (unbox s) 1)) (initF4 c arg3 harg3 arg4 harg4 arg6 harg6 arg7 harg7 arg8 harg8 arg9 harg9 arg10 harg10 arg11 harg11 arg12 harg12 arg19 x1 x2 x4 x5 x6 x7 x8 x9 x10))

theorem rowF4_0 : k0_pay207 (kernelRun0_A.sl.r_83 c arg2 harg2 arg3 harg3 arg8 harg8 arg11 harg11 x0 x1 x6 x9) (kernelRun0_A.sl.r_84 c arg4 harg4 x2) (kernelRun0_A.sl.r_85 c arg2 harg2 arg3 harg3 arg8 harg8 arg11 harg11 x0 x1 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 4 0 ((rawF c arg2 harg2 arg3 harg3 arg4 harg4 arg8 harg8 arg11 harg11 x0 x1 x2 x6 x9).fwd 4 (unbox (kernelRun0_A.sl.v1327 c arg9 harg9 x7)) 0) :=
  (outF4_0 (rawF c arg2 harg2 arg3 harg3 arg4 harg4 arg8 harg8 arg11 harg11 x0 x1 x2 x6 x9) (kernelRun0_A.sl.v759 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 4 0 ((rawF c arg2 harg2 arg3 harg3 arg4 harg4 arg8 harg8 arg11 harg11 x0 x1 x2 x6 x9).fwd 4 (unbox s) 0)) (initF4 c arg3 harg3 arg4 harg4 arg6 harg6 arg7 harg7 arg8 harg8 arg9 harg9 arg10 harg10 arg11 harg11 arg12 harg12 arg19 x1 x2 x4 x5 x6 x7 x8 x9 x10))

theorem rowF3_3 : k0_pay187 (kernelRun0_A.sl.r_8 c arg3 harg3 arg8 harg8 arg11 harg11 x1 x6 x9) (kernelRun0_A.sl.r_11 c arg3 harg3 arg8 harg8 arg11 harg11 x1 x6 x9) (kernelRun0_A.sl.r_14 c arg3 harg3 arg8 harg8 arg11 harg11 x1 x6 x9) (kernelRun0_A.sl.r_21 c arg3 harg3 arg8 harg8 arg11 harg11 x1 x6 x9) (kernelRun0_A.sl.r_71 c arg2 harg2 arg3 harg3 arg8 harg8 arg11 harg11 x0 x1 x6 x9) (kernelRun0_A.sl.r_72 c arg4 harg4 x2) (kernelRun0_A.sl.r_73 c arg2 harg2 arg3 harg3 arg4 harg4 arg8 harg8 arg11 harg11 x0 x1 x2 x6 x9) (kernelRun0_A.sl.r_74 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 3 3 ((rawF c arg2 harg2 arg3 harg3 arg4 harg4 arg8 harg8 arg11 harg11 x0 x1 x2 x6 x9).fwd 3 (unbox (kernelRun0_A.sl.v1315 c arg9 harg9 x7)) 3) :=
  (outF3_3 (rawF c arg2 harg2 arg3 harg3 arg4 harg4 arg8 harg8 arg11 harg11 x0 x1 x2 x6 x9) (kernelRun0_A.sl.v629 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 3 3 ((rawF c arg2 harg2 arg3 harg3 arg4 harg4 arg8 harg8 arg11 harg11 x0 x1 x2 x6 x9).fwd 3 (unbox s) 3)) (initF3 c arg3 harg3 arg4 harg4 arg6 harg6 arg7 harg7 arg8 harg8 arg9 harg9 arg10 harg10 arg11 harg11 arg12 harg12 arg19 x1 x2 x4 x5 x6 x7 x8 x9 x10))

theorem rowF3_2 : k0_pay185 (kernelRun0_A.sl.r_8 c arg3 harg3 arg8 harg8 arg11 harg11 x1 x6 x9) (kernelRun0_A.sl.r_11 c arg3 harg3 arg8 harg8 arg11 harg11 x1 x6 x9) (kernelRun0_A.sl.r_21 c arg3 harg3 arg8 harg8 arg11 harg11 x1 x6 x9) (kernelRun0_A.sl.r_71 c arg2 harg2 arg3 harg3 arg8 harg8 arg11 harg11 x0 x1 x6 x9) (kernelRun0_A.sl.r_72 c arg4 harg4 x2) (kernelRun0_A.sl.r_73 c arg2 harg2 arg3 harg3 arg4 harg4 arg8 harg8 arg11 harg11 x0 x1 x2 x6 x9) (kernelRun0_A.sl.r_74 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 3 2 ((rawF c arg2 harg2 arg3 harg3 arg4 harg4 arg8 harg8 arg11 harg11 x0 x1 x2 x6 x9).fwd 3 (unbox (kernelRun0_A.sl.v1315 c arg9 harg9 x7)) 2) :=
  (outF3_2 (rawF c arg2 harg2 arg3 harg3 arg4 harg4 arg8 harg8 arg11 harg11 x0 x1 x2 x6 x9) (kernelRun0_A.sl.v629 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 3 2 ((rawF c arg2 harg2 arg3 harg3 arg4 harg4 arg8 harg8 arg11 harg11 x0 x1 x2 x6 x9).fwd 3 (unbox s) 2)) (initF3 c arg3 harg3 arg4 harg4 arg6 harg6 arg7 harg7 arg8 harg8 arg9 harg9 arg10 harg10 arg11 harg11 arg12 harg12 arg19 x1 x2 x4 x5 x6 x7 x8 x9 x10))

theorem rowF3_1 : k0_pay183 (kernelRun0_A.sl.r_8 c arg3 harg3 arg8 harg8 arg11 harg11 x1 x6 x9) (kernelRun0_A.sl.r_21 c arg3 harg3 arg8 harg8 arg11 harg11 x1 x6 x9) (kernelRun0_A.sl.r_71 c arg2 harg2 arg3 harg3 arg8 harg8 arg11 harg11 x0 x1 x6 x9) (kernelRun0_A.sl.r_72 c arg4 harg4 x2) (kernelRun0_A.sl.r_73 c arg2 harg2 arg3 harg3 arg4 harg4 arg8 harg8 arg11 harg11 x0 x1 x2 x6 x9) (kernelRun0_A.sl.r_74 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 3 1 ((rawF c arg2 harg2 arg3 harg3 arg4 harg4 arg8 harg8 arg11 harg11 x0 x1 x2 x6 x9).fwd 3 (unbox (kernelRun0_A.sl.v1315 c arg9 harg9 x7)) 1) :=
  (outF3_1 (rawF c arg2 harg2 arg3 harg3 arg4 harg4 arg8 harg8 arg11 harg11 x0 x1 x2 x6 x9) (kernelRun0_A.sl.v629 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 3 1 ((rawF c arg2 harg2 arg3 harg3 arg4 harg4 arg8 harg8 arg11 harg11 x0 x1 x2 x6 x9).fwd 3 (unbox s) 1)) (initF3 c arg3 harg3 arg4 harg4 arg6 harg6 arg7 harg7 arg8 harg8 arg9 harg9 arg10 harg10 arg11 harg11 arg12 harg12 arg19 x1 x2 x4 x5 x6 x7 x8 x9 x10))

theorem rowF3_0 : k0_pay181 (kernelRun0_A.sl.r_75 c arg2 harg2 arg3 harg3 arg4 harg4 arg8 harg8 arg11 harg11 x0 x1 x2 x6 x9) (kernelRun0_A.sl.r_76 c arg2 harg2 arg3 harg3 arg4 harg4 arg6 harg6 arg7 harg7 arg8 harg8 arg9 harg9 arg10 harg10 arg11 harg11 arg12 harg12 arg19 x0 x1 x2 x4 x5 x6 x7 x8 x9 x10) =
    (rawF c arg2 harg2 arg3 harg3 arg4 harg4 arg8 harg8 arg11 harg11 x0 x1 x2 x6 x9).out maskF 3 0 ((rawF c arg2 harg2 arg3 harg3 arg4 harg4 arg8 harg8 arg11 harg11 x0 x1 x2 x6 x9).fwd 3 (unbox (kernelRun0_A.sl.v1315 c arg9 harg9 x7)) 0) :=
  (outF3_0 (rawF c arg2 harg2 arg3 harg3 arg4 harg4 arg8 harg8 arg11 harg11 x0 x1 x2 x6 x9) (kernelRun0_A.sl.v629 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 3 0 ((rawF c arg2 harg2 arg3 harg3 arg4 harg4 arg8 harg8 arg11 harg11 x0 x1 x2 x6 x9).fwd 3 (unbox s) 0)) (initF3 c arg3 harg3 arg4 harg4 arg6 harg6 arg7 harg7 arg8 harg8 arg9 harg9 arg10 harg10 arg11 harg11 arg12 harg12 arg19 x1 x2 x4 x5 x6 x7 x8 x9 x10))

theorem rowF2_3 : k0_pay161 (kernelRun0_A.sl.r_11 c arg3 harg3 arg8 harg8 arg11 harg11 x1 x6 x9) (kernelRun0_A.sl.r_14 c arg3 harg3 arg8 harg8 arg11 harg11 x1 x6 x9) (kernelRun0_A.sl.r_21 c arg3 harg3 arg8 harg8 arg11 harg11 x1 x6 x9) (kernelRun0_A.sl.r_60 c arg2 harg2 arg3 harg3 arg8 harg8 arg11 harg11 x0 x1 x6 x9) (kernelRun0_A.sl.r_61 c arg4 harg4 x2) (kernelRun0_A.sl.r_62 c arg2 harg2 arg3 harg3 arg4 harg4 arg8 harg8 arg11 harg11 x0 x1 x2 x6 x9) (kernelRun0_A.sl.r_63 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 2 3 ((rawF c arg2 harg2 arg3 harg3 arg4 harg4 arg8 harg8 arg11 harg11 x0 x1 x2 x6 x9).fwd 2 (unbox (kernelRun0_A.sl.v1303 c arg9 harg9 x7)) 3) :=
  (outF2_3 (rawF c arg2 harg2 arg3 harg3 arg4 harg4 arg8 harg8 arg11 harg11 x0 x1 x2 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 2 3 ((rawF c arg2 harg2 arg3 harg3 arg4 harg4 arg8 harg8 arg11 harg11 x0 x1 x2 x6 x9).fwd 2 (unbox s) 3)) (initF2 c arg3 harg3 arg4 harg4 arg6 harg6 arg7 harg7 arg8 harg8 arg9 harg9 arg10 harg10 arg11 harg11 arg12 harg12 arg19 x1 x2 x4 x5 x6 x7 x8 x9 x10))

theorem rowF2_2 : k0_pay159 (kernelRun0_A.sl.r_11 c arg3 harg3 arg8 harg8 arg11 harg11 x1 x6 x9) (kernelRun0_A.sl.r_21 c arg3 harg3 arg8 harg8 arg11 harg11 x1 x6 x9) (kernelRun0_A.sl.r_60 c arg2 harg2 arg3 harg3 arg8 harg8 arg11 harg11 x0 x1 x6 x9) (kernelRun0_A.sl.r_61 c arg4 harg4 x2) (kernelRun0_A.sl.r_62 c arg2 harg2 arg3 harg3 arg4 harg4 arg8 harg8 arg11 harg11 x0 x1 x2 x6 x9) (kernelRun0_A.sl.r_63 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 2 2 ((rawF c arg2 harg2 arg3 harg3 arg4 harg4 arg8 harg8 arg11 harg11 x0 x1 x2 x6 x9).fwd 2 (unbox (kernelRun0_A.sl.v1303 c arg9 harg9 x7)) 2) :=
  (outF2_2 (rawF c arg2 harg2 arg3 harg3 arg4 harg4 arg8 harg8 arg11 harg11 x0 x1 x2 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 2 2 ((rawF c arg2 harg2 arg3 harg3 arg4 harg4 arg8 harg8 arg11 harg11 x0 x1 x2 x6 x9).fwd 2 (unbox s) 2)) (initF2 c arg3 harg3 arg4 harg4 arg6 harg6 arg7 harg7 arg8 harg8 arg9 harg9 arg10 harg10 arg11 harg11 arg12 harg12 arg19 x1 x2 x4 x5 x6 x7 x8 x9 x10))

theorem rowF2_1 : k0_pay157 (kernelRun0_A.sl.r_60 c arg2 harg2 arg3 harg3 arg8 harg8 arg11 harg11 x0 x1 x6 x9) (kernelRun0_A.sl.r_63 c arg3 harg3 arg4 harg4 arg6 harg6 arg7 harg7 arg8 harg8 arg9 harg9 arg10 harg10 arg11 harg11 arg12 harg12 arg19 x1 x2 x4 x5 x6 x7 x8 x9 x10) (kernelRun0_A.sl.r_64 c arg2 harg2 arg3 harg3 arg4 harg4 arg8 harg8 arg11 harg11 x0 x1 x2 x6 x9) =
    (rawF c arg2 harg2 arg3 harg3 arg4 harg4 arg8 harg8 arg11 harg11 x0 x1 x2 x6 x9).out maskF 2 1 ((rawF c arg2 harg2 arg3 harg3 arg4 harg4 arg8 harg8 arg11 harg11 x0 x1 x2 x6 x9).fwd 2 (unbox (kernelRun0_A.sl.v1303 c arg9 harg9 x7)) 1) :=
  (outF2_1 (rawF c arg2 harg2 arg3 harg3 arg4 harg4 arg8 harg8 arg11 harg11 x0 x1 x2 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 2 1 ((rawF c arg2 harg2 arg3 harg3 arg4 harg4 arg8 harg8 arg11 harg11 x0 x1 x2 x6 x9).fwd 2 (unbox s) 1)) (initF2 c arg3 harg3 arg4 harg4 arg6 harg6 arg7 harg7 arg8 harg8 arg9 harg9 arg10 harg10 arg11 harg11 arg12 harg12 arg19 x1 x2 x4 x5 x6 x7 x8 x9 x10))

theorem rowF2_0 : k0_pay154 (k0_pay37 kernelRun0_A.sl.v18 kernelRun0_A.sl.v19 k0_pay35) (kernelRun0_A.sl.r_5 c arg4 harg4 x2) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 2 0 ((rawF c arg2 harg2 arg3 harg3 arg4 harg4 arg8 harg8 arg11 harg11 x0 x1 x2 x6 x9).fwd 2 (unbox (kernelRun0_A.sl.v1303 c arg9 harg9 x7)) 0) :=
  (outF2_0 (rawF c arg2 harg2 arg3 harg3 arg4 harg4 arg8 harg8 arg11 harg11 x0 x1 x2 x6 x9) (kernelRun0_A.sl.v499 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 2 0 ((rawF c arg2 harg2 arg3 harg3 arg4 harg4 arg8 harg8 arg11 harg11 x0 x1 x2 x6 x9).fwd 2 (unbox s) 0)) (initF2 c arg3 harg3 arg4 harg4 arg6 harg6 arg7 harg7 arg8 harg8 arg9 harg9 arg10 harg10 arg11 harg11 arg12 harg12 arg19 x1 x2 x4 x5 x6 x7 x8 x9 x10))

theorem rowF1_3 : k0_pay134 (kernelRun0_A.sl.r_14 c arg3 harg3 arg8 harg8 arg11 harg11 x1 x6 x9) (kernelRun0_A.sl.r_21 c arg3 harg3 arg8 harg8 arg11 harg11 x1 x6 x9) (kernelRun0_A.sl.r_48 c arg2 harg2 arg3 harg3 arg8 harg8 arg11 harg11 x0 x1 x6 x9) (kernelRun0_A.sl.r_49 c arg4 harg4 x2) (kernelRun0_A.sl.r_50 c arg2 harg2 arg3 harg3 arg4 harg4 arg8 harg8 arg11 harg11 x0 x1 x2 x6 x9) (kernelRun0_A.sl.r_51 c arg3 harg3 arg4 harg4 arg6 harg6 arg7 harg7 arg8 harg8 arg9 harg9 arg10 harg10 arg11 harg11 arg12 harg12 arg19 x1 x2 x4 x5 x6 x7 x8 x9 x10) (kernelRun0_A.sl.r_52 c arg4 harg4 x2) (kernelRun0_A.sl.r_53 c arg3 harg3 arg8 harg8 arg11 harg11 x1 x6 x9) =
    (rawF c arg2 harg2 arg3 harg3 arg4 harg4 arg8 harg8 arg11 harg11 x0 x1 x2 x6 x9).out maskF 1 3 ((rawF c arg2 harg2 arg3 harg3 arg4 harg4 arg8 harg8 arg11 harg11 x0 x1 x2 x6 x9).fwd 1 (unbox (kernelRun0_A.sl.v1291 c arg9 harg9 x7)) 3) :=
  (outF1_3 (rawF c arg2 harg2 arg3 harg3 arg4 harg4 arg8 harg8 arg11 harg11 x0 x1 x2 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 1 3 ((rawF c arg2 harg2 arg3 harg3 arg4 harg4 arg8 harg8 arg11 harg11 x0 x1 x2 x6 x9).fwd 1 (unbox s) 3)) (initF1 c arg3 harg3 arg4 harg4 arg6 harg6 arg7 harg7 arg8 harg8 arg9 harg9 arg10 harg10 arg11 harg11 arg12 harg12 arg19 x1 x2 x4 x5 x6 x7 x8 x9 x10))

theorem rowF1_2 : k0_pay132 (kernelRun0_A.sl.r_48 c arg2 harg2 arg3 harg3 arg8 harg8 arg11 harg11 x0 x1 x6 x9) (kernelRun0_A.sl.r_50 c arg2 harg2 arg3 harg3 arg4 harg4 arg8 harg8 arg11 harg11 x0 x1 x2 x6 x9) (kernelRun0_A.sl.r_51 c arg3 harg3 arg4 harg4 arg6 harg6 arg7 harg7 arg8 harg8 arg9 harg9 arg10 harg10 arg11 harg11 arg12 harg12 arg19 x1 x2 x4 x5 x6 x7 x8 x9 x10) (kernelRun0_A.sl.r_52 c arg4 harg4 x2) (kernelRun0_A.sl.r_53 c arg3 harg3 arg8 harg8 arg11 harg11 x1 x6 x9) =
    (rawF c arg2 harg2 arg3 harg3 arg4 harg4 arg8 harg8 arg11 harg11 x0 x1 x2 x6 x9).out maskF 1 2 ((rawF c arg2 harg2 arg3 harg3 arg4 harg4 arg8 harg8 arg11 harg11 x0 x1 x2 x6 x9).fwd 1 (unbox (kernelRun0_A.sl.v1291 c arg9 harg9 x7)) 2) :=
  (outF1_2 (rawF c arg2 harg2 arg3 harg3 arg4 harg4 arg8 harg8 arg11 harg11 x0 x1 x2 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 1 2 ((rawF c arg2 harg2 arg3 harg3 arg4 harg4 arg8 harg8 arg11 harg11 x0 x1 x2 x6 x9).fwd 1 (unbox s) 2)) (initF1 c arg3 harg3 arg4 harg4 arg6 harg6 arg7 harg7 arg8 harg8 arg9 harg9 arg10 harg10 arg11 harg11 arg12 harg12 arg19 x1 x2 x4 x5 x6 x7 x8 x9 x10))

theorem rowF1_1 : k0_pay127 (k0_pay37 kernelRun0_A.sl.v18 kernelRun0_A.sl.v19 k0_pay35) (kernelRun0_A.sl.r_5 c arg4 harg4 x2) (kernelRun0_A.sl.r_8 c arg3 harg3 arg8 harg8 arg11 harg11 x1 x6 x9) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.r_21 c arg3 harg3 arg8 harg8 arg11 harg11 x1 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 1 1 ((rawF c arg2 harg2 arg3 harg3 arg4 harg4 arg8 harg8 arg11 harg11 x0 x1 x2 x6 x9).fwd 1 (unbox (kernelRun0_A.sl.v1291 c arg9 harg9 x7)) 1) :=
  (outF1_1 (rawF c arg2 harg2 arg3 harg3 arg4 harg4 arg8 harg8 arg11 harg11 x0 x1 x2 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 1 1 ((rawF c arg2 harg2 arg3 harg3 arg4 harg4 arg8 harg8 arg11 harg11 x0 x1 x2 x6 x9).fwd 1 (unbox s) 1)) (initF1 c arg3 harg3 arg4 harg4 arg6 harg6 arg7 harg7 arg8 harg8 arg9 harg9 arg10 harg10 arg11 harg11 arg12 harg12 arg19 x1 x2 x4 x5 x6 x7 x8 x9 x10))

theorem rowF1_0 : k0_pay125 (k0_pay37 kernelRun0_A.sl.v18 kernelRun0_A.sl.v19 k0_pay35) (kernelRun0_A.sl.r_5 c arg4 harg4 x2) (kernelRun0_A.sl.r_19 c arg2 harg2 arg3 harg3 arg8 harg8 arg11 harg11 x0 x1 x6 x9) (kernelRun0_A.sl.r_20 c arg3 harg3 arg8 harg8 arg11 harg11 x1 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10) =
    (rawF c arg2 harg2 arg3 harg3 arg4 harg4 arg8 harg8 arg11 harg11 x0 x1 x2 x6 x9).out maskF 1 0 ((rawF c arg2 harg2 arg3 harg3 arg4 harg4 arg8 harg8 arg11 harg11 x0 x1 x2 x6 x9).fwd 1 (unbox (kernelRun0_A.sl.v1291 c arg9 harg9 x7)) 0) :=
  (outF1_0 (rawF c arg2 harg2 arg3 harg3 arg4 harg4 arg8 harg8 arg11 harg11 x0 x1 x2 x6 x9) (kernelRun0_A.sl.v369 c arg3 harg3 arg4 harg4 arg6 harg6 arg7 harg7 arg8 harg8 arg9 harg9 arg10 harg10 arg11 harg11 arg12 harg12 arg19 x1 x2 x4 x5 x6 x7 x8 x9 x10)).trans
    (congrArg (fun s => (rawF c arg2 harg2 arg3 harg3 arg4 harg4 arg8 harg8 arg11 harg11 x0 x1 x2 x6 x9).out maskF 1 0 ((rawF c arg2 harg2 arg3 harg3 arg4 harg4 arg8 harg8 arg11 harg11 x0 x1 x2 x6 x9).fwd 1 (unbox s) 0)) (initF1 c arg3 harg3 arg4 harg4 arg6 harg6 arg7 harg7 arg8 harg8 arg9 harg9 arg10 harg10 arg11 harg11 arg12 harg12 arg19 x1 x2 x4 x5 x6 x7 x8 x9 x10))

theorem rowF0_3 : k0_pay104 (kernelRun0_A.sl.r_21 c arg3 harg3 arg8 harg8 arg11 harg11 x1 x6 x9) (kernelRun0_A.sl.r_35 c arg2 harg2 arg3 harg3 arg8 harg8 arg11 harg11 x0 x1 x6 x9) (kernelRun0_A.sl.r_36 c arg4 harg4 x2) (kernelRun0_A.sl.r_38 c arg2 harg2 arg3 harg3 arg4 harg4 arg8 harg8 arg11 harg11 x0 x1 x2 x6 x9) (kernelRun0_A.sl.r_39 c arg3 harg3 arg4 harg4 arg8 harg8 arg9 harg9 arg10 harg10 arg11 harg11 arg19 x1 x2 x6 x7 x8 x9) (kernelRun0_A.sl.r_40 c arg3 harg3 arg8 harg8 arg11 harg11 x1 x6 x9) =
    (rawF c arg2 harg2 arg3 harg3 arg4 harg4 arg8 harg8 arg11 harg11 x0 x1 x2 x6 x9).out maskF 0 3 ((rawF c arg2 harg2 arg3 harg3 arg4 harg4 arg8 harg8 arg11 harg11 x0 x1 x2 x6 x9).fwd 0 (unbox (kernelRun0_A.sl.v1279 c arg9 harg9 x7)) 3) :=
  (outF0_3 (rawF c arg2 harg2 arg3 harg3 arg4 harg4 arg8 harg8 arg11 harg11 x0 x1 x2 x6 x9) (kernelRun0_A.sl.v239 c arg9 harg9 arg10 harg10 arg19 x7 x8)).trans
    (congrArg (fun s => (rawF c arg2 harg2 arg3 harg3 arg4 harg4 arg8 harg8 arg11 harg11 x0 x1 x2 x6 x9).out maskF 0 3 ((rawF c arg2 harg2 arg3 harg3 arg4 harg4 arg8 harg8 arg11 harg11 x0 x1 x2 x6 x9).fwd 0 (unbox s) 3)) (initF0 c arg9 harg9 arg10 harg10 arg19 x7 x8))

theorem rowF0_2 : k0_pay101 (k0_pay37 kernelRun0_A.sl.v18 kernelRun0_A.sl.v19 k0_pay35) (kernelRun0_A.sl.r_8 c arg3 harg3 arg8 harg8 arg11 harg11 x1 x6 x9) (kernelRun0_A.sl.r_11 c arg3 harg3 arg8 harg8 arg11 harg11 x1 x6 x9) (kernelRun0_A.sl.r_21 c arg3 harg3 arg8 harg8 arg11 harg11 x1 x6 x9) (kernelRun0_A.sl.r_35 c arg2 harg2 arg3 harg3 arg8 harg8 arg11 harg11 x0 x1 x6 x9) (kernelRun0_A.sl.r_36 c arg4 harg4 x2) (kernelRun0_A.sl.r_37 c arg3 harg3 arg8 harg8 arg11 harg11 x1 x6 x9) kernelRun0_A.sl.cst_57 (kernelRun0_A.sl.v239 c arg9 harg9 arg10 harg10 arg19 x7 x8) =
    (rawF c arg2 harg2 arg3 harg3 arg4 harg4 arg8 harg8 arg11 harg11 x0 x1 x2 x6 x9).out maskF 0 2 ((rawF c arg2 harg2 arg3 harg3 arg4 harg4 arg8 harg8 arg11 harg11 x0 x1 x2 x6 x9).fwd 0 (unbox (kernelRun0_A.sl.v1279 c arg9 harg9 x7)) 2) :=
  (outF0_2 (rawF c arg2 harg2 arg3 harg3 arg4 harg4 arg8 harg8 arg11 harg11 x0 x1 x2 x6 x9) (kernelRun0_A.sl.v239 c arg9 harg9 arg10 harg10 arg19 x7 x8)).trans
    (congrArg (fun s => (rawF c arg2 harg2 arg3 harg3 arg4 harg4 arg8 harg8 arg11 harg11 x0 x1 x2 x6 x9).out maskF 0 2 ((rawF c arg2 harg2 arg3 harg3 arg4 harg4 arg8 harg8 arg11 harg11 x0 x1 x2 x6 x9).fwd 0 (unbox s) 2)) (initF0 c arg9 harg9 arg10 harg10 arg19 x7 x8))

theorem rowF0_1 : k0_pay99 (k0_pay37 kernelRun0_A.sl.v18 kernelRun0_A.sl.v19 k0_pay35) (kernelRun0_A.sl.r_8 c arg3 harg3 arg8 harg8 arg11 harg11 x1 x6 x9) (kernelRun0_A.sl.r_21 c arg3 harg3 arg8 harg8 arg11 harg11 x1 x6 x9) (kernelRun0_A.sl.r_35 c arg2 harg2 arg3 harg3 arg8 harg8 arg11 harg11 x0 x1 x6 x9) (kernelRun0_A.sl.r_36 c arg4 harg4 x2) (kernelRun0_A.sl.r_37 c arg3 harg3 arg8 harg8 arg11 harg11 x1 x6 x9) kernelRun0_A.sl.cst_57 (kernelRun0_A.sl.v239 c arg9 harg9 arg10 harg10 arg19 x7 x8) =
    (rawF c arg2 harg2 arg3 harg3 arg4 harg4 arg8 harg8 arg11 harg11 x0 x1 x2 x6 x9).out maskF 0 1 ((rawF c arg2 harg2 arg3 harg3 arg4 harg4 arg8 harg8 arg11 harg11 x0 x1 x2 x6 x9).fwd 0 (unbox (kernelRun0_A.sl.v1279 c arg9 harg9 x7)) 1) :=
  (outF0_1 (rawF c arg2 harg2 arg3 harg3 arg4 harg4 arg8 harg8 arg11 harg11 x0 x1 x2 x6 x9) (kernelRun0_A.sl.v239 c arg9 harg9 arg10 harg10 arg19 x7 x8)).trans
    (congrArg (fun s => (rawF c arg2 harg2 arg3 harg3 arg4 harg4 arg8 harg8 arg11 harg11 x0 x1 x2 x6 x9).out maskF 0 1 ((rawF c arg2 harg2 arg3 harg3 arg4 harg4 arg8 harg8 arg11 harg11 x0 x1 x2 x6 x9).fwd 0 (unbox s) 1)) (initF0 c arg9 harg9 arg10 harg10 arg19 x7 x8))

theorem rowF0_0 : k0_pay97 (k0_pay37 kernelRun0_A.sl.v18 kernelRun0_A.sl.v19 k0_pay35) (kernelRun0_A.sl.r_35 c arg2 harg2 arg3 harg3 arg8 harg8 arg11 harg11 x0 x1 x6 x9) (kernelRun0_A.sl.r_36 c arg4 harg4 x2) (kernelRun0_A.sl.r_37 c arg3 harg3 arg8 harg8 arg11 harg11 x1 x6 x9) kernelRun0_A.sl.cst_57 (kernelRun0_A.sl.v239 c arg9 harg9 arg10 harg10 arg19 x7 x8) =
    (rawF c arg2 harg2 arg3 harg3 arg4 harg4 arg8 harg8 arg11 harg11 x0 x1 x2 x6 x9).out maskF 0 0 ((rawF c arg2 harg2 arg3 harg3 arg4 harg4 arg8 harg8 arg11 harg11 x0 x1 x2 x6 x9).fwd 0 (unbox (kernelRun0_A.sl.v1279 c arg9 harg9 x7)) 0) :=
  (outF0_0 (rawF c arg2 harg2 arg3 harg3 arg4 harg4 arg8 harg8 arg11 harg11 x0 x1 x2 x6 x9) (kernelRun0_A.sl.v239 c arg9 harg9 arg10 harg10 arg19 x7 x8)).trans
    (congrArg (fun s => (rawF c arg2 harg2 arg3 harg3 arg4 harg4 arg8 harg8 arg11 harg11 x0 x1 x2 x6 x9).out maskF 0 0 ((rawF c arg2 harg2 arg3 harg3 arg4 harg4 arg8 harg8 arg11 harg11 x0 x1 x2 x6 x9).fwd 0 (unbox s) 0)) (initF0 c arg9 harg9 arg10 harg10 arg19 x7 x8))

theorem rowB7_0 : kernelRun0_A.sl.r_132 c arg3 harg3 arg4 harg4 arg5 harg5 arg6 harg6 arg7 harg7 arg8 harg8 arg9 harg9 arg10 harg10 arg11 harg11 arg12 harg12 arg19 x1 x2 x3 x4 x5 x6 x7 x8 x9 x10 =
    (rawB c arg5 harg5 arg6 harg6 arg7 harg7 arg8 harg8 arg12 harg12 x3 x4 x5 x6 x10).out maskB 7 0 ((rawB c arg5 harg5 arg6 harg6 arg7 harg7 arg8 harg8 arg12 harg12 x3 x4 x5 x6 x10).bwd 7 (unbox (kernelRun0_A.sl.v1369 c arg10 harg10 x8)) 3) :=
  (outB7_0 (rawB c arg5 harg5 arg6 harg6 arg7 harg7 arg8 harg8 arg12 harg12 x3 x4 x5 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 7 0 ((rawB c arg5 harg5 arg6 harg6 arg7 harg7 arg8 harg8 arg12 harg12 x3 x4 x5 x6 x10).bwd 7 (unbox s) 3)) (initB7 c arg3 harg3 arg4 harg4 arg6 harg6 arg7 harg7 arg8 harg8 arg9 harg9 arg10 harg10 arg11 harg11 arg12 harg12 arg19 x1 x2 x4 x5 x6 x7 x8 x9 x10))

theorem rowB7_1 : k0_pay310 (kernelRun0_A.sl.r_34 c arg6 harg6 arg8 harg8 arg12 harg12 x4 x6 x10) (kernelRun0_A.sl.r_126 c arg5 harg5 arg6 harg6 arg8 harg8 arg12 harg12 x3 x4 x6 x10) (kernelRun0_A.sl.r_128 c arg5 harg5 arg6 harg6 arg7 harg7 arg8 harg8 arg12 harg12 x3 x4 x5 x6 x10) (kernelRun0_A.sl.r_129 c arg3 harg3 arg4 harg4 arg6 harg6 arg7 harg7 arg8 harg8 arg9 harg9 arg10 harg10 arg11 harg11 arg12 harg12 arg19 x1 x2 x4 x5 x6 x7 x8 x9 x10) (kernelRun0_A.sl.r_130 c arg7 harg7 x5) =
    (rawB c arg5 harg5 arg6 harg6 arg7 harg7 arg8 harg8 arg12 harg12 x3 x4 x5 x6 x10).out maskB 7 1 ((rawB c arg5 harg5 arg6 harg6 arg7 harg7 arg8 harg8 arg12 harg12 x3 x4 x5 x6 x10).bwd 7 (unbox (kernelRun0_A.sl.v1369 c arg10 harg10 x8)) 2) :=
  (outB7_1 (rawB c arg5 harg5 arg6 harg6 arg7 harg7 arg8 harg8 arg12 harg12 x3 x4 x5 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 7 1 ((rawB c arg5 harg5 arg6 harg6 arg7 harg7 arg8 harg8 arg12 harg12 x3 x4 x5 x6 x10).bwd 7 (unbox s) 2)) (initB7 c arg3 harg3 arg4 harg4 arg6 harg6 arg7 harg7 arg8 harg8 arg9 harg9 arg10 harg10 arg11 harg11 arg12 harg12 arg19 x1 x2 x4 x5 x6 x7 x8 x9 x10))

theorem rowB7_2 : k0_pay306 (k0_pay38 kernelRun0_A.sl.v18 kernelRun0_A.sl.v19 k0_pay35) (kernelRun0_A.sl.r_24 c arg7 harg7 x5) (kernelRun0_A.sl.r_31 c arg6 harg6 arg8 harg8 arg12 harg12 x4 x6 x10) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.r_34 c arg6 harg6 arg8 harg8 arg12 harg12 x4 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 7 2 ((rawB c arg5 harg5 arg6 harg6 arg7 harg7 arg8 harg8 arg12 harg12 x3 x4 x5 x6 x10).bwd 7 (unbox (kernelRun0_A.sl.v1369 c arg10 harg10 x8)) 1) :=
  (outB7_2 (rawB c arg5 harg5 arg6 harg6 arg7 harg7 arg8 harg8 arg12 harg12 x3 x4 x5 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 7 2 ((rawB c arg5 harg5 arg6 harg6 arg7 harg7 arg8 harg8 arg12 harg12 x3 x4 x5 x6 x10).bwd 7 (unbox s) 1)) (initB7 c arg3 harg3 arg4 harg4 arg6 harg6 arg7 harg7 arg8 harg8 arg9 harg9 arg10 harg10 arg11 harg11 arg12 harg12 arg19 x1 x2 x4 x5 x6 x7 x8 x9 x10))

theorem rowB7_3 : k0_pay304 (k0_pay38 kernelRun0_A.sl.v18 kernelRun0_A.sl.v19 k0_pay35) (kernelRun0_A.sl.r_24 c arg7 harg7 x5) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 7 3 ((rawB c arg5 harg5 arg6 harg6 arg7 harg7 arg8 harg8 arg12 harg12 x3 x4 x5 x6 x10).bwd 7 (unbox (kernelRun0_A.sl.v1369 c arg10 harg10 x8)) 0) :=
  (outB7_3 (rawB c arg5 harg5 arg6 harg6 arg7 harg7 arg8 harg8 arg12 harg12 x3 x4 x5 x6 x10) (kernelRun0_A.sl.v1214 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 7 3 ((rawB c arg5 harg5 arg6 harg6 arg7 harg7 arg8 harg8 arg12 harg12 x3 x4 x5 x6 x10).bwd 7 (unbox s) 0)) (initB7 c arg3 harg3 arg4 harg4 arg6 harg6 arg7 harg7 arg8 harg8 arg9 harg9 arg10 harg10 arg11 harg11 arg12 harg12 arg19 x1 x2 x4 x5 x6 x7 x8 x9 x10))

theorem rowB6_0 : k0_pay283 (kernelRun0_A.sl.r_29 c arg6 harg6 arg8 harg8 arg12 harg12 x4 x6 x10) (kernelRun0_A.sl.r_34 c arg6 harg6 arg8 harg8 arg12 harg12 x4 x6 x10) (kernelRun0_A.sl.r_113 c arg5 harg5 arg6 harg6 arg8 harg8 arg12 harg12 x3 x4 x6 x10) (kernelRun0_A.sl.r_114 c arg7 harg7 x5) (kernelRun0_A.sl.r_116 c arg5 harg5 arg6 harg6 arg7 harg7 arg8 harg8 arg12 harg12 x3 x4 x5 x6 x10) (kernelRun0_A.sl.r_117 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 6 0 ((rawB c arg5 harg5 arg6 harg6 arg7 harg7 arg8 harg8 arg12 harg12 x3 x4 x5 x6 x10).bwd 6 (unbox (kernelRun0_A.sl.v1357 c arg10 harg10 x8)) 3) :=
  (outB6_0 (rawB c arg5 harg5 arg6 harg6 arg7 harg7 arg8 harg8 arg12 harg12 x3 x4 x5 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 6 0 ((rawB c arg5 harg5 arg6 harg6 arg7 harg7 arg8 harg8 arg12 harg12 x3 x4 x5 x6 x10).bwd 6 (unbox s) 3)) (initB6 c arg3 harg3 arg4 harg4 arg6 harg6 arg7 harg7 arg8 harg8 arg9 harg9 arg10 harg10 arg11 harg11 arg12 harg12 arg19 x1 x2 x4 x5 x6 x7 x8 x9 x10))

theorem rowB6_1 : k0_pay281 (k0_pay38 kernelRun0_A.sl.v18 kernelRun0_A.sl.v19 k0_pay35) (kernelRun0_A.sl.r_30 c arg6 harg6 arg8 harg8 arg12 harg12 x4 x6 x10) (kernelRun0_A.sl.r_31 c arg6 harg6 arg8 harg8 arg12 harg12 x4 x6 x10) (kernelRun0_A.sl.r_34 c arg6 harg6 arg8 harg8 arg12 harg12 x4 x6 x10) (kernelRun0_A.sl.r_113 c arg5 harg5 arg6 harg6 arg8 harg8 arg12 harg12 x3 x4 x6 x10) (kernelRun0_A.sl.r_114 c arg7 harg7 x5) (kernelRun0_A.sl.r_115 c arg6 harg6 arg8 harg8 arg12 harg12 x4 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 6 1 ((rawB c arg5 harg5 arg6 harg6 arg7 harg7 arg8 harg8 arg12 harg12 x3 x4 x5 x6 x10).bwd 6 (unbox (kernelRun0_A.sl.v1357 c arg10 harg10 x8)) 2) :=
  (outB6_1 (rawB c arg5 harg5 arg6 harg6 arg7 harg7 arg8 harg8 arg12 harg12 x3 x4 x5 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 6 1 ((rawB c arg5 harg5 arg6 harg6 arg7 harg7 arg8 harg8 arg12 harg12 x3 x4 x5 x6 x10).bwd 6 (unbox s) 2)) (initB6 c arg3 harg3 arg4 harg4 arg6 harg6 arg7 harg7 arg8 harg8 arg9 harg9 arg10 harg10 arg11 harg11 arg12 harg12 arg19 x1 x2 x4 x5 x6 x7 x8 x9 x10))

theorem rowB6_2 : k0_pay279 (k0_pay38 kernelRun0_A.sl.v18 kernelRun0_A.sl.v19 k0_pay35) (kernelRun0_A.sl.r_31 c arg6 harg6 arg8 harg8 arg12 harg12 x4 x6 x10) (kernelRun0_A.sl.r_34 c arg6 harg6 arg8 harg8 arg12 harg12 x4 x6 x10) (kernelRun0_A.sl.r_113 c arg5 harg5 arg6 harg6 arg8 harg8 arg12 harg12 x3 x4 x6 x10) (kernelRun0_A.sl.r_114 c arg7 harg7 x5) (kernelRun0_A.sl.r_115 c arg6 harg6 arg8 harg8 arg12 harg12 x4 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 6 2 ((rawB c arg5 harg5 arg6 harg6 arg7 harg7 arg8 harg8 arg12 harg12 x3 x4 x5 x6 x10).bwd 6 (unbox (kernelRun0_A.sl.v1357 c arg10 harg10 x8)) 1) :=
  (outB6_2 (rawB c arg5 harg5 arg6 harg6 arg7 harg7 arg8 harg8 arg12 harg12 x3 x4 x5 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 6 2 ((rawB c arg5 harg5 arg6 harg6 arg7 harg7 arg8 harg8 arg12 harg12 x3 x4 x5 x6 x10).bwd 6 (unbox s) 1)) (initB6 c arg3 harg3 arg4 harg4 arg6 harg6 arg7 harg7 arg8 harg8 arg9 harg9 arg10 harg10 arg11 harg11 arg12 harg12 arg19 x1 x2 x4 x5 x6 x7 x8 x9 x10))

theorem rowB6_3 : k0_pay277 (k0_pay38 kernelRun0_A.sl.v18 kernelRun0_A.sl.v19 k0_pay35) (kernelRun0_A.sl.r_113 c arg5 harg5 arg6 harg6 arg8 harg8 arg12 harg12 x3 x4 x6 x10) (kernelRun0_A.sl.r_114 c arg7 harg7 x5) (kernelRun0_A.sl.r_115 c arg6 harg6 arg8 harg8 arg12 harg12 x4 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 6 3 ((rawB c arg5 harg5 arg6 harg6 arg7 harg7 arg8 harg8 arg12 harg12 x3 x4 x5 x6 x10).bwd 6 (unbox (kernelRun0_A.sl.v1357 c arg10 harg10 x8)) 0) :=
  (outB6_3 (rawB c arg5 harg5 arg6 harg6 arg7 harg7 arg8 harg8 arg12 harg12 x3 x4 x5 x6 x10) (kernelRun0_A.sl.v1084 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 6 3 ((rawB c arg5 harg5 arg6 harg6 arg7 harg7 arg8 harg8 arg12 harg12 x3 x4 x5 x6 x10).bwd 6 (unbox s) 0)) (initB6 c arg3 harg3 arg4 harg4 arg6 harg6 arg7 harg7 arg8 harg8 arg9 harg9 arg10 harg10 arg11 harg11 arg12 harg12 arg19 x1 x2 x4 x5 x6 x7 x8 x9 x10))

theorem rowB5_0 : kernelRun0_A.sl.r_106 c arg3 harg3 arg4 harg4 arg5 harg5 arg6 harg6 arg7 harg7 arg8 harg8 arg9 harg9 arg10 harg10 arg11 harg11 arg12 harg12 arg19 x1 x2 x3 x4 x5 x6 x7 x8 x9 x10 =
    (rawB c arg5 harg5 arg6 harg6 arg7 harg7 arg8 harg8 arg12 harg12 x3 x4 x5 x6 x10).out maskB 5 0 ((rawB c arg5 harg5 arg6 harg6 arg7 harg7 arg8 harg8 arg12 harg12 x3 x4 x5 x6 x10).bwd 5 (unbox (kernelRun0_A.sl.v1345 c arg10 harg10 x8)) 3) :=
  (outB5_0 (rawB c arg5 harg5 arg6 harg6 arg7 harg7 arg8 harg8 arg12 harg12 x3 x4 x5 x6 x10) (kernelRun0_A.sl.v954 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 5 0 ((rawB c arg5 harg5 arg6 harg6 arg7 harg7 arg8 harg8 arg12 harg12 x3 x4 x5 x6 x10).bwd 5 (unbox s) 3)) (initB5 c arg3 harg3 arg4 harg4 arg6 harg6 arg7 harg7 arg8 harg8 arg9 harg9 arg10 harg10 arg11 harg11 arg12 harg12 arg19 x1 x2 x4 x5 x6 x7 x8 x9 x10))

theorem rowB5_1 : k0_pay254 (kernelRun0_A.sl.r_30 c arg6 harg6 arg8 harg8 arg12 harg12 x4 x6 x10) (kernelRun0_A.sl.r_31 c arg6 harg6 arg8 harg8 arg12 harg12 x4 x6 x10) (kernelRun0_A.sl.r_34 c arg6 harg6 arg8 harg8 arg12 harg12 x4 x6 x10) (kernelRun0_A.sl.r_101 c arg5 harg5 arg6 harg6 arg8 harg8 arg12 harg12 x3 x4 x6 x10) (kernelRun0_A.sl.r_102 c arg7 harg7 x5) (kernelRun0_A.sl.r_103 c arg5 harg5 arg6 harg6 arg7 harg7 arg8 harg8 arg12 harg12 x3 x4 x5 x6 x10) (kernelRun0_A.sl.r_104 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 5 1 ((rawB c arg5 harg5 arg6 harg6 arg7 harg7 arg8 harg8 arg12 harg12 x3 x4 x5 x6 x10).bwd 5 (unbox (kernelRun0_A.sl.v1345 c arg10 harg10 x8)) 2) :=
  (outB5_1 (rawB c arg5 harg5 arg6 harg6 arg7 harg7 arg8 harg8 arg12 harg12 x3 x4 x5 x6 x10) (kernelRun0_A.sl.v954 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 5 1 ((rawB c arg5 harg5 arg6 harg6 arg7 harg7 arg8 harg8 arg12 harg12 x3 x4 x5 x6 x10).bwd 5 (unbox s) 2)) (initB5 c arg3 harg3 arg4 harg4 arg6 harg6 arg7 harg7 arg8 harg8 arg9 harg9 arg10 harg10 arg11 harg11 arg12 harg12 arg19 x1 x2 x4 x5 x6 x7 x8 x9 x10))

theorem rowB5_2 : k0_pay252 (kernelRun0_A.sl.r_31 c arg6 harg6 arg8 harg8 arg12 harg12 x4 x6 x10) (kernelRun0_A.sl.r_34 c arg6 harg6 arg8 harg8 arg12 harg12 x4 x6 x10) (kernelRun0_A.sl.r_101 c arg5 harg5 arg6 harg6 arg8 harg8 arg12 harg12 x3 x4 x6 x10) (kernelRun0_A.sl.r_102 c arg7 harg7 x5) (kernelRun0_A.sl.r_103 c arg5 harg5 arg6 harg6 arg7 harg7 arg8 harg8 arg12 harg12 x3 x4 x5 x6 x10) (kernelRun0_A.sl.r_104 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 5 2 ((rawB c arg5 harg5 arg6 harg6 arg7 harg7 arg8 harg8 arg12 harg12 x3 x4 x5 x6 x10).bwd 5 (unbox (kernelRun0_A.sl.v1345 c arg10 harg10 x8)) 1) :=
  (outB5_2 (rawB c arg5 harg5 arg6 harg6 arg7 harg7 arg8 harg8 arg12 harg12 x3 x4 x5 x6 x10) (kernelRun0_A.sl.v954 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 5 2 ((rawB c arg5 harg5 arg6 harg6 arg7 harg7 arg8 harg8 arg12 harg12 x3 x4 x5 x6 x10).bwd 5 (unbox s) 1)) (initB5 c arg3 harg3 arg4 harg4 arg6 harg6 arg7 harg7 arg8 harg8 arg9 harg9 arg10 harg10 arg11 harg11 arg12 harg12 arg19 x1 x2 x4 x5 x6 x7 x8 x9 x10))

theorem rowB5_3 : k0_pay250 (kernelRun0_A.sl.r_101 c arg5 harg5 arg6 harg6 arg8 harg8 arg12 harg12 x3 x4 x6 x10) (kernelRun0_A.sl.r_103 c arg5 harg5 arg6 harg6 arg7 harg7 arg8 harg8 arg12 harg12 x3 x4 x5 x6 x10) (kernelRun0_A.sl.r_104 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 5 3 ((rawB c arg5 harg5 arg6 harg6 arg7 harg7 arg8 harg8 arg12 harg12 x3 x4 x5 x6 x10).bwd 5 (unbox (kernelRun0_A.sl.v1345 c arg10 harg10 x8)) 0) :=
  (outB5_3 (rawB c arg5 harg5 arg6 harg6 arg7 harg7 arg8 harg8 arg12 harg12 x3 x4 x5 x6 x10) (kernelRun0_A.sl.v954 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 5 3 ((rawB c arg5 harg5 arg6 harg6 arg7 harg7 arg8 harg8 arg12 harg12 x3 x4 x5 x6 x10).bwd 5 (unbox s) 0)) (initB5 c arg3 harg3 arg4 harg4 arg6 harg6 arg7 harg7 arg8 harg8 arg9 harg9 arg10 harg10 arg11 harg11 arg12 harg12 arg19 x1 x2 x4 x5 x6 x7 x8 x9 x10))

theorem rowB4_0 : k0_pay230 (kernelRun0_A.sl.r_29 c arg6 harg6 arg8 harg8 arg12 harg12 x4 x6 x10) (kernelRun0_A.sl.r_30 c arg6 harg6 arg8 harg8 arg12 harg12 x4 x6 x10) (kernelRun0_A.sl.r_34 c arg6 harg6 arg8 harg8 arg12 harg12 x4 x6 x10) (kernelRun0_A.sl.r_90 c arg5 harg5 arg6 harg6 arg8 harg8 arg12 harg12 x3 x4 x6 x10) (kernelRun0_A.sl.r_91 c arg7 harg7 x5) (kernelRun0_A.sl.r_92 c arg5 harg5 arg6 harg6 arg7 harg7 arg8 harg8 arg12 harg12 x3 x4 x5 x6 x10) (kernelRun0_A.sl.r_93 c arg3 harg3 arg4 harg4 arg6 harg6 arg7 harg7 arg8 harg8 arg9 harg9 arg10 harg10 arg11 harg11 arg12 harg12 arg19 x1 x2 x4 x5 x6 x7 x8 x9 x10) (kernelRun0_A.sl.r_94 c arg7 harg7 x5) =
    (rawB c arg5 harg5 arg6 harg6 arg7 harg7 arg8 harg8 arg12 harg12 x3 x4 x5 x6 x10).out maskB 4 0 ((rawB c arg5 harg5 arg6 harg6 arg7 harg7 arg8 harg8 arg12 harg12 x3 x4 x5 x6 x10).bwd 4 (unbox (kernelRun0_A.sl.v1333 c arg10 harg10 x8)) 3) :=
  (outB4_0 (rawB c arg5 harg5 arg6 harg6 arg7 harg7 arg8 harg8 arg12 harg12 x3 x4 x5 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 4 0 ((rawB c arg5 harg5 arg6 harg6 arg7 harg7 arg8 harg8 arg12 harg12 x3 x4 x5 x6 x10).bwd 4 (unbox s) 3)) (initB4 c arg3 harg3 arg4 harg4 arg6 harg6 arg7 harg7 arg8 harg8 arg9 harg9 arg10 harg10 arg11 harg11 arg12 harg12 arg19 x1 x2 x4 x5 x6 x7 x8 x9 x10))

theorem rowB4_1 : k0_pay228 (kernelRun0_A.sl.r_30 c arg6 harg6 arg8 harg8 arg12 harg12 x4 x6 x10) (kernelRun0_A.sl.r_34 c arg6 harg6 arg8 harg8 arg12 harg12 x4 x6 x10) (kernelRun0_A.sl.r_90 c arg5 harg5 arg6 harg6 arg8 harg8 arg12 harg12 x3 x4 x6 x10) (kernelRun0_A.sl.r_91 c arg7 harg7 x5) (kernelRun0_A.sl.r_92 c arg5 harg5 arg6 harg6 arg7 harg7 arg8 harg8 arg12 harg12 x3 x4 x5 x6 x10) (kernelRun0_A.sl.r_93 c arg3 harg3 arg4 harg4 arg6 harg6 arg7 harg7 arg8 harg8 arg9 harg9 arg10 harg10 arg11 harg11 arg12 harg12 arg19 x1 x2 x4 x5 x6 x7 x8 x9 x10) (kernelRun0_A.sl.r_94 c arg7 harg7 x5) =
    (rawB c arg5 harg5 arg6 harg6 arg7 harg7 arg8 harg8 arg12 harg12 x3 x4 x5 x6 x10).out maskB 4 1 ((rawB c arg5 harg5 arg6 harg6 arg7 harg7 arg8 harg8 arg12 harg12 x3 x4 x5 x6 x10).bwd 4 (unbox (kernelRun0_A.sl.v1333 c arg10 harg10 x8)) 2) :=
  (outB4_1 (rawB c arg5 harg5 arg6 harg6 arg7 harg7 arg8 harg8 arg12 harg12 x3 x4 x5 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 4 1 ((rawB c arg5 harg5 arg6 harg6 arg7 harg7 arg8 harg8 arg12 harg12 x3 x4 x5 x6 x10).bwd 4 (unbox s) 2)) (initB4 c arg3 harg3 arg4 harg4 arg6 harg6 arg7 harg7 arg8 harg8 arg9 harg9 arg10 harg10 arg11 harg11 arg12 harg12 arg19 x1 x2 x4 x5 x6 x7 x8 x9 x10))

theorem rowB4_2 : k0_pay226 (kernelRun0_A.sl.r_34 c arg6 harg6 arg8 harg8 arg12 harg12 x4 x6 x10) (kernelRun0_A.sl.r_90 c arg5 harg5 arg6 harg6 arg8 harg8 arg12 harg12 x3 x4 x6 x10) (kernelRun0_A.sl.r_92 c arg5 harg5 arg6 harg6 arg7 harg7 arg8 harg8 arg12 harg12 x3 x4 x5 x6 x10) (kernelRun0_A.sl.r_93 c arg3 harg3 arg4 harg4 arg6 harg6 arg7 harg7 arg8 harg8 arg9 harg9 arg10 harg10 arg11 harg11 arg12 harg12 arg19 x1 x2 x4 x5 x6 x7 x8 x9 x10) (kernelRun0_A.sl.r_94 c arg7 harg7 x5) =
    (rawB c arg5 harg5 arg6 harg6 arg7 harg7 arg8 harg8 arg12 harg12 x3 x4 x5 x6 x10).out maskB 4 2 ((rawB c arg5 harg5 arg6 harg6 arg7 harg7 arg8 harg8 arg12 harg12 x3 x4 x5 x6 x10).bwd 4 (unbox (kernelRun0_A.sl.v1333 c arg10 harg10 x8)) 1) :=
  (outB4_2 (rawB c arg5 harg5 arg6 harg6 arg7 harg7 arg8 harg8 arg12 harg12 x3 x4 x5 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 4 2 ((rawB c arg5 harg5 arg6 harg6 arg7 harg7 arg8 harg8 arg12 harg12 x3 x4 x5 x6 x10).bwd 4 (unbox s) 1)) (initB4 c arg3 harg3 arg4 harg4 arg6 harg6 arg7 harg7 arg8 harg8 arg9 harg9 arg10 harg10 arg11 harg11 arg12 harg12 arg19 x1 x2 x4 x5 x6 x7 x8 x9 x10))

theorem rowB4_3 : k0_pay222 (k0_pay38 kernelRun0_A.sl.v18 kernelRun0_A.sl.v19 k0_pay35) (kernelRun0_A.sl.r_24 c arg7 harg7 x5) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 4 3 ((rawB c arg5 harg5 arg6 harg6 arg7 harg7 arg8 harg8 arg12 harg12 x3 x4 x5 x6 x10).bwd 4 (unbox (kernelRun0_A.sl.v1333 c arg10 harg10 x8)) 0) :=
  (outB4_3 (rawB c arg5 harg5 arg6 harg6 arg7 harg7 arg8 harg8 arg12 harg12 x3 x4 x5 x6 x10) (kernelRun0_A.sl.v824 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 4 3 ((rawB c arg5 harg5 arg6 harg6 arg7 harg7 arg8 harg8 arg12 harg12 x3 x4 x5 x6 x10).bwd 4 (unbox s) 0)) (initB4 c arg3 harg3 arg4 harg4 arg6 harg6 arg7 harg7 arg8 harg8 arg9 harg9 arg10 harg10 arg11 harg11 arg12 harg12 arg19 x1 x2 x4 x5 x6 x7 x8 x9 x10))

theorem rowB3_0 : k0_pay200 (kernelRun0_A.sl.r_29 c arg6 harg6 arg8 harg8 arg12 harg12 x4 x6 x10) (kernelRun0_A.sl.r_30 c arg6 harg6 arg8 harg8 arg12 harg12 x4 x6 x10) (kernelRun0_A.sl.r_34 c arg6 harg6 arg8 harg8 arg12 harg12 x4 x6 x10) (kernelRun0_A.sl.r_79 c arg5 harg5 arg6 harg6 arg8 harg8 arg12 harg12 x3 x4 x6 x10) (kernelRun0_A.sl.r_80 c arg7 harg7 x5) (kernelRun0_A.sl.r_81 c arg5 harg5 arg6 harg6 arg7 harg7 arg8 harg8 arg12 harg12 x3 x4 x5 x6 x10) (kernelRun0_A.sl.r_82 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 3 0 ((rawB c arg5 harg5 arg6 harg6 arg7 harg7 arg8 harg8 arg12 harg12 x3 x4 x5 x6 x10).bwd 3 (unbox (kernelRun0_A.sl.v1321 c arg10 harg10 x8)) 3) :=
  (outB3_0 (rawB c arg5 harg5 arg6 harg6 arg7 harg7 arg8 harg8 arg12 harg12 x3 x4 x5 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 3 0 ((rawB c arg5 harg5 arg6 harg6 arg7 harg7 arg8 harg8 arg12 harg12 x3 x4 x5 x6 x10).bwd 3 (unbox s) 3)) (initB3 c arg3 harg3 arg4 harg4 arg6 harg6 arg7 harg7 arg8 harg8 arg9 harg9 arg10 harg10 arg11 harg11 arg12 harg12 arg19 x1 x2 x4 x5 x6 x7 x8 x9 x10))

theorem rowB3_1 : k0_pay198 (kernelRun0_A.sl.r_30 c arg6 harg6 arg8 harg8 arg12 harg12 x4 x6 x10) (kernelRun0_A.sl.r_34 c arg6 harg6 arg8 harg8 arg12 harg12 x4 x6 x10) (kernelRun0_A.sl.r_79 c arg5 harg5 arg6 harg6 arg8 harg8 arg12 harg12 x3 x4 x6 x10) (kernelRun0_A.sl.r_80 c arg7 harg7 x5) (kernelRun0_A.sl.r_81 c arg5 harg5 arg6 harg6 arg7 harg7 arg8 harg8 arg12 harg12 x3 x4 x5 x6 x10) (kernelRun0_A.sl.r_82 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 3 1 ((rawB c arg5 harg5 arg6 harg6 arg7 harg7 arg8 harg8 arg12 harg12 x3 x4 x5 x6 x10).bwd 3 (unbox (kernelRun0_A.sl.v1321 c arg10 harg10 x8)) 2) :=
  (outB3_1 (rawB c arg5 harg5 arg6 harg6 arg7 harg7 arg8 harg8 arg12 harg12 x3 x4 x5 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 3 1 ((rawB c arg5 harg5 arg6 harg6 arg7 harg7 arg8 harg8 arg12 harg12 x3 x4 x5 x6 x10).bwd 3 (unbox s) 2)) (initB3 c arg3 harg3 arg4 harg4 arg6 harg6 arg7 harg7 arg8 harg8 arg9 harg9 arg10 harg10 arg11 harg11 arg12 harg12 arg19 x1 x2 x4 x5 x6 x7 x8 x9 x10))

theorem rowB3_2 : k0_pay196 (k0_pay38 kernelRun0_A.sl.v18 kernelRun0_A.sl.v19 k0_pay35) (kernelRun0_A.sl.r_24 c arg7 harg7 x5) (kernelRun0_A.sl.r_31 c arg6 harg6 arg8 harg8 arg12 harg12 x4 x6 x10) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.r_34 c arg6 harg6 arg8 harg8 arg12 harg12 x4 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 3 2 ((rawB c arg5 harg5 arg6 harg6 arg7 harg7 arg8 harg8 arg12 harg12 x3 x4 x5 x6 x10).bwd 3 (unbox (kernelRun0_A.sl.v1321 c arg10 harg10 x8)) 1) :=
  (outB3_2 (rawB c arg5 harg5 arg6 harg6 arg7 harg7 arg8 harg8 arg12 harg12 x3 x4 x5 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 3 2 ((rawB c arg5 harg5 arg6 harg6 arg7 harg7 arg8 harg8 arg12 harg12 x3 x4 x5 x6 x10).bwd 3 (unbox s) 1)) (initB3 c arg3 harg3 arg4 harg4 arg6 harg6 arg7 harg7 arg8 harg8 arg9 harg9 arg10 harg10 arg11 harg11 arg12 harg12 arg19 x1 x2 x4 x5 x6 x7 x8 x9 x10))

theorem rowB3_3 : k0_pay194 (k0_pay38 kernelRun0_A.sl.v18 kernelRun0_A.sl.v19 k0_pay35) (kernelRun0_A.sl.r_24 c arg7 harg7 x5) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 3 3 ((rawB c arg5 harg5 arg6 harg6 arg7 harg7 arg8 harg8 arg12 harg12 x3 x4 x5 x6 x10).bwd 3 (unbox (kernelRun0_A.sl.v1321 c arg10 harg10 x8)) 0) :=
  (outB3_3 (rawB c arg5 harg5 arg6 harg6 arg7 harg7 arg8 harg8 arg12 harg12 x3 x4 x5 x6 x10) (kernelRun0_A.sl.v694 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 3 3 ((rawB c arg5 harg5 arg6 harg6 arg7 harg7 arg8 harg8 arg12 harg12 x3 x4 x5 x6 x10).bwd 3 (unbox s) 0)) (initB3 c arg3 harg3 arg4 harg4 arg6 harg6 arg7 harg7 arg8 harg8 arg9 harg9 arg10 harg10 arg11 harg11 arg12 harg12 arg19 x1 x2 x4 x5 x6 x7 x8 x9 x10))

theorem rowB2_0 : k0_pay173 (kernelRun0_A.sl.r_29 c arg6 harg6 arg8 harg8 arg12 harg12 x4 x6 x10) (kernelRun0_A.sl.r_34 c arg6 harg6 arg8 harg8 arg12 harg12 x4 x6 x10) (kernelRun0_A.sl.r_66 c arg5 harg5 arg6 harg6 arg8 harg8 arg12 harg12 x3 x4 x6 x10) (kernelRun0_A.sl.r_67 c arg7 harg7 x5) (kernelRun0_A.sl.r_68 c arg5 harg5 arg6 harg6 arg7 harg7 arg8 harg8 arg12 harg12 x3 x4 x5 x6 x10) (kernelRun0_A.sl.r_69 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 2 0 ((rawB c arg5 harg5 arg6 harg6 arg7 harg7 arg8 harg8 arg12 harg12 x3 x4 x5 x6 x10).bwd 2 (unbox (kernelRun0_A.sl.v1309 c arg10 harg10 x8)) 3) :=
  (outB2_0 (rawB c arg5 harg5 arg6 harg6 arg7 harg7 arg8 harg8 arg12 harg12 x3 x4 x5 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 2 0 ((rawB c arg5 harg5 arg6 harg6 arg7 harg7 arg8 harg8 arg12 harg12 x3 x4 x5 x6 x10).bwd 2 (unbox s) 3)) (initB2 c arg3 harg3 arg4 harg4 arg6 harg6 arg7 harg7 arg8 harg8 arg9 harg9 arg10 harg10 arg11 harg11 arg12 harg12 arg19 x1 x2 x4 x5 x6 x7 x8 x9 x10))

theorem rowB2_1 : kernelRun0_A.sl.r_70 c arg3 harg3 arg4 harg4 arg5 harg5 arg6 harg6 arg7 harg7 arg8 harg8 arg9 harg9 arg10 harg10 arg11 harg11 arg12 harg12 arg19 x1 x2 x3 x4 x5 x6 x7 x8 x9 x10 =
    (rawB c arg5 harg5 arg6 harg6 arg7 harg7 arg8 harg8 arg12 harg12 x3 x4 x5 x6 x10).out maskB 2 1 ((rawB c arg5 harg5 arg6 harg6 arg7 harg7 arg8 harg8 arg12 harg12 x3 x4 x5 x6 x10).bwd 2 (unbox (kernelRun0_A.sl.v1309 c arg10 harg10 x8)) 2) :=
  (outB2_1 (rawB c arg5 harg5 arg6 harg6 arg7 harg7 arg8 harg8 arg12 harg12 x3 x4 x5 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 2 1 ((rawB c arg5 harg5 arg6 harg6 arg7 harg7 arg8 harg8 arg12 harg12 x3 x4 x5 x6 x10).bwd 2 (unbox s) 2)) (initB2 c arg3 harg3 arg4 harg4 arg6 harg6 arg7 harg7 arg8 harg8 arg9 harg9 arg10 harg10 arg11 harg11 arg12 harg12 arg19 x1 x2 x4 x5 x6 x7 x8 x9 x10))

theorem rowB2_2 : k0_pay169 (k0_pay38 kernelRun0_A.sl.v18 kernelRun0_A.sl.v19 k0_pay35) (kernelRun0_A.sl.r_24 c arg7 harg7 x5) (kernelRun0_A.sl.r_31 c arg6 harg6 arg8 harg8 arg12 harg12 x4 x6 x10) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.r_34 c arg6 harg6 arg8 harg8 arg12 harg12 x4 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 2 2 ((rawB c arg5 harg5 arg6 harg6 arg7 harg7 arg8 harg8 arg12 harg12 x3 x4 x5 x6 x10).bwd 2 (unbox (kernelRun0_A.sl.v1309 c arg10 harg10 x8)) 1) :=
  (outB2_2 (rawB c arg5 harg5 arg6 harg6 arg7 harg7 arg8 harg8 arg12 harg12 x3 x4 x5 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 2 2 ((rawB c arg5 harg5 arg6 harg6 arg7 harg7 arg8 harg8 arg12 harg12 x3 x4 x5 x6 x10).bwd 2 (unbox s) 1)) (initB2 c arg3 harg3 arg4 harg4 arg6 harg6 arg7 harg7 arg8 harg8 arg9 harg9 arg10 harg10 arg11 harg11 arg12 harg12 arg19 x1 x2 x4 x5 x6 x7 x8 x9 x10))

theorem rowB2_3 : k0_pay167 (k0_pay38 kernelRun0_A.sl.v18 kernelRun0_A.sl.v19 k0_pay35) (kernelRun0_A.sl.r_24 c arg7 harg7 x5) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 2 3 ((rawB c arg5 harg5 arg6 harg6 arg7 harg7 arg8 harg8 arg12 harg12 x3 x4 x5 x6 x10).bwd 2 (unbox (kernelRun0_A.sl.v1309 c arg10 harg10 x8)) 0) :=
  (outB2_3 (rawB c arg5 harg5 arg6 harg6 arg7 harg7 arg8 harg8 arg12 harg12 x3 x4 x5 x6 x10) (kernelRun0_A.sl.v564 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 2 3 ((rawB c arg5 harg5 arg6 harg6 arg7 harg7 arg8 harg8 arg12 harg12 x3 x4 x5 x6 x10).bwd 2 (unbox s) 0)) (initB2 c arg3 harg3 arg4 harg4 arg6 harg6 arg7 harg7 arg8 harg8 arg9 harg9 arg10 harg10 arg11 harg11 arg12 harg12 arg19 x1 x2 x4 x5 x6 x7 x8 x9 x10))

theorem rowB1_0 : k0_pay148 (kernelRun0_A.sl.r_57 c arg3 harg3 arg4 harg4 arg6 harg6 arg7 harg7 arg8 harg8 arg9 harg9 arg10 harg10 arg11 harg11 arg12 harg12 arg19 x1 x2 x4 x5 x6 x7 x8 x9 x10) (kernelRun0_A.sl.r_58 c arg5 harg5 arg6 harg6 arg7 harg7 arg8 harg8 arg12 harg12 x3 x4 x5 x6 x10) (kernelRun0_A.sl.r_59 c arg5 harg5 arg6 harg6 arg8 harg8 arg12 harg12 x3 x4 x6 x10) =
    (rawB c arg5 harg5 arg6 harg6 arg7 harg7 arg8 harg8 arg12 harg12 x3 x4 x5 x6 x10).out maskB 1 0 ((rawB c arg5 harg5 arg6 harg6 arg7 harg7 arg8 harg8 arg12 harg12 x3 x4 x5 x6 x10).bwd 1 (unbox (kernelRun0_A.sl.v1297 c arg10 harg10 x8)) 3) :=
  (outB1_0 (rawB c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 1 0 ((rawB c arg5 harg5 arg6 harg6 arg7 harg7 arg8 harg8 arg12 harg12 x3 x4 x5 x6 x10).bwd 1 (unbox s) 3)) (initB1 c arg3 harg3 arg4 harg4 arg6 harg6 arg7 harg7 arg8 harg8 arg9 harg9 arg10 harg10 arg11 harg11 arg12 harg12 arg19 x1 x2 x4 x5 x6 x7 x8 x9 x10))

theorem rowB1_1 : k0_pay144 (kernelRun0_A.sl.r_30 c arg6 harg6 arg8 harg8 arg12 harg12 x4 x6 x10) (kernelRun0_A.sl.r_31 c arg6 harg6 arg8 harg8 arg12 harg12 x4 x6 x10) (kernelRun0_A.sl.r_34 c arg6 harg6 arg8 harg8 arg12 harg12 x4 x6 x10) (kernelRun0_A.sl.r_54 c arg5 harg5 arg6 harg6 arg8 harg8 arg12 harg12 x3 x4 x6 x10) (kernelRun0_A.sl.r_55 c arg7 harg7 x5) (kernelRun0_A.sl.r_56 c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 1 1 ((rawB c arg5 harg5 arg6 harg6 arg7 harg7 arg8 harg8 arg12 harg12 x3 x4 x5 x6 x10).bwd 1 (unbox (kernelRun0_A.sl.v1297 c arg10 harg10 x8)) 2) :=
  (outB1_1 (rawB c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 1 1 ((rawB c arg5 harg5 arg6 harg6 arg7 harg7 arg8 harg8 arg12 harg12 x3 x4 x5 x6 x10).bwd 1 (unbox s) 2)) (initB1 c arg3 harg3 arg4 harg4 arg6 harg6 arg7 harg7 arg8 harg8 arg9 harg9 arg10 harg10 arg11 harg11 arg12 harg12 arg19 x1 x2 x4 x5 x6 x7 x8 x9 x10))

theorem rowB1_2 : k0_pay142 (kernelRun0_A.sl.r_31 c arg6 harg6 arg8 harg8 arg12 harg12 x4 x6 x10) (kernelRun0_A.sl.r_34 c arg6 harg6 arg8 harg8 arg12 harg12 x4 x6 x10) (kernelRun0_A.sl.r_54 c arg5 harg5 arg6 harg6 arg8 harg8 arg12 harg12 x3 x4 x6 x10) (kernelRun0_A.sl.r_55 c arg7 harg7 x5) (kernelRun0_A.sl.r_56 c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 1 2 ((rawB c arg5 harg5 arg6 harg6 arg7 harg7 arg8 harg8 arg12 harg12 x3 x4 x5 x6 x10).bwd 1 (unbox (kernelRun0_A.sl.v1297 c arg10 harg10 x8)) 1) :=
  (outB1_2 (rawB c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 1 2 ((rawB c arg5 harg5 arg6 harg6 arg7 harg7 arg8 harg8 arg12 harg12 x3 x4 x5 x6 x10).bwd 1 (unbox s) 1)) (initB1 c arg3 harg3 arg4 harg4 arg6 harg6 arg7 harg7 arg8 harg8 arg9 harg9 arg10 harg10 arg11 harg11 arg12 harg12 arg19 x1 x2 x4 x5 x6 x7 x8 x9 x10))

theorem rowB1_3 : k0_pay140 (kernelRun0_A.sl.r_54 c arg5 harg5 arg6 harg6 arg8 harg8 arg12 harg12 x3 x4 x6 x10) (kernelRun0_A.sl.r_56 c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10) =
    (rawB c arg5 harg5 arg6 harg6 arg7 harg7 arg8 harg8 arg12 harg12 x3 x4 x5 x6 x10).out maskB 1 3 ((rawB c arg5 harg5 arg6 harg6 arg7 harg7 arg8 harg8 arg12 harg12 x3 x4 x5 x6 x10).bwd 1 (unbox (kernelRun0_A.sl.v1297 c arg10 harg10 x8)) 0) :=
  (outB1_3 (rawB c arg5 harg5 arg6 harg6 arg7 harg7 arg8 harg8 arg12 harg12 x3 x4 x5 x6 x10) (kernelRun0_A.sl.v434 c arg3 harg3 arg4 harg4 arg6 harg6 arg7 harg7 arg8 harg8 arg9 harg9 arg10 harg10 arg11 harg11 arg12 harg12 arg19 x1 x2 x4 x5 x6 x7 x8 x9 x10)).trans
    (congrArg (fun s => (rawB c arg5 harg5 arg6 harg6 arg7 harg7 arg8 harg8 arg12 harg12 x3 x4 x5 x6 x10).out maskB 1 3 ((rawB c arg5 harg5 arg6 harg6 arg7 harg7 arg8 harg8 arg12 harg12 x3 x4 x5 x6 x10).bwd 1 (unbox s) 0)) (initB1 c arg3 harg3 arg4 harg4 arg6 harg6 arg7 harg7 arg8 harg8 arg9 harg9 arg10 harg10 arg11 harg11 arg12 harg12 arg19 x1 x2 x4 x5 x6 x7 x8 x9 x10))

theorem rowB0_0 : k0_pay116 (kernelRun0_A.sl.r_29 c arg6 harg6 arg8 harg8 arg12 harg12 x4 x6 x10) (kernelRun0_A.sl.r_30 c arg6 harg6 arg8 harg8 arg12 harg12 x4 x6 x10) (kernelRun0_A.sl.r_31 c arg6 harg6 arg8 harg8 arg12 harg12 x4 x6 x10) (kernelRun0_A.sl.r_34 c arg6 harg6 arg8 harg8 arg12 harg12 x4 x6 x10) (kernelRun0_A.sl.r_41 c arg5 harg5 arg6 harg6 arg8 harg8 arg12 harg12 x3 x4 x6 x10) (kernelRun0_A.sl.r_42 c arg7 harg7 x5) (kernelRun0_A.sl.r_43 c arg5 harg5 arg6 harg6 arg7 harg7 arg8 harg8 arg12 harg12 x3 x4 x5 x6 x10) (kernelRun0_A.sl.r_44 c arg3 harg3 arg4 harg4 arg8 harg8 arg9 harg9 arg10 harg10 arg11 harg11 arg19 x1 x2 x6 x7 x8 x9) =
    (rawB c arg5 harg5 arg6 harg6 arg7 harg7 arg8 harg8 arg12 harg12 x3 x4 x5 x6 x10).out maskB 0 0 ((rawB c arg5 harg5 arg6 harg6 arg7 harg7 arg8 harg8 arg12 harg12 x3 x4 x5 x6 x10).bwd 0 (unbox (kernelRun0_A.sl.v1285 c arg10 harg10 x8)) 3) :=
  (outB0_0 (rawB c arg5 harg5 arg6 harg6 arg7 harg7 arg8 harg8 arg12 harg12 x3 x4 x5 x6 x10) (kernelRun0_A.sl.v304 c arg3 harg3 arg4 harg4 arg8 harg8 arg9 harg9 arg10 harg10 arg11 harg11 arg19 x1 x2 x6 x7 x8 x9)).trans
    (congrArg (fun s => (rawB c arg5 harg5 arg6 harg6 arg7 harg7 arg8 harg8 arg12 harg12 x3 x4 x5 x6 x10).out maskB 0 0 ((rawB c arg5 harg5 arg6 harg6 arg7 harg7 arg8 harg8 arg12 harg12 x3 x4 x5 x6 x10).bwd 0 (unbox s) 3)) (initB0 c arg3 harg3 arg4 harg4 arg8 harg8 arg9 harg9 arg10 harg10 arg11 harg11 arg19 x1 x2 x6 x7 x8 x9))

theorem rowB0_1 : k0_pay114 (kernelRun0_A.sl.r_30 c arg6 harg6 arg8 harg8 arg12 harg12 x4 x6 x10) (kernelRun0_A.sl.r_31 c arg6 harg6 arg8 harg8 arg12 harg12 x4 x6 x10) (kernelRun0_A.sl.r_34 c arg6 harg6 arg8 harg8 arg12 harg12 x4 x6 x10) (kernelRun0_A.sl.r_41 c arg5 harg5 arg6 harg6 arg8 harg8 arg12 harg12 x3 x4 x6 x10) (kernelRun0_A.sl.r_42 c arg7 harg7 x5) (kernelRun0_A.sl.r_43 c arg5 harg5 arg6 harg6 arg7 harg7 arg8 harg8 arg12 harg12 x3 x4 x5 x6 x10) (kernelRun0_A.sl.r_44 c arg3 harg3 arg4 harg4 arg8 harg8 arg9 harg9 arg10 harg10 arg11 harg11 arg19 x1 x2 x6 x7 x8 x9) =
    (rawB c arg5 harg5 arg6 harg6 arg7 harg7 arg8 harg8 arg12 harg12 x3 x4 x5 x6 x10).out maskB 0 1 ((rawB c arg5 harg5 arg6 harg6 arg7 harg7 arg8 harg8 arg12 harg12 x3 x4 x5 x6 x10).bwd 0 (unbox (kernelRun0_A.sl.v1285 c arg10 harg10 x8)) 2) :=
  (outB0_1 (rawB c arg5 harg5 arg6 harg6 arg7 harg7 arg8 harg8 arg12 harg12 x3 x4 x5 x6 x10) (kernelRun0_A.sl.v304 c arg3 harg3 arg4 harg4 arg8 harg8 arg9 harg9 arg10 harg10 arg11 harg11 arg19 x1 x2 x6 x7 x8 x9)).trans
    (congrArg (fun s => (rawB c arg5 harg5 arg6 harg6 arg7 harg7 arg8 harg8 arg12 harg12 x3 x4 x5 x6 x10).out maskB 0 1 ((rawB c arg5 harg5 arg6 harg6 arg7 harg7 arg8 harg8 arg12 harg12 x3 x4 x5 x6 x10).bwd 0 (unbox s) 2)) (initB0 c arg3 harg3 arg4 harg4 arg8 harg8 arg9 harg9 arg10 harg10 arg11 harg11 arg19 x1 x2 x6 x7 x8 x9))

theorem rowB0_2 : k0_pay112 (kernelRun0_A.sl.r_31 c arg6 harg6 arg8 harg8 arg12 harg12 x4 x6 x10) (kernelRun0_A.sl.r_34 c arg6 harg6 arg8 harg8 arg12 harg12 x4 x6 x10) (kernelRun0_A.sl.r_41 c arg5 harg5 arg6 harg6 arg8 harg8 arg12 harg12 x3 x4 x6 x10) (kernelRun0_A.sl.r_42 c arg7 harg7 x5) (kernelRun0_A.sl.r_43 c arg5 harg5 arg6 harg6 arg7 harg7 arg8 harg8 arg12 harg12 x3 x4 x5 x6 x10) (kernelRun0_A.sl.r_44 c arg3 harg3 arg4 harg4 arg8 harg8 arg9 harg9 arg10 harg10 arg11 harg11 arg19 x1 x2 x6 x7 x8 x9) =
    (rawB c arg5 harg5 arg6 harg6 arg7 harg7 arg8 harg8 arg12 harg12 x3 x4 x5 x6 x10).out maskB 0 2 ((rawB c arg5 harg5 arg6 harg6 arg7 harg7 arg8 harg8 arg12 harg12 x3 x4 x5 x6 x10).bwd 0 (unbox (kernelRun0_A.sl.v1285 c arg10 harg10 x8)) 1) :=
  (outB0_2 (rawB c arg5 harg5 arg6 harg6 arg7 harg7 arg8 harg8 arg12 harg12 x3 x4 x5 x6 x10) (kernelRun0_A.sl.v304 c arg3 harg3 arg4 harg4 arg8 harg8 arg9 harg9 arg10 harg10 arg11 harg11 arg19 x1 x2 x6 x7 x8 x9)).trans
    (congrArg (fun s => (rawB c arg5 harg5 arg6 harg6 arg7 harg7 arg8 harg8 arg12 harg12 x3 x4 x5 x6 x10).out maskB 0 2 ((rawB c arg5 harg5 arg6 harg6 arg7 harg7 arg8 harg8 arg12 harg12 x3 x4 x5 x6 x10).bwd 0 (unbox s) 1)) (initB0 c arg3 harg3 arg4 harg4 arg8 harg8 arg9 harg9 arg10 harg10 arg11 harg11 arg19 x1 x2 x6 x7 x8 x9))

theorem rowB0_3 : k0_pay110 (k0_pay38 kernelRun0_A.sl.v18 kernelRun0_A.sl.v19 k0_pay35) (kernelRun0_A.sl.r_24 c arg7 harg7 x5) (kernelRun0_A.sl.r_32 c arg5 harg5 arg6 harg6 arg8 harg8 arg12 harg12 x3 x4 x6 x10) (kernelRun0_A.sl.r_33 c arg6 harg6 arg8 harg8 arg12 harg12 x4 x6 x10) (kernelRun0_A.sl.v304 c arg3 harg3 arg4 harg4 arg8 harg8 arg9 harg9 arg10 harg10 arg11 harg11 arg19 x1 x2 x6 x7 x8 x9) =
    (rawB c arg5 harg5 arg6 harg6 arg7 harg7 arg8 harg8 arg12 harg12 x3 x4 x5 x6 x10).out maskB 0 3 ((rawB c arg5 harg5 arg6 harg6 arg7 harg7 arg8 harg8 arg12 harg12 x3 x4 x5 x6 x10).bwd 0 (unbox (kernelRun0_A.sl.v1285 c arg10 harg10 x8)) 0) :=
  (outB0_3 (rawB c arg5 harg5 arg6 harg6 arg7 harg7 arg8 harg8 arg12 harg12 x3 x4 x5 x6 x10) (kernelRun0_A.sl.v304 c arg3 harg3 arg4 harg4 arg8 harg8 arg9 harg9 arg10 harg10 arg11 harg11 arg19 x1 x2 x6 x7 x8 x9)).trans
    (congrArg (fun s => (rawB c arg5 harg5 arg6 harg6 arg7 harg7 arg8 harg8 arg12 harg12 x3 x4 x5 x6 x10).out maskB 0 3 ((rawB c arg5 harg5 arg6 harg6 arg7 harg7 arg8 harg8 arg12 harg12 x3 x4 x5 x6 x10).bwd 0 (unbox s) 0)) (initB0 c arg3 harg3 arg4 harg4 arg8 harg8 arg9 harg9 arg10 harg10 arg11 harg11 arg19 x1 x2 x6 x7 x8 x9))

theorem endF0 : kernelRun0_A.sl.v1274 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 0 (unbox (kernelRun0_A.sl.v1279 c arg9 harg9 x7)) 4) := by
  unfold kernelRun0_A.sl.v1274
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF0 c arg2 harg2 arg3 harg3 arg4 harg4 arg8 harg8 arg9 harg9 arg10 harg10 arg11 harg11 arg19 x0 x1 x2 x6 x7 x8 x9))))))))))))))))

theorem endF1 : kernelRun0_A.sl.v1286 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 1 (unbox (kernelRun0_A.sl.v1291 c arg9 harg9 x7)) 4) := by
  unfold kernelRun0_A.sl.v1286
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF1 c arg2 harg2 arg3 harg3 arg4 harg4 arg6 harg6 arg7 harg7 arg8 harg8 arg9 harg9 arg10 harg10 arg11 harg11 arg12 harg12 arg19 x0 x1 x2 x4 x5 x6 x7 x8 x9 x10))))))))))))))

theorem endF2 : kernelRun0_A.sl.v1298 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 2 (unbox (kernelRun0_A.sl.v1303 c arg9 harg9 x7)) 4) := by
  unfold kernelRun0_A.sl.v1298
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF2 c arg2 harg2 arg3 harg3 arg4 harg4 arg6 harg6 arg7 harg7 arg8 harg8 arg9 harg9 arg10 harg10 arg11 harg11 arg12 harg12 arg19 x0 x1 x2 x4 x5 x6 x7 x8 x9 x10))))))))))))

theorem endF3 : kernelRun0_A.sl.v1310 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 3 (unbox (kernelRun0_A.sl.v1315 c arg9 harg9 x7)) 4) := by
  unfold kernelRun0_A.sl.v1310
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF3 c arg2 harg2 arg3 harg3 arg4 harg4 arg6 harg6 arg7 harg7 arg8 harg8 arg9 harg9 arg10 harg10 arg11 harg11 arg12 harg12 arg19 x0 x1 x2 x4 x5 x6 x7 x8 x9 x10))))))))))

theorem endF4 : kernelRun0_A.sl.v1322 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 4 (unbox (kernelRun0_A.sl.v1327 c arg9 harg9 x7)) 4) := by
  unfold kernelRun0_A.sl.v1322
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF4 c arg2 harg2 arg3 harg3 arg4 harg4 arg6 harg6 arg7 harg7 arg8 harg8 arg9 harg9 arg10 harg10 arg11 harg11 arg12 harg12 arg19 x0 x1 x2 x4 x5 x6 x7 x8 x9 x10))))))))

theorem endF5 : kernelRun0_A.sl.v1334 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 5 (unbox (kernelRun0_A.sl.v1339 c arg9 harg9 x7)) 4) := by
  unfold kernelRun0_A.sl.v1334
  unfold kernelRun0_A.sl.HS0_32 kernelRun0_A.sl.HS0_31 kernelRun0_A.sl.HS0_30 kernelRun0_A.sl.HS0_29 kernelRun0_A.sl.HS0_28 kernelRun0_A.sl.HS0_27
  refine (readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalF5 c arg2 harg2 arg3 harg3 arg4 harg4 arg6 harg6 arg7 harg7 arg8 harg8 arg9 harg9 arg10 harg10 arg11 harg11 arg12 harg12 arg19 x0 x1 x2 x4 x5 x6 x7 x8 x9 x10))))))

theorem endF6 : kernelRun0_A.sl.v1346 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 6 (unbox (kernelRun0_A.sl.v1351 c arg9 harg9 x7)) 4) := by
  unfold kernelRun0_A.sl.v1346
  unfold kernelRun0_A.sl.HS0_32 kernelRun0_A.sl.HS0_31 kernelRun0_A.sl.HS0_30 kernelRun0_A.sl.HS0_29
  refine (readCov_miss _ _ _ _ _ 0 (by decide)).trans ((readCov_miss _ _ _ _ _ 1 (by decide)).trans ((readCov_miss _ _ _ _ _ 0 (by decide)).trans ((readCov_hit _ _ _ _ _).trans (finalF6 c arg2 harg2 arg3 harg3 arg4 harg4 arg6 harg6 arg7 harg7 arg8 harg8 arg9 harg9 arg10 harg10 arg11 harg11 arg12 harg12 arg19 x0 x1 x2 x4 x5 x6 x7 x8 x9 x10))))

theorem endF7 : kernelRun0_A.sl.v1358 c arg3 harg3 arg4 harg4 arg6 harg6 arg7 harg7 arg8 harg8 arg9 harg9 arg10 harg10 arg11 harg11 arg12 harg12 arg19 x1 x2 x4 x5 x6 x7 x8 x9 x10 =
    box ((rawF c arg2 harg2 arg3 harg3 arg4 harg4 arg8 harg8 arg11 harg11 x0 x1 x2 x6 x9).fwd 7 (unbox (kernelRun0_A.sl.v1363 c arg9 harg9 x7)) 4) := by
  unfold kernelRun0_A.sl.v1358
  unfold kernelRun0_A.sl.HS0_32 kernelRun0_A.sl.HS0_31
  refine (readCov_miss _ _ _ _ _ 0 (by decide)).trans ((readCov_hit _ _ _ _ _).trans (finalF7 c arg2 harg2 arg3 harg3 arg4 harg4 arg6 harg6 arg7 harg7 arg8 harg8 arg9 harg9 arg10 harg10 arg11 harg11 arg12 harg12 arg19 x0 x1 x2 x4 x5 x6 x7 x8 x9 x10))

theorem endB0 : kernelRun0_A.sl.v1280 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 0 (unbox (kernelRun0_A.sl.v1285 c arg10 harg10 x8)) 4) := by
  unfold kernelRun0_A.sl.v1280
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB0 c arg3 harg3 arg4 harg4 arg5 harg5 arg6 harg6 arg7 harg7 arg8 harg8 arg9 harg9 arg10 harg10 arg11 harg11 arg12 harg12 arg19 x1 x2 x3 x4 x5 x6 x7 x8 x9 x10)))))))))))))))

theorem endB1 : kernelRun0_A.sl.v1292 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 1 (unbox (kernelRun0_A.sl.v1297 c arg10 harg10 x8)) 4) := by
  unfold kernelRun0_A.sl.v1292
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22 kernelRun0_A.sl.HS0_21 kernelRun0_A.sl.HS0_20
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB1 c arg3 harg3 arg4 harg4 arg5 harg5 arg6 harg6 arg7 harg7 arg8 harg8 arg9 harg9 arg10 harg10 arg11 harg11 arg12 harg12 arg19 x1 x2 x3 x4 x5 x6 x7 x8 x9 x10)))))))))))))

theorem endB2 : kernelRun0_A.sl.v1304 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 2 (unbox (kernelRun0_A.sl.v1309 c arg10 harg10 x8)) 4) := by
  unfold kernelRun0_A.sl.v1304
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.HS0_22
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB2 c arg3 harg3 arg4 harg4 arg5 harg5 arg6 harg6 arg7 harg7 arg8 harg8 arg9 harg9 arg10 harg10 arg11 harg11 arg12 harg12 arg19 x1 x2 x3 x4 x5 x6 x7 x8 x9 x10)))))))))))

theorem endB3 : kernelRun0_A.sl.v1316 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 3 (unbox (kernelRun0_A.sl.v1321 c arg10 harg10 x8)) 4) := by
  unfold kernelRun0_A.sl.v1316
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB3 c arg3 harg3 arg4 harg4 arg5 harg5 arg6 harg6 arg7 harg7 arg8 harg8 arg9 harg9 arg10 harg10 arg11 harg11 arg12 harg12 arg19 x1 x2 x3 x4 x5 x6 x7 x8 x9 x10)))))))))

theorem endB4 : kernelRun0_A.sl.v1328 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 4 (unbox (kernelRun0_A.sl.v1333 c arg10 harg10 x8)) 4) := by
  unfold kernelRun0_A.sl.v1328
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB4 c arg3 harg3 arg4 harg4 arg5 harg5 arg6 harg6 arg7 harg7 arg8 harg8 arg9 harg9 arg10 harg10 arg11 harg11 arg12 harg12 arg19 x1 x2 x3 x4 x5 x6 x7 x8 x9 x10)))))))

theorem endB5 : kernelRun0_A.sl.v1340 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 5 (unbox (kernelRun0_A.sl.v1345 c arg10 harg10 x8)) 4) := by
  unfold kernelRun0_A.sl.v1340
  unfold kernelRun0_A.sl.HS0_32 kernelRun0_A.sl.HS0_31 kernelRun0_A.sl.HS0_30 kernelRun0_A.sl.HS0_29 kernelRun0_A.sl.HS0_28
  refine (readCov_miss _ _ _ _ _ 1 (by decide)).trans ((readCov_miss _ _ _ _ _ 0 (by decide)).trans ((readCov_miss _ _ _ _ _ 1 (by decide)).trans ((readCov_miss _ _ _ _ _ 0 (by decide)).trans ((readCov_hit _ _ _ _ _).trans (finalB5 c arg3 harg3 arg4 harg4 arg5 harg5 arg6 harg6 arg7 harg7 arg8 harg8 arg9 harg9 arg10 harg10 arg11 harg11 arg12 harg12 arg19 x1 x2 x3 x4 x5 x6 x7 x8 x9 x10)))))

theorem endB6 : kernelRun0_A.sl.v1352 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 6 (unbox (kernelRun0_A.sl.v1357 c arg10 harg10 x8)) 4) := by
  unfold kernelRun0_A.sl.v1352
  unfold kernelRun0_A.sl.HS0_32 kernelRun0_A.sl.HS0_31 kernelRun0_A.sl.HS0_30
  refine (readCov_miss _ _ _ _ _ 1 (by decide)).trans ((readCov_miss _ _ _ _ _ 0 (by decide)).trans ((readCov_hit _ _ _ _ _).trans (finalB6 c arg3 harg3 arg4 harg4 arg5 harg5 arg6 harg6 arg7 harg7 arg8 harg8 arg9 harg9 arg10 harg10 arg11 harg11 arg12 harg12 arg19 x1 x2 x3 x4 x5 x6 x7 x8 x9 x10)))

theorem endB7 : kernelRun0_A.sl.v1364 c arg3 harg3 arg4 harg4 arg6 harg6 arg7 harg7 arg8 harg8 arg9 harg9 arg10 harg10 arg11 harg11 arg12 harg12 arg19 x1 x2 x4 x5 x6 x7 x8 x9 x10 =
    box ((rawB c arg5 harg5 arg6 harg6 arg7 harg7 arg8 harg8 arg12 harg12 x3 x4 x5 x6 x10).bwd 7 (unbox (kernelRun0_A.sl.v1369 c arg10 harg10 x8)) 4) := by
  unfold kernelRun0_A.sl.v1364
  unfold kernelRun0_A.sl.HS0_32
  refine (readCov_hit _ _ _ _ _).trans (finalB7 c arg3 harg3 arg4 harg4 arg5 harg5 arg6 harg6 arg7 harg7 arg8 harg8 arg9 harg9 arg10 harg10 arg11 harg11 arg12 harg12 arg19 x1 x2 x3 x4 x5 x6 x7 x8 x9 x10)

end Cert.KernelIdeal.Hgrn

end
-- ==== Proof.HgrnBlock.lean ====
module

public import proofs.«01_k».proof.Proof.HgrnRun

/-! The four output blocks of one run of the body as functions of the block's index. -/

@[expose] public section

set_option maxRecDepth 16384

noncomputable section

namespace Cert.KernelIdeal.Hgrn

open Cert.KernelIdeal Cert.KernelIdeal.Gen Idealize.ShloMosaic Idealize.ShloMosaic.TcCoe Idealize.SL.Sem

variable {F : FTy → Type} [FloatOps F]

theorem headLt (n : Fin 1024) : n.val / 128 < 8 := by omega
theorem laneLt (n : Fin 1024) : n.val % 128 < 128 := by omega
theorem chunkLt (n : Fin 256) : n.val / 64 < 4 := by omega
theorem rowLt (n : Fin 256) : n.val % 64 < 64 := by omega

def headOf (n : Fin 1024) : Fin 8 := ⟨n.val / 128, headLt n⟩
def laneOf (n : Fin 1024) : Fin 128 := ⟨n.val % 128, laneLt n⟩
def chunkOf (n : Fin 256) : Fin 4 := ⟨n.val / 64, chunkLt n⟩
def rowOf (n : Fin 256) : Fin 64 := ⟨n.val % 64, rowLt n⟩

/-- The state before chunk `c` of a head, in the direction from the start. -/
def atF (I : Staged F) (s : Fin 8 → FVec F S128x128 .f32) (h : Fin 8) (c : Fin 4) : FVec F S128x128 .f32 := I.fwd h (s h) c.castSucc
/-- The state before chunk `c` of a head, in the direction from the end. -/
def atB (I : Staged F) (s : Fin 8 → FVec F S128x128 .f32) (h : Fin 8) (c : Fin 4) : FVec F S128x128 .f32 := I.bwd h (s h) c.rev.castSucc

/-- A block of output rows. -/
def rows (I : Staged F) (mask : IVec S256x256 1) (st : Fin 8 → Fin 4 → FVec F S128x128 .f32) : Vec F S256x1024 .f32 :=
  fun y => I.out mask (headOf (y 1)) (chunkOf (y 0)) (st (headOf (y 1)) (chunkOf (y 0))) (ix2 (rowOf (y 0)) (laneOf (y 1)))

/-- A block of states, turned back. -/
def states (s : Fin 8 → FVec F S128x128 .f32) : Vec F S1x8x128x128 .f32 :=
  fun y => turn (box (s (y 1))) (ix4 0 0 (y 2) (y 3))

theorem rows_piece (I : Staged F) (mask : IVec S256x256 1) (st : Fin 8 → Fin 4 → FVec F S128x128 .f32) (h : Fin 8) (c : Fin 4)
    (off : Fin 2 → Nat) (hoff : off = ![64 * c.val, 128 * h.val])
    (inb : ∀ a, off a + S64x128.size a ≤ S256x1024.size a) (p : FVec F S64x128 .f32)
    (hp : p = I.out mask h c (st h c)) (x : S64x128.Idx) :
    p x = rows I mask st ((Rect.unit (s := S256x1024) off S64x128.size inb).emb x) := by
  subst hoff hp
  have e0 : (((Rect.unit (s := S256x1024) ![64 * c.val, 128 * h.val] S64x128.size inb).emb x) 0).val = 64 * c.val + 1 * (x 0).val := rfl
  have e1 : (((Rect.unit (s := S256x1024) ![64 * c.val, 128 * h.val] S64x128.size inb).emb x) 1).val = 128 * h.val + 1 * (x 1).val := rfl
  have b0 : (x 0).val < 64 := (x 0).isLt
  have b1 : (x 1).val < 128 := (x 1).isLt
  have hh : headOf (((Rect.unit (s := S256x1024) ![64 * c.val, 128 * h.val] S64x128.size inb).emb x) 1) = h :=
    Fin.ext (by show _ / 128 = _; rw [e1]; omega)
  have hc : chunkOf (((Rect.unit (s := S256x1024) ![64 * c.val, 128 * h.val] S64x128.size inb).emb x) 0) = c :=
    Fin.ext (by show _ / 64 = _; rw [e0]; omega)
  have hr : rowOf (((Rect.unit (s := S256x1024) ![64 * c.val, 128 * h.val] S64x128.size inb).emb x) 0) = x 0 :=
    Fin.ext (by show _ % 64 = _; rw [e0]; omega)
  have hl : laneOf (((Rect.unit (s := S256x1024) ![64 * c.val, 128 * h.val] S64x128.size inb).emb x) 1) = x 1 :=
    Fin.ext (by show _ % 128 = _; rw [e1]; omega)
  unfold rows
  rw [hh, hc, hr, hl, ← eq_ix2]

theorem states_piece (s : Fin 8 → FVec F S128x128 .f32) (h : Fin 8)
    (off : Fin 4 → Nat) (hoff : off = ![0, h.val, 0, 0])
    (inb : ∀ a, off a + S1x1x128x128.size a ≤ S1x8x128x128.size a) (p : Vec F S1x1x128x128 .f32)
    (hp : p = turn (box (s h))) (x : S1x1x128x128.Idx) :
    p x = states s ((Rect.unit (s := S1x8x128x128) off S1x1x128x128.size inb).emb x) := by
  subst hoff hp
  have e1 : (((Rect.unit (s := S1x8x128x128) ![0, h.val, 0, 0] S1x1x128x128.size inb).emb x) 1).val = h.val + 1 * (x 1).val := rfl
  have e2 : (((Rect.unit (s := S1x8x128x128) ![0, h.val, 0, 0] S1x1x128x128.size inb).emb x) 2).val = 0 + 1 * (x 2).val := rfl
  have e3 : (((Rect.unit (s := S1x8x128x128) ![0, h.val, 0, 0] S1x1x128x128.size inb).emb x) 3).val = 0 + 1 * (x 3).val := rfl
  have b0 : (x 0).val < 1 := (x 0).isLt
  have b1 : (x 1).val < 1 := (x 1).isLt
  have h1 : ((Rect.unit (s := S1x8x128x128) ![0, h.val, 0, 0] S1x1x128x128.size inb).emb x) 1 = h := Fin.ext (by rw [e1]; omega)
  have h2 : ((Rect.unit (s := S1x8x128x128) ![0, h.val, 0, 0] S1x1x128x128.size inb).emb x) 2 = x 2 := Fin.ext (by rw [e2]; omega)
  have h3 : ((Rect.unit (s := S1x8x128x128) ![0, h.val, 0, 0] S1x1x128x128.size inb).emb x) 3 = x 3 := Fin.ext (by rw [e3]; omega)
  unfold states
  rw [h1, h2, h3]
  refine congrArg _ ?_
  rw [eq_ix4 x]
  refine (ix4_inj _ _ _ _ _ _ _ _).mpr ⟨Fin.ext ?_, Fin.ext ?_, rfl, rfl⟩
  · show (x 0).val = 0; omega
  · show (x 1).val = 0; omega

theorem startOk (h : Fin 8) : ∀ a, (![0, h.val, 0, 0] : Fin 4 → Nat) a + S1x1x128x128.size a ≤ S1x8x128x128.size a := by
  revert h; decide

/-- A head's first state, rows and columns swapped. -/
def start (a : Memref sig .tc .vmem S1x8x128x128 .f32) (ha : a.IsWhole) (x : Vec F S1x8x128x128 .f32) (h : Fin 8) : FVec F S128x128 .f32 :=
  unbox (turn (View.readAt (Elt F) a.view (Rect.unit (s := S1x8x128x128) ![0, h.val, 0, 0] S1x1x128x128.size (startOk h)).toLoadRect (ha.unread x)))

variable (c : Dev nD) (i : grid0.Coords)
variable (arg2 : Memref sig .tc .vmem S256x1024 .f32) (harg2 : arg2.IsWhole)
variable (arg3 : Memref sig .tc .vmem S256x1024 .f32) (harg3 : arg3.IsWhole)
variable (arg4 : Memref sig .tc .vmem S256x1024 .f32) (harg4 : arg4.IsWhole)
variable (arg5 : Memref sig .tc .vmem S256x1024 .f32) (harg5 : arg5.IsWhole)
variable (arg6 : Memref sig .tc .vmem S256x1024 .f32) (harg6 : arg6.IsWhole)
variable (arg7 : Memref sig .tc .vmem S256x1024 .f32) (harg7 : arg7.IsWhole)
variable (arg8 : Memref sig .tc .vmem S2x1024 .f32) (harg8 : arg8.IsWhole)
variable (arg9 : Memref sig .tc .vmem S1x8x128x128 .f32) (harg9 : arg9.IsWhole)
variable (arg10 : Memref sig .tc .vmem S1x8x128x128 .f32) (harg10 : arg10.IsWhole)
variable (arg11 : Memref sig .tc .vmem S64x128 .bf16) (harg11 : arg11.IsWhole)
variable (arg12 : Memref sig .tc .vmem S64x128 .bf16) (harg12 : arg12.IsWhole)
variable (arg15 : Memref sig .tc .vmem S256x1024 .f32) (harg15 : arg15.IsWhole)
variable (arg16 : Memref sig .tc .vmem S256x1024 .f32) (harg16 : arg16.IsWhole)
variable (arg17 : Memref sig .tc .vmem S1x8x128x128 .f32) (harg17 : arg17.IsWhole)
variable (arg18 : Memref sig .tc .vmem S1x8x128x128 .f32) (harg18 : arg18.IsWhole)
variable (arg19 : Memref sig .tc .vmem S2x8x128x128 .f32) (harg19 : arg19.IsWhole)
variable (hc0 : cond0_0 i) (hc1 : cond0_1 i)
variable (x0 : Vec F S256x1024 .f32)
variable (x1 : Vec F S256x1024 .f32)
variable (x2 : Vec F S256x1024 .f32)
variable (x3 : Vec F S256x1024 .f32)
variable (x4 : Vec F S256x1024 .f32)
variable (x5 : Vec F S256x1024 .f32)
variable (x6 : Vec F S2x1024 .f32)
variable (x7 : Vec F S1x8x128x128 .f32)
variable (x8 : Vec F S1x8x128x128 .f32)
variable (x9 : Vec F S64x128 .bf16)
variable (x10 : Vec F S64x128 .bf16)

abbrev theRun := kernelRun0_A c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10

theorem canon11 : View.canon (theRun c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10).1 = rows (rawF c arg2 harg2 arg3 harg3 arg4 harg4 arg8 harg8 arg11 harg11 x0 x1 x2 x6 x9) maskF (atF (rawF c arg2 harg2 arg3 harg3 arg4 harg4 arg8 harg8 arg11 harg11 x0 x1 x2 x6 x9) (start arg9 harg9 x7)) := by
  funext y
  refine View.canon_apply_of_pieces _ _ ?_ y (cover0_A_11 c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10 y)
  unfold theRun kernelRun0_A
  dsimp only
  repeat' (first | refine List.forall_mem_cons.mpr ⟨?_, ?_⟩)
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 7 3 _ rfl inb_S256x1024_S64x128_192_896 _ (rowF7_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 7 2 _ rfl inb_S256x1024_S64x128_128_896 _ (rowF7_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 7 1 _ rfl inb_S256x1024_S64x128_64_896 _ (rowF7_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 7 0 _ rfl inb_S256x1024_S64x128_0_896 _ (rowF7_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 6 3 _ rfl inb_S256x1024_S64x128_192_768 _ (rowF6_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 6 2 _ rfl inb_S256x1024_S64x128_128_768 _ (rowF6_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 6 1 _ rfl inb_S256x1024_S64x128_64_768 _ (rowF6_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 6 0 _ rfl inb_S256x1024_S64x128_0_768 _ (rowF6_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 5 3 _ rfl inb_S256x1024_S64x128_192_640 _ (rowF5_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 5 2 _ rfl inb_S256x1024_S64x128_128_640 _ (rowF5_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 5 1 _ rfl inb_S256x1024_S64x128_64_640 _ (rowF5_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 5 0 _ rfl inb_S256x1024_S64x128_0_640 _ (rowF5_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 4 3 _ rfl inb_S256x1024_S64x128_192_512 _ (rowF4_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 4 2 _ rfl inb_S256x1024_S64x128_128_512 _ (rowF4_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 4 1 _ rfl inb_S256x1024_S64x128_64_512 _ (rowF4_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 4 0 _ rfl inb_S256x1024_S64x128_0_512 _ (rowF4_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 3 3 _ rfl inb_S256x1024_S64x128_192_384 _ (rowF3_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 3 2 _ rfl inb_S256x1024_S64x128_128_384 _ (rowF3_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 3 1 _ rfl inb_S256x1024_S64x128_64_384 _ (rowF3_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 3 0 _ rfl inb_S256x1024_S64x128_0_384 _ (rowF3_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 2 3 _ rfl inb_S256x1024_S64x128_192_256 _ (rowF2_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 2 2 _ rfl inb_S256x1024_S64x128_128_256 _ (rowF2_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 2 1 _ rfl inb_S256x1024_S64x128_64_256 _ (rowF2_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 2 0 _ rfl inb_S256x1024_S64x128_0_256 _ (rowF2_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 1 3 _ rfl inb_S256x1024_S64x128_192_128 _ (rowF1_3 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 1 2 _ rfl inb_S256x1024_S64x128_128_128 _ (rowF1_2 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 1 1 _ rfl inb_S256x1024_S64x128_64_128 _ (rowF1_1 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 1 0 _ rfl inb_S256x1024_S64x128_0_128 _ (rowF1_0 c arg2 harg2 arg3 harg3 arg4 harg4 arg6 harg6 arg7 harg7 arg8 harg8 arg9 harg9 arg10 harg10 arg11 harg11 arg12 harg12 arg19 x0 x1 x2 x4 x5 x6 x7 x8 x9 x10) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 0 3 _ rfl inb_S256x1024_S64x128_192_0 _ (rowF0_3 c arg2 harg2 arg3 harg3 arg4 harg4 arg8 harg8 arg9 harg9 arg10 harg10 arg11 harg11 arg19 x0 x1 x2 x6 x7 x8 x9) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 0 2 _ rfl inb_S256x1024_S64x128_128_0 _ (rowF0_2 c arg2 harg2 arg3 harg3 arg4 harg4 arg8 harg8 arg9 harg9 arg10 harg10 arg11 harg11 arg19 x0 x1 x2 x6 x7 x8 x9) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 0 1 _ rfl inb_S256x1024_S64x128_64_0 _ (rowF0_1 c arg2 harg2 arg3 harg3 arg4 harg4 arg8 harg8 arg9 harg9 arg10 harg10 arg11 harg11 arg19 x0 x1 x2 x6 x7 x8 x9) x
  · intro x; exact rows_piece (rawF c arg2 harg2 arg3 harg3 arg4 harg4 arg8 harg8 arg11 harg11 x0 x1 x2 x6 x9) _ (atF (rawF c arg2 harg2 arg3 harg3 arg4 harg4 arg8 harg8 arg11 harg11 x0 x1 x2 x6 x9) (start arg9 harg9 x7)) 0 0 _ rfl inb_S256x1024_S64x128_0_0 _ (rowF0_0 c arg2 harg2 arg3 harg3 arg4 harg4 arg8 harg8 arg9 harg9 arg10 harg10 arg11 harg11 arg19 x0 x1 x2 x6 x7 x8 x9) x
  · intro p hp; cases hp

theorem canon12 : View.canon (theRun c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10).2.1 = rows (rawB c arg5 harg5 arg6 harg6 arg7 harg7 arg8 harg8 arg12 harg12 x3 x4 x5 x6 x10) maskB (atB (rawB c arg5 harg5 arg6 harg6 arg7 harg7 arg8 harg8 arg12 harg12 x3 x4 x5 x6 x10) (start arg10 harg10 x8)) := by
  funext y
  refine View.canon_apply_of_pieces _ _ ?_ y (cover0_A_12 c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10 y)
  unfold theRun kernelRun0_A
  dsimp only
  repeat' (first | refine List.forall_mem_cons.mpr ⟨?_, ?_⟩)
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 7 0 _ rfl inb_S256x1024_S64x128_0_896 _ (rowB7_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 7 1 _ rfl inb_S256x1024_S64x128_64_896 _ (rowB7_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 7 2 _ rfl inb_S256x1024_S64x128_128_896 _ (rowB7_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 7 3 _ rfl inb_S256x1024_S64x128_192_896 _ (rowB7_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 6 0 _ rfl inb_S256x1024_S64x128_0_768 _ (rowB6_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 6 1 _ rfl inb_S256x1024_S64x128_64_768 _ (rowB6_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 6 2 _ rfl inb_S256x1024_S64x128_128_768 _ (rowB6_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 6 3 _ rfl inb_S256x1024_S64x128_192_768 _ (rowB6_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 5 0 _ rfl inb_S256x1024_S64x128_0_640 _ (rowB5_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 5 1 _ rfl inb_S256x1024_S64x128_64_640 _ (rowB5_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 5 2 _ rfl inb_S256x1024_S64x128_128_640 _ (rowB5_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 5 3 _ rfl inb_S256x1024_S64x128_192_640 _ (rowB5_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 4 0 _ rfl inb_S256x1024_S64x128_0_512 _ (rowB4_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 4 1 _ rfl inb_S256x1024_S64x128_64_512 _ (rowB4_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 4 2 _ rfl inb_S256x1024_S64x128_128_512 _ (rowB4_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 4 3 _ rfl inb_S256x1024_S64x128_192_512 _ (rowB4_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 3 0 _ rfl inb_S256x1024_S64x128_0_384 _ (rowB3_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 3 1 _ rfl inb_S256x1024_S64x128_64_384 _ (rowB3_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 3 2 _ rfl inb_S256x1024_S64x128_128_384 _ (rowB3_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 3 3 _ rfl inb_S256x1024_S64x128_192_384 _ (rowB3_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 2 0 _ rfl inb_S256x1024_S64x128_0_256 _ (rowB2_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 2 1 _ rfl inb_S256x1024_S64x128_64_256 _ (rowB2_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 2 2 _ rfl inb_S256x1024_S64x128_128_256 _ (rowB2_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 2 3 _ rfl inb_S256x1024_S64x128_192_256 _ (rowB2_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 1 0 _ rfl inb_S256x1024_S64x128_0_128 _ (rowB1_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 1 1 _ rfl inb_S256x1024_S64x128_64_128 _ (rowB1_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 1 2 _ rfl inb_S256x1024_S64x128_128_128 _ (rowB1_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 1 3 _ rfl inb_S256x1024_S64x128_192_128 _ (rowB1_3 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 0 0 _ rfl inb_S256x1024_S64x128_0_0 _ (rowB0_0 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 0 1 _ rfl inb_S256x1024_S64x128_64_0 _ (rowB0_1 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 0 2 _ rfl inb_S256x1024_S64x128_128_0 _ (rowB0_2 c arg3 harg3 arg4 harg4 arg5 harg5 arg6 harg6 arg7 harg7 arg8 harg8 arg9 harg9 arg10 harg10 arg11 harg11 arg12 harg12 arg19 x1 x2 x3 x4 x5 x6 x7 x8 x9 x10) x
  · intro x; exact rows_piece (rawB c arg5 harg5 arg6 harg6 arg7 harg7 arg8 harg8 arg12 harg12 x3 x4 x5 x6 x10) _ (atB (rawB c arg5 harg5 arg6 harg6 arg7 harg7 arg8 harg8 arg12 harg12 x3 x4 x5 x6 x10) (start arg10 harg10 x8)) 0 3 _ rfl inb_S256x1024_S64x128_192_0 _ (rowB0_3 c arg3 harg3 arg4 harg4 arg5 harg5 arg6 harg6 arg7 harg7 arg8 harg8 arg9 harg9 arg10 harg10 arg11 harg11 arg12 harg12 arg19 x1 x2 x3 x4 x5 x6 x7 x8 x9 x10) x
  · intro p hp; cases hp

theorem canon13 : View.canon (theRun c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10).2.2.1 = states (fun h => (rawF c arg2 harg2 arg3 harg3 arg4 harg4 arg8 harg8 arg11 harg11 x0 x1 x2 x6 x9).fwd h ((start arg9 harg9 x7) h) 4) := by
  funext y
  refine View.canon_apply_of_pieces _ _ ?_ y (cover0_A_13 c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10 y)
  unfold theRun kernelRun0_A
  dsimp only
  repeat' (first | refine List.forall_mem_cons.mpr ⟨?_, ?_⟩)
  · intro x; exact states_piece (fun h => (rawF c arg2 harg2 arg3 harg3 arg4 harg4 arg8 harg8 arg11 harg11 x0 x1 x2 x6 x9).fwd h ((start arg9 harg9 x7) h) 4) 7 _ rfl inb_S1x8x128x128_S1x1x128x128_0_7_0_0 _ (congrArg turn (endF7 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 6 _ rfl inb_S1x8x128x128_S1x1x128x128_0_6_0_0 _ (congrArg turn (endF6 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 5 _ rfl inb_S1x8x128x128_S1x1x128x128_0_5_0_0 _ (congrArg turn (endF5 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 4 _ rfl inb_S1x8x128x128_S1x1x128x128_0_4_0_0 _ (congrArg turn (endF4 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 3 _ rfl inb_S1x8x128x128_S1x1x128x128_0_3_0_0 _ (congrArg turn (endF3 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 2 _ rfl inb_S1x8x128x128_S1x1x128x128_0_2_0_0 _ (congrArg turn (endF2 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 1 _ rfl inb_S1x8x128x128_S1x1x128x128_0_1_0_0 _ (congrArg turn (endF1 c arg2 harg2 arg3 harg3 arg4 harg4 arg6 harg6 arg7 harg7 arg8 harg8 arg9 harg9 arg10 harg10 arg11 harg11 arg12 harg12 arg19 x0 x1 x2 x4 x5 x6 x7 x8 x9 x10)) x
  · intro x; exact states_piece (fun h => (rawF c arg2 harg2 arg3 harg3 arg4 harg4 arg8 harg8 arg11 harg11 x0 x1 x2 x6 x9).fwd h ((start arg9 harg9 x7) h) 4) 0 _ rfl inb_S1x8x128x128_S1x1x128x128_0_0_0_0 _ (congrArg turn (endF0 c arg2 harg2 arg3 harg3 arg4 harg4 arg6 harg6 arg7 harg7 arg8 harg8 arg9 harg9 arg10 harg10 arg11 harg11 arg12 harg12 arg19 x0 x1 x2 x4 x5 x6 x7 x8 x9 x10)) x
  · intro p hp; cases hp

theorem canon14 : View.canon (theRun c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10).2.2.2.1 = states (fun h => (rawB c arg5 harg5 arg6 harg6 arg7 harg7 arg8 harg8 arg12 harg12 x3 x4 x5 x6 x10).bwd h ((start arg10 harg10 x8) h) 4) := by
  funext y
  refine View.canon_apply_of_pieces _ _ ?_ y (cover0_A_14 c i arg2 harg2 arg3 harg3 arg4 harg4 arg5 harg5 arg6 harg6 arg7 harg7 arg8 harg8 arg9 harg9 arg10 harg10 arg11 harg11 arg12 harg12 arg15 harg15 arg16 harg16 arg17 harg17 arg18 harg18 arg19 harg19 hc0 hc1 x0 x1 x2 x3 x4 x5 x6 x7 x8 x9 x10 y)
  unfold theRun kernelRun0_A
  dsimp only
  repeat' (first | refine List.forall_mem_cons.mpr ⟨?_, ?_⟩)
  · intro x; exact states_piece (fun h => (rawB c arg5 harg5 arg6 harg6 arg7 harg7 arg8 harg8 arg12 harg12 x3 x4 x5 x6 x10).bwd h ((start arg10 harg10 x8) h) 4) 7 _ rfl inb_S1x8x128x128_S1x1x128x128_0_7_0_0 _ (congrArg turn (endB7 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 6 _ rfl inb_S1x8x128x128_S1x1x128x128_0_6_0_0 _ (congrArg turn (endB6 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 5 _ rfl inb_S1x8x128x128_S1x1x128x128_0_5_0_0 _ (congrArg turn (endB5 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 4 _ rfl inb_S1x8x128x128_S1x1x128x128_0_4_0_0 _ (congrArg turn (endB4 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 3 _ rfl inb_S1x8x128x128_S1x1x128x128_0_3_0_0 _ (congrArg turn (endB3 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 2 _ rfl inb_S1x8x128x128_S1x1x128x128_0_2_0_0 _ (congrArg turn (endB2 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 1 _ rfl inb_S1x8x128x128_S1x1x128x128_0_1_0_0 _ (congrArg turn (endB1 c arg3 harg3 arg4 harg4 arg5 harg5 arg6 harg6 arg7 harg7 arg8 harg8 arg9 harg9 arg10 harg10 arg11 harg11 arg12 harg12 arg19 x1 x2 x3 x4 x5 x6 x7 x8 x9 x10)) x
  · intro x; exact states_piece (fun h => (rawB c arg5 harg5 arg6 harg6 arg7 harg7 arg8 harg8 arg12 harg12 x3 x4 x5 x6 x10).bwd h ((start arg10 harg10 x8) h) 4) 0 _ rfl inb_S1x8x128x128_S1x1x128x128_0_0_0_0 _ (congrArg turn (endB0 c arg3 harg3 arg4 harg4 arg5 harg5 arg6 harg6 arg7 harg7 arg8 harg8 arg9 harg9 arg10 harg10 arg11 harg11 arg12 harg12 arg19 x1 x2 x3 x4 x5 x6 x7 x8 x9 x10)) x
  · intro p hp; cases hp

end Cert.KernelIdeal.Hgrn

end
-- ==== Proof.HgrnSpec.lean ====
module

public import Idealize.ShloMosaic.Lib.Pointwise

/-! The gated linear scan of one head of one sequence, over the extended reals: 256 rows as four chunks of 64. -/

@[expose] public section

noncomputable section

namespace Cert.Hgrn

open Idealize.ShloMosaic

/-- One head's array: chunk, row in the chunk, lane. -/
abbrev Cell := Fin 4 → Fin 64 → Fin 128 → EReal
abbrev State := Fin 128 → Fin 128 → EReal

/-- The running sum over a chunk. -/
def cum (g : Cell) (c : Fin 4) (r : Fin 64) (k : Fin 128) : EReal := ∑ j, if j ≤ r then g c j k else 0

/-- The state after one more chunk. -/
def step (g κ v : Cell) (c : Fin 4) (s : State) : State := fun a b =>
  Ideal.exp (cum g c 63 b) * s a b + ∑ r, v c r a * (κ c r b * Ideal.exp (cum g c 63 b - cum g c r b))

/-- The state before the `n`-th chunk. -/
def state (g κ v : Cell) (s : State) : Fin 5 → State
  | 0 => s
  | 1 => step g κ v 0 s
  | 2 => step g κ v 1 (step g κ v 0 s)
  | 3 => step g κ v 2 (step g κ v 1 (step g κ v 0 s))
  | 4 => step g κ v 3 (step g κ v 2 (step g κ v 1 (step g κ v 0 s)))

/-- A row of the output, from the state before its chunk. -/
def output (g κ v q : Cell) (c : Fin 4) (s : State) (r : Fin 64) (a : Fin 128) : EReal :=
  (∑ j, if j ≤ r then
      (∑ k, (q c r k * Ideal.exp (cum g c r k)) * (κ c j k * Ideal.exp (0 - cum g c j k))) * v c j a else 0)
    + ∑ k, (q c r k * Ideal.exp (cum g c r k)) * s a k

/-- `1 / (1 + e^(-x))`. -/
def sigm (x : EReal) : EReal := Ideal.div 1 (1 + Ideal.exp (0 - x))
/-- The gate from its lower bound. -/
def gate (lb x : EReal) : EReal := lb + (1 - lb) * sigm x

/-! ### The gate's logarithm is never `⊤` -/

theorem exp_nonneg (x : EReal) : 0 ≤ Ideal.exp x := by
  induction x with
  | bot => simp
  | top => simp
  | coe r => simp [Ideal.exp_coe, Real.exp_nonneg]

theorem sig_real (x : EReal) : ∃ r : ℝ, sigm x = r := by
  unfold sigm
  induction x with
  | bot => exact ⟨0, by simp [Ideal.div, EReal.add_top_of_ne_bot (show (1 : EReal) ≠ ⊥ from EReal.coe_ne_bot 1)]⟩
  | top => exact ⟨1, by simp [Ideal.div]⟩
  | coe r =>
    have h : (1 : EReal) + Ideal.exp (0 - (r : EReal)) = ((1 + Real.exp (-r) : ℝ) : EReal) := by
      rw [zero_sub, ← EReal.coe_neg, Ideal.exp_coe]; push_cast; rfl
    have hp : (1 + Real.exp (-r) : ℝ) ≠ 0 := by positivity
    refine ⟨(1 + Real.exp (-r))⁻¹, ?_⟩
    rw [h]
    unfold Ideal.div
    rw [if_neg (by exact_mod_cast hp), one_mul, EReal.coe_inv]

theorem gate_ne_top {lb : EReal} (h : lb ≠ ⊤) (x : EReal) : gate lb x ≠ ⊤ := by
  obtain ⟨r, hr⟩ := sig_real x
  unfold gate
  rw [hr]
  induction lb with
  | bot => simp
  | top => exact absurd rfl h
  | coe l =>
    have : (l : EReal) + (1 - (l : EReal)) * (r : EReal) = ((l + (1 - l) * r : ℝ) : EReal) := by push_cast; rfl
    rw [this]; exact EReal.coe_ne_top _

theorem log_ne_top {f : EReal} (h : f ≠ ⊤) : Ideal.log f ≠ ⊤ := by
  induction f with
  | bot => simp
  | top => exact absurd rfl h
  | coe r =>
    rw [Ideal.log_coe]
    split_ifs
    · exact bot_ne_top
    · exact EReal.coe_ne_top _

theorem add_sub_self {g : EReal} (h : g ≠ ⊤) : g + (g - g) = g := by
  induction g with
  | bot => simp
  | top => exact absurd rfl h
  | coe r => rw [← EReal.coe_sub, ← EReal.coe_add]; simp

/-- The lower bound of the second layer, from the two logits. -/
def lower (a b : EReal) : EReal :=
  (Ideal.div (Ideal.exp (a - max a b)) (Ideal.exp (a - max a b) + Ideal.exp (b - max a b))
    + Ideal.div (Ideal.exp (b - max a b)) (Ideal.exp (a - max a b) + Ideal.exp (b - max a b)))
    - Ideal.div (Ideal.exp (a - max a b)) (Ideal.exp (a - max a b) + Ideal.exp (b - max a b))

theorem exp_sub_real {a m : EReal} (h : a ≤ m) : ∃ r : ℝ, 0 ≤ r ∧ Ideal.exp (a - m) = r := by
  induction a with
  | bot => exact ⟨0, le_refl _, by simp⟩
  | top =>
    have : m = ⊤ := top_le_iff.mp h
    subst this
    exact ⟨0, le_refl _, by simp⟩
  | coe x =>
    induction m with
    | bot => exact absurd h (by simp)
    | top => exact ⟨0, le_refl _, by simp⟩
    | coe y => exact ⟨Real.exp (x - y), Real.exp_nonneg _, by rw [← EReal.coe_sub, Ideal.exp_coe]⟩

theorem lower_ne_top (a b : EReal) : lower a b ≠ ⊤ := by
  obtain ⟨r, hr, er⟩ := exp_sub_real (le_max_left a b)
  obtain ⟨t, ht, et⟩ := exp_sub_real (le_max_right a b)
  unfold lower
  rw [er, et, ← EReal.coe_add]
  by_cases h : r + t = 0
  · have h1 : r = 0 := by linarith
    have h2 : t = 0 := by linarith
    subst h1 h2
    simp [Ideal.div]
  · have h' : ((r + t : ℝ) : EReal) ≠ 0 := by exact_mod_cast h
    unfold Ideal.div
    rw [if_neg h', if_neg h', ← EReal.coe_inv, ← EReal.coe_mul, ← EReal.coe_mul, ← EReal.coe_add, ← EReal.coe_sub]
    exact EReal.coe_ne_top _

/-! ### One head of one sequence of the projected array -/

theorem ltTime (c : Fin 4) (r : Fin 64) : 64 * c.val + r.val < 256 := by omega
theorem ltSeq (n : Fin 32) (t : Fin 256) : 256 * n.val + t.val < 16384 := by omega
theorem ltLane (h : Fin 8) (k : Fin 128) : 128 * h.val + k.val < 1024 := by omega
theorem ltField (o : Fin 5) (h : Fin 8) (k : Fin 128) : 1024 * o.val + (128 * h.val + k.val) < 5120 := by omega

/-- A position of the sequence in the direction from its start. -/
def time (c : Fin 4) (r : Fin 64) : Fin 256 := ⟨64 * c.val + r.val, ltTime c r⟩
/-- The same in the direction from its end. -/
def timeRev (c : Fin 4) (r : Fin 64) : Fin 256 := (time c r).rev
/-- A row of the projected array. -/
def seqRow (n : Fin 32) (t : Fin 256) : Fin 16384 := ⟨256 * n.val + t.val, ltSeq n t⟩
/-- A column of a model-wide row. -/
def lane (h : Fin 8) (k : Fin 128) : Fin 1024 := ⟨128 * h.val + k.val, ltLane h k⟩
/-- A column of the projected array's field `o`. -/
def field (o : Fin 5) (h : Fin 8) (k : Fin 128) : Fin 5120 := ⟨1024 * o.val + (128 * h.val + k.val), ltField o h k⟩

section
variable (P : Fin 16384 → Fin 5120 → EReal) (L : Fin 2 → Fin 1024 → EReal) (w : Fin 4 → Fin 64 → Fin 256) (n : Fin 32) (h : Fin 8)

def inp (o : Fin 5) : Cell := fun c r k => P (seqRow n (w c r)) (field o h k)
def low (k : Fin 128) : EReal := lower (L 0 (lane h k)) (L 1 (lane h k))
def gateS (o : Fin 5) : Cell := fun c r k => gate (low L h k) (inp P w n h o c r k)
def logS (o : Fin 5) : Cell := fun c r k => Ideal.log (gateS P L w n h o c r k)
def keyS (o : Fin 5) : Cell := fun c r k => 1 - gateS P L w n h o c r k
def queryS : Cell := fun c r k => inp P w n h 0 c r k * sigm (inp P w n h 0 c r k)

/-- The state before the `j`-th chunk, from none. -/
def stateS (o : Fin 5) (j : Fin 5) : State := state (logS P L w n h o) (keyS P L w n h o) (inp P w n h 3) (fun _ _ => 0) j

/-- A row of the output. -/
def outS (o : Fin 5) (c : Fin 4) (r : Fin 64) (a : Fin 128) : EReal :=
  output (logS P L w n h o) (keyS P L w n h o) (inp P w n h 3) (queryS P w n h) c (stateS P L w n h o c.castSucc) r a
end

end Cert.Hgrn

end
-- ==== Proof.HgrnIdeal.lean ====
module

public import proofs.«01_k».proof.Proof.HgrnBlock
public import proofs.«01_k».proof.Proof.HgrnSpec

/-! The kernel's stages read at an index over the extended reals. A direction is a permutation `e` of a chunk's
    rows and one `d` of the chunks: the identity, or the reversal. -/

@[expose] public section

set_option maxRecDepth 16384

noncomputable section

namespace Cert.KernelIdeal.Hgrn

open Cert.KernelIdeal Cert.KernelIdeal.Gen Idealize.ShloMosaic Idealize.ShloMosaic.TcCoe Idealize.SL.Sem
open Cert.Hgrn

theorem ltRow (c : Fin 4) (r : Fin 64) : 64 * c.val + r.val < 256 := by omega
theorem ltCol (h : Fin 8) (k : Fin 128) : 128 * h.val + k.val < 1024 := by omega
theorem ltHi (r : Fin 64) : r.val < 128 := by omega
theorem ltLo (r : Fin 64) : 64 + r.val < 128 := by omega
def row (c : Fin 4) (r : Fin 64) : Fin 256 := ⟨64 * c.val + r.val, ltRow c r⟩
def col (h : Fin 8) (k : Fin 128) : Fin 1024 := ⟨128 * h.val + k.val, ltCol h k⟩

/-- A head of an array of rows. -/
def cell (d : Fin 4 → Fin 4) (e : Fin 64 → Fin 64) (x : Fin 256 → Fin 1024 → EReal) (h : Fin 8) : Cell :=
  fun c r k => x (row (d c) (e r)) (col h k)

theorem sum_rows (G : Fin 256 → EReal) : ∑ x, G x = ∑ c, ∑ r, G (row c r) := by
  rw [← Fintype.sum_prod_type']
  refine (Fintype.sum_equiv (finProdFinEquiv (m := 4) (n := 64)) _ _ fun p => ?_).symm
  exact congrArg G (Fin.ext (by show 64 * p.1.val + p.2.val = p.2.val + 64 * p.1.val; omega))

theorem gateV_at (lb : FVec Ideal S1x1024 .f32) (x : FVec Ideal S256x1024 .f32) (r : Fin 256) (n : Fin 1024) :
    gateV lb x (ix2 r n) = gate (lb (ix2 0 n)) (x (ix2 r n)) := by
  pointwise [gateV, sigV]
  rfl

theorem siluV_at (x : FVec Ideal S256x1024 .f32) (r : Fin 256) (n : Fin 1024) :
    siluV x (ix2 r n) = x (ix2 r n) * sigm (x (ix2 r n)) := by
  pointwise [siluV, sigV]
  rfl

theorem ladder (G : Fin 4 → Fin 64 → EReal) (c : Fin 4) (r : Fin 64) (n : ℕ) (hn : n = 64 * c.val + r.val)
    (h3 : n - 64 - 64 - 64 < 64) :
    (if h : n < 64 then G 0 ⟨n, h⟩ else if h : n - 64 < 64 then G 1 ⟨n - 64, h⟩
      else if h : n - 64 - 64 < 64 then G 2 ⟨n - 64 - 64, h⟩ else G 3 ⟨n - 64 - 64 - 64, h3⟩) = G c r := by
  have hr := r.isLt
  have key : ∀ (c' : Fin 4) (m : ℕ) (hm : m < 64), c' = c → m = r.val → G c' ⟨m, hm⟩ = G c r := by
    intro c' m hm h1 h2; subst h1; exact congrArg _ (Fin.ext h2)
  have hc := c.isLt
  split_ifs with h0 h1 h2
  · exact key 0 _ _ (Fin.ext (by show 0 = c.val; omega)) (by omega)
  · exact key 1 _ _ (Fin.ext (by show 1 = c.val; omega)) (by omega)
  · exact key 2 _ _ (Fin.ext (by show 2 = c.val; omega)) (by omega)
  · exact key 3 _ _ (Fin.ext (by show 3 = c.val; omega)) (by omega)

theorem cumAllV_at (tri : FVec Ideal S64x128 .bf16) (f : FVec Ideal S256x1024 .f32) (c : Fin 4) (r : Fin 64) (n : Fin 1024) :
    cumAllV tri f (ix2 (row c r) n) = cumV tri f c (ix2 r n) := by
  pointwise [cumAllV]
  have := ladder (fun c r => cumV tri f c (ix2 r n)) c r (row c r).val rfl (by have := r.isLt; have := c.isLt; show 64 * c.val + r.val - 64 - 64 - 64 < 64; omega)
  exact this

theorem lastAllV_at (tri : FVec Ideal S64x128 .bf16) (f : FVec Ideal S256x1024 .f32) (l : Fin 64) (c : Fin 4) (r : Fin 64) (n : Fin 1024) :
    lastAllV tri f l (ix2 (row c r) n) = cumV tri f c (ix2 l n) := by
  pointwise [lastAllV, lastWideV, lastV]
  exact ladder (fun c _ => cumV tri f c (ix2 l n)) c r (row c r).val rfl (by have := r.isLt; have := c.isLt; show 64 * c.val + r.val - 64 - 64 - 64 < 64; omega)

section
variable (e : Equiv.Perm (Fin 64)) (d : Equiv.Perm (Fin 4))

/-- The triangle of ones, twice side by side, of a direction. -/
def Tri (tri : FVec Ideal S64x128 .bf16) : Prop :=
  ∀ r j : Fin 64, tri (ix2 (e r) ⟨(e j).val, ltHi _⟩) = (if j ≤ r then 1 else 0) ∧
    tri (ix2 (e r) ⟨64 + (e j).val, ltLo _⟩) = (if j ≤ r then 1 else 0)

/-- The mask of a direction. -/
def Mask (mask : IVec S256x256 1) : Prop :=
  ∀ (c c' : Fin 4) (r j : Fin 64), mask (ix2 (row (d c) (e r)) (row (d c') (e j))) = if c' = c ∧ j ≤ r then 1 else 0

variable (lb : FVec Ideal S1x1024 .f32) (tri : FVec Ideal S64x128 .bf16) (q f i : FVec Ideal S256x1024 .f32)

def gC (h : Fin 8) : Cell := cell d e (fun r n => Ideal.log (gate (lb (ix2 0 n)) (f (ix2 r n)))) h
def kC (h : Fin 8) : Cell := cell d e (fun r n => 1 - gate (lb (ix2 0 n)) (f (ix2 r n))) h
def vC (h : Fin 8) : Cell := cell d e (fun r n => i (ix2 r n)) h
def qC (h : Fin 8) : Cell := cell d e (fun r n => q (ix2 r n) * sigm (q (ix2 r n))) h

variable {e d lb tri}

theorem cumV_at (htri : Tri e tri) (hlb : ∀ n, lb (ix2 0 n) ≠ ⊤) (h : Fin 8) (c : Fin 4) (r : Fin 64) (k : Fin 128) :
    cumV tri (gateV lb f) (d c) (ix2 (e r) (col h k)) = cum (gC e d lb f h) c r k := by
  pointwise [cumV, hiV, loV]
  rw [← Finset.sum_add_distrib, ← Equiv.sum_comp e]
  unfold cum
  refine Finset.sum_congr rfl fun j _ => ?_
  rw [(htri r j).1, (htri r j).2]
  have e1 : gateV lb f (ix2 ⟨64 * (d c).val + (e j).val, by omega⟩ (col h k)) = gate (lb (ix2 0 (col h k))) (f (ix2 (row (d c) (e j)) (col h k))) :=
    gateV_at lb f (row (d c) (e j)) (col h k)
  rw [e1]
  split_ifs
  · rw [one_mul, one_mul, add_sub_self (log_ne_top (gate_ne_top (hlb _) _))]; rfl
  · rw [zero_mul, zero_mul, add_zero]

theorem qinV_at (htri : Tri e tri) (hlb : ∀ n, lb (ix2 0 n) ≠ ⊤) (h : Fin 8) (c : Fin 4) (r : Fin 64) (k : Fin 128) :
    qinV tri (gateV lb f) (siluV q) (ix2 (row (d c) (e r)) (col h k))
      = qC e d q h c r k * Ideal.exp (cum (gC e d lb f h) c r k) := by
  pointwise [qinV]
  rw [cumAllV_at, cumV_at f htri hlb, siluV_at]
  rfl

theorem kinV_at (htri : Tri e tri) (hlb : ∀ n, lb (ix2 0 n) ≠ ⊤) (h : Fin 8) (c : Fin 4) (r : Fin 64) (k : Fin 128) :
    kinV tri (gateV lb f) (ix2 (row (d c) (e r)) (col h k))
      = kC e d lb f h c r k * Ideal.exp (0 - cum (gC e d lb f h) c r k) := by
  pointwise [kinV, keyV]
  rw [cumAllV_at, cumV_at f htri hlb, gateV_at]
  rfl

theorem koutV_at (htri : Tri e tri) (hlb : ∀ n, lb (ix2 0 n) ≠ ⊤) (h : Fin 8) (c : Fin 4) (r : Fin 64) (k : Fin 128) :
    koutV tri (gateV lb f) (e 63) (ix2 (row (d c) (e r)) (col h k))
      = kC e d lb f h c r k * Ideal.exp (cum (gC e d lb f h) c 63 k - cum (gC e d lb f h) c r k) := by
  pointwise [koutV, keyV]
  rw [cumAllV_at, lastAllV_at, cumV_at f htri hlb, cumV_at f htri hlb, gateV_at]
  rfl

theorem decV_at (htri : Tri e tri) (hlb : ∀ n, lb (ix2 0 n) ≠ ⊤) (h : Fin 8) (c : Fin 4) (k : Fin 128) :
    decV tri (gateV lb f) (e 63) (d c) (ix2 0 (col h k)) = Ideal.exp (cum (gC e d lb f h) c 63 k) := by
  pointwise [decV, lastV]
  rw [← cumV_at f htri hlb]

theorem stepV_at (c : Fin 4) (dec : FVec Ideal S1x1024 .f32) (hdec : dec = decV tri (gateV lb f) (e 63) (d c))
    (htri : Tri e tri) (hlb : ∀ n, lb (ix2 0 n) ≠ ⊤) (h : Fin 8) (s : FVec Ideal S128x128 .f32) (t : State) (hs : ∀ a b, s (ix2 a b) = t a b) (a b : Fin 128) :
    stepV dec (headV h (valV i)) (koutV tri (gateV lb f) (e 63)) (d c) h s (ix2 a b)
      = step (gC e d lb f h) (kC e d lb f h) (vC e d i h) c t a b := by
  subst hdec
  pointwise [stepV, headV, valV]
  rw [← Equiv.sum_comp e, hs]
  unfold step
  refine congrArg₂ _ (congrArg₂ _ (decV_at f htri hlb h c b) rfl) (Finset.sum_congr rfl fun j _ => congrArg₂ _ rfl (koutV_at f htri hlb h c j b))

theorem outV_at (mask : IVec S256x256 1) (hm : Mask e d mask) (htri : Tri e tri) (hlb : ∀ n, lb (ix2 0 n) ≠ ⊤)
    (h : Fin 8) (c : Fin 4) (s : FVec Ideal S128x128 .f32) (t : State) (hs : ∀ a b, s (ix2 a b) = t a b) (r : Fin 64) (a : Fin 128) :
    (staged lb tri (e 63) q f i).out mask h (d c) s (ix2 (e r) a)
      = output (gC e d lb f h) (kC e d lb f h) (vC e d i h) (qC e d q h) c t r a := by
  unfold Staged.out Staged.intra staged
  pointwise [outV, headV, intraV, valV]
  unfold output
  refine congrArg₂ _ ?_ (Finset.sum_congr rfl fun k _ => congrArg₂ _ (qinV_at q f htri hlb h c r k) (hs a k))
  rw [sum_rows, ← Equiv.sum_comp d, Finset.sum_eq_single c]
  · rw [← Equiv.sum_comp e]
    refine Finset.sum_congr rfl fun j _ => ?_
    have hmm : mask (ix2 ⟨64 * (d c).val + (e r).val, ltRow _ _⟩ (row (d c) (e j))) = if c = c ∧ j ≤ r then 1 else 0 := hm c c r j
    rw [hmm]
    by_cases hj : j ≤ r
    · rw [if_pos ⟨rfl, hj⟩, if_pos hj]
      have sel : ∀ x y : EReal, Scalar.select (1 : BitVec 1) x y = x := fun _ _ => rfl
      rw [sel]
      refine congrArg₂ _ (Finset.sum_congr rfl fun k _ => congrArg₂ _ (qinV_at q f htri hlb h c r k) (kinV_at f htri hlb h c j k)) rfl
    · rw [if_neg (fun x => hj x.2), if_neg hj]; rfl
  · intro c' _ hc
    rw [← Equiv.sum_comp e]
    refine Finset.sum_eq_zero fun j _ => ?_
    have hmm : mask (ix2 ⟨64 * (d c).val + (e r).val, ltRow _ _⟩ (row (d c') (e j))) = if c' = c ∧ j ≤ r then 1 else 0 := hm c c' r j
    rw [hmm, if_neg (fun x => hc x.1)]; rfl
  · simp
end

/-! ### The two directions -/

/-- A row number's quotient by the chunk length, as the body computes it on words. -/
def quo (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem quo_ok : ∀ x : Fin 256, quo (BitVec.ofNat 32 x.val) = BitVec.ofNat 32 (x.val / 64) := by decide +kernel
theorem same_ok : ∀ x y : Fin 4, IntOp.cmpi CmpIPredicate.eq (BitVec.ofNat 32 x.val) (BitVec.ofNat 32 y.val) = if y = x then 1 else 0 := by decide +kernel
theorem toInt_small (x : Fin 256) : (BitVec.ofNat 32 x.val).toInt = x.val := by
  rw [BitVec.toInt_eq_toNat_of_lt (by rw [BitVec.toNat_ofNat]; omega), BitVec.toNat_ofNat]
  congr 1; omega

theorem le_ok (x y : Fin 256) : IntOp.cmpi CmpIPredicate.sle (BitVec.ofNat 32 x.val) (BitVec.ofNat 32 y.val) = if x ≤ y then 1 else 0 := by
  show BitVec.ofBool (BitVec.sle (BitVec.ofNat 32 x.val) (BitVec.ofNat 32 y.val)) = _
  unfold BitVec.sle
  rw [toInt_small, toInt_small]
  by_cases h : x ≤ y
  · rw [if_pos h, decide_eq_true (by exact_mod_cast h)]; rfl
  · rw [if_neg h, decide_eq_false (by exact_mod_cast h)]; rfl

theorem ge_ok (x y : Fin 256) : IntOp.cmpi CmpIPredicate.sge (BitVec.ofNat 32 x.val) (BitVec.ofNat 32 y.val) = if y ≤ x then 1 else 0 :=
  le_ok y x

theorem row_quo (c : Fin 4) (r : Fin 64) : quo (BitVec.ofNat 32 (row c r).val) = BitVec.ofNat 32 c.val := by
  rw [quo_ok]
  have : (row c r).val / 64 = c.val := by show (64 * c.val + r.val) / 64 = c.val; omega
  rw [this]

theorem maskF_ok : Mask (Equiv.refl _) (Equiv.refl _) maskF := by
  intro c c' r j
  show maskF (ix2 (row c r) (row c' j)) = _
  pointwise [k0_pay37, k0_pay36, k0_pay35]
  show IntOp.andi (IntOp.cmpi CmpIPredicate.eq (quo (BitVec.ofNat 32 (row c r).val)) (quo (BitVec.ofNat 32 (row c' j).val))) _ = _
  rw [row_quo, row_quo, same_ok, ge_ok]
  by_cases hc : c' = c
  · subst hc
    have : (row c' j ≤ row c' r) ↔ j ≤ r := by
      show 64 * c'.val + j.val ≤ 64 * c'.val + r.val ↔ j.val ≤ r.val; omega
    simp only [this, true_and, if_true]
    split_ifs <;> rfl
  · have hn : ¬ (c' = c ∧ j ≤ r) := fun h => hc h.1
    rw [if_neg hc, if_neg hn]
    split_ifs <;> rfl

theorem maskB_ok : Mask Fin.revPerm Fin.revPerm maskB := by
  intro c c' r j
  show maskB (ix2 (row c.rev r.rev) (row c'.rev j.rev)) = _
  pointwise [k0_pay38, k0_pay36, k0_pay35]
  show IntOp.andi (IntOp.cmpi CmpIPredicate.eq (quo (BitVec.ofNat 32 (row c.rev r.rev).val)) (quo (BitVec.ofNat 32 (row c'.rev j.rev).val))) _ = _
  rw [row_quo, row_quo, same_ok, le_ok]
  by_cases hc : c' = c
  · subst hc
    have : (row c'.rev r.rev ≤ row c'.rev j.rev) ↔ j ≤ r := by
      refine Iff.trans ?_ (Fin.rev_le_rev (i := r) (j := j))
      show 64 * c'.rev.val + r.rev.val ≤ 64 * c'.rev.val + j.rev.val ↔ r.rev.val ≤ j.rev.val; omega
    simp only [this, true_and, if_true]
    split_ifs <;> rfl
  · have hn : ¬ (c' = c ∧ j ≤ r) := fun h => hc h.1
    have hm : ¬ (c'.rev = c.rev) := fun h => hc (Fin.rev_injective h)
    rw [if_neg hm, if_neg hn]
    split_ifs <;> rfl

section
variable {lb : FVec Ideal S1x1024 .f32} {tri : FVec Ideal S64x128 .bf16} (q f i : FVec Ideal S256x1024 .f32)

theorem fwd_at (htri : Tri (Equiv.refl _) tri) (hlb : ∀ n, lb (ix2 0 n) ≠ ⊤) (h : Fin 8) (s : FVec Ideal S128x128 .f32) (t : State)
    (hs : ∀ a b, s (ix2 a b) = t a b) (n : Fin 5) (a b : Fin 128) :
    (staged lb tri 63 q f i).fwd h s n (ix2 a b)
      = state (gC (Equiv.refl _) (Equiv.refl _) lb f h) (kC (Equiv.refl _) (Equiv.refl _) lb f h) (vC (Equiv.refl _) (Equiv.refl _) i h) t n a b := by
  have h1 := stepV_at (e := Equiv.refl _) (d := Equiv.refl _) f i 0 _ rfl htri hlb h s t hs
  have h2 := stepV_at (e := Equiv.refl _) (d := Equiv.refl _) f i 1 _ rfl htri hlb h _ _ h1
  have h3 := stepV_at (e := Equiv.refl _) (d := Equiv.refl _) f i 2 _ rfl htri hlb h _ _ h2
  have h4 := stepV_at (e := Equiv.refl _) (d := Equiv.refl _) f i 3 _ rfl htri hlb h _ _ h3
  match n with
  | 0 => exact hs a b
  | 1 => exact h1 a b
  | 2 => exact h2 a b
  | 3 => exact h3 a b
  | 4 => exact h4 a b

theorem bwd_at (htri : Tri Fin.revPerm tri) (hlb : ∀ n, lb (ix2 0 n) ≠ ⊤) (h : Fin 8) (s : FVec Ideal S128x128 .f32) (t : State)
    (hs : ∀ a b, s (ix2 a b) = t a b) (n : Fin 5) (a b : Fin 128) :
    (staged lb tri 0 q f i).bwd h s n (ix2 a b)
      = state (gC Fin.revPerm Fin.revPerm lb f h) (kC Fin.revPerm Fin.revPerm lb f h) (vC Fin.revPerm Fin.revPerm i h) t n a b := by
  have h1 := stepV_at (e := Fin.revPerm) (d := Fin.revPerm) f i 0 _ rfl htri hlb h s t hs
  have h2 := stepV_at (e := Fin.revPerm) (d := Fin.revPerm) f i 1 _ rfl htri hlb h _ _ h1
  have h3 := stepV_at (e := Fin.revPerm) (d := Fin.revPerm) f i 2 _ rfl htri hlb h _ _ h2
  have h4 := stepV_at (e := Fin.revPerm) (d := Fin.revPerm) f i 3 _ rfl htri hlb h _ _ h3
  match n with
  | 0 => exact hs a b
  | 1 => exact h1 a b
  | 2 => exact h2 a b
  | 3 => exact h3 a b
  | 4 => exact h4 a b
end

end Cert.KernelIdeal.Hgrn

end
-- ==== Proof.HgrnInput.lean ====
module

public import proofs.«01_k».proof.Proof.HgrnIdeal
public import Idealize.ShloMosaic.Lib.Pipeline.ValueKit.Point
public import Idealize.ShloMosaic.Lib.WholeRead

/-! The kernel's input blocks at an index, and the staged arrays from them, over the extended reals. -/

@[expose] public section

set_option maxRecDepth 16384

noncomputable section

namespace Cert.KernelIdeal.Hgrn

open Cert.KernelIdeal Cert.KernelIdeal.Gen Idealize.ShloMosaic Idealize.ShloMosaic.TcCoe Idealize.SL.Sem
open Cert.Hgrn

section
variable {F : FTy → Type} [FloatOps F]

theorem readWhole {s : Shape} {e : EltTy} (a : Memref sig .tc .vmem s e) (ha : a.IsWhole) (off : Fin s.rank → ℕ) (hoff : ∀ k, off k = 0)
    (inb : ∀ k, off k + s.size k ≤ s.size k) (x : Vec F s e) :
    View.readAt (Elt F) a.view (Rect.unit off s.size inb).toLoadRect (ha.unread x) = x := by
  funext i
  rw [Memref.IsWhole.readAt_unread]
  refine congrArg x (funext fun k => Fin.ext ?_)
  show off k + 1 * (i k).val = (i k).val
  rw [hoff]; omega

variable (c : Dev nD)
variable (arg2 : Memref sig .tc .vmem S256x1024 .f32) (harg2 : arg2.IsWhole)
variable (arg3 : Memref sig .tc .vmem S256x1024 .f32) (harg3 : arg3.IsWhole)
variable (arg4 : Memref sig .tc .vmem S256x1024 .f32) (harg4 : arg4.IsWhole)
variable (arg5 : Memref sig .tc .vmem S256x1024 .f32) (harg5 : arg5.IsWhole)
variable (arg6 : Memref sig .tc .vmem S256x1024 .f32) (harg6 : arg6.IsWhole)
variable (arg7 : Memref sig .tc .vmem S256x1024 .f32) (harg7 : arg7.IsWhole)
variable (arg8 : Memref sig .tc .vmem S2x1024 .f32) (harg8 : arg8.IsWhole)
variable (arg11 : Memref sig .tc .vmem S64x128 .bf16) (harg11 : arg11.IsWhole)
variable (arg12 : Memref sig .tc .vmem S64x128 .bf16) (harg12 : arg12.IsWhole)
variable (x0 : Vec F S256x1024 .f32)
variable (x1 : Vec F S256x1024 .f32)
variable (x2 : Vec F S256x1024 .f32)
variable (x3 : Vec F S256x1024 .f32)
variable (x4 : Vec F S256x1024 .f32)
variable (x5 : Vec F S256x1024 .f32)
variable (x6 : Vec F S2x1024 .f32)
variable (x9 : Vec F S64x128 .bf16)
variable (x10 : Vec F S64x128 .bf16)
theorem rawF_eq : rawF c arg2 harg2 arg3 harg3 arg4 harg4 arg8 harg8 arg11 harg11 x0 x1 x2 x6 x9 = staged (k0_pay34 x6) x9 63 x0 x1 x2 := by
  have e : rawF c arg2 harg2 arg3 harg3 arg4 harg4 arg8 harg8 arg11 harg11 x0 x1 x2 x6 x9 = staged (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) 63 (View.readAt (Elt F) arg2.view (Rect.unit ![0, 0] S256x1024.size inb_S256x1024_S256x1024_0_0).toLoadRect (harg2.unread x0)) (View.readAt (Elt F) arg3.view (Rect.unit ![0, 0] S256x1024.size inb_S256x1024_S256x1024_0_0).toLoadRect (harg3.unread x1)) (View.readAt (Elt F) arg4.view (Rect.unit ![0, 0] S256x1024.size inb_S256x1024_S256x1024_0_0).toLoadRect (harg4.unread x2)) := by
    unfold rawF staged
    rw [← baseF_q (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg2.view (Rect.unit ![0, 0] S256x1024.size inb_S256x1024_S256x1024_0_0).toLoadRect (harg2.unread x0)) (View.readAt (Elt F) arg3.view (Rect.unit ![0, 0] S256x1024.size inb_S256x1024_S256x1024_0_0).toLoadRect (harg3.unread x1))]
    rw [← baseF_k (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rw [← baseF_ko (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rw [← baseF_v (View.readAt (Elt F) arg4.view (Rect.unit ![0, 0] S256x1024.size inb_S256x1024_S256x1024_0_0).toLoadRect (harg4.unread x2))]
    rw [← baseF_d0 (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rw [← baseF_d1 (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rw [← baseF_d2 (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rw [← baseF_d3 (k0_pay34 (View.readAt (Elt F) arg8.view (Rect.unit ![0, 0] S2x1024.size inb_S2x1024_S2x1024_0_0).toLoadRect (harg8.unread x6))) (View.readAt (Elt F) arg11.view (Rect.unit ![0, 0] S64x128.size inb_S64x128_S64x128_0_0).toLoadRect (harg11.unread x9)) (View.readAt (Elt F) arg3.view (Rect.unit ![0, 0] S256x1024.size inb_S256x1024_S256x1024_0_0).toLoadRect (harg3.unread x1))]
    rfl
  rw [e, (readWhole arg8 harg8 ![0, 0] (by decide) inb_S2x1024_S2x1024_0_0 x6), (readWhole arg11 harg11 ![0, 0] (by decide) inb_S64x128_S64x128_0_0 x9), (readWhole arg2 harg2 ![0, 0] (by decide) inb_S256x1024_S256x1024_0_0 x0), (readWhole arg3 harg3 ![0, 0] (by decide) inb_S256x1024_S256x1024_0_0 x1), (readWhole arg4 harg4 ![0, 0] (by decide) inb_S256x1024_S256x1024_0_0 x2)]

theorem rawB_eq : rawB c arg5 harg5 arg6 harg6 arg7 harg7 arg8 harg8 arg12 harg12 x3 x4 x5 x6 x10 = staged (k0_pay34 x6) x10 0 x3 x4 x5 := by
  have e : rawB c arg5 harg5 arg6 harg6 arg7 harg7 arg8 harg8 arg12 harg12 x3 x4 x5 x6 x10 = staged (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) 0 (View.readAt (Elt F) arg5.view (Rect.unit ![0, 0] S256x1024.size inb_S256x1024_S256x1024_0_0).toLoadRect (harg5.unread x3)) (View.readAt (Elt F) arg6.view (Rect.unit ![0, 0] S256x1024.size inb_S256x1024_S256x1024_0_0).toLoadRect (harg6.unread x4)) (View.readAt (Elt F) arg7.view (Rect.unit ![0, 0] S256x1024.size inb_S256x1024_S256x1024_0_0).toLoadRect (harg7.unread x5)) := by
    unfold rawB staged
    rw [← baseB_q (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg5.view (Rect.unit ![0, 0] S256x1024.size inb_S256x1024_S256x1024_0_0).toLoadRect (harg5.unread x3)) (View.readAt (Elt F) arg6.view (Rect.unit ![0, 0] S256x1024.size inb_S256x1024_S256x1024_0_0).toLoadRect (harg6.unread x4))]
    rw [← baseB_k (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rw [← baseB_ko (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rw [← baseB_v (View.readAt (Elt F) arg7.view (Rect.unit ![0, 0] S256x1024.size inb_S256x1024_S256x1024_0_0).toLoadRect (harg7.unread x5))]
    rw [← baseB_d0 (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rw [← baseB_d1 (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rw [← baseB_d2 (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rw [← baseB_d3 (k0_pay34 (View.readAt (Elt F) arg8.view (Rect.unit ![0, 0] S2x1024.size inb_S2x1024_S2x1024_0_0).toLoadRect (harg8.unread x6))) (View.readAt (Elt F) arg12.view (Rect.unit ![0, 0] S64x128.size inb_S64x128_S64x128_0_0).toLoadRect (harg12.unread x10)) (View.readAt (Elt F) arg6.view (Rect.unit ![0, 0] S256x1024.size inb_S256x1024_S256x1024_0_0).toLoadRect (harg6.unread x4))]
    rfl
  rw [e, (readWhole arg8 harg8 ![0, 0] (by decide) inb_S2x1024_S2x1024_0_0 x6), (readWhole arg12 harg12 ![0, 0] (by decide) inb_S64x128_S64x128_0_0 x10), (readWhole arg5 harg5 ![0, 0] (by decide) inb_S256x1024_S256x1024_0_0 x3), (readWhole arg6 harg6 ![0, 0] (by decide) inb_S256x1024_S256x1024_0_0 x4), (readWhole arg7 harg7 ![0, 0] (by decide) inb_S256x1024_S256x1024_0_0 x5)]

end

theorem ofBits_bot : Ideal.ofBits FTy.f32 4286578688#32 = ⊥ := by simp [Ideal.ofBits, Ideal.ieee]

theorem fold_pair (g : Fin 2 → EReal) : Finset.fold max (Ideal.ofBits FTy.f32 4286578688#32) g Finset.univ = max (g 0) (g 1) := by
  rw [ofBits_bot]
  have : (Finset.univ : Finset (Fin 2)) = insert 0 {1} := rfl
  rw [this, Finset.fold_insert (by decide), Finset.fold_singleton, max_bot_right]

theorem lower_at (x : Vec Ideal S2x1024 .f32) (n : Fin 1024) : k0_pay34 x (ix2 0 n) = lower (x (ix2 0 n)) (x (ix2 1 n)) := by
  pointwise [k0_pay34]
  rw [fold_pair, Fin.sum_univ_two]
  rfl

theorem start_at (a : Memref sig .tc .vmem S1x8x128x128 .f32) (ha : a.IsWhole) (x : Vec Ideal S1x8x128x128 .f32) (h : Fin 8) (i j : Fin 128) :
    start a ha x h (ix2 i j) = x (ix4 0 h j i) := by
  unfold start
  pointwise [turn, box, unbox]
  rw [Memref.IsWhole.readAt_unread]
  refine congrArg x ?_
  refine (eq_ix4 _).trans ((ix4_inj _ _ _ _ _ _ _ _).mpr ⟨Fin.ext ?_, Fin.ext ?_, Fin.ext ?_, Fin.ext ?_⟩)
  · show 0 + 1 * 0 = 0; rfl
  · show h.val + 1 * 0 = h.val; omega
  · show 0 + 1 * j.val = j.val; omega
  · show 0 + 1 * i.val = i.val; omega

theorem turn_at (s : Vec Ideal S1x1x128x128 .f32) (a b : Fin 128) : turn s (ix4 0 0 a b) = s (ix4 0 0 b a) := by
  pointwise [turn, box, unbox]

theorem turn_box_at (s : FVec Ideal S128x128 .f32) (a b : Fin 128) : turn (box s) (ix4 0 0 a b) = s (ix2 b a) := by
  pointwise [turn, box, unbox]

section
variable (m : (ℓ : Loc nD τ sig) → Buf (Elt Ideal) ℓ)

theorem idx_in : ∀ t : Fin cfg0.N, win0_0.index t = ![t.val, 0] ∧ win0_1.index t = ![t.val, 1] ∧ win0_2.index t = ![t.val, 3]
   ∧ win0_3.index t = ![t.val, 0] ∧ win0_4.index t = ![t.val, 2] ∧ win0_5.index t = ![t.val, 3]
   ∧ win0_6.index t = ![0, 0] ∧ win0_7.index t = ![t.val, 0, 0, 0] ∧ win0_8.index t = ![t.val, 0, 0, 0]
   ∧ win0_9.index t = ![0, 0] ∧ win0_10.index t = ![0, 0] :=
  (by decide +kernel : ∀ t : Fin grid0.N, _)
theorem idx_out : ∀ t : Fin cfg0.N, win0_11.index t = ![t.val, 0] ∧ win0_12.index t = ![t.val, 0] ∧ win0_13.index t = ![t.val, 0, 0, 0] ∧ win0_14.index t = ![t.val, 0, 0, 0] :=
  (by decide +kernel : ∀ t : Fin grid0.N, _)

theorem lt32 (t : Fin cfg0.N) : t.val < 32 := t.isLt
/-- The sequence of a grid point. -/
def seq (t : Fin cfg0.N) : Fin 32 := ⟨t.val, lt32 t⟩

abbrev A0 (c : Dev nD) : Fin 16384 → Fin 5120 → EReal := fun i j => m ((c : Thread nD τ).loc main_arg0) (ix2 i j)
abbrev A1 (c : Dev nD) : Fin 2 → Fin 1024 → EReal := fun i j => m ((c : Thread nD τ).loc main_arg1) (ix2 i j)

theorem iblk0_at (c : Dev nD) (t : Fin cfg0.N) (r : Fin 256) (h : Fin 8) (k : Fin 128) :
    iblk m c 0 t (ix2 r (col h k)) = A0 m c (seqRow (seq t) r) (field 0 h k) := by
  blk_ext [iblk, V, idx_in t, seqRow, seq, field, col]

theorem iblk1_at (c : Dev nD) (t : Fin cfg0.N) (r : Fin 256) (h : Fin 8) (k : Fin 128) :
    iblk m c 1 t (ix2 r (col h k)) = A0 m c (seqRow (seq t) r) (field 1 h k) := by
  blk_ext [iblk, V, idx_in t, seqRow, seq, field, col]

theorem iblk2_at (c : Dev nD) (t : Fin cfg0.N) (r : Fin 256) (h : Fin 8) (k : Fin 128) :
    iblk m c 2 t (ix2 r (col h k)) = A0 m c (seqRow (seq t) r) (field 3 h k) := by
  blk_ext [iblk, V, idx_in t, seqRow, seq, field, col]

theorem iblk3_at (c : Dev nD) (t : Fin cfg0.N) (r : Fin 256) (h : Fin 8) (k : Fin 128) :
    iblk m c 3 t (ix2 r (col h k)) = A0 m c (seqRow (seq t) r) (field 0 h k) := by
  blk_ext [iblk, V, idx_in t, seqRow, seq, field, col]

theorem iblk4_at (c : Dev nD) (t : Fin cfg0.N) (r : Fin 256) (h : Fin 8) (k : Fin 128) :
    iblk m c 4 t (ix2 r (col h k)) = A0 m c (seqRow (seq t) r) (field 2 h k) := by
  blk_ext [iblk, V, idx_in t, seqRow, seq, field, col]

theorem iblk5_at (c : Dev nD) (t : Fin cfg0.N) (r : Fin 256) (h : Fin 8) (k : Fin 128) :
    iblk m c 5 t (ix2 r (col h k)) = A0 m c (seqRow (seq t) r) (field 3 h k) := by
  blk_ext [iblk, V, idx_in t, seqRow, seq, field, col]

theorem iblk6_at (c : Dev nD) (t : Fin cfg0.N) (r : Fin 2) (n : Fin 1024) : iblk m c 6 t (ix2 r n) = A1 m c r n := by
  blk_ext [iblk, V, idx_in t]

theorem iblk7_at (c : Dev nD) (t : Fin cfg0.N) (h : Fin 8) (a b : Fin 128) : iblk m c 7 t (ix4 0 h a b) = (0 : EReal) := by
  have : iblk m c 7 t (ix4 0 h a b) = V m c main_v0 (ix4 ⟨t.val, lt32 t⟩ h a b) := by
    blk_ext [iblk, V, idx_in t]
  rw [this]
  entry_read
  pointwise

theorem iblk8_at (c : Dev nD) (t : Fin cfg0.N) (h : Fin 8) (a b : Fin 128) : iblk m c 8 t (ix4 0 h a b) = (0 : EReal) := by
  have : iblk m c 8 t (ix4 0 h a b) = V m c main_v0 (ix4 ⟨t.val, lt32 t⟩ h a b) := by
    blk_ext [iblk, V, idx_in t]
  rw [this]
  entry_read
  pointwise

theorem lit0_ok : ∀ (r : Fin 64) (j : Fin 128), lit0 (S64x128.rowMajor (ix2 r j)) = if j.val % 64 ≤ r.val then 0x3F80#16 else 0#16 := by
  decide +kernel
theorem lit1_ok : ∀ (r : Fin 64) (j : Fin 128), lit1 (S64x128.rowMajor (ix2 r j)) = if r.val ≤ j.val % 64 then 0x3F80#16 else 0#16 := by
  decide +kernel

theorem iblk9_at (c : Dev nD) (t : Fin cfg0.N) (r : Fin 64) (j : Fin 128) : iblk m c 9 t (ix2 r j) = if j.val % 64 ≤ r.val then (1 : EReal) else 0 := by
  have : iblk m c 9 t (ix2 r j) = V m c main_cst (ix2 r j) := by
    blk_ext [iblk, V, idx_in t]
  rw [this]
  entry_read
  show Ideal.ofBits FTy.bf16 (lit0 (S64x128.rowMajor (ix2 r j))) = _
  rw [lit0_ok]
  split_ifs
  · exact Ideal.ofBits_one_bf16
  · exact Ideal.ofBits_zero_bf16

theorem iblk10_at (c : Dev nD) (t : Fin cfg0.N) (r : Fin 64) (j : Fin 128) : iblk m c 10 t (ix2 r j) = if r.val ≤ j.val % 64 then (1 : EReal) else 0 := by
  have : iblk m c 10 t (ix2 r j) = V m c main_cst_0 (ix2 r j) := by
    blk_ext [iblk, V, idx_in t]
  rw [this]
  entry_read
  show Ideal.ofBits FTy.bf16 (lit1 (S64x128.rowMajor (ix2 r j))) = _
  rw [lit1_ok]
  split_ifs
  · exact Ideal.ofBits_one_bf16
  · exact Ideal.ofBits_zero_bf16

theorem triF (c : Dev nD) (t : Fin cfg0.N) : Tri (Equiv.refl _) (iblk m c 9 t) := by
  intro r j
  refine ⟨(iblk9_at m c t r _).trans (if_congr ?_ rfl rfl), (iblk9_at m c t r _).trans (if_congr ?_ rfl rfl)⟩
  · show j.val % 64 ≤ r.val ↔ j.val ≤ r.val; omega
  · show (64 + j.val) % 64 ≤ r.val ↔ j.val ≤ r.val; omega

theorem triB (c : Dev nD) (t : Fin cfg0.N) : Tri Fin.revPerm (iblk m c 10 t) := by
  intro r j
  have e1 : (Fin.revPerm r).val = 63 - r.val := by show r.rev.val = _; rw [Fin.val_rev]; omega
  have e2 : (Fin.revPerm j).val = 63 - j.val := by show j.rev.val = _; rw [Fin.val_rev]; omega
  refine ⟨(iblk10_at m c t _ _).trans (if_congr ?_ rfl rfl), (iblk10_at m c t _ _).trans (if_congr ?_ rfl rfl)⟩
  · show (Fin.revPerm r).val ≤ (Fin.revPerm j).val % 64 ↔ j.val ≤ r.val; omega
  · show (Fin.revPerm r).val ≤ (64 + (Fin.revPerm j).val) % 64 ↔ j.val ≤ r.val; omega
end

end Cert.KernelIdeal.Hgrn

end
-- ==== Proof.HgrnFinal.lean ====
module

public import proofs.«01_k».proof.Proof.HgrnInput

/-! The kernel's four result arrays at an index, over the extended reals. -/

@[expose] public section

set_option maxRecDepth 16384

noncomputable section

namespace Cert.KernelIdeal.Hgrn

open Cert.KernelIdeal Cert.KernelIdeal.Gen Idealize.ShloMosaic Idealize.ShloMosaic.TcCoe Idealize.SL.Sem
open Cert.Hgrn

variable (m : (ℓ : Loc nD τ sig) → Buf (Elt Ideal) ℓ)

/-- The lower bound's row at a grid point. -/
abbrev lbAt (c : Dev nD) (t : Fin cfg0.N) : FVec Ideal S1x1024 .f32 := k0_pay34 (iblk m c 6 t)

theorem lbAt_eq (c : Dev nD) (t : Fin cfg0.N) (h : Fin 8) (k : Fin 128) : lbAt m c t (ix2 0 (col h k)) = low (A1 m c) h k := by
  unfold lbAt
  rw [lower_at, iblk6_at, iblk6_at]; rfl

theorem lbAt_ne (c : Dev nD) (t : Fin cfg0.N) (n : Fin 1024) : lbAt m c t (ix2 0 n) ≠ ⊤ := by
  unfold lbAt; rw [lower_at]; exact lower_ne_top _ _

theorem time_rev (c : Fin 4) (r : Fin 64) : row (Fin.revPerm c) (Fin.revPerm r) = timeRev c r := by
  show row c.rev r.rev = (time c r).rev
  refine Fin.ext ?_
  show 64 * c.rev.val + r.rev.val = (time c r).rev.val
  rw [Fin.val_rev, Fin.val_rev, Fin.val_rev]
  show 64 * (4 - (c.val + 1)) + (64 - (r.val + 1)) = 256 - (64 * c.val + r.val + 1)
  omega

section
variable (c : Dev nD) (t : Fin cfg0.N) (h : Fin 8)

theorem gF : gC (Equiv.refl _) (Equiv.refl _) (lbAt m c t) (iblk m c 1 t) h = logS (A0 m c) (A1 m c) time (seq t) h 1 := by
  funext q r k; unfold gC cell logS gateS inp; dsimp only; rw [lbAt_eq, iblk1_at]; rfl
theorem kF : kC (Equiv.refl _) (Equiv.refl _) (lbAt m c t) (iblk m c 1 t) h = keyS (A0 m c) (A1 m c) time (seq t) h 1 := by
  funext q r k; unfold kC cell keyS gateS inp; dsimp only; rw [lbAt_eq, iblk1_at]; rfl
theorem vF : vC (Equiv.refl _) (Equiv.refl _) (iblk m c 2 t) h = inp (A0 m c) time (seq t) h 3 := by
  funext q r k; unfold vC cell inp; dsimp only; rw [iblk2_at]; rfl
theorem qF : qC (Equiv.refl _) (Equiv.refl _) (iblk m c 0 t) h = queryS (A0 m c) time (seq t) h := by
  funext q r k; unfold qC cell queryS inp; dsimp only; rw [iblk0_at]; rfl
theorem gB : gC Fin.revPerm Fin.revPerm (lbAt m c t) (iblk m c 4 t) h = logS (A0 m c) (A1 m c) timeRev (seq t) h 2 := by
  funext q r k; unfold gC cell logS gateS inp; dsimp only; rw [lbAt_eq, iblk4_at, time_rev]
theorem kB : kC Fin.revPerm Fin.revPerm (lbAt m c t) (iblk m c 4 t) h = keyS (A0 m c) (A1 m c) timeRev (seq t) h 2 := by
  funext q r k; unfold kC cell keyS gateS inp; dsimp only; rw [lbAt_eq, iblk4_at, time_rev]
theorem vB : vC Fin.revPerm Fin.revPerm (iblk m c 5 t) h = inp (A0 m c) timeRev (seq t) h 3 := by
  funext q r k; unfold vC cell inp; dsimp only; rw [iblk5_at, time_rev]
theorem qB : qC Fin.revPerm Fin.revPerm (iblk m c 3 t) h = queryS (A0 m c) timeRev (seq t) h := by
  funext q r k; unfold qC cell queryS inp; dsimp only; rw [iblk3_at, time_rev]

/-- The staged arrays of a grid point, from the start and from the end. -/
abbrev IF : Staged Ideal := staged (lbAt m c t) (iblk m c 9 t) 63 (iblk m c 0 t) (iblk m c 1 t) (iblk m c 2 t)
abbrev IB : Staged Ideal := staged (lbAt m c t) (iblk m c 10 t) 0 (iblk m c 3 t) (iblk m c 4 t) (iblk m c 5 t)

theorem startF (a : Memref sig .tc .vmem S1x8x128x128 .f32) (ha : a.IsWhole) (i j : Fin 128) : start a ha (iblk m c 7 t) h (ix2 i j) = (fun _ _ => 0 : State) i j := by
  rw [start_at]; exact iblk7_at m c t h j i
theorem startB (a : Memref sig .tc .vmem S1x8x128x128 .f32) (ha : a.IsWhole) (i j : Fin 128) : start a ha (iblk m c 8 t) h (ix2 i j) = (fun _ _ => 0 : State) i j := by
  rw [start_at]; exact iblk8_at m c t h j i

theorem stF (a : Memref sig .tc .vmem S1x8x128x128 .f32) (ha : a.IsWhole) (n : Fin 5) (i j : Fin 128) :
    (IF m c t).fwd h (start a ha (iblk m c 7 t) h) n (ix2 i j) = stateS (A0 m c) (A1 m c) time (seq t) h 1 n i j := by
  rw [fwd_at _ _ _ (triF m c t) (lbAt_ne m c t) h _ _ (startF m c t h a ha), gF, kF, vF]; rfl
theorem stB (a : Memref sig .tc .vmem S1x8x128x128 .f32) (ha : a.IsWhole) (n : Fin 5) (i j : Fin 128) :
    (IB m c t).bwd h (start a ha (iblk m c 8 t) h) n (ix2 i j) = stateS (A0 m c) (A1 m c) timeRev (seq t) h 2 n i j := by
  rw [bwd_at _ _ _ (triB m c t) (lbAt_ne m c t) h _ _ (startB m c t h a ha), gB, kB, vB]; rfl

theorem rowsF_at (a : Memref sig .tc .vmem S1x8x128x128 .f32) (ha : a.IsWhole) (ch : Fin 4) (r : Fin 64) (i : Fin 128) :
    (IF m c t).out maskF h ch (atF (IF m c t) (start a ha (iblk m c 7 t)) h ch) (ix2 r i)
      = outS (A0 m c) (A1 m c) time (seq t) h 1 ch r i := by
  have := outV_at (e := Equiv.refl _) (d := Equiv.refl _) (iblk m c 0 t) (iblk m c 1 t) (iblk m c 2 t) maskF maskF_ok (triF m c t) (lbAt_ne m c t) h ch _ _
    (stF m c t h a ha ch.castSucc) r i
  rw [gF, kF, vF, qF] at this
  exact this
theorem rowsB_at (a : Memref sig .tc .vmem S1x8x128x128 .f32) (ha : a.IsWhole) (ch : Fin 4) (r : Fin 64) (i : Fin 128) :
    (IB m c t).out maskB h ch.rev (atB (IB m c t) (start a ha (iblk m c 8 t)) h ch.rev) (ix2 r.rev i)
      = outS (A0 m c) (A1 m c) timeRev (seq t) h 2 ch r i := by
  have := outV_at (e := Fin.revPerm) (d := Fin.revPerm) (iblk m c 3 t) (iblk m c 4 t) (iblk m c 5 t) maskB maskB_ok (triB m c t) (lbAt_ne m c t) h ch _ _
    (stB m c t h a ha ch.castSucc) r i
  rw [gB, kB, vB, qB] at this
  refine Eq.trans ?_ this
  unfold atB
  rw [Fin.rev_rev]; rfl
end

theorem headOf_col (h : Fin 8) (k : Fin 128) : headOf (col h k) = h := Fin.ext (by show (128 * h.val + k.val) / 128 = h.val; omega)
theorem laneOf_col (h : Fin 8) (k : Fin 128) : laneOf (col h k) = k := Fin.ext (by show (128 * h.val + k.val) % 128 = k.val; omega)
theorem chunkOf_row (c : Fin 4) (r : Fin 64) : chunkOf (row c r) = c := Fin.ext (by show (64 * c.val + r.val) / 64 = c.val; omega)
theorem rowOf_row (c : Fin 4) (r : Fin 64) : rowOf (row c r) = r := Fin.ext (by show (64 * c.val + r.val) % 64 = r.val; omega)

theorem rows_at (I : Staged Ideal) (mask : IVec S256x256 1) (st : Fin 8 → Fin 4 → FVec Ideal S128x128 .f32) (c : Fin 4) (r : Fin 64) (h : Fin 8) (k : Fin 128) :
    rows I mask st (ix2 (row c r) (col h k)) = I.out mask h c (st h c) (ix2 r k) := by
  show I.out mask (headOf (col h k)) (chunkOf (row c r)) (st (headOf (col h k)) (chunkOf (row c r))) (ix2 (rowOf (row c r)) (laneOf (col h k))) = _
  rw [headOf_col, laneOf_col, chunkOf_row, rowOf_row]

theorem block11 (c : Dev nD) (t : Fin cfg0.N) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = rows (IF m c t) maskF (atF (IF m c t) (start (ms0_7 t) (hs0_7 t) (iblk m c 7 t))) := by
  unfold out0_A_11
  rw [View.read_writes_eq_canon _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t))]
  refine (canon11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  rw [rawF_eq c (ms0_0 t) (hs0_0 t) (ms0_1 t) (hs0_1 t) (ms0_2 t) (hs0_2 t) (ms0_6 t) (hs0_6 t) (ms0_9 t) (hs0_9 t) (iblk m c 0 t) (iblk m c 1 t) (iblk m c 2 t) (iblk m c 6 t) (iblk m c 9 t)]

theorem block12 (c : Dev nD) (t : Fin cfg0.N) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = rows (IB m c t) maskB (atB (IB m c t) (start (ms0_8 t) (hs0_8 t) (iblk m c 8 t))) := by
  unfold out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t))]
  refine (canon12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  rw [rawB_eq c (ms0_3 t) (hs0_3 t) (ms0_4 t) (hs0_4 t) (ms0_5 t) (hs0_5 t) (ms0_6 t) (hs0_6 t) (ms0_10 t) (hs0_10 t) (iblk m c 3 t) (iblk m c 4 t) (iblk m c 5 t) (iblk m c 6 t) (iblk m c 10 t)]

theorem block13 (c : Dev nD) (t : Fin cfg0.N) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = states (fun h => (IF m c t).fwd h (start (ms0_7 t) (hs0_7 t) (iblk m c 7 t) h) 4) := by
  unfold out0_A_13
  rw [View.read_writes_eq_canon _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t))]
  refine (canon13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  rw [rawF_eq c (ms0_0 t) (hs0_0 t) (ms0_1 t) (hs0_1 t) (ms0_2 t) (hs0_2 t) (ms0_6 t) (hs0_6 t) (ms0_9 t) (hs0_9 t) (iblk m c 0 t) (iblk m c 1 t) (iblk m c 2 t) (iblk m c 6 t) (iblk m c 9 t)]

theorem block14 (c : Dev nD) (t : Fin cfg0.N) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = states (fun h => (IB m c t).bwd h (start (ms0_8 t) (hs0_8 t) (iblk m c 8 t) h) 4) := by
  unfold out0_A_14
  rw [View.read_writes_eq_canon _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t))]
  refine (canon14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  rw [rawB_eq c (ms0_3 t) (hs0_3 t) (ms0_4 t) (hs0_4 t) (ms0_5 t) (hs0_5 t) (ms0_6 t) (hs0_6 t) (ms0_10 t) (hs0_10 t) (iblk m c 3 t) (iblk m c 4 t) (iblk m c 5 t) (iblk m c 6 t) (iblk m c 10 t)]

theorem arr11_at (c : Dev nD) (t : Fin cfg0.N) (h : Fin 8) (ch : Fin 4) (r : Fin 64) (k : Fin 128) :
    (dats m 0 c).arrAt 11 cfg0.N (ix2 (seqRow (seq t) (time ch r)) (lane h k)) = outS (A0 m c) (A1 m c) time (seq t) h 1 ch r k := by
  have e := congrFun (Value.blocks11 m c t (flush0_11 t)) (ix2 (time ch r) (lane h k))
  rw [Value.flushed11_A, block11] at e
  refine (Eq.trans ?_ e).trans ?_
  · blk_ext [idx_out t, seqRow, seq]
  · refine Eq.trans ?_ (rowsF_at m c t h (ms0_7 t) (hs0_7 t) ch r k)
    refine Eq.trans ?_ (rows_at _ _ _ _ _ h k)
    rfl

theorem arr12_at (c : Dev nD) (t : Fin cfg0.N) (h : Fin 8) (ch : Fin 4) (r : Fin 64) (k : Fin 128) :
    (dats m 0 c).arrAt 12 cfg0.N (ix2 (seqRow (seq t) (timeRev ch r)) (lane h k)) = outS (A0 m c) (A1 m c) timeRev (seq t) h 2 ch r k := by
  have e := congrFun (Value.blocks12 m c t (flush0_12 t)) (ix2 (timeRev ch r) (lane h k))
  rw [Value.flushed12_A, block12] at e
  refine (Eq.trans ?_ e).trans ?_
  · blk_ext [idx_out t, seqRow, seq]
  · refine Eq.trans ?_ (rowsB_at m c t h (ms0_8 t) (hs0_8 t) ch r k)
    refine Eq.trans ?_ (rows_at _ _ _ _ _ h k)
    have := time_rev ch r
    rw [← this]
    rfl

theorem arr13_at (c : Dev nD) (t : Fin cfg0.N) (h : Fin 8) (a b : Fin 128) :
    (dats m 0 c).arrAt 13 cfg0.N (ix4 (seq t) h a b) = stateS (A0 m c) (A1 m c) time (seq t) h 1 4 b a := by
  have e := congrFun (Value.blocks13 m c t (flush0_13 t)) (ix4 0 h a b)
  rw [Value.flushed13_A, block13] at e
  refine (Eq.trans ?_ e).trans ?_
  · blk_ext [idx_out t, seq]
  · refine Eq.trans ?_ (stF m c t h (ms0_7 t) (hs0_7 t) 4 b a)
    exact turn_box_at _ a b

theorem arr14_at (c : Dev nD) (t : Fin cfg0.N) (h : Fin 8) (a b : Fin 128) :
    (dats m 0 c).arrAt 14 cfg0.N (ix4 (seq t) h a b) = stateS (A0 m c) (A1 m c) timeRev (seq t) h 2 4 b a := by
  have e := congrFun (Value.blocks14 m c t (flush0_14 t)) (ix4 0 h a b)
  rw [Value.flushed14_A, block14] at e
  refine (Eq.trans ?_ e).trans ?_
  · blk_ext [idx_out t, seq]
  · refine Eq.trans ?_ (stB m c t h (ms0_8 t) (hs0_8 t) 4 b a)
    exact turn_box_at _ a b

theorem keep11 (c : Dev nD) (i : Fin 16384) (j : Fin 1024) (hi : 8192 ≤ i.val) :
    (dats m 0 c).arrAt 11 cfg0.N (ix2 i j) = m ((c : Thread nD τ).loc main_arg2) (ix2 i j) := by
  rw [Value.entry11 m c (ix2 i j) fun t _ hm => ?_]
  · entry_read
    rfl
  · have h0 := hm
    change ix2 i j ∈ ((View.whole main_v1_0).slice (win0_11.rect t)).set at h0
    rw [View.set_slice_whole, Rect.mem_set_unit] at h0
    have h1 : i.val < win0_11.index t 0 * win0_11.size 0 + win0_11.xsize (grid0.coords t) 0 := (h0 0).2
    have e : ∀ t : Fin grid0.N, win0_11.index t 0 * win0_11.size 0 + win0_11.xsize (grid0.coords t) 0 ≤ 8192 := by decide +kernel
    have := e t
    omega

theorem keep12 (c : Dev nD) (i : Fin 16384) (j : Fin 1024) (hi : 8192 ≤ i.val) :
    (dats m 0 c).arrAt 12 cfg0.N (ix2 i j) = m ((c : Thread nD τ).loc main_arg3) (ix2 i j) := by
  rw [Value.entry12 m c (ix2 i j) fun t _ hm => ?_]
  · entry_read
    rfl
  · have h0 := hm
    change ix2 i j ∈ ((View.whole main_v1_1).slice (win0_12.rect t)).set at h0
    rw [View.set_slice_whole, Rect.mem_set_unit] at h0
    have h1 : i.val < win0_12.index t 0 * win0_12.size 0 + win0_12.xsize (grid0.coords t) 0 := (h0 0).2
    have e : ∀ t : Fin grid0.N, win0_12.index t 0 * win0_12.size 0 + win0_12.xsize (grid0.coords t) 0 ≤ 8192 := by decide +kernel
    have := e t
    omega

end Cert.KernelIdeal.Hgrn

end
-- ==== Proof.HgrnRef.lean ====
module

public import proofs.«01_k».proof.Proof.Gen.ReferenceIdeal.Run
public import proofs.«01_k».proof.Proof.HgrnSpec
@[expose] public section
set_option maxRecDepth 16384
noncomputable section
namespace Cert.ReferenceIdeal.Hgrn
open Cert.ReferenceIdeal Cert.ReferenceIdeal.Gen Idealize.ShloMosaic Idealize.ShloMosaic.TcCoe Idealize.SL.Sem
open Cert.Hgrn Cert.ReferenceIdeal.Value

/-- A window sum is the initial value and the sum over the window. -/
theorem window_sum {s t u : Shape} (window strides lo hi : Fin s.rank → Nat) (x : FVec Ideal s .f32) (init : u.Idx → Ideal .f32)
    (h : s.ReduceWindows window strides lo hi t) (hu : 0 < u.numel) (j : t.Idx) :
    Host.reduceWindowAdd window strides lo hi x init h hu j
      = (init (Shape.Idx.first hu) + ∑ i : (⟨s.rank, window⟩ : Shape).Idx,
          (if hin : ∀ a, lo a ≤ (j (a.cast h.1.symm)).val * strides a + (i a).val
              ∧ (j (a.cast h.1.symm)).val * strides a + (i a).val - lo a < s.size a
            then x (fun a => ⟨(j (a.cast h.1.symm)).val * strides a + (i a).val - lo a, (hin a).2⟩)
            else init (Shape.Idx.first hu) : EReal)) := by
  have key : ∀ (l : List (Fin (⟨s.rank, window⟩ : Shape).numel)) (f : Fin (⟨s.rank, window⟩ : Shape).numel → EReal) (v : EReal),
      l.foldl (fun r n => r + f n) v = v + (l.map f).sum := by
    intro l f
    induction l with
    | nil => intro v; simp
    | cons a l ih => intro v; rw [List.foldl_cons, ih, List.map_cons, List.sum_cons, add_assoc]
  refine (key _ _ _).trans ?_
  congr 1
  rw [← List.ofFn_eq_map, List.sum_ofFn]
  rw [← Equiv.sum_comp (⟨s.rank, window⟩ : Shape).rowMajor.symm]
  refine Finset.sum_congr rfl fun i _ => ?_
  by_cases hc : ∀ a, lo a ≤ (j (a.cast h.1.symm)).val * strides a + ((⟨s.rank, window⟩ : Shape).rowMajor.symm i a).val
              ∧ (j (a.cast h.1.symm)).val * strides a + ((⟨s.rank, window⟩ : Shape).rowMajor.symm i a).val - lo a < s.size a
  · refine (dif_pos hc).trans ?_
    symm
    exact dif_pos hc
  · refine (dif_neg hc).trans ?_
    symm
    exact dif_neg hc

theorem prefix_range (y : ℕ → EReal) (r : ℕ) (hr : r < 64) :
    (∑ k ∈ Finset.range 64, if 63 ≤ r + k then y (r + k - 63) else 0) = ∑ k ∈ Finset.range 64, if k ≤ r then y k else 0 := by
  rw [← Finset.sum_range_reflect]
  have h1 : ∀ k ∈ Finset.range 64, (if 63 ≤ r + (64 - 1 - k) then y (r + (64 - 1 - k) - 63) else 0) = if k ≤ r then y (r - k) else 0 := by
    intro k hk
    have hk := Finset.mem_range.1 hk
    by_cases h : k ≤ r
    · rw [if_pos h, if_pos (by omega)]; congr 1; omega
    · rw [if_neg h, if_neg (by omega)]
  rw [Finset.sum_congr rfl h1, ← Finset.sum_filter, ← Finset.sum_filter]
  have h2 : (Finset.range 64).filter (fun k => k ≤ r) = Finset.range (r + 1) := by
    ext k; simp only [Finset.mem_filter, Finset.mem_range]; omega
  rw [h2, ← Finset.sum_range_reflect]
  refine Finset.sum_congr rfl fun k hk => ?_
  have hk := Finset.mem_range.1 hk
  congr 1; omega

/-- The running sum along the chunk's rows. -/
theorem cum5 (x : FVec Ideal S32x4x64x8x128 .f32) (z : S_.Idx → EReal) (hz : ∀ i, z i = 0) (hw) (hu) (n : Fin 32) (c : Fin 4) (r : Fin 64) (h : Fin 8) (k : Fin 128) :
    (Host.reduceWindowAdd (t := S32x4x64x8x128) (u := S_) (φ := .f32) (F := Ideal) ![1, 1, 64, 1, 1] ![1, 1, 1, 1, 1] ![0, 0, 63, 0, 0] ![0, 0, 0, 0, 0] x z hw hu (ix5 n c r h k) : EReal)
      = ∑ j, if j ≤ r then x (ix5 n c j h k) else 0 := by
  refine (window_sum _ _ _ _ x z hw hu _).trans ?_
  rw [hz, zero_add]
  have key := prefix_range (fun p => if hp : p < 64 then x (ix5 n c ⟨p, hp⟩ h k) else 0) r.val r.isLt
  rw [Finset.sum_range, Finset.sum_range] at key
  refine Eq.trans ?_ (key.trans ?_)
  · refine Fintype.sum_equiv
      { toFun := fun i : (⟨5, ![1, 1, 64, 1, 1]⟩ : Shape).Idx => (i 2 : Fin 64)
        invFun := fun k => (ix5 (0 : Fin 1) (0 : Fin 1) k (0 : Fin 1) (0 : Fin 1) : (⟨5, ![1, 1, 64, 1, 1]⟩ : Shape).Idx)
        left_inv := fun i => by
          funext a
          fin_cases a
          · exact Subsingleton.elim (α := Fin 1) _ _
          · exact Subsingleton.elim (α := Fin 1) _ _
          · rfl
          · exact Subsingleton.elim (α := Fin 1) _ _
          · exact Subsingleton.elim (α := Fin 1) _ _
        right_inv := fun k => rfl } _ _ fun i => ?_
    have e0 : (i 0).val = 0 := by have : (i 0).val < 1 := (i 0).isLt; omega
    have e1 : (i 1).val = 0 := by have : (i 1).val < 1 := (i 1).isLt; omega
    have e3 : (i 3).val = 0 := by have : (i 3).val < 1 := (i 3).isLt; omega
    have e4 : (i 4).val = 0 := by have : (i 4).val < 1 := (i 4).isLt; omega
    have hi2 : (i 2).val < 64 := (i 2).isLt
    have hr := r.isLt
    show _ = if 63 ≤ r.val + (i 2).val then _ else _
    by_cases hc : 63 ≤ r.val + (i 2).val
    · rw [if_pos hc]
      have hin : ∀ a : Fin 5, (![0, 0, 63, 0, 0] : Fin 5 → ℕ) a ≤ ((ix5 n c r h k : S32x4x64x8x128.Idx) a).val * (![1, 1, 1, 1, 1] : Fin 5 → ℕ) a + (i a).val
          ∧ ((ix5 n c r h k : S32x4x64x8x128.Idx) a).val * (![1, 1, 1, 1, 1] : Fin 5 → ℕ) a + (i a).val - (![0, 0, 63, 0, 0] : Fin 5 → ℕ) a < S32x4x64x8x128.size a := by
        intro a
        fin_cases a
        · exact ⟨Nat.zero_le _, (show n.val * 1 + (i 0).val - 0 < 32 by omega)⟩
        · exact ⟨Nat.zero_le _, (show c.val * 1 + (i 1).val - 0 < 4 by omega)⟩
        · exact ⟨(show 63 ≤ r.val * 1 + (i 2).val by omega), (show r.val * 1 + (i 2).val - 63 < 64 by omega)⟩
        · exact ⟨Nat.zero_le _, (show h.val * 1 + (i 3).val - 0 < 8 by omega)⟩
        · exact ⟨Nat.zero_le _, (show k.val * 1 + (i 4).val - 0 < 128 by omega)⟩
      refine (dif_pos hin).trans ?_
      symm
      refine (dif_pos (show r.val + (i 2).val - 63 < 64 by omega)).trans ?_
      symm
      refine congrArg x ?_
      funext a
      fin_cases a
      · exact Fin.ext (show n.val * 1 + (i 0).val - 0 = n.val by omega)
      · exact Fin.ext (show c.val * 1 + (i 1).val - 0 = c.val by omega)
      · exact Fin.ext (show r.val * 1 + (i 2).val - 63 = r.val + (i 2).val - 63 by omega)
      · exact Fin.ext (show h.val * 1 + (i 3).val - 0 = h.val by omega)
      · exact Fin.ext (show k.val * 1 + (i 4).val - 0 = k.val by omega)
    · rw [if_neg hc]
      refine dif_neg fun hin => hc ?_
      have := (hin 2).1
      have : 63 ≤ r.val * 1 + (i 2).val := this
      omega
  · refine Finset.sum_congr rfl fun j _ => ?_
    rw [dif_pos j.isLt]
    rfl

/-- The two-row running sum's last row. -/
theorem cum2 (x : FVec Ideal S2x1024 .f32) (z : S_.Idx → EReal) (hz : ∀ i, z i = 0) (hw) (hu) (k : Fin 1024) :
    (Host.reduceWindowAdd (t := S2x1024) (u := S_) (φ := .f32) (F := Ideal) ![2, 1] ![1, 1] ![1, 0] ![0, 0] x z hw hu (ix2 (1 : Fin 2) k) : EReal)
      = x (ix2 (0 : Fin 2) k) + x (ix2 (1 : Fin 2) k) := by
  refine (window_sum _ _ _ _ x z hw hu _).trans ?_
  rw [hz, zero_add, ← Fin.sum_univ_two (fun i : Fin 2 => (x (ix2 i k) : EReal))]
  refine Fintype.sum_equiv
      { toFun := fun i : (⟨2, ![2, 1]⟩ : Shape).Idx => (i 0 : Fin 2)
        invFun := fun k => (ix2 k (0 : Fin 1) : (⟨2, ![2, 1]⟩ : Shape).Idx)
        left_inv := fun i => by
          funext a
          fin_cases a
          · rfl
          · exact Subsingleton.elim (α := Fin 1) _ _
        right_inv := fun k => rfl } _ _ fun i => ?_
  have e1 : (i 1).val = 0 := by have : (i 1).val < 1 := (i 1).isLt; omega
  have hi : (i 0).val < 2 := (i 0).isLt
  have hin : ∀ a : Fin 2, (![1, 0] : Fin 2 → ℕ) a ≤ ((ix2 (1 : Fin 2) k : S2x1024.Idx) a).val * (![1, 1] : Fin 2 → ℕ) a + (i a).val
          ∧ ((ix2 (1 : Fin 2) k : S2x1024.Idx) a).val * (![1, 1] : Fin 2 → ℕ) a + (i a).val - (![1, 0] : Fin 2 → ℕ) a < S2x1024.size a := by
    intro a
    fin_cases a
    · exact ⟨(show 1 ≤ 1 * 1 + (i 0).val by omega), (show 1 * 1 + (i 0).val - 1 < 2 by omega)⟩
    · exact ⟨Nat.zero_le _, (show k.val * 1 + (i 1).val - 0 < 1024 by omega)⟩
  refine (dif_pos hin).trans (congrArg x ?_)
  funext a
  fin_cases a
  · exact Fin.ext (show 1 * 1 + (i 0).val - 1 = (i 0).val by omega)
  · exact Fin.ext (show k.val * 1 + (i 1).val - 0 = k.val by omega)

theorem zero_S_ (i : S_.Idx) : broadcastInDim S_ ![] bcast_S_S_ (constant (F := Ideal) S_ .f32 0x00000000#32) i = (0 : EReal) := by
  pointwise []

variable (V : Valuation τ sig (Elt Ideal))
/-- The projected array and the two logit rows. -/
abbrev B0 : Fin 16384 → Fin 5120 → EReal := fun i j => V (Proc.devRef .tc main_arg0) (ix2 i j)
abbrev B1 : Fin 2 → Fin 1024 → EReal := fun i j => V (Proc.devRef .tc main_arg1) (ix2 i j)

theorem drop_at (i : S2x1024.Idx) (k : Fin 1024) : reducesTo_S2x1024_S1024_d0.drop i = ix1 k ↔ i 1 = k := by
  have e : reducesTo_S2x1024_S1024_d0.drop i = ix1 (i 1) := by
    funext a
    fin_cases a
    rfl
  rw [e]
  exact ⟨fun h => congrFun h 0, fun h => congrArg (fun k : Fin 1024 => ix1 k) h⟩

theorem fold_rows (g : S2x1024.Idx → EReal) (b : EReal) (k : Fin 1024) :
    Finset.fold max b g {i | reducesTo_S2x1024_S1024_d0.drop i = ix1 k} = max (g (ix2 (0 : Fin 2) k)) (max (g (ix2 (1 : Fin 2) k)) b) := by
  have hs : ({i | reducesTo_S2x1024_S1024_d0.drop i = ix1 k} : Finset S2x1024.Idx) = {ix2 (0 : Fin 2) k, ix2 (1 : Fin 2) k} := by
    ext i
    simp only [Finset.mem_filter, Finset.mem_univ, true_and, Finset.mem_insert, Finset.mem_singleton, drop_at]
    constructor
    · intro h
      have h2 : i = ix2 (i 0) k := by rw [← h]; exact eq_ix2 i
      have : ∀ q : Fin 2, q = 0 ∨ q = 1 := by decide
      rcases this (i 0) with h0 | h0
      · left; exact h2.trans (congrArg (fun q : Fin 2 => (ix2 q k : S2x1024.Idx)) h0)
      · right; exact h2.trans (congrArg (fun q : Fin 2 => (ix2 q k : S2x1024.Idx)) h0)
    · rintro (h | h) <;> rw [h] <;> rfl
  rw [hs, Finset.fold_insert, Finset.fold_singleton]
  intro h
  have := congrFun (Finset.mem_singleton.1 h) 0
  exact absurd (show (0 : Fin 2) = 1 from this) (by decide)

abbrev E6 (i : Fin 2) (k : Fin 1024) : EReal := res_main_v6 V (ix2 i k)
abbrev E10 (i : Fin 2) (k : Fin 1024) : EReal := res_main_v10 V (ix2 i k)

theorem v6_at (i : Fin 2) (k : Fin 1024) : E6 V i k = Ideal.exp (B1 V i k - max (B1 V 0 k) (B1 V 1 k)) := by
  unfold E6
  pointwise [res_main_v6]
  refine congrArg (fun x => Ideal.exp (B1 V i k - x)) ?_
  refine (congrArg (fun x => max (Ideal.ofBits FTy.f32 4286578688#32) x) (fold_rows (fun i => V (Proc.devRef .tc main_arg1) i) _ k)).trans ?_
  have hb : Ideal.ofBits FTy.f32 4286578688#32 = ⊥ := by simp [Ideal.ofBits, Ideal.ieee]
  rw [hb, max_bot_right, max_bot_left]
theorem v10_at (i : Fin 2) (k : Fin 1024) : E10 V i k = Ideal.div (E6 V i k) (E6 V 0 k + E6 V 1 k) := by
  unfold E10
  pointwise [res_main_v10]
  rw [Fin.sum_univ_two]
theorem v18_at (k : Fin 1024) : res_main_v18 V (ix1 k) = (E10 V 0 k + E10 V 1 k) - E10 V 0 k := by
  pointwise [res_main_v18]
  rw [cum2 _ _ zero_S_]
theorem v18_low (k : Fin 1024) : res_main_v18 V (ix1 k) = lower (B1 V 0 k) (B1 V 1 k) := by
  rw [v18_at, v10_at, v10_at, v6_at, v6_at]; rfl

theorem arg0 {i i' : Fin 16384} {j j' : Fin 5120} (hi : i.val = i'.val) (hj : j.val = j'.val) :
    V (Proc.devRef .tc main_arg0) (ix2 i j) = V (Proc.devRef .tc main_arg0) (ix2 i' j') := by
  rw [Fin.ext hi, Fin.ext hj]
theorem time_eq (c : Fin 4) (r : Fin 64) (hp : c.val * 64 + r.val < 256) : (⟨c.val * 64 + r.val, hp⟩ : Fin 256) = time c r :=
  Fin.ext (show c.val * 64 + r.val = 64 * c.val + r.val by omega)
theorem lane_eq (h : Fin 8) (k : Fin 128) (hp : h.val * 128 + k.val < 1024) : (⟨h.val * 128 + k.val, hp⟩ : Fin 1024) = lane h k :=
  Fin.ext (show h.val * 128 + k.val = 128 * h.val + k.val by omega)
theorem v28_at (n : Fin 32) (t : Fin 256) (h : Fin 8) (k : Fin 128) :
    res_main_v28 V (ix4 n t h k) = B0 V (seqRow n t) (field 3 h k) := by
  pointwise [res_main_v28, res_main_v20]
  exact arg0 V (by show n.val * 256 + t.val = 256 * n.val + t.val; omega) (by show 3072 + (h.val * 128 + k.val) = 1024 * 3 + (128 * h.val + k.val); omega)
theorem v21_at (n : Fin 32) (t : Fin 256) (h : Fin 8) (k : Fin 128) :
    res_main_v21 V (ix3 n t (lane h k)) = B0 V (seqRow n t) (field 0 h k) := by
  pointwise [res_main_v21, res_main_v20]
  exact arg0 V (by show n.val * 256 + t.val = 256 * n.val + t.val; omega) (by show 128 * h.val + k.val = 1024 * 0 + (128 * h.val + k.val); omega)
theorem v27_at (n : Fin 32) (t : Fin 256) (h : Fin 8) (k : Fin 128) :
    res_main_v27 V (ix4 n t h k) = B0 V (seqRow n t) (field 0 h k) * sigm (B0 V (seqRow n t) (field 0 h k)) := by
  pointwise [res_main_v27]
  rw [lane_eq, v21_at]
  unfold sigm
  rw [zero_sub]
theorem v29_at (i : S32x8x128x128.Idx) : res_main_v29 V i = (0 : EReal) := by
  pointwise [res_main_v29]
theorem rev_at (x : S32x256x8x128.Idx → EReal) (n : Fin 32) (t : Fin 256) (h : Fin 8) (k : Fin 128) :
    Host.reverse [1] x (ix4 n t h k) = x (ix4 n t.rev h k) := by
  pointwise []
  rfl
theorem split_at (x : S32x256x8x128.Idx → EReal) (n : Fin 32) (c : Fin 4) (r : Fin 64) (h : Fin 8) (k : Fin 128) :
    shapeCast S32x4x64x8x128 x shapeCasts_S32x256x8x128_S32x4x64x8x128 (ix5 n c r h k) = x (ix4 n (time c r) h k) := by
  pointwise []
  rw [time_eq]

/-! ### The direction F -/
theorem fF_at (n : Fin 32) (c : Fin 4) (r : Fin 64) (h : Fin 8) (k : Fin 128) :
    res_main_v43 V (ix3 n (time c r) (lane h k)) = gateS (B0 V) (B1 V) time n h 1 c r k := by
  pointwise [res_main_v43, res_main_v20]
  rw [v18_low]
  unfold gateS gate low sigm
  rw [zero_sub]
  refine congrArg (fun x => lower (B1 V 0 (lane h k)) (B1 V 1 (lane h k)) + (1 - lower (B1 V 0 (lane h k)) (B1 V 1 (lane h k))) * Ideal.div 1 (1 + Ideal.exp (-x))) ?_
  exact arg0 V (by show n.val * 256 + (time c r).val = 256 * n.val + (time c r).val; omega) (by show 1024 + (128 * h.val + k.val) = 1024 * 1 + (128 * h.val + k.val); omega)
theorem kF_at (n : Fin 32) (c : Fin 4) (r : Fin 64) (h : Fin 8) (k : Fin 128) :
    res_main_v50 V (ix5 n c r h k) = keyS (B0 V) (B1 V) time n h 1 c r k := by
  unfold res_main_v50
  refine (split_at _ n c r h k).trans ?_
  pointwise []
  rw [lane_eq]
  exact congrArg (fun x : EReal => 1 - x) (fF_at V n c r h k)
theorem vF_at (n : Fin 32) (c : Fin 4) (r : Fin 64) (h : Fin 8) (k : Fin 128) :
    res_main_v51 V (ix5 n c r h k) = inp (B0 V) time n h 3 c r k := by
  unfold res_main_v51
  refine (split_at _ n c r h k).trans ?_
  exact v28_at V n (time c r) h k
theorem gF_at (n : Fin 32) (c : Fin 4) (r : Fin 64) (h : Fin 8) (k : Fin 128) :
    res_main_v53 V (ix5 n c r h k) = cum (logS (B0 V) (B1 V) time n h 1) c r k := by
  unfold res_main_v53
  refine (cum5 _ _ zero_S_ _ _ n c r h k).trans ?_
  unfold cum
  refine Finset.sum_congr rfl fun j _ => ?_
  split_ifs with hj
  · refine (split_at _ n c j h k).trans ?_
    pointwise []
    rw [lane_eq]
    exact congrArg Ideal.log (fF_at V n c j h k)
  · rfl
theorem qF_at (n : Fin 32) (c : Fin 4) (r : Fin 64) (h : Fin 8) (k : Fin 128) :
    res_main_v56 V (ix5 n c r h k) = queryS (B0 V) time n h c r k * Ideal.exp (cum (logS (B0 V) (B1 V) time n h 1) c r k) := by
  rw [← gF_at]
  unfold res_main_v56
  refine congrArg (fun x : EReal => x * Ideal.exp (res_main_v53 V (ix5 n c r h k))) ?_
  refine (split_at _ n c r h k).trans ?_
  exact v27_at V n (time c r) h k
theorem kvF_at (n : Fin 32) (c : Fin 4) (h : Fin 8) (k v : Fin 128) :
    @Eq EReal (res_main_v70 V (ix5 n c h k v)) (∑ r, inp (B0 V) time n h 3 c r v * (keyS (B0 V) (B1 V) time n h 1 c r k
      * Ideal.exp (cum (logS (B0 V) (B1 V) time n h 1) c 63 k - cum (logS (B0 V) (B1 V) time n h 1) c r k))) := by
  pointwise [res_main_v70, res_main_v54]
  refine Finset.sum_congr rfl fun r _ => ?_
  rw [kF_at, vF_at, gF_at, gF_at, mul_comm]
theorem decF_at (n : Fin 32) (c : Fin 4) (h : Fin 8) (k : Fin 128) :
    res_main_v72 V (ix4 n c h k) = Ideal.exp (cum (logS (B0 V) (B1 V) time n h 1) c 63 k) := by
  pointwise [res_main_v72, res_main_v54]
  rw [gF_at]
theorem s1F_at (n : Fin 32) (h : Fin 8) (k v : Fin 128) :
    res_main_v80 V (ix4 n h k v) = stateS (B0 V) (B1 V) time n h 1 1 v k := by
  pointwise [res_main_v80]
  rw [decF_at, kvF_at, v29_at]
  rfl
theorem s2F_at (n : Fin 32) (h : Fin 8) (k v : Fin 128) :
    res_main_v88 V (ix4 n h k v) = stateS (B0 V) (B1 V) time n h 1 2 v k := by
  pointwise [res_main_v88]
  rw [decF_at, kvF_at, s1F_at]
  rfl
theorem s3F_at (n : Fin 32) (h : Fin 8) (k v : Fin 128) :
    res_main_v96 V (ix4 n h k v) = stateS (B0 V) (B1 V) time n h 1 3 v k := by
  pointwise [res_main_v96]
  rw [decF_at, kvF_at, s2F_at]
  rfl

/-! ### The direction B -/
theorem fB_at (n : Fin 32) (c : Fin 4) (r : Fin 64) (h : Fin 8) (k : Fin 128) :
    res_main_v130 V (ix3 n (timeRev c r) (lane h k)) = gateS (B0 V) (B1 V) timeRev n h 2 c r k := by
  pointwise [res_main_v130, res_main_v20]
  rw [v18_low]
  unfold gateS gate low sigm
  rw [zero_sub]
  refine congrArg (fun x => lower (B1 V 0 (lane h k)) (B1 V 1 (lane h k)) + (1 - lower (B1 V 0 (lane h k)) (B1 V 1 (lane h k))) * Ideal.div 1 (1 + Ideal.exp (-x))) ?_
  exact arg0 V (by show n.val * 256 + (timeRev c r).val = 256 * n.val + (timeRev c r).val; omega) (by show 2048 + (128 * h.val + k.val) = 1024 * 2 + (128 * h.val + k.val); omega)
theorem kB_at (n : Fin 32) (c : Fin 4) (r : Fin 64) (h : Fin 8) (k : Fin 128) :
    res_main_v141 V (ix5 n c r h k) = keyS (B0 V) (B1 V) timeRev n h 2 c r k := by
  unfold res_main_v141
  refine ((split_at _ n c r h k).trans (rev_at _ n _ h k)).trans ?_
  pointwise []
  rw [lane_eq]
  exact congrArg (fun x : EReal => 1 - x) (fB_at V n c r h k)
theorem vB_at (n : Fin 32) (c : Fin 4) (r : Fin 64) (h : Fin 8) (k : Fin 128) :
    res_main_v142 V (ix5 n c r h k) = inp (B0 V) timeRev n h 3 c r k := by
  unfold res_main_v142
  refine ((split_at _ n c r h k).trans (rev_at _ n _ h k)).trans ?_
  exact v28_at V n (timeRev c r) h k
theorem gB_at (n : Fin 32) (c : Fin 4) (r : Fin 64) (h : Fin 8) (k : Fin 128) :
    res_main_v144 V (ix5 n c r h k) = cum (logS (B0 V) (B1 V) timeRev n h 2) c r k := by
  unfold res_main_v144
  refine (cum5 _ _ zero_S_ _ _ n c r h k).trans ?_
  unfold cum
  refine Finset.sum_congr rfl fun j _ => ?_
  split_ifs with hj
  · refine ((split_at _ n c j h k).trans (rev_at _ n _ h k)).trans ?_
    pointwise []
    rw [lane_eq]
    exact congrArg Ideal.log (fB_at V n c j h k)
  · rfl
theorem qB_at (n : Fin 32) (c : Fin 4) (r : Fin 64) (h : Fin 8) (k : Fin 128) :
    res_main_v147 V (ix5 n c r h k) = queryS (B0 V) timeRev n h c r k * Ideal.exp (cum (logS (B0 V) (B1 V) timeRev n h 2) c r k) := by
  rw [← gB_at]
  unfold res_main_v147
  refine congrArg (fun x : EReal => x * Ideal.exp (res_main_v144 V (ix5 n c r h k))) ?_
  refine ((split_at _ n c r h k).trans (rev_at _ n _ h k)).trans ?_
  exact v27_at V n (timeRev c r) h k
theorem kvB_at (n : Fin 32) (c : Fin 4) (h : Fin 8) (k v : Fin 128) :
    @Eq EReal (res_main_v161 V (ix5 n c h k v)) (∑ r, inp (B0 V) timeRev n h 3 c r v * (keyS (B0 V) (B1 V) timeRev n h 2 c r k
      * Ideal.exp (cum (logS (B0 V) (B1 V) timeRev n h 2) c 63 k - cum (logS (B0 V) (B1 V) timeRev n h 2) c r k))) := by
  pointwise [res_main_v161, res_main_v145]
  refine Finset.sum_congr rfl fun r _ => ?_
  rw [kB_at, vB_at, gB_at, gB_at, mul_comm]
theorem decB_at (n : Fin 32) (c : Fin 4) (h : Fin 8) (k : Fin 128) :
    res_main_v163 V (ix4 n c h k) = Ideal.exp (cum (logS (B0 V) (B1 V) timeRev n h 2) c 63 k) := by
  pointwise [res_main_v163, res_main_v145]
  rw [gB_at]
theorem s1B_at (n : Fin 32) (h : Fin 8) (k v : Fin 128) :
    res_main_v171 V (ix4 n h k v) = stateS (B0 V) (B1 V) timeRev n h 2 1 v k := by
  pointwise [res_main_v171]
  rw [decB_at, kvB_at, v29_at]
  rfl
theorem s2B_at (n : Fin 32) (h : Fin 8) (k v : Fin 128) :
    res_main_v179 V (ix4 n h k v) = stateS (B0 V) (B1 V) timeRev n h 2 2 v k := by
  pointwise [res_main_v179]
  rw [decB_at, kvB_at, s1B_at]
  rfl
theorem s3B_at (n : Fin 32) (h : Fin 8) (k v : Fin 128) :
    res_main_v187 V (ix4 n h k v) = stateS (B0 V) (B1 V) timeRev n h 2 3 v k := by
  pointwise [res_main_v187]
  rw [decB_at, kvB_at, s2B_at]
  rfl

end Cert.ReferenceIdeal.Hgrn
end
-- ==== Proof.HgrnRows.lean ====
module

public import proofs.«01_k».proof.Proof.Gen.ReferenceIdeal.Run
public import proofs.«01_k».proof.Proof.HgrnRef
@[expose] public section
set_option maxRecDepth 16384
noncomputable section
namespace Cert.ReferenceIdeal.Hgrn
open Cert.ReferenceIdeal Cert.ReferenceIdeal.Gen Idealize.ShloMosaic Idealize.ShloMosaic.TcCoe Idealize.SL.Sem
open Cert.Hgrn Cert.ReferenceIdeal.Value

variable (V : Valuation τ sig (Elt Ideal))

/-! ### The results of the direction F -/
def lastF : FVec Ideal S32x8x128x128 .f32 := addf (mulf (broadcastInDim S32x8x128x128 ![0, 1, 2, 3] bcast_S32x8x128x1_S32x8x128x128_0_1_2_3 (broadcastInDim S32x8x128x1 ![0, 1, 2] bcast_S32x8x128_S32x8x128x1_0_1_2 (shapeCast _ (extractStridedSlice S32x1x8x128 ![0, 3, 0, 0] (res_main_v72 V) slices_S32x4x8x128_S32x1x8x128_0_3_0_0) shapeCasts_S32x1x8x128_S32x8x128))) (res_main_v96 V)) (shapeCast _ (extractStridedSlice S32x1x8x128x128 ![0, 3, 0, 0, 0] (res_main_v70 V) slices_S32x4x8x128x128_S32x1x8x128x128_0_3_0_0_0) shapeCasts_S32x1x8x128x128_S32x8x128x128)
theorem s4F_at (n : Fin 32) (h : Fin 8) (k v : Fin 128) :
    lastF V (ix4 n h k v) = stateS (B0 V) (B1 V) time n h 1 4 v k := by
  pointwise [lastF]
  rw [decF_at, kvF_at, s3F_at]
  rfl

def stackOf (s0 s1 s2 s3 : FVec Ideal S32x8x128x128 .f32) : FVec Ideal S32x4x8x128x128 .f32 := (concatenate S32x4x8x128x128 1 [⟨S32x1x8x128x128, ((broadcastInDim S32x1x8x128x128 ![0, 2, 3, 4] bcast_S32x8x128x128_S32x1x8x128x128_0_2_3_4 s0) : (⟨S32x1x8x128x128, .f32⟩ : BufTy).Contents (Elt Ideal))⟩, ⟨S32x1x8x128x128, ((broadcastInDim S32x1x8x128x128 ![0, 2, 3, 4] bcast_S32x8x128x128_S32x1x8x128x128_0_2_3_4 s1) : (⟨S32x1x8x128x128, .f32⟩ : BufTy).Contents (Elt Ideal))⟩, ⟨S32x1x8x128x128, ((broadcastInDim S32x1x8x128x128 ![0, 2, 3, 4] bcast_S32x8x128x128_S32x1x8x128x128_0_2_3_4 s2) : (⟨S32x1x8x128x128, .f32⟩ : BufTy).Contents (Elt Ideal))⟩, ⟨S32x1x8x128x128, ((broadcastInDim S32x1x8x128x128 ![0, 2, 3, 4] bcast_S32x8x128x128_S32x1x8x128x128_0_2_3_4 s3) : (⟨S32x1x8x128x128, .f32⟩ : BufTy).Contents (Elt Ideal))⟩] concatenates_S32x1x8x128x128_S32x1x8x128x128_S32x1x8x128x128_S32x1x8x128x128_S32x4x8x128x128_d1 : (⟨S32x4x8x128x128, .f32⟩ : BufTy).Contents (Elt Ideal))

theorem mask_bit : ∀ r j : Fin 64, Scalar.select (IntOp.cmpi CmpIPredicate.sge (IntOp.addi (BitVec.ofNat 32 r.val) 0#32) (BitVec.ofNat 32 j.val)) 1#1 0#1
    = if j ≤ r then 1#1 else 0#1 := by decide +kernel
theorem mask_at (r j : Fin 64) (x y : EReal) :
    Scalar.select (Scalar.select (IntOp.cmpi CmpIPredicate.sge (IntOp.addi (BitVec.ofNat 32 r.val) 0#32) (BitVec.ofNat 32 j.val)) 1#1 0#1) x y
      = if j ≤ r then x else y := by
  rw [mask_bit]
  by_cases h : j ≤ r
  · rw [if_pos h, if_pos h]; rfl
  · rw [if_neg h, if_neg h]; rfl
theorem ix5_eq {n n' : Fin 32} {c c' : Fin 4} {r r' : Fin 64} {h h' : Fin 8} {a a' : Fin 128} (e1 : n.val = n'.val) (e2 : c.val = c'.val)
    (e3 : r.val = r'.val) (e4 : h.val = h'.val) (e5 : a.val = a'.val) : (ix5 n c r h a : S32x4x64x8x128.Idx) = ix5 n' c' r' h' a' := by
  rw [Fin.ext e1, Fin.ext e2, Fin.ext e3, Fin.ext e4, Fin.ext e5]
/-- The rows of a direction from its arrays. -/
def rowsOf (Q K Y G : FVec Ideal S32x4x64x8x128 .f32) (s0 s1 s2 s3 : FVec Ideal S32x8x128x128 .f32) : FVec Ideal S32x4x64x8x128 .f32 :=
  addf (transpose S32x4x64x8x128 [0, 1, 4, 2, 3] (Host.dotGeneral dot_S32x4x64x8x128_S32x4x8x64x64_S32x4x8x128x64_2_4_4_3_013_012 none Y (select (broadcastInDim S32x4x8x64x64 ![3, 4] bcast_S64x64_S32x4x8x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x8x128_S32x4x64x8x128_S32x4x8x64x64_4_4_2_2_013_013 none Q (mulf K (Host.exp (Host.negf G)))) (broadcastInDim S32x4x8x64x64 ![] bcast_S_S32x4x8x64x64 (id (constant S_ .f32 0x00000000#32))))) transposes_S32x4x8x128x64_S32x4x64x8x128_0_1_4_2_3) (transpose S32x4x64x8x128 [0, 1, 4, 2, 3] (Host.dotGeneral dot_S32x4x8x128x128_S32x4x64x8x128_S32x4x8x128x64_3_4_4_2_012_013 none (stackOf s0 s1 s2 s3) Q) transposes_S32x4x8x128x64_S32x4x64x8x128_0_1_4_2_3)
theorem rowsOf_at (Q K Y G : FVec Ideal S32x4x64x8x128 .f32) (s0 s1 s2 s3 : FVec Ideal S32x8x128x128 .f32)
    (n : Fin 32) (c : Fin 4) (r : Fin 64) (h : Fin 8) (a : Fin 128) :
    @Eq EReal (rowsOf Q K Y G s0 s1 s2 s3 (ix5 n c r h a)) ((∑ j, Y (ix5 n c j h a) *
        (if j ≤ r then ∑ k, Q (ix5 n c r h k) * (K (ix5 n c j h k) * Ideal.exp (-G (ix5 n c j h k))) else 0))
      + ∑ k, (if c.val < 1 then s0 (ix4 n h k a) else if c.val - 1 < 1 then s1 (ix4 n h k a)
          else if c.val - 1 - 1 < 1 then s2 (ix4 n h k a) else s3 (ix4 n h k a)) * Q (ix5 n c r h k)) := by
  pointwise [rowsOf, stackOf]
  refine congrArg₂ (fun x y : EReal => x + y) (Finset.sum_congr rfl fun j _ => ?_) rfl
  refine congrArg (fun x : EReal => Y (ix5 n c j h a) * x) ?_
  exact (mask_at r j _ _).trans (by rw [show id (constant (F := Ideal) S_ FTy.f32 0#32) ix0 = (0 : EReal) from Ideal.ofBits_zero_f32])

def rowsF : FVec Ideal S32x4x64x8x128 .f32 := rowsOf (res_main_v56 V) (res_main_v50 V) (res_main_v51 V) (res_main_v53 V) (res_main_v29 V) (res_main_v80 V) (res_main_v88 V) (res_main_v96 V)
def wholeF : FVec Ideal S16384x1024 .f32 := concatenate S16384x1024 0 [⟨S8192x1024, (shapeCast _ (shapeCast _ (rowsF V) shapeCasts_S32x4x64x8x128_S32x256x8x128) shapeCasts_S32x256x8x128_S8192x1024)⟩, ⟨S8192x1024, (extractStridedSlice S8192x1024 ![8192, 0] (V (Proc.devRef .tc main_arg2)) slices_S16384x1024_S8192x1024_8192_0)⟩] concatenates_S8192x1024_S8192x1024_S16384x1024_d0

theorem rowsF_at (n : Fin 32) (c : Fin 4) (r : Fin 64) (h : Fin 8) (a : Fin 128) :
    rowsF V (ix5 n c r h a) = outS (B0 V) (B1 V) time n h 1 c r a := by
  unfold rowsF
  rw [rowsOf_at]
  unfold outS output
  refine congrArg₂ (fun x y : EReal => x + y) (Finset.sum_congr rfl fun j _ => ?_) (Finset.sum_congr rfl fun k _ => ?_)
  · rw [vF_at]
    by_cases hj : j ≤ r
    · rw [if_pos hj, if_pos hj, mul_comm]
      refine congrArg (fun x : EReal => x * inp (B0 V) time n h 3 c j a) (Finset.sum_congr rfl fun k _ => ?_)
      rw [qF_at, kF_at, gF_at, zero_sub]
    · rw [if_neg hj, if_neg hj, mul_zero]
  · rw [qF_at, mul_comm, v29_at, s1F_at, s2F_at, s3F_at]
    refine congrArg (fun x : EReal => (queryS (B0 V) time n h c r k * Ideal.exp (cum (logS (B0 V) (B1 V) time n h 1) c r k)) * x) ?_
    fin_cases c <;> rfl
theorem wholeF_at (n : Fin 32) (c : Fin 4) (r : Fin 64) (h : Fin 8) (a : Fin 128) :
    wholeF V (ix2 (seqRow n (time c r)) (lane h a)) = outS (B0 V) (B1 V) time n h 1 c r a := by
  pointwise [wholeF]
  have hc := c.isLt
  have hr := r.isLt
  have hn := n.isLt
  have hh := h.isLt
  have ha := a.isLt
  refine (dif_pos (show 256 * n.val + (64 * c.val + r.val) < 8192 by omega)).trans ?_
  refine (congrArg (rowsF V) (ix5_eq ?_ ?_ ?_ ?_ ?_)).trans (rowsF_at V n c r h a)
  · show (256 * n.val + (64 * c.val + r.val)) / 256 = n.val
    omega
  · show (256 * n.val + (64 * c.val + r.val)) / 64 % 4 = c.val
    omega
  · show (256 * n.val + (64 * c.val + r.val)) % 64 = r.val
    omega
  · show (128 * h.val + a.val) / 128 = h.val
    omega
  · show (128 * h.val + a.val) % 128 = a.val
    omega
theorem keepF_at (i : Fin 16384) (j : Fin 1024) (hi : 8192 ≤ i.val) :
    wholeF V (ix2 i j) = V (Proc.devRef .tc main_arg2) (ix2 i j) := by
  pointwise [wholeF]
  rw [dif_neg (by omega)]
  refine congrArg (fun i : Fin 16384 => V (Proc.devRef .tc main_arg2) (ix2 i j)) (Fin.ext ?_)
  show 8192 + (i.val - 8192) = i.val
  omega

/-! ### The results of the direction B -/
def lastB : FVec Ideal S32x8x128x128 .f32 := addf (mulf (broadcastInDim S32x8x128x128 ![0, 1, 2, 3] bcast_S32x8x128x1_S32x8x128x128_0_1_2_3 (broadcastInDim S32x8x128x1 ![0, 1, 2] bcast_S32x8x128_S32x8x128x1_0_1_2 (shapeCast _ (extractStridedSlice S32x1x8x128 ![0, 3, 0, 0] (res_main_v163 V) slices_S32x4x8x128_S32x1x8x128_0_3_0_0) shapeCasts_S32x1x8x128_S32x8x128))) (res_main_v187 V)) (shapeCast _ (extractStridedSlice S32x1x8x128x128 ![0, 3, 0, 0, 0] (res_main_v161 V) slices_S32x4x8x128x128_S32x1x8x128x128_0_3_0_0_0) shapeCasts_S32x1x8x128x128_S32x8x128x128)
theorem s4B_at (n : Fin 32) (h : Fin 8) (k v : Fin 128) :
    lastB V (ix4 n h k v) = stateS (B0 V) (B1 V) timeRev n h 2 4 v k := by
  pointwise [lastB]
  rw [decB_at, kvB_at, s3B_at]
  rfl

def rowsB : FVec Ideal S32x4x64x8x128 .f32 := rowsOf (res_main_v147 V) (res_main_v141 V) (res_main_v142 V) (res_main_v144 V) (res_main_v29 V) (res_main_v171 V) (res_main_v179 V) (res_main_v187 V)
def wholeB : FVec Ideal S16384x1024 .f32 := concatenate S16384x1024 0 [⟨S8192x1024, (shapeCast _ (Host.reverse [1] (shapeCast _ (rowsB V) shapeCasts_S32x4x64x8x128_S32x256x8x128)) shapeCasts_S32x256x8x128_S8192x1024)⟩, ⟨S8192x1024, (extractStridedSlice S8192x1024 ![8192, 0] (V (Proc.devRef .tc main_arg3)) slices_S16384x1024_S8192x1024_8192_0)⟩] concatenates_S8192x1024_S8192x1024_S16384x1024_d0

theorem rowsB_at (n : Fin 32) (c : Fin 4) (r : Fin 64) (h : Fin 8) (a : Fin 128) :
    rowsB V (ix5 n c r h a) = outS (B0 V) (B1 V) timeRev n h 2 c r a := by
  unfold rowsB
  rw [rowsOf_at]
  unfold outS output
  refine congrArg₂ (fun x y : EReal => x + y) (Finset.sum_congr rfl fun j _ => ?_) (Finset.sum_congr rfl fun k _ => ?_)
  · rw [vB_at]
    by_cases hj : j ≤ r
    · rw [if_pos hj, if_pos hj, mul_comm]
      refine congrArg (fun x : EReal => x * inp (B0 V) timeRev n h 3 c j a) (Finset.sum_congr rfl fun k _ => ?_)
      rw [qB_at, kB_at, gB_at, zero_sub]
    · rw [if_neg hj, if_neg hj, mul_zero]
  · rw [qB_at, mul_comm, v29_at, s1B_at, s2B_at, s3B_at]
    refine congrArg (fun x : EReal => (queryS (B0 V) timeRev n h c r k * Ideal.exp (cum (logS (B0 V) (B1 V) timeRev n h 2) c r k)) * x) ?_
    fin_cases c <;> rfl
theorem wholeB_at (n : Fin 32) (c : Fin 4) (r : Fin 64) (h : Fin 8) (a : Fin 128) :
    wholeB V (ix2 (seqRow n (timeRev c r)) (lane h a)) = outS (B0 V) (B1 V) timeRev n h 2 c r a := by
  pointwise [wholeB]
  have hc := c.isLt
  have hr := r.isLt
  have hn := n.isLt
  have hh := h.isLt
  have ha := a.isLt
  refine (dif_pos (show 256 * n.val + (256 - (64 * c.val + r.val + 1)) < 8192 by omega)).trans ?_
  refine (congrArg (rowsB V) (ix5_eq ?_ ?_ ?_ ?_ ?_)).trans (rowsB_at V n c r h a)
  · show (256 * n.val + (256 - (64 * c.val + r.val + 1))) / 256 = n.val
    omega
  · show (256 - ((256 * n.val + (256 - (64 * c.val + r.val + 1))) % 256 + 1)) / 64 = c.val
    omega
  · show (256 - ((256 * n.val + (256 - (64 * c.val + r.val + 1))) % 256 + 1)) % 64 = r.val
    omega
  · show (128 * h.val + a.val) / 128 = h.val
    omega
  · show (128 * h.val + a.val) % 128 = a.val
    omega
theorem keepB_at (i : Fin 16384) (j : Fin 1024) (hi : 8192 ≤ i.val) :
    wholeB V (ix2 i j) = V (Proc.devRef .tc main_arg3) (ix2 i j) := by
  pointwise [wholeB]
  rw [dif_neg (by omega)]
  refine congrArg (fun i : Fin 16384 => V (Proc.devRef .tc main_arg3) (ix2 i j)) (Fin.ext ?_)
  show 8192 + (i.val - 8192) = i.val
  omega

end Cert.ReferenceIdeal.Hgrn
end
-- ==== Proof.HgrnAlg.lean ====
module

public import proofs.«01_k».proof.Proof.HgrnFinal
public import proofs.«01_k».proof.Proof.HgrnRows

/-! The kernel's four result arrays are the reference's. -/

@[expose] public section
set_option maxRecDepth 16384
noncomputable section
namespace Cert.HgrnAlg
open Idealize.ShloMosaic Idealize.ShloMosaic.TcCoe Idealize.SL.Sem
open Cert.Hgrn Cert.KernelIdeal Cert.KernelIdeal.Gen Cert.KernelIdeal.Hgrn

theorem row_time (i : Fin 16384) (hi : i.val < 8192) : ∃ n c r, i = seqRow n (time c r) :=
  ⟨⟨i.val / 256, by omega⟩, ⟨i.val / 64 % 4, by omega⟩, ⟨i.val % 64, by omega⟩,
    Fin.ext (show i.val = 256 * (i.val / 256) + (64 * (i.val / 64 % 4) + i.val % 64) by omega)⟩
theorem row_rev (i : Fin 16384) (hi : i.val < 8192) : ∃ n c r, i = seqRow n (timeRev c r) :=
  ⟨⟨i.val / 256, by omega⟩, ⟨(255 - i.val % 256) / 64, by omega⟩, ⟨(255 - i.val % 256) % 64, by omega⟩,
    Fin.ext (show i.val = 256 * (i.val / 256) + (256 - (64 * ((255 - i.val % 256) / 64) + (255 - i.val % 256) % 64 + 1)) by omega)⟩
theorem col_lane (j : Fin 1024) : ∃ h k, j = lane h k :=
  ⟨⟨j.val / 128, by omega⟩, ⟨j.val % 128, by omega⟩, Fin.ext (show j.val = 128 * (j.val / 128) + j.val % 128 by omega)⟩

variable (m : (ℓ : Loc nD τ sig) → Buf (Elt Ideal) ℓ)
variable (V : Valuation Cert.ReferenceIdeal.τ Cert.ReferenceIdeal.sig (Elt Ideal)) (c : Dev nD)

theorem seq_of (n : Fin 32) : ∃ t : Fin cfg0.N, seq t = n := ⟨⟨n.val, n.isLt⟩, rfl⟩

theorem eq11 (h0 : Cert.ReferenceIdeal.Hgrn.B0 V = A0 m c) (h1 : Cert.ReferenceIdeal.Hgrn.B1 V = A1 m c)
    (h2 : ∀ i j, V (Proc.devRef .tc Cert.ReferenceIdeal.main_arg2) (ix2 i j) = m ((c : Thread nD τ).loc main_arg2) (ix2 i j)) :
    (Cert.ReferenceIdeal.Hgrn.wholeF V : S16384x1024.Idx → EReal) = (dats m 0 c).arrAt 11 cfg0.N := by
  funext x
  obtain ⟨i, j, rfl⟩ : ∃ i j, x = ix2 i j := ⟨x 0, x 1, eq_ix2 x⟩
  by_cases hi : i.val < 8192
  · obtain ⟨n, ch, r, rfl⟩ := row_time i hi
    obtain ⟨h, k, rfl⟩ := col_lane j
    obtain ⟨t, rfl⟩ := seq_of n
    rw [arr11_at m c t h ch r k, Cert.ReferenceIdeal.Hgrn.wholeF_at, h0, h1]
  · rw [keep11 m c i j (by omega), Cert.ReferenceIdeal.Hgrn.keepF_at V i j (by omega), h2]
theorem eq12 (h0 : Cert.ReferenceIdeal.Hgrn.B0 V = A0 m c) (h1 : Cert.ReferenceIdeal.Hgrn.B1 V = A1 m c)
    (h2 : ∀ i j, V (Proc.devRef .tc Cert.ReferenceIdeal.main_arg3) (ix2 i j) = m ((c : Thread nD τ).loc main_arg3) (ix2 i j)) :
    (Cert.ReferenceIdeal.Hgrn.wholeB V : S16384x1024.Idx → EReal) = (dats m 0 c).arrAt 12 cfg0.N := by
  funext x
  obtain ⟨i, j, rfl⟩ : ∃ i j, x = ix2 i j := ⟨x 0, x 1, eq_ix2 x⟩
  by_cases hi : i.val < 8192
  · obtain ⟨n, ch, r, rfl⟩ := row_rev i hi
    obtain ⟨h, k, rfl⟩ := col_lane j
    obtain ⟨t, rfl⟩ := seq_of n
    rw [arr12_at m c t h ch r k, Cert.ReferenceIdeal.Hgrn.wholeB_at, h0, h1]
  · rw [keep12 m c i j (by omega), Cert.ReferenceIdeal.Hgrn.keepB_at V i j (by omega), h2]
theorem eq13 (h0 : Cert.ReferenceIdeal.Hgrn.B0 V = A0 m c) (h1 : Cert.ReferenceIdeal.Hgrn.B1 V = A1 m c) :
    (Cert.ReferenceIdeal.Hgrn.lastF V : S32x8x128x128.Idx → EReal) = (dats m 0 c).arrAt 13 cfg0.N := by
  funext x
  obtain ⟨n, h, a, b, rfl⟩ : ∃ n h a b, x = ix4 n h a b := ⟨x 0, x 1, x 2, x 3, eq_ix4 x⟩
  obtain ⟨t, rfl⟩ := seq_of n
  rw [arr13_at m c t h a b, Cert.ReferenceIdeal.Hgrn.s4F_at, h0, h1]
theorem eq14 (h0 : Cert.ReferenceIdeal.Hgrn.B0 V = A0 m c) (h1 : Cert.ReferenceIdeal.Hgrn.B1 V = A1 m c) :
    (Cert.ReferenceIdeal.Hgrn.lastB V : S32x8x128x128.Idx → EReal) = (dats m 0 c).arrAt 14 cfg0.N := by
  funext x
  obtain ⟨n, h, a, b, rfl⟩ : ∃ n h a b, x = ix4 n h a b := ⟨x 0, x 1, x 2, x 3, eq_ix4 x⟩
  obtain ⟨t, rfl⟩ := seq_of n
  rw [arr14_at m c t h a b, Cert.ReferenceIdeal.Hgrn.s4B_at, h0, h1]

end Cert.HgrnAlg
end
-- ==== Proof.RowsSpec.lean ====
module

public import proofs.«01_k».proof.Proof.HgrnSpec

/-! The end of the mixture-of-experts part, a row at a time, over the extended reals: the routed experts' rows weighted by
    their gates, the shared expert, the modulation and the residual. -/

@[expose] public section

noncomputable section

namespace Cert.Rows

open Idealize.ShloMosaic
open Cert.Hgrn (sigm)

/-- An element of a row packed two numbers to a word: the low halves of the words hold the row's first half. -/
def unpack (w : Fin 512 → BitVec 32) (n : Fin 1024) : EReal :=
  if h : n.val < 512 then Ideal.ofBits FTy.f32 (IntOp.shli ArithUnit.vector (w ⟨n.val, h⟩) 16#32)
  else Ideal.ofBits FTy.f32 (IntOp.andi (w ⟨n.val - 512, by omega⟩) 4294901760#32)

/-- A SwiGLU's hidden unit. -/
def hidden (x : Fin 1024 → EReal) (sg su : Fin 1024 → Fin 256 → EReal) (f : Fin 256) : EReal :=
  (∑ k, x k * sg k f) * sigm (∑ k, x k * sg k f) * ∑ k, x k * su k f

/-- A SwiGLU of a row. -/
def glu (x : Fin 1024 → EReal) (sg su : Fin 1024 → Fin 256 → EReal) (sd : Fin 256 → Fin 1024 → EReal) (n : Fin 1024) : EReal :=
  ∑ f, hidden x sg su f * sd f n

/-- One element of a result row. -/
def rowS (x : Fin 1024 → EReal) (sg su : Fin 1024 → Fin 256 → EReal) (sd : Fin 256 → Fin 1024 → EReal) (w : Fin 8 → EReal)
    (y : Fin 8 → Fin 512 → BitVec 32) (r g : EReal) (n : Fin 1024) : EReal :=
  r + g * ((∑ k, w k * unpack (y k) n) + glu x sg su sd n)

/-- A result element of the layer: row `i`, modulated by row `s` of the modulation. -/
def layer (H : Fin 16384 → Fin 1024 → EReal) (Y : Fin 131072 → Fin 512 → BitVec 32) (W : Fin 8 → Fin 16384 → EReal)
    (SG SU : Fin 2 → Fin 1024 → Fin 256 → EReal) (SD : Fin 2 → Fin 256 → Fin 1024 → EReal) (X : Fin 16384 → Fin 1024 → EReal)
    (M : Fin 2 → Fin 8 → Fin 6144 → EReal) (i : Fin 16384) (s : Fin 8) (n : Fin 1024) : EReal :=
  rowS (H i) (SG 1) (SU 1) (SD 1) (fun k => W k i) (fun k => Y ⟨16384 * k.val + i.val, by omega⟩) (X i n)
    (M 1 s ⟨5120 + n.val, by omega⟩) n

/-- A result element of the first layer: row `i`, modulated by row `s` of the modulation. -/
def layer0 (H : Fin 16384 → Fin 1024 → EReal) (Y : Fin 131072 → Fin 512 → BitVec 32) (W : Fin 8 → Fin 16384 → EReal)
    (SG SU : Fin 2 → Fin 1024 → Fin 256 → EReal) (SD : Fin 2 → Fin 256 → Fin 1024 → EReal) (X : Fin 16384 → Fin 1024 → EReal)
    (M : Fin 2 → Fin 8 → Fin 6144 → EReal) (i : Fin 16384) (s : Fin 8) (n : Fin 1024) : EReal :=
  rowS (H i) (SG 0) (SU 0) (SD 0) (fun k => W k i) (fun k => Y ⟨16384 * k.val + i.val, by omega⟩) (X i n)
    (M 0 s ⟨5120 + n.val, by omega⟩) n

/-- The row of the modulation a row of the first layer takes: row 0 for the prompt, one for every 2048 rows of sample after. -/
def seq0 (i : Fin 16384) : Fin 8 := ⟨if i.val < 8192 then 0 else 1 + (i.val - 8192) / 2048, by split <;> omega⟩

/-- A gate picked out of its column by a row of the identity. -/
theorem pick (w : Fin 8 → EReal) (k : Fin 8) : ∑ j, w j * (if j = k then (1 : EReal) else 0) = w k := by
  simp only [mul_ite, mul_one, mul_zero, Finset.sum_ite_eq', Finset.mem_univ, if_true]

/-- The two parts of a gate that is not plus infinity add up to it. -/
theorem gate_parts (w : Fin 8 → EReal) (hw : ∀ k, w k ≠ ⊤) (k : Fin 8) :
    ∑ j, w j * (if j = k then (1 : EReal) else 0) + ∑ j, (w j - w j) * (if j = k then (1 : EReal) else 0) = w k := by
  rw [pick, pick (fun j => w j - w j), Cert.Hgrn.add_sub_self (hw k)]

end Cert.Rows

end
-- ==== Proof.ExpertsRun.lean ====
module

public import proofs.«01_k».proof.Proof.Gen.Experts.Launch
public import proofs.«01_k».proof.Proof.Gen.Experts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Experts.Tiles

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the tiles' experts and the table with the number of tiles in use, as the body is handed them. -/
abbrev tabE : Memref sig .tc .smem S192 .i32 := Memref.whole main_arg1
abbrev tabN : Memref sig .tc .smem S1 .i32 := Memref.whole main_arg2
/-- A table held at half of the full share, so that the body may read it. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The word with the number of tiles in use, and the word naming tile `k`'s expert. -/
def wordN (nu : IVec S1 32) : BitVec 32 := nu (fun a => ⟨0, by revert a; decide⟩)
def wordE (te : IVec S192 32) (k : Fin 192) : BitVec 32 := te (fun a => ⟨k.val, lt_of_lt_of_eq k.isLt (by revert a; decide)⟩)

/-- The point before `k`, or the first. -/
def prev (k : Fin 192) : Fin 192 := ⟨k.val - 1, by omega⟩

/-- The condition under which the body copies a new expert's weights: the tile is in use, and it is the first one
    or its expert is not the one of the tile before. -/
def fresh (te : IVec S192 32) (nu : IVec S1 32) (k : Fin 192) : BitVec 1 :=
  Scalar.cmpi .ne (Scalar.extui (Scalar.andi (Scalar.cmpi .slt (BitVec.ofNat 32 k.val) (wordN nu))
    (Scalar.ori (Scalar.cmpi .eq (BitVec.ofNat 32 k.val) 0#32) (Scalar.cmpi .ne (wordE te k) (wordE te (prev k)))))) 0#32

theorem off2_eq (k : Fin 192) : (Scalar.indexCast (Scalar.maxsi (Scalar.subi (BitVec.ofNat 32 k.val) 1#32) 0#32)).toNat = k.val - 1 := by
  revert k; decide +kernel
theorem off1_eq (k : Fin 192) : (Scalar.indexCast (BitVec.ofNat 32 k.val)).toNat = k.val := by
  revert k; decide +kernel

set_option maxHeartbeats 1000000 in
/-- The body at one point, on any staging buffers: the weights are copied when the tile is a fresh one, and the
    result is written when the tile is in use. -/
theorem body_run (c : Dev nD) (i : grid0.Coords) (arg3 : Memref sig .tc .vmem S1024x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S1024x512 .i32) (x1 : Vec F S1x1x1024x256 .f32) (x2 : Vec F S1x1x1024x256 .f32) (x3 : Vec F S1x1x256x1024 .f32)
    (y : Vec F S1024x1024 .bf16) (s0 s1 : Vec F S1024x256 .bf16) (s2 : Vec F S256x1024 .bf16)
    (te : IVec S192 32) (nu : IVec S1 32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ tabPt (F := F) c tabE te ∗ tabPt (F := F) c tabN nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond2 i (wordN nu) = 1#1 then
                k0_pay4 x0 (if fresh te nu (i 0) = 1#1 then k0_pay1 x1 else s0) (if fresh te nu (i 0) = 1#1 then k0_pay2 x2 else s1) (if fresh te nu (i 0) = 1#1 then k0_pay3 x3 else s2) else y)
            ∗ owns (c : Thread nD τ) arg8 fullShare (if fresh te nu (i 0) = 1#1 then k0_pay1 x1 else s0)
            ∗ owns (c : Thread nD τ) arg9 fullShare (if fresh te nu (i 0) = 1#1 then k0_pay2 x2 else s1)
            ∗ owns (c : Thread nD τ) arg10 fullShare (if fresh te nu (i 0) = 1#1 then k0_pay3 x3 else s2)
            ∗ tabPt (F := F) c tabE te ∗ tabPt (F := F) c tabN nu) -∗ K ⟨⟩))
      ⊢ wp frame (wpE (defs₀ (F := F)) Variants.none c none) E (cc0_experts i tabE (Memref.isWhole_whole _) tabN (Memref.isWhole_whole _) arg3 harg3 arg4 harg4 arg5 harg5 arg6 harg6 arg7 harg7 arg8 harg8 arg9 harg9 arg10 harg10) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1; obtain rfl := harg10.eq_unread hs2
  sl_exec
  sl_step
  have hN : body_run.sl.r (F := F) nu = wordN nu := by
    unfold body_run.sl.r
    exact congrArg nu (funext fun a => by obtain rfl : a = (0 : Fin 1) := Subsingleton.elim (α := Fin 1) _ _; rfl)
  have hF : body_run.sl.v13 (F := F) i te nu = fresh te nu (i 0) := by
    unfold body_run.sl.v13
    unfold body_run.sl.v12 body_run.sl.v11 body_run.sl.v10 body_run.sl.v9 body_run.sl.v1 body_run.sl.v2
    have e1 : body_run.sl.r_1 (F := F) i te = wordE te (i 0) := by
      unfold body_run.sl.r_1
      exact congrArg te (funext fun a => by obtain rfl : a = (0 : Fin 1) := Subsingleton.elim (α := Fin 1) _ _; exact Fin.ext (off1_eq (i 0)))
    have e2 : body_run.sl.r_2 (F := F) i te = wordE te (prev (i 0)) := by
      unfold body_run.sl.r_2
      exact congrArg te (funext fun a => by obtain rfl : a = (0 : Fin 1) := Subsingleton.elim (α := Fin 1) _ _; exact Fin.ext (off2_eq (i 0)))
    rw [hN, e1, e2]
    rfl
  have hA : body_run.sl.v26 (F := F) c i arg4 harg4 arg8 harg8 x1 s0 te nu = (if fresh te nu (i 0) = 1#1 then k0_pay1 x1 else s0) := by
    unfold body_run.sl.v26
    rw [hF]
    split
    · exact (View.readAt_writes_full _ _ _ _ _ _).trans (congrArg k0_pay1 ((View.readAt_full _ _ _).trans (harg4.read_unread _)))
    · exact (View.readAt_full _ _ _).trans (harg8.read_unread _)
  have hB : body_run.sl.v27 (F := F) c i arg5 harg5 arg9 harg9 x2 s1 te nu = (if fresh te nu (i 0) = 1#1 then k0_pay2 x2 else s1) := by
    unfold body_run.sl.v27
    rw [hF]
    split
    · exact (View.readAt_writes_full _ _ _ _ _ _).trans (congrArg k0_pay2 ((View.readAt_full _ _ _).trans (harg5.read_unread _)))
    · exact (View.readAt_full _ _ _).trans (harg9.read_unread _)
  have hC : body_run.sl.v40 (F := F) c i arg6 harg6 arg10 harg10 x3 s2 te nu = (if fresh te nu (i 0) = 1#1 then k0_pay3 x3 else s2) := by
    unfold body_run.sl.v40
    rw [hF]
    split
    · exact (View.readAt_writes_full _ _ _ _ _ _).trans (congrArg k0_pay3 ((View.readAt_full _ _ _).trans (harg6.read_unread _)))
    · exact (View.readAt_full _ _ _).trans (harg10.read_unread _)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    rotate_left
    · iexact H4
    · ipureintro
      rw [hN, hA, hB, hC]
      split
      · refine (View.read_writes_full _ _ _ _ _).trans ?_
        rw [View.readAt_full, harg3.read_unread]
      · exact harg7.read_unread _
  isplitl [HS0]
  · iexists _; isplitr
    rotate_left
    · iexact HS0
    · ipureintro
      rw [hF]
      split
      · exact (View.read_writes_full _ _ _ _ _).trans (congrArg k0_pay1 ((View.readAt_full _ _ _).trans (harg4.read_unread _)))
      · exact harg8.read_unread _
  isplitl [HS1]
  · iexists _; isplitr
    rotate_left
    · iexact HS1
    · ipureintro
      rw [hF]
      split
      · exact (View.read_writes_full _ _ _ _ _).trans (congrArg k0_pay2 ((View.readAt_full _ _ _).trans (harg5.read_unread _)))
      · exact harg9.read_unread _
  isplitl [HS2]
  · iexists _; isplitr
    rotate_left
    · iexact HS2
    · ipureintro
      rw [hF]
      split
      · exact (View.read_writes_full _ _ _ _ _).trans (congrArg k0_pay3 ((View.readAt_full _ _ _).trans (harg6.read_unread _)))
      · exact harg10.read_unread _
  isplitl [HT0]; · iexact HT0
  iexact HT1

end Cert.Experts.Tiles

end
-- ==== Proof.ExpertsTables.lean ====
module

public import proofs.«01_k».proof.Proof.ExpertsRun
public import proofs.«01_k».proof.Proof.Gen.Experts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Experts.Tiles

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables in range: between one and all of the tiles are in use, and every tile names one of the experts. -/
structure Ranged (te : IVec S192 32) (nu : IVec S1 32) : Prop where
  lo : 1 ≤ (wordN nu).toNat
  hi : (wordN nu).toNat ≤ 192
  ex : ∀ k, (wordE te k).toNat < 64

/-- The last tile in use, when `n` tiles are, or the tile itself when it comes before. -/
def clip (n : ℕ) (k : Fin 192) : Fin 192 := ⟨min k.val (n - 1), by omega⟩

section Words
variable {te : IVec S192 32} {nu : IVec S1 32} (h : Ranged te nu)
include h

theorem min_word (k : Fin 192) : (Scalar.minsi (BitVec.ofNat 32 k.val) (Scalar.subi (wordN nu) 1#32)).toNat = (clip (wordN nu).toNat k).val := by
  have h1 := h.lo
  have h2 := h.hi
  generalize hn : (wordN nu).toNat = n at *
  have hw : wordN nu = BitVec.ofNat 32 n := by rw [← hn]; simp
  rw [hw]
  have hk := k.isLt
  show _ = min k.val (n - 1)
  have e : Scalar.subi (BitVec.ofNat 32 n) 1#32 = BitVec.ofNat 32 (n - 1) := by
    apply BitVec.eq_of_toNat_eq
    simp [Scalar.subi, IntOp.subi]
    omega
  rw [e]
  have t : ∀ j < 2 ^ 31, (BitVec.ofNat 32 j).toInt = j := fun j hj => by
    rw [BitVec.toInt_eq_toNat_of_lt (by simp; omega)]; simp; omega
  simp only [Scalar.minsi, IntOp.minsi, BitVec.slt, t k.val (by omega), t (n - 1) (by omega), decide_eq_true_eq, Nat.cast_lt]
  split <;> simp <;> omega

theorem used_iff (i : grid0.Coords) : k0_cond2 i (wordN nu) = 1#1 ↔ (i 0).val < (wordN nu).toNat := by
  have h1 := h.lo
  have h2 := h.hi
  generalize hn : (wordN nu).toNat = n at *
  have hw : wordN nu = BitVec.ofNat 32 n := by rw [← hn]; simp
  rw [hw]
  have hk : (i 0).val < 192 := (i 0).isLt
  simp only [k0_cond2]
  word_cmp

theorem fresh_iff (k : Fin 192) : fresh te nu k = 1#1 ↔ k.val < (wordN nu).toNat ∧ (k.val = 0 ∨ wordE te k ≠ wordE te (prev k)) := by
  have h1 := h.lo
  have h2 := h.hi
  have hk := k.isLt
  unfold fresh
  generalize hn : (wordN nu).toNat = n at *
  have hw : wordN nu = BitVec.ofNat 32 n := by rw [← hn]; simp
  rw [hw]
  word_cmp
  rw [Ne, Ne, BitVec.toNat_inj]
end Words

theorem atD_eq (pf : pre0.Contents (Elt F)) : pf.atD 1 ![0] = wordN (pf 1) := by
  unfold wordN Pipeline.Prefetch.Contents.atD
  refine (dif_pos (fun a => ?_)).trans (congrArg (pf 1) (funext fun a => ?_))
  · obtain rfl : a = (0 : Fin 1) := Subsingleton.elim (α := Fin 1) _ _; decide
  · obtain rfl : a = (0 : Fin 1) := Subsingleton.elim (α := Fin 1) _ _; rfl
theorem map0 (pf : pre0.Contents (Elt F)) (h : Ranged (pf 0) (pf 1)) (i : grid0.Coords) : cc0_transform_0 inb_S1_S1_0 numel1_S1 pf i = ![(clip (wordN (pf 1)).toNat (i 0)).val, 0] := by
  unfold cc0_transform_0
  have e : pf.at 1 (Rect.unit (s := S1) ![0] S1.size inb_S1_S1_0) numel1_S1 = wordN (pf 1) :=
    congrArg (pf 1) (funext fun a => by obtain rfl : a = (0 : Fin 1) := Subsingleton.elim (α := Fin 1) _ _; rfl)
  dsimp only
  rw [e, min_word h (i 0)]
  rfl
theorem map4 (pf : pre0.Contents (Elt F)) (h : Ranged (pf 0) (pf 1)) (i : grid0.Coords) : cc0_transform_4 inb_S1_S1_0 numel1_S1 pf i = ![(clip (wordN (pf 1)).toNat (i 0)).val, 0] :=
  (rfl : _ = cc0_transform_0 inb_S1_S1_0 numel1_S1 pf i).trans (map0 pf h i)
theorem map1 (pf : pre0.Contents (Elt F)) (i : grid0.Coords) : cc0_transform_1 k0_off1_inb numel1_S1 pf i = ![1, (wordE (pf 0) (i 0)).toNat, 0, 0] := by
  unfold cc0_transform_1
  have e : pf.at 0 (Rect.unit (s := S192) ![(Scalar.indexCast (BitVec.ofNat 32 (i 0).val)).toNat] S1.size (k0_off1_inb i)) numel1_S1 = wordE (pf 0) (i 0) :=
    congrArg (pf 0) (funext fun a => by obtain rfl : a = (0 : Fin 1) := Subsingleton.elim (α := Fin 1) _ _; exact Fin.ext (off1_eq (i 0)))
  dsimp only
  rw [e]
  rfl
theorem map2 (pf : pre0.Contents (Elt F)) (i : grid0.Coords) : cc0_transform_2 k0_off1_inb numel1_S1 pf i = ![1, (wordE (pf 0) (i 0)).toNat, 0, 0] :=
  (rfl : _ = cc0_transform_1 k0_off1_inb numel1_S1 pf i).trans (map1 pf i)
theorem map3 (pf : pre0.Contents (Elt F)) (i : grid0.Coords) : cc0_transform_3 k0_off1_inb numel1_S1 pf i = ![1, (wordE (pf 0) (i 0)).toNat, 0, 0] :=
  (rfl : _ = cc0_transform_1 k0_off1_inb numel1_S1 pf i).trans (map1 pf i)

/-- Tables in range keep every window's block inside its array. -/
theorem ok_of_ranged (pf : pre0.Contents (Elt F)) (h : Ranged (pf 0) (pf 1)) : ok0 pf := by
  have hb : ∀ i : grid0.Coords, (clip (wordN (pf 1)).toNat (i 0)).val < 192 := fun i => (clip _ _).isLt
  have he : ∀ i : grid0.Coords, (wordE (pf 0) (i 0)).toNat < 64 := fun i => h.ex _
  refine ⟨fun i => ⟨?_, .inl rfl⟩, fun i => ⟨?_, .inl rfl⟩, fun i => ⟨?_, .inl rfl⟩, fun i => ⟨?_, .inl rfl⟩,
    fun i => ⟨?_, .inr (.inl (.inr ⟨by decide, rfl, .inl ⟨?_, ?_⟩⟩))⟩⟩
  rotate_right 2
  · exact Dvd.dvd.mul_left (by decide : 2 ∣ 1024) _
  · show 2 ∣ 1024; decide
  · rw [map0 pf h i]; have := hb i; intro a
    match a with
    | 0 => show ((clip _ _).val + 1) * 1024 ≤ 196608; omega
    | 1 => exact (by decide : (0 + 1) * 512 ≤ 512)
  · rw [map1 pf i]; have := he i; intro a
    match a with
    | 0 => exact (by decide : (1 + 1) * 1 ≤ 2)
    | 1 => show ((wordE (pf 0) (i 0)).toNat + 1) * 1 ≤ 64; omega
    | 2 => exact (by decide : (0 + 1) * 1024 ≤ 1024)
    | 3 => exact (by decide : (0 + 1) * 256 ≤ 256)
  · rw [map2 pf i]; have := he i; intro a
    match a with
    | 0 => exact (by decide : (1 + 1) * 1 ≤ 2)
    | 1 => show ((wordE (pf 0) (i 0)).toNat + 1) * 1 ≤ 64; omega
    | 2 => exact (by decide : (0 + 1) * 1024 ≤ 1024)
    | 3 => exact (by decide : (0 + 1) * 256 ≤ 256)
  · rw [map3 pf i]; have := he i; intro a
    match a with
    | 0 => exact (by decide : (1 + 1) * 1 ≤ 2)
    | 1 => show ((wordE (pf 0) (i 0)).toNat + 1) * 1 ≤ 64; omega
    | 2 => exact (by decide : (0 + 1) * 256 ≤ 256)
    | 3 => exact (by decide : (0 + 1) * 1024 ≤ 1024)
  · rw [map4 pf h i]; have := hb i; intro a
    match a with
    | 0 => show ((clip _ _).val + 1) * 1024 ≤ 196608; omega
    | 1 => exact (by decide : (0 + 1) * 1024 ≤ 1024)

end Cert.Experts.Tiles

end
-- ==== Proof.ExpertsBlocks.lean ====
module

public import proofs.«01_k».proof.Proof.ExpertsTables
public import proofs.«01_k».proof.Proof.Gen.Experts.Launch
public import Idealize.ShloMosaic.Lib.Claim
public import Idealize.ShloMosaic.Lib.Pipeline.ValueKit.Point
public import proofs.«01_k».proof.Proof.Gen.Experts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Experts.Tiles

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: those of the launch, the call being all the program does. -/
abbrev found (c : Dev nD) (b : Ref sig .tc) : Buf (Elt F) ((c : Thread nD τ).loc b) := m ((c : Thread nD τ).loc b)

theorem region (𝒱 : Variants) : Pipeline.HMainP (Ix := Unit) (Name := ℕ) (U := UR sig nD τ) (Lvl := ℕ) pcfgs 0 defs₀ 𝒱 m (main (F := F)) (found m) :=
  Pipeline.hmainP_region pcfgs 0 defs₀ 𝒱 m main fun c => (main_chain c).trans rfl

/-- The two tables of the launch. -/
def tables : pre0.Contents (Elt F) := fun j => found m (0 : Dev nD) (pre0.ref j)

theorem found_tables (c : Dev nD) (j : Fin 2) : found m c (pre0.ref j) = tables m j := by
  rw [Subsingleton.elim c 0]; rfl

abbrev InRange : Prop := Ranged (tables m 0) (tables m 1)

/-- How many tiles are in use. -/
abbrev count : ℕ := (wordN (tables m 1)).toNat
/-- Tile `k`'s expert. -/
abbrev expert (k : Fin 192) : ℕ := (wordE (tables m 0) k).toNat

abbrev adm (R : InRange m) : (pcfg0 (F := F)).Adm := ⟨tables m, ok_of_ranged _ R⟩
abbrev pipe (R : InRange m) : Pipeline.Cfg sig Λ₀ := cfg0 (adm m R)

theorem halves (c : Dev nD) : (Pipeline.ΦT pre0 (tables m) c : sProp 𝕄) = iprop(tabPt c tabE (tables m 0) ∗ tabPt c tabN (tables m 1)) := by
  unfold Pipeline.ΦT Pipeline.prefHeld
  rw [show (Finset.univ : Finset (Fin 2)) = insert (0 : Fin 2) {(1 : Fin 2)} from by decide,
    bigSep_insert (by decide), bigSep_singleton]
  rfl

variable (R : InRange m)

/-- A point's tile, and a tile's point. -/
def tile (t : Fin (pipe m R).N) : Fin 192 := Fin.cast N_0 t
def point (k : Fin 192) : Fin (pipe m R).N := Fin.cast N_0.symm k

theorem point_tile (t : Fin (pipe m R).N) : point m R (tile m R t) = t := rfl
theorem tile_point (k : Fin 192) : tile m R (point m R k) = k := rfl
theorem coords_tile (t : Fin (pipe m R).N) : ((pipe m R).grid.coords t 0 : Fin 192) = tile m R t := by
  have h : (grid0.coords t 0).val = t.val / 1 % 192 := Pipeline.Grid.coords_val (G := grid0) t 0 (by decide) rfl
  have ht : t.val < 192 := lt_of_lt_of_eq t.isLt N_0
  exact Fin.ext (h.trans (by show t.val / 1 % 192 = t.val; omega))

/-- Window `w`'s block at point `t`. -/
def blk (c : Dev nD) (w : Fin (pipe m R).W) (t : Fin (pipe m R).N) : (((pipe m R).win w).xblock ((pipe m R).grid.coords t)).Idx → Elt F ((pipe m R).win w).elt :=
  (((pipe m R).win w).blk t).view.read (Elt F) (found m c (Pipeline.arrRef spec0 w))

theorem index0 (t : Fin (pipe m R).N) : ((pipe m R).win 0).index t = ![(clip (count m) (tile m R t)).val, 0] := by
  rw [← coords_tile]; exact map0 (tables m) R ((pipe m R).grid.coords t)
theorem index1 (t : Fin (pipe m R).N) : ((pipe m R).win 1).index t = ![1, expert m (tile m R t), 0, 0] := by
  rw [← coords_tile]; exact map1 (tables m) ((pipe m R).grid.coords t)
theorem index2 (t : Fin (pipe m R).N) : ((pipe m R).win 2).index t = ![1, expert m (tile m R t), 0, 0] := by
  rw [← coords_tile]; exact map2 (tables m) ((pipe m R).grid.coords t)
theorem index3 (t : Fin (pipe m R).N) : ((pipe m R).win 3).index t = ![1, expert m (tile m R t), 0, 0] := by
  rw [← coords_tile]; exact map3 (tables m) ((pipe m R).grid.coords t)
theorem index4 (t : Fin (pipe m R).N) : ((pipe m R).win 4).index t = ![(clip (count m) (tile m R t)).val, 0] := by
  rw [← coords_tile]; exact map4 (tables m) R ((pipe m R).grid.coords t)

/-- An element of a tile's block of the gathered rows, and of its expert's weights, in the arrays. -/
theorem blk0_at (c : Dev nD) (t : Fin (pipe m R).N) (r : Fin 1024) (k : Fin 512) :
    (blk m R c 0 t : Vec F S1024x512 .i32) (ix2 r k) = (found m c main_arg0 : Vec F S196608x512 .i32) (ix2 ⟨(clip (count m) (tile m R t)).val * 1024 + r.val, by have := (clip (count m) (tile m R t)).isLt; omega⟩ k) := by
  refine congrArg (found m c main_arg0 : Vec F S196608x512 .i32) (funext fun (a : Fin 2) => Fin.ext ?_)
  refine (Window.rect_emb_val ((pipe m R).win 0) t (ix2 r k) a).trans ?_
  rw [index0]
  match a with
  | 0 => rfl
  | 1 => show 0 * 512 + k.val = k.val; omega

theorem blk1_at (c : Dev nD) (t : Fin (pipe m R).N) (k : Fin 1024) (f : Fin 256) :
    (blk m R c 1 t : Vec F S1x1x1024x256 .f32) (ix4 0 0 k f) = (found m c main_arg3 : Vec F S2x64x1024x256 .f32) (ix4 1 ⟨expert m (tile m R t), R.ex _⟩ k f) := by
  refine congrArg (found m c main_arg3 : Vec F S2x64x1024x256 .f32) (funext fun (a : Fin 4) => Fin.ext ?_)
  refine (Window.rect_emb_val ((pipe m R).win 1) t (ix4 0 0 k f) a).trans ?_
  rw [index1]
  match a with
  | 0 => rfl
  | 1 => show expert m (tile m R t) * 1 + 0 = expert m (tile m R t); omega
  | 2 => show 0 * 1024 + k.val = k.val; omega
  | 3 => show 0 * 256 + f.val = f.val; omega

theorem blk2_at (c : Dev nD) (t : Fin (pipe m R).N) (k : Fin 1024) (f : Fin 256) :
    (blk m R c 2 t : Vec F S1x1x1024x256 .f32) (ix4 0 0 k f) = (found m c main_arg4 : Vec F S2x64x1024x256 .f32) (ix4 1 ⟨expert m (tile m R t), R.ex _⟩ k f) := by
  refine congrArg (found m c main_arg4 : Vec F S2x64x1024x256 .f32) (funext fun (a : Fin 4) => Fin.ext ?_)
  refine (Window.rect_emb_val ((pipe m R).win 2) t (ix4 0 0 k f) a).trans ?_
  rw [index2]
  match a with
  | 0 => rfl
  | 1 => show expert m (tile m R t) * 1 + 0 = expert m (tile m R t); omega
  | 2 => show 0 * 1024 + k.val = k.val; omega
  | 3 => show 0 * 256 + f.val = f.val; omega

theorem blk3_at (c : Dev nD) (t : Fin (pipe m R).N) (f : Fin 256) (k : Fin 1024) :
    (blk m R c 3 t : Vec F S1x1x256x1024 .f32) (ix4 0 0 f k) = (found m c main_arg5 : Vec F S2x64x256x1024 .f32) (ix4 1 ⟨expert m (tile m R t), R.ex _⟩ f k) := by
  refine congrArg (found m c main_arg5 : Vec F S2x64x256x1024 .f32) (funext fun (a : Fin 4) => Fin.ext ?_)
  refine (Window.rect_emb_val ((pipe m R).win 3) t (ix4 0 0 f k) a).trans ?_
  rw [index3]
  match a with
  | 0 => rfl
  | 1 => show expert m (tile m R t) * 1 + 0 = expert m (tile m R t); omega
  | 2 => show 0 * 256 + f.val = f.val; omega
  | 3 => show 0 * 1024 + k.val = k.val; omega

/-- An index of a block of one expert's weights is its last two coordinates. -/
theorem ix_weight {A B : ℕ} (y : (⟨4, ![1, 1, A, B]⟩ : Shape).Idx) : y = ix4 0 0 (y 2) (y 3) := by
  funext a
  match a with
  | 0 => exact Subsingleton.elim (α := Fin 1) _ _
  | 1 => exact Subsingleton.elim (α := Fin 1) _ _
  | 2 => rfl
  | 3 => rfl

/-- Tiles of one expert have the same blocks of weights. -/
theorem same1 (c : Dev nD) {j k : Fin 192} (h : wordE (tables m 0) j = wordE (tables m 0) k) : (blk m R c 1 (point m R j) : Vec F S1x1x1024x256 .f32) = blk m R c 1 (point m R k) := by
  funext y
  rw [ix_weight (A := 1024) (B := 256) y]
  refine (blk1_at m R c (point m R j) _ _).trans ((congrArg (fun e => (found m c main_arg3 : Vec F S2x64x1024x256 .f32) (ix4 1 e _ _)) (Fin.ext (congrArg BitVec.toNat h))).trans (blk1_at m R c (point m R k) _ _).symm)
theorem same2 (c : Dev nD) {j k : Fin 192} (h : wordE (tables m 0) j = wordE (tables m 0) k) : (blk m R c 2 (point m R j) : Vec F S1x1x1024x256 .f32) = blk m R c 2 (point m R k) := by
  funext y
  rw [ix_weight (A := 1024) (B := 256) y]
  refine (blk2_at m R c (point m R j) _ _).trans ((congrArg (fun e => (found m c main_arg4 : Vec F S2x64x1024x256 .f32) (ix4 1 e _ _)) (Fin.ext (congrArg BitVec.toNat h))).trans (blk2_at m R c (point m R k) _ _).symm)
theorem same3 (c : Dev nD) {j k : Fin 192} (h : wordE (tables m 0) j = wordE (tables m 0) k) : (blk m R c 3 (point m R j) : Vec F S1x1x256x1024 .f32) = blk m R c 3 (point m R k) := by
  funext y
  rw [ix_weight (A := 256) (B := 1024) y]
  refine (blk3_at m R c (point m R j) _ _).trans ((congrArg (fun e => (found m c main_arg5 : Vec F S2x64x256x1024 .f32) (ix4 1 e _ _)) (Fin.ext (congrArg BitVec.toNat h))).trans (blk3_at m R c (point m R k) _ _).symm)

/-- What a buffer refilled at fresh tiles holds after tile `k`: the last used tile's. -/
theorem carried {α : Type} {te : IVec S192 32} {nu : IVec S1 32} (h : Ranged te nu) (f : Fin 192 → α)
    (hf : ∀ j k, wordE te j = wordE te k → f j = f k) (k : Fin 192) (s : α) (hs : k.val ≠ 0 → s = f (clip (wordN nu).toNat (prev k))) :
    (if fresh te nu k = 1#1 then f k else s) = f (clip (wordN nu).toNat k) := by
  have h1 := h.lo
  have hp : (prev k).val = k.val - 1 := rfl
  by_cases hk : k.val < (wordN nu).toNat
  · have e : clip (wordN nu).toNat k = k := Fin.ext (by show min _ _ = _; omega)
    rw [e]
    split
    · rfl
    · rename_i hn
      rw [fresh_iff h] at hn
      have h0 : k.val ≠ 0 := fun h0 => hn ⟨hk, .inl h0⟩
      have hw : wordE te k = wordE te (prev k) := by_contra fun hw => hn ⟨hk, .inr hw⟩
      rw [hs h0, show clip (wordN nu).toNat (prev k) = prev k from Fin.ext (by show min _ _ = _; omega)]
      exact hf _ _ hw.symm
  · rw [if_neg fun hn => hk ((fresh_iff h k).mp hn).1, hs (by omega)]
    exact congrArg f (Fin.ext (by show min _ _ = min _ _; omega))

end Cert.Experts.Tiles

end
-- ==== Proof.ExpertsFrame.lean ====
module

public import proofs.«01_k».proof.Proof.ExpertsBlocks
public import proofs.«01_k».proof.Proof.Gen.Experts.Launch
public import Idealize.ShloMosaic.Lib.Claim
public import proofs.«01_k».proof.Proof.Gen.Experts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Experts.Tiles

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (R : InRange m)

/-- Tile `k`'s expert's weights as the body keeps them, and the tile's block of the result. -/
def gateW (c : Dev nD) (k : Fin 192) : Vec F S1024x256 .bf16 := k0_pay1 (blk m R c 1 (point m R k))
def upW (c : Dev nD) (k : Fin 192) : Vec F S1024x256 .bf16 := k0_pay2 (blk m R c 2 (point m R k))
def downW (c : Dev nD) (k : Fin 192) : Vec F S256x1024 .bf16 := k0_pay3 (blk m R c 3 (point m R k))
def rows (c : Dev nD) (k : Fin 192) : Vec F S1024x1024 .bf16 := k0_pay4 (blk m R c 0 (point m R k)) (gateW m R c k) (upW m R c k) (downW m R c k)

/-- The tile whose weights the kept buffers hold, and whose block the result's buffer holds, after point `t`. -/
abbrev lastT (k : Fin 192) : Fin 192 := clip (count m) k

abbrev kept0 : Memref sig .tc .vmem S1024x256 .bf16 := Memref.whole cc0_scratch0
abbrev kept1 : Memref sig .tc .vmem S1024x256 .bf16 := Memref.whole cc0_scratch1
abbrev kept2 : Memref sig .tc .vmem S256x1024 .bf16 := Memref.whole cc0_scratch2

theorem scoped_eq (c : Dev nD) :
    (Pipeline.ΦA spec0 c : sProp 𝕄)
      = iprop(iprop((∃ d, owns (c : Thread nD τ) kept0 fullShare d) ∗ (∃ d, owns (c : Thread nD τ) kept1 fullShare d) ∗ (∃ d, owns (c : Thread nD τ) kept2 fullShare d)) ∗ (∃ r, prngReg c r)) := by
  unfold Pipeline.ΦA; rw [scopedRest0_eq]; simp only [kept0, kept1, kept2, owns_whole]; try rfl

/-- Between the points: anything at first, afterwards the kept buffers at the last used tile's weights; the tables throughout. -/
def between (c : Dev nD) : (n : ℕ) → n ≤ (pipe m R).N → sProp 𝕄
  | 0, _ => iprop(Pipeline.ΦA spec0 c ∗ Pipeline.ΦT pre0 (tables m) c)
  | n + 1, hn => iprop(iprop(iprop(owns (c : Thread nD τ) kept0 fullShare (gateW m R c (lastT m (tile m R ⟨n, hn⟩)))
      ∗ owns (c : Thread nD τ) kept1 fullShare (upW m R c (lastT m (tile m R ⟨n, hn⟩)))
      ∗ owns (c : Thread nD τ) kept2 fullShare (downW m R c (lastT m (tile m R ⟨n, hn⟩)))) ∗ (∃ r, prngReg c r)) ∗ Pipeline.ΦT pre0 (tables m) c)

def proofData (_ : Fin 1) (c : Dev nD) : Dat τ (Elt F) Unit ℕ (UR sig nD τ) ℕ (pipe m R) c where
  A w := found m c (Pipeline.arrRef spec0 w)
  after w t := match w with
    | ⟨0, _⟩ => blk m R c 0 t
    | ⟨1, _⟩ => blk m R c 1 t
    | ⟨2, _⟩ => blk m R c 2 t
    | ⟨3, _⟩ => blk m R c 3 t
    | ⟨4, _⟩ => rows m R c (lastT m (tile m R t))
  Φ t := between m R c t.val (Nat.le_of_lt_succ t.isLt)
  q _ := fullShare
  owed _ := 0

theorem arrays_eq (c : Dev nD) (w : Fin (pipe m R).W) : (proofData m R 0 c).A w = found m c (Pipeline.arrRef spec0 w) := by
  dsimp only [proofData]

theorem after_0 (c : Dev nD) (t : Fin (pipe m R).N) : (proofData m R 0 c).after 0 t = blk m R c 0 t := by dsimp only [proofData]; try rfl
theorem after_1 (c : Dev nD) (t : Fin (pipe m R).N) : (proofData m R 0 c).after 1 t = blk m R c 1 t := by dsimp only [proofData]; try rfl
theorem after_2 (c : Dev nD) (t : Fin (pipe m R).N) : (proofData m R 0 c).after 2 t = blk m R c 2 t := by dsimp only [proofData]; try rfl
theorem after_3 (c : Dev nD) (t : Fin (pipe m R).N) : (proofData m R 0 c).after 3 t = blk m R c 3 t := by dsimp only [proofData]; try rfl
theorem after_4 (c : Dev nD) (t : Fin (pipe m R).N) : (proofData m R 0 c).after 4 t = rows m R c (lastT m (tile m R t)) := by dsimp only [proofData]; try rfl

theorem before_0 (c : Dev nD) (t : Fin (pipe m R).N) (d) : (proofData m R 0 c).before 0 t d = blk m R c 0 t :=
  ((proofData m R 0 c).before_in_eq_fetched 0 rfl (fun _ => rfl) (fun _ _ _ => rfl) (fun t => (congrArg _ (after_0 m R c t)).trans (by unfold Dat.blockOf blk; rw [arrays_eq]; try rfl)) t d).trans
    (by unfold Dat.fetched Dat.blockOf blk; rw [arrays_eq]; try rfl)
theorem before_1 (c : Dev nD) (t : Fin (pipe m R).N) (d) : (proofData m R 0 c).before 1 t d = blk m R c 1 t :=
  ((proofData m R 0 c).before_in_eq_fetched 1 rfl (fun _ => rfl) (fun _ _ _ => rfl) (fun t => (congrArg _ (after_1 m R c t)).trans (by unfold Dat.blockOf blk; rw [arrays_eq]; try rfl)) t d).trans
    (by unfold Dat.fetched Dat.blockOf blk; rw [arrays_eq]; try rfl)
theorem before_2 (c : Dev nD) (t : Fin (pipe m R).N) (d) : (proofData m R 0 c).before 2 t d = blk m R c 2 t :=
  ((proofData m R 0 c).before_in_eq_fetched 2 rfl (fun _ => rfl) (fun _ _ _ => rfl) (fun t => (congrArg _ (after_2 m R c t)).trans (by unfold Dat.blockOf blk; rw [arrays_eq]; try rfl)) t d).trans
    (by unfold Dat.fetched Dat.blockOf blk; rw [arrays_eq]; try rfl)
theorem before_3 (c : Dev nD) (t : Fin (pipe m R).N) (d) : (proofData m R 0 c).before 3 t d = blk m R c 3 t :=
  ((proofData m R 0 c).before_in_eq_fetched 3 rfl (fun _ => rfl) (fun _ _ _ => rfl) (fun t => (congrArg _ (after_3 m R c t)).trans (by unfold Dat.blockOf blk; rw [arrays_eq]; try rfl)) t d).trans
    (by unfold Dat.fetched Dat.blockOf blk; rw [arrays_eq]; try rfl)

/-- The result's window is idle where the tile is not in use. -/
theorem idle_iff (t : Fin (pipe m R).N) : (pipe m R).idle 4 ((pipe m R).grid.coords t) = true ↔ ¬ (tile m R t).val < count m := by
  rw [← coords_tile, ← used_iff R]
  show (!(k0_cond2 ((pipe m R).grid.coords t) ((tables m).atD 1 ![0]) == 1#1)) = true ↔ _
  rw [atD_eq]
  simp

theorem kept_in_place (t : Fin (pipe m R).N) (h : ¬ (tile m R t).val < count m) :
    ((pipe m R).win 4).flush ⟨t.val - 1, Nat.lt_of_le_of_lt (Nat.sub_le _ _) t.isLt⟩ = false := by
  have h1 : 1 ≤ count m := R.lo
  have ht : (tile m R t).val = t.val := rfl
  have hl : t.val < 192 := lt_of_lt_of_eq t.isLt N_0
  unfold Window.flush
  simp only [Bool.and_eq_false_iff, Bool.or_eq_false_iff, decide_eq_false_iff_not]
  refine .inr ⟨fun e => by have e' : t.val - 1 + 1 = 192 := e.trans N_0; omega, ?_⟩
  rintro ⟨h2, hne⟩
  refine hne ?_
  rw [index4, index4]
  have : clip (count m) (tile m R ⟨t.val - 1 + 1, h2⟩) = clip (count m) (tile m R ⟨t.val - 1, Nat.lt_of_le_of_lt (Nat.sub_le _ _) t.isLt⟩) :=
    Fin.ext (by show min (t.val - 1 + 1) _ = min (t.val - 1) _; omega)
  rw [this]

theorem before_4 (c : Dev nD) (d) : ∀ (n : ℕ) (hn : n < (pipe m R).N), ¬ n < count m →
    (proofData m R 0 c).before 4 ⟨n, hn⟩ d = rows m R c (lastT m (tile m R ⟨n, hn⟩)) := by
  intro n
  have h1 : 1 ≤ count m := R.lo
  induction n with
  | zero => intro hn h; omega
  | succ n ih =>
    intro hn h
    have e : lastT m (tile m R ⟨n + 1, hn⟩) = lastT m (tile m R ⟨n, Nat.lt_of_succ_lt hn⟩) :=
      Fin.ext (by show min (n + 1) _ = min n _; omega)
    rw [(proofData m R 0 c).before_of_pos 4 ⟨n + 1, hn⟩ (by simp) (((pipe m R).win 4).fetch_out rfl _) d, kept_in_place m R ⟨n + 1, hn⟩ h, if_neg (by simp), e]
    unfold Dat.left
    split
    · rename_i hi
      exact ih _ ((idle_iff m R ⟨n, Nat.lt_of_succ_lt hn⟩).mp hi)
    · exact after_4 m R c ⟨n, Nat.lt_of_succ_lt hn⟩

abbrev stage0 (t : Fin (pipe m R).N) : Memref sig .tc .vmem S1024x512 .i32 := spec0_0.stage ((pipe m R).slots t 0)
abbrev stage1 (t : Fin (pipe m R).N) : Memref sig .tc .vmem S1x1x1024x256 .f32 := spec0_1.stage ((pipe m R).slots t 1)
abbrev stage2 (t : Fin (pipe m R).N) : Memref sig .tc .vmem S1x1x1024x256 .f32 := spec0_2.stage ((pipe m R).slots t 2)
abbrev stage3 (t : Fin (pipe m R).N) : Memref sig .tc .vmem S1x1x256x1024 .f32 := spec0_3.stage ((pipe m R).slots t 3)
abbrev stage4 (t : Fin (pipe m R).N) : Memref sig .tc .vmem S1024x1024 .bf16 := spec0_4.stage ((pipe m R).slots t 4)

/-- The body as the pipeline calls it at point `t`. -/
abbrev bodyAt (t : Fin (pipe m R).N) : Prog (TpuEff nD τ sig (Elt F) Λ₀ .tc) PUnit :=
  cc0_experts (grid0.coords t) tabE (Memref.isWhole_whole _) tabN (Memref.isWhole_whole _)
    (stage0 m R t) (hstage0_0 (((pipe m R).slots t 0).cast nbuf0_0)) (stage1 m R t) (hstage0_1 (((pipe m R).slots t 1).cast nbuf0_1))
    (stage2 m R t) (hstage0_2 (((pipe m R).slots t 2).cast nbuf0_2)) (stage3 m R t) (hstage0_3 (((pipe m R).slots t 3).cast nbuf0_3))
    (stage4 m R t) (hstage0_4 (((pipe m R).slots t 4).cast nbuf0_4))
    kept0 (Memref.isWhole_whole _) kept1 (Memref.isWhole_whole _) kept2 (Memref.isWhole_whole _)

/-- What the body is given at point `t`, and what it gives back. -/
def given (c : Dev nD) (t : Fin (pipe m R).N) : sProp 𝕄 :=
  iprop((proofData m R 0 c).Φ t.castSucc ∗ (proofData m R 0 c).owesAt () t.castSucc
    ∗ (∃ d, owns (c : Thread nD τ) (stage0 m R t) fullShare ((proofData m R 0 c).before 0 t d))
    ∗ (∃ d, owns (c : Thread nD τ) (stage1 m R t) fullShare ((proofData m R 0 c).before 1 t d))
    ∗ (∃ d, owns (c : Thread nD τ) (stage2 m R t) fullShare ((proofData m R 0 c).before 2 t d))
    ∗ (∃ d, owns (c : Thread nD τ) (stage3 m R t) fullShare ((proofData m R 0 c).before 3 t d))
    ∗ (∃ d, owns (c : Thread nD τ) (stage4 m R t) fullShare ((proofData m R 0 c).before 4 t d)))

def returned (c : Dev nD) (t : Fin (pipe m R).N) : sProp 𝕄 :=
  iprop((proofData m R 0 c).Φ t.succ ∗ (proofData m R 0 c).owesAt () t.succ
    ∗ owns (c : Thread nD τ) (stage0 m R t) fullShare ((proofData m R 0 c).after 0 t)
    ∗ owns (c : Thread nD τ) (stage1 m R t) fullShare ((proofData m R 0 c).after 1 t)
    ∗ owns (c : Thread nD τ) (stage2 m R t) fullShare ((proofData m R 0 c).after 2 t)
    ∗ owns (c : Thread nD τ) (stage3 m R t) fullShare ((proofData m R 0 c).after 3 t)
    ∗ (proofData m R 0 c).leavesExact 4 t)

/-- The result's buffer after the body: the last used tile's block. -/
theorem left_4 (c : Dev nD) (t : Fin (pipe m R).N) (d) :
    owns (c : Thread nD τ) (stage4 m R t) fullShare
      (if (tile m R t).val < count m then rows m R c (lastT m (tile m R t)) else (proofData m R 0 c).before 4 t d)
      ⊢ (proofData m R 0 c).leavesExact 4 t := by
  by_cases h : (tile m R t).val < count m
  · refine (Entails.of_eq (congrArg (owns (c : Thread nD τ) (stage4 m R t) fullShare) (if_pos h))).trans ?_
    have hi : (pipe m R).idle 4 ((pipe m R).grid.coords t) = false := by
      rw [← Bool.not_eq_true, idle_iff]; exact fun hn => hn h
    unfold Dat.leavesExact
    rw [hi, after_4]
    exact .rfl
  · refine (Entails.of_eq (congrArg (owns (c : Thread nD τ) (stage4 m R t) fullShare) (if_neg h))).trans ?_
    have hi := (idle_iff m R t).mpr h
    unfold Dat.leavesExact
    rw [hi]
    cases hf : ((pipe m R).win 4).flush t
    · iintro H; iexists d; iexact H
    · rw [after_4, before_4 m R c d t.val t.isLt h]
      exact .rfl

/-- The kept buffers after the body at point `t`, over what they held before. -/
theorem gate_next (c : Dev nD) (t : Fin (pipe m R).N) (s : Vec F S1024x256 .bf16) (hs : (tile m R t).val ≠ 0 → s = gateW m R c (lastT m (prev (tile m R t)))) :
    (if fresh (tables m 0) (tables m 1) (tile m R t) = 1#1 then k0_pay1 (blk m R c 1 t) else s) = gateW m R c (lastT m (tile m R t)) :=
  carried R (gateW m R c) (fun j k h => congrArg k0_pay1 (same1 m R c h)) (tile m R t) s hs
theorem up_next (c : Dev nD) (t : Fin (pipe m R).N) (s : Vec F S1024x256 .bf16) (hs : (tile m R t).val ≠ 0 → s = upW m R c (lastT m (prev (tile m R t)))) :
    (if fresh (tables m 0) (tables m 1) (tile m R t) = 1#1 then k0_pay2 (blk m R c 2 t) else s) = upW m R c (lastT m (tile m R t)) :=
  carried R (upW m R c) (fun j k h => congrArg k0_pay2 (same2 m R c h)) (tile m R t) s hs
theorem down_next (c : Dev nD) (t : Fin (pipe m R).N) (s : Vec F S256x1024 .bf16) (hs : (tile m R t).val ≠ 0 → s = downW m R c (lastT m (prev (tile m R t)))) :
    (if fresh (tables m 0) (tables m 1) (tile m R t) = 1#1 then k0_pay3 (blk m R c 3 t) else s) = downW m R c (lastT m (tile m R t)) :=
  carried R (downW m R c) (fun j k h => congrArg k0_pay3 (same3 m R c h)) (tile m R t) s hs

theorem rows_next (c : Dev nD) (t : Fin (pipe m R).N) (y : Vec F S1024x1024 .bf16) :
    (if k0_cond2 (grid0.coords t) (wordN (tables m 1)) = 1#1 then k0_pay4 (blk m R c 0 t) (gateW m R c (lastT m (tile m R t))) (upW m R c (lastT m (tile m R t))) (downW m R c (lastT m (tile m R t))) else y)
      = if (tile m R t).val < count m then rows m R c (lastT m (tile m R t)) else y := by
  have hu : k0_cond2 (grid0.coords t) (wordN (tables m 1)) = 1#1 ↔ (tile m R t).val < count m := by
    rw [used_iff R]; exact iff_of_eq (congrArg (fun k : Fin 192 => k.val < count m) (coords_tile m R t))
  by_cases h : (tile m R t).val < count m
  · rw [if_pos (hu.mpr h), if_pos h]
    have e : lastT m (tile m R t) = tile m R t := Fin.ext (by show min _ _ = _; omega)
    rw [e]; rfl
  · rw [if_neg fun hn => h (hu.mp hn), if_neg h]

theorem left_next (c : Dev nD) (t : Fin (pipe m R).N) (d) :
    owns (c : Thread nD τ) (stage4 m R t) fullShare
      (if k0_cond2 (grid0.coords t) (wordN (tables m 1)) = 1#1 then k0_pay4 (blk m R c 0 t) (gateW m R c (lastT m (tile m R t))) (upW m R c (lastT m (tile m R t))) (downW m R c (lastT m (tile m R t))) else (proofData m R 0 c).before 4 t d)
      ⊢ (proofData m R 0 c).leavesExact 4 t :=
  (Entails.of_eq (congrArg (owns (c : Thread nD τ) (stage4 m R t) fullShare) (rows_next m R c t ((proofData m R 0 c).before 4 t d)))).trans (left_4 m R c t d)

/-- The body at point `t`, over any contents of the kept buffers that are the previous point's. -/
theorem step (c : Dev nD) (t : Fin (pipe m R).N) (s0 s1 : Vec F S1024x256 .bf16) (s2 : Vec F S256x1024 .bf16)
    (h0 : (tile m R t).val ≠ 0 → s0 = gateW m R c (lastT m (prev (tile m R t)))) (h1 : (tile m R t).val ≠ 0 → s1 = upW m R c (lastT m (prev (tile m R t))))
    (h2 : (tile m R t).val ≠ 0 → s2 = downW m R c (lastT m (prev (tile m R t)))) :
    iprop((iprop(owns (c : Thread nD τ) kept0 fullShare s0 ∗ owns (c : Thread nD τ) kept1 fullShare s1 ∗ owns (c : Thread nD τ) kept2 fullShare s2)
      ∗ (∃ r, prngReg c r)) ∗ Pipeline.ΦT pre0 (tables m) c ∗ (proofData m R 0 c).owesAt () t.castSucc
    ∗ (∃ d, owns (c : Thread nD τ) (stage0 m R t) fullShare ((proofData m R 0 c).before 0 t d))
    ∗ (∃ d, owns (c : Thread nD τ) (stage1 m R t) fullShare ((proofData m R 0 c).before 1 t d))
    ∗ (∃ d, owns (c : Thread nD τ) (stage2 m R t) fullShare ((proofData m R 0 c).before 2 t d))
    ∗ (∃ d, owns (c : Thread nD τ) (stage3 m R t) fullShare ((proofData m R 0 c).before 3 t d))
    ∗ (∃ d, owns (c : Thread nD τ) (stage4 m R t) fullShare ((proofData m R 0 c).before 4 t d)))
      ⊢ wp frame (wpE (defs₀ (F := F)) Variants.none c none) Set.univ (bodyAt m R t) (fun _ => returned m R c t) := by
  unfold returned
  simp only [before_0, before_1, before_2, before_3]
  rw [show (proofData m R 0 c).owesAt () t.succ = (proofData m R 0 c).owesAt () t.castSucc from rfl,
    after_0, after_1, after_2, after_3, halves]
  rw [show (proofData m R 0 c).Φ t.succ = between m R c (t.val + 1) t.isLt from rfl]
  rw [show between m R c (t.val + 1) t.isLt = iprop(iprop(iprop(owns (c : Thread nD τ) kept0 fullShare (gateW m R c (lastT m (tile m R t)))
      ∗ owns (c : Thread nD τ) kept1 fullShare (upW m R c (lastT m (tile m R t)))
      ∗ owns (c : Thread nD τ) kept2 fullShare (downW m R c (lastT m (tile m R t)))) ∗ (∃ r, prngReg c r)) ∗ Pipeline.ΦT pre0 (tables m) c) from rfl, halves]
  iintro ⟨⟨⟨HS0, HS1, HS2⟩, Hg⟩, ⟨HT0, HT1⟩, Ho, ⟨%d0, H0⟩, ⟨%d1, H1⟩, ⟨%d2, H2⟩, ⟨%d3, H3⟩, ⟨%d4, H4⟩⟩
  iapply (body_run c (grid0.coords t) (stage0 m R t) (hstage0_0 (((pipe m R).slots t 0).cast nbuf0_0)) (stage1 m R t) (hstage0_1 (((pipe m R).slots t 1).cast nbuf0_1)) (stage2 m R t) (hstage0_2 (((pipe m R).slots t 2).cast nbuf0_2)) (stage3 m R t) (hstage0_3 (((pipe m R).slots t 3).cast nbuf0_3)) (stage4 m R t) (hstage0_4 (((pipe m R).slots t 4).cast nbuf0_4)) kept0 (Memref.isWhole_whole _) kept1 (Memref.isWhole_whole _) kept2 (Memref.isWhole_whole _) (blk m R c 0 t) (blk m R c 1 t) (blk m R c 2 t) (blk m R c 3 t) ((proofData m R 0 c).before 4 t d4) s0 s1 s2 (tables m 0) (tables m 1) Set.univ _)
  rw [show (grid0.coords t 0 : Fin 192) = tile m R t from coords_tile m R t, gate_next m R c t s0 h0, up_next m R c t s1 h1, down_next m R c t s2 h2]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iapply (left_next m R c t d4)
  iexact H4

theorem sound (c : Dev nD) (t : Fin (pipe m R).N) :
    given m R c t ⊢ wp frame (wpE (defs₀ (F := F)) Variants.none c none) Set.univ (bodyAt m R t) (fun _ => returned m R c t) := by
  unfold given
  rw [show (proofData m R 0 c).Φ t.castSucc = between m R c t.val (Nat.le_of_lt t.isLt) from by
    dsimp only [proofData]; exact Pipeline.Dat.Φ_castSucc (between m R c) t]
  obtain ⟨n, hn⟩ := t
  cases n with
  | zero =>
    rw [show between m R c (⟨0, hn⟩ : Fin (pipe m R).N).val (Nat.le_of_lt hn) = iprop(Pipeline.ΦA spec0 c ∗ Pipeline.ΦT pre0 (tables m) c) from rfl, scoped_eq]
    iintro ⟨⟨⟨⟨⟨%s0, HS0⟩, ⟨%s1, HS1⟩, ⟨%s2, HS2⟩⟩, Hg⟩, HT⟩, Ho, H0, H1, H2, H3, H4⟩
    iapply (step m R c ⟨0, hn⟩ s0 s1 s2 (fun h => absurd rfl h) (fun h => absurd rfl h) (fun h => absurd rfl h))
    isplitl [HS0 HS1 HS2 Hg]
    · isplitl [HS0 HS1 HS2]
      · isplitl [HS0]; · iexact HS0
        isplitl [HS1]; · iexact HS1
        iexact HS2
      iexact Hg
    isplitl [HT]; · iexact HT
    isplitl [Ho]; · iexact Ho
    isplitl [H0]; · iexact H0
    isplitl [H1]; · iexact H1
    isplitl [H2]; · iexact H2
    isplitl [H3]; · iexact H3
    iexact H4
  | succ n =>
    rw [show between m R c (⟨n + 1, hn⟩ : Fin (pipe m R).N).val (Nat.le_of_lt hn) = iprop(iprop(iprop(owns (c : Thread nD τ) kept0 fullShare (gateW m R c (lastT m (prev (tile m R ⟨n + 1, hn⟩))))
      ∗ owns (c : Thread nD τ) kept1 fullShare (upW m R c (lastT m (prev (tile m R ⟨n + 1, hn⟩))))
      ∗ owns (c : Thread nD τ) kept2 fullShare (downW m R c (lastT m (prev (tile m R ⟨n + 1, hn⟩))))) ∗ (∃ r, prngReg c r)) ∗ Pipeline.ΦT pre0 (tables m) c) from rfl]
    iintro ⟨⟨⟨⟨HS0, HS1, HS2⟩, Hg⟩, HT⟩, Ho, H0, H1, H2, H3, H4⟩
    iapply (step m R c ⟨n + 1, hn⟩ _ _ _ (fun _ => rfl) (fun _ => rfl) (fun _ => rfl))
    isplitl [HS0 HS1 HS2 Hg]
    · isplitl [HS0 HS1 HS2]
      · isplitl [HS0]; · iexact HS0
        isplitl [HS1]; · iexact HS1
        iexact HS2
      iexact Hg
    isplitl [HT]; · iexact HT
    isplitl [Ho]; · iexact Ho
    isplitl [H0]; · iexact H0
    isplitl [H1]; · iexact H1
    isplitl [H2]; · iexact H2
    isplitl [H3]; · iexact H3
    iexact H4

theorem row_eq (t : Fin (pipe m R).N) :
    defs₀ (F := F) .tc (pipe m R).body ((pipe m R).bodyArgs t ((pipe m R).slots t)) = bodyAt m R t := by
  unfold defs₀; rw [Defs.onTc_tc]

theorem obligation (c : Dev nD) : BodyObligation (proofData (F := F) m R 0 c) (defs₀ (F := F)) Variants.none () Set.univ := fun t => by
  rw [bigSep_W0, bigSep_W0, row_eq m R]
  exact triple_restated (sound m R c t) rfl .rfl fun _ => .rfl

theorem at_start (c : Dev nD) : iprop(Pipeline.ΦA spec0 c ∗ Pipeline.ΦT pre0 (tables m) c) ⊢ (proofData m R 0 c).Φ 0 := by
  rw [show (proofData m R 0 c).Φ 0 = iprop(Pipeline.ΦA spec0 c ∗ Pipeline.ΦT pre0 (tables m) c) from rfl]

theorem at_end (c : Dev nD) : (proofData m R 0 c).Φ (Fin.last (pipe m R).N) ⊢ Pipeline.ΦA spec0 c := by
  rw [show (proofData m R 0 c).Φ (Fin.last (pipe m R).N) = between m R c 192 (le_of_eq N_0.symm) from rfl]
  rw [show between m R c 192 (le_of_eq N_0.symm) = iprop(iprop(iprop(owns (c : Thread nD τ) kept0 fullShare (gateW m R c (lastT m ⟨191, by decide⟩))
      ∗ owns (c : Thread nD τ) kept1 fullShare (upW m R c (lastT m ⟨191, by decide⟩))
      ∗ owns (c : Thread nD τ) kept2 fullShare (downW m R c (lastT m ⟨191, by decide⟩))) ∗ (∃ r, prngReg c r)) ∗ Pipeline.ΦT pre0 (tables m) c) from rfl, scoped_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

-- the launch theorem's implicit arguments are found by unfolding plain definitions in a type
set_option backward.isDefEq.respectTransparency.types false in
/-- The launch: the arrays at what the pipeline leaves, and every counter at zero. -/
theorem launched : θ_run defs (onTc (τ := τ) (main (F := F))) (s₀ m ρ)
    (fun r => (Pipeline.FramePost (Pipeline.pin pcfgs fun _ => adm m R) (proofData m R) 0 (found m)) r ∧ r.2.sem = fun _ => 0) :=
  Pipeline.θ_run_frameP_track (Q' := _) pcfgs (fun _ => adm m R) (proofData m R) (0 : Fin 1) launch0 defs₀ Variants.none m ρ main
    (hbody := fun c => (obligation m R c).loose) (hshare := fun c => (proofData m R 0 c).share_full fun _ => rfl)
    (howed := fun _ _ => rfl) (V := found m) (hmain := region m Variants.none) (hA := arrays_eq m R) (hpf := found_tables m)
    (hin := at_start m R) (hout := at_end m R)

/-- The arguments end as they began, and the result's array at what the pipeline leaves. -/
theorem ran : θ_run defs (onTc (τ := τ) (main (F := F))) ⟨m, fun _ => 0, ρ⟩ (fun r => (∀ c : Dev nD,
      r.2.mem ((c.tc : Thread nD τ).loc main_v0) = (proofData m R 0 c).arrAt 4 (pipe m R).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 4,
      ((h.1 c).1 0).trans (((proofData m R 0 c).arrAt_in 0 rfl _).trans (arrays_eq m R c 0)),
      (h.1 c).2 main_arg1 (by decide : main_arg1 ∈ Pipeline.restRefs sig spec0),
      (h.1 c).2 main_arg2 (by decide : main_arg2 ∈ Pipeline.restRefs sig spec0),
      ((h.1 c).1 1).trans (((proofData m R 0 c).arrAt_in 1 rfl _).trans (arrays_eq m R c 1)),
      ((h.1 c).1 2).trans (((proofData m R 0 c).arrAt_in 2 rfl _).trans (arrays_eq m R c 2)),
      ((h.1 c).1 3).trans (((proofData m R 0 c).arrAt_in 3 rfl _).trans (arrays_eq m R c 3))⟩, h.2⟩) (launched m ρ R)

end Cert.Experts.Tiles

end
-- ==== Proof.ExpertsFinal.lean ====
module

public import proofs.«01_k».proof.Proof.ExpertsFrame
public import proofs.«01_k».proof.Proof.Gen.Experts.Launch
public import Idealize.ShloMosaic.Lib.Claim
public import proofs.«01_k».proof.Proof.Gen.Experts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value
public import Idealize.ShloMosaic.Lib.Pipeline.ValueKit.Geometry

@[expose] public section

set_option maxRecDepth 16384

noncomputable section

namespace Cert.Experts.Tiles

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (R : InRange m)

/-- The result's rows, tile by tile. -/
def allRows (c : Dev nD) : Vec F S196608x1024 .bf16 := fun i =>
  rows m R c ⟨(i 0).val / 1024, by have h : (i 0).val < 196608 := (i 0).isLt; omega⟩ (ix2 ⟨(i 0).val % 1024, Nat.mod_lt _ (by decide)⟩ (i 1))

theorem allRows_at (c : Dev nD) (k : Fin 192) (r j : Fin 1024) (i : S196608x1024.Idx) (h0 : (i 0).val = k.val * 1024 + r.val) (h1 : (i 1).val = j.val) :
    allRows m R c i = rows m R c k (ix2 r j) := by
  unfold allRows
  have ek : (⟨(i 0).val / 1024, by have h : (i 0).val < 196608 := (i 0).isLt; omega⟩ : Fin 192) = k := Fin.ext (by show (i 0).val / 1024 = k.val; omega)
  have er : (⟨(i 0).val % 1024, Nat.mod_lt _ (by decide)⟩ : Fin 1024) = r := Fin.ext (by show (i 0).val % 1024 = r.val; omega)
  have ej : (i 1 : Fin 1024) = j := Fin.ext h1
  rw [ek, er]
  exact congrArg (fun j : Fin 1024 => rows m R c k (ix2 r j)) ej

/-- What a point writes back is its block of those rows. -/
theorem written (c : Dev nD) (t : Fin (pipe m R).N) :
    (proofData m R 0 c).flushed 4 t = (((pipe m R).win 4).blk t).view.read (Elt F) (allRows m R c) := by
  funext (y : S1024x1024.Idx)
  have e : (proofData m R 0 c).flushed 4 t y = rows m R c (lastT m (tile m R t)) y := congrFun (after_4 m R c t) y
  refine e.trans ?_
  refine Eq.trans ?_ (allRows_at m R c (lastT m (tile m R t)) (y 0) (y 1) _ ?_ ?_).symm
  · exact congrArg _ (eq_ix2 y)
  · refine (Window.rect_emb_val ((pipe m R).win 4) t y (0 : Fin 2)).trans ?_
    rw [index4]; rfl
  · refine (Window.rect_emb_val ((pipe m R).win 4) t y (1 : Fin 2)).trans ?_
    rw [index4]; show 0 * 1024 + (y 1).val = (y 1).val; omega

/-- A used tile's block is written back. -/
theorem written_back (k : Fin 192) (hk : k.val < count m) : ∃ t : Fin (pipe m R).N, ((pipe m R).win 4).flush t = true ∧ lastT m (tile m R t) = k := by
  have hn : count m ≤ 192 := R.hi
  by_cases hl : k.val + 1 < count m
  · refine ⟨point m R k, ?_, Fin.ext (by show min k.val _ = k.val; omega)⟩
    unfold Window.flush
    have h2 : (point m R k).val + 1 < (pipe m R).grid.N := lt_of_lt_of_eq (show k.val + 1 < 192 by omega) N_0.symm
    simp only [Bool.and_eq_true, Bool.or_eq_true, decide_eq_true_eq]
    refine ⟨rfl, .inr ⟨h2, fun e => ?_⟩⟩
    rw [index4, index4] at e
    have e0 : min (k.val + 1) (count m - 1) = min k.val (count m - 1) := congrFun e 0
    omega
  · refine ⟨point m R ⟨191, by decide⟩, ?_, Fin.ext (by show min 191 _ = k.val; omega)⟩
    unfold Window.flush
    simp only [Bool.and_eq_true, Bool.or_eq_true, decide_eq_true_eq]
    exact ⟨rfl, .inl N_0.symm⟩

/-- The result at a row of a used tile. -/
theorem out_at (c : Dev nD) (k : Fin 192) (hk : k.val < count m) (r j : Fin 1024) :
    ((proofData m R 0 c).arrAt 4 (pipe m R).N : Vec F S196608x1024 .bf16) (ix2 ⟨k.val * 1024 + r.val, by omega⟩ j) = rows m R c k (ix2 r j) := by
  obtain ⟨t, hf, ht⟩ := written_back m R k hk
  refine ((proofData m R 0 c).arrAt_apply_of_mem 4 (allRows m R c) (fun t _ => written m R c t) (pipe m R).N t (ix2 ⟨k.val * 1024 + r.val, by omega⟩ j) t.isLt hf ?_).trans ?_
  · refine (ValueKit.mem_set_slice_whole_iff main_v0 (((pipe m R).win 4).rect t) (ix2 ⟨k.val * 1024 + r.val, by omega⟩ j) (Window.mem_rect_iff ((pipe m R).win 4) t _)).mpr fun a => ?_
    rw [index4]
    have hk : (clip (count m) (tile m R t)).val = k.val := congrArg Fin.val ht
    match a with
    | ⟨0, _⟩ =>
      show (clip (count m) (tile m R t)).val * 1024 ≤ k.val * 1024 + r.val ∧ k.val * 1024 + r.val < (clip (count m) (tile m R t)).val * 1024 + 1024
      omega
    | ⟨1, _⟩ => show 0 * 1024 ≤ j.val ∧ j.val < 0 * 1024 + 1024; omega
  · exact allRows_at m R c k r j _ rfl rfl

end Cert.Experts.Tiles

end
-- ==== Proof.ExpertsValue.lean ====
module

public import proofs.«01_k».proof.Proof.RowsSpec
public import proofs.«01_k».proof.Proof.ExpertsFinal
public import Idealize.ShloMosaic.Lib.Pointwise

/-! The experts' rows at the ideal floats: a row of a used tile is the tile's expert's SwiGLU of the row given. -/

@[expose] public section

set_option maxRecDepth 16384

noncomputable section

namespace Cert.Experts.Tiles

open Cert.Experts.Gen Idealize.ShloMosaic Idealize.ShloMosaic.TcCoe Idealize.SL.Sem
open Cert.Rows

theorem kept1_at (x : FVec Ideal S1x1x1024x256 .f32) (k : Fin 1024) (f : Fin 256) : k0_pay1 (F := Ideal) x (ix2 k f) = x (ix4 0 0 k f) := by
  pointwise [k0_pay1]
theorem kept2_at (x : FVec Ideal S1x1x1024x256 .f32) (k : Fin 1024) (f : Fin 256) : k0_pay2 (F := Ideal) x (ix2 k f) = x (ix4 0 0 k f) := by
  pointwise [k0_pay2]
theorem kept3_at (x : FVec Ideal S1x1x256x1024 .f32) (f : Fin 256) (k : Fin 1024) : k0_pay3 (F := Ideal) x (ix2 f k) = x (ix4 0 0 f k) := by
  pointwise [k0_pay3]

/-- The rows of a tile, unpacked. -/
def unp (x : IVec S1024x512 32) : FVec Ideal S1024x1024 .bf16 :=
  concatenate S1024x1024 1 [⟨S1024x512, truncf .bf16 (bitcastToFloat (F := Ideal) .f32 (shli x (broadcast S1024x512 16#32))) bitsLt_bf16_f32⟩,
    ⟨S1024x512, truncf .bf16 (bitcastToFloat (F := Ideal) .f32 (andi x (broadcast S1024x512 4294901760#32))) bitsLt_bf16_f32⟩] concatenates_S1024x512_S1024x512_S1024x1024_d1
/-- Their hidden units before the product with the up projection. -/
def prj (w : FVec Ideal S1024x1024 .bf16) (g : FVec Ideal S1024x256 .bf16) : FVec Ideal S1024x256 .f32 :=
  matmul dot_S1024x1024_S1024x256_S1024x256_1_0_0_1_n_n none w g (constant S1024x256 .f32 0x00000000#32)

theorem unp_at (x : IVec S1024x512 32) (r n : Fin 1024) : unp x (ix2 r n) = unpack (fun n => x (ix2 r n)) n := by
  pointwise [unp]
  unfold unpack
  rfl

theorem prj_at (w : FVec Ideal S1024x1024 .bf16) (g : FVec Ideal S1024x256 .bf16) (r : Fin 1024) (f : Fin 256) :
    prj w g (ix2 r f) = ∑ k : Fin 1024, w (ix2 r k) * g (ix2 k f) := by
  pointwise [prj]

theorem tile_at (x : IVec S1024x512 32) (g u : FVec Ideal S1024x256 .bf16) (d : FVec Ideal S256x1024 .bf16) (r n : Fin 1024) :
    k0_pay4 (F := Ideal) x g u d (ix2 r n) = glu (unpack fun k => x (ix2 r k)) (fun k f => g (ix2 k f)) (fun k f => u (ix2 k f)) (fun f n => d (ix2 f n)) n := by
  have h := prj_at (unp x) g r
  have h' := prj_at (unp x) u r
  simp only [unp_at] at h h'
  unfold k0_pay4
  change (truncf .bf16 (matmul dot_S1024x256_S256x1024_S1024x1024_1_0_0_1_n_n none (truncf .bf16 (mulf (mulf (prj (unp x) g) (divf (broadcast S1024x256 (Scalar.ofBits .f32 0x3F800000#32 : Ideal .f32)) (addf (broadcast S1024x256 (Scalar.ofBits .f32 0x3F800000#32 : Ideal .f32)) (exp (subf (broadcast S1024x256 (Scalar.ofBits .f32 0x00000000#32 : Ideal .f32)) (prj (unp x) g)))))) (prj (unp x) u)) bitsLt_bf16_f32) d (constant S1024x1024 .f32 0x00000000#32)) bitsLt_bf16_f32 : FVec Ideal S1024x1024 .bf16) (ix2 r n) = _
  generalize prj (unp x) g = p at h ⊢
  generalize prj (unp x) u = p' at h' ⊢
  pointwise []
  simp only [h, h']
  rfl

variable (m : (ℓ : Loc nD τ sig) → Buf (Elt Ideal) ℓ) (R : InRange m)

theorem gate_at (c : Dev nD) (k : Fin 192) (i : Fin 1024) (f : Fin 256) :
    gateW m R c k (ix2 i f) = (found m c main_arg3 : FVec Ideal S2x64x1024x256 .f32) (ix4 1 ⟨expert m k, R.ex k⟩ i f) :=
  (kept1_at _ i f).trans (blk1_at m R c (point m R k) i f)
theorem up_at (c : Dev nD) (k : Fin 192) (i : Fin 1024) (f : Fin 256) :
    upW m R c k (ix2 i f) = (found m c main_arg4 : FVec Ideal S2x64x1024x256 .f32) (ix4 1 ⟨expert m k, R.ex k⟩ i f) :=
  (kept2_at _ i f).trans (blk2_at m R c (point m R k) i f)
theorem down_at (c : Dev nD) (k : Fin 192) (f : Fin 256) (i : Fin 1024) :
    downW m R c k (ix2 f i) = (found m c main_arg5 : FVec Ideal S2x64x256x1024 .f32) (ix4 1 ⟨expert m k, R.ex k⟩ f i) :=
  (kept3_at _ f i).trans (blk3_at m R c (point m R k) f i)
theorem given_at (c : Dev nD) (k : Fin 192) (hk : k.val < count m) (r : Fin 1024) (j : Fin 512) :
    (blk m R c 0 (point m R k) : IVec S1024x512 32) (ix2 r j) = (found m c main_arg0 : IVec S196608x512 32) (ix2 ⟨k.val * 1024 + r.val, by omega⟩ j) :=
  (blk0_at m R c (point m R k) r j).trans (congrArg (fun i => (found m c main_arg0 : IVec S196608x512 32) (ix2 i j))
    (Fin.ext (by show min k.val (count m - 1) * 1024 + r.val = k.val * 1024 + r.val; rw [Nat.min_eq_left (by omega)])))

theorem glu_congr {x x' : Fin 1024 → EReal} {g g' u u' : Fin 1024 → Fin 256 → EReal} {d d' : Fin 256 → Fin 1024 → EReal} (n : Fin 1024)
    (hx : x = x') (hg : g = g') (hu : u = u') (hd : d = d') : glu x g u d n = glu x' g' u' d' n := by subst hx hg hu hd; rfl

theorem rows_at (c : Dev nD) (k : Fin 192) (hk : k.val < count m) (r n : Fin 1024) :
    rows m R c k (ix2 r n) = glu (unpack fun j => (found m c main_arg0 : IVec S196608x512 32) (ix2 ⟨k.val * 1024 + r.val, by omega⟩ j))
      (fun i f => (found m c main_arg3 : FVec Ideal S2x64x1024x256 .f32) (ix4 1 ⟨expert m k, R.ex k⟩ i f))
      (fun i f => (found m c main_arg4 : FVec Ideal S2x64x1024x256 .f32) (ix4 1 ⟨expert m k, R.ex k⟩ i f))
      (fun f i => (found m c main_arg5 : FVec Ideal S2x64x256x1024 .f32) (ix4 1 ⟨expert m k, R.ex k⟩ f i)) n := by
  refine (tile_at _ _ _ _ r n).trans ?_
  exact glu_congr n (congrArg unpack (funext fun j => given_at m R c k hk r j)) (funext fun i => funext fun f => gate_at m R c k i f)
    (funext fun i => funext fun f => up_at m R c k i f) (funext fun f => funext fun i => down_at m R c k f i)

end Cert.Experts.Tiles

end
-- ==== Proof.ExpertsRange.lean ====
module

public import proofs.«01_k».proof.Defs
public import proofs.«01_k».proof.Proof.ExpertsTables
public import proofs.«01_k».proof.Proof.Gen.Pre_tiles_in_range
public import proofs.«01_k».proof.Proof.Gen.On_tiles_used
public import Idealize.ShloMosaic.Lib.Pointwise

@[expose] public section

set_option maxRecDepth 16384

noncomputable section

namespace Cert.Experts.Tiles

open Idealize.ShloMosaic

/-- A word between two bounds in the signed order is so as a natural number. -/
theorem word_range {lo hi : BitVec 32} (hl : lo.toNat < 2147483648) (hh : hi.toNat < 2147483648) (w : BitVec 32)
    (h1 : IntOp.cmpi .sge w lo = 1#1) : lo.toNat ≤ w.toNat ∧ (IntOp.cmpi .slt w hi = 1#1 → w.toNat < hi.toNat) ∧ (IntOp.cmpi .sle w hi = 1#1 → w.toNat ≤ hi.toNat) := by
  have ob : ∀ b, BitVec.ofBool b = 1#1 ↔ b = true := by decide
  have := w.isLt
  simp only [IntOp.cmpi, BitVec.sle_eq_decide, BitVec.slt_eq_decide, BitVec.toInt_eq_toNat_cond, ob, decide_eq_true_eq, Nat.reducePow] at h1 ⊢
  refine ⟨?_, fun h2 => ?_, fun h2 => ?_⟩ <;> split_ifs at * <;> omega

/-- The precondition, as bounds of the two tables. -/
theorem ranged {F : FTy → Type} [FloatOps F] (a0 : IVec Cert.Pre_tiles_in_range.S196608x512 32) (te : IVec Cert.Pre_tiles_in_range.S192 32) (nu : IVec Cert.Pre_tiles_in_range.S1 32)
    (a3 a4 : FVec F Cert.Pre_tiles_in_range.S2x64x1024x256 .f32) (a5 : FVec F Cert.Pre_tiles_in_range.S2x64x256x1024 .f32)
    (h : @Cert.Pre_tiles_in_range.fn Cert.Pre_tiles_in_range.Gen.facts F _ a0 te nu a3 a4 a5 = fun _ => 1#1) : Ranged te nu := by
  have e : ∀ k : Fin 192, _ := fun k => congrFun h (ix1 k)
  pointwise [Cert.Pre_tiles_in_range.fn] at e
  have both : ∀ a b : BitVec 1, IntOp.andi a b = 1#1 → a = 1#1 ∧ b = 1#1 := by decide
  have en : nu (ix1 0) = wordN nu := congrArg nu (funext fun (a : Fin 1) => by obtain rfl := Subsingleton.elim a 0; rfl)
  have ee : ∀ k : Fin 192, te (ix1 k) = wordE te k := fun k => congrArg te (funext fun (a : Fin 1) => by obtain rfl := Subsingleton.elim a 0; rfl)
  refine ⟨?_, ?_, fun k => ?_⟩
  · have h3 := (both _ _ (both _ _ (e 0)).1).2
    rw [en] at h3
    exact (word_range (hi := 192#32) (by decide) (by decide) _ h3).1
  · have h3 := (both _ _ (both _ _ (e 0)).1).2
    have h4 := (both _ _ (e 0)).2
    rw [en] at h3 h4
    exact (word_range (hi := 192#32) (by decide) (by decide) _ h3).2.2 h4
  · have h3 := both _ _ (both _ _ (both _ _ (e k)).1).1
    rw [ee] at h3
    exact (word_range (hi := 64#32) (by decide) (by decide) _ h3.1).2.1 h3.2

/-- A row is of a used tile where the mask says so. -/
theorem used_row {F : FTy → Type} [FloatOps F] (a0 : IVec Cert.On_tiles_used.S196608x512 32) (te : IVec Cert.On_tiles_used.S192 32) (nu : IVec Cert.On_tiles_used.S1 32)
    (a3 a4 : FVec F Cert.On_tiles_used.S2x64x1024x256 .f32) (a5 : FVec F Cert.On_tiles_used.S2x64x256x1024 .f32) (R : Ranged te nu) (i : Fin 196608) (j : Fin 1024)
    (h : @Cert.On_tiles_used.fn Cert.On_tiles_used.Gen.facts F _ a0 te nu a3 a4 a5 (ix2 i j) = 1#1) : i.val / 1024 < (wordN nu).toNat := by
  pointwise [Cert.On_tiles_used.fn] at h
  have en : nu (ix1 0) = wordN nu := congrArg nu (funext fun (a : Fin 1) => by obtain rfl := Subsingleton.elim a 0; rfl)
  rw [en] at h
  have h1 := R.lo
  have h2 := R.hi
  have hi := i.isLt
  generalize hn : (wordN nu).toNat = n at *
  have hw : wordN nu = BitVec.ofNat 32 n := by rw [← hn]; simp
  rw [hw] at h
  have em : IntOp.muli (BitVec.ofNat 32 n) 1024#32 = BitVec.ofNat 32 (n * 1024) := by
    apply BitVec.eq_of_toNat_eq
    simp [IntOp.muli]
  have ob : ∀ b, BitVec.ofBool b = 1#1 ↔ b = true := by decide
  rw [em] at h
  simp only [IntOp.cmpi, BitVec.slt_eq_decide, ob, decide_eq_true_eq] at h
  rw [WordCmp.toInt_ofNat_of_lt (by omega), WordCmp.toInt_ofNat_of_lt (by omega)] at h
  omega

end Cert.Experts.Tiles

end
-- ==== Proof.ExpertsIdealRun.lean ====
module

public import proofs.«01_k».proof.Proof.ExpertsFrame
public import proofs.«01_k».proof.Proof.Gen.ExpertsIdeal

@[expose] public section

set_option maxRecDepth 16384

noncomputable section

namespace Cert.ExpertsIdeal.Tiles

open Cert.ExpertsIdeal Cert.ExpertsIdeal.Gen
open Idealize.ShloMosaic Idealize.ShloMosaic.TcCoe Idealize.SL.Sem

variable (m : (ℓ : Loc Cert.Experts.nD Cert.Experts.τ Cert.Experts.sig) → Buf (Elt Ideal) ℓ) (ρ : Dev nD → PrngReg) (R : Cert.Experts.Tiles.InRange m)

/-- The kernel read at the ideal floats has one text with the kernel: its body table is the same. -/
theorem same_bodies : (Cert.ExpertsIdeal.defs₀ (F := Ideal) : Defs Cert.Experts.nD Cert.Experts.τ Cert.Experts.sig (Elt Ideal) Cert.Experts.Λ₀) = Cert.Experts.defs₀ (F := Ideal) := by
  unfold Cert.ExpertsIdeal.defs₀ Cert.Experts.defs₀
  refine congrArg Defs.onTc (funext fun l => funext fun a => ?_)
  match l, a with
  | 0, (t, s) => rfl

theorem same_defs : (Cert.ExpertsIdeal.defs (F := Ideal) : Defs Cert.Experts.nD Cert.Experts.τ Cert.Experts.sig (Elt Ideal) (Pipeline.Sig Cert.Experts.Λ₀ (Fin 1) fun p => (Cert.Experts.pcfgs (F := Ideal) p).Adm)) = Cert.Experts.defs (F := Ideal) :=
  congrArg (Pipeline.defs (Cert.Experts.pcfgs (F := Ideal))) same_bodies

/-- Its run, therefore, is the kernel's at the ideal floats. -/
theorem ran : θ_run (Cert.ExpertsIdeal.defs (F := Ideal)) (onTc (τ := Cert.ExpertsIdeal.τ) (Cert.ExpertsIdeal.main (F := Ideal))) ⟨m, fun _ => 0, ρ⟩ (fun r =>
    (∀ c : Dev Cert.ExpertsIdeal.nD, r.2.mem ((c.tc : Thread Cert.ExpertsIdeal.nD Cert.ExpertsIdeal.τ).loc Cert.ExpertsIdeal.main_v0) = (Cert.Experts.Tiles.proofData m R 0 c).arrAt 4 (Cert.Experts.Tiles.pipe m R).N
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
    ∧ r.2.sem = fun _ => 0) := by
  have h := Cert.Experts.Tiles.ran (F := Ideal) m ρ R
  rw [← same_defs] at h
  exact h

end Cert.ExpertsIdeal.Tiles

end
-- ==== Proof.ExpertsRef.lean ====
module

public import proofs.«01_k».proof.Proof.RowsSpec
public import proofs.«01_k».proof.Proof.Gen.ExpertsReferenceIdeal.Run
public import Idealize.ShloMosaic.Lib.Pointwise
public import Idealize.ShloMosaic.Lib.StackMember
public import Idealize.ShloMosaic.Lib.StableHlo.Predicate

/-! The reference's rows of the experts at an index. -/

@[expose] public section

set_option maxRecDepth 16384

noncomputable section

namespace Cert.ExpertsReferenceIdeal.Rows

open Cert.ExpertsReferenceIdeal Cert.ExpertsReferenceIdeal.Gen Idealize.ShloMosaic Idealize.ShloMosaic.TcCoe Idealize.SL.Sem
open Cert.Rows

section
variable {F : FTy → Type} [FloatOps F]
/-- The tokens' rows, unpacked. -/
def unp (a0 : IVec S196608x512 32) : FVec F S196608x1024 .f32 := concatenate S196608x1024 1 [⟨S196608x512, (bitcastToFloat (F := F) .f32 (Host.shli a0 (broadcastInDim S196608x512 ![] bcast_S_S196608x512 (constantI S_ 32 16#32))))⟩, ⟨S196608x512, (bitcastToFloat (F := F) .f32 (andi a0 (broadcastInDim S196608x512 ![] bcast_S_S196608x512 (constantI S_ 32 4294901760#32))))⟩] concatenates_S196608x512_S196608x512_S196608x1024_d1
/-- The same, tile by tile. -/
def tiled (a0 : IVec S196608x512 32) : FVec F S192x1024x1024 .f32 := shapeCast _ (unp a0) shapeCasts_S196608x1024_S192x1024x1024
/-- The tiles' experts, as a column. -/
def col (te : IVec S192 32) : IVec S192x1 32 := broadcastInDim S192x1 ![0] bcast_S192_S192x1_0 te
/-- The second layer's weights, up or gate. -/
def lay (a : FVec F S2x64x1024x256 .f32) : FVec F S64x1024x256 .f32 := shapeCast _ (extractStridedSlice S1x64x1024x256 ![1, 0, 0, 0] a slices_S2x64x1024x256_S1x64x1024x256_1_0_0_0) shapeCasts_S1x64x1024x256_S64x1024x256
/-- The second layer's weights, down. -/
def layD (a : FVec F S2x64x256x1024 .f32) : FVec F S64x256x1024 .f32 := shapeCast _ (extractStridedSlice S1x64x256x1024 ![1, 0, 0, 0] a slices_S2x64x256x1024_S1x64x256x1024_1_0_0_0) shapeCasts_S1x64x256x1024_S64x256x1024
/-- Each tile's own weights, up or gate. -/
def own (w : FVec F S64x1024x256 .f32) (te : IVec S192 32) : FVec F S192x1024x256 .f32 := Host.gather gather_S64x1024x256_S192x1_S192x1024x256_12_0_n_n_0_1_11024256 w (col te)
/-- Each tile's own weights, down. -/
def ownD (w : FVec F S64x256x1024 .f32) (te : IVec S192 32) : FVec F S192x256x1024 .f32 := Host.gather gather_S64x256x1024_S192x1_S192x256x1024_12_0_n_n_0_1_12561024 w (col te)
/-- A projection of the tiles by their own weights. -/
def proj (x : FVec F S192x1024x1024 .f32) (w : FVec F S192x1024x256 .f32) : FVec F S192x1024x256 .f32 := Host.dotGeneral dot_S192x1024x1024_S192x1024x256_S192x1024x256_2_1_1_2_0_0 none x w
/-- The hidden units. -/
def hid (g u : FVec F S192x1024x256 .f32) : FVec F S192x1024x256 .f32 := mulf (mulf g (Host.divf (broadcastInDim S192x1024x256 ![] bcast_S_S192x1024x256 (constant S_ .f32 0x3F800000#32)) (addf (broadcastInDim S192x1024x256 ![] bcast_S_S192x1024x256 (constant S_ .f32 0x3F800000#32)) (Host.exp (Host.negf g))))) u
/-- The result, tile by tile. -/
def out (h : FVec F S192x1024x256 .f32) (w : FVec F S192x256x1024 .f32) : FVec F S192x1024x1024 .f32 := Host.dotGeneral dot_S192x1024x256_S192x256x1024_S192x1024x1024_2_1_1_2_0_0 none h w
/-- The result array, of one layer's weights. -/
def resOf (a0 : IVec S196608x512 32) (te : IVec S192 32) (w1 w2 : FVec F S64x1024x256 .f32) (w3 : FVec F S64x256x1024 .f32) : FVec F S196608x1024 .bf16 :=
  truncf .bf16 (shapeCast _ (out (hid (proj (tiled a0) (own w1 te)) (proj (tiled a0) (own w2 te))) (ownD w3 te)) shapeCasts_S192x1024x1024_S196608x1024) bitsLt_bf16_f32
/-- The result array. -/
def res (a0 : IVec S196608x512 32) (te : IVec S192 32) (a3 a4 : FVec F S2x64x1024x256 .f32) (a5 : FVec F S2x64x256x1024 .f32) : FVec F S196608x1024 .bf16 :=
  resOf a0 te (lay a3) (lay a4) (layD a5)
end

theorem unp_at (a0 : IVec S196608x512 32) (i : Fin 196608) (n : Fin 1024) : unp (F := Ideal) a0 (ix2 i n) = unpack (fun n => a0 (ix2 i n)) n := by
  pointwise [unp]
  unfold unpack
  rfl

theorem tiled_at (a0 : IVec S196608x512 32) (k : Fin 192) (r n : Fin 1024) :
    tiled (F := Ideal) a0 (ix3 k r n) = unpack (fun n => a0 (ix2 ⟨k.val * 1024 + r.val, by omega⟩ n)) n := by
  rw [← unp_at]
  unfold tiled
  generalize unp (F := Ideal) a0 = u
  refine shapeCast_apply _ _ _ _ ?_
  rw [Shape.rowMajor_val_two, Shape.rowMajor_val_three]
  rfl

theorem col_at (te : IVec S192 32) (k : Fin 192) : col te (ix2 k 0) = te (ix1 k) := by
  pointwise [col]

theorem lay_at (a : FVec Ideal S2x64x1024x256 .f32) (e : Fin 64) (i : Fin 1024) (f : Fin 256) : lay (F := Ideal) a (ix3 e i f) = a (ix4 1 e i f) := by
  pointwise [lay]

theorem layD_at (a : FVec Ideal S2x64x256x1024 .f32) (e : Fin 64) (f : Fin 256) (i : Fin 1024) : layD (F := Ideal) a (ix3 e f i) = a (ix4 1 e f i) := by
  pointwise [layD]

/-- A tile's index into a table of 64, from its word. -/
theorem word_start (w : BitVec 32) (h : w.toNat < 64) : min w.toInt.toNat 63 = w.toNat := by
  rw [StableHlo.Predicate.toInt_eq_toNat_of_lt (by omega)]
  omega

theorem own_at (w : FVec Ideal S64x1024x256 .f32) (te : IVec S192 32) (k : Fin 192) (h : (te (ix1 k)).toNat < 64) (i : Fin 1024) (f : Fin 256) :
    own (F := Ideal) w te (ix3 k i f) = w (ix3 ⟨(te (ix1 k)).toNat, h⟩ i f) := by
  unfold own Host.gather
  refine congrArg w (funext fun (a : Fin 3) => Fin.ext ?_)
  match a with
  | 0 =>
    have hs : ∀ c, gather_S64x1024x256_S192x1_S192x1024x256_12_0_n_n_0_1_11024256.siIdx (ix3 k i f) c = ix2 k 0 := fun c => by
      funext (b : Fin 2)
      match b with
      | 0 => rfl
      | 1 => exact Fin.ext (by have := c.isLt; show c.val = 0; change c.val < 1 at this; omega)
    show min (col te (gather_S64x1024x256_S192x1_S192x1024x256_12_0_n_n_0_1_11024256.siIdx (ix3 k i f) _)).toInt.toNat 63 + 0 + 0 = (te (ix1 k)).toNat
    rw [hs, col_at, word_start _ h]
    rfl
  | 1 => show 0 + 0 + i.val = i.val; omega
  | 2 => show 0 + 0 + f.val = f.val; omega

theorem ownD_at (w : FVec Ideal S64x256x1024 .f32) (te : IVec S192 32) (k : Fin 192) (h : (te (ix1 k)).toNat < 64) (f : Fin 256) (i : Fin 1024) :
    ownD (F := Ideal) w te (ix3 k f i) = w (ix3 ⟨(te (ix1 k)).toNat, h⟩ f i) := by
  unfold ownD Host.gather
  refine congrArg w (funext fun (a : Fin 3) => Fin.ext ?_)
  match a with
  | 0 =>
    have hs : ∀ c, gather_S64x256x1024_S192x1_S192x256x1024_12_0_n_n_0_1_12561024.siIdx (ix3 k f i) c = ix2 k 0 := fun c => by
      funext (b : Fin 2)
      match b with
      | 0 => rfl
      | 1 => exact Fin.ext (by have := c.isLt; show c.val = 0; change c.val < 1 at this; omega)
    show min (col te (gather_S64x256x1024_S192x1_S192x256x1024_12_0_n_n_0_1_12561024.siIdx (ix3 k f i) _)).toInt.toNat 63 + 0 + 0 = (te (ix1 k)).toNat
    rw [hs, col_at, word_start _ h]
    rfl
  | 1 => show 0 + 0 + f.val = f.val; omega
  | 2 => show 0 + 0 + i.val = i.val; omega

theorem proj_at (x : FVec Ideal S192x1024x1024 .f32) (w : FVec Ideal S192x1024x256 .f32) (k : Fin 192) (r : Fin 1024) (f : Fin 256) :
    proj (F := Ideal) x w (ix3 k r f) = ∑ j : Fin 1024, x (ix3 k r j) * w (ix3 k j f) :=
  StackMember.dotGeneral_stack_apply _ none x w k r f

theorem out_at (h : FVec Ideal S192x1024x256 .f32) (w : FVec Ideal S192x256x1024 .f32) (k : Fin 192) (r n : Fin 1024) :
    out (F := Ideal) h w (ix3 k r n) = ∑ f : Fin 256, h (ix3 k r f) * w (ix3 k f n) :=
  StackMember.dotGeneral_stack_apply _ none h w k r n

theorem hid_at (g u : FVec Ideal S192x1024x256 .f32) (k : Fin 192) (r : Fin 1024) (f : Fin 256) :
    hid (F := Ideal) g u (ix3 k r f) = g (ix3 k r f) * Cert.Hgrn.sigm (g (ix3 k r f)) * u (ix3 k r f) := by
  pointwise [hid]
  rw [← zero_sub]
  rfl

theorem proj_own (a0 : IVec S196608x512 32) (te : IVec S192 32) (w : FVec Ideal S64x1024x256 .f32) (k : Fin 192) (h : (te (ix1 k)).toNat < 64) (r : Fin 1024) (f : Fin 256) :
    proj (F := Ideal) (tiled a0) (own w te) (ix3 k r f)
      = ∑ j : Fin 1024, unpack (fun n => a0 (ix2 ⟨k.val * 1024 + r.val, by omega⟩ n)) j * w (ix3 ⟨(te (ix1 k)).toNat, h⟩ j f) := by
  rw [proj_at]
  refine Finset.sum_congr rfl fun j _ => ?_
  rw [tiled_at, own_at _ te k h]

theorem resOf_at (a0 : IVec S196608x512 32) (te : IVec S192 32) (w1 w2 : FVec Ideal S64x1024x256 .f32) (w3 : FVec Ideal S64x256x1024 .f32)
    (k : Fin 192) (h : (te (ix1 k)).toNat < 64) (r n : Fin 1024) :
    resOf (F := Ideal) a0 te w1 w2 w3 (ix2 ⟨k.val * 1024 + r.val, by omega⟩ n)
      = glu (unpack fun n => a0 (ix2 ⟨k.val * 1024 + r.val, by omega⟩ n)) (fun i f => w1 (ix3 ⟨(te (ix1 k)).toNat, h⟩ i f))
          (fun i f => w2 (ix3 ⟨(te (ix1 k)).toNat, h⟩ i f)) (fun f i => w3 (ix3 ⟨(te (ix1 k)).toNat, h⟩ f i)) n := by
  have e : resOf (F := Ideal) a0 te w1 w2 w3 (ix2 ⟨k.val * 1024 + r.val, by omega⟩ n)
      = out (hid (proj (tiled a0) (own w1 te)) (proj (tiled a0) (own w2 te))) (ownD w3 te) (ix3 k r n) := by
    unfold resOf
    generalize out (hid (proj (tiled a0) (own w1 te)) (proj (tiled a0) (own w2 te))) (ownD w3 te) = v
    refine shapeCast_apply v _ _ _ ?_
    rw [Shape.rowMajor_val_two, Shape.rowMajor_val_three]
    rfl
  rw [e, out_at]
  refine Finset.sum_congr rfl fun f _ => ?_
  rw [hid_at, proj_own a0 te w1 k h, proj_own a0 te w2 k h, ownD_at _ te k h]
  rfl

theorem res_at (a0 : IVec S196608x512 32) (te : IVec S192 32) (a3 a4 : FVec Ideal S2x64x1024x256 .f32) (a5 : FVec Ideal S2x64x256x1024 .f32)
    (k : Fin 192) (h : (te (ix1 k)).toNat < 64) (r n : Fin 1024) :
    res (F := Ideal) a0 te a3 a4 a5 (ix2 ⟨k.val * 1024 + r.val, by omega⟩ n)
      = glu (unpack fun n => a0 (ix2 ⟨k.val * 1024 + r.val, by omega⟩ n)) (fun i f => a3 (ix4 1 ⟨(te (ix1 k)).toNat, h⟩ i f))
          (fun i f => a4 (ix4 1 ⟨(te (ix1 k)).toNat, h⟩ i f)) (fun f i => a5 (ix4 1 ⟨(te (ix1 k)).toNat, h⟩ f i)) n := by
  refine (resOf_at a0 te _ _ _ k h r n).trans ?_
  simp only [lay_at, layD_at]

end Cert.ExpertsReferenceIdeal.Rows

end
-- ==== Proof.ExpertsEq.lean ====
module

public import proofs.«01_k».proof.Proof.ExpertsValue
public import proofs.«01_k».proof.Proof.ExpertsRange
public import proofs.«01_k».proof.Proof.ExpertsIdealRun
public import proofs.«01_k».proof.Proof.ExpertsRef

/-! The experts' kernel and its reference have the same rows wherever a tile is in use. -/

@[expose] public section

set_option maxRecDepth 16384

noncomputable section

namespace Cert.ExpertsAlg

open Idealize.ShloMosaic Idealize.ShloMosaic.TcCoe Idealize.SL.Sem
open Cert.Experts.Tiles Cert.Experts

variable (m : (ℓ : Loc nD τ sig) → Buf (Elt Ideal) ℓ)
  (m' : (ℓ : Loc Cert.ExpertsReferenceIdeal.nD Cert.ExpertsReferenceIdeal.τ Cert.ExpertsReferenceIdeal.sig) → Buf (Elt Ideal) ℓ)

theorem word_of (R : InRange m) (k : Fin 192) : ((found m 0 main_arg1 : IVec Cert.ExpertsReferenceIdeal.S192 32) (ix1 k)).toNat = expert m k :=
  congrArg (fun i => ((found m 0 main_arg1 : IVec Cert.ExpertsReferenceIdeal.S192 32) i).toNat) (funext fun (a : Fin 1) => by obtain rfl := Subsingleton.elim a 0; rfl)

theorem eq (c : Dev nD) (R : InRange m)
    (h0 : m' ((c.tc : Thread Cert.ExpertsReferenceIdeal.nD Cert.ExpertsReferenceIdeal.τ).loc Cert.ExpertsReferenceIdeal.main_arg0) = found m c main_arg0)
    (h1 : m' ((c.tc : Thread Cert.ExpertsReferenceIdeal.nD Cert.ExpertsReferenceIdeal.τ).loc Cert.ExpertsReferenceIdeal.main_arg1) = found m c main_arg1)
    (h3 : m' ((c.tc : Thread Cert.ExpertsReferenceIdeal.nD Cert.ExpertsReferenceIdeal.τ).loc Cert.ExpertsReferenceIdeal.main_arg3) = found m c main_arg3)
    (h4 : m' ((c.tc : Thread Cert.ExpertsReferenceIdeal.nD Cert.ExpertsReferenceIdeal.τ).loc Cert.ExpertsReferenceIdeal.main_arg4) = found m c main_arg4)
    (h5 : m' ((c.tc : Thread Cert.ExpertsReferenceIdeal.nD Cert.ExpertsReferenceIdeal.τ).loc Cert.ExpertsReferenceIdeal.main_arg5) = found m c main_arg5)
    (i : Cert.ExpertsReferenceIdeal.S196608x1024.Idx)
    (hm : @Cert.On_tiles_used.fn Cert.On_tiles_used.Gen.facts Ideal _ (found m c main_arg0) (found m c main_arg1) (found m c main_arg2) (found m c main_arg3) (found m c main_arg4) (found m c main_arg5) i = 1#1) :
    Cert.ExpertsReferenceIdeal.Rows.res (F := Ideal) (m' ((c.tc : Thread Cert.ExpertsReferenceIdeal.nD Cert.ExpertsReferenceIdeal.τ).loc Cert.ExpertsReferenceIdeal.main_arg0))
      (m' ((c.tc : Thread Cert.ExpertsReferenceIdeal.nD Cert.ExpertsReferenceIdeal.τ).loc Cert.ExpertsReferenceIdeal.main_arg1))
      (m' ((c.tc : Thread Cert.ExpertsReferenceIdeal.nD Cert.ExpertsReferenceIdeal.τ).loc Cert.ExpertsReferenceIdeal.main_arg3))
      (m' ((c.tc : Thread Cert.ExpertsReferenceIdeal.nD Cert.ExpertsReferenceIdeal.τ).loc Cert.ExpertsReferenceIdeal.main_arg4))
      (m' ((c.tc : Thread Cert.ExpertsReferenceIdeal.nD Cert.ExpertsReferenceIdeal.τ).loc Cert.ExpertsReferenceIdeal.main_arg5)) i
      = ((proofData m R 0 c).arrAt 4 (pipe m R).N : Vec Ideal S196608x1024 .bf16) i := by
  obtain rfl := Subsingleton.elim c 0
  rw [h0, h1, h3, h4, h5]
  obtain ⟨i, j, rfl⟩ : ∃ (a : Fin 196608) (b : Fin 1024), i = ix2 a b := ⟨i 0, i 1, eq_ix2 i⟩
  have hk : i.val / 1024 < count m := used_row _ _ _ _ _ _ R i j hm
  have hi := i.isLt
  obtain ⟨k, hkv⟩ : ∃ k : Fin 192, k.val = i.val / 1024 := ⟨⟨i.val / 1024, by omega⟩, rfl⟩
  obtain ⟨r, hrv⟩ : ∃ r : Fin 1024, r.val = i.val % 1024 := ⟨⟨i.val % 1024, by omega⟩, rfl⟩
  have he : i = ⟨k.val * 1024 + r.val, by omega⟩ := Fin.ext (by show i.val = k.val * 1024 + r.val; omega)
  rw [← hkv] at hk
  rw [he]
  refine Eq.trans ?_ (out_at m R 0 k hk r j).symm
  refine Eq.trans ?_ (rows_at m R 0 k hk r j).symm
  rw [show (⟨expert m k, R.ex k⟩ : Fin 64) = ⟨_, (word_of m R k).trans_lt (R.ex k)⟩ from Fin.ext (word_of m R k).symm]
  exact Cert.ExpertsReferenceIdeal.Rows.res_at _ _ _ _ _ k ((word_of m R k).trans_lt (R.ex k)) r j

end Cert.ExpertsAlg

end
-- ==== Proof.FirstTables.lean ====
module

public import proofs.«01_k».proof.Proof.ExpertsFrame
public import proofs.«01_k».proof.Proof.Gen.FirstExperts.Launch
public import proofs.«01_k».proof.Proof.Gen.FirstExperts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FirstExperts.Tiles

open Cert.FirstExperts.Gen
open Cert.Experts.Tiles (wordN wordE prev fresh off1_eq Ranged clip min_word fresh_iff carried ix_weight)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem atD_eq (pf : pre0.Contents (Elt F)) : pf.atD 1 ![0] = wordN (pf 1) := by
  unfold wordN Pipeline.Prefetch.Contents.atD
  refine (dif_pos (fun a => ?_)).trans (congrArg (pf 1) (funext fun a => ?_))
  · obtain rfl : a = (0 : Fin 1) := Subsingleton.elim (α := Fin 1) _ _; decide
  · obtain rfl : a = (0 : Fin 1) := Subsingleton.elim (α := Fin 1) _ _; rfl
theorem map0 (pf : pre0.Contents (Elt F)) (h : Ranged (pf 0) (pf 1)) (i : grid0.Coords) : cc0_transform_0 inb_S1_S1_0 numel1_S1 pf i = ![(clip (wordN (pf 1)).toNat (i 0)).val, 0] := by
  unfold cc0_transform_0
  have e : pf.at 1 (Rect.unit (s := S1) ![0] S1.size inb_S1_S1_0) numel1_S1 = wordN (pf 1) :=
    congrArg (pf 1) (funext fun a => by obtain rfl : a = (0 : Fin 1) := Subsingleton.elim (α := Fin 1) _ _; rfl)
  dsimp only
  rw [e, min_word h (i 0)]
  rfl
theorem map4 (pf : pre0.Contents (Elt F)) (h : Ranged (pf 0) (pf 1)) (i : grid0.Coords) : cc0_transform_4 inb_S1_S1_0 numel1_S1 pf i = ![(clip (wordN (pf 1)).toNat (i 0)).val, 0] :=
  (rfl : _ = cc0_transform_0 inb_S1_S1_0 numel1_S1 pf i).trans (map0 pf h i)
theorem map1 (pf : pre0.Contents (Elt F)) (i : grid0.Coords) : cc0_transform_1 k0_off1_inb numel1_S1 pf i = ![0, (wordE (pf 0) (i 0)).toNat, 0, 0] := by
  unfold cc0_transform_1
  have e : pf.at 0 (Rect.unit (s := S192) ![(Scalar.indexCast (BitVec.ofNat 32 (i 0).val)).toNat] S1.size (k0_off1_inb i)) numel1_S1 = wordE (pf 0) (i 0) :=
    congrArg (pf 0) (funext fun a => by obtain rfl : a = (0 : Fin 1) := Subsingleton.elim (α := Fin 1) _ _; exact Fin.ext (off1_eq (i 0)))
  dsimp only
  rw [e]
  rfl
theorem map2 (pf : pre0.Contents (Elt F)) (i : grid0.Coords) : cc0_transform_2 k0_off1_inb numel1_S1 pf i = ![0, (wordE (pf 0) (i 0)).toNat, 0, 0] :=
  (rfl : _ = cc0_transform_1 k0_off1_inb numel1_S1 pf i).trans (map1 pf i)
theorem map3 (pf : pre0.Contents (Elt F)) (i : grid0.Coords) : cc0_transform_3 k0_off1_inb numel1_S1 pf i = ![0, (wordE (pf 0) (i 0)).toNat, 0, 0] :=
  (rfl : _ = cc0_transform_1 k0_off1_inb numel1_S1 pf i).trans (map1 pf i)

/-- Tables in range keep every window's block inside its array. -/
theorem ok_of_ranged (pf : pre0.Contents (Elt F)) (h : Ranged (pf 0) (pf 1)) : ok0 pf := by
  have hb : ∀ i : grid0.Coords, (clip (wordN (pf 1)).toNat (i 0)).val < 192 := fun i => (clip _ _).isLt
  have he : ∀ i : grid0.Coords, (wordE (pf 0) (i 0)).toNat < 64 := fun i => h.ex _
  refine ⟨fun i => ⟨?_, .inl rfl⟩, fun i => ⟨?_, .inl rfl⟩, fun i => ⟨?_, .inl rfl⟩, fun i => ⟨?_, .inl rfl⟩,
    fun i => ⟨?_, .inr (.inl (.inr ⟨by decide, rfl, .inl ⟨?_, ?_⟩⟩))⟩⟩
  rotate_right 2
  · exact Dvd.dvd.mul_left (by decide : 2 ∣ 1024) _
  · show 2 ∣ 1024; decide
  · rw [map0 pf h i]; have := hb i; intro a
    match a with
    | 0 => show ((clip _ _).val + 1) * 1024 ≤ 196608; omega
    | 1 => exact (by decide : (0 + 1) * 512 ≤ 512)
  · rw [map1 pf i]; have := he i; intro a
    match a with
    | 0 => exact (by decide : (0 + 1) * 1 ≤ 2)
    | 1 => show ((wordE (pf 0) (i 0)).toNat + 1) * 1 ≤ 64; omega
    | 2 => exact (by decide : (0 + 1) * 1024 ≤ 1024)
    | 3 => exact (by decide : (0 + 1) * 256 ≤ 256)
  · rw [map2 pf i]; have := he i; intro a
    match a with
    | 0 => exact (by decide : (0 + 1) * 1 ≤ 2)
    | 1 => show ((wordE (pf 0) (i 0)).toNat + 1) * 1 ≤ 64; omega
    | 2 => exact (by decide : (0 + 1) * 1024 ≤ 1024)
    | 3 => exact (by decide : (0 + 1) * 256 ≤ 256)
  · rw [map3 pf i]; have := he i; intro a
    match a with
    | 0 => exact (by decide : (0 + 1) * 1 ≤ 2)
    | 1 => show ((wordE (pf 0) (i 0)).toNat + 1) * 1 ≤ 64; omega
    | 2 => exact (by decide : (0 + 1) * 256 ≤ 256)
    | 3 => exact (by decide : (0 + 1) * 1024 ≤ 1024)
  · rw [map4 pf h i]; have := hb i; intro a
    match a with
    | 0 => show ((clip _ _).val + 1) * 1024 ≤ 196608; omega
    | 1 => exact (by decide : (0 + 1) * 1024 ≤ 1024)

end Cert.FirstExperts.Tiles

end
-- ==== Proof.FirstBlocks.lean ====
module

public import proofs.«01_k».proof.Proof.FirstTables
public import proofs.«01_k».proof.Proof.Gen.FirstExperts.Launch
public import Idealize.ShloMosaic.Lib.Claim
public import Idealize.ShloMosaic.Lib.Pipeline.ValueKit.Point
public import proofs.«01_k».proof.Proof.Gen.FirstExperts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FirstExperts.Tiles

open Cert.FirstExperts.Gen
open Cert.Experts.Tiles (wordN wordE prev fresh off1_eq Ranged clip min_word fresh_iff carried ix_weight)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: those of the launch, the call being all the program does. -/
abbrev found (c : Dev nD) (b : Ref sig .tc) : Buf (Elt F) ((c : Thread nD τ).loc b) := m ((c : Thread nD τ).loc b)

theorem region (𝒱 : Variants) : Pipeline.HMainP (Ix := Unit) (Name := ℕ) (U := UR sig nD τ) (Lvl := ℕ) pcfgs 0 defs₀ 𝒱 m (main (F := F)) (found m) :=
  Pipeline.hmainP_region pcfgs 0 defs₀ 𝒱 m main fun c => (main_chain c).trans rfl

/-- The two tables, as the body is handed them. -/
abbrev tabE : Memref sig .tc .smem S192 .i32 := Memref.whole main_arg1
abbrev tabN : Memref sig .tc .smem S1 .i32 := Memref.whole main_arg2
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The two tables of the launch. -/
def tables : pre0.Contents (Elt F) := fun j => found m (0 : Dev nD) (pre0.ref j)

theorem found_tables (c : Dev nD) (j : Fin 2) : found m c (pre0.ref j) = tables m j := by
  rw [Subsingleton.elim c 0]; rfl

abbrev InRange : Prop := Ranged (tables m 0) (tables m 1)

/-- How many tiles are in use. -/
abbrev count : ℕ := (wordN (tables m 1)).toNat
/-- Tile `k`'s expert. -/
abbrev expert (k : Fin 192) : ℕ := (wordE (tables m 0) k).toNat

abbrev adm (R : InRange m) : (pcfg0 (F := F)).Adm := ⟨tables m, ok_of_ranged _ R⟩
abbrev pipe (R : InRange m) : Pipeline.Cfg sig Λ₀ := cfg0 (adm m R)

theorem halves (c : Dev nD) : (Pipeline.ΦT pre0 (tables m) c : sProp 𝕄) = iprop(tabPt c tabE (tables m 0) ∗ tabPt c tabN (tables m 1)) := by
  unfold Pipeline.ΦT Pipeline.prefHeld
  rw [show (Finset.univ : Finset (Fin 2)) = insert (0 : Fin 2) {(1 : Fin 2)} from by decide,
    bigSep_insert (by decide), bigSep_singleton]
  rfl

variable (R : InRange m)

/-- A point's tile, and a tile's point. -/
def tile (t : Fin (pipe m R).N) : Fin 192 := Fin.cast N_0 t
def point (k : Fin 192) : Fin (pipe m R).N := Fin.cast N_0.symm k

theorem point_tile (t : Fin (pipe m R).N) : point m R (tile m R t) = t := rfl
theorem tile_point (k : Fin 192) : tile m R (point m R k) = k := rfl
theorem coords_tile (t : Fin (pipe m R).N) : ((pipe m R).grid.coords t 0 : Fin 192) = tile m R t := by
  have h : (grid0.coords t 0).val = t.val / 1 % 192 := Pipeline.Grid.coords_val (G := grid0) t 0 (by decide) rfl
  have ht : t.val < 192 := lt_of_lt_of_eq t.isLt N_0
  exact Fin.ext (h.trans (by show t.val / 1 % 192 = t.val; omega))

/-- Window `w`'s block at point `t`. -/
def blk (c : Dev nD) (w : Fin (pipe m R).W) (t : Fin (pipe m R).N) : (((pipe m R).win w).xblock ((pipe m R).grid.coords t)).Idx → Elt F ((pipe m R).win w).elt :=
  (((pipe m R).win w).blk t).view.read (Elt F) (found m c (Pipeline.arrRef spec0 w))

theorem index0 (t : Fin (pipe m R).N) : ((pipe m R).win 0).index t = ![(clip (count m) (tile m R t)).val, 0] := by
  rw [← coords_tile]; exact map0 (tables m) R ((pipe m R).grid.coords t)
theorem index1 (t : Fin (pipe m R).N) : ((pipe m R).win 1).index t = ![0, expert m (tile m R t), 0, 0] := by
  rw [← coords_tile]; exact map1 (tables m) ((pipe m R).grid.coords t)
theorem index2 (t : Fin (pipe m R).N) : ((pipe m R).win 2).index t = ![0, expert m (tile m R t), 0, 0] := by
  rw [← coords_tile]; exact map2 (tables m) ((pipe m R).grid.coords t)
theorem index3 (t : Fin (pipe m R).N) : ((pipe m R).win 3).index t = ![0, expert m (tile m R t), 0, 0] := by
  rw [← coords_tile]; exact map3 (tables m) ((pipe m R).grid.coords t)
theorem index4 (t : Fin (pipe m R).N) : ((pipe m R).win 4).index t = ![(clip (count m) (tile m R t)).val, 0] := by
  rw [← coords_tile]; exact map4 (tables m) R ((pipe m R).grid.coords t)

/-- An element of a tile's block of the gathered rows, and of its expert's weights, in the arrays. -/
theorem blk0_at (c : Dev nD) (t : Fin (pipe m R).N) (r : Fin 1024) (k : Fin 512) :
    (blk m R c 0 t : Vec F S1024x512 .i32) (ix2 r k) = (found m c main_arg0 : Vec F S196608x512 .i32) (ix2 ⟨(clip (count m) (tile m R t)).val * 1024 + r.val, by have := (clip (count m) (tile m R t)).isLt; omega⟩ k) := by
  refine congrArg (found m c main_arg0 : Vec F S196608x512 .i32) (funext fun (a : Fin 2) => Fin.ext ?_)
  refine (Window.rect_emb_val ((pipe m R).win 0) t (ix2 r k) a).trans ?_
  rw [index0]
  match a with
  | 0 => rfl
  | 1 => show 0 * 512 + k.val = k.val; omega

theorem blk1_at (c : Dev nD) (t : Fin (pipe m R).N) (k : Fin 1024) (f : Fin 256) :
    (blk m R c 1 t : Vec F S1x1x1024x256 .f32) (ix4 0 0 k f) = (found m c main_arg3 : Vec F S2x64x1024x256 .f32) (ix4 0 ⟨expert m (tile m R t), R.ex _⟩ k f) := by
  refine congrArg (found m c main_arg3 : Vec F S2x64x1024x256 .f32) (funext fun (a : Fin 4) => Fin.ext ?_)
  refine (Window.rect_emb_val ((pipe m R).win 1) t (ix4 0 0 k f) a).trans ?_
  rw [index1]
  match a with
  | 0 => rfl
  | 1 => show expert m (tile m R t) * 1 + 0 = expert m (tile m R t); omega
  | 2 => show 0 * 1024 + k.val = k.val; omega
  | 3 => show 0 * 256 + f.val = f.val; omega

theorem blk2_at (c : Dev nD) (t : Fin (pipe m R).N) (k : Fin 1024) (f : Fin 256) :
    (blk m R c 2 t : Vec F S1x1x1024x256 .f32) (ix4 0 0 k f) = (found m c main_arg4 : Vec F S2x64x1024x256 .f32) (ix4 0 ⟨expert m (tile m R t), R.ex _⟩ k f) := by
  refine congrArg (found m c main_arg4 : Vec F S2x64x1024x256 .f32) (funext fun (a : Fin 4) => Fin.ext ?_)
  refine (Window.rect_emb_val ((pipe m R).win 2) t (ix4 0 0 k f) a).trans ?_
  rw [index2]
  match a with
  | 0 => rfl
  | 1 => show expert m (tile m R t) * 1 + 0 = expert m (tile m R t); omega
  | 2 => show 0 * 1024 + k.val = k.val; omega
  | 3 => show 0 * 256 + f.val = f.val; omega

theorem blk3_at (c : Dev nD) (t : Fin (pipe m R).N) (f : Fin 256) (k : Fin 1024) :
    (blk m R c 3 t : Vec F S1x1x256x1024 .f32) (ix4 0 0 f k) = (found m c main_arg5 : Vec F S2x64x256x1024 .f32) (ix4 0 ⟨expert m (tile m R t), R.ex _⟩ f k) := by
  refine congrArg (found m c main_arg5 : Vec F S2x64x256x1024 .f32) (funext fun (a : Fin 4) => Fin.ext ?_)
  refine (Window.rect_emb_val ((pipe m R).win 3) t (ix4 0 0 f k) a).trans ?_
  rw [index3]
  match a with
  | 0 => rfl
  | 1 => show expert m (tile m R t) * 1 + 0 = expert m (tile m R t); omega
  | 2 => show 0 * 256 + f.val = f.val; omega
  | 3 => show 0 * 1024 + k.val = k.val; omega

/-- Tiles of one expert have the same blocks of weights. -/
theorem same1 (c : Dev nD) {j k : Fin 192} (h : wordE (tables m 0) j = wordE (tables m 0) k) : (blk m R c 1 (point m R j) : Vec F S1x1x1024x256 .f32) = blk m R c 1 (point m R k) := by
  funext y
  rw [ix_weight (A := 1024) (B := 256) y]
  refine (blk1_at m R c (point m R j) _ _).trans ((congrArg (fun e => (found m c main_arg3 : Vec F S2x64x1024x256 .f32) (ix4 0 e _ _)) (Fin.ext (congrArg BitVec.toNat h))).trans (blk1_at m R c (point m R k) _ _).symm)
theorem same2 (c : Dev nD) {j k : Fin 192} (h : wordE (tables m 0) j = wordE (tables m 0) k) : (blk m R c 2 (point m R j) : Vec F S1x1x1024x256 .f32) = blk m R c 2 (point m R k) := by
  funext y
  rw [ix_weight (A := 1024) (B := 256) y]
  refine (blk2_at m R c (point m R j) _ _).trans ((congrArg (fun e => (found m c main_arg4 : Vec F S2x64x1024x256 .f32) (ix4 0 e _ _)) (Fin.ext (congrArg BitVec.toNat h))).trans (blk2_at m R c (point m R k) _ _).symm)
theorem same3 (c : Dev nD) {j k : Fin 192} (h : wordE (tables m 0) j = wordE (tables m 0) k) : (blk m R c 3 (point m R j) : Vec F S1x1x256x1024 .f32) = blk m R c 3 (point m R k) := by
  funext y
  rw [ix_weight (A := 256) (B := 1024) y]
  refine (blk3_at m R c (point m R j) _ _).trans ((congrArg (fun e => (found m c main_arg5 : Vec F S2x64x256x1024 .f32) (ix4 0 e _ _)) (Fin.ext (congrArg BitVec.toNat h))).trans (blk3_at m R c (point m R k) _ _).symm)

end Cert.FirstExperts.Tiles

end
-- ==== Proof.FirstFrame.lean ====
module

public import proofs.«01_k».proof.Proof.FirstBlocks
public import proofs.«01_k».proof.Proof.Gen.FirstExperts.Launch
public import Idealize.ShloMosaic.Lib.Claim
public import proofs.«01_k».proof.Proof.Gen.FirstExperts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FirstExperts.Tiles

open Cert.FirstExperts.Gen
open Cert.Experts.Tiles (wordN wordE prev fresh off1_eq Ranged clip min_word fresh_iff carried ix_weight off2_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the result is written says that the tile is in use. -/
theorem used_iff {te : IVec S192 32} {nu : IVec S1 32} (h : Ranged te nu) (i : grid0.Coords) : k0_cond2 i (wordN nu) = 1#1 ↔ (i 0).val < (wordN nu).toNat :=
  Cert.Experts.Tiles.used_iff h i

set_option maxHeartbeats 1000000 in
/-- The body at one point, on any staging buffers: the weights are copied when the tile is a fresh one, and the
    result is written when the tile is in use. -/
theorem body_run (c : Dev nD) (i : grid0.Coords) (arg3 : Memref sig .tc .vmem S1024x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1024x1024 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S1024x512 .i32) (x1 : Vec F S1x1x1024x256 .f32) (x2 : Vec F S1x1x1024x256 .f32) (x3 : Vec F S1x1x256x1024 .f32)
    (y : Vec F S1024x1024 .bf16) (s0 s1 : Vec F S1024x256 .bf16) (s2 : Vec F S256x1024 .bf16)
    (te : IVec S192 32) (nu : IVec S1 32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ tabPt (F := F) c tabE te ∗ tabPt (F := F) c tabN nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond2 i (wordN nu) = 1#1 then
                k0_pay4 x0 (if fresh te nu (i 0) = 1#1 then k0_pay1 x1 else s0) (if fresh te nu (i 0) = 1#1 then k0_pay2 x2 else s1) (if fresh te nu (i 0) = 1#1 then k0_pay3 x3 else s2) else y)
            ∗ owns (c : Thread nD τ) arg8 fullShare (if fresh te nu (i 0) = 1#1 then k0_pay1 x1 else s0)
            ∗ owns (c : Thread nD τ) arg9 fullShare (if fresh te nu (i 0) = 1#1 then k0_pay2 x2 else s1)
            ∗ owns (c : Thread nD τ) arg10 fullShare (if fresh te nu (i 0) = 1#1 then k0_pay3 x3 else s2)
            ∗ tabPt (F := F) c tabE te ∗ tabPt (F := F) c tabN nu) -∗ K ⟨⟩))
      ⊢ wp frame (wpE (defs₀ (F := F)) Variants.none c none) E (cc0_experts i tabE (Memref.isWhole_whole _) tabN (Memref.isWhole_whole _) arg3 harg3 arg4 harg4 arg5 harg5 arg6 harg6 arg7 harg7 arg8 harg8 arg9 harg9 arg10 harg10) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hs0; obtain rfl := harg9.eq_unread hs1; obtain rfl := harg10.eq_unread hs2
  sl_exec
  sl_step
  have hN : body_run.sl.r (F := F) nu = wordN nu := by
    unfold body_run.sl.r
    exact congrArg nu (funext fun a => by obtain rfl : a = (0 : Fin 1) := Subsingleton.elim (α := Fin 1) _ _; rfl)
  have hF : body_run.sl.v13 (F := F) i te nu = fresh te nu (i 0) := by
    unfold body_run.sl.v13
    unfold body_run.sl.v12 body_run.sl.v11 body_run.sl.v10 body_run.sl.v9 body_run.sl.v1 body_run.sl.v2
    have e1 : body_run.sl.r_1 (F := F) i te = wordE te (i 0) := by
      unfold body_run.sl.r_1
      exact congrArg te (funext fun a => by obtain rfl : a = (0 : Fin 1) := Subsingleton.elim (α := Fin 1) _ _; exact Fin.ext (off1_eq (i 0)))
    have e2 : body_run.sl.r_2 (F := F) i te = wordE te (prev (i 0)) := by
      unfold body_run.sl.r_2
      exact congrArg te (funext fun a => by obtain rfl : a = (0 : Fin 1) := Subsingleton.elim (α := Fin 1) _ _; exact Fin.ext (off2_eq (i 0)))
    rw [hN, e1, e2]
    rfl
  have hA : body_run.sl.v26 (F := F) c i arg4 harg4 arg8 harg8 x1 s0 te nu = (if fresh te nu (i 0) = 1#1 then k0_pay1 x1 else s0) := by
    unfold body_run.sl.v26
    rw [hF]
    split
    · exact (View.readAt_writes_full _ _ _ _ _ _).trans (congrArg k0_pay1 ((View.readAt_full _ _ _).trans (harg4.read_unread _)))
    · exact (View.readAt_full _ _ _).trans (harg8.read_unread _)
  have hB : body_run.sl.v27 (F := F) c i arg5 harg5 arg9 harg9 x2 s1 te nu = (if fresh te nu (i 0) = 1#1 then k0_pay2 x2 else s1) := by
    unfold body_run.sl.v27
    rw [hF]
    split
    · exact (View.readAt_writes_full _ _ _ _ _ _).trans (congrArg k0_pay2 ((View.readAt_full _ _ _).trans (harg5.read_unread _)))
    · exact (View.readAt_full _ _ _).trans (harg9.read_unread _)
  have hC : body_run.sl.v40 (F := F) c i arg6 harg6 arg10 harg10 x3 s2 te nu = (if fresh te nu (i 0) = 1#1 then k0_pay3 x3 else s2) := by
    unfold body_run.sl.v40
    rw [hF]
    split
    · exact (View.readAt_writes_full _ _ _ _ _ _).trans (congrArg k0_pay3 ((View.readAt_full _ _ _).trans (harg6.read_unread _)))
    · exact (View.readAt_full _ _ _).trans (harg10.read_unread _)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    rotate_left
    · iexact H4
    · ipureintro
      rw [hN, hA, hB, hC]
      split
      · refine (View.read_writes_full _ _ _ _ _).trans ?_
        rw [View.readAt_full, harg3.read_unread]
      · exact harg7.read_unread _
  isplitl [HS0]
  · iexists _; isplitr
    rotate_left
    · iexact HS0
    · ipureintro
      rw [hF]
      split
      · exact (View.read_writes_full _ _ _ _ _).trans (congrArg k0_pay1 ((View.readAt_full _ _ _).trans (harg4.read_unread _)))
      · exact harg8.read_unread _
  isplitl [HS1]
  · iexists _; isplitr
    rotate_left
    · iexact HS1
    · ipureintro
      rw [hF]
      split
      · exact (View.read_writes_full _ _ _ _ _).trans (congrArg k0_pay2 ((View.readAt_full _ _ _).trans (harg5.read_unread _)))
      · exact harg9.read_unread _
  isplitl [HS2]
  · iexists _; isplitr
    rotate_left
    · iexact HS2
    · ipureintro
      rw [hF]
      split
      · exact (View.read_writes_full _ _ _ _ _).trans (congrArg k0_pay3 ((View.readAt_full _ _ _).trans (harg6.read_unread _)))
      · exact harg10.read_unread _
  isplitl [HT0]; · iexact HT0
  iexact HT1

variable (m : (ℓ : Loc nD τ sig) → Buf (Elt F) ℓ) (ρ : Dev nD → PrngReg) (R : InRange m)

/-- Tile `k`'s expert's weights as the body keeps them, and the tile's block of the result. -/
def gateW (c : Dev nD) (k : Fin 192) : Vec F S1024x256 .bf16 := k0_pay1 (blk m R c 1 (point m R k))
def upW (c : Dev nD) (k : Fin 192) : Vec F S1024x256 .bf16 := k0_pay2 (blk m R c 2 (point m R k))
def downW (c : Dev nD) (k : Fin 192) : Vec F S256x1024 .bf16 := k0_pay3 (blk m R c 3 (point m R k))
def rows (c : Dev nD) (k : Fin 192) : Vec F S1024x1024 .bf16 := k0_pay4 (blk m R c 0 (point m R k)) (gateW m R c k) (upW m R c k) (downW m R c k)

/-- The tile whose weights the kept buffers hold, and whose block the result's buffer holds, after point `t`. -/
abbrev lastT (k : Fin 192) : Fin 192 := clip (count m) k

abbrev kept0 : Memref sig .tc .vmem S1024x256 .bf16 := Memref.whole cc0_scratch0
abbrev kept1 : Memref sig .tc .vmem S1024x256 .bf16 := Memref.whole cc0_scratch1
abbrev kept2 : Memref sig .tc .vmem S256x1024 .bf16 := Memref.whole cc0_scratch2

theorem scoped_eq (c : Dev nD) :
    (Pipeline.ΦA spec0 c : sProp 𝕄)
      = iprop(iprop((∃ d, owns (c : Thread nD τ) kept0 fullShare d) ∗ (∃ d, owns (c : Thread nD τ) kept1 fullShare d) ∗ (∃ d, owns (c : Thread nD τ) kept2 fullShare d)) ∗ (∃ r, prngReg c r)) := by
  unfold Pipeline.ΦA; rw [scopedRest0_eq]; simp only [kept0, kept1, kept2, owns_whole]; try rfl

/-- Between the points: anything at first, afterwards the kept buffers at the last used tile's weights; the tables throughout. -/
def between (c : Dev nD) : (n : ℕ) → n ≤ (pipe m R).N → sProp 𝕄
  | 0, _ => iprop(Pipeline.ΦA spec0 c ∗ Pipeline.ΦT pre0 (tables m) c)
  | n + 1, hn => iprop(iprop(iprop(owns (c : Thread nD τ) kept0 fullShare (gateW m R c (lastT m (tile m R ⟨n, hn⟩)))
      ∗ owns (c : Thread nD τ) kept1 fullShare (upW m R c (lastT m (tile m R ⟨n, hn⟩)))
      ∗ owns (c : Thread nD τ) kept2 fullShare (downW m R c (lastT m (tile m R ⟨n, hn⟩)))) ∗ (∃ r, prngReg c r)) ∗ Pipeline.ΦT pre0 (tables m) c)

def proofData (_ : Fin 1) (c : Dev nD) : Dat τ (Elt F) Unit ℕ (UR sig nD τ) ℕ (pipe m R) c where
  A w := found m c (Pipeline.arrRef spec0 w)
  after w t := match w with
    | ⟨0, _⟩ => blk m R c 0 t
    | ⟨1, _⟩ => blk m R c 1 t
    | ⟨2, _⟩ => blk m R c 2 t
    | ⟨3, _⟩ => blk m R c 3 t
    | ⟨4, _⟩ => rows m R c (lastT m (tile m R t))
  Φ t := between m R c t.val (Nat.le_of_lt_succ t.isLt)
  q _ := fullShare
  owed _ := 0

theorem arrays_eq (c : Dev nD) (w : Fin (pipe m R).W) : (proofData m R 0 c).A w = found m c (Pipeline.arrRef spec0 w) := by
  dsimp only [proofData]

theorem after_0 (c : Dev nD) (t : Fin (pipe m R).N) : (proofData m R 0 c).after 0 t = blk m R c 0 t := by dsimp only [proofData]; try rfl
theorem after_1 (c : Dev nD) (t : Fin (pipe m R).N) : (proofData m R 0 c).after 1 t = blk m R c 1 t := by dsimp only [proofData]; try rfl
theorem after_2 (c : Dev nD) (t : Fin (pipe m R).N) : (proofData m R 0 c).after 2 t = blk m R c 2 t := by dsimp only [proofData]; try rfl
theorem after_3 (c : Dev nD) (t : Fin (pipe m R).N) : (proofData m R 0 c).after 3 t = blk m R c 3 t := by dsimp only [proofData]; try rfl
theorem after_4 (c : Dev nD) (t : Fin (pipe m R).N) : (proofData m R 0 c).after 4 t = rows m R c (lastT m (tile m R t)) := by dsimp only [proofData]; try rfl

theorem before_0 (c : Dev nD) (t : Fin (pipe m R).N) (d) : (proofData m R 0 c).before 0 t d = blk m R c 0 t :=
  ((proofData m R 0 c).before_in_eq_fetched 0 rfl (fun _ => rfl) (fun _ _ _ => rfl) (fun t => (congrArg _ (after_0 m R c t)).trans (by unfold Dat.blockOf blk; rw [arrays_eq]; try rfl)) t d).trans
    (by unfold Dat.fetched Dat.blockOf blk; rw [arrays_eq]; try rfl)
theorem before_1 (c : Dev nD) (t : Fin (pipe m R).N) (d) : (proofData m R 0 c).before 1 t d = blk m R c 1 t :=
  ((proofData m R 0 c).before_in_eq_fetched 1 rfl (fun _ => rfl) (fun _ _ _ => rfl) (fun t => (congrArg _ (after_1 m R c t)).trans (by unfold Dat.blockOf blk; rw [arrays_eq]; try rfl)) t d).trans
    (by unfold Dat.fetched Dat.blockOf blk; rw [arrays_eq]; try rfl)
theorem before_2 (c : Dev nD) (t : Fin (pipe m R).N) (d) : (proofData m R 0 c).before 2 t d = blk m R c 2 t :=
  ((proofData m R 0 c).before_in_eq_fetched 2 rfl (fun _ => rfl) (fun _ _ _ => rfl) (fun t => (congrArg _ (after_2 m R c t)).trans (by unfold Dat.blockOf blk; rw [arrays_eq]; try rfl)) t d).trans
    (by unfold Dat.fetched Dat.blockOf blk; rw [arrays_eq]; try rfl)
theorem before_3 (c : Dev nD) (t : Fin (pipe m R).N) (d) : (proofData m R 0 c).before 3 t d = blk m R c 3 t :=
  ((proofData m R 0 c).before_in_eq_fetched 3 rfl (fun _ => rfl) (fun _ _ _ => rfl) (fun t => (congrArg _ (after_3 m R c t)).trans (by unfold Dat.blockOf blk; rw [arrays_eq]; try rfl)) t d).trans
    (by unfold Dat.fetched Dat.blockOf blk; rw [arrays_eq]; try rfl)

/-- The result's window is idle where the tile is not in use. -/
theorem idle_iff (t : Fin (pipe m R).N) : (pipe m R).idle 4 ((pipe m R).grid.coords t) = true ↔ ¬ (tile m R t).val < count m := by
  rw [← coords_tile, ← used_iff R]
  show (!(k0_cond2 ((pipe m R).grid.coords t) ((tables m).atD 1 ![0]) == 1#1)) = true ↔ _
  rw [atD_eq]
  simp

theorem kept_in_place (t : Fin (pipe m R).N) (h : ¬ (tile m R t).val < count m) :
    ((pipe m R).win 4).flush ⟨t.val - 1, Nat.lt_of_le_of_lt (Nat.sub_le _ _) t.isLt⟩ = false := by
  have h1 : 1 ≤ count m := R.lo
  have ht : (tile m R t).val = t.val := rfl
  have hl : t.val < 192 := lt_of_lt_of_eq t.isLt N_0
  unfold Window.flush
  simp only [Bool.and_eq_false_iff, Bool.or_eq_false_iff, decide_eq_false_iff_not]
  refine .inr ⟨fun e => by have e' : t.val - 1 + 1 = 192 := e.trans N_0; omega, ?_⟩
  rintro ⟨h2, hne⟩
  refine hne ?_
  rw [index4, index4]
  have : clip (count m) (tile m R ⟨t.val - 1 + 1, h2⟩) = clip (count m) (tile m R ⟨t.val - 1, Nat.lt_of_le_of_lt (Nat.sub_le _ _) t.isLt⟩) :=
    Fin.ext (by show min (t.val - 1 + 1) _ = min (t.val - 1) _; omega)
  rw [this]

theorem before_4 (c : Dev nD) (d) : ∀ (n : ℕ) (hn : n < (pipe m R).N), ¬ n < count m →
    (proofData m R 0 c).before 4 ⟨n, hn⟩ d = rows m R c (lastT m (tile m R ⟨n, hn⟩)) := by
  intro n
  have h1 : 1 ≤ count m := R.lo
  induction n with
  | zero => intro hn h; omega
  | succ n ih =>
    intro hn h
    have e : lastT m (tile m R ⟨n + 1, hn⟩) = lastT m (tile m R ⟨n, Nat.lt_of_succ_lt hn⟩) :=
      Fin.ext (by show min (n + 1) _ = min n _; omega)
    rw [(proofData m R 0 c).before_of_pos 4 ⟨n + 1, hn⟩ (by simp) (((pipe m R).win 4).fetch_out rfl _) d, kept_in_place m R ⟨n + 1, hn⟩ h, if_neg (by simp), e]
    unfold Dat.left
    split
    · rename_i hi
      exact ih _ ((idle_iff m R ⟨n, Nat.lt_of_succ_lt hn⟩).mp hi)
    · exact after_4 m R c ⟨n, Nat.lt_of_succ_lt hn⟩

abbrev stage0 (t : Fin (pipe m R).N) : Memref sig .tc .vmem S1024x512 .i32 := spec0_0.stage ((pipe m R).slots t 0)
abbrev stage1 (t : Fin (pipe m R).N) : Memref sig .tc .vmem S1x1x1024x256 .f32 := spec0_1.stage ((pipe m R).slots t 1)
abbrev stage2 (t : Fin (pipe m R).N) : Memref sig .tc .vmem S1x1x1024x256 .f32 := spec0_2.stage ((pipe m R).slots t 2)
abbrev stage3 (t : Fin (pipe m R).N) : Memref sig .tc .vmem S1x1x256x1024 .f32 := spec0_3.stage ((pipe m R).slots t 3)
abbrev stage4 (t : Fin (pipe m R).N) : Memref sig .tc .vmem S1024x1024 .bf16 := spec0_4.stage ((pipe m R).slots t 4)

/-- The body as the pipeline calls it at point `t`. -/
abbrev bodyAt (t : Fin (pipe m R).N) : Prog (TpuEff nD τ sig (Elt F) Λ₀ .tc) PUnit :=
  cc0_experts (grid0.coords t) tabE (Memref.isWhole_whole _) tabN (Memref.isWhole_whole _)
    (stage0 m R t) (hstage0_0 (((pipe m R).slots t 0).cast nbuf0_0)) (stage1 m R t) (hstage0_1 (((pipe m R).slots t 1).cast nbuf0_1))
    (stage2 m R t) (hstage0_2 (((pipe m R).slots t 2).cast nbuf0_2)) (stage3 m R t) (hstage0_3 (((pipe m R).slots t 3).cast nbuf0_3))
    (stage4 m R t) (hstage0_4 (((pipe m R).slots t 4).cast nbuf0_4))
    kept0 (Memref.isWhole_whole _) kept1 (Memref.isWhole_whole _) kept2 (Memref.isWhole_whole _)

/-- What the body is given at point `t`, and what it gives back. -/
def given (c : Dev nD) (t : Fin (pipe m R).N) : sProp 𝕄 :=
  iprop((proofData m R 0 c).Φ t.castSucc ∗ (proofData m R 0 c).owesAt () t.castSucc
    ∗ (∃ d, owns (c : Thread nD τ) (stage0 m R t) fullShare ((proofData m R 0 c).before 0 t d))
    ∗ (∃ d, owns (c : Thread nD τ) (stage1 m R t) fullShare ((proofData m R 0 c).before 1 t d))
    ∗ (∃ d, owns (c : Thread nD τ) (stage2 m R t) fullShare ((proofData m R 0 c).before 2 t d))
    ∗ (∃ d, owns (c : Thread nD τ) (stage3 m R t) fullShare ((proofData m R 0 c).before 3 t d))
    ∗ (∃ d, owns (c : Thread nD τ) (stage4 m R t) fullShare ((proofData m R 0 c).before 4 t d)))

def returned (c : Dev nD) (t : Fin (pipe m R).N) : sProp 𝕄 :=
  iprop((proofData m R 0 c).Φ t.succ ∗ (proofData m R 0 c).owesAt () t.succ
    ∗ owns (c : Thread nD τ) (stage0 m R t) fullShare ((proofData m R 0 c).after 0 t)
    ∗ owns (c : Thread nD τ) (stage1 m R t) fullShare ((proofData m R 0 c).after 1 t)
    ∗ owns (c : Thread nD τ) (stage2 m R t) fullShare ((proofData m R 0 c).after 2 t)
    ∗ owns (c : Thread nD τ) (stage3 m R t) fullShare ((proofData m R 0 c).after 3 t)
    ∗ (proofData m R 0 c).leavesExact 4 t)

/-- The result's buffer after the body: the last used tile's block. -/
theorem left_4 (c : Dev nD) (t : Fin (pipe m R).N) (d) :
    owns (c : Thread nD τ) (stage4 m R t) fullShare
      (if (tile m R t).val < count m then rows m R c (lastT m (tile m R t)) else (proofData m R 0 c).before 4 t d)
      ⊢ (proofData m R 0 c).leavesExact 4 t := by
  by_cases h : (tile m R t).val < count m
  · refine (Entails.of_eq (congrArg (owns (c : Thread nD τ) (stage4 m R t) fullShare) (if_pos h))).trans ?_
    have hi : (pipe m R).idle 4 ((pipe m R).grid.coords t) = false := by
      rw [← Bool.not_eq_true, idle_iff]; exact fun hn => hn h
    unfold Dat.leavesExact
    rw [hi, after_4]
    exact .rfl
  · refine (Entails.of_eq (congrArg (owns (c : Thread nD τ) (stage4 m R t) fullShare) (if_neg h))).trans ?_
    have hi := (idle_iff m R t).mpr h
    unfold Dat.leavesExact
    rw [hi]
    cases hf : ((pipe m R).win 4).flush t
    · iintro H; iexists d; iexact H
    · rw [after_4, before_4 m R c d t.val t.isLt h]
      exact .rfl

/-- The kept buffers after the body at point `t`, over what they held before. -/
theorem gate_next (c : Dev nD) (t : Fin (pipe m R).N) (s : Vec F S1024x256 .bf16) (hs : (tile m R t).val ≠ 0 → s = gateW m R c (lastT m (prev (tile m R t)))) :
    (if fresh (tables m 0) (tables m 1) (tile m R t) = 1#1 then k0_pay1 (blk m R c 1 t) else s) = gateW m R c (lastT m (tile m R t)) :=
  carried R (gateW m R c) (fun j k h => congrArg k0_pay1 (same1 m R c h)) (tile m R t) s hs
theorem up_next (c : Dev nD) (t : Fin (pipe m R).N) (s : Vec F S1024x256 .bf16) (hs : (tile m R t).val ≠ 0 → s = upW m R c (lastT m (prev (tile m R t)))) :
    (if fresh (tables m 0) (tables m 1) (tile m R t) = 1#1 then k0_pay2 (blk m R c 2 t) else s) = upW m R c (lastT m (tile m R t)) :=
  carried R (upW m R c) (fun j k h => congrArg k0_pay2 (same2 m R c h)) (tile m R t) s hs
theorem down_next (c : Dev nD) (t : Fin (pipe m R).N) (s : Vec F S256x1024 .bf16) (hs : (tile m R t).val ≠ 0 → s = downW m R c (lastT m (prev (tile m R t)))) :
    (if fresh (tables m 0) (tables m 1) (tile m R t) = 1#1 then k0_pay3 (blk m R c 3 t) else s) = downW m R c (lastT m (tile m R t)) :=
  carried R (downW m R c) (fun j k h => congrArg k0_pay3 (same3 m R c h)) (tile m R t) s hs

theorem rows_next (c : Dev nD) (t : Fin (pipe m R).N) (y : Vec F S1024x1024 .bf16) :
    (if k0_cond2 (grid0.coords t) (wordN (tables m 1)) = 1#1 then k0_pay4 (blk m R c 0 t) (gateW m R c (lastT m (tile m R t))) (upW m R c (lastT m (tile m R t))) (downW m R c (lastT m (tile m R t))) else y)
      = if (tile m R t).val < count m then rows m R c (lastT m (tile m R t)) else y := by
  have hu : k0_cond2 (grid0.coords t) (wordN (tables m 1)) = 1#1 ↔ (tile m R t).val < count m := by
    rw [used_iff R]; exact iff_of_eq (congrArg (fun k : Fin 192 => k.val < count m) (coords_tile m R t))
  by_cases h : (tile m R t).val < count m
  · rw [if_pos (hu.mpr h), if_pos h]
    have e : lastT m (tile m R t) = tile m R t := Fin.ext (by show min _ _ = _; omega)
    rw [e]; rfl
  · rw [if_neg fun hn => h (hu.mp hn), if_neg h]

theorem left_next (c : Dev nD) (t : Fin (pipe m R).N) (d) :
    owns (c : Thread nD τ) (stage4 m R t) fullShare
      (if k0_cond2 (grid0.coords t) (wordN (tables m 1)) = 1#1 then k0_pay4 (blk m R c 0 t) (gateW m R c (lastT m (tile m R t))) (upW m R c (lastT m (tile m R t))) (downW m R c (lastT m (tile m R t))) else (proofData m R 0 c).before 4 t d)
      ⊢ (proofData m R 0 c).leavesExact 4 t :=
  (Entails.of_eq (congrArg (owns (c : Thread nD τ) (stage4 m R t) fullShare) (rows_next m R c t ((proofData m R 0 c).before 4 t d)))).trans (left_4 m R c t d)

/-- The body at point `t`, over any contents of the kept buffers that are the previous point's. -/
theorem step (c : Dev nD) (t : Fin (pipe m R).N) (s0 s1 : Vec F S1024x256 .bf16) (s2 : Vec F S256x1024 .bf16)
    (h0 : (tile m R t).val ≠ 0 → s0 = gateW m R c (lastT m (prev (tile m R t)))) (h1 : (tile m R t).val ≠ 0 → s1 = upW m R c (lastT m (prev (tile m R t))))
    (h2 : (tile m R t).val ≠ 0 → s2 = downW m R c (lastT m (prev (tile m R t)))) :
    iprop((iprop(owns (c : Thread nD τ) kept0 fullShare s0 ∗ owns (c : Thread nD τ) kept1 fullShare s1 ∗ owns (c : Thread nD τ) kept2 fullShare s2)
      ∗ (∃ r, prngReg c r)) ∗ Pipeline.ΦT pre0 (tables m) c ∗ (proofData m R 0 c).owesAt () t.castSucc
    ∗ (∃ d, owns (c : Thread nD τ) (stage0 m R t) fullShare ((proofData m R 0 c).before 0 t d))
    ∗ (∃ d, owns (c : Thread nD τ) (stage1 m R t) fullShare ((proofData m R 0 c).before 1 t d))
    ∗ (∃ d, owns (c : Thread nD τ) (stage2 m R t) fullShare ((proofData m R 0 c).before 2 t d))
    ∗ (∃ d, owns (c : Thread nD τ) (stage3 m R t) fullShare ((proofData m R 0 c).before 3 t d))
    ∗ (∃ d, owns (c : Thread nD τ) (stage4 m R t) fullShare ((proofData m R 0 c).before 4 t d)))
      ⊢ wp frame (wpE (defs₀ (F := F)) Variants.none c none) Set.univ (bodyAt m R t) (fun _ => returned m R c t) := by
  unfold returned
  simp only [before_0, before_1, before_2, before_3]
  rw [show (proofData m R 0 c).owesAt () t.succ = (proofData m R 0 c).owesAt () t.castSucc from rfl,
    after_0, after_1, after_2, after_3, halves]
  rw [show (proofData m R 0 c).Φ t.succ = between m R c (t.val + 1) t.isLt from rfl]
  rw [show between m R c (t.val + 1) t.isLt = iprop(iprop(iprop(owns (c : Thread nD τ) kept0 fullShare (gateW m R c (lastT m (tile m R t)))
      ∗ owns (c : Thread nD τ) kept1 fullShare (upW m R c (lastT m (tile m R t)))
      ∗ owns (c : Thread nD τ) kept2 fullShare (downW m R c (lastT m (tile m R t)))) ∗ (∃ r, prngReg c r)) ∗ Pipeline.ΦT pre0 (tables m) c) from rfl, halves]
  iintro ⟨⟨⟨HS0, HS1, HS2⟩, Hg⟩, ⟨HT0, HT1⟩, Ho, ⟨%d0, H0⟩, ⟨%d1, H1⟩, ⟨%d2, H2⟩, ⟨%d3, H3⟩, ⟨%d4, H4⟩⟩
  iapply (body_run c (grid0.coords t) (stage0 m R t) (hstage0_0 (((pipe m R).slots t 0).cast nbuf0_0)) (stage1 m R t) (hstage0_1 (((pipe m R).slots t 1).cast nbuf0_1)) (stage2 m R t) (hstage0_2 (((pipe m R).slots t 2).cast nbuf0_2)) (stage3 m R t) (hstage0_3 (((pipe m R).slots t 3).cast nbuf0_3)) (stage4 m R t) (hstage0_4 (((pipe m R).slots t 4).cast nbuf0_4)) kept0 (Memref.isWhole_whole _) kept1 (Memref.isWhole_whole _) kept2 (Memref.isWhole_whole _) (blk m R c 0 t) (blk m R c 1 t) (blk m R c 2 t) (blk m R c 3 t) ((proofData m R 0 c).before 4 t d4) s0 s1 s2 (tables m 0) (tables m 1) Set.univ _)
  rw [show (grid0.coords t 0 : Fin 192) = tile m R t from coords_tile m R t, gate_next m R c t s0 h0, up_next m R c t s1 h1, down_next m R c t s2 h2]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iapply (left_next m R c t d4)
  iexact H4

theorem sound (c : Dev nD) (t : Fin (pipe m R).N) :
    given m R c t ⊢ wp frame (wpE (defs₀ (F := F)) Variants.none c none) Set.univ (bodyAt m R t) (fun _ => returned m R c t) := by
  unfold given
  rw [show (proofData m R 0 c).Φ t.castSucc = between m R c t.val (Nat.le_of_lt t.isLt) from by
    dsimp only [proofData]; exact Pipeline.Dat.Φ_castSucc (between m R c) t]
  obtain ⟨n, hn⟩ := t
  cases n with
  | zero =>
    rw [show between m R c (⟨0, hn⟩ : Fin (pipe m R).N).val (Nat.le_of_lt hn) = iprop(Pipeline.ΦA spec0 c ∗ Pipeline.ΦT pre0 (tables m) c) from rfl, scoped_eq]
    iintro ⟨⟨⟨⟨⟨%s0, HS0⟩, ⟨%s1, HS1⟩, ⟨%s2, HS2⟩⟩, Hg⟩, HT⟩, Ho, H0, H1, H2, H3, H4⟩
    iapply (step m R c ⟨0, hn⟩ s0 s1 s2 (fun h => absurd rfl h) (fun h => absurd rfl h) (fun h => absurd rfl h))
    isplitl [HS0 HS1 HS2 Hg]
    · isplitl [HS0 HS1 HS2]
      · isplitl [HS0]; · iexact HS0
        isplitl [HS1]; · iexact HS1
        iexact HS2
      iexact Hg
    isplitl [HT]; · iexact HT
    isplitl [Ho]; · iexact Ho
    isplitl [H0]; · iexact H0
    isplitl [H1]; · iexact H1
    isplitl [H2]; · iexact H2
    isplitl [H3]; · iexact H3
    iexact H4
  | succ n =>
    rw [show between m R c (⟨n + 1, hn⟩ : Fin (pipe m R).N).val (Nat.le_of_lt hn) = iprop(iprop(iprop(owns (c : Thread nD τ) kept0 fullShare (gateW m R c (lastT m (prev (tile m R ⟨n + 1, hn⟩))))
      ∗ owns (c : Thread nD τ) kept1 fullShare (upW m R c (lastT m (prev (tile m R ⟨n + 1, hn⟩))))
      ∗ owns (c : Thread nD τ) kept2 fullShare (downW m R c (lastT m (prev (tile m R ⟨n + 1, hn⟩))))) ∗ (∃ r, prngReg c r)) ∗ Pipeline.ΦT pre0 (tables m) c) from rfl]
    iintro ⟨⟨⟨⟨HS0, HS1, HS2⟩, Hg⟩, HT⟩, Ho, H0, H1, H2, H3, H4⟩
    iapply (step m R c ⟨n + 1, hn⟩ _ _ _ (fun _ => rfl) (fun _ => rfl) (fun _ => rfl))
    isplitl [HS0 HS1 HS2 Hg]
    · isplitl [HS0 HS1 HS2]
      · isplitl [HS0]; · iexact HS0
        isplitl [HS1]; · iexact HS1
        iexact HS2
      iexact Hg
    isplitl [HT]; · iexact HT
    isplitl [Ho]; · iexact Ho
    isplitl [H0]; · iexact H0
    isplitl [H1]; · iexact H1
    isplitl [H2]; · iexact H2
    isplitl [H3]; · iexact H3
    iexact H4

theorem row_eq (t : Fin (pipe m R).N) :
    defs₀ (F := F) .tc (pipe m R).body ((pipe m R).bodyArgs t ((pipe m R).slots t)) = bodyAt m R t := by
  unfold defs₀; rw [Defs.onTc_tc]

theorem obligation (c : Dev nD) : BodyObligation (proofData (F := F) m R 0 c) (defs₀ (F := F)) Variants.none () Set.univ := fun t => by
  rw [bigSep_W0, bigSep_W0, row_eq m R]
  exact triple_restated (sound m R c t) rfl .rfl fun _ => .rfl

theorem at_start (c : Dev nD) : iprop(Pipeline.ΦA spec0 c ∗ Pipeline.ΦT pre0 (tables m) c) ⊢ (proofData m R 0 c).Φ 0 := by
  rw [show (proofData m R 0 c).Φ 0 = iprop(Pipeline.ΦA spec0 c ∗ Pipeline.ΦT pre0 (tables m) c) from rfl]

theorem at_end (c : Dev nD) : (proofData m R 0 c).Φ (Fin.last (pipe m R).N) ⊢ Pipeline.ΦA spec0 c := by
  rw [show (proofData m R 0 c).Φ (Fin.last (pipe m R).N) = between m R c 192 (le_of_eq N_0.symm) from rfl]
  rw [show between m R c 192 (le_of_eq N_0.symm) = iprop(iprop(iprop(owns (c : Thread nD τ) kept0 fullShare (gateW m R c (lastT m ⟨191, by decide⟩))
      ∗ owns (c : Thread nD τ) kept1 fullShare (upW m R c (lastT m ⟨191, by decide⟩))
      ∗ owns (c : Thread nD τ) kept2 fullShare (downW m R c (lastT m ⟨191, by decide⟩))) ∗ (∃ r, prngReg c r)) ∗ Pipeline.ΦT pre0 (tables m) c) from rfl, scoped_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

-- the launch theorem's implicit arguments are found by unfolding plain definitions in a type
set_option backward.isDefEq.respectTransparency.types false in
/-- The launch: the arrays at what the pipeline leaves, and every counter at zero. -/
theorem launched : θ_run defs (onTc (τ := τ) (main (F := F))) (s₀ m ρ)
    (fun r => (Pipeline.FramePost (Pipeline.pin pcfgs fun _ => adm m R) (proofData m R) 0 (found m)) r ∧ r.2.sem = fun _ => 0) :=
  Pipeline.θ_run_frameP_track (Q' := _) pcfgs (fun _ => adm m R) (proofData m R) (0 : Fin 1) launch0 defs₀ Variants.none m ρ main
    (hbody := fun c => (obligation m R c).loose) (hshare := fun c => (proofData m R 0 c).share_full fun _ => rfl)
    (howed := fun _ _ => rfl) (V := found m) (hmain := region m Variants.none) (hA := arrays_eq m R) (hpf := found_tables m)
    (hin := at_start m R) (hout := at_end m R)

/-- The arguments end as they began, and the result's array at what the pipeline leaves. -/
theorem ran : θ_run defs (onTc (τ := τ) (main (F := F))) ⟨m, fun _ => 0, ρ⟩ (fun r => (∀ c : Dev nD,
      r.2.mem ((c.tc : Thread nD τ).loc main_v0) = (proofData m R 0 c).arrAt 4 (pipe m R).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 4,
      ((h.1 c).1 0).trans (((proofData m R 0 c).arrAt_in 0 rfl _).trans (arrays_eq m R c 0)),
      (h.1 c).2 main_arg1 (by decide : main_arg1 ∈ Pipeline.restRefs sig spec0),
      (h.1 c).2 main_arg2 (by decide : main_arg2 ∈ Pipeline.restRefs sig spec0),
      ((h.1 c).1 1).trans (((proofData m R 0 c).arrAt_in 1 rfl _).trans (arrays_eq m R c 1)),
      ((h.1 c).1 2).trans (((proofData m R 0 c).arrAt_in 2 rfl _).trans (arrays_eq m R c 2)),
      ((h.1 c).1 3).trans (((proofData m R 0 c).arrAt_in 3 rfl _).trans (arrays_eq m R c 3))⟩, h.2⟩) (launched m ρ R)

end Cert.FirstExperts.Tiles

end
-- ==== Proof.FirstFinal.lean ====
module

public import proofs.«01_k».proof.Proof.FirstFrame
public import proofs.«01_k».proof.Proof.Gen.FirstExperts.Launch
public import Idealize.ShloMosaic.Lib.Claim
public import proofs.«01_k».proof.Proof.Gen.FirstExperts.Skeleton
public import Idealize.ShloMosaic.Lib.Pipeline.FrameBody
public import Idealize.ShloMosaic.Lib.Pipeline.Frame
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value
public import Idealize.ShloMosaic.Lib.Pipeline.ValueKit.Geometry

@[expose] public section

set_option maxRecDepth 16384

noncomputable section

namespace Cert.FirstExperts.Tiles

open Cert.FirstExperts.Gen
open Cert.Experts.Tiles (wordN wordE prev fresh off1_eq Ranged clip min_word fresh_iff carried ix_weight)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (R : InRange m)

/-- The result's rows, tile by tile. -/
def allRows (c : Dev nD) : Vec F S196608x1024 .bf16 := fun i =>
  rows m R c ⟨(i 0).val / 1024, by have h : (i 0).val < 196608 := (i 0).isLt; omega⟩ (ix2 ⟨(i 0).val % 1024, Nat.mod_lt _ (by decide)⟩ (i 1))

theorem allRows_at (c : Dev nD) (k : Fin 192) (r j : Fin 1024) (i : S196608x1024.Idx) (h0 : (i 0).val = k.val * 1024 + r.val) (h1 : (i 1).val = j.val) :
    allRows m R c i = rows m R c k (ix2 r j) := by
  unfold allRows
  have ek : (⟨(i 0).val / 1024, by have h : (i 0).val < 196608 := (i 0).isLt; omega⟩ : Fin 192) = k := Fin.ext (by show (i 0).val / 1024 = k.val; omega)
  have er : (⟨(i 0).val % 1024, Nat.mod_lt _ (by decide)⟩ : Fin 1024) = r := Fin.ext (by show (i 0).val % 1024 = r.val; omega)
  have ej : (i 1 : Fin 1024) = j := Fin.ext h1
  rw [ek, er]
  exact congrArg (fun j : Fin 1024 => rows m R c k (ix2 r j)) ej

/-- What a point writes back is its block of those rows. -/
theorem written (c : Dev nD) (t : Fin (pipe m R).N) :
    (proofData m R 0 c).flushed 4 t = (((pipe m R).win 4).blk t).view.read (Elt F) (allRows m R c) := by
  funext (y : S1024x1024.Idx)
  have e : (proofData m R 0 c).flushed 4 t y = rows m R c (lastT m (tile m R t)) y := congrFun (after_4 m R c t) y
  refine e.trans ?_
  refine Eq.trans ?_ (allRows_at m R c (lastT m (tile m R t)) (y 0) (y 1) _ ?_ ?_).symm
  · exact congrArg _ (eq_ix2 y)
  · refine (Window.rect_emb_val ((pipe m R).win 4) t y (0 : Fin 2)).trans ?_
    rw [index4]; rfl
  · refine (Window.rect_emb_val ((pipe m R).win 4) t y (1 : Fin 2)).trans ?_
    rw [index4]; show 0 * 1024 + (y 1).val = (y 1).val; omega

/-- A used tile's block is written back. -/
theorem written_back (k : Fin 192) (hk : k.val < count m) : ∃ t : Fin (pipe m R).N, ((pipe m R).win 4).flush t = true ∧ lastT m (tile m R t) = k := by
  have hn : count m ≤ 192 := R.hi
  by_cases hl : k.val + 1 < count m
  · refine ⟨point m R k, ?_, Fin.ext (by show min k.val _ = k.val; omega)⟩
    unfold Window.flush
    have h2 : (point m R k).val + 1 < (pipe m R).grid.N := lt_of_lt_of_eq (show k.val + 1 < 192 by omega) N_0.symm
    simp only [Bool.and_eq_true, Bool.or_eq_true, decide_eq_true_eq]
    refine ⟨rfl, .inr ⟨h2, fun e => ?_⟩⟩
    rw [index4, index4] at e
    have e0 : min (k.val + 1) (count m - 1) = min k.val (count m - 1) := congrFun e 0
    omega
  · refine ⟨point m R ⟨191, by decide⟩, ?_, Fin.ext (by show min 191 _ = k.val; omega)⟩
    unfold Window.flush
    simp only [Bool.and_eq_true, Bool.or_eq_true, decide_eq_true_eq]
    exact ⟨rfl, .inl N_0.symm⟩

/-- The result at a row of a used tile. -/
theorem out_at (c : Dev nD) (k : Fin 192) (hk : k.val < count m) (r j : Fin 1024) :
    ((proofData m R 0 c).arrAt 4 (pipe m R).N : Vec F S196608x1024 .bf16) (ix2 ⟨k.val * 1024 + r.val, by omega⟩ j) = rows m R c k (ix2 r j) := by
  obtain ⟨t, hf, ht⟩ := written_back m R k hk
  refine ((proofData m R 0 c).arrAt_apply_of_mem 4 (allRows m R c) (fun t _ => written m R c t) (pipe m R).N t (ix2 ⟨k.val * 1024 + r.val, by omega⟩ j) t.isLt hf ?_).trans ?_
  · refine (ValueKit.mem_set_slice_whole_iff main_v0 (((pipe m R).win 4).rect t) (ix2 ⟨k.val * 1024 + r.val, by omega⟩ j) (Window.mem_rect_iff ((pipe m R).win 4) t _)).mpr fun a => ?_
    rw [index4]
    have hk : (clip (count m) (tile m R t)).val = k.val := congrArg Fin.val ht
    match a with
    | ⟨0, _⟩ =>
      show (clip (count m) (tile m R t)).val * 1024 ≤ k.val * 1024 + r.val ∧ k.val * 1024 + r.val < (clip (count m) (tile m R t)).val * 1024 + 1024
      omega
    | ⟨1, _⟩ => show 0 * 1024 ≤ j.val ∧ j.val < 0 * 1024 + 1024; omega
  · exact allRows_at m R c k r j _ rfl rfl

end Cert.FirstExperts.Tiles

end
-- ==== Proof.FirstValue.lean ====
module

public import proofs.«01_k».proof.Proof.RowsSpec
public import proofs.«01_k».proof.Proof.FirstFinal
public import proofs.«01_k».proof.Proof.ExpertsValue
public import Idealize.ShloMosaic.Lib.Pointwise

/-! The first layer's experts' rows at the ideal floats: a row of a used tile is the tile's expert's SwiGLU of the row given. -/

@[expose] public section

set_option maxRecDepth 16384

noncomputable section

namespace Cert.FirstExperts.Tiles

open Cert.FirstExperts.Gen Idealize.ShloMosaic Idealize.ShloMosaic.TcCoe Idealize.SL.Sem
open Cert.Rows
open Cert.Experts.Tiles (kept1_at kept2_at kept3_at tile_at glu_congr)

variable (m : (ℓ : Loc nD τ sig) → Buf (Elt Ideal) ℓ) (R : InRange m)

theorem gate_at (c : Dev nD) (k : Fin 192) (i : Fin 1024) (f : Fin 256) :
    gateW m R c k (ix2 i f) = (found m c main_arg3 : FVec Ideal S2x64x1024x256 .f32) (ix4 0 ⟨expert m k, R.ex k⟩ i f) :=
  (kept1_at _ i f).trans (blk1_at m R c (point m R k) i f)
theorem up_at (c : Dev nD) (k : Fin 192) (i : Fin 1024) (f : Fin 256) :
    upW m R c k (ix2 i f) = (found m c main_arg4 : FVec Ideal S2x64x1024x256 .f32) (ix4 0 ⟨expert m k, R.ex k⟩ i f) :=
  (kept2_at _ i f).trans (blk2_at m R c (point m R k) i f)
theorem down_at (c : Dev nD) (k : Fin 192) (f : Fin 256) (i : Fin 1024) :
    downW m R c k (ix2 f i) = (found m c main_arg5 : FVec Ideal S2x64x256x1024 .f32) (ix4 0 ⟨expert m k, R.ex k⟩ f i) :=
  (kept3_at _ f i).trans (blk3_at m R c (point m R k) f i)
theorem given_at (c : Dev nD) (k : Fin 192) (hk : k.val < count m) (r : Fin 1024) (j : Fin 512) :
    (blk m R c 0 (point m R k) : IVec S1024x512 32) (ix2 r j) = (found m c main_arg0 : IVec S196608x512 32) (ix2 ⟨k.val * 1024 + r.val, by omega⟩ j) :=
  (blk0_at m R c (point m R k) r j).trans (congrArg (fun i => (found m c main_arg0 : IVec S196608x512 32) (ix2 i j))
    (Fin.ext (by show min k.val (count m - 1) * 1024 + r.val = k.val * 1024 + r.val; rw [Nat.min_eq_left (by omega)])))

theorem rows_at (c : Dev nD) (k : Fin 192) (hk : k.val < count m) (r n : Fin 1024) :
    rows m R c k (ix2 r n) = glu (unpack fun j => (found m c main_arg0 : IVec S196608x512 32) (ix2 ⟨k.val * 1024 + r.val, by omega⟩ j))
      (fun i f => (found m c main_arg3 : FVec Ideal S2x64x1024x256 .f32) (ix4 0 ⟨expert m k, R.ex k⟩ i f))
      (fun i f => (found m c main_arg4 : FVec Ideal S2x64x1024x256 .f32) (ix4 0 ⟨expert m k, R.ex k⟩ i f))
      (fun f i => (found m c main_arg5 : FVec Ideal S2x64x256x1024 .f32) (ix4 0 ⟨expert m k, R.ex k⟩ f i)) n := by
  refine (tile_at _ _ _ _ r n).trans ?_
  exact glu_congr n (congrArg unpack (funext fun j => given_at m R c k hk r j)) (funext fun i => funext fun f => gate_at m R c k i f)
    (funext fun i => funext fun f => up_at m R c k i f) (funext fun f => funext fun i => down_at m R c k f i)

end Cert.FirstExperts.Tiles

end
-- ==== Proof.FirstIdealRun.lean ====
module

public import proofs.«01_k».proof.Proof.FirstFrame
public import proofs.«01_k».proof.Proof.Gen.FirstExpertsIdeal

@[expose] public section

set_option maxRecDepth 16384

noncomputable section

namespace Cert.FirstExpertsIdeal.Tiles

open Cert.FirstExpertsIdeal Cert.FirstExpertsIdeal.Gen
open Idealize.ShloMosaic Idealize.ShloMosaic.TcCoe Idealize.SL.Sem

variable (m : (ℓ : Loc Cert.FirstExperts.nD Cert.FirstExperts.τ Cert.FirstExperts.sig) → Buf (Elt Ideal) ℓ) (ρ : Dev nD → PrngReg) (R : Cert.FirstExperts.Tiles.InRange m)

/-- The kernel read at the ideal floats has one text with the kernel: its body table is the same. -/
theorem same_bodies : (Cert.FirstExpertsIdeal.defs₀ (F := Ideal) : Defs Cert.FirstExperts.nD Cert.FirstExperts.τ Cert.FirstExperts.sig (Elt Ideal) Cert.FirstExperts.Λ₀) = Cert.FirstExperts.defs₀ (F := Ideal) := by
  unfold Cert.FirstExpertsIdeal.defs₀ Cert.FirstExperts.defs₀
  refine congrArg Defs.onTc (funext fun l => funext fun a => ?_)
  match l, a with
  | 0, (t, s) => rfl

theorem same_defs : (Cert.FirstExpertsIdeal.defs (F := Ideal) : Defs Cert.FirstExperts.nD Cert.FirstExperts.τ Cert.FirstExperts.sig (Elt Ideal) (Pipeline.Sig Cert.FirstExperts.Λ₀ (Fin 1) fun p => (Cert.FirstExperts.pcfgs (F := Ideal) p).Adm)) = Cert.FirstExperts.defs (F := Ideal) :=
  congrArg (Pipeline.defs (Cert.FirstExperts.pcfgs (F := Ideal))) same_bodies

/-- Its run, therefore, is the kernel's at the ideal floats. -/
theorem ran : θ_run (Cert.FirstExpertsIdeal.defs (F := Ideal)) (onTc (τ := Cert.FirstExpertsIdeal.τ) (Cert.FirstExpertsIdeal.main (F := Ideal))) ⟨m, fun _ => 0, ρ⟩ (fun r =>
    (∀ c : Dev Cert.FirstExpertsIdeal.nD, r.2.mem ((c.tc : Thread Cert.FirstExpertsIdeal.nD Cert.FirstExpertsIdeal.τ).loc Cert.FirstExpertsIdeal.main_v0) = (Cert.FirstExperts.Tiles.proofData m R 0 c).arrAt 4 (Cert.FirstExperts.Tiles.pipe m R).N
      ∧ r.2.mem ((c.tc : Thread Cert.FirstExpertsIdeal.nD Cert.FirstExpertsIdeal.τ).loc Cert.FirstExpertsIdeal.main_arg0) = m ((c.tc : Thread Cert.FirstExpertsIdeal.nD Cert.FirstExpertsIdeal.τ).loc Cert.FirstExpertsIdeal.main_arg0)
      ∧ r.2.mem ((c.tc : Thread Cert.FirstExpertsIdeal.nD Cert.FirstExpertsIdeal.τ).loc Cert.FirstExpertsIdeal.main_arg1) = m ((c.tc : Thread Cert.FirstExpertsIdeal.nD Cert.FirstExpertsIdeal.τ).loc Cert.FirstExpertsIdeal.main_arg1)
      ∧ r.2.mem ((c.tc : Thread Cert.FirstExpertsIdeal.nD Cert.FirstExpertsIdeal.τ).loc Cert.FirstExpertsIdeal.main_arg2) = m ((c.tc : Thread Cert.FirstExpertsIdeal.nD Cert.FirstExpertsIdeal.τ).loc Cert.FirstExpertsIdeal.main_arg2)
      ∧ r.2.mem ((c.tc : Thread Cert.FirstExpertsIdeal.nD Cert.FirstExpertsIdeal.τ).loc Cert.FirstExpertsIdeal.main_arg3) = m ((c.tc : Thread Cert.FirstExpertsIdeal.nD Cert.FirstExpertsIdeal.τ).loc Cert.FirstExpertsIdeal.main_arg3)
      ∧ r.2.mem ((c.tc : Thread Cert.FirstExpertsIdeal.nD Cert.FirstExpertsIdeal.τ).loc Cert.FirstExpertsIdeal.main_arg4) = m ((c.tc : Thread Cert.FirstExpertsIdeal.nD Cert.FirstExpertsIdeal.τ).loc Cert.FirstExpertsIdeal.main_arg4)
      ∧ r.2.mem ((c.tc : Thread Cert.FirstExpertsIdeal.nD Cert.FirstExpertsIdeal.τ).loc Cert.FirstExpertsIdeal.main_arg5) = m ((c.tc : Thread Cert.FirstExpertsIdeal.nD Cert.FirstExpertsIdeal.τ).loc Cert.FirstExpertsIdeal.main_arg5))
    ∧ r.2.sem = fun _ => 0) := by
  have h := Cert.FirstExperts.Tiles.ran (F := Ideal) m ρ R
  rw [← same_defs] at h
  exact h

end Cert.FirstExpertsIdeal.Tiles

end
-- ==== Proof.FirstRef.lean ====
module

public import proofs.«01_k».proof.Proof.ExpertsRef
public import proofs.«01_k».proof.Proof.ExpertsValue
public import proofs.«01_k».proof.Proof.Gen.FirstExpertsReferenceIdeal.Run

/-! The reference's rows of the first layer's experts at an index: the other layer's, of this layer's weights. -/

@[expose] public section

set_option maxRecDepth 16384

noncomputable section

namespace Cert.FirstExpertsReferenceIdeal.Rows

open Cert.FirstExpertsReferenceIdeal Cert.FirstExpertsReferenceIdeal.Gen Idealize.ShloMosaic Idealize.ShloMosaic.TcCoe Idealize.SL.Sem
open Cert.Rows

section
variable {F : FTy → Type} [FloatOps F]
/-- The first layer's weights, up or gate. -/
def lay (a : FVec F S2x64x1024x256 .f32) : FVec F S64x1024x256 .f32 := shapeCast _ (extractStridedSlice S1x64x1024x256 ![0, 0, 0, 0] a slices_S2x64x1024x256_S1x64x1024x256_0_0_0_0) shapeCasts_S1x64x1024x256_S64x1024x256
/-- The first layer's weights, down. -/
def layD (a : FVec F S2x64x256x1024 .f32) : FVec F S64x256x1024 .f32 := shapeCast _ (extractStridedSlice S1x64x256x1024 ![0, 0, 0, 0] a slices_S2x64x256x1024_S1x64x256x1024_0_0_0_0) shapeCasts_S1x64x256x1024_S64x256x1024
/-- The result array. -/
def res (a0 : IVec S196608x512 32) (te : IVec S192 32) (a3 a4 : FVec F S2x64x1024x256 .f32) (a5 : FVec F S2x64x256x1024 .f32) : FVec F S196608x1024 .bf16 :=
  Cert.ExpertsReferenceIdeal.Rows.resOf a0 te (lay a3) (lay a4) (layD a5)
end

theorem lay_at (a : FVec Ideal S2x64x1024x256 .f32) (e : Fin 64) (i : Fin 1024) (f : Fin 256) : lay (F := Ideal) a (ix3 e i f) = a (ix4 0 e i f) := by
  pointwise [lay]

theorem layD_at (a : FVec Ideal S2x64x256x1024 .f32) (e : Fin 64) (f : Fin 256) (i : Fin 1024) : layD (F := Ideal) a (ix3 e f i) = a (ix4 0 e f i) := by
  pointwise [layD]

theorem res_at (a0 : IVec S196608x512 32) (te : IVec S192 32) (a3 a4 : FVec Ideal S2x64x1024x256 .f32) (a5 : FVec Ideal S2x64x256x1024 .f32)
    (k : Fin 192) (h : (te (ix1 k)).toNat < 64) (r n : Fin 1024) :
    res (F := Ideal) a0 te a3 a4 a5 (ix2 ⟨k.val * 1024 + r.val, by omega⟩ n)
      = glu (unpack fun n => a0 (ix2 ⟨k.val * 1024 + r.val, by omega⟩ n)) (fun i f => a3 (ix4 0 ⟨(te (ix1 k)).toNat, h⟩ i f))
          (fun i f => a4 (ix4 0 ⟨(te (ix1 k)).toNat, h⟩ i f)) (fun f i => a5 (ix4 0 ⟨(te (ix1 k)).toNat, h⟩ f i)) n := by
  refine (Cert.ExpertsReferenceIdeal.Rows.resOf_at a0 te (lay a3) (lay a4) (layD a5) k h r n).trans ?_
  exact Cert.Experts.Tiles.glu_congr n rfl (funext fun i => funext fun f => lay_at a3 _ i f) (funext fun i => funext fun f => lay_at a4 _ i f)
    (funext fun f => funext fun i => layD_at a5 _ f i)

end Cert.FirstExpertsReferenceIdeal.Rows

end
-- ==== Proof.FirstEq.lean ====
module

public import proofs.«01_k».proof.Proof.FirstValue
public import proofs.«01_k».proof.Proof.ExpertsRange
public import proofs.«01_k».proof.Proof.FirstIdealRun
public import proofs.«01_k».proof.Proof.FirstRef

/-! The first layer's experts' kernel and its reference have the same rows wherever a tile is in use. -/

@[expose] public section

set_option maxRecDepth 16384

noncomputable section

namespace Cert.FirstExpertsAlg

open Idealize.ShloMosaic Idealize.ShloMosaic.TcCoe Idealize.SL.Sem
open Cert.FirstExperts.Tiles Cert.FirstExperts
open Cert.Experts.Tiles (used_row)

variable (m : (ℓ : Loc nD τ sig) → Buf (Elt Ideal) ℓ)
  (m' : (ℓ : Loc Cert.FirstExpertsReferenceIdeal.nD Cert.FirstExpertsReferenceIdeal.τ Cert.FirstExpertsReferenceIdeal.sig) → Buf (Elt Ideal) ℓ)

theorem word_of (R : InRange m) (k : Fin 192) : ((found m 0 main_arg1 : IVec Cert.FirstExpertsReferenceIdeal.S192 32) (ix1 k)).toNat = expert m k :=
  congrArg (fun i => ((found m 0 main_arg1 : IVec Cert.FirstExpertsReferenceIdeal.S192 32) i).toNat) (funext fun (a : Fin 1) => by obtain rfl := Subsingleton.elim a 0; rfl)

theorem eq (c : Dev nD) (R : InRange m)
    (h0 : m' ((c.tc : Thread Cert.FirstExpertsReferenceIdeal.nD Cert.FirstExpertsReferenceIdeal.τ).loc Cert.FirstExpertsReferenceIdeal.main_arg0) = found m c main_arg0)
    (h1 : m' ((c.tc : Thread Cert.FirstExpertsReferenceIdeal.nD Cert.FirstExpertsReferenceIdeal.τ).loc Cert.FirstExpertsReferenceIdeal.main_arg1) = found m c main_arg1)
    (h3 : m' ((c.tc : Thread Cert.FirstExpertsReferenceIdeal.nD Cert.FirstExpertsReferenceIdeal.τ).loc Cert.FirstExpertsReferenceIdeal.main_arg3) = found m c main_arg3)
    (h4 : m' ((c.tc : Thread Cert.FirstExpertsReferenceIdeal.nD Cert.FirstExpertsReferenceIdeal.τ).loc Cert.FirstExpertsReferenceIdeal.main_arg4) = found m c main_arg4)
    (h5 : m' ((c.tc : Thread Cert.FirstExpertsReferenceIdeal.nD Cert.FirstExpertsReferenceIdeal.τ).loc Cert.FirstExpertsReferenceIdeal.main_arg5) = found m c main_arg5)
    (i : Cert.FirstExpertsReferenceIdeal.S196608x1024.Idx)
    (hm : @Cert.On_tiles_used.fn Cert.On_tiles_used.Gen.facts Ideal _ (found m c main_arg0) (found m c main_arg1) (found m c main_arg2) (found m c main_arg3) (found m c main_arg4) (found m c main_arg5) i = 1#1) :
    Cert.FirstExpertsReferenceIdeal.Rows.res (F := Ideal) (m' ((c.tc : Thread Cert.FirstExpertsReferenceIdeal.nD Cert.FirstExpertsReferenceIdeal.τ).loc Cert.FirstExpertsReferenceIdeal.main_arg0))
      (m' ((c.tc : Thread Cert.FirstExpertsReferenceIdeal.nD Cert.FirstExpertsReferenceIdeal.τ).loc Cert.FirstExpertsReferenceIdeal.main_arg1))
      (m' ((c.tc : Thread Cert.FirstExpertsReferenceIdeal.nD Cert.FirstExpertsReferenceIdeal.τ).loc Cert.FirstExpertsReferenceIdeal.main_arg3))
      (m' ((c.tc : Thread Cert.FirstExpertsReferenceIdeal.nD Cert.FirstExpertsReferenceIdeal.τ).loc Cert.FirstExpertsReferenceIdeal.main_arg4))
      (m' ((c.tc : Thread Cert.FirstExpertsReferenceIdeal.nD Cert.FirstExpertsReferenceIdeal.τ).loc Cert.FirstExpertsReferenceIdeal.main_arg5)) i
      = ((proofData m R 0 c).arrAt 4 (pipe m R).N : Vec Ideal S196608x1024 .bf16) i := by
  obtain rfl := Subsingleton.elim c 0
  rw [h0, h1, h3, h4, h5]
  obtain ⟨i, j, rfl⟩ : ∃ (a : Fin 196608) (b : Fin 1024), i = ix2 a b := ⟨i 0, i 1, eq_ix2 i⟩
  have hk : i.val / 1024 < count m := used_row _ _ _ _ _ _ R i j hm
  have hi := i.isLt
  obtain ⟨k, hkv⟩ : ∃ k : Fin 192, k.val = i.val / 1024 := ⟨⟨i.val / 1024, by omega⟩, rfl⟩
  obtain ⟨r, hrv⟩ : ∃ r : Fin 1024, r.val = i.val % 1024 := ⟨⟨i.val % 1024, by omega⟩, rfl⟩
  have he : i = ⟨k.val * 1024 + r.val, by omega⟩ := Fin.ext (by show i.val = k.val * 1024 + r.val; omega)
  rw [← hkv] at hk
  rw [he]
  refine Eq.trans ?_ (out_at m R 0 k hk r j).symm
  refine Eq.trans ?_ (rows_at m R 0 k hk r j).symm
  rw [show (⟨expert m k, R.ex k⟩ : Fin 64) = ⟨_, (word_of m R k).trans_lt (R.ex k)⟩ from Fin.ext (word_of m R k).symm]
  exact Cert.FirstExpertsReferenceIdeal.Rows.res_at _ _ _ _ _ k ((word_of m R k).trans_lt (R.ex k)) r j

end Cert.FirstExpertsAlg

end
-- ==== Proof.AttentionRef.lean ====
module

public import proofs.«01_k».proof.Proof.Gen.AttentionReferenceIdeal.Run
public import Idealize.ShloMosaic.Lib.Pointwise
public import Idealize.ShloMosaic.Lib.Pipeline.ValueKit.Point

/-! The reference's keys and values at an index. -/

@[expose] public section

set_option maxRecDepth 16384

noncomputable section

namespace Cert.Keys

open Idealize.ShloMosaic

/-- A row's key at a column: the column over the root mean square of its head, times the gain. -/
def key (x : Fin 128 → EReal) (g : Fin 64 → EReal) (n : Fin 128) : EReal :=
  x n * Ideal.rsqrt (Ideal.div (∑ d : Fin 64, x ⟨64 * (n.val / 64) + d.val, by omega⟩ * x ⟨64 * (n.val / 64) + d.val, by omega⟩) (Ideal.ofBits FTy.f32 0x42800000#32)
    + Ideal.ofBits FTy.f32 0x358637BD#32) * g ⟨n.val % 64, by omega⟩

end Cert.Keys

namespace Cert.AttentionReferenceIdeal.Heads

open Cert.AttentionReferenceIdeal Cert.AttentionReferenceIdeal.Gen Idealize.ShloMosaic Idealize.ShloMosaic.TcCoe Idealize.SL.Sem

section
variable {F : FTy → Type} [FloatOps F]
/-- The prompt's rows, sequence by sequence. -/
def seqs (a0 : FVec F S16384x768 .f32) : FVec F S32x256x768 .f32 := shapeCast _ (extractStridedSlice S8192x768 ![0, 0] a0 slices_S16384x768_S8192x768_0_0) shapeCasts_S8192x768_S32x256x768
/-- The columns of the keys, head by head. -/
def keyCols (a0 : FVec F S16384x768 .f32) : FVec F S32x256x2x64 .f32 := shapeCast _ (extractStridedSlice S32x256x128 ![0, 0, 512] (seqs a0) slices_S32x256x768_S32x256x128_0_0_512) shapeCasts_S32x256x128_S32x256x2x64
/-- The columns of the values, head by head. -/
def valCols (a0 : FVec F S16384x768 .f32) : FVec F S32x256x2x64 .f32 := shapeCast _ (extractStridedSlice S32x256x128 ![0, 0, 640] (seqs a0) slices_S32x256x768_S32x256x128_0_0_640) shapeCasts_S32x256x128_S32x256x2x64
/-- The sum of the squares of each head. -/
def squares (k : FVec F S32x256x2x64 .f32) : FVec F S32x256x2 .f32 := Host.reduceAdd (mulf k k) (constant S_ .f32 0x00000000#32) reducesTo_S32x256x2x64_S32x256x2_d3 h_S_
/-- The normed heads, from the sums of their squares. -/
def normed (k : FVec F S32x256x2x64 .f32) (s : FVec F S32x256x2 .f32) (g : FVec F S64 .f32) : FVec F S32x256x2x64 .f32 :=
  mulf (mulf k (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 s) (broadcastInDim S32x256x2x1 ![] bcast_S_S32x256x2x1 (constant S_ .f32 0x42800000#32))) (broadcastInDim S32x256x2x1 ![] bcast_S_S32x256x2x1 (constant S_ .f32 0x358637BD#32)))))) (broadcastInDim S32x256x2x64 ![0, 1, 2, 3] bcast_S1x1x1x64_S32x256x2x64_0_1_2_3 (broadcastInDim S1x1x1x64 ![3] bcast_S64_S1x1x1x64_3 g))
/-- The keys. -/
def keys (a0 : FVec F S16384x768 .f32) (g : FVec F S64 .f32) : FVec F S32x256x128 .f32 := shapeCast _ (normed (keyCols a0) (squares (keyCols a0)) g) shapeCasts_S32x256x2x64_S32x256x128
/-- The values. -/
def vals (a0 : FVec F S16384x768 .f32) : FVec F S32x256x128 .f32 := shapeCast _ (valCols a0) shapeCasts_S32x256x2x64_S32x256x128
end

theorem seqs_at (a0 : FVec Ideal S16384x768 .f32) (b : Fin 32) (r : Fin 256) (n : Fin 768) :
    seqs (F := Ideal) a0 (ix3 b r n) = a0 (ix2 ⟨256 * b.val + r.val, by omega⟩ n) := by
  unfold seqs
  refine (shapeCast_apply _ _ _ (ix2 (⟨256 * b.val + r.val, by omega⟩ : Fin 8192) n) ?_).trans ?_
  · rw [Shape.rowMajor_val_two, Shape.rowMajor_val_three]
    show (256 * b.val + r.val) * 768 + n.val = (b.val * 256 + r.val) * 768 + n.val
    omega
  · pointwise []

theorem keyCols_at (a0 : FVec Ideal S16384x768 .f32) (b : Fin 32) (r : Fin 256) (j : Fin 2) (d : Fin 64) :
    keyCols (F := Ideal) a0 (ix4 b r j d) = a0 (ix2 ⟨256 * b.val + r.val, by omega⟩ ⟨512 + (64 * j.val + d.val), by omega⟩) := by
  unfold keyCols
  have h := seqs_at a0 b r ⟨512 + (64 * j.val + d.val), by omega⟩
  generalize seqs (F := Ideal) a0 = s at h ⊢
  rw [← h]
  refine (shapeCast_apply _ _ _ (ix3 b r (⟨64 * j.val + d.val, by omega⟩ : Fin 128)) ?_).trans ?_
  · rw [Shape.rowMajor_val_three, Shape.rowMajor_val_four]
    show (b.val * 256 + r.val) * 128 + (64 * j.val + d.val) = ((b.val * 256 + r.val) * 2 + j.val) * 64 + d.val
    omega
  · pointwise []

theorem valCols_at (a0 : FVec Ideal S16384x768 .f32) (b : Fin 32) (r : Fin 256) (j : Fin 2) (d : Fin 64) :
    valCols (F := Ideal) a0 (ix4 b r j d) = a0 (ix2 ⟨256 * b.val + r.val, by omega⟩ ⟨640 + (64 * j.val + d.val), by omega⟩) := by
  unfold valCols
  have h := seqs_at a0 b r ⟨640 + (64 * j.val + d.val), by omega⟩
  generalize seqs (F := Ideal) a0 = s at h ⊢
  rw [← h]
  refine (shapeCast_apply _ _ _ (ix3 b r (⟨64 * j.val + d.val, by omega⟩ : Fin 128)) ?_).trans ?_
  · rw [Shape.rowMajor_val_three, Shape.rowMajor_val_four]
    show (b.val * 256 + r.val) * 128 + (64 * j.val + d.val) = ((b.val * 256 + r.val) * 2 + j.val) * 64 + d.val
    omega
  · pointwise []

theorem drops : (⟨4, ![32, 256, 2, 64]⟩ : Shape).Reduces [3] ⟨3, ![32, 256, 2]⟩ := by decide

theorem sum_heads (v : FVec Ideal S32x256x2x64 .f32) (x : FVec Ideal S_ .f32) (hx : x (Shape.Idx.first h_S_) = (0 : EReal)) (b : Fin 32) (r : Fin 256) (j : Fin 2) :
    @Eq EReal (Host.reduceAdd v x reducesTo_S32x256x2x64_S32x256x2_d3 h_S_ (ix3 b r j)) (∑ d : Fin 64, v (ix4 b r j d)) := by
  rw [ValueIdx.hostReduceAdd_apply, hx, Idealize.ShloMosaic.Ideal.hostReduceAdd_single _ drops, zero_add]
  refine Finset.sum_congr rfl fun k _ => congrArg v ?_
  funext a
  fin_cases a <;> rfl

theorem squares_at (k : FVec Ideal S32x256x2x64 .f32) (b : Fin 32) (r : Fin 256) (j : Fin 2) :
    @Eq EReal (squares (F := Ideal) k (ix3 b r j)) (∑ d : Fin 64, @HMul.hMul EReal EReal EReal _ (k (ix4 b r j d)) (k (ix4 b r j d))) := by
  unfold squares
  exact sum_heads _ _ Idealize.ShloMosaic.Ideal.ofBits_zero_f32 b r j

theorem normed_at (k : FVec Ideal S32x256x2x64 .f32) (s : FVec Ideal S32x256x2 .f32) (g : FVec Ideal S64 .f32) (b : Fin 32) (r : Fin 256) (j : Fin 2) (d : Fin 64) :
    normed (F := Ideal) k s g (ix4 b r j d) = k (ix4 b r j d) * Ideal.rsqrt (Ideal.div (s (ix3 b r j)) (Ideal.ofBits FTy.f32 0x42800000#32) + Ideal.ofBits FTy.f32 0x358637BD#32) * g (ix1 d) := by
  pointwise [normed]

theorem keys_at (a0 : FVec Ideal S16384x768 .f32) (g : FVec Ideal S64 .f32) (b : Fin 32) (r : Fin 256) (n : Fin 128) :
    keys (F := Ideal) a0 g (ix3 b r n) = Cert.Keys.key (fun n => a0 (ix2 ⟨256 * b.val + r.val, by omega⟩ ⟨512 + n.val, by omega⟩)) (fun d => g (ix1 d)) n := by
  unfold keys
  have h := keyCols_at a0 b r
  generalize keyCols (F := Ideal) a0 = k at h ⊢
  refine (shapeCast_apply _ _ _ (ix4 b r (⟨n.val / 64, by omega⟩ : Fin 2) (⟨n.val % 64, by omega⟩ : Fin 64)) ?_).trans ?_
  · rw [Shape.rowMajor_val_three, Shape.rowMajor_val_four]
    show ((b.val * 256 + r.val) * 2 + n.val / 64) * 64 + n.val % 64 = (b.val * 256 + r.val) * 128 + n.val
    omega
  · rw [normed_at, squares_at]
    simp only [h]
    unfold Cert.Keys.key
    have e : (⟨512 + (64 * (n.val / 64) + n.val % 64), by omega⟩ : Fin 768) = ⟨512 + n.val, by omega⟩ := Fin.ext (by show 512 + (64 * (n.val / 64) + n.val % 64) = 512 + n.val; omega)
    rw [e]

theorem vals_at (a0 : FVec Ideal S16384x768 .f32) (b : Fin 32) (r : Fin 256) (n : Fin 128) :
    vals (F := Ideal) a0 (ix3 b r n) = a0 (ix2 ⟨256 * b.val + r.val, by omega⟩ ⟨640 + n.val, by omega⟩) := by
  unfold vals
  have h := valCols_at a0 b r
  generalize valCols (F := Ideal) a0 = k at h ⊢
  refine (shapeCast_apply _ _ _ (ix4 b r (⟨n.val / 64, by omega⟩ : Fin 2) (⟨n.val % 64, by omega⟩ : Fin 64)) ?_).trans ?_
  · rw [Shape.rowMajor_val_three, Shape.rowMajor_val_four]
    show ((b.val * 256 + r.val) * 2 + n.val / 64) * 64 + n.val % 64 = (b.val * 256 + r.val) * 128 + n.val
    omega
  · rw [h]
    have e : (⟨640 + (64 * (n.val / 64) + n.val % 64), by omega⟩ : Fin 768) = ⟨640 + n.val, by omega⟩ := Fin.ext (by show 640 + (64 * (n.val / 64) + n.val % 64) = 640 + n.val; omega)
    rw [e]

end Cert.AttentionReferenceIdeal.Heads

end
-- ==== Proof.AttentionOut.lean ====
module

public import proofs.«01_k».proof.Proof.AttentionRef
public import proofs.«01_k».proof.Proof.Gen.AttentionIdeal.Value
public import Idealize.ShloMosaic.Lib.Pipeline.ValueKit.Point
public import Idealize.ShloMosaic.Lib.WholeRead

/-! One grid point's keys and values from its input blocks. -/

@[expose] public section

set_option maxRecDepth 16384

noncomputable section

namespace Cert.AttentionIdeal.Heads

open Cert.AttentionIdeal Cert.AttentionIdeal.Gen Idealize.ShloMosaic Idealize.ShloMosaic.TcCoe Idealize.SL.Sem

theorem zeros2 : (![0, 0] : Fin 2 → Nat) = fun _ => 0 := by funext i; fin_cases i <;> rfl
theorem zeros3 : (![0, 0, 0] : Fin 3 → Nat) = fun _ => 0 := by funext i; fin_cases i <;> rfl

section
variable {F : FTy → Type} [FloatOps F]

theorem loadWhole {s : Shape} {e : EltTy} (a : Memref sig .tc .vmem s e) (ha : a.IsWhole) (off : Fin s.rank → ℕ) (hoff : ∀ k, off k = 0)
    (inb : ∀ k, off k + s.size k ≤ s.size k) (x : Vec F s e) :
    View.readAt (Elt F) a.view (Rect.unit off s.size inb).toLoadRect (ha.unread x) = x := by
  funext i
  rw [Memref.IsWhole.readAt_unread]
  refine congrArg x (funext fun k => Fin.ext ?_)
  show off k + 1 * (i k).val = (i k).val
  rw [hoff]; omega

theorem valOut_eq (c : Dev nD) (i : grid0.Coords) (arg1 : Memref sig .tc .vmem S256x768 .f32) (harg1 : arg1.IsWhole) (arg2 : Memref sig .tc .vmem S1x512 .f32) (harg2 : arg2.IsWhole) (arg3 : Memref sig .tc .vmem S1x128 .f32) (harg3 : arg3.IsWhole) (arg4 : Memref sig .tc .smem S8 .f32) (harg4 : arg4.IsWhole) (arg5 : Memref sig .tc .vmem S1024x512 .bf16) (harg5 : arg5.IsWhole) (arg6 : Memref sig .tc .vmem S256x128 .bf16) (harg6 : arg6.IsWhole) (arg8 : Memref sig .tc .vmem S256x512 .f32) (harg8 : arg8.IsWhole) (arg9 : Memref sig .tc .vmem S1x256x128 .f32) (harg9 : arg9.IsWhole) (arg10 : Memref sig .tc .vmem S1x256x128 .f32) (harg10 : arg10.IsWhole)
    (x0 : Vec F S256x768 .f32) (x1 : Vec F S1x512 .f32) (x2 : Vec F S1x128 .f32) (x3 : Vec F S8 .f32) (x4 : Vec F S1024x512 .bf16) (x5 : Vec F S256x128 .bf16) :
    out0_A_8 c i arg1 harg1 arg2 harg2 arg3 harg3 arg4 harg4 arg5 harg5 arg6 harg6 arg8 harg8 arg9 harg9 arg10 harg10 x0 x1 x2 x3 x4 x5 = k0_pay9 x0 := by
  unfold out0_A_8
  rw [View.read_writes_eq_canon _ _ _ (cover0_A_8 c i arg1 harg1 arg2 harg2 arg3 harg3 arg4 harg4 arg5 harg5 arg6 harg6 arg8 harg8 arg9 harg9 arg10 harg10 x0 x1 x2 x3 x4 x5)]
  unfold kernelRun0_A
  dsimp only
  rw [View.canon_unit_zero zeros3]
  unfold kernelRun0_A.sl.r
  exact congrArg k0_pay9 (loadWhole arg1 harg1 _ (by decide) _ x0)

theorem keyOut_eq (c : Dev nD) (i : grid0.Coords) (arg1 : Memref sig .tc .vmem S256x768 .f32) (harg1 : arg1.IsWhole) (arg2 : Memref sig .tc .vmem S1x512 .f32) (harg2 : arg2.IsWhole) (arg3 : Memref sig .tc .vmem S1x128 .f32) (harg3 : arg3.IsWhole) (arg4 : Memref sig .tc .smem S8 .f32) (harg4 : arg4.IsWhole) (arg5 : Memref sig .tc .vmem S1024x512 .bf16) (harg5 : arg5.IsWhole) (arg6 : Memref sig .tc .vmem S256x128 .bf16) (harg6 : arg6.IsWhole) (arg8 : Memref sig .tc .vmem S256x512 .f32) (harg8 : arg8.IsWhole) (arg9 : Memref sig .tc .vmem S1x256x128 .f32) (harg9 : arg9.IsWhole) (arg10 : Memref sig .tc .vmem S1x256x128 .f32) (harg10 : arg10.IsWhole)
    (x0 : Vec F S256x768 .f32) (x1 : Vec F S1x512 .f32) (x2 : Vec F S1x128 .f32) (x3 : Vec F S8 .f32) (x4 : Vec F S1024x512 .bf16) (x5 : Vec F S256x128 .bf16) :
    out0_A_7 c i arg1 harg1 arg2 harg2 arg3 harg3 arg4 harg4 arg5 harg5 arg6 harg6 arg8 harg8 arg9 harg9 arg10 harg10 x0 x1 x2 x3 x4 x5 = k0_pay8 (k0_pay2 x0) (k0_pay3 x2) (k0_pay4 x0 x5) k0_pay5 := by
  unfold out0_A_7
  rw [View.read_writes_eq_canon _ _ _ (cover0_A_7 c i arg1 harg1 arg2 harg2 arg3 harg3 arg4 harg4 arg5 harg5 arg6 harg6 arg8 harg8 arg9 harg9 arg10 harg10 x0 x1 x2 x3 x4 x5)]
  unfold kernelRun0_A
  dsimp only
  rw [View.canon_unit_zero zeros3]
  have e2 : kernelRun0_A.sl.r_2 c arg1 harg1 x0 = k0_pay2 x0 := congrArg k0_pay2 (loadWhole arg1 harg1 _ (by decide) _ x0)
  have e3 : kernelRun0_A.sl.r_3 c arg3 harg3 x2 = k0_pay3 x2 := congrArg k0_pay3 (loadWhole arg3 harg3 _ (by decide) _ x2)
  have e4 : kernelRun0_A.sl.r_4 c arg1 harg1 arg6 harg6 x0 x5 = k0_pay4 x0 x5 := congrArg₂ k0_pay4 (loadWhole arg1 harg1 _ (by decide) _ x0) (loadWhole arg6 harg6 _ (by decide) _ x5)
  rw [e2, e3, e4]
end

theorem valOut_at (x0 : FVec Ideal S256x768 .f32) (r : Fin 256) (n : Fin 128) :
    k0_pay9 (F := Ideal) x0 (ix3 0 r n) = x0 (ix2 r ⟨640 + n.val, by omega⟩) := by
  unfold k0_pay9
  refine (shapeCast_apply _ _ _ (ix2 r n) ?_).trans ?_
  · rw [Shape.rowMajor_val_three, Shape.rowMajor_val_two]
    show r.val * 128 + n.val = (0 * 256 + r.val) * 128 + n.val
    omega
  · pointwise [k0_pay7]

/-- A block of ones, over a row of squares and then over their remainders, sums a head's squares. -/
theorem sum_head (y : Fin 128 → EReal) (hy : ∀ k, y k ≠ ⊤ ∧ y k ≠ ⊥) (n : Fin 128) :
    (∑ k : Fin 128, y k * y k * (if k.val % 128 / 64 = n.val / 64 then (1 : EReal) else 0))
        + ∑ k : Fin 128, (y k * y k - y k * y k) * (if (128 + k.val) % 128 / 64 = n.val / 64 then (1 : EReal) else 0)
      = ∑ d : Fin 64, y ⟨64 * (n.val / 64) + d.val, by omega⟩ * y ⟨64 * (n.val / 64) + d.val, by omega⟩ := by
  have z : ∀ k, y k * y k - y k * y k = 0 := by
    intro k
    obtain ⟨a, ha⟩ : ∃ a : ℝ, y k = (a : EReal) := ⟨(y k).toReal, (EReal.coe_toReal (hy k).1 (hy k).2).symm⟩
    rw [ha, ← EReal.coe_mul, ← EReal.coe_sub, sub_self, EReal.coe_zero]
  simp only [z, zero_mul, Finset.sum_const_zero, add_zero]
  refine (Fin.sum_univ_add (a := 64) (b := 64) (fun k : Fin (64 + 64) => y k * y k * (if k.val % 128 / 64 = n.val / 64 then (1 : EReal) else 0))).trans ?_
  have hn : n.val / 64 = 0 ∨ n.val / 64 = 1 := by omega
  have a : ∀ d : Fin 64, (Fin.castAdd 64 d).val % 128 / 64 = 0 := fun d => by show d.val % 128 / 64 = 0; omega
  have b : ∀ d : Fin 64, (Fin.natAdd 64 d).val % 128 / 64 = 1 := fun d => by show (64 + d.val) % 128 / 64 = 1; omega
  simp only [a, b]
  rcases hn with h | h
  · simp only [h, if_true, mul_one, one_ne_zero, if_false, mul_zero, Finset.sum_const_zero, add_zero]
    refine Finset.sum_congr rfl fun d _ => ?_
    have : (Fin.castAdd 64 d : Fin 128) = ⟨0 + d.val, by omega⟩ := Fin.ext (by show d.val = 0 + d.val; omega)
    rw [this]
  · simp only [h, if_true, mul_one, zero_ne_one, if_false, mul_zero, Finset.sum_const_zero, zero_add]
    rfl

theorem mul_sixtyfourth (s : EReal) : s * Ideal.ofBits FTy.f32 0x3C800000#32 = Ideal.div s (Ideal.ofBits FTy.f32 0x42800000#32) := by
  have h1 : Ideal.ofBits FTy.f32 0x3C800000#32 = (((1 : ℝ) / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  unfold Ideal.div
  rw [h1, h2, if_neg (by norm_cast), ← EReal.coe_inv, one_div]

theorem keyOut_at (x0 : FVec Ideal S256x768 .f32) (x2 : FVec Ideal S1x128 .f32) (x5 : FVec Ideal S256x128 .bf16) (g : Fin 64 → EReal) (r : Fin 256) (n : Fin 128)
    (h0 : ∀ n : Fin 128, x0 (ix2 r ⟨512 + n.val, by omega⟩) ≠ (⊤ : EReal) ∧ x0 (ix2 r ⟨512 + n.val, by omega⟩) ≠ (⊥ : EReal))
    (h2 : ∀ n : Fin 128, x2 (ix2 0 n) = g ⟨n.val % 64, by omega⟩)
    (h5 : ∀ (k : Fin 256) (n : Fin 128), x5 (ix2 k n) = if k.val % 128 / 64 = n.val / 64 then (1 : EReal) else 0) :
    k0_pay8 (F := Ideal) (k0_pay2 x0) (k0_pay3 x2) (k0_pay4 x0 x5) k0_pay5 (ix3 0 r n)
      = Cert.Keys.key (fun n => x0 (ix2 r ⟨512 + n.val, by omega⟩)) g n := by
  unfold k0_pay8
  refine (shapeCast_apply _ _ _ (ix2 r n) ?_).trans ?_
  · rw [Shape.rowMajor_val_three, Shape.rowMajor_val_two]
    show r.val * 128 + n.val = (0 * 256 + r.val) * 128 + n.val
    omega
  unfold Cert.Keys.key
  rw [← mul_sixtyfourth]
  have k2 : ∀ n : Fin 128, k0_pay2 (F := Ideal) x0 (ix2 r n) = x0 (ix2 r ⟨512 + n.val, by omega⟩) := fun n => by pointwise [k0_pay2]
  have k3 : k0_pay3 (F := Ideal) x2 (ix2 0 n) = g ⟨n.val % 64, by omega⟩ := by
    rw [← h2]
    pointwise [k0_pay3]
  have k4 : k0_pay4 (F := Ideal) x0 x5 (ix2 r n) = (∑ d : Fin 64, x0 (ix2 r ⟨512 + (64 * (n.val / 64) + d.val), by omega⟩) * x0 (ix2 r ⟨512 + (64 * (n.val / 64) + d.val), by omega⟩)) * Ideal.ofBits FTy.f32 0x3C800000#32 := by
    unfold k0_pay4
    generalize k0_pay2 (F := Ideal) x0 = w at k2 ⊢
    pointwise []
    refine congrArg (· * Ideal.ofBits FTy.f32 0x3C800000#32) ?_
    simp only [h5, k2]
    exact sum_head (fun n => x0 (ix2 r ⟨512 + n.val, by omega⟩)) h0 n
  generalize k0_pay2 (F := Ideal) x0 = w at k2 ⊢
  generalize k0_pay3 (F := Ideal) x2 = w3 at k3 ⊢
  generalize k0_pay4 (F := Ideal) x0 x5 = w4 at k4 ⊢
  pointwise [k0_pay6, k0_pay5]
  rw [k2, k3, k4]

end Cert.AttentionIdeal.Heads

end
-- ==== Proof.AttentionFinal.lean ====
module

public import proofs.«01_k».proof.Proof.AttentionOut

/-! The key and value arrays of the attention kernel at an index. -/

@[expose] public section

set_option maxRecDepth 16384

noncomputable section

namespace Cert.AttentionIdeal.Heads

open Cert.AttentionIdeal Cert.AttentionIdeal.Gen Idealize.ShloMosaic Idealize.ShloMosaic.TcCoe Idealize.SL.Sem

variable (m : (ℓ : Loc nD τ sig) → Buf (Elt Ideal) ℓ) (c : Dev nD)

/-- The projected rows. -/
def P : Fin 16384 → Fin 768 → EReal := fun i n => m ((c.tc : Thread nD τ).loc main_arg0) (ix2 i n)
/-- The key gains. -/
def G : Fin 64 → EReal := fun d => m ((c.tc : Thread nD τ).loc main_arg2) (ix1 d)

theorem idx_in : ∀ t : Fin cfg0.N, win0_0.index t = ![t.val, 0] ∧ win0_2.index t = ![0, 0] ∧ win0_5.index t = ![0, 0] :=
  (by decide +kernel : ∀ t : Fin grid0.N, _)
theorem idx_out : ∀ t : Fin cfg0.N, win0_7.index t = ![t.val, 0, 0] ∧ win0_8.index t = ![t.val, 0, 0] :=
  (by decide +kernel : ∀ t : Fin grid0.N, _)
theorem lt32 (t : Fin cfg0.N) : t.val < 32 := t.isLt
/-- The row of the projection a grid point's row is. -/
def row (t : Fin cfg0.N) (r : Fin 256) : Fin 16384 := ⟨256 * t.val + r.val, by have := lt32 t; omega⟩
/-- The sequence of a grid point. -/
def seq (t : Fin cfg0.N) : Fin 32 := ⟨t.val, lt32 t⟩

theorem rows_head : ∀ k : Fin 256, IntOp.divsi .host (IntOp.remsi .host (BitVec.ofNat 32 k.val) 128#32) 64#32 = BitVec.ofNat 32 (k.val % 128 / 64) := by
  decide +kernel
theorem cols_head : ∀ n : Fin 128, IntOp.divsi .host (BitVec.ofNat 32 n.val) 64#32 = BitVec.ofNat 32 (n.val / 64) := by
  decide +kernel
theorem same_head (a b : Fin 2) : IntOp.cmpi CmpIPredicate.eq (BitVec.ofNat 32 a.val) (BitVec.ofNat 32 b.val) = if a.val = b.val then 1#1 else 0#1 := by
  revert a b; decide

variable (t : Fin cfg0.N)

theorem iblk0_at (r : Fin 256) (n : Fin 768) : iblk m c 0 t (ix2 r n) = P m c (row t r) n := by
  blk_ext [iblk, V, idx_in t, row, P]

theorem iblk2_at (n : Fin 128) : iblk m c 2 t (ix2 0 n) = G m c ⟨n.val % 64, by omega⟩ := by
  have : iblk m c 2 t (ix2 0 n) = V m c main_v7 (ix2 0 n) := by
    blk_ext [iblk, V, idx_in t]
  rw [this]
  entry_read
  refine (shapeCast_apply _ _ _ (ix1 n) ?_).trans ?_
  · refine (Shape.rowMajor_val_one (ix1 n)).trans (Eq.trans ?_ (Shape.rowMajor_val_two (ix2 (0 : Fin 1) n)).symm)
    show n.val = 0 * 128 + n.val
    omega
  refine (shapeCast_apply _ _ _ (ix2 (⟨n.val / 64, by omega⟩ : Fin 2) (⟨n.val % 64, by omega⟩ : Fin 64)) ?_).trans ?_
  · refine (Shape.rowMajor_val_two (ix2 (⟨n.val / 64, by omega⟩ : Fin 2) (⟨n.val % 64, by omega⟩ : Fin 64))).trans (Eq.trans ?_ (Shape.rowMajor_val_one (ix1 n)).symm)
    show n.val / 64 * 64 + n.val % 64 = n.val
    omega
  pointwise [G]

theorem iblk5_at (k : Fin 256) (n : Fin 128) : @Eq EReal (iblk m c 5 t (ix2 k n)) (if k.val % 128 / 64 = n.val / 64 then (1 : EReal) else 0) := by
  have : iblk m c 5 t (ix2 k n) = V m c main_v27 (ix2 k n) := by
    blk_ext [iblk, V, idx_in t]
  rw [this]
  entry_read
  pointwise
  rw [rows_head, cols_head, same_head ⟨k.val % 128 / 64, by omega⟩ ⟨n.val / 64, by omega⟩]
  show @Eq EReal (((if k.val % 128 / 64 = n.val / 64 then 1#1 else 0#1 : BitVec 1).toNat : ℝ) : EReal) _
  split
  · show (((1#1).toNat : ℝ) : EReal) = 1
    norm_num
  · show (((0#1).toNat : ℝ) : EReal) = 0
    norm_num

theorem arr7_at (r : Fin 256) (n : Fin 128)
    (h : ∀ n : Fin 128, P m c (row t r) ⟨512 + n.val, by omega⟩ ≠ (⊤ : EReal) ∧ P m c (row t r) ⟨512 + n.val, by omega⟩ ≠ (⊥ : EReal)) :
    (dats m 0 c).arrAt 7 cfg0.N (ix3 (seq t) r n) = Cert.Keys.key (fun n => P m c (row t r) ⟨512 + n.val, by omega⟩) (G m c) n := by
  have e := congrFun (Value.blocks7 m c t (flush0_7 t)) (ix3 0 r n)
  rw [Value.flushed7_A, keyOut_eq] at e
  refine (Eq.trans ?_ e).trans ?_
  · blk_ext [idx_out t, seq]
  refine (keyOut_at (iblk m c 0 t) (iblk m c 2 t) (iblk m c 5 t) (G m c) r n (fun n => by rw [iblk0_at]; exact h n) (iblk2_at m c t) (iblk5_at m c t)).trans ?_
  simp only [iblk0_at]

theorem arr8_at (r : Fin 256) (n : Fin 128) :
    (dats m 0 c).arrAt 8 cfg0.N (ix3 (seq t) r n) = P m c (row t r) ⟨640 + n.val, by omega⟩ := by
  have e := congrFun (Value.blocks8 m c t (flush0_8 t)) (ix3 0 r n)
  rw [Value.flushed8_A, valOut_eq] at e
  refine (Eq.trans ?_ e).trans ?_
  · blk_ext [idx_out t, seq]
  exact (valOut_at (iblk m c 0 t) r n).trans (iblk0_at m c t r _)

end Cert.AttentionIdeal.Heads

end
-- ==== Proof.AttentionAlg.lean ====
module

public import proofs.«01_k».proof.Proof.AttentionFinal
public import proofs.«01_k».proof.Proof.Gen.Pre_keys_finite

/-! The kernel's and the reference's keys and values are the same arrays. -/

@[expose] public section

set_option maxRecDepth 16384

noncomputable section

namespace Cert.AttentionAlg

open Idealize.ShloMosaic Idealize.ShloMosaic.TcCoe Idealize.SL.Sem

/-- The precondition, entry by entry. -/
theorem finite (a0 : FVec Ideal Cert.Pre_keys_finite.S16384x768 .f32) (a1 a2 : FVec Ideal Cert.Pre_keys_finite.S64 .f32) (a3 : FVec Ideal Cert.Pre_keys_finite.S8 .f32)
    (a4 : FVec Ideal Cert.Pre_keys_finite.S16384x512 .f32)
    (h : @Cert.Pre_keys_finite.fn Cert.Pre_keys_finite.Gen.facts Ideal _ a0 a1 a2 a3 a4 = fun _ => 1#1) (i : Fin 8192) (n : Fin 128) :
    a0 (ix2 ⟨i.val, by omega⟩ ⟨512 + n.val, by omega⟩) ≠ (⊤ : EReal) ∧ a0 (ix2 ⟨i.val, by omega⟩ ⟨512 + n.val, by omega⟩) ≠ (⊥ : EReal) := by
  have e := congrFun h (ix2 i n)
  pointwise [Cert.Pre_keys_finite.fn] at e
  rw [show Ideal.ofBits FTy.f32 2139095040#32 = (⊤ : EReal) by simp [Ideal.ofBits, Ideal.ieee]] at e
  constructor
  · intro ht
    rw [ht] at e
    rw [show (FloatOps.absf (F := Ideal) (φ := .f32) (⊤ : EReal)) = (⊤ : EReal) from max_eq_left le_top] at e
    simp at e
  · intro ht
    rw [ht] at e
    rw [show (FloatOps.absf (F := Ideal) (φ := .f32) (⊥ : EReal)) = (⊤ : EReal) from (congrArg (max ⊥) EReal.neg_bot).trans (max_eq_right bot_le)] at e
    simp at e

variable (m : (ℓ : Loc Cert.AttentionIdeal.nD Cert.AttentionIdeal.τ Cert.AttentionIdeal.sig) → Buf (Elt Ideal) ℓ) (c : Dev Cert.AttentionIdeal.nD)

open Cert.AttentionIdeal.Heads in
theorem eqKeys (h : ∀ (i : Fin 8192) (n : Fin 128), P m c ⟨i.val, by omega⟩ ⟨512 + n.val, by omega⟩ ≠ (⊤ : EReal) ∧ P m c ⟨i.val, by omega⟩ ⟨512 + n.val, by omega⟩ ≠ (⊥ : EReal)) :
    (Cert.AttentionReferenceIdeal.Heads.keys (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg2)) : (⟨3, ![32, 256, 128]⟩ : Shape).Idx → EReal)
      = (Cert.AttentionIdeal.Gen.dats m 0 c).arrAt 7 Cert.AttentionIdeal.cfg0.N := by
  funext x
  obtain ⟨b, r, n, rfl⟩ : ∃ b r n, x = ix3 b r n := ⟨x 0, x 1, x 2, eq_ix3 x⟩
  have e := arr7_at m c (⟨b.val, b.isLt⟩ : Fin Cert.AttentionIdeal.cfg0.N) r n (fun n => h ⟨256 * b.val + r.val, by omega⟩ n)
  exact (Cert.AttentionReferenceIdeal.Heads.keys_at _ _ b r n).trans e.symm

open Cert.AttentionIdeal.Heads in
theorem eqVals :
    (Cert.AttentionReferenceIdeal.Heads.vals (F := Ideal) (m ((c.tc : Thread Cert.AttentionIdeal.nD Cert.AttentionIdeal.τ).loc Cert.AttentionIdeal.main_arg0)) : (⟨3, ![32, 256, 128]⟩ : Shape).Idx → EReal)
      = (Cert.AttentionIdeal.Gen.dats m 0 c).arrAt 8 Cert.AttentionIdeal.cfg0.N := by
  funext x
  obtain ⟨b, r, n, rfl⟩ : ∃ b r n, x = ix3 b r n := ⟨x 0, x 1, x 2, eq_ix3 x⟩
  have e := arr8_at m c (⟨b.val, b.isLt⟩ : Fin Cert.AttentionIdeal.cfg0.N) r n
  exact (Cert.AttentionReferenceIdeal.Heads.vals_at _ b r n).trans e.symm

end Cert.AttentionAlg

end
-- ==== Proof.PromptOut.lean ====
module

public import proofs.«01_k».proof.Proof.RowsSpec
public import proofs.«01_k».proof.Proof.Gen.PromptIdeal.Value
public import Idealize.ShloMosaic.Lib.Pointwise
public import Idealize.ShloMosaic.Lib.Pipeline.ValueKit.Point

/-! One grid point's result block from its input blocks. -/

@[expose] public section

set_option maxRecDepth 16384

noncomputable section

namespace Cert.PromptIdeal.Rows

open Cert.PromptIdeal Cert.PromptIdeal.Gen Idealize.ShloMosaic Idealize.ShloMosaic.TcCoe Idealize.SL.Sem
open Cert.Rows

theorem two0 : (![0, 0] : Fin 2 → Nat) = fun _ => 0 := by funext i; fin_cases i <;> rfl

theorem shared_at (x0 : FVec Ideal S512x1024 .bf16) (x11 x12 : FVec Ideal S1024x256 .bf16) (x13 : FVec Ideal S256x1024 .bf16)
    (r : Fin 512) (n : Fin 1024) : k0_pay2 (F := Ideal) x0 x11 x12 x13 (ix2 r n)
      = glu (fun k => x0 (ix2 r k)) (fun k f => x11 (ix2 k f)) (fun k f => x12 (ix2 k f)) (fun f n => x13 (ix2 f n)) n := by
  pointwise [k0_pay2]
  rfl

theorem gate_at (x9 : FVec Ideal S8x512 .f32) (x10 : FVec Ideal S8x8 .bf16) (r : Fin 512)
    (h10 : ∀ j k, x10 (ix2 j k) = if j = k then (1 : EReal) else 0) (h9 : ∀ k, x9 (ix2 k r) ≠ (⊤ : EReal)) (k : Fin 8) :
    k0_pay3 (F := Ideal) x9 x10 x10 (ix2 r k) = x9 (ix2 k r) := by
  refine Eq.trans ?_ (gate_parts (fun k => x9 (ix2 k r)) h9 k)
  pointwise [k0_pay3]
  simp only [h10]

section
variable {F : FTy → Type} [FloatOps F]
theorem out_eq (x0 : Vec F S512x1024 .bf16) (x1 : Vec F S512x512 .i32) (x2 : Vec F S512x512 .i32) (x3 : Vec F S512x512 .i32) (x4 : Vec F S512x512 .i32) (x5 : Vec F S512x512 .i32) (x6 : Vec F S512x512 .i32) (x7 : Vec F S512x512 .i32) (x8 : Vec F S512x512 .i32) (x9 : Vec F S8x512 .f32) (x10 : Vec F S8x8 .bf16) (x11 : Vec F S1024x256 .bf16) (x12 : Vec F S1024x256 .bf16) (x13 : Vec F S256x1024 .bf16) (x14 : Vec F S512x1024 .f32) (x15 : Vec F S1x1x1x1024 .f32) :
    out0_16 x0 x1 x2 x3 x4 x5 x6 x7 x8 x9 x10 x11 x12 x13 x14 x15 =
      k0_pay1 (k0_pay3 x9 x10 x10) (k0_pay8 (k0_pay3 x9 x10 x10) (k0_pay5 (k0_pay2 x0 x11 x12 x13) (k0_pay3 x9 x10 x10) (k0_pay4 x9 x10 x10) x1 16#32 x2 x3) (k0_pay6 (k0_pay3 x9 x10 x10)) x4 (k0_pay7 x4) x5 x6) (k0_pay9 (k0_pay3 x9 x10 x10)) (k0_pay10 x7) (k0_pay11 x7) x8 x14 x15 := by
  unfold_out out0_16
  rw [View.canon_unit_zero two0]
  rw [show View.ld x0 r0_0 = x0 from View.ld_unit_lit _ _ (by decide), show View.ld x1 r0_5 = x1 from View.ld_unit_lit _ _ (by decide), show View.ld x2 r0_5 = x2 from View.ld_unit_lit _ _ (by decide), show View.ld x3 r0_5 = x3 from View.ld_unit_lit _ _ (by decide), show View.ld x4 r0_5 = x4 from View.ld_unit_lit _ _ (by decide), show View.ld x5 r0_5 = x5 from View.ld_unit_lit _ _ (by decide), show View.ld x6 r0_5 = x6 from View.ld_unit_lit _ _ (by decide), show View.ld x7 r0_5 = x7 from View.ld_unit_lit _ _ (by decide), show View.ld x8 r0_5 = x8 from View.ld_unit_lit _ _ (by decide), show View.ld x9 r0_3 = x9 from View.ld_unit_lit _ _ (by decide), show View.ld x10 r0_4 = x10 from View.ld_unit_lit _ _ (by decide), show View.ld x11 r0_1 = x11 from View.ld_unit_lit _ _ (by decide), show View.ld x12 r0_1 = x12 from View.ld_unit_lit _ _ (by decide), show View.ld x13 r0_2 = x13 from View.ld_unit_lit _ _ (by decide), show View.ld x14 r0_0 = x14 from View.ld_unit_lit _ _ (by decide), show View.ld x15 r0_6 = x15 from View.ld_unit_lit _ _ (by decide)]
end

theorem out_at (x0 : FVec Ideal S512x1024 .bf16) (x1 x2 x3 x4 x5 x6 x7 x8 : IVec S512x512 32) (x9 : FVec Ideal S8x512 .f32)
    (x10 : FVec Ideal S8x8 .bf16) (x11 x12 : FVec Ideal S1024x256 .bf16) (x13 : FVec Ideal S256x1024 .bf16)
    (x14 : FVec Ideal S512x1024 .f32) (x15 : FVec Ideal S1x1x1x1024 .f32)
    (h10 : ∀ j k, x10 (ix2 j k) = if j = k then (1 : EReal) else 0) (r : Fin 512) (n : Fin 1024)
    (h9 : ∀ k, x9 (ix2 k r) ≠ (⊤ : EReal)) :
    out0_16 (F := Ideal) x0 x1 x2 x3 x4 x5 x6 x7 x8 x9 x10 x11 x12 x13 x14 x15 (ix2 r n) = rowS (fun k => x0 (ix2 r k)) (fun k f => x11 (ix2 k f)) (fun k f => x12 (ix2 k f)) (fun f n => x13 (ix2 f n))
      (fun k => x9 (ix2 k r)) (fun k n => (![x1, x2, x3, x4, x5, x6, x7, x8] k) (ix2 r n)) (x14 (ix2 r n)) (x15 (ix4 0 0 0 n)) n := by
  rw [out_eq]
  have hs := shared_at x0 x11 x12 x13 r n
  have hw := gate_at x9 x10 r h10 h9
  generalize k0_pay2 (F := Ideal) x0 x11 x12 x13 = sh at hs ⊢
  unfold k0_pay4
  generalize k0_pay3 (F := Ideal) x9 x10 x10 = ew at hw ⊢
  pointwise [k0_pay1, k0_pay5, k0_pay6, k0_pay7, k0_pay8, k0_pay9, k0_pay10, k0_pay11]
  simp only [hs, hw]
  unfold rowS
  rw [Fin.sum_univ_eight, add_comm _ (glu _ _ _ _ _)]
  simp only [← add_assoc]
  rfl

end Cert.PromptIdeal.Rows

end
-- ==== Proof.PromptFinal.lean ====
module

public import proofs.«01_k».proof.Proof.PromptOut

/-! The result array of prompt at an index. -/

@[expose] public section

set_option maxRecDepth 16384

noncomputable section

namespace Cert.PromptIdeal.Rows

open Cert.PromptIdeal Cert.PromptIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

variable (m : (ℓ : Loc nD τ sig) → Buf (Elt Ideal) ℓ)

theorem idx_in : ∀ t : Fin cfg0.N, win0_0.index t = ![0 + t.val, 0] ∧ win0_1.index t = ![0 + t.val, 0] ∧ win0_2.index t = ![32 + t.val, 0] ∧ win0_3.index t = ![64 + t.val, 0] ∧ win0_4.index t = ![96 + t.val, 0] ∧ win0_5.index t = ![128 + t.val, 0] ∧ win0_6.index t = ![160 + t.val, 0] ∧ win0_7.index t = ![192 + t.val, 0] ∧ win0_8.index t = ![224 + t.val, 0]
   ∧ win0_9.index t = ![0, 0 + t.val] ∧ win0_10.index t = ![0, 0] ∧ win0_11.index t = ![0, 0] ∧ win0_12.index t = ![0, 0]
   ∧ win0_13.index t = ![0, 0] ∧ win0_14.index t = ![0 + t.val, 0] ∧ win0_15.index t = ![1, 0, 0, 5] :=
  (by decide +kernel : ∀ t : Fin grid0.N, _)
theorem idx_out : ∀ t : Fin cfg0.N, win0_16.index t = ![t.val, 0] :=
  (by decide +kernel : ∀ t : Fin grid0.N, _)
theorem lt16 (t : Fin cfg0.N) : t.val < 16 := t.isLt
/-- The row of the arrays a grid point's row is. -/
def row (t : Fin cfg0.N) (r : Fin 512) : Fin 16384 := ⟨0 + 512 * t.val + r.val, by have := lt16 t; omega⟩
/-- The row of the result a grid point's row is. -/
def rowO (t : Fin cfg0.N) (r : Fin 512) : Fin 8192 := ⟨512 * t.val + r.val, by have := lt16 t; omega⟩
/-- The row of the modulation a grid point takes. -/
def seqM (t : Fin cfg0.N) : Fin 8 := ⟨0, by have := lt16 t; omega⟩

section
variable (c : Dev nD) (t : Fin cfg0.N)

theorem iblk0_at (r : Fin 512) (n : Fin 1024) : iblk m c 0 t (ix2 r n) = H m c (row t r) n := by
  blk_ext [iblk, V, idx_in t, row, H]
theorem iblk1_at (r : Fin 512) (n : Fin 512) : iblk m c 1 t (ix2 r n) = Y m c ⟨16384 * 0 + (row t r).val, by omega⟩ n := by
  blk_ext [iblk, V, idx_in t, row, Y]
theorem iblk2_at (r : Fin 512) (n : Fin 512) : iblk m c 2 t (ix2 r n) = Y m c ⟨16384 * 1 + (row t r).val, by omega⟩ n := by
  blk_ext [iblk, V, idx_in t, row, Y]
theorem iblk3_at (r : Fin 512) (n : Fin 512) : iblk m c 3 t (ix2 r n) = Y m c ⟨16384 * 2 + (row t r).val, by omega⟩ n := by
  blk_ext [iblk, V, idx_in t, row, Y]
theorem iblk4_at (r : Fin 512) (n : Fin 512) : iblk m c 4 t (ix2 r n) = Y m c ⟨16384 * 3 + (row t r).val, by omega⟩ n := by
  blk_ext [iblk, V, idx_in t, row, Y]
theorem iblk5_at (r : Fin 512) (n : Fin 512) : iblk m c 5 t (ix2 r n) = Y m c ⟨16384 * 4 + (row t r).val, by omega⟩ n := by
  blk_ext [iblk, V, idx_in t, row, Y]
theorem iblk6_at (r : Fin 512) (n : Fin 512) : iblk m c 6 t (ix2 r n) = Y m c ⟨16384 * 5 + (row t r).val, by omega⟩ n := by
  blk_ext [iblk, V, idx_in t, row, Y]
theorem iblk7_at (r : Fin 512) (n : Fin 512) : iblk m c 7 t (ix2 r n) = Y m c ⟨16384 * 6 + (row t r).val, by omega⟩ n := by
  blk_ext [iblk, V, idx_in t, row, Y]
theorem iblk8_at (r : Fin 512) (n : Fin 512) : iblk m c 8 t (ix2 r n) = Y m c ⟨16384 * 7 + (row t r).val, by omega⟩ n := by
  blk_ext [iblk, V, idx_in t, row, Y]
theorem iblk9_at (k : Fin 8) (r : Fin 512) : iblk m c 9 t (ix2 k r) = W m c k (row t r) := by
  blk_ext [iblk, V, idx_in t, row, W]
theorem iblk10_at (j k : Fin 8) : @Eq EReal (iblk m c 10 t (ix2 j k)) (if j = k then (1 : EReal) else 0) := by
  have : iblk m c 10 t (ix2 j k) = V m c main_v14 (ix2 j k) := by
    blk_ext [iblk, V, idx_in t]
  rw [this]
  entry_read
  pointwise
  have key : ∀ j k : Fin 8, IntOp.cmpi CmpIPredicate.eq (IntOp.addi (BitVec.ofNat 32 j.val) 0#32) (BitVec.ofNat 32 k.val) = if j = k then 1#1 else 0#1 := by
    decide
  rw [key]
  split
  · show (((1#1).toNat : ℝ) : EReal) = 1
    norm_num
  · show (((0#1).toNat : ℝ) : EReal) = 0
    norm_num
theorem iblk11_at (k : Fin 1024) (f : Fin 256) : iblk m c 11 t (ix2 k f) = SG m c 1 k f := by
  have : iblk m c 11 t (ix2 k f) = V m c main_v2 (ix2 k f) := by
    blk_ext [iblk, V, idx_in t]
  rw [this]
  entry_read
  pointwise [SG]
theorem iblk12_at (k : Fin 1024) (f : Fin 256) : iblk m c 12 t (ix2 k f) = SU m c 1 k f := by
  have : iblk m c 12 t (ix2 k f) = V m c main_v5 (ix2 k f) := by
    blk_ext [iblk, V, idx_in t]
  rw [this]
  entry_read
  pointwise [SU]
theorem iblk13_at (f : Fin 256) (n : Fin 1024) : iblk m c 13 t (ix2 f n) = SD m c 1 f n := by
  have : iblk m c 13 t (ix2 f n) = V m c main_v8 (ix2 f n) := by
    blk_ext [iblk, V, idx_in t]
  rw [this]
  entry_read
  pointwise [SD]
theorem iblk14_at (r : Fin 512) (n : Fin 1024) : iblk m c 14 t (ix2 r n) = X m c (row t r) n := by
  blk_ext [iblk, V, idx_in t, row, X]
theorem iblk15_at (n : Fin 1024) : iblk m c 15 t (ix4 0 0 0 n) = M m c 1 (seqM t) ⟨5120 + n.val, by omega⟩ := by
  blk_ext [iblk, V, idx_in t, seqM, M]

theorem arr_at (hW : ∀ k i, W m c k i ≠ (⊤ : EReal)) (r : Fin 512) (n : Fin 1024) :
    (dats m 0 c).arrAt 16 cfg0.N (ix2 (rowO t r) n) = layer (H m c) (Y m c) (W m c) (SG m c) (SU m c) (SD m c) (X m c) (M m c) (row t r) (seqM t) n := by
  have e := congrFun (Value.blocks16 m c t (flush0_16 t)) (ix2 r n)
  rw [Value.flushed16] at e
  refine (Eq.trans ?_ e).trans ?_
  · blk_ext [idx_out t, rowO]
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk10_at m c t) r n (fun k => by rw [iblk9_at m c t k r]; exact hW k (row t r))).trans ?_
  unfold layer
  simp only [iblk0_at, iblk9_at, iblk11_at, iblk12_at, iblk13_at, iblk14_at, iblk15_at]
  have hy : (fun k n => (![iblk m c 1 t, iblk m c 2 t, iblk m c 3 t, iblk m c 4 t, iblk m c 5 t, iblk m c 6 t, iblk m c 7 t, iblk m c 8 t] k) (ix2 r n)) = fun k : Fin 8 => Y m c ⟨16384 * k.val + (row t r).val, by omega⟩ := by
    funext k n
    fin_cases k
    · exact iblk1_at m c t r n
    · exact iblk2_at m c t r n
    · exact iblk3_at m c t r n
    · exact iblk4_at m c t r n
    · exact iblk5_at m c t r n
    · exact iblk6_at m c t r n
    · exact iblk7_at m c t r n
    · exact iblk8_at m c t r n
  exact congrArg (fun y => rowS (H m c (row t r)) (SG m c 1) (SU m c 1) (SD m c 1) (fun k => W m c k (row t r)) y (X m c (row t r) n)
    (M m c 1 (seqM t) ⟨5120 + n.val, by omega⟩) n) hy
end

end Cert.PromptIdeal.Rows

end
-- ==== Proof.PromptRef.lean ====
module

public import proofs.«01_k».proof.Proof.RowsSpec
public import proofs.«01_k».proof.Proof.Gen.PromptReferenceIdeal.Run
public import Idealize.ShloMosaic.Lib.Pointwise

/-! The reference's result of prompt at an index. -/

@[expose] public section

set_option maxRecDepth 16384

noncomputable section

namespace Cert.PromptReferenceIdeal.Rows

open Cert.PromptReferenceIdeal Cert.PromptReferenceIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

section
variable {F : FTy → Type} [FloatOps F]
/-- The experts' rows, unpacked. -/
def unp (a1 : IVec S131072x512 32) : FVec F S131072x1024 .f32 := (concatenate S131072x1024 1 [⟨S131072x512, (bitcastToFloat (F := F) .f32 (Host.shli a1 (broadcastInDim S131072x512 ![] bcast_S_S131072x512 (constantI S_ 32 16#32))))⟩, ⟨S131072x512, (bitcastToFloat (F := F) .f32 (andi a1 (broadcastInDim S131072x512 ![] bcast_S_S131072x512 (constantI S_ 32 4294901760#32))))⟩] concatenates_S131072x512_S131072x512_S131072x1024_d1)
/-- The same, slot by slot. -/
def rows8 (a1 : IVec S131072x512 32) : FVec F S8x16384x1024 .f32 := (shapeCast _ (unp a1) shapeCasts_S131072x1024_S8x16384x1024)
/-- Their sum over the slots, each times its gate. -/
def routed (a1 : IVec S131072x512 32) (a2 : FVec F S8x16384 .f32) : FVec F S8192x1024 .f32 := (Host.reduceAdd (mulf (broadcastInDim S8x8192x1024 ![0, 1, 2] bcast_S8x8192x1_S8x8192x1024_0_1_2 (broadcastInDim S8x8192x1 ![0, 1] bcast_S8x8192_S8x8192x1_0_1 (extractStridedSlice S8x8192 ![0, 0] a2 slices_S8x16384_S8x8192_0_0))) (extractStridedSlice S8x8192x1024 ![0, 0, 0] (rows8 a1) slices_S8x16384x1024_S8x8192x1024_0_0_0)) (constant S_ .f32 0x00000000#32) reducesTo_S8x8192x1024_S8192x1024_d0 h_S_)
/-- A projection of the rows. -/
def proj (a0 : FVec F S16384x1024 .bf16) (a : FVec F S2x1024x256 .f32) : FVec F S8192x256 .f32 := (Host.dotGeneral dot_S8192x1024_S1024x256_S8192x256_1_0_0_1_n_n none (extf .f32 (extractStridedSlice S8192x1024 ![0, 0] a0 slices_S16384x1024_S8192x1024_0_0) bitsLt_bf16_f32) (shapeCast _ (extractStridedSlice S1x1024x256 ![1, 0, 0] a slices_S2x1024x256_S1x1024x256_1_0_0) shapeCasts_S1x1024x256_S1024x256))
/-- The shared expert's hidden units. -/
def hid (a0 : FVec F S16384x1024 .bf16) (a3 a4 : FVec F S2x1024x256 .f32) : FVec F S8192x256 .f32 := (mulf (mulf (proj a0 a3) (Host.divf (broadcastInDim S8192x256 ![] bcast_S_S8192x256 (constant S_ .f32 0x3F800000#32)) (addf (broadcastInDim S8192x256 ![] bcast_S_S8192x256 (constant S_ .f32 0x3F800000#32)) (Host.exp (Host.negf (proj a0 a3)))))) (proj a0 a4))
/-- The shared expert. -/
def shared (a0 : FVec F S16384x1024 .bf16) (a3 a4 : FVec F S2x1024x256 .f32) (a5 : FVec F S2x256x1024 .f32) : FVec F S8192x1024 .f32 :=
  (Host.dotGeneral dot_S8192x256_S256x1024_S8192x1024_1_0_0_1_n_n none (hid a0 a3 a4) (shapeCast _ (extractStridedSlice S1x256x1024 ![1, 0, 0] a5 slices_S2x256x1024_S1x256x1024_1_0_0) shapeCasts_S1x256x1024_S256x1024))
/-- The result array. -/
def res (a0 : FVec F S16384x1024 .bf16) (a1 : IVec S131072x512 32) (a2 : FVec F S8x16384 .f32)
    (a3 a4 : FVec F S2x1024x256 .f32) (a5 : FVec F S2x256x1024 .f32) (a6 : FVec F S16384x1024 .f32) (a7 : FVec F S2x8x1x6144 .f32) :
    FVec F S8192x1024 .f32 :=
  addf (extractStridedSlice S8192x1024 ![0, 0] a6 slices_S16384x1024_S8192x1024_0_0) (mulf (broadcastInDim S8192x1024 ![0, 1] bcast_S1x1024_S8192x1024_0_1 (shapeCast _ (extractStridedSlice S1x1x1x1024 ![1, 0, 0, 5120] a7 slices_S2x8x1x6144_S1x1x1x1024_1_0_0_5120) shapeCasts_S1x1x1x1024_S1x1024)) (addf (routed a1 a2) (shared a0 a3 a4 a5)))
end

theorem unp_at (a1 : IVec S131072x512 32) (i : Fin 131072) (n : Fin 1024) : unp (F := Ideal) a1 (ix2 i n) = unpack (fun n => a1 (ix2 i n)) n := by
  pointwise [unp]
  unfold unpack
  rfl

theorem rows8_at (a1 : IVec S131072x512 32) (k : Fin 8) (i : Fin 16384) (n : Fin 1024) :
    rows8 (F := Ideal) a1 (ix3 k i n) = unpack (fun n => a1 (ix2 ⟨16384 * k.val + i.val, by omega⟩ n)) n := by
  rw [← unp_at]
  unfold rows8
  generalize unp (F := Ideal) a1 = u
  refine shapeCast_apply _ _ _ _ ?_
  rw [Shape.rowMajor_val_two, Shape.rowMajor_val_three]
  show (16384 * k.val + i.val) * 1024 + n.val = (k.val * 16384 + i.val) * 1024 + n.val
  omega

theorem term_at (u : FVec Ideal S8x16384x1024 .f32) (a2 : FVec Ideal S8x16384 .f32) (k : Fin 8) (i : Fin 8192) (n : Fin 1024) :
    ((mulf (broadcastInDim S8x8192x1024 ![0, 1, 2] bcast_S8x8192x1_S8x8192x1024_0_1_2 (broadcastInDim S8x8192x1 ![0, 1] bcast_S8x8192_S8x8192x1_0_1 (extractStridedSlice S8x8192 ![0, 0] a2 slices_S8x16384_S8x8192_0_0))) (extractStridedSlice S8x8192x1024 ![0, 0, 0] u slices_S8x16384x1024_S8x8192x1024_0_0_0)) : FVec Ideal S8x8192x1024 .f32) (ix3 k i n) = a2 (ix2 k ⟨i.val, by omega⟩) * u (ix3 k ⟨i.val, by omega⟩ n) := by
  pointwise []

theorem drops : (⟨3, ![8, 8192, 1024]⟩ : Shape).Reduces [0] ⟨2, ![8192, 1024]⟩ := by decide

theorem sum_slots (v : FVec Ideal S8x8192x1024 .f32) (x : FVec Ideal S_ .f32) (hx : x (Shape.Idx.first h_S_) = (0 : EReal)) (i : Fin 8192) (n : Fin 1024) :
    @Eq EReal (Host.reduceAdd v x reducesTo_S8x8192x1024_S8192x1024_d0 h_S_ (ix2 i n)) (∑ k : Fin 8, v (ix3 k i n)) := by
  rw [ValueIdx.hostReduceAdd_apply, hx, Idealize.ShloMosaic.Ideal.hostReduceAdd_single _ drops, zero_add]
  refine Finset.sum_congr rfl fun k _ => congrArg v ?_
  funext a
  fin_cases a <;> rfl

theorem routed_at (a1 : IVec S131072x512 32) (a2 : FVec Ideal S8x16384 .f32) (i : Fin 8192) (n : Fin 1024) :
    routed (F := Ideal) a1 a2 (ix2 i n) = ∑ k : Fin 8, a2 (ix2 k ⟨i.val, by omega⟩) * unpack (fun n => a1 (ix2 ⟨16384 * k.val + (⟨i.val, by omega⟩ : Fin 16384).val, by omega⟩ n)) n := by
  unfold routed
  have h := rows8_at a1
  generalize rows8 (F := Ideal) a1 = u at h ⊢
  have ht := term_at u a2
  refine (sum_slots _ _ Idealize.ShloMosaic.Ideal.ofBits_zero_f32 i n).trans ?_
  refine Finset.sum_congr rfl fun k _ => ?_
  rw [ht, h]

theorem proj_at (a0 : FVec Ideal S16384x1024 .bf16) (a : FVec Ideal S2x1024x256 .f32) (i : Fin 8192) (f : Fin 256) :
    proj (F := Ideal) a0 a (ix2 i f) = ∑ k : Fin 1024, a0 (ix2 ⟨i.val, by omega⟩ k) * a (ix3 1 k f) := by
  pointwise [proj]

theorem hid_at (a0 : FVec Ideal S16384x1024 .bf16) (a3 a4 : FVec Ideal S2x1024x256 .f32) (i : Fin 8192) (f : Fin 256) :
    hid (F := Ideal) a0 a3 a4 (ix2 i f) = hidden (fun k => a0 (ix2 ⟨i.val, by omega⟩ k)) (fun k f => a3 (ix3 1 k f)) (fun k f => a4 (ix3 1 k f)) f := by
  unfold hid
  have h := proj_at a0 a3 i f
  have h' := proj_at a0 a4 i f
  generalize proj (F := Ideal) a0 a3 = p at h ⊢
  generalize proj (F := Ideal) a0 a4 = p' at h' ⊢
  pointwise []
  rw [h, h', ← zero_sub]
  rfl

theorem shared_at (a0 : FVec Ideal S16384x1024 .bf16) (a3 a4 : FVec Ideal S2x1024x256 .f32) (a5 : FVec Ideal S2x256x1024 .f32) (i : Fin 8192) (n : Fin 1024) :
    shared (F := Ideal) a0 a3 a4 a5 (ix2 i n) = glu (fun k => a0 (ix2 ⟨i.val, by omega⟩ k)) (fun k f => a3 (ix3 1 k f)) (fun k f => a4 (ix3 1 k f)) (fun f n => a5 (ix3 1 f n)) n := by
  unfold shared
  have h := hid_at a0 a3 a4 i
  generalize hid (F := Ideal) a0 a3 a4 = p at h ⊢
  pointwise []
  simp only [h]
  rfl

variable (m : (ℓ : Loc nD τ sig) → Buf (Elt Ideal) ℓ) (c : Dev nD)

theorem res_at (i : Fin 8192) (n : Fin 1024) : res (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (ix2 i n)
      = layer (H m c) (Y m c) (W m c) (SG m c) (SU m c) (SD m c) (X m c) (M m c) ⟨i.val, by omega⟩ 0 n := by
  unfold res
  have h := routed_at (m ((c.tc : Thread nD τ).loc main_arg1)) (m ((c.tc : Thread nD τ).loc main_arg2))
  have h' := shared_at (m ((c.tc : Thread nD τ).loc main_arg0)) (m ((c.tc : Thread nD τ).loc main_arg3)) (m ((c.tc : Thread nD τ).loc main_arg4)) (m ((c.tc : Thread nD τ).loc main_arg5))
  generalize routed (F := Ideal) (m ((c.tc : Thread nD τ).loc main_arg1)) (m ((c.tc : Thread nD τ).loc main_arg2)) = p at h ⊢
  generalize shared (F := Ideal) (m ((c.tc : Thread nD τ).loc main_arg0)) (m ((c.tc : Thread nD τ).loc main_arg3)) (m ((c.tc : Thread nD τ).loc main_arg4)) (m ((c.tc : Thread nD τ).loc main_arg5)) = p' at h' ⊢
  pointwise []
  rw [h, h']
  rfl

end Cert.PromptReferenceIdeal.Rows

end
-- ==== Proof.PromptAlg.lean ====
module

public import proofs.«01_k».proof.Proof.PromptFinal
public import proofs.«01_k».proof.Proof.PromptRef
public import proofs.«01_k».proof.Proof.Gen.Pre_gates_bounded

/-! The kernel's and the reference's results of prompt are one array. -/

@[expose] public section

set_option maxRecDepth 16384

noncomputable section

namespace Cert.PromptAlg

open Idealize.ShloMosaic Idealize.ShloMosaic.TcCoe Idealize.SL.Sem
open Cert.Rows

/-- The precondition, gate by gate. -/
theorem gates (a0 : FVec Ideal Cert.Pre_gates_bounded.S16384x1024 .bf16) (a1 : IVec Cert.Pre_gates_bounded.S131072x512 32) (a2 : FVec Ideal Cert.Pre_gates_bounded.S8x16384 .f32)
    (a3 a4 : FVec Ideal Cert.Pre_gates_bounded.S2x1024x256 .f32) (a5 : FVec Ideal Cert.Pre_gates_bounded.S2x256x1024 .f32) (a6 : FVec Ideal Cert.Pre_gates_bounded.S16384x1024 .f32) (a7 : FVec Ideal Cert.Pre_gates_bounded.S2x8x1x6144 .f32)
    (h : @Cert.Pre_gates_bounded.fn Cert.Pre_gates_bounded.Gen.facts Ideal _ a0 a1 a2 a3 a4 a5 a6 a7 = fun _ => 1#1) (k : Fin 8) (i : Fin 16384) :
    a2 (ix2 k i) ≠ (⊤ : EReal) := by
  have e := congrFun h (ix2 k i)
  pointwise [Cert.Pre_gates_bounded.fn] at e
  intro ht
  rw [ht, show Ideal.ofBits FTy.f32 2139095040#32 = (⊤ : EReal) by simp [Ideal.ofBits, Ideal.ieee]] at e
  simp at e

variable (m : (ℓ : Loc Cert.PromptIdeal.nD Cert.PromptIdeal.τ Cert.PromptIdeal.sig) → Buf (Elt Ideal) ℓ)
  (m' : (ℓ : Loc Cert.PromptReferenceIdeal.nD Cert.PromptReferenceIdeal.τ Cert.PromptReferenceIdeal.sig) → Buf (Elt Ideal) ℓ) (c : Dev Cert.PromptIdeal.nD)

open Cert.PromptIdeal.Rows in
theorem kernel_at (hW : ∀ k i, W m c k i ≠ (⊤ : EReal)) (i : Fin 8192) (n : Fin 1024) :
    (Cert.PromptIdeal.Gen.dats m 0 c).arrAt 16 Cert.PromptIdeal.cfg0.N (ix2 i n) = layer (H m c) (Y m c) (W m c) (SG m c) (SU m c) (SD m c) (X m c) (M m c) ⟨i.val, by omega⟩ 0 n := by
  let t : Fin Cert.PromptIdeal.cfg0.N := ⟨i.val / 512, by show i.val / 512 < 16; omega⟩
  let r : Fin 512 := ⟨i.val % 512, by omega⟩
  have ei : i = rowO t r := Fin.ext (by show i.val = 512 * (i.val / 512) + i.val % 512; omega)
  have er : row t r = ⟨i.val, by omega⟩ := Fin.ext (by show 0 + 512 * (i.val / 512) + i.val % 512 = i.val; omega)
  have es : seqM t = 0 := Fin.ext (by rfl)
  have := arr_at m c t hW r n
  rw [er, es, ← ei] at this
  exact this

theorem eq (hW : ∀ k i, Cert.PromptIdeal.Rows.W m c k i ≠ (⊤ : EReal))
    (h0 : m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)) (h1 : m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)) (h2 : m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)) (h3 : m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)) (h4 : m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)) (h5 : m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)) (h6 : m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)) (h7 : m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)) :
    (Cert.PromptReferenceIdeal.Rows.res (F := Ideal) (m' ((c.tc : Thread Cert.PromptReferenceIdeal.nD Cert.PromptReferenceIdeal.τ).loc Cert.PromptReferenceIdeal.main_arg0)) (m' ((c.tc : Thread Cert.PromptReferenceIdeal.nD Cert.PromptReferenceIdeal.τ).loc Cert.PromptReferenceIdeal.main_arg1)) (m' ((c.tc : Thread Cert.PromptReferenceIdeal.nD Cert.PromptReferenceIdeal.τ).loc Cert.PromptReferenceIdeal.main_arg2)) (m' ((c.tc : Thread Cert.PromptReferenceIdeal.nD Cert.PromptReferenceIdeal.τ).loc Cert.PromptReferenceIdeal.main_arg3)) (m' ((c.tc : Thread Cert.PromptReferenceIdeal.nD Cert.PromptReferenceIdeal.τ).loc Cert.PromptReferenceIdeal.main_arg4)) (m' ((c.tc : Thread Cert.PromptReferenceIdeal.nD Cert.PromptReferenceIdeal.τ).loc Cert.PromptReferenceIdeal.main_arg5)) (m' ((c.tc : Thread Cert.PromptReferenceIdeal.nD Cert.PromptReferenceIdeal.τ).loc Cert.PromptReferenceIdeal.main_arg6)) (m' ((c.tc : Thread Cert.PromptReferenceIdeal.nD Cert.PromptReferenceIdeal.τ).loc Cert.PromptReferenceIdeal.main_arg7)) : (⟨2, ![8192, 1024]⟩ : Shape).Idx → EReal)
      = (Cert.PromptIdeal.Gen.dats m 0 c).arrAt 16 Cert.PromptIdeal.cfg0.N := by
  funext x
  obtain ⟨i, n, rfl⟩ : ∃ i n, x = ix2 i n := ⟨x 0, x 1, eq_ix2 x⟩
  refine (Cert.PromptReferenceIdeal.Rows.res_at m' c i n).trans (Eq.trans ?_ (kernel_at m c hW i n).symm)
  unfold Cert.PromptReferenceIdeal.Rows.H Cert.PromptReferenceIdeal.Rows.Y Cert.PromptReferenceIdeal.Rows.W Cert.PromptReferenceIdeal.Rows.SG Cert.PromptReferenceIdeal.Rows.SU Cert.PromptReferenceIdeal.Rows.SD Cert.PromptReferenceIdeal.Rows.X Cert.PromptReferenceIdeal.Rows.M
  rw [h0, h1, h2, h3, h4, h5, h6, h7]
  rfl

end Cert.PromptAlg

end
-- ==== Proof.SampleFinal.lean ====
module

public import proofs.«01_k».proof.Proof.PromptOut
public import proofs.«01_k».proof.Proof.Gen.SampleIdeal.Value

/-! The result array of sample at an index. -/

@[expose] public section

set_option maxRecDepth 16384

noncomputable section

namespace Cert.SampleIdeal.Rows

open Cert.SampleIdeal Cert.SampleIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

variable (m : (ℓ : Loc nD τ sig) → Buf (Elt Ideal) ℓ)

theorem idx_in : ∀ t : Fin cfg0.N, win0_0.index t = ![16 + t.val, 0] ∧ win0_1.index t = ![16 + t.val, 0] ∧ win0_2.index t = ![48 + t.val, 0] ∧ win0_3.index t = ![80 + t.val, 0] ∧ win0_4.index t = ![112 + t.val, 0] ∧ win0_5.index t = ![144 + t.val, 0] ∧ win0_6.index t = ![176 + t.val, 0] ∧ win0_7.index t = ![208 + t.val, 0] ∧ win0_8.index t = ![240 + t.val, 0]
   ∧ win0_9.index t = ![0, 16 + t.val] ∧ win0_10.index t = ![0, 0] ∧ win0_11.index t = ![0, 0] ∧ win0_12.index t = ![0, 0]
   ∧ win0_13.index t = ![0, 0] ∧ win0_14.index t = ![16 + t.val, 0] ∧ win0_15.index t = ![1, 1 + t.val / 4, 0, 5] :=
  (by decide +kernel : ∀ t : Fin grid0.N, _)
theorem idx_out : ∀ t : Fin cfg0.N, win0_16.index t = ![t.val, 0] :=
  (by decide +kernel : ∀ t : Fin grid0.N, _)
theorem lt16 (t : Fin cfg0.N) : t.val < 16 := t.isLt
/-- The row of the arrays a grid point's row is. -/
def row (t : Fin cfg0.N) (r : Fin 512) : Fin 16384 := ⟨8192 + 512 * t.val + r.val, by have := lt16 t; omega⟩
/-- The row of the result a grid point's row is. -/
def rowO (t : Fin cfg0.N) (r : Fin 512) : Fin 8192 := ⟨512 * t.val + r.val, by have := lt16 t; omega⟩
/-- The row of the modulation a grid point takes. -/
def seqM (t : Fin cfg0.N) : Fin 8 := ⟨1 + t.val / 4, by have := lt16 t; omega⟩

section
variable (c : Dev nD) (t : Fin cfg0.N)

theorem iblk0_at (r : Fin 512) (n : Fin 1024) : iblk m c 0 t (ix2 r n) = H m c (row t r) n := by
  blk_ext [iblk, V, idx_in t, row, H]
theorem iblk1_at (r : Fin 512) (n : Fin 512) : iblk m c 1 t (ix2 r n) = Y m c ⟨16384 * 0 + (row t r).val, by omega⟩ n := by
  blk_ext [iblk, V, idx_in t, row, Y]
theorem iblk2_at (r : Fin 512) (n : Fin 512) : iblk m c 2 t (ix2 r n) = Y m c ⟨16384 * 1 + (row t r).val, by omega⟩ n := by
  blk_ext [iblk, V, idx_in t, row, Y]
theorem iblk3_at (r : Fin 512) (n : Fin 512) : iblk m c 3 t (ix2 r n) = Y m c ⟨16384 * 2 + (row t r).val, by omega⟩ n := by
  blk_ext [iblk, V, idx_in t, row, Y]
theorem iblk4_at (r : Fin 512) (n : Fin 512) : iblk m c 4 t (ix2 r n) = Y m c ⟨16384 * 3 + (row t r).val, by omega⟩ n := by
  blk_ext [iblk, V, idx_in t, row, Y]
theorem iblk5_at (r : Fin 512) (n : Fin 512) : iblk m c 5 t (ix2 r n) = Y m c ⟨16384 * 4 + (row t r).val, by omega⟩ n := by
  blk_ext [iblk, V, idx_in t, row, Y]
theorem iblk6_at (r : Fin 512) (n : Fin 512) : iblk m c 6 t (ix2 r n) = Y m c ⟨16384 * 5 + (row t r).val, by omega⟩ n := by
  blk_ext [iblk, V, idx_in t, row, Y]
theorem iblk7_at (r : Fin 512) (n : Fin 512) : iblk m c 7 t (ix2 r n) = Y m c ⟨16384 * 6 + (row t r).val, by omega⟩ n := by
  blk_ext [iblk, V, idx_in t, row, Y]
theorem iblk8_at (r : Fin 512) (n : Fin 512) : iblk m c 8 t (ix2 r n) = Y m c ⟨16384 * 7 + (row t r).val, by omega⟩ n := by
  blk_ext [iblk, V, idx_in t, row, Y]
theorem iblk9_at (k : Fin 8) (r : Fin 512) : iblk m c 9 t (ix2 k r) = W m c k (row t r) := by
  blk_ext [iblk, V, idx_in t, row, W]
theorem iblk10_at (j k : Fin 8) : @Eq EReal (iblk m c 10 t (ix2 j k)) (if j = k then (1 : EReal) else 0) := by
  have : iblk m c 10 t (ix2 j k) = V m c main_v14 (ix2 j k) := by
    blk_ext [iblk, V, idx_in t]
  rw [this]
  entry_read
  pointwise
  have key : ∀ j k : Fin 8, IntOp.cmpi CmpIPredicate.eq (IntOp.addi (BitVec.ofNat 32 j.val) 0#32) (BitVec.ofNat 32 k.val) = if j = k then 1#1 else 0#1 := by
    decide
  rw [key]
  split
  · show (((1#1).toNat : ℝ) : EReal) = 1
    norm_num
  · show (((0#1).toNat : ℝ) : EReal) = 0
    norm_num
theorem iblk11_at (k : Fin 1024) (f : Fin 256) : iblk m c 11 t (ix2 k f) = SG m c 1 k f := by
  have : iblk m c 11 t (ix2 k f) = V m c main_v2 (ix2 k f) := by
    blk_ext [iblk, V, idx_in t]
  rw [this]
  entry_read
  pointwise [SG]
theorem iblk12_at (k : Fin 1024) (f : Fin 256) : iblk m c 12 t (ix2 k f) = SU m c 1 k f := by
  have : iblk m c 12 t (ix2 k f) = V m c main_v5 (ix2 k f) := by
    blk_ext [iblk, V, idx_in t]
  rw [this]
  entry_read
  pointwise [SU]
theorem iblk13_at (f : Fin 256) (n : Fin 1024) : iblk m c 13 t (ix2 f n) = SD m c 1 f n := by
  have : iblk m c 13 t (ix2 f n) = V m c main_v8 (ix2 f n) := by
    blk_ext [iblk, V, idx_in t]
  rw [this]
  entry_read
  pointwise [SD]
theorem iblk14_at (r : Fin 512) (n : Fin 1024) : iblk m c 14 t (ix2 r n) = X m c (row t r) n := by
  blk_ext [iblk, V, idx_in t, row, X]
theorem iblk15_at (n : Fin 1024) : iblk m c 15 t (ix4 0 0 0 n) = M m c 1 (seqM t) ⟨5120 + n.val, by omega⟩ := by
  blk_ext [iblk, V, idx_in t, seqM, M]

theorem arr_at (hW : ∀ k i, W m c k i ≠ (⊤ : EReal)) (r : Fin 512) (n : Fin 1024) :
    (dats m 0 c).arrAt 16 cfg0.N (ix2 (rowO t r) n) = layer (H m c) (Y m c) (W m c) (SG m c) (SU m c) (SD m c) (X m c) (M m c) (row t r) (seqM t) n := by
  have e := congrFun (Value.blocks16 m c t (flush0_16 t)) (ix2 r n)
  rw [Value.flushed16] at e
  have e2 : @out0_16 Ideal _ = @Cert.PromptIdeal.Gen.out0_16 Ideal _ := rfl
  rw [e2] at e
  refine (Eq.trans ?_ e).trans ?_
  · blk_ext [idx_out t, rowO]
  refine (Cert.PromptIdeal.Rows.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk10_at m c t) r n (fun k => by rw [iblk9_at m c t k r]; exact hW k (row t r))).trans ?_
  unfold layer
  simp only [iblk0_at, iblk9_at, iblk11_at, iblk12_at, iblk13_at, iblk14_at, iblk15_at]
  have hy : (fun k n => (![iblk m c 1 t, iblk m c 2 t, iblk m c 3 t, iblk m c 4 t, iblk m c 5 t, iblk m c 6 t, iblk m c 7 t, iblk m c 8 t] k) (ix2 r n)) = fun k : Fin 8 => Y m c ⟨16384 * k.val + (row t r).val, by omega⟩ := by
    funext k n
    fin_cases k
    · exact iblk1_at m c t r n
    · exact iblk2_at m c t r n
    · exact iblk3_at m c t r n
    · exact iblk4_at m c t r n
    · exact iblk5_at m c t r n
    · exact iblk6_at m c t r n
    · exact iblk7_at m c t r n
    · exact iblk8_at m c t r n
  exact congrArg (fun y => rowS (H m c (row t r)) (SG m c 1) (SU m c 1) (SD m c 1) (fun k => W m c k (row t r)) y (X m c (row t r) n)
    (M m c 1 (seqM t) ⟨5120 + n.val, by omega⟩) n) hy
end

end Cert.SampleIdeal.Rows

end
-- ==== Proof.SampleRef.lean ====
module

public import proofs.«01_k».proof.Proof.RowsSpec
public import proofs.«01_k».proof.Proof.Gen.SampleReferenceIdeal.Run
public import Idealize.ShloMosaic.Lib.Pointwise

/-! The reference's result of sample at an index. -/

@[expose] public section

set_option maxRecDepth 16384

noncomputable section

namespace Cert.SampleReferenceIdeal.Rows

open Cert.SampleReferenceIdeal Cert.SampleReferenceIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

section
variable {F : FTy → Type} [FloatOps F]
/-- The experts' rows, unpacked. -/
def unp (a1 : IVec S131072x512 32) : FVec F S131072x1024 .f32 := (concatenate S131072x1024 1 [⟨S131072x512, (bitcastToFloat (F := F) .f32 (Host.shli a1 (broadcastInDim S131072x512 ![] bcast_S_S131072x512 (constantI S_ 32 16#32))))⟩, ⟨S131072x512, (bitcastToFloat (F := F) .f32 (andi a1 (broadcastInDim S131072x512 ![] bcast_S_S131072x512 (constantI S_ 32 4294901760#32))))⟩] concatenates_S131072x512_S131072x512_S131072x1024_d1)
/-- The same, slot by slot. -/
def rows8 (a1 : IVec S131072x512 32) : FVec F S8x16384x1024 .f32 := (shapeCast _ (unp a1) shapeCasts_S131072x1024_S8x16384x1024)
/-- Their sum over the slots, each times its gate. -/
def routed (a1 : IVec S131072x512 32) (a2 : FVec F S8x16384 .f32) : FVec F S8192x1024 .f32 := (Host.reduceAdd (mulf (broadcastInDim S8x8192x1024 ![0, 1, 2] bcast_S8x8192x1_S8x8192x1024_0_1_2 (broadcastInDim S8x8192x1 ![0, 1] bcast_S8x8192_S8x8192x1_0_1 (extractStridedSlice S8x8192 ![0, 8192] a2 slices_S8x16384_S8x8192_0_8192))) (extractStridedSlice S8x8192x1024 ![0, 8192, 0] (rows8 a1) slices_S8x16384x1024_S8x8192x1024_0_8192_0)) (constant S_ .f32 0x00000000#32) reducesTo_S8x8192x1024_S8192x1024_d0 h_S_)
/-- A projection of the rows. -/
def proj (a0 : FVec F S16384x1024 .bf16) (a : FVec F S2x1024x256 .f32) : FVec F S8192x256 .f32 := (Host.dotGeneral dot_S8192x1024_S1024x256_S8192x256_1_0_0_1_n_n none (extf .f32 (extractStridedSlice S8192x1024 ![8192, 0] a0 slices_S16384x1024_S8192x1024_8192_0) bitsLt_bf16_f32) (shapeCast _ (extractStridedSlice S1x1024x256 ![1, 0, 0] a slices_S2x1024x256_S1x1024x256_1_0_0) shapeCasts_S1x1024x256_S1024x256))
/-- The shared expert's hidden units. -/
def hid (a0 : FVec F S16384x1024 .bf16) (a3 a4 : FVec F S2x1024x256 .f32) : FVec F S8192x256 .f32 := (mulf (mulf (proj a0 a3) (Host.divf (broadcastInDim S8192x256 ![] bcast_S_S8192x256 (constant S_ .f32 0x3F800000#32)) (addf (broadcastInDim S8192x256 ![] bcast_S_S8192x256 (constant S_ .f32 0x3F800000#32)) (Host.exp (Host.negf (proj a0 a3)))))) (proj a0 a4))
/-- The shared expert. -/
def shared (a0 : FVec F S16384x1024 .bf16) (a3 a4 : FVec F S2x1024x256 .f32) (a5 : FVec F S2x256x1024 .f32) : FVec F S8192x1024 .f32 :=
  (Host.dotGeneral dot_S8192x256_S256x1024_S8192x1024_1_0_0_1_n_n none (hid a0 a3 a4) (shapeCast _ (extractStridedSlice S1x256x1024 ![1, 0, 0] a5 slices_S2x256x1024_S1x256x1024_1_0_0) shapeCasts_S1x256x1024_S256x1024))
/-- The result array. -/
def res (a0 : FVec F S16384x1024 .bf16) (a1 : IVec S131072x512 32) (a2 : FVec F S8x16384 .f32)
    (a3 a4 : FVec F S2x1024x256 .f32) (a5 : FVec F S2x256x1024 .f32) (a6 : FVec F S16384x1024 .f32) (a7 : FVec F S2x8x1x6144 .f32) :
    FVec F S8192x1024 .f32 :=
  shapeCast _ (addf (shapeCast _ (extractStridedSlice S8192x1024 ![8192, 0] a6 slices_S16384x1024_S8192x1024_8192_0) shapeCasts_S8192x1024_S4x2048x1024) (mulf (broadcastInDim S4x2048x1024 ![0, 1, 2] bcast_S4x1x1024_S4x2048x1024_0_1_2 (shapeCast _ (extractStridedSlice S1x4x1x1024 ![1, 1, 0, 5120] a7 slices_S2x8x1x6144_S1x4x1x1024_1_1_0_5120) shapeCasts_S1x4x1x1024_S4x1x1024)) (shapeCast _ (addf (routed a1 a2) (shared a0 a3 a4 a5)) shapeCasts_S8192x1024_S4x2048x1024))) shapeCasts_S4x2048x1024_S8192x1024
end

theorem unp_at (a1 : IVec S131072x512 32) (i : Fin 131072) (n : Fin 1024) : unp (F := Ideal) a1 (ix2 i n) = unpack (fun n => a1 (ix2 i n)) n := by
  pointwise [unp]
  unfold unpack
  rfl

theorem rows8_at (a1 : IVec S131072x512 32) (k : Fin 8) (i : Fin 16384) (n : Fin 1024) :
    rows8 (F := Ideal) a1 (ix3 k i n) = unpack (fun n => a1 (ix2 ⟨16384 * k.val + i.val, by omega⟩ n)) n := by
  rw [← unp_at]
  unfold rows8
  generalize unp (F := Ideal) a1 = u
  refine shapeCast_apply _ _ _ _ ?_
  rw [Shape.rowMajor_val_two, Shape.rowMajor_val_three]
  show (16384 * k.val + i.val) * 1024 + n.val = (k.val * 16384 + i.val) * 1024 + n.val
  omega

theorem term_at (u : FVec Ideal S8x16384x1024 .f32) (a2 : FVec Ideal S8x16384 .f32) (k : Fin 8) (i : Fin 8192) (n : Fin 1024) :
    ((mulf (broadcastInDim S8x8192x1024 ![0, 1, 2] bcast_S8x8192x1_S8x8192x1024_0_1_2 (broadcastInDim S8x8192x1 ![0, 1] bcast_S8x8192_S8x8192x1_0_1 (extractStridedSlice S8x8192 ![0, 8192] a2 slices_S8x16384_S8x8192_0_8192))) (extractStridedSlice S8x8192x1024 ![0, 8192, 0] u slices_S8x16384x1024_S8x8192x1024_0_8192_0)) : FVec Ideal S8x8192x1024 .f32) (ix3 k i n) = a2 (ix2 k ⟨8192 + i.val, by omega⟩) * u (ix3 k ⟨8192 + i.val, by omega⟩ n) := by
  pointwise []

theorem drops : (⟨3, ![8, 8192, 1024]⟩ : Shape).Reduces [0] ⟨2, ![8192, 1024]⟩ := by decide

theorem sum_slots (v : FVec Ideal S8x8192x1024 .f32) (x : FVec Ideal S_ .f32) (hx : x (Shape.Idx.first h_S_) = (0 : EReal)) (i : Fin 8192) (n : Fin 1024) :
    @Eq EReal (Host.reduceAdd v x reducesTo_S8x8192x1024_S8192x1024_d0 h_S_ (ix2 i n)) (∑ k : Fin 8, v (ix3 k i n)) := by
  rw [ValueIdx.hostReduceAdd_apply, hx, Idealize.ShloMosaic.Ideal.hostReduceAdd_single _ drops, zero_add]
  refine Finset.sum_congr rfl fun k _ => congrArg v ?_
  funext a
  fin_cases a <;> rfl

theorem routed_at (a1 : IVec S131072x512 32) (a2 : FVec Ideal S8x16384 .f32) (i : Fin 8192) (n : Fin 1024) :
    routed (F := Ideal) a1 a2 (ix2 i n) = ∑ k : Fin 8, a2 (ix2 k ⟨8192 + i.val, by omega⟩) * unpack (fun n => a1 (ix2 ⟨16384 * k.val + (⟨8192 + i.val, by omega⟩ : Fin 16384).val, by omega⟩ n)) n := by
  unfold routed
  have h := rows8_at a1
  generalize rows8 (F := Ideal) a1 = u at h ⊢
  have ht := term_at u a2
  refine (sum_slots _ _ Idealize.ShloMosaic.Ideal.ofBits_zero_f32 i n).trans ?_
  refine Finset.sum_congr rfl fun k _ => ?_
  rw [ht, h]

theorem proj_at (a0 : FVec Ideal S16384x1024 .bf16) (a : FVec Ideal S2x1024x256 .f32) (i : Fin 8192) (f : Fin 256) :
    proj (F := Ideal) a0 a (ix2 i f) = ∑ k : Fin 1024, a0 (ix2 ⟨8192 + i.val, by omega⟩ k) * a (ix3 1 k f) := by
  pointwise [proj]

theorem hid_at (a0 : FVec Ideal S16384x1024 .bf16) (a3 a4 : FVec Ideal S2x1024x256 .f32) (i : Fin 8192) (f : Fin 256) :
    hid (F := Ideal) a0 a3 a4 (ix2 i f) = hidden (fun k => a0 (ix2 ⟨8192 + i.val, by omega⟩ k)) (fun k f => a3 (ix3 1 k f)) (fun k f => a4 (ix3 1 k f)) f := by
  unfold hid
  have h := proj_at a0 a3 i f
  have h' := proj_at a0 a4 i f
  generalize proj (F := Ideal) a0 a3 = p at h ⊢
  generalize proj (F := Ideal) a0 a4 = p' at h' ⊢
  pointwise []
  rw [h, h', ← zero_sub]
  rfl

theorem shared_at (a0 : FVec Ideal S16384x1024 .bf16) (a3 a4 : FVec Ideal S2x1024x256 .f32) (a5 : FVec Ideal S2x256x1024 .f32) (i : Fin 8192) (n : Fin 1024) :
    shared (F := Ideal) a0 a3 a4 a5 (ix2 i n) = glu (fun k => a0 (ix2 ⟨8192 + i.val, by omega⟩ k)) (fun k f => a3 (ix3 1 k f)) (fun k f => a4 (ix3 1 k f)) (fun f n => a5 (ix3 1 f n)) n := by
  unfold shared
  have h := hid_at a0 a3 a4 i
  generalize hid (F := Ideal) a0 a3 a4 = p at h ⊢
  pointwise []
  simp only [h]
  rfl

variable (m : (ℓ : Loc nD τ sig) → Buf (Elt Ideal) ℓ) (c : Dev nD)

theorem res_at (i : Fin 8192) (n : Fin 1024) : res (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (ix2 i n)
      = layer (H m c) (Y m c) (W m c) (SG m c) (SU m c) (SD m c) (X m c) (M m c) ⟨8192 + i.val, by omega⟩ ⟨1 + i.val / 2048, by omega⟩ n := by
  unfold res
  have h := routed_at (m ((c.tc : Thread nD τ).loc main_arg1)) (m ((c.tc : Thread nD τ).loc main_arg2))
  have h' := shared_at (m ((c.tc : Thread nD τ).loc main_arg0)) (m ((c.tc : Thread nD τ).loc main_arg3)) (m ((c.tc : Thread nD τ).loc main_arg4)) (m ((c.tc : Thread nD τ).loc main_arg5))
  generalize routed (F := Ideal) (m ((c.tc : Thread nD τ).loc main_arg1)) (m ((c.tc : Thread nD τ).loc main_arg2)) = p at h ⊢
  generalize shared (F := Ideal) (m ((c.tc : Thread nD τ).loc main_arg0)) (m ((c.tc : Thread nD τ).loc main_arg3)) (m ((c.tc : Thread nD τ).loc main_arg4)) (m ((c.tc : Thread nD τ).loc main_arg5)) = p' at h' ⊢
  pointwise []
  rw [h, h']
  rfl

end Cert.SampleReferenceIdeal.Rows

end
-- ==== Proof.SampleAlg.lean ====
module

public import proofs.«01_k».proof.Proof.SampleFinal
public import proofs.«01_k».proof.Proof.SampleRef
public import proofs.«01_k».proof.Proof.Gen.Pre_gates_bounded

/-! The kernel's and the reference's results of sample are one array. -/

@[expose] public section

set_option maxRecDepth 16384

noncomputable section

namespace Cert.SampleAlg

open Idealize.ShloMosaic Idealize.ShloMosaic.TcCoe Idealize.SL.Sem
open Cert.Rows

/-- The precondition, gate by gate. -/
theorem gates (a0 : FVec Ideal Cert.Pre_gates_bounded.S16384x1024 .bf16) (a1 : IVec Cert.Pre_gates_bounded.S131072x512 32) (a2 : FVec Ideal Cert.Pre_gates_bounded.S8x16384 .f32)
    (a3 a4 : FVec Ideal Cert.Pre_gates_bounded.S2x1024x256 .f32) (a5 : FVec Ideal Cert.Pre_gates_bounded.S2x256x1024 .f32) (a6 : FVec Ideal Cert.Pre_gates_bounded.S16384x1024 .f32) (a7 : FVec Ideal Cert.Pre_gates_bounded.S2x8x1x6144 .f32)
    (h : @Cert.Pre_gates_bounded.fn Cert.Pre_gates_bounded.Gen.facts Ideal _ a0 a1 a2 a3 a4 a5 a6 a7 = fun _ => 1#1) (k : Fin 8) (i : Fin 16384) :
    a2 (ix2 k i) ≠ (⊤ : EReal) := by
  have e := congrFun h (ix2 k i)
  pointwise [Cert.Pre_gates_bounded.fn] at e
  intro ht
  rw [ht, show Ideal.ofBits FTy.f32 2139095040#32 = (⊤ : EReal) by simp [Ideal.ofBits, Ideal.ieee]] at e
  simp at e

variable (m : (ℓ : Loc Cert.SampleIdeal.nD Cert.SampleIdeal.τ Cert.SampleIdeal.sig) → Buf (Elt Ideal) ℓ)
  (m' : (ℓ : Loc Cert.SampleReferenceIdeal.nD Cert.SampleReferenceIdeal.τ Cert.SampleReferenceIdeal.sig) → Buf (Elt Ideal) ℓ) (c : Dev Cert.SampleIdeal.nD)

open Cert.SampleIdeal.Rows in
theorem kernel_at (hW : ∀ k i, W m c k i ≠ (⊤ : EReal)) (i : Fin 8192) (n : Fin 1024) :
    (Cert.SampleIdeal.Gen.dats m 0 c).arrAt 16 Cert.SampleIdeal.cfg0.N (ix2 i n) = layer (H m c) (Y m c) (W m c) (SG m c) (SU m c) (SD m c) (X m c) (M m c) ⟨8192 + i.val, by omega⟩ ⟨1 + i.val / 2048, by omega⟩ n := by
  let t : Fin Cert.SampleIdeal.cfg0.N := ⟨i.val / 512, by show i.val / 512 < 16; omega⟩
  let r : Fin 512 := ⟨i.val % 512, by omega⟩
  have ei : i = rowO t r := Fin.ext (by show i.val = 512 * (i.val / 512) + i.val % 512; omega)
  have er : row t r = ⟨8192 + i.val, by omega⟩ := Fin.ext (by show 8192 + 512 * (i.val / 512) + i.val % 512 = 8192 + i.val; omega)
  have es : seqM t = ⟨1 + i.val / 2048, by omega⟩ := Fin.ext (by show 1 + (i.val / 512) / 4 = 1 + i.val / 2048; omega)
  have := arr_at m c t hW r n
  rw [er, es, ← ei] at this
  exact this

theorem eq (hW : ∀ k i, Cert.SampleIdeal.Rows.W m c k i ≠ (⊤ : EReal))
    (h0 : m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)) (h1 : m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)) (h2 : m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)) (h3 : m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) (h4 : m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) (h5 : m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)) (h6 : m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)) (h7 : m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)) :
    (Cert.SampleReferenceIdeal.Rows.res (F := Ideal) (m' ((c.tc : Thread Cert.SampleReferenceIdeal.nD Cert.SampleReferenceIdeal.τ).loc Cert.SampleReferenceIdeal.main_arg0)) (m' ((c.tc : Thread Cert.SampleReferenceIdeal.nD Cert.SampleReferenceIdeal.τ).loc Cert.SampleReferenceIdeal.main_arg1)) (m' ((c.tc : Thread Cert.SampleReferenceIdeal.nD Cert.SampleReferenceIdeal.τ).loc Cert.SampleReferenceIdeal.main_arg2)) (m' ((c.tc : Thread Cert.SampleReferenceIdeal.nD Cert.SampleReferenceIdeal.τ).loc Cert.SampleReferenceIdeal.main_arg3)) (m' ((c.tc : Thread Cert.SampleReferenceIdeal.nD Cert.SampleReferenceIdeal.τ).loc Cert.SampleReferenceIdeal.main_arg4)) (m' ((c.tc : Thread Cert.SampleReferenceIdeal.nD Cert.SampleReferenceIdeal.τ).loc Cert.SampleReferenceIdeal.main_arg5)) (m' ((c.tc : Thread Cert.SampleReferenceIdeal.nD Cert.SampleReferenceIdeal.τ).loc Cert.SampleReferenceIdeal.main_arg6)) (m' ((c.tc : Thread Cert.SampleReferenceIdeal.nD Cert.SampleReferenceIdeal.τ).loc Cert.SampleReferenceIdeal.main_arg7)) : (⟨2, ![8192, 1024]⟩ : Shape).Idx → EReal)
      = (Cert.SampleIdeal.Gen.dats m 0 c).arrAt 16 Cert.SampleIdeal.cfg0.N := by
  funext x
  obtain ⟨i, n, rfl⟩ : ∃ i n, x = ix2 i n := ⟨x 0, x 1, eq_ix2 x⟩
  refine (Cert.SampleReferenceIdeal.Rows.res_at m' c i n).trans (Eq.trans ?_ (kernel_at m c hW i n).symm)
  unfold Cert.SampleReferenceIdeal.Rows.H Cert.SampleReferenceIdeal.Rows.Y Cert.SampleReferenceIdeal.Rows.W Cert.SampleReferenceIdeal.Rows.SG Cert.SampleReferenceIdeal.Rows.SU Cert.SampleReferenceIdeal.Rows.SD Cert.SampleReferenceIdeal.Rows.X Cert.SampleReferenceIdeal.Rows.M
  rw [h0, h1, h2, h3, h4, h5, h6, h7]
  rfl

end Cert.SampleAlg

end
-- ==== Proof.FirstCombineFinal.lean ====
module

public import proofs.«01_k».proof.Proof.PromptOut
public import proofs.«01_k».proof.Proof.Gen.FirstCombineIdeal.Value

/-! The result array of the first layer's combine at an index. -/

@[expose] public section

set_option maxRecDepth 16384

noncomputable section

namespace Cert.FirstCombineIdeal.Rows

open Cert.FirstCombineIdeal Cert.FirstCombineIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

variable (m : (ℓ : Loc nD τ sig) → Buf (Elt Ideal) ℓ)

theorem idx_in : ∀ t : Fin cfg0.N, win0_0.index t = ![t.val, 0] ∧ win0_1.index t = ![t.val, 0] ∧ win0_2.index t = ![32 + t.val, 0] ∧ win0_3.index t = ![64 + t.val, 0] ∧ win0_4.index t = ![96 + t.val, 0] ∧ win0_5.index t = ![128 + t.val, 0] ∧ win0_6.index t = ![160 + t.val, 0] ∧ win0_7.index t = ![192 + t.val, 0] ∧ win0_8.index t = ![224 + t.val, 0]
   ∧ win0_9.index t = ![0, t.val] ∧ win0_10.index t = ![0, 0] ∧ win0_11.index t = ![0, 0] ∧ win0_12.index t = ![0, 0]
   ∧ win0_13.index t = ![0, 0] ∧ win0_14.index t = ![t.val, 0] ∧ win0_15.index t = ![0, if t.val < 16 then 0 else 1 + (t.val - 16) / 4, 0, 5] :=
  (by decide +kernel : ∀ t : Fin grid0.N, _)
theorem idx_out : ∀ t : Fin cfg0.N, win0_16.index t = ![t.val, 0] :=
  (by decide +kernel : ∀ t : Fin grid0.N, _)
theorem lt32 (t : Fin cfg0.N) : t.val < 32 := t.isLt
/-- The row of the arrays a grid point's row is. -/
def row (t : Fin cfg0.N) (r : Fin 512) : Fin 16384 := ⟨512 * t.val + r.val, by have := lt32 t; omega⟩
/-- The row of the modulation a grid point takes. -/
def seqM (t : Fin cfg0.N) : Fin 8 := ⟨if t.val < 16 then 0 else 1 + (t.val - 16) / 4, by have := lt32 t; split <;> omega⟩

section
variable (c : Dev nD) (t : Fin cfg0.N)

theorem iblk0_at (r : Fin 512) (n : Fin 1024) : iblk m c 0 t (ix2 r n) = H m c (row t r) n := by
  blk_ext [iblk, V, idx_in t, row, H]
theorem iblk1_at (r : Fin 512) (n : Fin 512) : iblk m c 1 t (ix2 r n) = Y m c ⟨16384 * 0 + (row t r).val, by omega⟩ n := by
  blk_ext [iblk, V, idx_in t, row, Y]
theorem iblk2_at (r : Fin 512) (n : Fin 512) : iblk m c 2 t (ix2 r n) = Y m c ⟨16384 * 1 + (row t r).val, by omega⟩ n := by
  blk_ext [iblk, V, idx_in t, row, Y]
theorem iblk3_at (r : Fin 512) (n : Fin 512) : iblk m c 3 t (ix2 r n) = Y m c ⟨16384 * 2 + (row t r).val, by omega⟩ n := by
  blk_ext [iblk, V, idx_in t, row, Y]
theorem iblk4_at (r : Fin 512) (n : Fin 512) : iblk m c 4 t (ix2 r n) = Y m c ⟨16384 * 3 + (row t r).val, by omega⟩ n := by
  blk_ext [iblk, V, idx_in t, row, Y]
theorem iblk5_at (r : Fin 512) (n : Fin 512) : iblk m c 5 t (ix2 r n) = Y m c ⟨16384 * 4 + (row t r).val, by omega⟩ n := by
  blk_ext [iblk, V, idx_in t, row, Y]
theorem iblk6_at (r : Fin 512) (n : Fin 512) : iblk m c 6 t (ix2 r n) = Y m c ⟨16384 * 5 + (row t r).val, by omega⟩ n := by
  blk_ext [iblk, V, idx_in t, row, Y]
theorem iblk7_at (r : Fin 512) (n : Fin 512) : iblk m c 7 t (ix2 r n) = Y m c ⟨16384 * 6 + (row t r).val, by omega⟩ n := by
  blk_ext [iblk, V, idx_in t, row, Y]
theorem iblk8_at (r : Fin 512) (n : Fin 512) : iblk m c 8 t (ix2 r n) = Y m c ⟨16384 * 7 + (row t r).val, by omega⟩ n := by
  blk_ext [iblk, V, idx_in t, row, Y]
theorem iblk9_at (k : Fin 8) (r : Fin 512) : iblk m c 9 t (ix2 k r) = W m c k (row t r) := by
  blk_ext [iblk, V, idx_in t, row, W]
theorem iblk10_at (j k : Fin 8) : @Eq EReal (iblk m c 10 t (ix2 j k)) (if j = k then (1 : EReal) else 0) := by
  have : iblk m c 10 t (ix2 j k) = V m c main_v14 (ix2 j k) := by
    blk_ext [iblk, V, idx_in t]
  rw [this]
  entry_read
  pointwise
  have key : ∀ j k : Fin 8, IntOp.cmpi CmpIPredicate.eq (IntOp.addi (BitVec.ofNat 32 j.val) 0#32) (BitVec.ofNat 32 k.val) = if j = k then 1#1 else 0#1 := by
    decide
  rw [key]
  split
  · show (((1#1).toNat : ℝ) : EReal) = 1
    norm_num
  · show (((0#1).toNat : ℝ) : EReal) = 0
    norm_num
theorem iblk11_at (k : Fin 1024) (f : Fin 256) : iblk m c 11 t (ix2 k f) = SG m c 0 k f := by
  have : iblk m c 11 t (ix2 k f) = V m c main_v2 (ix2 k f) := by
    blk_ext [iblk, V, idx_in t]
  rw [this]
  entry_read
  pointwise [SG]
theorem iblk12_at (k : Fin 1024) (f : Fin 256) : iblk m c 12 t (ix2 k f) = SU m c 0 k f := by
  have : iblk m c 12 t (ix2 k f) = V m c main_v5 (ix2 k f) := by
    blk_ext [iblk, V, idx_in t]
  rw [this]
  entry_read
  pointwise [SU]
theorem iblk13_at (f : Fin 256) (n : Fin 1024) : iblk m c 13 t (ix2 f n) = SD m c 0 f n := by
  have : iblk m c 13 t (ix2 f n) = V m c main_v8 (ix2 f n) := by
    blk_ext [iblk, V, idx_in t]
  rw [this]
  entry_read
  pointwise [SD]
theorem iblk14_at (r : Fin 512) (n : Fin 1024) : iblk m c 14 t (ix2 r n) = X m c (row t r) n := by
  blk_ext [iblk, V, idx_in t, row, X]
theorem iblk15_at (n : Fin 1024) : iblk m c 15 t (ix4 0 0 0 n) = M m c 0 (seqM t) ⟨5120 + n.val, by omega⟩ := by
  blk_ext [iblk, V, idx_in t, seqM, M]

theorem arr_at (hW : ∀ k i, W m c k i ≠ (⊤ : EReal)) (r : Fin 512) (n : Fin 1024) :
    (dats m 0 c).arrAt 16 cfg0.N (ix2 (row t r) n) = layer0 (H m c) (Y m c) (W m c) (SG m c) (SU m c) (SD m c) (X m c) (M m c) (row t r) (seqM t) n := by
  have e := congrFun (Value.blocks16 m c t (flush0_16 t)) (ix2 r n)
  rw [Value.flushed16] at e
  have e2 : @out0_16 Ideal _ = @Cert.PromptIdeal.Gen.out0_16 Ideal _ := rfl
  rw [e2] at e
  refine (Eq.trans ?_ e).trans ?_
  · blk_ext [idx_out t, row]
  refine (Cert.PromptIdeal.Rows.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk10_at m c t) r n (fun k => by rw [iblk9_at m c t k r]; exact hW k (row t r))).trans ?_
  unfold layer0
  simp only [iblk0_at, iblk9_at, iblk11_at, iblk12_at, iblk13_at, iblk14_at, iblk15_at]
  have hy : (fun k n => (![iblk m c 1 t, iblk m c 2 t, iblk m c 3 t, iblk m c 4 t, iblk m c 5 t, iblk m c 6 t, iblk m c 7 t, iblk m c 8 t] k) (ix2 r n)) = fun k : Fin 8 => Y m c ⟨16384 * k.val + (row t r).val, by omega⟩ := by
    funext k n
    fin_cases k
    · exact iblk1_at m c t r n
    · exact iblk2_at m c t r n
    · exact iblk3_at m c t r n
    · exact iblk4_at m c t r n
    · exact iblk5_at m c t r n
    · exact iblk6_at m c t r n
    · exact iblk7_at m c t r n
    · exact iblk8_at m c t r n
  exact congrArg (fun y => rowS (H m c (row t r)) (SG m c 0) (SU m c 0) (SD m c 0) (fun k => W m c k (row t r)) y (X m c (row t r) n)
    (M m c 0 (seqM t) ⟨5120 + n.val, by omega⟩) n) hy
end

end Cert.FirstCombineIdeal.Rows

end
-- ==== Proof.FirstCombineRef.lean ====
module

public import proofs.«01_k».proof.Proof.RowsSpec
public import proofs.«01_k».proof.Proof.Gen.FirstCombineReferenceIdeal.Run
public import Idealize.ShloMosaic.Lib.Pointwise

/-! The reference's result of the first layer's combine at an index. -/

@[expose] public section

set_option maxRecDepth 16384

noncomputable section

namespace Cert.FirstCombineReferenceIdeal.Rows

open Cert.FirstCombineReferenceIdeal Cert.FirstCombineReferenceIdeal.Gen Idealize.ShloMosaic Idealize.ShloMosaic.TcCoe Idealize.SL.Sem
open Cert.Rows

section
variable (m : (ℓ : Loc nD τ sig) → Buf (Elt Ideal) ℓ) (c : Dev nD)
/-- Argument 0 by rows. -/
def H : Fin 16384 → Fin 1024 → EReal := fun i n => m ((c.tc : Thread nD τ).loc main_arg0) (ix2 i n)
/-- Argument 1 by rows. -/
def Y : Fin 131072 → Fin 512 → BitVec 32 := fun i n => m ((c.tc : Thread nD τ).loc main_arg1) (ix2 i n)
/-- Argument 2 by rows. -/
def W : Fin 8 → Fin 16384 → EReal := fun i n => m ((c.tc : Thread nD τ).loc main_arg2) (ix2 i n)
/-- Argument 3 by rows. -/
def SG : Fin 2 → Fin 1024 → Fin 256 → EReal := fun l i n => m ((c.tc : Thread nD τ).loc main_arg3) (ix3 l i n)
/-- Argument 4 by rows. -/
def SU : Fin 2 → Fin 1024 → Fin 256 → EReal := fun l i n => m ((c.tc : Thread nD τ).loc main_arg4) (ix3 l i n)
/-- Argument 5 by rows. -/
def SD : Fin 2 → Fin 256 → Fin 1024 → EReal := fun l i n => m ((c.tc : Thread nD τ).loc main_arg5) (ix3 l i n)
/-- Argument 6 by rows. -/
def X : Fin 16384 → Fin 1024 → EReal := fun i n => m ((c.tc : Thread nD τ).loc main_arg6) (ix2 i n)
/-- Argument 7 by rows. -/
def M : Fin 2 → Fin 8 → Fin 6144 → EReal := fun l i n => m ((c.tc : Thread nD τ).loc main_arg7) (ix4 l i 0 n)
end

section
variable {F : FTy → Type} [FloatOps F]
/-- The experts' rows, unpacked. -/
def unp (a1 : IVec S131072x512 32) : FVec F S131072x1024 .f32 := (concatenate S131072x1024 1 [⟨S131072x512, (bitcastToFloat (F := F) .f32 (Host.shli a1 (broadcastInDim S131072x512 ![] bcast_S_S131072x512 (constantI S_ 32 16#32))))⟩, ⟨S131072x512, (bitcastToFloat (F := F) .f32 (andi a1 (broadcastInDim S131072x512 ![] bcast_S_S131072x512 (constantI S_ 32 4294901760#32))))⟩] concatenates_S131072x512_S131072x512_S131072x1024_d1)
/-- The same, slot by slot. -/
def rows8 (a1 : IVec S131072x512 32) : FVec F S8x16384x1024 .f32 := (shapeCast _ (unp a1) shapeCasts_S131072x1024_S8x16384x1024)
/-- The experts' rows of one slot of a row, each times its gate. -/
def terms (a1 : IVec S131072x512 32) (a2 : FVec F S8x16384 .f32) : FVec F S8x16384x1024 .f32 := (mulf (broadcastInDim S8x16384x1024 ![0, 1, 2] bcast_S8x16384x1_S8x16384x1024_0_1_2 (broadcastInDim S8x16384x1 ![0, 1] bcast_S8x16384_S8x16384x1_0_1 a2)) (rows8 a1))
/-- Their sum over the slots, each times its gate. -/
def routed (a1 : IVec S131072x512 32) (a2 : FVec F S8x16384 .f32) : FVec F S16384x1024 .f32 := (Host.reduceAdd (terms a1 a2) (constant S_ .f32 0x00000000#32) reducesTo_S8x16384x1024_S16384x1024_d0 h_S_)
/-- A projection of the rows. -/
def proj (a0 : FVec F S16384x1024 .bf16) (a : FVec F S2x1024x256 .f32) : FVec F S16384x256 .f32 := (Host.dotGeneral dot_S16384x1024_S1024x256_S16384x256_1_0_0_1_n_n none (extf .f32 a0 bitsLt_bf16_f32) (shapeCast _ (extractStridedSlice S1x1024x256 ![0, 0, 0] a slices_S2x1024x256_S1x1024x256_0_0_0) shapeCasts_S1x1024x256_S1024x256))
/-- The shared expert's hidden units. -/
def hid (a0 : FVec F S16384x1024 .bf16) (a3 a4 : FVec F S2x1024x256 .f32) : FVec F S16384x256 .f32 := (mulf (mulf (proj a0 a3) (Host.divf (broadcastInDim S16384x256 ![] bcast_S_S16384x256 (constant S_ .f32 0x3F800000#32)) (addf (broadcastInDim S16384x256 ![] bcast_S_S16384x256 (constant S_ .f32 0x3F800000#32)) (Host.exp (Host.negf (proj a0 a3)))))) (proj a0 a4))
/-- The shared expert. -/
def shared (a0 : FVec F S16384x1024 .bf16) (a3 a4 : FVec F S2x1024x256 .f32) (a5 : FVec F S2x256x1024 .f32) : FVec F S16384x1024 .f32 :=
  (Host.dotGeneral dot_S16384x256_S256x1024_S16384x1024_1_0_0_1_n_n none (hid a0 a3 a4) (shapeCast _ (extractStridedSlice S1x256x1024 ![0, 0, 0] a5 slices_S2x256x1024_S1x256x1024_0_0_0) shapeCasts_S1x256x1024_S256x1024))
/-- The routed and the shared experts. -/
def moe (a0 : FVec F S16384x1024 .bf16) (a1 : IVec S131072x512 32) (a2 : FVec F S8x16384 .f32) (a3 a4 : FVec F S2x1024x256 .f32)
    (a5 : FVec F S2x256x1024 .f32) : FVec F S16384x1024 .f32 := addf (routed a1 a2) (shared a0 a3 a4 a5)
/-- The prompt's rows of the result. -/
def top (u a6 : FVec F S16384x1024 .f32) (a7 : FVec F S2x8x1x6144 .f32) : FVec F S8192x1024 .f32 :=
  (addf (extractStridedSlice S8192x1024 ![0, 0] a6 slices_S16384x1024_S8192x1024_0_0) (mulf (broadcastInDim S8192x1024 ![0, 1] bcast_S1x1024_S8192x1024_0_1 (shapeCast _ (extractStridedSlice S1x1x1x1024 ![0, 0, 0, 5120] a7 slices_S2x8x1x6144_S1x1x1x1024_0_0_0_5120) shapeCasts_S1x1x1x1024_S1x1024)) (extractStridedSlice S8192x1024 ![0, 0] u slices_S16384x1024_S8192x1024_0_0)))
/-- The sample's rows of the result. -/
def bottom (u a6 : FVec F S16384x1024 .f32) (a7 : FVec F S2x8x1x6144 .f32) : FVec F S8192x1024 .f32 :=
  (shapeCast _ (addf (shapeCast _ (extractStridedSlice S8192x1024 ![8192, 0] a6 slices_S16384x1024_S8192x1024_8192_0) shapeCasts_S8192x1024_S4x2048x1024) (mulf (broadcastInDim S4x2048x1024 ![0, 1, 2] bcast_S4x1x1024_S4x2048x1024_0_1_2 (shapeCast _ (extractStridedSlice S1x4x1x1024 ![0, 1, 0, 5120] a7 slices_S2x8x1x6144_S1x4x1x1024_0_1_0_5120) shapeCasts_S1x4x1x1024_S4x1x1024)) (shapeCast _ (extractStridedSlice S8192x1024 ![8192, 0] u slices_S16384x1024_S8192x1024_8192_0) shapeCasts_S8192x1024_S4x2048x1024))) shapeCasts_S4x2048x1024_S8192x1024)
/-- The result array. -/
def res (a0 : FVec F S16384x1024 .bf16) (a1 : IVec S131072x512 32) (a2 : FVec F S8x16384 .f32)
    (a3 a4 : FVec F S2x1024x256 .f32) (a5 : FVec F S2x256x1024 .f32) (a6 : FVec F S16384x1024 .f32) (a7 : FVec F S2x8x1x6144 .f32) :
    FVec F S16384x1024 .f32 :=
  concatenate S16384x1024 0 [⟨S8192x1024, top (moe a0 a1 a2 a3 a4 a5) a6 a7⟩, ⟨S8192x1024, bottom (moe a0 a1 a2 a3 a4 a5) a6 a7⟩] concatenates_S8192x1024_S8192x1024_S16384x1024_d0
end

theorem unp_at (a1 : IVec S131072x512 32) (i : Fin 131072) (n : Fin 1024) : unp (F := Ideal) a1 (ix2 i n) = unpack (fun n => a1 (ix2 i n)) n := by
  pointwise [unp]
  unfold unpack
  rfl

theorem rows8_at (a1 : IVec S131072x512 32) (k : Fin 8) (i : Fin 16384) (n : Fin 1024) :
    rows8 (F := Ideal) a1 (ix3 k i n) = unpack (fun n => a1 (ix2 ⟨16384 * k.val + i.val, by omega⟩ n)) n := by
  rw [← unp_at]
  unfold rows8
  generalize unp (F := Ideal) a1 = u
  refine shapeCast_apply _ _ _ _ ?_
  rw [Shape.rowMajor_val_two, Shape.rowMajor_val_three]
  show (16384 * k.val + i.val) * 1024 + n.val = (k.val * 16384 + i.val) * 1024 + n.val
  omega

theorem terms_at (a1 : IVec S131072x512 32) (a2 : FVec Ideal S8x16384 .f32) (k : Fin 8) (i : Fin 16384) (n : Fin 1024) :
    terms (F := Ideal) a1 a2 (ix3 k i n) = a2 (ix2 k i) * unpack (fun n => a1 (ix2 ⟨16384 * k.val + i.val, by omega⟩ n)) n := by
  have h := rows8_at a1 k i n
  unfold terms
  generalize rows8 (F := Ideal) a1 = u at h ⊢
  pointwise []
  rw [h]

theorem drops : (⟨3, ![8, 16384, 1024]⟩ : Shape).Reduces [0] ⟨2, ![16384, 1024]⟩ := by decide

theorem sum_slots (v : FVec Ideal S8x16384x1024 .f32) (x : FVec Ideal S_ .f32) (hx : x (Shape.Idx.first h_S_) = (0 : EReal)) (i : Fin 16384) (n : Fin 1024) :
    @Eq EReal (Host.reduceAdd v x reducesTo_S8x16384x1024_S16384x1024_d0 h_S_ (ix2 i n)) (∑ k : Fin 8, v (ix3 k i n)) := by
  rw [ValueIdx.hostReduceAdd_apply, hx, Idealize.ShloMosaic.Ideal.hostReduceAdd_single _ drops, zero_add]
  refine Finset.sum_congr rfl fun k _ => congrArg v ?_
  funext a
  fin_cases a <;> rfl

theorem routed_at (a1 : IVec S131072x512 32) (a2 : FVec Ideal S8x16384 .f32) (i : Fin 16384) (n : Fin 1024) :
    routed (F := Ideal) a1 a2 (ix2 i n) = ∑ k : Fin 8, a2 (ix2 k i) * unpack (fun n => a1 (ix2 ⟨16384 * k.val + i.val, by omega⟩ n)) n := by
  have ht := terms_at a1 a2
  unfold routed
  generalize terms (F := Ideal) a1 a2 = u at ht ⊢
  refine (sum_slots _ _ Idealize.ShloMosaic.Ideal.ofBits_zero_f32 i n).trans ?_
  exact Finset.sum_congr rfl fun k _ => ht k i n

theorem proj_at (a0 : FVec Ideal S16384x1024 .bf16) (a : FVec Ideal S2x1024x256 .f32) (i : Fin 16384) (f : Fin 256) :
    proj (F := Ideal) a0 a (ix2 i f) = ∑ k : Fin 1024, a0 (ix2 i k) * a (ix3 0 k f) := by
  pointwise [proj]

theorem hid_at (a0 : FVec Ideal S16384x1024 .bf16) (a3 a4 : FVec Ideal S2x1024x256 .f32) (i : Fin 16384) (f : Fin 256) :
    hid (F := Ideal) a0 a3 a4 (ix2 i f) = hidden (fun k => a0 (ix2 i k)) (fun k f => a3 (ix3 0 k f)) (fun k f => a4 (ix3 0 k f)) f := by
  unfold hid
  have h := proj_at a0 a3 i f
  have h' := proj_at a0 a4 i f
  generalize proj (F := Ideal) a0 a3 = p at h ⊢
  generalize proj (F := Ideal) a0 a4 = p' at h' ⊢
  pointwise []
  rw [h, h', ← zero_sub]
  rfl

theorem shared_at (a0 : FVec Ideal S16384x1024 .bf16) (a3 a4 : FVec Ideal S2x1024x256 .f32) (a5 : FVec Ideal S2x256x1024 .f32) (i : Fin 16384) (n : Fin 1024) :
    shared (F := Ideal) a0 a3 a4 a5 (ix2 i n) = glu (fun k => a0 (ix2 i k)) (fun k f => a3 (ix3 0 k f)) (fun k f => a4 (ix3 0 k f)) (fun f n => a5 (ix3 0 f n)) n := by
  unfold shared
  have h := hid_at a0 a3 a4 i
  generalize hid (F := Ideal) a0 a3 a4 = p at h ⊢
  pointwise []
  simp only [h]
  rfl

theorem moe_at (a0 : FVec Ideal S16384x1024 .bf16) (a1 : IVec S131072x512 32) (a2 : FVec Ideal S8x16384 .f32) (a3 a4 : FVec Ideal S2x1024x256 .f32)
    (a5 : FVec Ideal S2x256x1024 .f32) (i : Fin 16384) (n : Fin 1024) :
    moe (F := Ideal) a0 a1 a2 a3 a4 a5 (ix2 i n) = (∑ k : Fin 8, a2 (ix2 k i) * unpack (fun n => a1 (ix2 ⟨16384 * k.val + i.val, by omega⟩ n)) n)
      + glu (fun k => a0 (ix2 i k)) (fun k f => a3 (ix3 0 k f)) (fun k f => a4 (ix3 0 k f)) (fun f n => a5 (ix3 0 f n)) n := by
  have h := routed_at a1 a2 i n
  have h' := shared_at a0 a3 a4 a5 i n
  unfold moe
  generalize routed (F := Ideal) a1 a2 = p at h ⊢
  generalize shared (F := Ideal) a0 a3 a4 a5 = p' at h' ⊢
  pointwise []
  rw [h, h']

theorem top_at (u a6 : FVec Ideal S16384x1024 .f32) (a7 : FVec Ideal S2x8x1x6144 .f32) (i : Fin 8192) (n : Fin 1024) :
    top (F := Ideal) u a6 a7 (ix2 i n) = a6 (ix2 ⟨i.val, by omega⟩ n) + a7 (ix4 0 0 0 ⟨5120 + n.val, by omega⟩) * u (ix2 ⟨i.val, by omega⟩ n) := by
  pointwise [top]

theorem bottom_at (u a6 : FVec Ideal S16384x1024 .f32) (a7 : FVec Ideal S2x8x1x6144 .f32) (i : Fin 8192) (n : Fin 1024) :
    bottom (F := Ideal) u a6 a7 (ix2 i n) = a6 (ix2 ⟨8192 + i.val, by omega⟩ n) + a7 (ix4 0 ⟨1 + i.val / 2048, by omega⟩ 0 ⟨5120 + n.val, by omega⟩) * u (ix2 ⟨8192 + i.val, by omega⟩ n) := by
  pointwise [bottom]

theorem res_split (p q : FVec Ideal S8192x1024 .f32) (i : Fin 16384) (n : Fin 1024) :
    concatenate S16384x1024 0 [⟨S8192x1024, p⟩, ⟨S8192x1024, q⟩] concatenates_S8192x1024_S8192x1024_S16384x1024_d0 (ix2 i n)
      = if h : i.val < 8192 then p (ix2 ⟨i.val, h⟩ n) else q (ix2 ⟨i.val - 8192, by omega⟩ n) := by
  pointwise []

variable (m : (ℓ : Loc nD τ sig) → Buf (Elt Ideal) ℓ) (c : Dev nD)

theorem res_at (i : Fin 16384) (n : Fin 1024) : res (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (ix2 i n)
      = layer0 (H m c) (Y m c) (W m c) (SG m c) (SU m c) (SD m c) (X m c) (M m c) i (seq0 i) n := by
  unfold res
  have h := moe_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i n
  generalize moe (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = u at h ⊢
  refine (res_split _ _ i n).trans ?_
  unfold layer0 rowS
  by_cases hi : i.val < 8192
  · have es : seq0 i = 0 := Fin.ext (if_pos hi)
    rw [dif_pos hi, top_at, es]
    show _ + _ * u (ix2 i n) = _
    rw [h]
    rfl
  · have es : seq0 i = ⟨1 + (i.val - 8192) / 2048, by omega⟩ := Fin.ext (if_neg hi)
    have ei : (⟨8192 + (⟨i.val - 8192, by omega⟩ : Fin 8192).val, by show 8192 + (i.val - 8192) < 16384; omega⟩ : Fin 16384) = i := Fin.ext (by show 8192 + (i.val - 8192) = i.val; omega)
    rw [dif_neg hi, bottom_at, es, ei, h]
    rfl

end Cert.FirstCombineReferenceIdeal.Rows

end
-- ==== Proof.FirstCombineAlg.lean ====
module

public import proofs.«01_k».proof.Proof.FirstCombineFinal
public import proofs.«01_k».proof.Proof.FirstCombineRef

/-! The kernel's and the reference's results of the first layer's combine are one array. -/

@[expose] public section

set_option maxRecDepth 16384

noncomputable section

namespace Cert.FirstCombineAlg

open Idealize.ShloMosaic Idealize.ShloMosaic.TcCoe Idealize.SL.Sem
open Cert.Rows

variable (m : (ℓ : Loc Cert.FirstCombineIdeal.nD Cert.FirstCombineIdeal.τ Cert.FirstCombineIdeal.sig) → Buf (Elt Ideal) ℓ)
  (m' : (ℓ : Loc Cert.FirstCombineReferenceIdeal.nD Cert.FirstCombineReferenceIdeal.τ Cert.FirstCombineReferenceIdeal.sig) → Buf (Elt Ideal) ℓ) (c : Dev Cert.FirstCombineIdeal.nD)

open Cert.FirstCombineIdeal.Rows in
theorem kernel_at (hW : ∀ k i, W m c k i ≠ (⊤ : EReal)) (i : Fin 16384) (n : Fin 1024) :
    (Cert.FirstCombineIdeal.Gen.dats m 0 c).arrAt 16 Cert.FirstCombineIdeal.cfg0.N (ix2 i n) = layer0 (H m c) (Y m c) (W m c) (SG m c) (SU m c) (SD m c) (X m c) (M m c) i (seq0 i) n := by
  let t : Fin Cert.FirstCombineIdeal.cfg0.N := ⟨i.val / 512, by show i.val / 512 < 32; omega⟩
  let r : Fin 512 := ⟨i.val % 512, by omega⟩
  have ei : row t r = i := Fin.ext (by show 512 * (i.val / 512) + i.val % 512 = i.val; omega)
  have es : seqM t = seq0 i := Fin.ext (by
    show (if i.val / 512 < 16 then 0 else 1 + (i.val / 512 - 16) / 4) = if i.val < 8192 then 0 else 1 + (i.val - 8192) / 2048
    split <;> split <;> omega)
  have := arr_at m c t hW r n
  rw [ei, es] at this
  exact this

theorem eq (hW : ∀ k i, Cert.FirstCombineIdeal.Rows.W m c k i ≠ (⊤ : EReal))
    (h0 : m' ((c.tc : Thread Cert.FirstCombineReferenceIdeal.nD Cert.FirstCombineReferenceIdeal.τ).loc Cert.FirstCombineReferenceIdeal.main_arg0) = m ((c.tc : Thread Cert.FirstCombineIdeal.nD Cert.FirstCombineIdeal.τ).loc Cert.FirstCombineIdeal.main_arg0)) (h1 : m' ((c.tc : Thread Cert.FirstCombineReferenceIdeal.nD Cert.FirstCombineReferenceIdeal.τ).loc Cert.FirstCombineReferenceIdeal.main_arg1) = m ((c.tc : Thread Cert.FirstCombineIdeal.nD Cert.FirstCombineIdeal.τ).loc Cert.FirstCombineIdeal.main_arg1)) (h2 : m' ((c.tc : Thread Cert.FirstCombineReferenceIdeal.nD Cert.FirstCombineReferenceIdeal.τ).loc Cert.FirstCombineReferenceIdeal.main_arg2) = m ((c.tc : Thread Cert.FirstCombineIdeal.nD Cert.FirstCombineIdeal.τ).loc Cert.FirstCombineIdeal.main_arg2)) (h3 : m' ((c.tc : Thread Cert.FirstCombineReferenceIdeal.nD Cert.FirstCombineReferenceIdeal.τ).loc Cert.FirstCombineReferenceIdeal.main_arg3) = m ((c.tc : Thread Cert.FirstCombineIdeal.nD Cert.FirstCombineIdeal.τ).loc Cert.FirstCombineIdeal.main_arg3)) (h4 : m' ((c.tc : Thread Cert.FirstCombineReferenceIdeal.nD Cert.FirstCombineReferenceIdeal.τ).loc Cert.FirstCombineReferenceIdeal.main_arg4) = m ((c.tc : Thread Cert.FirstCombineIdeal.nD Cert.FirstCombineIdeal.τ).loc Cert.FirstCombineIdeal.main_arg4)) (h5 : m' ((c.tc : Thread Cert.FirstCombineReferenceIdeal.nD Cert.FirstCombineReferenceIdeal.τ).loc Cert.FirstCombineReferenceIdeal.main_arg5) = m ((c.tc : Thread Cert.FirstCombineIdeal.nD Cert.FirstCombineIdeal.τ).loc Cert.FirstCombineIdeal.main_arg5)) (h6 : m' ((c.tc : Thread Cert.FirstCombineReferenceIdeal.nD Cert.FirstCombineReferenceIdeal.τ).loc Cert.FirstCombineReferenceIdeal.main_arg6) = m ((c.tc : Thread Cert.FirstCombineIdeal.nD Cert.FirstCombineIdeal.τ).loc Cert.FirstCombineIdeal.main_arg6)) (h7 : m' ((c.tc : Thread Cert.FirstCombineReferenceIdeal.nD Cert.FirstCombineReferenceIdeal.τ).loc Cert.FirstCombineReferenceIdeal.main_arg7) = m ((c.tc : Thread Cert.FirstCombineIdeal.nD Cert.FirstCombineIdeal.τ).loc Cert.FirstCombineIdeal.main_arg7)) :
    (Cert.FirstCombineReferenceIdeal.Rows.res (F := Ideal) (m' ((c.tc : Thread Cert.FirstCombineReferenceIdeal.nD Cert.FirstCombineReferenceIdeal.τ).loc Cert.FirstCombineReferenceIdeal.main_arg0)) (m' ((c.tc : Thread Cert.FirstCombineReferenceIdeal.nD Cert.FirstCombineReferenceIdeal.τ).loc Cert.FirstCombineReferenceIdeal.main_arg1)) (m' ((c.tc : Thread Cert.FirstCombineReferenceIdeal.nD Cert.FirstCombineReferenceIdeal.τ).loc Cert.FirstCombineReferenceIdeal.main_arg2)) (m' ((c.tc : Thread Cert.FirstCombineReferenceIdeal.nD Cert.FirstCombineReferenceIdeal.τ).loc Cert.FirstCombineReferenceIdeal.main_arg3)) (m' ((c.tc : Thread Cert.FirstCombineReferenceIdeal.nD Cert.FirstCombineReferenceIdeal.τ).loc Cert.FirstCombineReferenceIdeal.main_arg4)) (m' ((c.tc : Thread Cert.FirstCombineReferenceIdeal.nD Cert.FirstCombineReferenceIdeal.τ).loc Cert.FirstCombineReferenceIdeal.main_arg5)) (m' ((c.tc : Thread Cert.FirstCombineReferenceIdeal.nD Cert.FirstCombineReferenceIdeal.τ).loc Cert.FirstCombineReferenceIdeal.main_arg6)) (m' ((c.tc : Thread Cert.FirstCombineReferenceIdeal.nD Cert.FirstCombineReferenceIdeal.τ).loc Cert.FirstCombineReferenceIdeal.main_arg7)) : (⟨2, ![16384, 1024]⟩ : Shape).Idx → EReal)
      = (Cert.FirstCombineIdeal.Gen.dats m 0 c).arrAt 16 Cert.FirstCombineIdeal.cfg0.N := by
  funext x
  obtain ⟨i, n, rfl⟩ : ∃ i n, x = ix2 i n := ⟨x 0, x 1, eq_ix2 x⟩
  refine (Cert.FirstCombineReferenceIdeal.Rows.res_at m' c i n).trans (Eq.trans ?_ (kernel_at m c hW i n).symm)
  unfold Cert.FirstCombineReferenceIdeal.Rows.H Cert.FirstCombineReferenceIdeal.Rows.Y Cert.FirstCombineReferenceIdeal.Rows.W Cert.FirstCombineReferenceIdeal.Rows.SG Cert.FirstCombineReferenceIdeal.Rows.SU Cert.FirstCombineReferenceIdeal.Rows.SD Cert.FirstCombineReferenceIdeal.Rows.X Cert.FirstCombineReferenceIdeal.Rows.M
  rw [h0, h1, h2, h3, h4, h5, h6, h7]
  rfl

end Cert.FirstCombineAlg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.HgrnAlg
public import proofs.«01_k».proof.Proof.ExpertsEq
public import proofs.«01_k».proof.Proof.FirstEq
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.FirstExperts
public import proofs.«01_k».proof.Proof.Gen.FirstExperts.Skeleton
public import proofs.«01_k».proof.Proof.Gen.FirstExperts.Launch
public import proofs.«01_k».proof.Proof.Gen.FirstExpertsIdeal
public import proofs.«01_k».proof.Proof.Gen.FirstExpertsIdeal.Skeleton
public import proofs.«01_k».proof.Proof.Gen.FirstExpertsIdeal.Launch
public import proofs.«01_k».proof.Proof.Gen.FirstExpertsReferenceIdeal
public import proofs.«01_k».proof.Proof.Gen.FirstExpertsReferenceIdeal.Run
public import proofs.«01_k».proof.Proof.Gen.Pre_tiles_in_range
public import proofs.«01_k».proof.Proof.Gen.On_tiles_used
public import proofs.«01_k».proof.Proof.AttentionAlg
public import proofs.«01_k».proof.Proof.PromptAlg
public import proofs.«01_k».proof.Proof.SampleAlg
public import proofs.«01_k».proof.Proof.FirstCombineAlg
public import proofs.«01_k».proof.Proof.Gen.FirstCombine
public import proofs.«01_k».proof.Proof.Gen.FirstCombineIdeal
public import proofs.«01_k».proof.Proof.Gen.FirstCombine.Frame
public import proofs.«01_k».proof.Proof.Gen.FirstCombineIdeal.Frame
public import proofs.«01_k».proof.Proof.Gen.FirstCombineIdeal.Value
public import proofs.«01_k».proof.Proof.Gen.FirstCombineReferenceIdeal
public import proofs.«01_k».proof.Proof.Gen.FirstCombineReferenceIdeal.Run
public import proofs.«01_k».proof.Proof.Gen.Prompt
public import proofs.«01_k».proof.Proof.Gen.PromptIdeal
public import proofs.«01_k».proof.Proof.Gen.Prompt.Frame
public import proofs.«01_k».proof.Proof.Gen.PromptIdeal.Frame
public import proofs.«01_k».proof.Proof.Gen.PromptIdeal.Value
public import proofs.«01_k».proof.Proof.Gen.PromptReferenceIdeal
public import proofs.«01_k».proof.Proof.Gen.PromptReferenceIdeal.Run
public import proofs.«01_k».proof.Proof.Gen.Sample
public import proofs.«01_k».proof.Proof.Gen.SampleIdeal
public import proofs.«01_k».proof.Proof.Gen.Sample.Frame
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.Pre_keys_finite
public import proofs.«01_k».proof.Proof.Gen.On_keys_values
public import proofs.«01_k».proof.Proof.Gen.Pre_gates_bounded
public import Idealize.ShloMosaic.Adequacy
public import Idealize.ShloMosaic.Init

@[expose] public section

noncomputable section

namespace Cert.Proof

open Idealize.ShloMosaic Idealize.SL.Sem Cert.Kernel

theorem frame_reference : @Cert.quiescent_ReferenceIdeal Cert.ReferenceIdeal.Gen.facts := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem algebraic : @Cert.algebraic_KernelIdeal_ReferenceIdeal Cert.KernelIdeal.Gen.facts Cert.ReferenceIdeal.Gen.facts := by
  intro m ρ m' ρ' _ hag
  have e0 := fun c i j => congrFun (hag c).1 (ix2 i j)
  have e1 := fun c i j => congrFun (hag c).2.1 (ix2 i j)
  have e2 := fun c i j => congrFun (hag c).2.2.1 (ix2 i j)
  have e3 := fun c i j => congrFun (hag c).2.2.2 (ix2 i j)
  refine ⟨_, _, _, _, Cert.KernelIdeal.Value.run_blocks m ρ, (θ_run _ _ _).mono (fun _ h c => ⟨?_, ?_, ?_, ?_, (h c).2.2.2.2⟩)
    (Cert.ReferenceIdeal.Value.run m' ρ')⟩
  · exact (h c).1.trans (Cert.HgrnAlg.eq11 m _ c (funext fun i => funext fun j => e0 c i j) (funext fun i => funext fun j => e1 c i j) (fun i j => e2 c i j))
  · exact (h c).2.1.trans (Cert.HgrnAlg.eq12 m _ c (funext fun i => funext fun j => e0 c i j) (funext fun i => funext fun j => e1 c i j) (fun i j => e3 c i j))
  · exact (h c).2.2.1.trans (Cert.HgrnAlg.eq13 m _ c (funext fun i => funext fun j => e0 c i j) (funext fun i => funext fun j => e1 c i j))
  · exact (h c).2.2.2.1.trans (Cert.HgrnAlg.eq14 m _ c (funext fun i => funext fun j => e0 c i j) (funext fun i => funext fun j => e1 c i j))

theorem frame_Prompt_reference : @Cert.quiescent_PromptReferenceIdeal Cert.PromptReferenceIdeal.Gen.facts := fun m ρ _ =>
  (θ_run Cert.PromptReferenceIdeal.defs _ _).mono (fun r h => ⟨fun c => (h c).2,
      Idealize.ShloMosaic.sem_eq_zero_of_no_sems (by decide) r.2⟩)
    (Cert.PromptReferenceIdeal.Value.run (F := Ideal) m ρ)

theorem algebraic_Prompt : @Cert.algebraic_PromptIdeal_PromptReferenceIdeal_pre_gates_bounded Cert.PromptIdeal.Gen.facts Cert.PromptReferenceIdeal.Gen.facts Cert.Pre_gates_bounded.Gen.facts := by
  intro m ρ m' ρ' hp hag
  refine ⟨_, Cert.PromptIdeal.Value.run_blocks m ρ, (θ_run _ _ _).mono (fun _ h c => ⟨?_, (h c).2⟩)
    (Cert.PromptReferenceIdeal.Value.run m' ρ')⟩
  exact (h c).1.trans (Cert.PromptAlg.eq m m' c (Cert.PromptAlg.gates _ _ _ _ _ _ _ _ (hp c)) (hag c).1 (hag c).2.1 (hag c).2.2.1 (hag c).2.2.2.1 (hag c).2.2.2.2.1 (hag c).2.2.2.2.2.1 (hag c).2.2.2.2.2.2.1 (hag c).2.2.2.2.2.2.2)

theorem frame_Sample_reference : @Cert.quiescent_SampleReferenceIdeal Cert.SampleReferenceIdeal.Gen.facts := fun m ρ _ =>
  (θ_run Cert.SampleReferenceIdeal.defs _ _).mono (fun r h => ⟨fun c => (h c).2,
      Idealize.ShloMosaic.sem_eq_zero_of_no_sems (by decide) r.2⟩)
    (Cert.SampleReferenceIdeal.Value.run (F := Ideal) m ρ)

theorem algebraic_Sample : @Cert.algebraic_SampleIdeal_SampleReferenceIdeal_pre_gates_bounded Cert.SampleIdeal.Gen.facts Cert.SampleReferenceIdeal.Gen.facts Cert.Pre_gates_bounded.Gen.facts := by
  intro m ρ m' ρ' hp hag
  refine ⟨_, Cert.SampleIdeal.Value.run_blocks m ρ, (θ_run _ _ _).mono (fun _ h c => ⟨?_, (h c).2⟩)
    (Cert.SampleReferenceIdeal.Value.run m' ρ')⟩
  exact (h c).1.trans (Cert.SampleAlg.eq m m' c (Cert.SampleAlg.gates _ _ _ _ _ _ _ _ (hp c)) (hag c).1 (hag c).2.1 (hag c).2.2.1 (hag c).2.2.2.1 (hag c).2.2.2.2.1 (hag c).2.2.2.2.2.1 (hag c).2.2.2.2.2.2.1 (hag c).2.2.2.2.2.2.2)

theorem frame_FirstCombine_reference : @Cert.quiescent_FirstCombineReferenceIdeal Cert.FirstCombineReferenceIdeal.Gen.facts := fun m ρ _ =>
  (θ_run Cert.FirstCombineReferenceIdeal.defs _ _).mono (fun r h => ⟨fun c => (h c).2,
      Idealize.ShloMosaic.sem_eq_zero_of_no_sems (by decide) r.2⟩)
    (Cert.FirstCombineReferenceIdeal.Value.run (F := Ideal) m ρ)

theorem algebraic_FirstCombine : @Cert.algebraic_FirstCombineIdeal_FirstCombineReferenceIdeal_pre_gates_bounded Cert.FirstCombineIdeal.Gen.facts Cert.FirstCombineReferenceIdeal.Gen.facts Cert.Pre_gates_bounded.Gen.facts := by
  intro m ρ m' ρ' hp hag
  refine ⟨_, Cert.FirstCombineIdeal.Value.run_blocks m ρ, (θ_run _ _ _).mono (fun _ h c => ⟨?_, (h c).2⟩)
    (Cert.FirstCombineReferenceIdeal.Value.run m' ρ')⟩
  exact (h c).1.trans (Cert.FirstCombineAlg.eq m m' c (Cert.SampleAlg.gates _ _ _ _ _ _ _ _ (hp c)) (hag c).1 (hag c).2.1 (hag c).2.2.1 (hag c).2.2.2.1 (hag c).2.2.2.2.1 (hag c).2.2.2.2.2.1 (hag c).2.2.2.2.2.2.1 (hag c).2.2.2.2.2.2.2)

theorem frame_Experts : @Cert.quiescent_Experts Cert.Experts.Gen.facts Cert.Pre_tiles_in_range.Gen.facts := fun m ρ hp =>
  (θ_run Cert.Experts.defs _ _).mono (fun _ h => ⟨fun c => (h.1 c).2, h.2⟩)
    (Cert.Experts.Tiles.ran m ρ (Cert.Experts.Tiles.ranged _ _ _ _ _ _ (hp 0)))

theorem frame_ExpertsIdeal : @Cert.quiescent_ExpertsIdeal Cert.ExpertsIdeal.Gen.facts Cert.Pre_tiles_in_range.Gen.facts := fun m ρ hp =>
  (θ_run Cert.ExpertsIdeal.defs _ _).mono (fun _ h => ⟨fun c => (h.1 c).2, h.2⟩)
    (Cert.ExpertsIdeal.Tiles.ran m ρ (Cert.Experts.Tiles.ranged _ _ _ _ _ _ (hp 0)))

theorem frame_Experts_reference : @Cert.quiescent_ExpertsReferenceIdeal Cert.ExpertsReferenceIdeal.Gen.facts := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

theorem algebraic_Experts : @Cert.algebraic_ExpertsIdeal_ExpertsReferenceIdeal_on_tiles_used Cert.ExpertsIdeal.Gen.facts Cert.ExpertsReferenceIdeal.Gen.facts Cert.Pre_tiles_in_range.Gen.facts Cert.On_tiles_used.Gen.facts := by
  intro m ρ m' ρ' hp hag
  have R : Cert.Experts.Tiles.InRange (F := Ideal) m := Cert.Experts.Tiles.ranged _ _ _ _ _ _ (hp 0)
  refine ⟨fun c => (Cert.Experts.Tiles.proofData m R 0 c).arrAt 4 (Cert.Experts.Tiles.pipe m R).N,
    (θ_run _ _ _).mono (fun _ h c => ⟨fun i _ => congrFun (h.1 c).1 i, (h.1 c).2⟩) (Cert.ExpertsIdeal.Tiles.ran m ρ R),
    (θ_run _ _ _).mono (fun _ h c => ⟨fun i hi => ?_, (h c).2⟩) (Cert.ExpertsReferenceIdeal.Value.run m' ρ')⟩
  exact (congrFun (h c).1 i).trans (Cert.ExpertsAlg.eq m m' c R (hag c).1 (hag c).2.1 (hag c).2.2.2.1 (hag c).2.2.2.2.1 (hag c).2.2.2.2.2 i hi)

theorem frame_FirstExperts : @Cert.quiescent_FirstExperts Cert.FirstExperts.Gen.facts Cert.Pre_tiles_in_range.Gen.facts := fun m ρ hp =>
  (θ_run Cert.FirstExperts.defs _ _).mono (fun _ h => ⟨fun c => (h.1 c).2, h.2⟩)
    (Cert.FirstExperts.Tiles.ran m ρ (Cert.Experts.Tiles.ranged _ _ _ _ _ _ (hp 0)))

theorem frame_FirstExpertsIdeal : @Cert.quiescent_FirstExpertsIdeal Cert.FirstExpertsIdeal.Gen.facts Cert.Pre_tiles_in_range.Gen.facts := fun m ρ hp =>
  (θ_run Cert.FirstExpertsIdeal.defs _ _).mono (fun _ h => ⟨fun c => (h.1 c).2, h.2⟩)
    (Cert.FirstExpertsIdeal.Tiles.ran m ρ (Cert.Experts.Tiles.ranged _ _ _ _ _ _ (hp 0)))

theorem frame_FirstExperts_reference : @Cert.quiescent_FirstExpertsReferenceIdeal Cert.FirstExpertsReferenceIdeal.Gen.facts := fun m ρ _ =>
  (θ_run Cert.FirstExpertsReferenceIdeal.defs _ _).mono (fun r h => ⟨fun c => (h c).2,
      Idealize.ShloMosaic.sem_eq_zero_of_no_sems (by decide) r.2⟩)
    (Cert.FirstExpertsReferenceIdeal.Value.run (F := Ideal) m ρ)

theorem algebraic_FirstExperts : @Cert.algebraic_FirstExpertsIdeal_FirstExpertsReferenceIdeal_on_tiles_used Cert.FirstExpertsIdeal.Gen.facts Cert.FirstExpertsReferenceIdeal.Gen.facts Cert.Pre_tiles_in_range.Gen.facts Cert.On_tiles_used.Gen.facts := by
  intro m ρ m' ρ' hp hag
  have R : Cert.FirstExperts.Tiles.InRange (F := Ideal) m := Cert.Experts.Tiles.ranged _ _ _ _ _ _ (hp 0)
  refine ⟨fun c => (Cert.FirstExperts.Tiles.proofData m R 0 c).arrAt 4 (Cert.FirstExperts.Tiles.pipe m R).N,
    (θ_run _ _ _).mono (fun _ h c => ⟨fun i _ => congrFun (h.1 c).1 i, (h.1 c).2⟩) (Cert.FirstExpertsIdeal.Tiles.ran m ρ R),
    (θ_run _ _ _).mono (fun _ h c => ⟨fun i hi => ?_, (h c).2⟩) (Cert.FirstExpertsReferenceIdeal.Value.run m' ρ')⟩
  exact (congrFun (h c).1 i).trans (Cert.FirstExpertsAlg.eq m m' c R (hag c).1 (hag c).2.1 (hag c).2.2.2.1 (hag c).2.2.2.2.1 (hag c).2.2.2.2.2 i hi)

theorem frame_Attention_reference : @Cert.quiescent_AttentionReferenceIdeal Cert.AttentionReferenceIdeal.Gen.facts := fun m ρ _ =>
  (θ_run Cert.AttentionReferenceIdeal.defs _ _).mono (fun r h => ⟨fun c => (h c).2.2.2,
      Idealize.ShloMosaic.sem_eq_zero_of_no_sems (by decide) r.2⟩)
    (Cert.AttentionReferenceIdeal.Value.run (F := Ideal) m ρ)

theorem algebraic_Attention : @Cert.algebraic_AttentionIdeal_AttentionReferenceIdeal_on_keys_values_pre_keys_finite Cert.AttentionIdeal.Gen.facts Cert.AttentionReferenceIdeal.Gen.facts Cert.Pre_keys_finite.Gen.facts Cert.On_keys_values.Gen.facts := by
  intro m ρ m' ρ' hp hag
  refine ⟨fun c => (Cert.AttentionIdeal.Gen.dats m 0 c).arrAt 6 Cert.AttentionIdeal.cfg0.N, fun c => (Cert.AttentionIdeal.Gen.dats m 0 c).arrAt 7 Cert.AttentionIdeal.cfg0.N,
    fun c => (Cert.AttentionIdeal.Gen.dats m 0 c).arrAt 8 Cert.AttentionIdeal.cfg0.N,
    (θ_run _ _ _).mono (fun _ h c => ⟨fun i _ => congrFun (h c).1 i, fun i _ => congrFun (h c).2.1 i, fun i _ => congrFun (h c).2.2.1 i, (h c).2.2.2⟩)
      (Cert.AttentionIdeal.Value.run_blocks m ρ),
    (θ_run _ _ _).mono (fun _ h c => ⟨fun i hi => ?_, fun i _ => ?_, fun i _ => ?_, (h c).2.2.2⟩) (Cert.AttentionReferenceIdeal.Value.run m' ρ')⟩
  · exact absurd hi (by show ¬ (0#1 = 1#1); decide)
  · have e := Cert.AttentionAlg.eqKeys m c (Cert.AttentionAlg.finite _ _ _ _ _ (hp c))
    rw [← (hag c).1, ← (hag c).2.2.1] at e
    exact (congrFun (h c).2.1 i).trans (congrFun e i)
  · have e := Cert.AttentionAlg.eqVals m c
    rw [← (hag c).1] at e
    exact (congrFun (h c).2.2.1 i).trans (congrFun e i)

theorem claim : Cert.Claim := ⟨Cert.Kernel.Gen.facts, Cert.KernelIdeal.Gen.facts, Cert.ReferenceIdeal.Gen.facts,
  Cert.Prompt.Gen.facts, Cert.PromptIdeal.Gen.facts, Cert.PromptReferenceIdeal.Gen.facts,
  Cert.Sample.Gen.facts, Cert.SampleIdeal.Gen.facts, Cert.SampleReferenceIdeal.Gen.facts,
  Cert.Experts.Gen.facts, Cert.ExpertsIdeal.Gen.facts, Cert.ExpertsReferenceIdeal.Gen.facts,
  Cert.FirstExperts.Gen.facts, Cert.FirstExpertsIdeal.Gen.facts, Cert.FirstExpertsReferenceIdeal.Gen.facts,
  Cert.Attention.Gen.facts, Cert.AttentionIdeal.Gen.facts, Cert.AttentionReferenceIdeal.Gen.facts,
  Cert.FirstCombine.Gen.facts, Cert.FirstCombineIdeal.Gen.facts, Cert.FirstCombineReferenceIdeal.Gen.facts,
  Cert.Pre_gates_bounded.Gen.facts, Cert.Pre_tiles_in_range.Gen.facts, Cert.Pre_keys_finite.Gen.facts, Cert.On_tiles_used.Gen.facts, Cert.On_keys_values.Gen.facts,
  fun m ρ _ => Cert.Kernel.Gen.frame m ρ, fun m ρ _ => Cert.KernelIdeal.Gen.frame m ρ, frame_reference,
  fun m ρ _ => Cert.Prompt.Gen.frame m ρ, fun m ρ _ => Cert.PromptIdeal.Gen.frame m ρ, fun m ρ _ => Cert.PromptIdeal.Gen.frame m ρ,
  frame_Prompt_reference, fun m ρ _ => frame_Prompt_reference m ρ trivial,
  fun m ρ _ => Cert.Sample.Gen.frame m ρ, fun m ρ _ => Cert.SampleIdeal.Gen.frame m ρ, fun m ρ _ => Cert.SampleIdeal.Gen.frame m ρ,
  frame_Sample_reference, fun m ρ _ => frame_Sample_reference m ρ trivial,
  frame_Experts, frame_ExpertsIdeal, frame_Experts_reference, fun m ρ _ => frame_Experts_reference m ρ trivial,
  frame_FirstExperts, frame_FirstExpertsIdeal, frame_FirstExperts_reference, fun m ρ _ => frame_FirstExperts_reference m ρ trivial,
  fun m ρ _ => Cert.Attention.Gen.frame m ρ, fun m ρ _ => Cert.AttentionIdeal.Gen.frame m ρ, fun m ρ _ => Cert.AttentionIdeal.Gen.frame m ρ,
  frame_Attention_reference, fun m ρ _ => frame_Attention_reference m ρ trivial,
  fun m ρ _ => Cert.FirstCombine.Gen.frame m ρ, fun m ρ _ => Cert.FirstCombineIdeal.Gen.frame m ρ, fun m ρ _ => Cert.FirstCombineIdeal.Gen.frame m ρ,
  frame_FirstCombine_reference, fun m ρ _ => frame_FirstCombine_reference m ρ trivial,
  trivial, algebraic, trivial, algebraic_Prompt, trivial, algebraic_Sample, trivial, algebraic_Experts, trivial, algebraic_FirstExperts,
  ⟨Idealize.ShloMosaic.IdealRules.bf16_pack.statement _, Idealize.ShloMosaic.IdealRules.bf16_pack.statement _⟩, algebraic_Attention, trivial, algebraic_FirstCombine⟩

end Cert.Proof

end
